-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_WgradB (m : (ℓ : Loc Cert.WgradB.nD Cert.WgradB.τ Cert.WgradB.sig) → Buf (Elt Bits) ℓ) : Prop :=
  True

def Pre_WgradBIdeal (m : (ℓ : Loc Cert.WgradBIdeal.nD Cert.WgradBIdeal.τ Cert.WgradBIdeal.sig) → Buf (Elt Ideal) ℓ) : Prop :=
  True

def Pre_WgradBRefIdeal (m : (ℓ : Loc Cert.WgradBRefIdeal.nD Cert.WgradBRefIdeal.τ Cert.WgradBRefIdeal.sig) → Buf (Elt Ideal) ℓ) : Prop :=
  True

def Pre_WgradA (m : (ℓ : Loc Cert.WgradA.nD Cert.WgradA.τ Cert.WgradA.sig) → Buf (Elt Bits) ℓ) : Prop :=
  True

def Pre_WgradAIdeal (m : (ℓ : Loc Cert.WgradAIdeal.nD Cert.WgradAIdeal.τ Cert.WgradAIdeal.sig) → Buf (Elt Ideal) ℓ) : Prop :=
  True

def Pre_WgradARefIdeal (m : (ℓ : Loc Cert.WgradARefIdeal.nD Cert.WgradARefIdeal.τ Cert.WgradARefIdeal.sig) → Buf (Elt Ideal) ℓ) : Prop :=
  True

def Pre_WgradG (m : (ℓ : Loc Cert.WgradG.nD Cert.WgradG.τ Cert.WgradG.sig) → Buf (Elt Bits) ℓ) : Prop :=
  True

def Pre_WgradGIdeal (m : (ℓ : Loc Cert.WgradGIdeal.nD Cert.WgradGIdeal.τ Cert.WgradGIdeal.sig) → Buf (Elt Ideal) ℓ) : Prop :=
  True

def Pre_WgradGRefIdeal (m : (ℓ : Loc Cert.WgradGRefIdeal.nD Cert.WgradGRefIdeal.τ Cert.WgradGRefIdeal.sig) → Buf (Elt Ideal) ℓ) : Prop :=
  True

def Pre_WgradO (m : (ℓ : Loc Cert.WgradO.nD Cert.WgradO.τ Cert.WgradO.sig) → Buf (Elt Bits) ℓ) : Prop :=
  True

def Pre_WgradOIdeal (m : (ℓ : Loc Cert.WgradOIdeal.nD Cert.WgradOIdeal.τ Cert.WgradOIdeal.sig) → Buf (Elt Ideal) ℓ) : Prop :=
  True

def Pre_WgradORefIdeal (m : (ℓ : Loc Cert.WgradORefIdeal.nD Cert.WgradORefIdeal.τ Cert.WgradORefIdeal.sig) → Buf (Elt Ideal) ℓ) : Prop :=
  True

def Pre_HgradB (m : (ℓ : Loc Cert.HgradB.nD Cert.HgradB.τ Cert.HgradB.sig) → Buf (Elt Bits) ℓ) : Prop :=
  True

def Pre_HgradBIdeal (m : (ℓ : Loc Cert.HgradBIdeal.nD Cert.HgradBIdeal.τ Cert.HgradBIdeal.sig) → Buf (Elt Ideal) ℓ) : Prop :=
  True

def Pre_HgradBRefIdeal (m : (ℓ : Loc Cert.HgradBRefIdeal.nD Cert.HgradBRefIdeal.τ Cert.HgradBRefIdeal.sig) → Buf (Elt Ideal) ℓ) : Prop :=
  True

def Pre_HgradA (m : (ℓ : Loc Cert.HgradA.nD Cert.HgradA.τ Cert.HgradA.sig) → Buf (Elt Bits) ℓ) : Prop :=
  True

def Pre_HgradAIdeal (m : (ℓ : Loc Cert.HgradAIdeal.nD Cert.HgradAIdeal.τ Cert.HgradAIdeal.sig) → Buf (Elt Ideal) ℓ) : Prop :=
  True

def Pre_HgradARefIdeal (m : (ℓ : Loc Cert.HgradARefIdeal.nD Cert.HgradARefIdeal.τ Cert.HgradARefIdeal.sig) → Buf (Elt Ideal) ℓ) : Prop :=
  True

def Pre_HgradG (m : (ℓ : Loc Cert.HgradG.nD Cert.HgradG.τ Cert.HgradG.sig) → Buf (Elt Bits) ℓ) : Prop :=
  True

def Pre_HgradGIdeal (m : (ℓ : Loc Cert.HgradGIdeal.nD Cert.HgradGIdeal.τ Cert.HgradGIdeal.sig) → Buf (Elt Ideal) ℓ) : Prop :=
  True

def Pre_HgradGRefIdeal (m : (ℓ : Loc Cert.HgradGRefIdeal.nD Cert.HgradGRefIdeal.τ Cert.HgradGRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_ProjGRefIdeal (m : (ℓ : Loc Cert.ProjGRefIdeal.nD Cert.ProjGRefIdeal.τ Cert.ProjGRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_AdamARefIdeal (m : (ℓ : Loc Cert.AdamARefIdeal.nD Cert.AdamARefIdeal.τ Cert.AdamARefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_WgradB [hWgradB : Cert.WgradB.Facts] : Prop :=
  ∀ (m : (ℓ : Loc Cert.WgradB.nD Cert.WgradB.τ Cert.WgradB.sig) → Buf (Elt Bits) ℓ) (g : Dev Cert.WgradB.nD → PrngReg), Pre_WgradB m →
    θ_run (Cert.WgradB.defs (F := Bits)) (onTc (τ := Cert.WgradB.τ) (Cert.WgradB.main (F := Bits))) ⟨m, fun _ => 0, g⟩ (fun r => (∀ c : Dev Cert.WgradB.nD,
      r.2.mem ((c.tc : Thread Cert.WgradB.nD Cert.WgradB.τ).loc Cert.WgradB.main_arg0) = m ((c.tc : Thread Cert.WgradB.nD Cert.WgradB.τ).loc Cert.WgradB.main_arg0)
      ∧ r.2.mem ((c.tc : Thread Cert.WgradB.nD Cert.WgradB.τ).loc Cert.WgradB.main_arg1) = m ((c.tc : Thread Cert.WgradB.nD Cert.WgradB.τ).loc Cert.WgradB.main_arg1))
      ∧ r.2.sem = fun _ => 0)

def quiescent_WgradBIdeal [hWgradBIdeal : Cert.WgradBIdeal.Facts] : Prop :=
  ∀ (m : (ℓ : Loc Cert.WgradBIdeal.nD Cert.WgradBIdeal.τ Cert.WgradBIdeal.sig) → Buf (Elt Ideal) ℓ) (g : Dev Cert.WgradBIdeal.nD → PrngReg), Pre_WgradBIdeal m →
    θ_run (Cert.WgradBIdeal.defs (F := Ideal)) (onTc (τ := Cert.WgradBIdeal.τ) (Cert.WgradBIdeal.main (F := Ideal))) ⟨m, fun _ => 0, g⟩ (fun r => (∀ c : Dev Cert.WgradBIdeal.nD,
      r.2.mem ((c.tc : Thread Cert.WgradBIdeal.nD Cert.WgradBIdeal.τ).loc Cert.WgradBIdeal.main_arg0) = m ((c.tc : Thread Cert.WgradBIdeal.nD Cert.WgradBIdeal.τ).loc Cert.WgradBIdeal.main_arg0)
      ∧ r.2.mem ((c.tc : Thread Cert.WgradBIdeal.nD Cert.WgradBIdeal.τ).loc Cert.WgradBIdeal.main_arg1) = m ((c.tc : Thread Cert.WgradBIdeal.nD Cert.WgradBIdeal.τ).loc Cert.WgradBIdeal.main_arg1))
      ∧ r.2.sem = fun _ => 0)

def quiescent_WgradBRefIdeal [hWgradBRefIdeal : Cert.WgradBRefIdeal.Facts] : Prop :=
  ∀ (m : (ℓ : Loc Cert.WgradBRefIdeal.nD Cert.WgradBRefIdeal.τ Cert.WgradBRefIdeal.sig) → Buf (Elt Ideal) ℓ) (g : Dev Cert.WgradBRefIdeal.nD → PrngReg), Pre_WgradBRefIdeal m →
    θ_run (Cert.WgradBRefIdeal.defs (F := Ideal)) (onTc (τ := Cert.WgradBRefIdeal.τ) (Cert.WgradBRefIdeal.main (F := Ideal))) ⟨m, fun _ => 0, g⟩ (fun r => (∀ c : Dev Cert.WgradBRefIdeal.nD,
      r.2.mem ((c.tc : Thread Cert.WgradBRefIdeal.nD Cert.WgradBRefIdeal.τ).loc Cert.WgradBRefIdeal.main_arg0) = m ((c.tc : Thread Cert.WgradBRefIdeal.nD Cert.WgradBRefIdeal.τ).loc Cert.WgradBRefIdeal.main_arg0)
      ∧ r.2.mem ((c.tc : Thread Cert.WgradBRefIdeal.nD Cert.WgradBRefIdeal.τ).loc Cert.WgradBRefIdeal.main_arg1) = m ((c.tc : Thread Cert.WgradBRefIdeal.nD Cert.WgradBRefIdeal.τ).loc Cert.WgradBRefIdeal.main_arg1))
      ∧ r.2.sem = fun _ => 0)

def quiescent_WgradA [hWgradA : Cert.WgradA.Facts] : Prop :=
  ∀ (m : (ℓ : Loc Cert.WgradA.nD Cert.WgradA.τ Cert.WgradA.sig) → Buf (Elt Bits) ℓ) (g : Dev Cert.WgradA.nD → PrngReg), Pre_WgradA m →
    θ_run (Cert.WgradA.defs (F := Bits)) (onTc (τ := Cert.WgradA.τ) (Cert.WgradA.main (F := Bits))) ⟨m, fun _ => 0, g⟩ (fun r => (∀ c : Dev Cert.WgradA.nD,
      r.2.mem ((c.tc : Thread Cert.WgradA.nD Cert.WgradA.τ).loc Cert.WgradA.main_arg0) = m ((c.tc : Thread Cert.WgradA.nD Cert.WgradA.τ).loc Cert.WgradA.main_arg0)
      ∧ r.2.mem ((c.tc : Thread Cert.WgradA.nD Cert.WgradA.τ).loc Cert.WgradA.main_arg1) = m ((c.tc : Thread Cert.WgradA.nD Cert.WgradA.τ).loc Cert.WgradA.main_arg1))
      ∧ r.2.sem = fun _ => 0)

def quiescent_WgradAIdeal [hWgradAIdeal : Cert.WgradAIdeal.Facts] : Prop :=
  ∀ (m : (ℓ : Loc Cert.WgradAIdeal.nD Cert.WgradAIdeal.τ Cert.WgradAIdeal.sig) → Buf (Elt Ideal) ℓ) (g : Dev Cert.WgradAIdeal.nD → PrngReg), Pre_WgradAIdeal m →
    θ_run (Cert.WgradAIdeal.defs (F := Ideal)) (onTc (τ := Cert.WgradAIdeal.τ) (Cert.WgradAIdeal.main (F := Ideal))) ⟨m, fun _ => 0, g⟩ (fun r => (∀ c : Dev Cert.WgradAIdeal.nD,
      r.2.mem ((c.tc : Thread Cert.WgradAIdeal.nD Cert.WgradAIdeal.τ).loc Cert.WgradAIdeal.main_arg0) = m ((c.tc : Thread Cert.WgradAIdeal.nD Cert.WgradAIdeal.τ).loc Cert.WgradAIdeal.main_arg0)
      ∧ r.2.mem ((c.tc : Thread Cert.WgradAIdeal.nD Cert.WgradAIdeal.τ).loc Cert.WgradAIdeal.main_arg1) = m ((c.tc : Thread Cert.WgradAIdeal.nD Cert.WgradAIdeal.τ).loc Cert.WgradAIdeal.main_arg1))
      ∧ r.2.sem = fun _ => 0)

def quiescent_WgradARefIdeal [hWgradARefIdeal : Cert.WgradARefIdeal.Facts] : Prop :=
  ∀ (m : (ℓ : Loc Cert.WgradARefIdeal.nD Cert.WgradARefIdeal.τ Cert.WgradARefIdeal.sig) → Buf (Elt Ideal) ℓ) (g : Dev Cert.WgradARefIdeal.nD → PrngReg), Pre_WgradARefIdeal m →
    θ_run (Cert.WgradARefIdeal.defs (F := Ideal)) (onTc (τ := Cert.WgradARefIdeal.τ) (Cert.WgradARefIdeal.main (F := Ideal))) ⟨m, fun _ => 0, g⟩ (fun r => (∀ c : Dev Cert.WgradARefIdeal.nD,
      r.2.mem ((c.tc : Thread Cert.WgradARefIdeal.nD Cert.WgradARefIdeal.τ).loc Cert.WgradARefIdeal.main_arg0) = m ((c.tc : Thread Cert.WgradARefIdeal.nD Cert.WgradARefIdeal.τ).loc Cert.WgradARefIdeal.main_arg0)
      ∧ r.2.mem ((c.tc : Thread Cert.WgradARefIdeal.nD Cert.WgradARefIdeal.τ).loc Cert.WgradARefIdeal.main_arg1) = m ((c.tc : Thread Cert.WgradARefIdeal.nD Cert.WgradARefIdeal.τ).loc Cert.WgradARefIdeal.main_arg1))
      ∧ r.2.sem = fun _ => 0)

def quiescent_WgradG [hWgradG : Cert.WgradG.Facts] : Prop :=
  ∀ (m : (ℓ : Loc Cert.WgradG.nD Cert.WgradG.τ Cert.WgradG.sig) → Buf (Elt Bits) ℓ) (g : Dev Cert.WgradG.nD → PrngReg), Pre_WgradG m →
    θ_run (Cert.WgradG.defs (F := Bits)) (onTc (τ := Cert.WgradG.τ) (Cert.WgradG.main (F := Bits))) ⟨m, fun _ => 0, g⟩ (fun r => (∀ c : Dev Cert.WgradG.nD,
      r.2.mem ((c.tc : Thread Cert.WgradG.nD Cert.WgradG.τ).loc Cert.WgradG.main_arg0) = m ((c.tc : Thread Cert.WgradG.nD Cert.WgradG.τ).loc Cert.WgradG.main_arg0)
      ∧ r.2.mem ((c.tc : Thread Cert.WgradG.nD Cert.WgradG.τ).loc Cert.WgradG.main_arg1) = m ((c.tc : Thread Cert.WgradG.nD Cert.WgradG.τ).loc Cert.WgradG.main_arg1))
      ∧ r.2.sem = fun _ => 0)

def quiescent_WgradGIdeal [hWgradGIdeal : Cert.WgradGIdeal.Facts] : Prop :=
  ∀ (m : (ℓ : Loc Cert.WgradGIdeal.nD Cert.WgradGIdeal.τ Cert.WgradGIdeal.sig) → Buf (Elt Ideal) ℓ) (g : Dev Cert.WgradGIdeal.nD → PrngReg), Pre_WgradGIdeal m →
    θ_run (Cert.WgradGIdeal.defs (F := Ideal)) (onTc (τ := Cert.WgradGIdeal.τ) (Cert.WgradGIdeal.main (F := Ideal))) ⟨m, fun _ => 0, g⟩ (fun r => (∀ c : Dev Cert.WgradGIdeal.nD,
      r.2.mem ((c.tc : Thread Cert.WgradGIdeal.nD Cert.WgradGIdeal.τ).loc Cert.WgradGIdeal.main_arg0) = m ((c.tc : Thread Cert.WgradGIdeal.nD Cert.WgradGIdeal.τ).loc Cert.WgradGIdeal.main_arg0)
      ∧ r.2.mem ((c.tc : Thread Cert.WgradGIdeal.nD Cert.WgradGIdeal.τ).loc Cert.WgradGIdeal.main_arg1) = m ((c.tc : Thread Cert.WgradGIdeal.nD Cert.WgradGIdeal.τ).loc Cert.WgradGIdeal.main_arg1))
      ∧ r.2.sem = fun _ => 0)

def quiescent_WgradGRefIdeal [hWgradGRefIdeal : Cert.WgradGRefIdeal.Facts] : Prop :=
  ∀ (m : (ℓ : Loc Cert.WgradGRefIdeal.nD Cert.WgradGRefIdeal.τ Cert.WgradGRefIdeal.sig) → Buf (Elt Ideal) ℓ) (g : Dev Cert.WgradGRefIdeal.nD → PrngReg), Pre_WgradGRefIdeal m →
    θ_run (Cert.WgradGRefIdeal.defs (F := Ideal)) (onTc (τ := Cert.WgradGRefIdeal.τ) (Cert.WgradGRefIdeal.main (F := Ideal))) ⟨m, fun _ => 0, g⟩ (fun r => (∀ c : Dev Cert.WgradGRefIdeal.nD,
      r.2.mem ((c.tc : Thread Cert.WgradGRefIdeal.nD Cert.WgradGRefIdeal.τ).loc Cert.WgradGRefIdeal.main_arg0) = m ((c.tc : Thread Cert.WgradGRefIdeal.nD Cert.WgradGRefIdeal.τ).loc Cert.WgradGRefIdeal.main_arg0)
      ∧ r.2.mem ((c.tc : Thread Cert.WgradGRefIdeal.nD Cert.WgradGRefIdeal.τ).loc Cert.WgradGRefIdeal.main_arg1) = m ((c.tc : Thread Cert.WgradGRefIdeal.nD Cert.WgradGRefIdeal.τ).loc Cert.WgradGRefIdeal.main_arg1))
      ∧ r.2.sem = fun _ => 0)

def quiescent_WgradO [hWgradO : Cert.WgradO.Facts] : Prop :=
  ∀ (m : (ℓ : Loc Cert.WgradO.nD Cert.WgradO.τ Cert.WgradO.sig) → Buf (Elt Bits) ℓ) (g : Dev Cert.WgradO.nD → PrngReg), Pre_WgradO m →
    θ_run (Cert.WgradO.defs (F := Bits)) (onTc (τ := Cert.WgradO.τ) (Cert.WgradO.main (F := Bits))) ⟨m, fun _ => 0, g⟩ (fun r => (∀ c : Dev Cert.WgradO.nD,
      r.2.mem ((c.tc : Thread Cert.WgradO.nD Cert.WgradO.τ).loc Cert.WgradO.main_arg0) = m ((c.tc : Thread Cert.WgradO.nD Cert.WgradO.τ).loc Cert.WgradO.main_arg0)
      ∧ r.2.mem ((c.tc : Thread Cert.WgradO.nD Cert.WgradO.τ).loc Cert.WgradO.main_arg1) = m ((c.tc : Thread Cert.WgradO.nD Cert.WgradO.τ).loc Cert.WgradO.main_arg1))
      ∧ r.2.sem = fun _ => 0)

def quiescent_WgradOIdeal [hWgradOIdeal : Cert.WgradOIdeal.Facts] : Prop :=
  ∀ (m : (ℓ : Loc Cert.WgradOIdeal.nD Cert.WgradOIdeal.τ Cert.WgradOIdeal.sig) → Buf (Elt Ideal) ℓ) (g : Dev Cert.WgradOIdeal.nD → PrngReg), Pre_WgradOIdeal m →
    θ_run (Cert.WgradOIdeal.defs (F := Ideal)) (onTc (τ := Cert.WgradOIdeal.τ) (Cert.WgradOIdeal.main (F := Ideal))) ⟨m, fun _ => 0, g⟩ (fun r => (∀ c : Dev Cert.WgradOIdeal.nD,
      r.2.mem ((c.tc : Thread Cert.WgradOIdeal.nD Cert.WgradOIdeal.τ).loc Cert.WgradOIdeal.main_arg0) = m ((c.tc : Thread Cert.WgradOIdeal.nD Cert.WgradOIdeal.τ).loc Cert.WgradOIdeal.main_arg0)
      ∧ r.2.mem ((c.tc : Thread Cert.WgradOIdeal.nD Cert.WgradOIdeal.τ).loc Cert.WgradOIdeal.main_arg1) = m ((c.tc : Thread Cert.WgradOIdeal.nD Cert.WgradOIdeal.τ).loc Cert.WgradOIdeal.main_arg1))
      ∧ r.2.sem = fun _ => 0)

def quiescent_WgradORefIdeal [hWgradORefIdeal : Cert.WgradORefIdeal.Facts] : Prop :=
  ∀ (m : (ℓ : Loc Cert.WgradORefIdeal.nD Cert.WgradORefIdeal.τ Cert.WgradORefIdeal.sig) → Buf (Elt Ideal) ℓ) (g : Dev Cert.WgradORefIdeal.nD → PrngReg), Pre_WgradORefIdeal m →
    θ_run (Cert.WgradORefIdeal.defs (F := Ideal)) (onTc (τ := Cert.WgradORefIdeal.τ) (Cert.WgradORefIdeal.main (F := Ideal))) ⟨m, fun _ => 0, g⟩ (fun r => (∀ c : Dev Cert.WgradORefIdeal.nD,
      r.2.mem ((c.tc : Thread Cert.WgradORefIdeal.nD Cert.WgradORefIdeal.τ).loc Cert.WgradORefIdeal.main_arg0) = m ((c.tc : Thread Cert.WgradORefIdeal.nD Cert.WgradORefIdeal.τ).loc Cert.WgradORefIdeal.main_arg0)
      ∧ r.2.mem ((c.tc : Thread Cert.WgradORefIdeal.nD Cert.WgradORefIdeal.τ).loc Cert.WgradORefIdeal.main_arg1) = m ((c.tc : Thread Cert.WgradORefIdeal.nD Cert.WgradORefIdeal.τ).loc Cert.WgradORefIdeal.main_arg1))
      ∧ r.2.sem = fun _ => 0)

def quiescent_HgradB [hHgradB : Cert.HgradB.Facts] : Prop :=
  ∀ (m : (ℓ : Loc Cert.HgradB.nD Cert.HgradB.τ Cert.HgradB.sig) → Buf (Elt Bits) ℓ) (g : Dev Cert.HgradB.nD → PrngReg), Pre_HgradB m →
    θ_run (Cert.HgradB.defs (F := Bits)) (onTc (τ := Cert.HgradB.τ) (Cert.HgradB.main (F := Bits))) ⟨m, fun _ => 0, g⟩ (fun r => (∀ c : Dev Cert.HgradB.nD,
      r.2.mem ((c.tc : Thread Cert.HgradB.nD Cert.HgradB.τ).loc Cert.HgradB.main_arg0) = m ((c.tc : Thread Cert.HgradB.nD Cert.HgradB.τ).loc Cert.HgradB.main_arg0)
      ∧ r.2.mem ((c.tc : Thread Cert.HgradB.nD Cert.HgradB.τ).loc Cert.HgradB.main_arg1) = m ((c.tc : Thread Cert.HgradB.nD Cert.HgradB.τ).loc Cert.HgradB.main_arg1))
      ∧ r.2.sem = fun _ => 0)

def quiescent_HgradBIdeal [hHgradBIdeal : Cert.HgradBIdeal.Facts] : Prop :=
  ∀ (m : (ℓ : Loc Cert.HgradBIdeal.nD Cert.HgradBIdeal.τ Cert.HgradBIdeal.sig) → Buf (Elt Ideal) ℓ) (g : Dev Cert.HgradBIdeal.nD → PrngReg), Pre_HgradBIdeal m →
    θ_run (Cert.HgradBIdeal.defs (F := Ideal)) (onTc (τ := Cert.HgradBIdeal.τ) (Cert.HgradBIdeal.main (F := Ideal))) ⟨m, fun _ => 0, g⟩ (fun r => (∀ c : Dev Cert.HgradBIdeal.nD,
      r.2.mem ((c.tc : Thread Cert.HgradBIdeal.nD Cert.HgradBIdeal.τ).loc Cert.HgradBIdeal.main_arg0) = m ((c.tc : Thread Cert.HgradBIdeal.nD Cert.HgradBIdeal.τ).loc Cert.HgradBIdeal.main_arg0)
      ∧ r.2.mem ((c.tc : Thread Cert.HgradBIdeal.nD Cert.HgradBIdeal.τ).loc Cert.HgradBIdeal.main_arg1) = m ((c.tc : Thread Cert.HgradBIdeal.nD Cert.HgradBIdeal.τ).loc Cert.HgradBIdeal.main_arg1))
      ∧ r.2.sem = fun _ => 0)

def quiescent_HgradBRefIdeal [hHgradBRefIdeal : Cert.HgradBRefIdeal.Facts] : Prop :=
  ∀ (m : (ℓ : Loc Cert.HgradBRefIdeal.nD Cert.HgradBRefIdeal.τ Cert.HgradBRefIdeal.sig) → Buf (Elt Ideal) ℓ) (g : Dev Cert.HgradBRefIdeal.nD → PrngReg), Pre_HgradBRefIdeal m →
    θ_run (Cert.HgradBRefIdeal.defs (F := Ideal)) (onTc (τ := Cert.HgradBRefIdeal.τ) (Cert.HgradBRefIdeal.main (F := Ideal))) ⟨m, fun _ => 0, g⟩ (fun r => (∀ c : Dev Cert.HgradBRefIdeal.nD,
      r.2.mem ((c.tc : Thread Cert.HgradBRefIdeal.nD Cert.HgradBRefIdeal.τ).loc Cert.HgradBRefIdeal.main_arg0) = m ((c.tc : Thread Cert.HgradBRefIdeal.nD Cert.HgradBRefIdeal.τ).loc Cert.HgradBRefIdeal.main_arg0)
      ∧ r.2.mem ((c.tc : Thread Cert.HgradBRefIdeal.nD Cert.HgradBRefIdeal.τ).loc Cert.HgradBRefIdeal.main_arg1) = m ((c.tc : Thread Cert.HgradBRefIdeal.nD Cert.HgradBRefIdeal.τ).loc Cert.HgradBRefIdeal.main_arg1))
      ∧ r.2.sem = fun _ => 0)

def quiescent_HgradA [hHgradA : Cert.HgradA.Facts] : Prop :=
  ∀ (m : (ℓ : Loc Cert.HgradA.nD Cert.HgradA.τ Cert.HgradA.sig) → Buf (Elt Bits) ℓ) (g : Dev Cert.HgradA.nD → PrngReg), Pre_HgradA m →
    θ_run (Cert.HgradA.defs (F := Bits)) (onTc (τ := Cert.HgradA.τ) (Cert.HgradA.main (F := Bits))) ⟨m, fun _ => 0, g⟩ (fun r => (∀ c : Dev Cert.HgradA.nD,
      r.2.mem ((c.tc : Thread Cert.HgradA.nD Cert.HgradA.τ).loc Cert.HgradA.main_arg0) = m ((c.tc : Thread Cert.HgradA.nD Cert.HgradA.τ).loc Cert.HgradA.main_arg0)
      ∧ r.2.mem ((c.tc : Thread Cert.HgradA.nD Cert.HgradA.τ).loc Cert.HgradA.main_arg1) = m ((c.tc : Thread Cert.HgradA.nD Cert.HgradA.τ).loc Cert.HgradA.main_arg1)
      ∧ r.2.mem ((c.tc : Thread Cert.HgradA.nD Cert.HgradA.τ).loc Cert.HgradA.main_arg2) = m ((c.tc : Thread Cert.HgradA.nD Cert.HgradA.τ).loc Cert.HgradA.main_arg2))
      ∧ r.2.sem = fun _ => 0)

def quiescent_HgradAIdeal [hHgradAIdeal : Cert.HgradAIdeal.Facts] : Prop :=
  ∀ (m : (ℓ : Loc Cert.HgradAIdeal.nD Cert.HgradAIdeal.τ Cert.HgradAIdeal.sig) → Buf (Elt Ideal) ℓ) (g : Dev Cert.HgradAIdeal.nD → PrngReg), Pre_HgradAIdeal m →
    θ_run (Cert.HgradAIdeal.defs (F := Ideal)) (onTc (τ := Cert.HgradAIdeal.τ) (Cert.HgradAIdeal.main (F := Ideal))) ⟨m, fun _ => 0, g⟩ (fun r => (∀ c : Dev Cert.HgradAIdeal.nD,
      r.2.mem ((c.tc : Thread Cert.HgradAIdeal.nD Cert.HgradAIdeal.τ).loc Cert.HgradAIdeal.main_arg0) = m ((c.tc : Thread Cert.HgradAIdeal.nD Cert.HgradAIdeal.τ).loc Cert.HgradAIdeal.main_arg0)
      ∧ r.2.mem ((c.tc : Thread Cert.HgradAIdeal.nD Cert.HgradAIdeal.τ).loc Cert.HgradAIdeal.main_arg1) = m ((c.tc : Thread Cert.HgradAIdeal.nD Cert.HgradAIdeal.τ).loc Cert.HgradAIdeal.main_arg1)
      ∧ r.2.mem ((c.tc : Thread Cert.HgradAIdeal.nD Cert.HgradAIdeal.τ).loc Cert.HgradAIdeal.main_arg2) = m ((c.tc : Thread Cert.HgradAIdeal.nD Cert.HgradAIdeal.τ).loc Cert.HgradAIdeal.main_arg2))
      ∧ r.2.sem = fun _ => 0)

def quiescent_HgradARefIdeal [hHgradARefIdeal : Cert.HgradARefIdeal.Facts] : Prop :=
  ∀ (m : (ℓ : Loc Cert.HgradARefIdeal.nD Cert.HgradARefIdeal.τ Cert.HgradARefIdeal.sig) → Buf (Elt Ideal) ℓ) (g : Dev Cert.HgradARefIdeal.nD → PrngReg), Pre_HgradARefIdeal m →
    θ_run (Cert.HgradARefIdeal.defs (F := Ideal)) (onTc (τ := Cert.HgradARefIdeal.τ) (Cert.HgradARefIdeal.main (F := Ideal))) ⟨m, fun _ => 0, g⟩ (fun r => (∀ c : Dev Cert.HgradARefIdeal.nD,
      r.2.mem ((c.tc : Thread Cert.HgradARefIdeal.nD Cert.HgradARefIdeal.τ).loc Cert.HgradARefIdeal.main_arg0) = m ((c.tc : Thread Cert.HgradARefIdeal.nD Cert.HgradARefIdeal.τ).loc Cert.HgradARefIdeal.main_arg0)
      ∧ r.2.mem ((c.tc : Thread Cert.HgradARefIdeal.nD Cert.HgradARefIdeal.τ).loc Cert.HgradARefIdeal.main_arg1) = m ((c.tc : Thread Cert.HgradARefIdeal.nD Cert.HgradARefIdeal.τ).loc Cert.HgradARefIdeal.main_arg1)
      ∧ r.2.mem ((c.tc : Thread Cert.HgradARefIdeal.nD Cert.HgradARefIdeal.τ).loc Cert.HgradARefIdeal.main_arg2) = m ((c.tc : Thread Cert.HgradARefIdeal.nD Cert.HgradARefIdeal.τ).loc Cert.HgradARefIdeal.main_arg2))
      ∧ r.2.sem = fun _ => 0)

def quiescent_HgradG [hHgradG : Cert.HgradG.Facts] : Prop :=
  ∀ (m : (ℓ : Loc Cert.HgradG.nD Cert.HgradG.τ Cert.HgradG.sig) → Buf (Elt Bits) ℓ) (g : Dev Cert.HgradG.nD → PrngReg), Pre_HgradG m →
    θ_run (Cert.HgradG.defs (F := Bits)) (onTc (τ := Cert.HgradG.τ) (Cert.HgradG.main (F := Bits))) ⟨m, fun _ => 0, g⟩ (fun r => (∀ c : Dev Cert.HgradG.nD,
      r.2.mem ((c.tc : Thread Cert.HgradG.nD Cert.HgradG.τ).loc Cert.HgradG.main_arg0) = m ((c.tc : Thread Cert.HgradG.nD Cert.HgradG.τ).loc Cert.HgradG.main_arg0)
      ∧ r.2.mem ((c.tc : Thread Cert.HgradG.nD Cert.HgradG.τ).loc Cert.HgradG.main_arg1) = m ((c.tc : Thread Cert.HgradG.nD Cert.HgradG.τ).loc Cert.HgradG.main_arg1)
      ∧ r.2.mem ((c.tc : Thread Cert.HgradG.nD Cert.HgradG.τ).loc Cert.HgradG.main_arg2) = m ((c.tc : Thread Cert.HgradG.nD Cert.HgradG.τ).loc Cert.HgradG.main_arg2))
      ∧ r.2.sem = fun _ => 0)

def quiescent_HgradGIdeal [hHgradGIdeal : Cert.HgradGIdeal.Facts] : Prop :=
  ∀ (m : (ℓ : Loc Cert.HgradGIdeal.nD Cert.HgradGIdeal.τ Cert.HgradGIdeal.sig) → Buf (Elt Ideal) ℓ) (g : Dev Cert.HgradGIdeal.nD → PrngReg), Pre_HgradGIdeal m →
    θ_run (Cert.HgradGIdeal.defs (F := Ideal)) (onTc (τ := Cert.HgradGIdeal.τ) (Cert.HgradGIdeal.main (F := Ideal))) ⟨m, fun _ => 0, g⟩ (fun r => (∀ c : Dev Cert.HgradGIdeal.nD,
      r.2.mem ((c.tc : Thread Cert.HgradGIdeal.nD Cert.HgradGIdeal.τ).loc Cert.HgradGIdeal.main_arg0) = m ((c.tc : Thread Cert.HgradGIdeal.nD Cert.HgradGIdeal.τ).loc Cert.HgradGIdeal.main_arg0)
      ∧ r.2.mem ((c.tc : Thread Cert.HgradGIdeal.nD Cert.HgradGIdeal.τ).loc Cert.HgradGIdeal.main_arg1) = m ((c.tc : Thread Cert.HgradGIdeal.nD Cert.HgradGIdeal.τ).loc Cert.HgradGIdeal.main_arg1)
      ∧ r.2.mem ((c.tc : Thread Cert.HgradGIdeal.nD Cert.HgradGIdeal.τ).loc Cert.HgradGIdeal.main_arg2) = m ((c.tc : Thread Cert.HgradGIdeal.nD Cert.HgradGIdeal.τ).loc Cert.HgradGIdeal.main_arg2))
      ∧ r.2.sem = fun _ => 0)

def quiescent_HgradGRefIdeal [hHgradGRefIdeal : Cert.HgradGRefIdeal.Facts] : Prop :=
  ∀ (m : (ℓ : Loc Cert.HgradGRefIdeal.nD Cert.HgradGRefIdeal.τ Cert.HgradGRefIdeal.sig) → Buf (Elt Ideal) ℓ) (g : Dev Cert.HgradGRefIdeal.nD → PrngReg), Pre_HgradGRefIdeal m →
    θ_run (Cert.HgradGRefIdeal.defs (F := Ideal)) (onTc (τ := Cert.HgradGRefIdeal.τ) (Cert.HgradGRefIdeal.main (F := Ideal))) ⟨m, fun _ => 0, g⟩ (fun r => (∀ c : Dev Cert.HgradGRefIdeal.nD,
      r.2.mem ((c.tc : Thread Cert.HgradGRefIdeal.nD Cert.HgradGRefIdeal.τ).loc Cert.HgradGRefIdeal.main_arg0) = m ((c.tc : Thread Cert.HgradGRefIdeal.nD Cert.HgradGRefIdeal.τ).loc Cert.HgradGRefIdeal.main_arg0)
      ∧ r.2.mem ((c.tc : Thread Cert.HgradGRefIdeal.nD Cert.HgradGRefIdeal.τ).loc Cert.HgradGRefIdeal.main_arg1) = m ((c.tc : Thread Cert.HgradGRefIdeal.nD Cert.HgradGRefIdeal.τ).loc Cert.HgradGRefIdeal.main_arg1)
      ∧ r.2.mem ((c.tc : Thread Cert.HgradGRefIdeal.nD Cert.HgradGRefIdeal.τ).loc Cert.HgradGRefIdeal.main_arg2) = m ((c.tc : Thread Cert.HgradGRefIdeal.nD Cert.HgradGRefIdeal.τ).loc Cert.HgradGRefIdeal.main_arg2))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ r.2.sem = fun _ => 0)

def quiescent_ProjGRefIdeal [hProjGRefIdeal : Cert.ProjGRefIdeal.Facts] : Prop :=
  ∀ (m : (ℓ : Loc Cert.ProjGRefIdeal.nD Cert.ProjGRefIdeal.τ Cert.ProjGRefIdeal.sig) → Buf (Elt Ideal) ℓ) (g : Dev Cert.ProjGRefIdeal.nD → PrngReg), Pre_ProjGRefIdeal m →
    θ_run (Cert.ProjGRefIdeal.defs (F := Ideal)) (onTc (τ := Cert.ProjGRefIdeal.τ) (Cert.ProjGRefIdeal.main (F := Ideal))) ⟨m, fun _ => 0, g⟩ (fun r => (∀ c : Dev Cert.ProjGRefIdeal.nD,
      r.2.mem ((c.tc : Thread Cert.ProjGRefIdeal.nD Cert.ProjGRefIdeal.τ).loc Cert.ProjGRefIdeal.main_arg0) = m ((c.tc : Thread Cert.ProjGRefIdeal.nD Cert.ProjGRefIdeal.τ).loc Cert.ProjGRefIdeal.main_arg0)
      ∧ r.2.mem ((c.tc : Thread Cert.ProjGRefIdeal.nD Cert.ProjGRefIdeal.τ).loc Cert.ProjGRefIdeal.main_arg1) = m ((c.tc : Thread Cert.ProjGRefIdeal.nD Cert.ProjGRefIdeal.τ).loc Cert.ProjGRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3)
      ∧ r.2.mem ((c.tc : Thread Cert.AdamA.nD Cert.AdamA.τ).loc Cert.AdamA.main_arg4) = m ((c.tc : Thread Cert.AdamA.nD Cert.AdamA.τ).loc Cert.AdamA.main_arg4)
      ∧ r.2.mem ((c.tc : Thread Cert.AdamA.nD Cert.AdamA.τ).loc Cert.AdamA.main_arg5) = m ((c.tc : Thread Cert.AdamA.nD Cert.AdamA.τ).loc Cert.AdamA.main_arg5))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3)
      ∧ r.2.mem ((c.tc : Thread Cert.AdamAIdeal.nD Cert.AdamAIdeal.τ).loc Cert.AdamAIdeal.main_arg4) = m ((c.tc : Thread Cert.AdamAIdeal.nD Cert.AdamAIdeal.τ).loc Cert.AdamAIdeal.main_arg4)
      ∧ r.2.mem ((c.tc : Thread Cert.AdamAIdeal.nD Cert.AdamAIdeal.τ).loc Cert.AdamAIdeal.main_arg5) = m ((c.tc : Thread Cert.AdamAIdeal.nD Cert.AdamAIdeal.τ).loc Cert.AdamAIdeal.main_arg5))
      ∧ r.2.sem = fun _ => 0)

def quiescent_AdamARefIdeal [hAdamARefIdeal : Cert.AdamARefIdeal.Facts] : Prop :=
  ∀ (m : (ℓ : Loc Cert.AdamARefIdeal.nD Cert.AdamARefIdeal.τ Cert.AdamARefIdeal.sig) → Buf (Elt Ideal) ℓ) (g : Dev Cert.AdamARefIdeal.nD → PrngReg), Pre_AdamARefIdeal m →
    θ_run (Cert.AdamARefIdeal.defs (F := Ideal)) (onTc (τ := Cert.AdamARefIdeal.τ) (Cert.AdamARefIdeal.main (F := Ideal))) ⟨m, fun _ => 0, g⟩ (fun r => (∀ c : Dev Cert.AdamARefIdeal.nD,
      r.2.mem ((c.tc : Thread Cert.AdamARefIdeal.nD Cert.AdamARefIdeal.τ).loc Cert.AdamARefIdeal.main_arg0) = m ((c.tc : Thread Cert.AdamARefIdeal.nD Cert.AdamARefIdeal.τ).loc Cert.AdamARefIdeal.main_arg0)
      ∧ r.2.mem ((c.tc : Thread Cert.AdamARefIdeal.nD Cert.AdamARefIdeal.τ).loc Cert.AdamARefIdeal.main_arg1) = m ((c.tc : Thread Cert.AdamARefIdeal.nD Cert.AdamARefIdeal.τ).loc Cert.AdamARefIdeal.main_arg1)
      ∧ r.2.mem ((c.tc : Thread Cert.AdamARefIdeal.nD Cert.AdamARefIdeal.τ).loc Cert.AdamARefIdeal.main_arg2) = m ((c.tc : Thread Cert.AdamARefIdeal.nD Cert.AdamARefIdeal.τ).loc Cert.AdamARefIdeal.main_arg2)
      ∧ r.2.mem ((c.tc : Thread Cert.AdamARefIdeal.nD Cert.AdamARefIdeal.τ).loc Cert.AdamARefIdeal.main_arg3) = m ((c.tc : Thread Cert.AdamARefIdeal.nD Cert.AdamARefIdeal.τ).loc Cert.AdamARefIdeal.main_arg3)
      ∧ r.2.mem ((c.tc : Thread Cert.AdamARefIdeal.nD Cert.AdamARefIdeal.τ).loc Cert.AdamARefIdeal.main_arg4) = m ((c.tc : Thread Cert.AdamARefIdeal.nD Cert.AdamARefIdeal.τ).loc Cert.AdamARefIdeal.main_arg4)
      ∧ r.2.mem ((c.tc : Thread Cert.AdamARefIdeal.nD Cert.AdamARefIdeal.τ).loc Cert.AdamARefIdeal.main_arg5) = m ((c.tc : Thread Cert.AdamARefIdeal.nD Cert.AdamARefIdeal.τ).loc Cert.AdamARefIdeal.main_arg5))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3)
      ∧ r.2.mem ((c.tc : Thread Cert.AdamB.nD Cert.AdamB.τ).loc Cert.AdamB.main_arg4) = m ((c.tc : Thread Cert.AdamB.nD Cert.AdamB.τ).loc Cert.AdamB.main_arg4)
      ∧ r.2.mem ((c.tc : Thread Cert.AdamB.nD Cert.AdamB.τ).loc Cert.AdamB.main_arg5) = m ((c.tc : Thread Cert.AdamB.nD Cert.AdamB.τ).loc Cert.AdamB.main_arg5))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3)
      ∧ r.2.mem ((c.tc : Thread Cert.AdamBIdeal.nD Cert.AdamBIdeal.τ).loc Cert.AdamBIdeal.main_arg4) = m ((c.tc : Thread Cert.AdamBIdeal.nD Cert.AdamBIdeal.τ).loc Cert.AdamBIdeal.main_arg4)
      ∧ r.2.mem ((c.tc : Thread Cert.AdamBIdeal.nD Cert.AdamBIdeal.τ).loc Cert.AdamBIdeal.main_arg5) = m ((c.tc : Thread Cert.AdamBIdeal.nD Cert.AdamBIdeal.τ).loc Cert.AdamBIdeal.main_arg5))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3)
      ∧ r.2.mem ((c.tc : Thread Cert.AdamBRefIdeal.nD Cert.AdamBRefIdeal.τ).loc Cert.AdamBRefIdeal.main_arg4) = m ((c.tc : Thread Cert.AdamBRefIdeal.nD Cert.AdamBRefIdeal.τ).loc Cert.AdamBRefIdeal.main_arg4)
      ∧ r.2.mem ((c.tc : Thread Cert.AdamBRefIdeal.nD Cert.AdamBRefIdeal.τ).loc Cert.AdamBRefIdeal.main_arg5) = m ((c.tc : Thread Cert.AdamBRefIdeal.nD Cert.AdamBRefIdeal.τ).loc Cert.AdamBRefIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_WgradB_WgradBIdeal : Prop :=
  True

def algebraic_WgradBIdeal_WgradBRefIdeal [hWgradBIdeal : Cert.WgradBIdeal.Facts] [hWgradBRefIdeal : Cert.WgradBRefIdeal.Facts] : Prop :=
  ∀ (m : (ℓ : Loc Cert.WgradBIdeal.nD Cert.WgradBIdeal.τ Cert.WgradBIdeal.sig) → Buf (Elt Ideal) ℓ) (g : Dev Cert.WgradBIdeal.nD → PrngReg)
    (m' : (ℓ : Loc Cert.WgradBRefIdeal.nD Cert.WgradBRefIdeal.τ Cert.WgradBRefIdeal.sig) → Buf (Elt Ideal) ℓ) (g' : Dev Cert.WgradBRefIdeal.nD → PrngReg), Pre_WgradBIdeal m →
    (∀ c : Dev Cert.WgradBIdeal.nD,
      m' ((c.tc : Thread Cert.WgradBRefIdeal.nD Cert.WgradBRefIdeal.τ).loc Cert.WgradBRefIdeal.main_arg0) = m ((c.tc : Thread Cert.WgradBIdeal.nD Cert.WgradBIdeal.τ).loc Cert.WgradBIdeal.main_arg0)
      ∧ m' ((c.tc : Thread Cert.WgradBRefIdeal.nD Cert.WgradBRefIdeal.τ).loc Cert.WgradBRefIdeal.main_arg1) = m ((c.tc : Thread Cert.WgradBIdeal.nD Cert.WgradBIdeal.τ).loc Cert.WgradBIdeal.main_arg1)) →
    ∃ (v0 : (c : Dev Cert.WgradBIdeal.nD) → Buf (Elt Ideal) ((c.tc : Thread Cert.WgradBIdeal.nD Cert.WgradBIdeal.τ).loc Cert.WgradBIdeal.main_v0)),
      θ_run (Cert.WgradBIdeal.defs (F := Ideal)) (onTc (τ := Cert.WgradBIdeal.τ) (Cert.WgradBIdeal.main (F := Ideal))) ⟨m, fun _ => 0, g⟩ (fun r => ∀ c : Dev Cert.WgradBIdeal.nD,
          r.2.mem ((c.tc : Thread Cert.WgradBIdeal.nD Cert.WgradBIdeal.τ).loc Cert.WgradBIdeal.main_v0) = v0 c
          ∧ r.2.mem ((c.tc : Thread Cert.WgradBIdeal.nD Cert.WgradBIdeal.τ).loc Cert.WgradBIdeal.main_arg0) = m ((c.tc : Thread Cert.WgradBIdeal.nD Cert.WgradBIdeal.τ).loc Cert.WgradBIdeal.main_arg0)
          ∧ r.2.mem ((c.tc : Thread Cert.WgradBIdeal.nD Cert.WgradBIdeal.τ).loc Cert.WgradBIdeal.main_arg1) = m ((c.tc : Thread Cert.WgradBIdeal.nD Cert.WgradBIdeal.τ).loc Cert.WgradBIdeal.main_arg1))
      ∧ θ_run (Cert.WgradBRefIdeal.defs (F := Ideal)) (onTc (τ := Cert.WgradBRefIdeal.τ) (Cert.WgradBRefIdeal.main (F := Ideal))) ⟨m', fun _ => 0, g'⟩ (fun r => ∀ c : Dev Cert.WgradBRefIdeal.nD,
          r.2.mem ((c.tc : Thread Cert.WgradBRefIdeal.nD Cert.WgradBRefIdeal.τ).loc Cert.WgradBRefIdeal.main_v7) = v0 c
          ∧ r.2.mem ((c.tc : Thread Cert.WgradBRefIdeal.nD Cert.WgradBRefIdeal.τ).loc Cert.WgradBRefIdeal.main_arg0) = m' ((c.tc : Thread Cert.WgradBRefIdeal.nD Cert.WgradBRefIdeal.τ).loc Cert.WgradBRefIdeal.main_arg0)
          ∧ r.2.mem ((c.tc : Thread Cert.WgradBRefIdeal.nD Cert.WgradBRefIdeal.τ).loc Cert.WgradBRefIdeal.main_arg1) = m' ((c.tc : Thread Cert.WgradBRefIdeal.nD Cert.WgradBRefIdeal.τ).loc Cert.WgradBRefIdeal.main_arg1))

def preserves_WgradA_WgradAIdeal : Prop :=
  True

def algebraic_WgradAIdeal_WgradARefIdeal [hWgradAIdeal : Cert.WgradAIdeal.Facts] [hWgradARefIdeal : Cert.WgradARefIdeal.Facts] : Prop :=
  ∀ (m : (ℓ : Loc Cert.WgradAIdeal.nD Cert.WgradAIdeal.τ Cert.WgradAIdeal.sig) → Buf (Elt Ideal) ℓ) (g : Dev Cert.WgradAIdeal.nD → PrngReg)
    (m' : (ℓ : Loc Cert.WgradARefIdeal.nD Cert.WgradARefIdeal.τ Cert.WgradARefIdeal.sig) → Buf (Elt Ideal) ℓ) (g' : Dev Cert.WgradARefIdeal.nD → PrngReg), Pre_WgradAIdeal m →
    (∀ c : Dev Cert.WgradAIdeal.nD,
      m' ((c.tc : Thread Cert.WgradARefIdeal.nD Cert.WgradARefIdeal.τ).loc Cert.WgradARefIdeal.main_arg0) = m ((c.tc : Thread Cert.WgradAIdeal.nD Cert.WgradAIdeal.τ).loc Cert.WgradAIdeal.main_arg0)
      ∧ m' ((c.tc : Thread Cert.WgradARefIdeal.nD Cert.WgradARefIdeal.τ).loc Cert.WgradARefIdeal.main_arg1) = m ((c.tc : Thread Cert.WgradAIdeal.nD Cert.WgradAIdeal.τ).loc Cert.WgradAIdeal.main_arg1)) →
    ∃ (v0 : (c : Dev Cert.WgradAIdeal.nD) → Buf (Elt Ideal) ((c.tc : Thread Cert.WgradAIdeal.nD Cert.WgradAIdeal.τ).loc Cert.WgradAIdeal.main_v0)),
      θ_run (Cert.WgradAIdeal.defs (F := Ideal)) (onTc (τ := Cert.WgradAIdeal.τ) (Cert.WgradAIdeal.main (F := Ideal))) ⟨m, fun _ => 0, g⟩ (fun r => ∀ c : Dev Cert.WgradAIdeal.nD,
          r.2.mem ((c.tc : Thread Cert.WgradAIdeal.nD Cert.WgradAIdeal.τ).loc Cert.WgradAIdeal.main_v0) = v0 c
          ∧ r.2.mem ((c.tc : Thread Cert.WgradAIdeal.nD Cert.WgradAIdeal.τ).loc Cert.WgradAIdeal.main_arg0) = m ((c.tc : Thread Cert.WgradAIdeal.nD Cert.WgradAIdeal.τ).loc Cert.WgradAIdeal.main_arg0)
          ∧ r.2.mem ((c.tc : Thread Cert.WgradAIdeal.nD Cert.WgradAIdeal.τ).loc Cert.WgradAIdeal.main_arg1) = m ((c.tc : Thread Cert.WgradAIdeal.nD Cert.WgradAIdeal.τ).loc Cert.WgradAIdeal.main_arg1))
      ∧ θ_run (Cert.WgradARefIdeal.defs (F := Ideal)) (onTc (τ := Cert.WgradARefIdeal.τ) (Cert.WgradARefIdeal.main (F := Ideal))) ⟨m', fun _ => 0, g'⟩ (fun r => ∀ c : Dev Cert.WgradARefIdeal.nD,
          r.2.mem ((c.tc : Thread Cert.WgradARefIdeal.nD Cert.WgradARefIdeal.τ).loc Cert.WgradARefIdeal.main_v7) = v0 c
          ∧ r.2.mem ((c.tc : Thread Cert.WgradARefIdeal.nD Cert.WgradARefIdeal.τ).loc Cert.WgradARefIdeal.main_arg0) = m' ((c.tc : Thread Cert.WgradARefIdeal.nD Cert.WgradARefIdeal.τ).loc Cert.WgradARefIdeal.main_arg0)
          ∧ r.2.mem ((c.tc : Thread Cert.WgradARefIdeal.nD Cert.WgradARefIdeal.τ).loc Cert.WgradARefIdeal.main_arg1) = m' ((c.tc : Thread Cert.WgradARefIdeal.nD Cert.WgradARefIdeal.τ).loc Cert.WgradARefIdeal.main_arg1))

def preserves_WgradG_WgradGIdeal : Prop :=
  True

def algebraic_WgradGIdeal_WgradGRefIdeal [hWgradGIdeal : Cert.WgradGIdeal.Facts] [hWgradGRefIdeal : Cert.WgradGRefIdeal.Facts] : Prop :=
  ∀ (m : (ℓ : Loc Cert.WgradGIdeal.nD Cert.WgradGIdeal.τ Cert.WgradGIdeal.sig) → Buf (Elt Ideal) ℓ) (g : Dev Cert.WgradGIdeal.nD → PrngReg)
    (m' : (ℓ : Loc Cert.WgradGRefIdeal.nD Cert.WgradGRefIdeal.τ Cert.WgradGRefIdeal.sig) → Buf (Elt Ideal) ℓ) (g' : Dev Cert.WgradGRefIdeal.nD → PrngReg), Pre_WgradGIdeal m →
    (∀ c : Dev Cert.WgradGIdeal.nD,
      m' ((c.tc : Thread Cert.WgradGRefIdeal.nD Cert.WgradGRefIdeal.τ).loc Cert.WgradGRefIdeal.main_arg0) = m ((c.tc : Thread Cert.WgradGIdeal.nD Cert.WgradGIdeal.τ).loc Cert.WgradGIdeal.main_arg0)
      ∧ m' ((c.tc : Thread Cert.WgradGRefIdeal.nD Cert.WgradGRefIdeal.τ).loc Cert.WgradGRefIdeal.main_arg1) = m ((c.tc : Thread Cert.WgradGIdeal.nD Cert.WgradGIdeal.τ).loc Cert.WgradGIdeal.main_arg1)) →
    ∃ (v0 : (c : Dev Cert.WgradGIdeal.nD) → Buf (Elt Ideal) ((c.tc : Thread Cert.WgradGIdeal.nD Cert.WgradGIdeal.τ).loc Cert.WgradGIdeal.main_v0)),
      θ_run (Cert.WgradGIdeal.defs (F := Ideal)) (onTc (τ := Cert.WgradGIdeal.τ) (Cert.WgradGIdeal.main (F := Ideal))) ⟨m, fun _ => 0, g⟩ (fun r => ∀ c : Dev Cert.WgradGIdeal.nD,
          r.2.mem ((c.tc : Thread Cert.WgradGIdeal.nD Cert.WgradGIdeal.τ).loc Cert.WgradGIdeal.main_v0) = v0 c
          ∧ r.2.mem ((c.tc : Thread Cert.WgradGIdeal.nD Cert.WgradGIdeal.τ).loc Cert.WgradGIdeal.main_arg0) = m ((c.tc : Thread Cert.WgradGIdeal.nD Cert.WgradGIdeal.τ).loc Cert.WgradGIdeal.main_arg0)
          ∧ r.2.mem ((c.tc : Thread Cert.WgradGIdeal.nD Cert.WgradGIdeal.τ).loc Cert.WgradGIdeal.main_arg1) = m ((c.tc : Thread Cert.WgradGIdeal.nD Cert.WgradGIdeal.τ).loc Cert.WgradGIdeal.main_arg1))
      ∧ θ_run (Cert.WgradGRefIdeal.defs (F := Ideal)) (onTc (τ := Cert.WgradGRefIdeal.τ) (Cert.WgradGRefIdeal.main (F := Ideal))) ⟨m', fun _ => 0, g'⟩ (fun r => ∀ c : Dev Cert.WgradGRefIdeal.nD,
          r.2.mem ((c.tc : Thread Cert.WgradGRefIdeal.nD Cert.WgradGRefIdeal.τ).loc Cert.WgradGRefIdeal.main_v7) = v0 c
          ∧ r.2.mem ((c.tc : Thread Cert.WgradGRefIdeal.nD Cert.WgradGRefIdeal.τ).loc Cert.WgradGRefIdeal.main_arg0) = m' ((c.tc : Thread Cert.WgradGRefIdeal.nD Cert.WgradGRefIdeal.τ).loc Cert.WgradGRefIdeal.main_arg0)
          ∧ r.2.mem ((c.tc : Thread Cert.WgradGRefIdeal.nD Cert.WgradGRefIdeal.τ).loc Cert.WgradGRefIdeal.main_arg1) = m' ((c.tc : Thread Cert.WgradGRefIdeal.nD Cert.WgradGRefIdeal.τ).loc Cert.WgradGRefIdeal.main_arg1))

def preserves_WgradO_WgradOIdeal : Prop :=
  True

def algebraic_WgradOIdeal_WgradORefIdeal [hWgradOIdeal : Cert.WgradOIdeal.Facts] [hWgradORefIdeal : Cert.WgradORefIdeal.Facts] : Prop :=
  ∀ (m : (ℓ : Loc Cert.WgradOIdeal.nD Cert.WgradOIdeal.τ Cert.WgradOIdeal.sig) → Buf (Elt Ideal) ℓ) (g : Dev Cert.WgradOIdeal.nD → PrngReg)
    (m' : (ℓ : Loc Cert.WgradORefIdeal.nD Cert.WgradORefIdeal.τ Cert.WgradORefIdeal.sig) → Buf (Elt Ideal) ℓ) (g' : Dev Cert.WgradORefIdeal.nD → PrngReg), Pre_WgradOIdeal m →
    (∀ c : Dev Cert.WgradOIdeal.nD,
      m' ((c.tc : Thread Cert.WgradORefIdeal.nD Cert.WgradORefIdeal.τ).loc Cert.WgradORefIdeal.main_arg0) = m ((c.tc : Thread Cert.WgradOIdeal.nD Cert.WgradOIdeal.τ).loc Cert.WgradOIdeal.main_arg0)
      ∧ m' ((c.tc : Thread Cert.WgradORefIdeal.nD Cert.WgradORefIdeal.τ).loc Cert.WgradORefIdeal.main_arg1) = m ((c.tc : Thread Cert.WgradOIdeal.nD Cert.WgradOIdeal.τ).loc Cert.WgradOIdeal.main_arg1)) →
    ∃ (v0 : (c : Dev Cert.WgradOIdeal.nD) → Buf (Elt Ideal) ((c.tc : Thread Cert.WgradOIdeal.nD Cert.WgradOIdeal.τ).loc Cert.WgradOIdeal.main_v0)),
      θ_run (Cert.WgradOIdeal.defs (F := Ideal)) (onTc (τ := Cert.WgradOIdeal.τ) (Cert.WgradOIdeal.main (F := Ideal))) ⟨m, fun _ => 0, g⟩ (fun r => ∀ c : Dev Cert.WgradOIdeal.nD,
          r.2.mem ((c.tc : Thread Cert.WgradOIdeal.nD Cert.WgradOIdeal.τ).loc Cert.WgradOIdeal.main_v0) = v0 c
          ∧ r.2.mem ((c.tc : Thread Cert.WgradOIdeal.nD Cert.WgradOIdeal.τ).loc Cert.WgradOIdeal.main_arg0) = m ((c.tc : Thread Cert.WgradOIdeal.nD Cert.WgradOIdeal.τ).loc Cert.WgradOIdeal.main_arg0)
          ∧ r.2.mem ((c.tc : Thread Cert.WgradOIdeal.nD Cert.WgradOIdeal.τ).loc Cert.WgradOIdeal.main_arg1) = m ((c.tc : Thread Cert.WgradOIdeal.nD Cert.WgradOIdeal.τ).loc Cert.WgradOIdeal.main_arg1))
      ∧ θ_run (Cert.WgradORefIdeal.defs (F := Ideal)) (onTc (τ := Cert.WgradORefIdeal.τ) (Cert.WgradORefIdeal.main (F := Ideal))) ⟨m', fun _ => 0, g'⟩ (fun r => ∀ c : Dev Cert.WgradORefIdeal.nD,
          r.2.mem ((c.tc : Thread Cert.WgradORefIdeal.nD Cert.WgradORefIdeal.τ).loc Cert.WgradORefIdeal.main_v7) = v0 c
          ∧ r.2.mem ((c.tc : Thread Cert.WgradORefIdeal.nD Cert.WgradORefIdeal.τ).loc Cert.WgradORefIdeal.main_arg0) = m' ((c.tc : Thread Cert.WgradORefIdeal.nD Cert.WgradORefIdeal.τ).loc Cert.WgradORefIdeal.main_arg0)
          ∧ r.2.mem ((c.tc : Thread Cert.WgradORefIdeal.nD Cert.WgradORefIdeal.τ).loc Cert.WgradORefIdeal.main_arg1) = m' ((c.tc : Thread Cert.WgradORefIdeal.nD Cert.WgradORefIdeal.τ).loc Cert.WgradORefIdeal.main_arg1))

def preserves_HgradB_HgradBIdeal : Prop :=
  True

def algebraic_HgradBIdeal_HgradBRefIdeal [hHgradBIdeal : Cert.HgradBIdeal.Facts] [hHgradBRefIdeal : Cert.HgradBRefIdeal.Facts] : Prop :=
  ∀ (m : (ℓ : Loc Cert.HgradBIdeal.nD Cert.HgradBIdeal.τ Cert.HgradBIdeal.sig) → Buf (Elt Ideal) ℓ) (g : Dev Cert.HgradBIdeal.nD → PrngReg)
    (m' : (ℓ : Loc Cert.HgradBRefIdeal.nD Cert.HgradBRefIdeal.τ Cert.HgradBRefIdeal.sig) → Buf (Elt Ideal) ℓ) (g' : Dev Cert.HgradBRefIdeal.nD → PrngReg), Pre_HgradBIdeal m →
    (∀ c : Dev Cert.HgradBIdeal.nD,
      m' ((c.tc : Thread Cert.HgradBRefIdeal.nD Cert.HgradBRefIdeal.τ).loc Cert.HgradBRefIdeal.main_arg0) = m ((c.tc : Thread Cert.HgradBIdeal.nD Cert.HgradBIdeal.τ).loc Cert.HgradBIdeal.main_arg0)
      ∧ m' ((c.tc : Thread Cert.HgradBRefIdeal.nD Cert.HgradBRefIdeal.τ).loc Cert.HgradBRefIdeal.main_arg1) = m ((c.tc : Thread Cert.HgradBIdeal.nD Cert.HgradBIdeal.τ).loc Cert.HgradBIdeal.main_arg1)) →
    ∃ (v0 : (c : Dev Cert.HgradBIdeal.nD) → Buf (Elt Ideal) ((c.tc : Thread Cert.HgradBIdeal.nD Cert.HgradBIdeal.τ).loc Cert.HgradBIdeal.main_v0)),
      θ_run (Cert.HgradBIdeal.defs (F := Ideal)) (onTc (τ := Cert.HgradBIdeal.τ) (Cert.HgradBIdeal.main (F := Ideal))) ⟨m, fun _ => 0, g⟩ (fun r => ∀ c : Dev Cert.HgradBIdeal.nD,
          r.2.mem ((c.tc : Thread Cert.HgradBIdeal.nD Cert.HgradBIdeal.τ).loc Cert.HgradBIdeal.main_v0) = v0 c
          ∧ r.2.mem ((c.tc : Thread Cert.HgradBIdeal.nD Cert.HgradBIdeal.τ).loc Cert.HgradBIdeal.main_arg0) = m ((c.tc : Thread Cert.HgradBIdeal.nD Cert.HgradBIdeal.τ).loc Cert.HgradBIdeal.main_arg0)
          ∧ r.2.mem ((c.tc : Thread Cert.HgradBIdeal.nD Cert.HgradBIdeal.τ).loc Cert.HgradBIdeal.main_arg1) = m ((c.tc : Thread Cert.HgradBIdeal.nD Cert.HgradBIdeal.τ).loc Cert.HgradBIdeal.main_arg1))
      ∧ θ_run (Cert.HgradBRefIdeal.defs (F := Ideal)) (onTc (τ := Cert.HgradBRefIdeal.τ) (Cert.HgradBRefIdeal.main (F := Ideal))) ⟨m', fun _ => 0, g'⟩ (fun r => ∀ c : Dev Cert.HgradBRefIdeal.nD,
          r.2.mem ((c.tc : Thread Cert.HgradBRefIdeal.nD Cert.HgradBRefIdeal.τ).loc Cert.HgradBRefIdeal.main_v4) = v0 c
          ∧ r.2.mem ((c.tc : Thread Cert.HgradBRefIdeal.nD Cert.HgradBRefIdeal.τ).loc Cert.HgradBRefIdeal.main_arg0) = m' ((c.tc : Thread Cert.HgradBRefIdeal.nD Cert.HgradBRefIdeal.τ).loc Cert.HgradBRefIdeal.main_arg0)
          ∧ r.2.mem ((c.tc : Thread Cert.HgradBRefIdeal.nD Cert.HgradBRefIdeal.τ).loc Cert.HgradBRefIdeal.main_arg1) = m' ((c.tc : Thread Cert.HgradBRefIdeal.nD Cert.HgradBRefIdeal.τ).loc Cert.HgradBRefIdeal.main_arg1))

def preserves_HgradA_HgradAIdeal : Prop :=
  True

def algebraic_HgradAIdeal_HgradARefIdeal [hHgradAIdeal : Cert.HgradAIdeal.Facts] [hHgradARefIdeal : Cert.HgradARefIdeal.Facts] : Prop :=
  ∀ (m : (ℓ : Loc Cert.HgradAIdeal.nD Cert.HgradAIdeal.τ Cert.HgradAIdeal.sig) → Buf (Elt Ideal) ℓ) (g : Dev Cert.HgradAIdeal.nD → PrngReg)
    (m' : (ℓ : Loc Cert.HgradARefIdeal.nD Cert.HgradARefIdeal.τ Cert.HgradARefIdeal.sig) → Buf (Elt Ideal) ℓ) (g' : Dev Cert.HgradARefIdeal.nD → PrngReg), Pre_HgradAIdeal m →
    (∀ c : Dev Cert.HgradAIdeal.nD,
      m' ((c.tc : Thread Cert.HgradARefIdeal.nD Cert.HgradARefIdeal.τ).loc Cert.HgradARefIdeal.main_arg0) = m ((c.tc : Thread Cert.HgradAIdeal.nD Cert.HgradAIdeal.τ).loc Cert.HgradAIdeal.main_arg0)
      ∧ m' ((c.tc : Thread Cert.HgradARefIdeal.nD Cert.HgradARefIdeal.τ).loc Cert.HgradARefIdeal.main_arg1) = m ((c.tc : Thread Cert.HgradAIdeal.nD Cert.HgradAIdeal.τ).loc Cert.HgradAIdeal.main_arg1)
      ∧ m' ((c.tc : Thread Cert.HgradARefIdeal.nD Cert.HgradARefIdeal.τ).loc Cert.HgradARefIdeal.main_arg2) = m ((c.tc : Thread Cert.HgradAIdeal.nD Cert.HgradAIdeal.τ).loc Cert.HgradAIdeal.main_arg2)) →
    ∃ (v0 : (c : Dev Cert.HgradAIdeal.nD) → Buf (Elt Ideal) ((c.tc : Thread Cert.HgradAIdeal.nD Cert.HgradAIdeal.τ).loc Cert.HgradAIdeal.main_v0)),
      θ_run (Cert.HgradAIdeal.defs (F := Ideal)) (onTc (τ := Cert.HgradAIdeal.τ) (Cert.HgradAIdeal.main (F := Ideal))) ⟨m, fun _ => 0, g⟩ (fun r => ∀ c : Dev Cert.HgradAIdeal.nD,
          r.2.mem ((c.tc : Thread Cert.HgradAIdeal.nD Cert.HgradAIdeal.τ).loc Cert.HgradAIdeal.main_v0) = v0 c
          ∧ r.2.mem ((c.tc : Thread Cert.HgradAIdeal.nD Cert.HgradAIdeal.τ).loc Cert.HgradAIdeal.main_arg0) = m ((c.tc : Thread Cert.HgradAIdeal.nD Cert.HgradAIdeal.τ).loc Cert.HgradAIdeal.main_arg0)
          ∧ r.2.mem ((c.tc : Thread Cert.HgradAIdeal.nD Cert.HgradAIdeal.τ).loc Cert.HgradAIdeal.main_arg1) = m ((c.tc : Thread Cert.HgradAIdeal.nD Cert.HgradAIdeal.τ).loc Cert.HgradAIdeal.main_arg1)
          ∧ r.2.mem ((c.tc : Thread Cert.HgradAIdeal.nD Cert.HgradAIdeal.τ).loc Cert.HgradAIdeal.main_arg2) = m ((c.tc : Thread Cert.HgradAIdeal.nD Cert.HgradAIdeal.τ).loc Cert.HgradAIdeal.main_arg2))
      ∧ θ_run (Cert.HgradARefIdeal.defs (F := Ideal)) (onTc (τ := Cert.HgradARefIdeal.τ) (Cert.HgradARefIdeal.main (F := Ideal))) ⟨m', fun _ => 0, g'⟩ (fun r => ∀ c : Dev Cert.HgradARefIdeal.nD,
          r.2.mem ((c.tc : Thread Cert.HgradARefIdeal.nD Cert.HgradARefIdeal.τ).loc Cert.HgradARefIdeal.main_v5) = v0 c
          ∧ r.2.mem ((c.tc : Thread Cert.HgradARefIdeal.nD Cert.HgradARefIdeal.τ).loc Cert.HgradARefIdeal.main_arg0) = m' ((c.tc : Thread Cert.HgradARefIdeal.nD Cert.HgradARefIdeal.τ).loc Cert.HgradARefIdeal.main_arg0)
          ∧ r.2.mem ((c.tc : Thread Cert.HgradARefIdeal.nD Cert.HgradARefIdeal.τ).loc Cert.HgradARefIdeal.main_arg1) = m' ((c.tc : Thread Cert.HgradARefIdeal.nD Cert.HgradARefIdeal.τ).loc Cert.HgradARefIdeal.main_arg1)
          ∧ r.2.mem ((c.tc : Thread Cert.HgradARefIdeal.nD Cert.HgradARefIdeal.τ).loc Cert.HgradARefIdeal.main_arg2) = m' ((c.tc : Thread Cert.HgradARefIdeal.nD Cert.HgradARefIdeal.τ).loc Cert.HgradARefIdeal.main_arg2))

def preserves_HgradG_HgradGIdeal : Prop :=
  True

def algebraic_HgradGIdeal_HgradGRefIdeal [hHgradGIdeal : Cert.HgradGIdeal.Facts] [hHgradGRefIdeal : Cert.HgradGRefIdeal.Facts] : Prop :=
  ∀ (m : (ℓ : Loc Cert.HgradGIdeal.nD Cert.HgradGIdeal.τ Cert.HgradGIdeal.sig) → Buf (Elt Ideal) ℓ) (g : Dev Cert.HgradGIdeal.nD → PrngReg)
    (m' : (ℓ : Loc Cert.HgradGRefIdeal.nD Cert.HgradGRefIdeal.τ Cert.HgradGRefIdeal.sig) → Buf (Elt Ideal) ℓ) (g' : Dev Cert.HgradGRefIdeal.nD → PrngReg), Pre_HgradGIdeal m →
    (∀ c : Dev Cert.HgradGIdeal.nD,
      m' ((c.tc : Thread Cert.HgradGRefIdeal.nD Cert.HgradGRefIdeal.τ).loc Cert.HgradGRefIdeal.main_arg0) = m ((c.tc : Thread Cert.HgradGIdeal.nD Cert.HgradGIdeal.τ).loc Cert.HgradGIdeal.main_arg0)
      ∧ m' ((c.tc : Thread Cert.HgradGRefIdeal.nD Cert.HgradGRefIdeal.τ).loc Cert.HgradGRefIdeal.main_arg1) = m ((c.tc : Thread Cert.HgradGIdeal.nD Cert.HgradGIdeal.τ).loc Cert.HgradGIdeal.main_arg1)
      ∧ m' ((c.tc : Thread Cert.HgradGRefIdeal.nD Cert.HgradGRefIdeal.τ).loc Cert.HgradGRefIdeal.main_arg2) = m ((c.tc : Thread Cert.HgradGIdeal.nD Cert.HgradGIdeal.τ).loc Cert.HgradGIdeal.main_arg2)) →
    ∃ (v0 : (c : Dev Cert.HgradGIdeal.nD) → Buf (Elt Ideal) ((c.tc : Thread Cert.HgradGIdeal.nD Cert.HgradGIdeal.τ).loc Cert.HgradGIdeal.main_v0)),
      θ_run (Cert.HgradGIdeal.defs (F := Ideal)) (onTc (τ := Cert.HgradGIdeal.τ) (Cert.HgradGIdeal.main (F := Ideal))) ⟨m, fun _ => 0, g⟩ (fun r => ∀ c : Dev Cert.HgradGIdeal.nD,
          r.2.mem ((c.tc : Thread Cert.HgradGIdeal.nD Cert.HgradGIdeal.τ).loc Cert.HgradGIdeal.main_v0) = v0 c
          ∧ r.2.mem ((c.tc : Thread Cert.HgradGIdeal.nD Cert.HgradGIdeal.τ).loc Cert.HgradGIdeal.main_arg0) = m ((c.tc : Thread Cert.HgradGIdeal.nD Cert.HgradGIdeal.τ).loc Cert.HgradGIdeal.main_arg0)
          ∧ r.2.mem ((c.tc : Thread Cert.HgradGIdeal.nD Cert.HgradGIdeal.τ).loc Cert.HgradGIdeal.main_arg1) = m ((c.tc : Thread Cert.HgradGIdeal.nD Cert.HgradGIdeal.τ).loc Cert.HgradGIdeal.main_arg1)
          ∧ r.2.mem ((c.tc : Thread Cert.HgradGIdeal.nD Cert.HgradGIdeal.τ).loc Cert.HgradGIdeal.main_arg2) = m ((c.tc : Thread Cert.HgradGIdeal.nD Cert.HgradGIdeal.τ).loc Cert.HgradGIdeal.main_arg2))
      ∧ θ_run (Cert.HgradGRefIdeal.defs (F := Ideal)) (onTc (τ := Cert.HgradGRefIdeal.τ) (Cert.HgradGRefIdeal.main (F := Ideal))) ⟨m', fun _ => 0, g'⟩ (fun r => ∀ c : Dev Cert.HgradGRefIdeal.nD,
          r.2.mem ((c.tc : Thread Cert.HgradGRefIdeal.nD Cert.HgradGRefIdeal.τ).loc Cert.HgradGRefIdeal.main_v5) = v0 c
          ∧ r.2.mem ((c.tc : Thread Cert.HgradGRefIdeal.nD Cert.HgradGRefIdeal.τ).loc Cert.HgradGRefIdeal.main_arg0) = m' ((c.tc : Thread Cert.HgradGRefIdeal.nD Cert.HgradGRefIdeal.τ).loc Cert.HgradGRefIdeal.main_arg0)
          ∧ r.2.mem ((c.tc : Thread Cert.HgradGRefIdeal.nD Cert.HgradGRefIdeal.τ).loc Cert.HgradGRefIdeal.main_arg1) = m' ((c.tc : Thread Cert.HgradGRefIdeal.nD Cert.HgradGRefIdeal.τ).loc Cert.HgradGRefIdeal.main_arg1)
          ∧ r.2.mem ((c.tc : Thread Cert.HgradGRefIdeal.nD Cert.HgradGRefIdeal.τ).loc Cert.HgradGRefIdeal.main_arg2) = m' ((c.tc : Thread Cert.HgradGRefIdeal.nD Cert.HgradGRefIdeal.τ).loc Cert.HgradGRefIdeal.main_arg2))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v2) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v2) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjG_ProjGIdeal : Prop :=
  True

def algebraic_ProjGIdeal_ProjGRefIdeal [hProjGIdeal : Cert.ProjGIdeal.Facts] [hProjGRefIdeal : Cert.ProjGRefIdeal.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.ProjGRefIdeal.nD Cert.ProjGRefIdeal.τ Cert.ProjGRefIdeal.sig) → Buf (Elt Ideal) ℓ) (g' : Dev Cert.ProjGRefIdeal.nD → PrngReg), Pre_ProjGIdeal m →
    (∀ c : Dev Cert.ProjGIdeal.nD,
      m' ((c.tc : Thread Cert.ProjGRefIdeal.nD Cert.ProjGRefIdeal.τ).loc Cert.ProjGRefIdeal.main_arg0) = m ((c.tc : Thread Cert.ProjGIdeal.nD Cert.ProjGIdeal.τ).loc Cert.ProjGIdeal.main_arg0)
      ∧ m' ((c.tc : Thread Cert.ProjGRefIdeal.nD Cert.ProjGRefIdeal.τ).loc Cert.ProjGRefIdeal.main_arg1) = m ((c.tc : Thread Cert.ProjGIdeal.nD Cert.ProjGIdeal.τ).loc Cert.ProjGIdeal.main_arg1)) →
    ∃ (v0 : (c : Dev Cert.ProjGIdeal.nD) → Buf (Elt Ideal) ((c.tc : Thread Cert.ProjGIdeal.nD Cert.ProjGIdeal.τ).loc Cert.ProjGIdeal.main_v0)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v0) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ θ_run (Cert.ProjGRefIdeal.defs (F := Ideal)) (onTc (τ := Cert.ProjGRefIdeal.τ) (Cert.ProjGRefIdeal.main (F := Ideal))) ⟨m', fun _ => 0, g'⟩ (fun r => ∀ c : Dev Cert.ProjGRefIdeal.nD,
          r.2.mem ((c.tc : Thread Cert.ProjGRefIdeal.nD Cert.ProjGRefIdeal.τ).loc Cert.ProjGRefIdeal.main_v2) = v0 c
          ∧ r.2.mem ((c.tc : Thread Cert.ProjGRefIdeal.nD Cert.ProjGRefIdeal.τ).loc Cert.ProjGRefIdeal.main_arg0) = m' ((c.tc : Thread Cert.ProjGRefIdeal.nD Cert.ProjGRefIdeal.τ).loc Cert.ProjGRefIdeal.main_arg0)
          ∧ r.2.mem ((c.tc : Thread Cert.ProjGRefIdeal.nD Cert.ProjGRefIdeal.τ).loc Cert.ProjGRefIdeal.main_arg1) = m' ((c.tc : Thread Cert.ProjGRefIdeal.nD Cert.ProjGRefIdeal.τ).loc Cert.ProjGRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v24_0)) (v1 : (c : Dev Cert.MergeIdeal.nD) → Buf (Elt Ideal) ((c.tc : Thread Cert.MergeIdeal.nD Cert.MergeIdeal.τ).loc Cert.MergeIdeal.main_v24_1)) (v2 : (c : Dev Cert.MergeIdeal.nD) → Buf (Elt Ideal) ((c.tc : Thread Cert.MergeIdeal.nD Cert.MergeIdeal.τ).loc Cert.MergeIdeal.main_v24_2)) (v3 : (c : Dev Cert.MergeIdeal.nD) → Buf (Elt Ideal) ((c.tc : Thread Cert.MergeIdeal.nD Cert.MergeIdeal.τ).loc Cert.MergeIdeal.main_v24_3)) (v4 : (c : Dev Cert.MergeIdeal.nD) → Buf (Elt Ideal) ((c.tc : Thread Cert.MergeIdeal.nD Cert.MergeIdeal.τ).loc Cert.MergeIdeal.main_v24_4)) (v5 : (c : Dev Cert.MergeIdeal.nD) → Buf (Elt Ideal) ((c.tc : Thread Cert.MergeIdeal.nD Cert.MergeIdeal.τ).loc Cert.MergeIdeal.main_v24_5)) (v6 : (c : Dev Cert.MergeIdeal.nD) → Buf (Elt Ideal) ((c.tc : Thread Cert.MergeIdeal.nD Cert.MergeIdeal.τ).loc Cert.MergeIdeal.main_v24_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v24_0) = v0 c
          ∧ r.2.mem ((c.tc : Thread Cert.MergeIdeal.nD Cert.MergeIdeal.τ).loc Cert.MergeIdeal.main_v24_1) = v1 c
          ∧ r.2.mem ((c.tc : Thread Cert.MergeIdeal.nD Cert.MergeIdeal.τ).loc Cert.MergeIdeal.main_v24_2) = v2 c
          ∧ r.2.mem ((c.tc : Thread Cert.MergeIdeal.nD Cert.MergeIdeal.τ).loc Cert.MergeIdeal.main_v24_3) = v3 c
          ∧ r.2.mem ((c.tc : Thread Cert.MergeIdeal.nD Cert.MergeIdeal.τ).loc Cert.MergeIdeal.main_v24_4) = v4 c
          ∧ r.2.mem ((c.tc : Thread Cert.MergeIdeal.nD Cert.MergeIdeal.τ).loc Cert.MergeIdeal.main_v24_5) = v5 c
          ∧ r.2.mem ((c.tc : Thread Cert.MergeIdeal.nD Cert.MergeIdeal.τ).loc Cert.MergeIdeal.main_v24_6) = v6 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v52) = v0 c
          ∧ r.2.mem ((c.tc : Thread Cert.MergeRefIdeal.nD Cert.MergeRefIdeal.τ).loc Cert.MergeRefIdeal.main_v53) = v1 c
          ∧ r.2.mem ((c.tc : Thread Cert.MergeRefIdeal.nD Cert.MergeRefIdeal.τ).loc Cert.MergeRefIdeal.main_v54) = v2 c
          ∧ r.2.mem ((c.tc : Thread Cert.MergeRefIdeal.nD Cert.MergeRefIdeal.τ).loc Cert.MergeRefIdeal.main_v55) = v3 c
          ∧ r.2.mem ((c.tc : Thread Cert.MergeRefIdeal.nD Cert.MergeRefIdeal.τ).loc Cert.MergeRefIdeal.main_v56) = v4 c
          ∧ r.2.mem ((c.tc : Thread Cert.MergeRefIdeal.nD Cert.MergeRefIdeal.τ).loc Cert.MergeRefIdeal.main_v57) = v5 c
          ∧ r.2.mem ((c.tc : Thread Cert.MergeRefIdeal.nD Cert.MergeRefIdeal.τ).loc Cert.MergeRefIdeal.main_v41) = v6 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)) (v3 : (c : Dev Cert.MergeFwdIdeal.nD) → Buf (Elt Ideal) ((c.tc : Thread Cert.MergeFwdIdeal.nD Cert.MergeFwdIdeal.τ).loc Cert.MergeFwdIdeal.main_v0_3)) (v4 : (c : Dev Cert.MergeFwdIdeal.nD) → Buf (Elt Ideal) ((c.tc : Thread Cert.MergeFwdIdeal.nD Cert.MergeFwdIdeal.τ).loc Cert.MergeFwdIdeal.main_v0_4)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_v0_3) = v3 c
          ∧ r.2.mem ((c.tc : Thread Cert.MergeFwdIdeal.nD Cert.MergeFwdIdeal.τ).loc Cert.MergeFwdIdeal.main_v0_4) = v4 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v27) = v0 c
          ∧ r.2.mem ((c.tc : Thread Cert.MergeFwdRefIdeal.nD Cert.MergeFwdRefIdeal.τ).loc Cert.MergeFwdRefIdeal.main_v28) = v1 c
          ∧ r.2.mem ((c.tc : Thread Cert.MergeFwdRefIdeal.nD Cert.MergeFwdRefIdeal.τ).loc Cert.MergeFwdRefIdeal.main_v29) = v2 c
          ∧ r.2.mem ((c.tc : Thread Cert.MergeFwdRefIdeal.nD Cert.MergeFwdRefIdeal.τ).loc Cert.MergeFwdRefIdeal.main_v30) = v3 c
          ∧ r.2.mem ((c.tc : Thread Cert.MergeFwdRefIdeal.nD Cert.MergeFwdRefIdeal.τ).loc Cert.MergeFwdRefIdeal.main_v31) = v4 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)) →
    ∃ (v0 : (c : Dev Cert.AdaIdeal.nD) → Buf (Elt Ideal) ((c.tc : Thread Cert.AdaIdeal.nD Cert.AdaIdeal.τ).loc Cert.AdaIdeal.main_v0_0)) (v1 : (c : Dev Cert.AdaIdeal.nD) → Buf (Elt Ideal) ((c.tc : Thread Cert.AdaIdeal.nD Cert.AdaIdeal.τ).loc Cert.AdaIdeal.main_v0_1)) (v2 : (c : Dev Cert.AdaIdeal.nD) → Buf (Elt Ideal) ((c.tc : Thread Cert.AdaIdeal.nD Cert.AdaIdeal.τ).loc Cert.AdaIdeal.main_v0_2)) (v3 : (c : Dev Cert.AdaIdeal.nD) → Buf (Elt Ideal) ((c.tc : Thread Cert.AdaIdeal.nD Cert.AdaIdeal.τ).loc Cert.AdaIdeal.main_v0_3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0_0) = v0 c
          ∧ r.2.mem ((c.tc : Thread Cert.AdaIdeal.nD Cert.AdaIdeal.τ).loc Cert.AdaIdeal.main_v0_1) = v1 c
          ∧ r.2.mem ((c.tc : Thread Cert.AdaIdeal.nD Cert.AdaIdeal.τ).loc Cert.AdaIdeal.main_v0_2) = v2 c
          ∧ r.2.mem ((c.tc : Thread Cert.AdaIdeal.nD Cert.AdaIdeal.τ).loc Cert.AdaIdeal.main_v0_3) = v3 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v18) = v0 c
          ∧ r.2.mem ((c.tc : Thread Cert.AdaRefIdeal.nD Cert.AdaRefIdeal.τ).loc Cert.AdaRefIdeal.main_v42) = v1 c
          ∧ r.2.mem ((c.tc : Thread Cert.AdaRefIdeal.nD Cert.AdaRefIdeal.τ).loc Cert.AdaRefIdeal.main_v23) = v2 c
          ∧ r.2.mem ((c.tc : Thread Cert.AdaRefIdeal.nD Cert.AdaRefIdeal.τ).loc Cert.AdaRefIdeal.main_v29) = v3 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4))

def preserves_AdamA_AdamAIdeal : Prop :=
  True

def algebraic_AdamAIdeal_AdamARefIdeal [hAdamAIdeal : Cert.AdamAIdeal.Facts] [hAdamARefIdeal : Cert.AdamARefIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.AdamARefIdeal.nD Cert.AdamARefIdeal.τ Cert.AdamARefIdeal.sig) → Buf (Elt Ideal) ℓ) (g' : Dev Cert.AdamARefIdeal.nD → PrngReg), Pre_AdamAIdeal m →
    (∀ c : Dev Cert.AdamAIdeal.nD,
      m' ((c.tc : Thread Cert.AdamARefIdeal.nD Cert.AdamARefIdeal.τ).loc Cert.AdamARefIdeal.main_arg0) = m ((c.tc : Thread Cert.AdamAIdeal.nD Cert.AdamAIdeal.τ).loc Cert.AdamAIdeal.main_arg0)
      ∧ m' ((c.tc : Thread Cert.AdamARefIdeal.nD Cert.AdamARefIdeal.τ).loc Cert.AdamARefIdeal.main_arg1) = m ((c.tc : Thread Cert.AdamAIdeal.nD Cert.AdamAIdeal.τ).loc Cert.AdamAIdeal.main_arg1)
      ∧ m' ((c.tc : Thread Cert.AdamARefIdeal.nD Cert.AdamARefIdeal.τ).loc Cert.AdamARefIdeal.main_arg2) = m ((c.tc : Thread Cert.AdamAIdeal.nD Cert.AdamAIdeal.τ).loc Cert.AdamAIdeal.main_arg2)
      ∧ m' ((c.tc : Thread Cert.AdamARefIdeal.nD Cert.AdamARefIdeal.τ).loc Cert.AdamARefIdeal.main_arg3) = m ((c.tc : Thread Cert.AdamAIdeal.nD Cert.AdamAIdeal.τ).loc Cert.AdamAIdeal.main_arg3)
      ∧ m' ((c.tc : Thread Cert.AdamARefIdeal.nD Cert.AdamARefIdeal.τ).loc Cert.AdamARefIdeal.main_arg4) = m ((c.tc : Thread Cert.AdamAIdeal.nD Cert.AdamAIdeal.τ).loc Cert.AdamAIdeal.main_arg4)
      ∧ m' ((c.tc : Thread Cert.AdamARefIdeal.nD Cert.AdamARefIdeal.τ).loc Cert.AdamARefIdeal.main_arg5) = m ((c.tc : Thread Cert.AdamAIdeal.nD Cert.AdamAIdeal.τ).loc Cert.AdamAIdeal.main_arg5)) →
    ∃ (v0 : (c : Dev Cert.AdamAIdeal.nD) → Buf (Elt Ideal) ((c.tc : Thread Cert.AdamAIdeal.nD Cert.AdamAIdeal.τ).loc Cert.AdamAIdeal.main_v0_0)) (v1 : (c : Dev Cert.AdamAIdeal.nD) → Buf (Elt Ideal) ((c.tc : Thread Cert.AdamAIdeal.nD Cert.AdamAIdeal.τ).loc Cert.AdamAIdeal.main_v0_1)) (v2 : (c : Dev Cert.AdamAIdeal.nD) → Buf (Elt Ideal) ((c.tc : Thread Cert.AdamAIdeal.nD Cert.AdamAIdeal.τ).loc Cert.AdamAIdeal.main_v0_2)) (v3 : (c : Dev Cert.AdamAIdeal.nD) → Buf (Elt Ideal) ((c.tc : Thread Cert.AdamAIdeal.nD Cert.AdamAIdeal.τ).loc Cert.AdamAIdeal.main_v0_3)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v0_0) = v0 c
          ∧ r.2.mem ((c.tc : Thread Cert.AdamAIdeal.nD Cert.AdamAIdeal.τ).loc Cert.AdamAIdeal.main_v0_1) = v1 c
          ∧ r.2.mem ((c.tc : Thread Cert.AdamAIdeal.nD Cert.AdamAIdeal.τ).loc Cert.AdamAIdeal.main_v0_2) = v2 c
          ∧ r.2.mem ((c.tc : Thread Cert.AdamAIdeal.nD Cert.AdamAIdeal.τ).loc Cert.AdamAIdeal.main_v0_3) = v3 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3)
          ∧ r.2.mem ((c.tc : Thread Cert.AdamAIdeal.nD Cert.AdamAIdeal.τ).loc Cert.AdamAIdeal.main_arg4) = m ((c.tc : Thread Cert.AdamAIdeal.nD Cert.AdamAIdeal.τ).loc Cert.AdamAIdeal.main_arg4)
          ∧ r.2.mem ((c.tc : Thread Cert.AdamAIdeal.nD Cert.AdamAIdeal.τ).loc Cert.AdamAIdeal.main_arg5) = m ((c.tc : Thread Cert.AdamAIdeal.nD Cert.AdamAIdeal.τ).loc Cert.AdamAIdeal.main_arg5))
      ∧ θ_run (Cert.AdamARefIdeal.defs (F := Ideal)) (onTc (τ := Cert.AdamARefIdeal.τ) (Cert.AdamARefIdeal.main (F := Ideal))) ⟨m', fun _ => 0, g'⟩ (fun r => ∀ c : Dev Cert.AdamARefIdeal.nD,
          r.2.mem ((c.tc : Thread Cert.AdamARefIdeal.nD Cert.AdamARefIdeal.τ).loc Cert.AdamARefIdeal.main_v4) = v0 c
          ∧ r.2.mem ((c.tc : Thread Cert.AdamARefIdeal.nD Cert.AdamARefIdeal.τ).loc Cert.AdamARefIdeal.main_v28) = v1 c
          ∧ r.2.mem ((c.tc : Thread Cert.AdamARefIdeal.nD Cert.AdamARefIdeal.τ).loc Cert.AdamARefIdeal.main_v9) = v2 c
          ∧ r.2.mem ((c.tc : Thread Cert.AdamARefIdeal.nD Cert.AdamARefIdeal.τ).loc Cert.AdamARefIdeal.main_v15) = v3 c
          ∧ r.2.mem ((c.tc : Thread Cert.AdamARefIdeal.nD Cert.AdamARefIdeal.τ).loc Cert.AdamARefIdeal.main_arg0) = m' ((c.tc : Thread Cert.AdamARefIdeal.nD Cert.AdamARefIdeal.τ).loc Cert.AdamARefIdeal.main_arg0)
          ∧ r.2.mem ((c.tc : Thread Cert.AdamARefIdeal.nD Cert.AdamARefIdeal.τ).loc Cert.AdamARefIdeal.main_arg1) = m' ((c.tc : Thread Cert.AdamARefIdeal.nD Cert.AdamARefIdeal.τ).loc Cert.AdamARefIdeal.main_arg1)
          ∧ r.2.mem ((c.tc : Thread Cert.AdamARefIdeal.nD Cert.AdamARefIdeal.τ).loc Cert.AdamARefIdeal.main_arg2) = m' ((c.tc : Thread Cert.AdamARefIdeal.nD Cert.AdamARefIdeal.τ).loc Cert.AdamARefIdeal.main_arg2)
          ∧ r.2.mem ((c.tc : Thread Cert.AdamARefIdeal.nD Cert.AdamARefIdeal.τ).loc Cert.AdamARefIdeal.main_arg3) = m' ((c.tc : Thread Cert.AdamARefIdeal.nD Cert.AdamARefIdeal.τ).loc Cert.AdamARefIdeal.main_arg3)
          ∧ r.2.mem ((c.tc : Thread Cert.AdamARefIdeal.nD Cert.AdamARefIdeal.τ).loc Cert.AdamARefIdeal.main_arg4) = m' ((c.tc : Thread Cert.AdamARefIdeal.nD Cert.AdamARefIdeal.τ).loc Cert.AdamARefIdeal.main_arg4)
          ∧ r.2.mem ((c.tc : Thread Cert.AdamARefIdeal.nD Cert.AdamARefIdeal.τ).loc Cert.AdamARefIdeal.main_arg5) = m' ((c.tc : Thread Cert.AdamARefIdeal.nD Cert.AdamARefIdeal.τ).loc Cert.AdamARefIdeal.main_arg5))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)
      ∧ m' ((c.tc : Thread Cert.AdamBRefIdeal.nD Cert.AdamBRefIdeal.τ).loc Cert.AdamBRefIdeal.main_arg4) = m ((c.tc : Thread Cert.AdamBIdeal.nD Cert.AdamBIdeal.τ).loc Cert.AdamBIdeal.main_arg4)
      ∧ m' ((c.tc : Thread Cert.AdamBRefIdeal.nD Cert.AdamBRefIdeal.τ).loc Cert.AdamBRefIdeal.main_arg5) = m ((c.tc : Thread Cert.AdamBIdeal.nD Cert.AdamBIdeal.τ).loc Cert.AdamBIdeal.main_arg5)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)) (v3 : (c : Dev Cert.AdamBIdeal.nD) → Buf (Elt Ideal) ((c.tc : Thread Cert.AdamBIdeal.nD Cert.AdamBIdeal.τ).loc Cert.AdamBIdeal.main_v0_3)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_v0_3) = v3 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3)
          ∧ r.2.mem ((c.tc : Thread Cert.AdamBIdeal.nD Cert.AdamBIdeal.τ).loc Cert.AdamBIdeal.main_arg4) = m ((c.tc : Thread Cert.AdamBIdeal.nD Cert.AdamBIdeal.τ).loc Cert.AdamBIdeal.main_arg4)
          ∧ r.2.mem ((c.tc : Thread Cert.AdamBIdeal.nD Cert.AdamBIdeal.τ).loc Cert.AdamBIdeal.main_arg5) = m ((c.tc : Thread Cert.AdamBIdeal.nD Cert.AdamBIdeal.τ).loc Cert.AdamBIdeal.main_arg5))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v4) = v0 c
          ∧ r.2.mem ((c.tc : Thread Cert.AdamBRefIdeal.nD Cert.AdamBRefIdeal.τ).loc Cert.AdamBRefIdeal.main_v28) = v1 c
          ∧ r.2.mem ((c.tc : Thread Cert.AdamBRefIdeal.nD Cert.AdamBRefIdeal.τ).loc Cert.AdamBRefIdeal.main_v9) = v2 c
          ∧ r.2.mem ((c.tc : Thread Cert.AdamBRefIdeal.nD Cert.AdamBRefIdeal.τ).loc Cert.AdamBRefIdeal.main_v15) = v3 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3)
          ∧ r.2.mem ((c.tc : Thread Cert.AdamBRefIdeal.nD Cert.AdamBRefIdeal.τ).loc Cert.AdamBRefIdeal.main_arg4) = m' ((c.tc : Thread Cert.AdamBRefIdeal.nD Cert.AdamBRefIdeal.τ).loc Cert.AdamBRefIdeal.main_arg4)
          ∧ r.2.mem ((c.tc : Thread Cert.AdamBRefIdeal.nD Cert.AdamBRefIdeal.τ).loc Cert.AdamBRefIdeal.main_arg5) = m' ((c.tc : Thread Cert.AdamBRefIdeal.nD Cert.AdamBRefIdeal.τ).loc Cert.AdamBRefIdeal.main_arg5))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v4) = v0 c
          ∧ r.2.mem ((c.tc : Thread Cert.AdamInRefIdeal.nD Cert.AdamInRefIdeal.τ).loc Cert.AdamInRefIdeal.main_v28) = v1 c
          ∧ r.2.mem ((c.tc : Thread Cert.AdamInRefIdeal.nD Cert.AdamInRefIdeal.τ).loc Cert.AdamInRefIdeal.main_v9) = v2 c
          ∧ r.2.mem ((c.tc : Thread Cert.AdamInRefIdeal.nD Cert.AdamInRefIdeal.τ).loc Cert.AdamInRefIdeal.main_v15) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def Claim : Prop :=
  ∃ (hKernel : Cert.Kernel.Facts) (hKernelIdeal : Cert.KernelIdeal.Facts) (hReferenceIdeal : Cert.ReferenceIdeal.Facts) (hWgradB : Cert.WgradB.Facts) (hWgradBIdeal : Cert.WgradBIdeal.Facts) (hWgradBRefIdeal : Cert.WgradBRefIdeal.Facts) (hWgradA : Cert.WgradA.Facts) (hWgradAIdeal : Cert.WgradAIdeal.Facts) (hWgradARefIdeal : Cert.WgradARefIdeal.Facts) (hWgradG : Cert.WgradG.Facts) (hWgradGIdeal : Cert.WgradGIdeal.Facts) (hWgradGRefIdeal : Cert.WgradGRefIdeal.Facts) (hWgradO : Cert.WgradO.Facts) (hWgradOIdeal : Cert.WgradOIdeal.Facts) (hWgradORefIdeal : Cert.WgradORefIdeal.Facts) (hHgradB : Cert.HgradB.Facts) (hHgradBIdeal : Cert.HgradBIdeal.Facts) (hHgradBRefIdeal : Cert.HgradBRefIdeal.Facts) (hHgradA : Cert.HgradA.Facts) (hHgradAIdeal : Cert.HgradAIdeal.Facts) (hHgradARefIdeal : Cert.HgradARefIdeal.Facts) (hHgradG : Cert.HgradG.Facts) (hHgradGIdeal : Cert.HgradGIdeal.Facts) (hHgradGRefIdeal : Cert.HgradGRefIdeal.Facts) (hProjB : Cert.ProjB.Facts) (hProjBIdeal : Cert.ProjBIdeal.Facts) (hProjBRefIdeal : Cert.ProjBRefIdeal.Facts) (hProjA : Cert.ProjA.Facts) (hProjAIdeal : Cert.ProjAIdeal.Facts) (hProjARefIdeal : Cert.ProjARefIdeal.Facts) (hProjG : Cert.ProjG.Facts) (hProjGIdeal : Cert.ProjGIdeal.Facts) (hProjGRefIdeal : Cert.ProjGRefIdeal.Facts) (hMerge : Cert.Merge.Facts) (hMergeIdeal : Cert.MergeIdeal.Facts) (hMergeRefIdeal : Cert.MergeRefIdeal.Facts) (hMergeFwd : Cert.MergeFwd.Facts) (hMergeFwdIdeal : Cert.MergeFwdIdeal.Facts) (hMergeFwdRefIdeal : Cert.MergeFwdRefIdeal.Facts) (hAdam : Cert.Adam.Facts) (hAdamIdeal : Cert.AdamIdeal.Facts) (hAdamRefIdeal : Cert.AdamRefIdeal.Facts) (hAda : Cert.Ada.Facts) (hAdaIdeal : Cert.AdaIdeal.Facts) (hAdaRefIdeal : Cert.AdaRefIdeal.Facts) (hAdamA : Cert.AdamA.Facts) (hAdamAIdeal : Cert.AdamAIdeal.Facts) (hAdamARefIdeal : Cert.AdamARefIdeal.Facts) (hAdamB : Cert.AdamB.Facts) (hAdamBIdeal : Cert.AdamBIdeal.Facts) (hAdamBRefIdeal : Cert.AdamBRefIdeal.Facts) (hAdamIn : Cert.AdamIn.Facts) (hAdamInIdeal : Cert.AdamInIdeal.Facts) (hAdamInRefIdeal : Cert.AdamInRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WgradB (hWgradB := hWgradB)
    ∧ quiescent_WgradBIdeal (hWgradBIdeal := hWgradBIdeal)
    ∧ quiescent_WgradBRefIdeal (hWgradBRefIdeal := hWgradBRefIdeal)
    ∧ quiescent_WgradA (hWgradA := hWgradA)
    ∧ quiescent_WgradAIdeal (hWgradAIdeal := hWgradAIdeal)
    ∧ quiescent_WgradARefIdeal (hWgradARefIdeal := hWgradARefIdeal)
    ∧ quiescent_WgradG (hWgradG := hWgradG)
    ∧ quiescent_WgradGIdeal (hWgradGIdeal := hWgradGIdeal)
    ∧ quiescent_WgradGRefIdeal (hWgradGRefIdeal := hWgradGRefIdeal)
    ∧ quiescent_WgradO (hWgradO := hWgradO)
    ∧ quiescent_WgradOIdeal (hWgradOIdeal := hWgradOIdeal)
    ∧ quiescent_WgradORefIdeal (hWgradORefIdeal := hWgradORefIdeal)
    ∧ quiescent_HgradB (hHgradB := hHgradB)
    ∧ quiescent_HgradBIdeal (hHgradBIdeal := hHgradBIdeal)
    ∧ quiescent_HgradBRefIdeal (hHgradBRefIdeal := hHgradBRefIdeal)
    ∧ quiescent_HgradA (hHgradA := hHgradA)
    ∧ quiescent_HgradAIdeal (hHgradAIdeal := hHgradAIdeal)
    ∧ quiescent_HgradARefIdeal (hHgradARefIdeal := hHgradARefIdeal)
    ∧ quiescent_HgradG (hHgradG := hHgradG)
    ∧ quiescent_HgradGIdeal (hHgradGIdeal := hHgradGIdeal)
    ∧ quiescent_HgradGRefIdeal (hHgradGRefIdeal := hHgradGRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjG (hProjG := hProjG)
    ∧ quiescent_ProjGIdeal (hProjGIdeal := hProjGIdeal)
    ∧ quiescent_ProjGRefIdeal (hProjGRefIdeal := hProjGRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_Adam (hAdam := hAdam)
    ∧ quiescent_AdamIdeal (hAdamIdeal := hAdamIdeal)
    ∧ quiescent_AdamRefIdeal (hAdamRefIdeal := hAdamRefIdeal)
    ∧ quiescent_Ada (hAda := hAda)
    ∧ quiescent_AdaIdeal (hAdaIdeal := hAdaIdeal)
    ∧ quiescent_AdaRefIdeal (hAdaRefIdeal := hAdaRefIdeal)
    ∧ quiescent_AdamA (hAdamA := hAdamA)
    ∧ quiescent_AdamAIdeal (hAdamAIdeal := hAdamAIdeal)
    ∧ quiescent_AdamARefIdeal (hAdamARefIdeal := hAdamARefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_WgradB_WgradBIdeal
    ∧ algebraic_WgradBIdeal_WgradBRefIdeal (hWgradBIdeal := hWgradBIdeal) (hWgradBRefIdeal := hWgradBRefIdeal)
    ∧ preserves_WgradA_WgradAIdeal
    ∧ algebraic_WgradAIdeal_WgradARefIdeal (hWgradAIdeal := hWgradAIdeal) (hWgradARefIdeal := hWgradARefIdeal)
    ∧ preserves_WgradG_WgradGIdeal
    ∧ algebraic_WgradGIdeal_WgradGRefIdeal (hWgradGIdeal := hWgradGIdeal) (hWgradGRefIdeal := hWgradGRefIdeal)
    ∧ preserves_WgradO_WgradOIdeal
    ∧ algebraic_WgradOIdeal_WgradORefIdeal (hWgradOIdeal := hWgradOIdeal) (hWgradORefIdeal := hWgradORefIdeal)
    ∧ preserves_HgradB_HgradBIdeal
    ∧ algebraic_HgradBIdeal_HgradBRefIdeal (hHgradBIdeal := hHgradBIdeal) (hHgradBRefIdeal := hHgradBRefIdeal)
    ∧ preserves_HgradA_HgradAIdeal
    ∧ algebraic_HgradAIdeal_HgradARefIdeal (hHgradAIdeal := hHgradAIdeal) (hHgradARefIdeal := hHgradARefIdeal)
    ∧ preserves_HgradG_HgradGIdeal
    ∧ algebraic_HgradGIdeal_HgradGRefIdeal (hHgradGIdeal := hHgradGIdeal) (hHgradGRefIdeal := hHgradGRefIdeal)
    ∧ preserves_ProjB_ProjBIdeal
    ∧ algebraic_ProjBIdeal_ProjBRefIdeal (hProjBIdeal := hProjBIdeal) (hProjBRefIdeal := hProjBRefIdeal)
    ∧ preserves_ProjA_ProjAIdeal
    ∧ algebraic_ProjAIdeal_ProjARefIdeal (hProjAIdeal := hProjAIdeal) (hProjARefIdeal := hProjARefIdeal)
    ∧ preserves_ProjG_ProjGIdeal
    ∧ algebraic_ProjGIdeal_ProjGRefIdeal (hProjGIdeal := hProjGIdeal) (hProjGRefIdeal := hProjGRefIdeal)
    ∧ preserves_Merge_MergeIdeal
    ∧ algebraic_MergeIdeal_MergeRefIdeal (hMergeIdeal := hMergeIdeal) (hMergeRefIdeal := hMergeRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_Adam_AdamIdeal
    ∧ algebraic_AdamIdeal_AdamRefIdeal (hAdamIdeal := hAdamIdeal) (hAdamRefIdeal := hAdamRefIdeal)
    ∧ preserves_Ada_AdaIdeal
    ∧ algebraic_AdaIdeal_AdaRefIdeal (hAdaIdeal := hAdaIdeal) (hAdaRefIdeal := hAdaRefIdeal)
    ∧ preserves_AdamA_AdamAIdeal
    ∧ algebraic_AdamAIdeal_AdamARefIdeal (hAdamAIdeal := hAdamAIdeal) (hAdamARefIdeal := hAdamARefIdeal)
    ∧ preserves_AdamB_AdamBIdeal
    ∧ algebraic_AdamBIdeal_AdamBRefIdeal (hAdamBIdeal := hAdamBIdeal) (hAdamBRefIdeal := hAdamBRefIdeal)
    ∧ preserves_AdamIn_AdamInIdeal
    ∧ algebraic_AdamInIdeal_AdamInRefIdeal (hAdamInIdeal := hAdamInIdeal) (hAdamInRefIdeal := hAdamInRefIdeal)
-- ==== Pre_finite.lean ====
abbrev S8192x3072 : Shape := ⟨2, ![8192, 3072]⟩
abbrev S8192x1024 : Shape := ⟨2, ![8192, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1 : Shape := ⟨1, ![1]⟩
abbrev S6 : Shape := ⟨1, ![6]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1 : S_.BroadcastsInDim S1 (![] : Fin 0 → Fin S1.rank)
  concatenates_S1_S1_S1_S1_S1_S1_S6_d0 : Shape.Concatenates [S1, S1, S1, S1, S1, S1] S6 0

variable [Facts]

def fn_part1 {F : FTy → Type} [FloatOps F] (main_arg4 : FVec F S8x128x128 .f32) (main_arg5 : FVec F S8x128 .f32) (main_v3 : IVec S_ 1) (main_v8 : IVec S_ 1) (main_v12 : IVec S_ 1) (main_v15 : IVec S1024 1) (main_c_5 : IVec S_ 1) : IVec S6 1 :=
  let main_v16 : IVec S_ 1 := (fun x v => Host.reduce IntOp.andi x v reducesTo_S1024_S_d0 h_S_) main_v15 main_c_5
  let main_v17 : FVec F S8x128x128 .f32 := Host.absf main_arg4
  let main_cst_6 : FVec F S_ .f32 := constant S_ .f32 0x7F800000#32
  let main_v18 : FVec F S8x128x128 .f32 := broadcastInDim S8x128x128 ![] bcast_S_S8x128x128 main_cst_6
  let main_v19 : IVec S8x128x128 1 := cmpf .olt main_v17 main_v18
  let main_c_7 : IVec S_ 1 := constantI S_ 1 1#1
  let main_v20 : IVec S_ 1 := (fun x v => Host.reduce IntOp.andi x v reducesTo_S8x128x128_S_d0_1_2 h_S_) main_v19 main_c_7
  let main_v21 : FVec F S8x128 .f32 := Host.absf main_arg5
  let main_cst_8 : FVec F S_ .f32 := constant S_ .f32 0x7F800000#32
  let main_v22 : FVec F S8x128 .f32 := broadcastInDim S8x128 ![] bcast_S_S8x128 main_cst_8
  let main_v23 : IVec S8x128 1 := cmpf .olt main_v21 main_v22
  let main_c_9 : IVec S_ 1 := constantI S_ 1 1#1
  let main_v24 : IVec S_ 1 := (fun x v => Host.reduce IntOp.andi x v reducesTo_S8x128_S_d0_1 h_S_) main_v23 main_c_9
  let main_v25 : IVec S1 1 := broadcastInDim S1 ![] bcast_S_S1 main_v3
  let main_v26 : IVec S1 1 := broadcastInDim S1 ![] bcast_S_S1 main_v8
  let main_v27 : IVec S1 1 := broadcastInDim S1 ![] bcast_S_S1 main_v12
  let main_v28 : IVec S1 1 := broadcastInDim S1 ![] bcast_S_S1 main_v16
  let main_v29 : IVec S1 1 := broadcastInDim S1 ![] bcast_S_S1 main_v20
  let main_v30 : IVec S1 1 := broadcastInDim S1 ![] bcast_S_S1 main_v24
  let main_v31 : IVec S6 1 := concatenate S6 0 [⟨S1, main_v25⟩, ⟨S1, main_v26⟩, ⟨S1, main_v27⟩, ⟨S1, main_v28⟩, ⟨S1, main_v29⟩, ⟨S1, main_v30⟩] concatenates_S1_S1_S1_S1_S1_S1_S6_d0
  main_v31

def fn {F : FTy → Type} [FloatOps F] (main_arg0 : FVec F S8192x3072 .f32) (main_arg1 : FVec F S8192x1024 .bf16) (main_arg2 : FVec F S1024 .f32) (main_arg3 : FVec F S1024 .f32) (main_arg4 : FVec F S8x128x128 .f32) (main_arg5 : FVec F S8x128 .f32) : IVec S6 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : FVec F S1024 .f32 := Host.absf main_arg3
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_arg4 main_arg5 main_v3 main_v8 main_v12 main_v15 main_c_5
-- ==== Kernel.lean ====
abbrev S8192x3072 : Shape := ⟨2, ![8192, 3072]⟩
abbrev S8192x1024 : Shape := ⟨2, ![8192, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S1x1024 : Shape := ⟨2, ![1, 1024]⟩
abbrev S128x8 : Shape := ⟨2, ![128, 8]⟩
abbrev S128x8x128 : Shape := ⟨3, ![128, 8, 128]⟩
abbrev S128x1024 : Shape := ⟨2, ![128, 1024]⟩
abbrev S512x1024 : Shape := ⟨2, ![512, 1024]⟩
abbrev S512x3072 : Shape := ⟨2, ![512, 3072]⟩
abbrev S128 : Shape := ⟨1, ![128]⟩
abbrev S128x1 : Shape := ⟨2, ![128, 1]⟩

abbrev nBuf : Space → Nat
  | .hbm => 47
  | .vmem => 19
  | .smem => 0
  | _ => 0

abbrev bufTy : (tb : Table) → Fin (tcTables nBuf tb) → BufTy
  | .hbm, ⟨0, _⟩ => ⟨S8192x3072, .f32⟩
  | .hbm, ⟨1, _⟩ => ⟨S8192x1024, .bf16⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S1x128x128, .i1⟩
  | .hbm, ⟨18, _⟩ => ⟨S_, .f32⟩
  | .hbm, ⟨19, _⟩ => ⟨S_, .f32⟩
  | .hbm, ⟨20, _⟩ => ⟨S8x128x128, .i1⟩
  | .hbm, ⟨21, _⟩ => ⟨S8x128x128, .f32⟩
  | .hbm, ⟨22, _⟩ => ⟨S8x128x128, .f32⟩
  | .hbm, ⟨23, _⟩ => ⟨S8x128x128, .bf16⟩
  | .hbm, ⟨24, _⟩ => ⟨S1x1024, .f32⟩
  | .hbm, ⟨25, _⟩ => ⟨S1x1024, .f32⟩
  | .hbm, ⟨26, _⟩ => ⟨S8x128x128, .bf16⟩
  | .hbm, ⟨27, _⟩ => ⟨S128x8, .f32⟩
  | .hbm, ⟨28, _⟩ => ⟨S128x8x128, .f32⟩
  | .hbm, ⟨29, _⟩ => ⟨S128x1024, .f32⟩
  | .hbm, ⟨30, _⟩ => ⟨S8192x3072, .bf16⟩
  | .hbm, ⟨31, _⟩ => ⟨S8x128x128, .f32⟩
  | .hbm, ⟨32, _⟩ => ⟨S128x1024, .f32⟩
  | .hbm, ⟨33, _⟩ => ⟨S1x1024, .f32⟩
  | .hbm, ⟨34, _⟩ => ⟨S1x1024, .f32⟩
  | .hbm, ⟨35, _⟩ => ⟨S1024, .f32⟩
  | .hbm, ⟨36, _⟩ => ⟨S1024, .f32⟩
  | .hbm, ⟨37, _⟩ => ⟨S1x128x128, .i1⟩
  | .hbm, ⟨38, _⟩ => ⟨S_, .f32⟩
  | .hbm, ⟨39, _⟩ => ⟨S_, .f32⟩
  | .hbm, ⟨40, _⟩ => ⟨S8x128x128, .i1⟩
  | .hbm, ⟨41, _⟩ => ⟨S8x128x128, .f32⟩
  | .hbm, ⟨42, _⟩ => ⟨S8x128x128, .f32⟩
  | .hbm, ⟨43, _⟩ => ⟨S128x8x128, .f32⟩
  | .hbm, ⟨44, _⟩ => ⟨S_, .f32⟩
  | .hbm, ⟨45, _⟩ => ⟨S128x8, .f32⟩
  | .hbm, ⟨46, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S8x128x128, .bf16⟩
  | .local _ .vmem, ⟨11, _⟩ => ⟨S8x128x128, .bf16⟩
  | .local _ .vmem, ⟨12, _⟩ => ⟨S128x1024, .f32⟩
  | .local _ .vmem, ⟨13, _⟩ => ⟨S512x3072, .bf16⟩
  | .local _ .vmem, ⟨14, _⟩ => ⟨S512x3072, .bf16⟩
  | .local _ .vmem, ⟨15, _⟩ => ⟨S8x128x128, .f32⟩
  | .local _ .vmem, ⟨16, _⟩ => ⟨S128x1024, .f32⟩
  | .local _ .vmem, ⟨17, _⟩ => ⟨S1x1024, .f32⟩
  | .local _ .vmem, ⟨18, _⟩ => ⟨S1x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev main_v11_2 : Ref sig .tc := ⟨.hbm, 32, rfl⟩
abbrev main_v11_3 : Ref sig .tc := ⟨.hbm, 33, rfl⟩
abbrev main_v11_4 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v15 : Ref sig .tc := ⟨.hbm, 42, rfl⟩
abbrev main_v16 : Ref sig .tc := ⟨.hbm, 43, rfl⟩
abbrev main_cst_1 : Ref sig .tc := ⟨.hbm, 44, rfl⟩
abbrev main_v17 : Ref sig .tc := ⟨.hbm, 45, rfl⟩
abbrev main_v18 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S8192x3072 : Shape := ⟨2, ![8192, 3072]⟩
abbrev S8192x1024 : Shape := ⟨2, ![8192, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 244
  | .vmem => 0
  | .smem => 0
  | _ => 0

abbrev hbmTy0_0 (i : Nat) : BufTy := match i % 128 with
  | 0 => ⟨S8192x3072, .f32⟩
  | 1 => ⟨S8192x1024, .bf16⟩
  | 2 => ⟨S1024, .f32⟩
  | 3 => ⟨S1024, .f32⟩
  | 4 => ⟨S8x128x128, .f32⟩
  | 5 => ⟨S8x128, .f32⟩
  | 6 => ⟨S8192x1024, .f32⟩
  | 7 => ⟨S8192x1024, .f32⟩
  | 8 => ⟨S8192x1024, .f32⟩
  | 9 => ⟨S_, .f32⟩
  | 10 => ⟨S_, .f32⟩
  | 11 => ⟨S_, .f32⟩
  | 12 => ⟨S8192x1024, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S8192x1024, .f32⟩
  | 39 => ⟨S_, .f32⟩
  | 40 => ⟨S_, .f32⟩
  | 41 => ⟨S_, .f32⟩
  | 42 => ⟨S8192x1024, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S8192x1024, .f32⟩
  | 69 => ⟨S_, .f32⟩
  | 70 => ⟨S8192, .f32⟩
  | 71 => ⟨S8192x1, .f32⟩
  | 72 => ⟨S_, .f32⟩
  | 73 => ⟨S8192x1, .f32⟩
  | 74 => ⟨S8192x1, .f32⟩
  | 75 => ⟨S8192x1024, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S_, .f32⟩
  | 82 => ⟨S8192, .f32⟩
  | 83 => ⟨S8192x1, .f32⟩
  | 84 => ⟨S_, .f32⟩
  | 85 => ⟨S8192x1, .f32⟩
  | 86 => ⟨S8192x1, .f32⟩
  | 87 => ⟨S8192x1024, .f32⟩
  | 88 => ⟨S8192x1024, .f32⟩
  | 89 => ⟨S_, .f32⟩
  | 90 => ⟨S8192x1, .f32⟩
  | 91 => ⟨S8192x1, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1024, .f32⟩
  | 98 => ⟨S8192x1024, .f32⟩
  | 99 => ⟨S1x1024, .f32⟩
  | 100 => ⟨S8192x1024, .f32⟩
  | 101 => ⟨S8192x1024, .f32⟩
  | 102 => ⟨S1x1024, .f32⟩
  | 103 => ⟨S8192x1024, .f32⟩
  | 104 => ⟨S8192x1024, .f32⟩
  | 105 => ⟨S64x128x8x128, .f32⟩
  | 106 => ⟨S_, .i1⟩
  | 107 => ⟨S128x128, .i1⟩
  | 108 => ⟨S128x128, .i32⟩
  | 109 => ⟨S_, .i32⟩
  | 110 => ⟨S128x128, .i32⟩
  | 111 => ⟨S128x128, .i32⟩
  | 112 => ⟨S128x128, .i32⟩
  | 113 => ⟨S128x128, .i1⟩
  | 114 => ⟨S_, .i1⟩
  | 115 => ⟨S128x128, .i1⟩
  | 116 => ⟨S128x128, .i1⟩
  | 117 => ⟨S1x128x128, .i1⟩
  | 118 => ⟨S_, .f32⟩
  | 119 => ⟨S8x128x128, .f32⟩
  | 120 => ⟨S8x128x128, .i1⟩
  | 121 => ⟨S8x128x128, .f32⟩
  | 122 => ⟨S_, .f32⟩
  | 123 => ⟨S8x128x128, .f32⟩
  | 124 => ⟨S8x64x128x128, .f32⟩
  | 125 => ⟨S64x128x8x128, .f32⟩
  | 126 => ⟨S128x8, .f32⟩
  | 127 => ⟨S1x128x8x1, .f32⟩
  | _ => ⟨S8192x3072, .f32⟩

abbrev hbmTy0_1 (i : Nat) : BufTy := match i % 128 with
  | 0 => ⟨S64x128x8x128, .f32⟩
  | 1 => ⟨S64x128x8x128, .f32⟩
  | 2 => ⟨S8192x1024, .f32⟩
  | 3 => ⟨S8192x1024, .f32⟩
  | 4 => ⟨S8192x1024, .f32⟩
  | 5 => ⟨S8192x1024, .f32⟩
  | 6 => ⟨S_, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S64x128x8x128, .f32⟩
  | 28 => ⟨S_, .f32⟩
  | 29 => ⟨S128x8, .f32⟩
  | 30 => ⟨S1x128x8x1, .f32⟩
  | 31 => ⟨S_, .f32⟩
  | 32 => ⟨S128x8, .f32⟩
  | 33 => ⟨S8x128, .f32⟩
  | 34 => ⟨S8x64x128x128, .f32⟩
  | 35 => ⟨S8x128x128, .f32⟩
  | 36 => ⟨S8x64x128x128, .f32⟩
  | 37 => ⟨S64x128x8x128, .f32⟩
  | 38 => ⟨S_, .f32⟩
  | 39 => ⟨S8x128x128, .f32⟩
  | 40 => ⟨S8x128x128, .f32⟩
  | 41 => ⟨S8192x1024, .f32⟩
  | 42 => ⟨S_, .f32⟩
  | 43 => ⟨S1024, .f32⟩
  | 44 => ⟨S1x1024, .f32⟩
  | 45 => ⟨S_, .f32⟩
  | 46 => ⟨S1024, .f32⟩
  | 47 => ⟨S8192x1024, .f32⟩
  | 48 => ⟨S_, .f32⟩
  | 49 => ⟨S1024, .f32⟩
  | 50 => ⟨S1x1024, .f32⟩
  | 51 => ⟨S8192x1024, .f32⟩
  | 52 => ⟨S8192x1024, .f32⟩
  | 53 => ⟨S_, .f32⟩
  | 54 => ⟨S1024, .f32⟩
  | 55 => ⟨S8192x1024, .f32⟩
  | 56 => ⟨S_, .f32⟩
  | 57 => ⟨S8192, .f32⟩
  | 58 => ⟨S8192x1, .f32⟩
  | 59 => ⟨S8192x1024, .f32⟩
  | 60 => ⟨S8192x1024, .f32⟩
  | 61 => ⟨S8192x1, .f32⟩
  | 62 => ⟨S8192x1024, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192, .f32⟩
  | 71 => ⟨S8192x1024, .f32⟩
  | 72 => ⟨S8192x1024, .f32⟩
  | 73 => ⟨S8192x1024, .f32⟩
  | 74 => ⟨S_, .f32⟩
  | 75 => ⟨S8192, .f32⟩
  | 76 => ⟨S8192x1, .f32⟩
  | 77 => ⟨S8192x1024, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S8192x1024, .f32⟩
  | 106 => ⟨S_, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x3072, .f32⟩
  | 115 => ⟨S8192x3072, .bf16⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_15 : Ref sig .tc := ⟨.hbm, 69, rfl⟩
abbrev main_v47 : Ref sig .tc := ⟨.hbm, 70, rfl⟩
abbrev main_v48 : Ref sig .tc := ⟨.hbm, 71, rfl⟩
abbrev main_cst_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_17 : Ref sig .tc := ⟨.hbm, 78, rfl⟩
abbrev main_v54 : Ref sig .tc := ⟨.hbm, 79, rfl⟩
abbrev main_v55 : Ref sig .tc := ⟨.hbm, 80, rfl⟩
abbrev main_cst_18 : Ref sig .tc := ⟨.hbm, 81, rfl⟩
abbrev main_v56 : Ref sig .tc := ⟨.hbm, 82, rfl⟩
abbrev main_v57 : Ref sig .tc := ⟨.hbm, 83, rfl⟩
abbrev main_cst_19 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_20 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_21 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c : Ref sig .tc := ⟨.hbm, 106, rfl⟩
abbrev main_v77 : Ref sig .tc := ⟨.hbm, 107, rfl⟩
abbrev main_call0_v0 : Ref sig .tc := ⟨.hbm, 108, rfl⟩
abbrev main_call0_c : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_c_0 : Ref sig .tc := ⟨.hbm, 114, rfl⟩
abbrev main_call0_v5 : Ref sig .tc := ⟨.hbm, 115, rfl⟩
abbrev main_v78 : Ref sig .tc := ⟨.hbm, 116, rfl⟩
abbrev main_v79 : Ref sig .tc := ⟨.hbm, 117, rfl⟩
abbrev main_cst_22 : Ref sig .tc := ⟨.hbm, 118, rfl⟩
abbrev main_v80 : Ref sig .tc := ⟨.hbm, 119, rfl⟩
abbrev main_v81_1 : Ref sig .tc := ⟨.hbm, 120, rfl⟩
abbrev main_v81_0 : Ref sig .tc := ⟨.hbm, 121, rfl⟩
abbrev main_call1_cst : Ref sig .tc := ⟨.hbm, 122, rfl⟩
abbrev main_v81_2 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_call2_v0 : Ref sig .tc := ⟨.hbm, 132, rfl⟩
abbrev main_call2_v1 : Ref sig .tc := ⟨.hbm, 133, rfl⟩
abbrev main_call2_cst : Ref sig .tc := ⟨.hbm, 134, rfl⟩
abbrev main_call2_v2 : Ref sig .tc := ⟨.hbm, 135, rfl⟩
abbrev main_call2_v3 : Ref sig .tc := ⟨.hbm, 136, rfl⟩
abbrev main_call2_cst_0 : Ref sig .tc := ⟨.hbm, 137, rfl⟩
abbrev main_call2_v4 : Ref sig .tc := ⟨.hbm, 138, rfl⟩
abbrev main_v90_2 : Ref sig .tc := ⟨.hbm, 139, rfl⟩
abbrev main_call2_cst_1 : Ref sig .tc := ⟨.hbm, 140, rfl⟩
abbrev main_call2_v6 : Ref sig .tc := ⟨.hbm, 141, rfl⟩
abbrev main_call2_v7 : Ref sig .tc := ⟨.hbm, 142, rfl⟩
abbrev main_v90_1 : Ref sig .tc := ⟨.hbm, 143, rfl⟩
abbrev main_v90_0 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_23 : Ref sig .tc := ⟨.hbm, 156, rfl⟩
abbrev main_v99 : Ref sig .tc := ⟨.hbm, 157, rfl⟩
abbrev main_v100 : Ref sig .tc := ⟨.hbm, 158, rfl⟩
abbrev main_cst_24 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_call4_cst : Ref sig .tc := ⟨.hbm, 166, rfl⟩
abbrev main_call4_v0 : Ref sig .tc := ⟨.hbm, 167, rfl⟩
abbrev main_v107 : Ref sig .tc := ⟨.hbm, 168, rfl⟩
abbrev main_v108 : Ref sig .tc := ⟨.hbm, 169, rfl⟩
abbrev main_cst_25 : Ref sig .tc := ⟨.hbm, 170, rfl⟩
abbrev main_v109 : Ref sig .tc := ⟨.hbm, 171, rfl⟩
abbrev main_v110 : Ref sig .tc := ⟨.hbm, 172, rfl⟩
abbrev main_cst_26 : Ref sig .tc := ⟨.hbm, 173, rfl⟩
abbrev main_v111 : Ref sig .tc := ⟨.hbm, 174, rfl⟩
abbrev main_v112 : Ref sig .tc := ⟨.hbm, 175, rfl⟩
abbrev main_cst_27 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_cst_28 : Ref sig .tc := ⟨.hbm, 181, rfl⟩
abbrev main_v117 : Ref sig .tc := ⟨.hbm, 182, rfl⟩
abbrev main_v118 : Ref sig .tc := ⟨.hbm, 183, rfl⟩
abbrev main_cst_29 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_30 : Ref sig .tc := ⟨.hbm, 191, rfl⟩
abbrev main_v125 : Ref sig .tc := ⟨.hbm, 192, rfl⟩
abbrev main_v126 : Ref sig .tc := ⟨.hbm, 193, rfl⟩
abbrev main_cst_31 : Ref sig .tc := ⟨.hbm, 194, rfl⟩
abbrev main_v127 : Ref sig .tc := ⟨.hbm, 195, rfl⟩
abbrev main_v128 : Ref sig .tc := ⟨.hbm, 196, rfl⟩
abbrev main_cst_32 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_33 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_cst_34 : Ref sig .tc := ⟨.hbm, 207, rfl⟩
abbrev main_v137 : Ref sig .tc := ⟨.hbm, 208, rfl⟩
abbrev main_v138 : Ref sig .tc := ⟨.hbm, 209, rfl⟩
abbrev main_cst_35 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_cst_36 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_cst_37 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_cst_38 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_cst_39 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩

abbrev nD : Nat := 1
abbrev τ : Topo := Topo.v7x

variable {F : FTy → Type} [FloatOps F]
-- ==== WgradB.lean ====
abbrev S8192x6400 : Shape := ⟨2, ![8192, 6400]⟩
abbrev S8192x1024 : Shape := ⟨2, ![8192, 1024]⟩
abbrev S6400x1024 : Shape := ⟨2, ![6400, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x6400, .bf16⟩
  | .hbm, ⟨1, _⟩ => ⟨S8192x1024, .bf16⟩
  | .hbm, ⟨2, _⟩ => ⟨S6400x1024, .f32⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradBIdeal.lean ====
abbrev S8192x6400 : Shape := ⟨2, ![8192, 6400]⟩
abbrev S8192x1024 : Shape := ⟨2, ![8192, 1024]⟩
abbrev S6400x1024 : Shape := ⟨2, ![6400, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x6400, .bf16⟩
  | .hbm, ⟨1, _⟩ => ⟨S8192x1024, .bf16⟩
  | .hbm, ⟨2, _⟩ => ⟨S6400x1024, .f32⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradBRefIdeal.lean ====
abbrev S8192x6400 : Shape := ⟨2, ![8192, 6400]⟩
abbrev S8192x1024 : Shape := ⟨2, ![8192, 1024]⟩
abbrev S_ : Shape := ⟨0, ![]⟩
abbrev S6400x1024 : Shape := ⟨2, ![6400, 1024]⟩
abbrev S1024x6400 : Shape := ⟨2, ![1024, 6400]⟩

abbrev nBuf : Space → Nat
  | .hbm => 11
  | .vmem => 0
  | .smem => 0
  | _ => 0

abbrev bufTy : (tb : Table) → Fin (tcTables nBuf tb) → BufTy
  | .hbm, ⟨0, _⟩ => ⟨S8192x6400, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S6400x1024, .f32⟩
  | .hbm, ⟨5, _⟩ => ⟨S1024x6400, .f32⟩
  | .hbm, ⟨6, _⟩ => ⟨S8192x6400, .f32⟩
  | .hbm, ⟨7, _⟩ => ⟨S8192x6400, .f32⟩
  | .hbm, ⟨8, _⟩ => ⟨S6400x1024, .f32⟩
  | .hbm, ⟨9, _⟩ => ⟨S1024x6400, .f32⟩
  | .hbm, ⟨10, _⟩ => ⟨S6400x1024, .f32⟩
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradA.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradAIdeal.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradARefIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S3072x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradG.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradGIdeal.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradGRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S2048x1024, .f32⟩
  | .hbm, ⟨5, _⟩ => ⟨S1024x2048, .f32⟩
  | .hbm, ⟨6, _⟩ => ⟨S8192x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradO.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgradORefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== HgradB.lean ====
abbrev S8192x6400 : Shape := ⟨2, ![8192, 6400]⟩
abbrev S1024x6400 : Shape := ⟨2, ![1024, 6400]⟩
abbrev S8192x1024 : Shape := ⟨2, ![8192, 1024]⟩
abbrev S1024x1280 : Shape := ⟨2, ![1024, 1280]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6400, .bf16⟩
  | .hbm, ⟨1, _⟩ => ⟨S1024x6400, .bf16⟩
  | .hbm, ⟨2, _⟩ => ⟨S8192x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgradBRefIdeal.lean ====
abbrev S8192x6400 : Shape := ⟨2, ![8192, 6400]⟩
abbrev S1024x6400 : Shape := ⟨2, ![1024, 6400]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x6400, .bf16⟩
  | .hbm, ⟨1, _⟩ => ⟨S1024x6400, .bf16⟩
  | .hbm, ⟨2, _⟩ => ⟨S1024x6400, .f32⟩
  | .hbm, ⟨3, _⟩ => ⟨S_, .f32⟩
  | .hbm, ⟨4, _⟩ => ⟨S8192x1024, .f32⟩
  | .hbm, ⟨5, _⟩ => ⟨S8192x6400, .f32⟩
  | .hbm, ⟨6, _⟩ => ⟨S8192x6400, .f32⟩
  | .hbm, ⟨7, _⟩ => ⟨S8192x1024, .f32⟩
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== HgradA.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S1024x3072, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HgradAIdeal.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S1024x3072, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HgradARefIdeal.lean ====
abbrev S8192x1024 : Shape := ⟨2, ![8192, 1024]⟩
abbrev S8192x3072 : Shape := ⟨2, ![8192, 3072]⟩
abbrev S1024x3072 : Shape := ⟨2, ![1024, 3072]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S1024x3072, .bf16⟩
  | .hbm, ⟨3, _⟩ => ⟨S1024x3072, .f32⟩
  | .hbm, ⟨4, _⟩ => ⟨S_, .f32⟩
  | .hbm, ⟨5, _⟩ => ⟨S8192x1024, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== HgradG.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S1024x2048, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HgradGRefIdeal.lean ====
abbrev S8192x1024 : Shape := ⟨2, ![8192, 1024]⟩
abbrev S8192x2048 : Shape := ⟨2, ![8192, 2048]⟩
abbrev S1024x2048 : Shape := ⟨2, ![1024, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S1024x2048, .bf16⟩
  | .hbm, ⟨3, _⟩ => ⟨S1024x2048, .f32⟩
  | .hbm, ⟨4, _⟩ => ⟨S_, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ProjB.lean ====
abbrev S8192x1024 : Shape := ⟨2, ![8192, 1024]⟩
abbrev S1024x6400 : Shape := ⟨2, ![1024, 6400]⟩
abbrev S8192x6400 : Shape := ⟨2, ![8192, 6400]⟩
abbrev S2048x1024 : Shape := ⟨2, ![2048, 1024]⟩
abbrev S1024x1280 : Shape := ⟨2, ![1024, 1280]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6400, .bf16⟩
  | .hbm, ⟨2, _⟩ => ⟨S8192x6400, .f32⟩
  | .local _ .vmem, ⟨0, _⟩ => ⟨S2048x1024, .bf16⟩
  | .local _ .vmem, ⟨1, _⟩ => ⟨S2048x1024, .bf16⟩
  | .local _ .vmem, ⟨2, _⟩ => ⟨S1024x1280, .bf16⟩
  | .local _ .vmem, ⟨3, _⟩ => ⟨S1024x1280, .bf16⟩
  | .local _ .vmem, ⟨4, _⟩ => ⟨S2048x1280, .f32⟩
  | .local _ .vmem, ⟨5, _⟩ => ⟨S2048x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBIdeal.lean ====
abbrev S8192x1024 : Shape := ⟨2, ![8192, 1024]⟩
abbrev S1024x6400 : Shape := ⟨2, ![1024, 6400]⟩
abbrev S8192x6400 : Shape := ⟨2, ![8192, 6400]⟩
abbrev S2048x1024 : Shape := ⟨2, ![2048, 1024]⟩
abbrev S1024x1280 : Shape := ⟨2, ![1024, 1280]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6400, .bf16⟩
  | .hbm, ⟨2, _⟩ => ⟨S8192x6400, .f32⟩
  | .local _ .vmem, ⟨0, _⟩ => ⟨S2048x1024, .bf16⟩
  | .local _ .vmem, ⟨1, _⟩ => ⟨S2048x1024, .bf16⟩
  | .local _ .vmem, ⟨2, _⟩ => ⟨S1024x1280, .bf16⟩
  | .local _ .vmem, ⟨3, _⟩ => ⟨S1024x1280, .bf16⟩
  | .local _ .vmem, ⟨4, _⟩ => ⟨S2048x1280, .f32⟩
  | .local _ .vmem, ⟨5, _⟩ => ⟨S2048x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBRefIdeal.lean ====
abbrev S8192x1024 : Shape := ⟨2, ![8192, 1024]⟩
abbrev S1024x6400 : Shape := ⟨2, ![1024, 6400]⟩
abbrev S8192x6400 : Shape := ⟨2, ![8192, 6400]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6400, .bf16⟩
  | .hbm, ⟨2, _⟩ => ⟨S8192x1024, .f32⟩
  | .hbm, ⟨3, _⟩ => ⟨S1024x6400, .f32⟩
  | .hbm, ⟨4, _⟩ => ⟨S8192x6400, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjA.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAIdeal.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjARefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjG.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S8192x1024 : Shape := ⟨2, ![8192, 1024]⟩
abbrev S1x1024 : Shape := ⟨2, ![1, 1024]⟩
abbrev S8192x2048 : Shape := ⟨2, ![8192, 2048]⟩
abbrev S1024x1024 : Shape := ⟨2, ![1024, 1024]⟩
abbrev S2048x1024 : Shape := ⟨2, ![2048, 1024]⟩
abbrev S_ : Shape := ⟨0, ![]⟩
abbrev S512x1024 : Shape := ⟨2, ![512, 1024]⟩
abbrev S512x2048 : Shape := ⟨2, ![512, 2048]⟩
abbrev S1024 : Shape := ⟨1, ![1024]⟩

abbrev nBuf : Space → Nat
  | .hbm => 43
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x2048, .bf16⟩
  | .hbm, ⟨4, _⟩ => ⟨S8192x2048, .f32⟩
  | .hbm, ⟨5, _⟩ => ⟨S1024x1024, .bf16⟩
  | .hbm, ⟨6, _⟩ => ⟨S2048x1024, .bf16⟩
  | .hbm, ⟨7, _⟩ => ⟨S1024x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S8192x1024, .f32⟩
  | .hbm, ⟨33, _⟩ => ⟨S8192x1024, .bf16⟩
  | .hbm, ⟨34, _⟩ => ⟨S8192x1024, .bf16⟩
  | .hbm, ⟨35, _⟩ => ⟨S8192x1024, .bf16⟩
  | .hbm, ⟨36, _⟩ => ⟨S8192x1024, .bf16⟩
  | .hbm, ⟨37, _⟩ => ⟨S8192x1024, .bf16⟩
  | .hbm, ⟨38, _⟩ => ⟨S8192x1024, .bf16⟩
  | .hbm, ⟨39, _⟩ => ⟨S8192x2048, .bf16⟩
  | .hbm, ⟨40, _⟩ => ⟨S8192x1024, .bf16⟩
  | .hbm, ⟨41, _⟩ => ⟨S8192x2048, .bf16⟩
  | .hbm, ⟨42, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1024x1024, .bf16⟩
  | .local _ .vmem, ⟨14, _⟩ => ⟨S1024x1024, .bf16⟩
  | .local _ .vmem, ⟨15, _⟩ => ⟨S2048x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x2048, .bf16⟩
  | .local _ .vmem, ⟨23, _⟩ => ⟨S512x2048, .bf16⟩
  | .local _ .vmem, ⟨24, _⟩ => ⟨S512x1024, .bf16⟩
  | .local _ .vmem, ⟨25, _⟩ => ⟨S512x1024, .bf16⟩
  | .local _ .vmem, ⟨26, _⟩ => ⟨S512x2048, .bf16⟩
  | .local _ .vmem, ⟨27, _⟩ => ⟨S512x2048, .bf16⟩
  | .local _ .vmem, ⟨28, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev main_v24_5 : Ref sig .tc := ⟨.hbm, 41, rfl⟩
abbrev main_v24_6 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeRefIdeal.lean ====
abbrev S8192x1024 : Shape := ⟨2, ![8192, 1024]⟩
abbrev S1x1024 : Shape := ⟨2, ![1, 1024]⟩
abbrev S8192x2048 : Shape := ⟨2, ![8192, 2048]⟩
abbrev S1024x1024 : Shape := ⟨2, ![1024, 1024]⟩
abbrev S2048x1024 : Shape := ⟨2, ![2048, 1024]⟩
abbrev S_ : Shape := ⟨0, ![]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x2048, .bf16⟩
  | .hbm, ⟨4, _⟩ => ⟨S8192x2048, .f32⟩
  | .hbm, ⟨5, _⟩ => ⟨S1024x1024, .bf16⟩
  | .hbm, ⟨6, _⟩ => ⟨S2048x1024, .bf16⟩
  | .hbm, ⟨7, _⟩ => ⟨S1024x1024, .bf16⟩
  | .hbm, ⟨8, _⟩ => ⟨S8192x1024, .f32⟩
  | .hbm, ⟨9, _⟩ => ⟨S8192x2048, .f32⟩
  | .hbm, ⟨10, _⟩ => ⟨S1024x1024, .f32⟩
  | .hbm, ⟨11, _⟩ => ⟨S2048x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x2048, .f32⟩
  | .hbm, ⟨66, _⟩ => ⟨S8192x2048, .f32⟩
  | .hbm, ⟨67, _⟩ => ⟨S8192x1024, .f32⟩
  | .hbm, ⟨68, _⟩ => ⟨S8192x1024, .bf16⟩
  | .hbm, ⟨69, _⟩ => ⟨S8192x1024, .bf16⟩
  | .hbm, ⟨70, _⟩ => ⟨S8192x1024, .bf16⟩
  | .hbm, ⟨71, _⟩ => ⟨S8192x2048, .bf16⟩
  | .hbm, ⟨72, _⟩ => ⟨S8192x1024, .bf16⟩
  | .hbm, ⟨73, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== MergeFwd.lean ====
abbrev S8192x1024 : Shape := ⟨2, ![8192, 1024]⟩
abbrev S8192x2048 : Shape := ⟨2, ![8192, 2048]⟩
abbrev S1x1024 : Shape := ⟨2, ![1, 1024]⟩
abbrev S1024x1024 : Shape := ⟨2, ![1024, 1024]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 13
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x2048, .f32⟩
  | .hbm, ⟨3, _⟩ => ⟨S8192x1024, .f32⟩
  | .hbm, ⟨4, _⟩ => ⟨S1x1024, .f32⟩
  | .hbm, ⟨5, _⟩ => ⟨S1024x1024, .bf16⟩
  | .hbm, ⟨6, _⟩ => ⟨S2048x1024, .bf16⟩
  | .hbm, ⟨7, _⟩ => ⟨S1024x1024, .bf16⟩
  | .hbm, ⟨8, _⟩ => ⟨S8192x1024, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x1024, .bf16⟩
  | .local _ .vmem, ⟨12, _⟩ => ⟨S2048x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeFwdRefIdeal.lean ====
abbrev S8192x1024 : Shape := ⟨2, ![8192, 1024]⟩
abbrev S8192x2048 : Shape := ⟨2, ![8192, 2048]⟩
abbrev S1x1024 : Shape := ⟨2, ![1, 1024]⟩
abbrev S1024x1024 : Shape := ⟨2, ![1024, 1024]⟩
abbrev S2048x1024 : Shape := ⟨2, ![2048, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x2048, .f32⟩
  | .hbm, ⟨3, _⟩ => ⟨S8192x1024, .f32⟩
  | .hbm, ⟨4, _⟩ => ⟨S1x1024, .f32⟩
  | .hbm, ⟨5, _⟩ => ⟨S1024x1024, .bf16⟩
  | .hbm, ⟨6, _⟩ => ⟨S2048x1024, .bf16⟩
  | .hbm, ⟨7, _⟩ => ⟨S1024x1024, .bf16⟩
  | .hbm, ⟨8, _⟩ => ⟨S8192x1024, .f32⟩
  | .hbm, ⟨9, _⟩ => ⟨S8192x2048, .f32⟩
  | .hbm, ⟨10, _⟩ => ⟨S1024x1024, .f32⟩
  | .hbm, ⟨11, _⟩ => ⟨S2048x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | .hbm, ⟨41, _⟩ => ⟨S8192x1024, .bf16⟩
  | .hbm, ⟨42, _⟩ => ⟨S8192x1024, .bf16⟩
  | .hbm, ⟨43, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Adam.lean ====
abbrev S2352x128 : Shape := ⟨2, ![2352, 128]⟩

abbrev nBuf : Space → Nat
  | .hbm => 7
  | .vmem => 7
  | .smem => 0
  | _ => 0

abbrev bufTy : (tb : Table) → Fin (tcTables nBuf tb) → BufTy
  | .hbm, ⟨0, _⟩ => ⟨S2352x128, .f32⟩
  | .hbm, ⟨1, _⟩ => ⟨S2352x128, .f32⟩
  | .hbm, ⟨2, _⟩ => ⟨S2352x128, .f32⟩
  | .hbm, ⟨3, _⟩ => ⟨S2352x128, .f32⟩
  | .hbm, ⟨4, _⟩ => ⟨S2352x128, .f32⟩
  | .hbm, ⟨5, _⟩ => ⟨S2352x128, .f32⟩
  | .hbm, ⟨6, _⟩ => ⟨S2352x128, .f32⟩
  | .local _ .vmem, ⟨0, _⟩ => ⟨S2352x128, .f32⟩
  | .local _ .vmem, ⟨1, _⟩ => ⟨S2352x128, .f32⟩
  | .local _ .vmem, ⟨2, _⟩ => ⟨S2352x128, .f32⟩
  | .local _ .vmem, ⟨3, _⟩ => ⟨S2352x128, .f32⟩
  | .local _ .vmem, ⟨4, _⟩ => ⟨S2352x128, .f32⟩
  | .local _ .vmem, ⟨5, _⟩ => ⟨S2352x128, .f32⟩
  | .local _ .vmem, ⟨6, _⟩ => ⟨S2352x128, .f32⟩
  | _, _ => ⟨S2352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2352x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2352x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2352x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2352x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2352x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2352x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2352x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamRefIdeal.lean ====
abbrev S2352x128 : Shape := ⟨2, ![2352, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2352x128, .f32⟩
  | .hbm, ⟨1, _⟩ => ⟨S2352x128, .f32⟩
  | .hbm, ⟨2, _⟩ => ⟨S2352x128, .f32⟩
  | .hbm, ⟨3, _⟩ => ⟨S2352x128, .f32⟩
  | .hbm, ⟨4, _⟩ => ⟨S_, .f32⟩
  | .hbm, ⟨5, _⟩ => ⟨S2352x128, .f32⟩
  | .hbm, ⟨6, _⟩ => ⟨S2352x128, .f32⟩
  | .hbm, ⟨7, _⟩ => ⟨S_, .f32⟩
  | .hbm, ⟨8, _⟩ => ⟨S2352x128, .f32⟩
  | .hbm, ⟨9, _⟩ => ⟨S2352x128, .f32⟩
  | .hbm, ⟨10, _⟩ => ⟨S2352x128, .f32⟩
  | .hbm, ⟨11, _⟩ => ⟨S_, .f32⟩
  | .hbm, ⟨12, _⟩ => ⟨S2352x128, .f32⟩
  | .hbm, ⟨13, _⟩ => ⟨S2352x128, .f32⟩
  | .hbm, ⟨14, _⟩ => ⟨S2352x128, .f32⟩
  | .hbm, ⟨15, _⟩ => ⟨S_, .f32⟩
  | .hbm, ⟨16, _⟩ => ⟨S2352x128, .f32⟩
  | .hbm, ⟨17, _⟩ => ⟨S2352x128, .f32⟩
  | .hbm, ⟨18, _⟩ => ⟨S2352x128, .f32⟩
  | .hbm, ⟨19, _⟩ => ⟨S_, .f32⟩
  | .hbm, ⟨20, _⟩ => ⟨S2352x128, .f32⟩
  | .hbm, ⟨21, _⟩ => ⟨S2352x128, .f32⟩
  | .hbm, ⟨22, _⟩ => ⟨S_, .f32⟩
  | .hbm, ⟨23, _⟩ => ⟨S2352x128, .f32⟩
  | .hbm, ⟨24, _⟩ => ⟨S2352x128, .f32⟩
  | .hbm, ⟨25, _⟩ => ⟨S2352x128, .f32⟩
  | .hbm, ⟨26, _⟩ => ⟨S_, .f32⟩
  | .hbm, ⟨27, _⟩ => ⟨S2352x128, .f32⟩
  | .hbm, ⟨28, _⟩ => ⟨S2352x128, .f32⟩
  | .hbm, ⟨29, _⟩ => ⟨S2352x128, .f32⟩
  | .hbm, ⟨30, _⟩ => ⟨S_, .f32⟩
  | .hbm, ⟨31, _⟩ => ⟨S2352x128, .f32⟩
  | .hbm, ⟨32, _⟩ => ⟨S2352x128, .f32⟩
  | .hbm, ⟨33, _⟩ => ⟨S2352x128, .f32⟩
  | .hbm, ⟨34, _⟩ => ⟨S_, .f32⟩
  | .hbm, ⟨35, _⟩ => ⟨S2352x128, .f32⟩
  | .hbm, ⟨36, _⟩ => ⟨S2352x128, .f32⟩
  | _, _ => ⟨S2352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ada.lean ====
abbrev S8x1024 : Shape := ⟨2, ![8, 1024]⟩
abbrev S2x8x768 : Shape := ⟨3, ![2, 8, 768]⟩
abbrev S2x1024x768 : Shape := ⟨3, ![2, 1024, 768]⟩
abbrev S8x256 : Shape := ⟨2, ![8, 256]⟩
abbrev S1x8x768 : Shape := ⟨3, ![1, 8, 768]⟩
abbrev S1x256x768 : Shape := ⟨3, ![1, 256, 768]⟩
abbrev S8x768 : Shape := ⟨2, ![8, 768]⟩
abbrev S256x768 : Shape := ⟨2, ![256, 768]⟩

abbrev nBuf : Space → Nat
  | .hbm => 9
  | .vmem => 18
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S8x256, .f32⟩
  | .local _ .vmem, ⟨1, _⟩ => ⟨S8x256, .f32⟩
  | .local _ .vmem, ⟨2, _⟩ => ⟨S1x8x768, .f32⟩
  | .local _ .vmem, ⟨3, _⟩ => ⟨S1x8x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaRefIdeal.lean ====
abbrev S8x1024 : Shape := ⟨2, ![8, 1024]⟩
abbrev S2x8x768 : Shape := ⟨3, ![2, 8, 768]⟩
abbrev S2x1024x768 : Shape := ⟨3, ![2, 1024, 768]⟩
abbrev S1x1024x768 : Shape := ⟨3, ![1, 1024, 768]⟩
abbrev S1024x768 : Shape := ⟨2, ![1024, 768]⟩
abbrev S_ : Shape := ⟨0, ![]⟩
abbrev S8x768 : Shape := ⟨2, ![8, 768]⟩
abbrev S1x8x768 : Shape := ⟨3, ![1, 8, 768]⟩
abbrev S768x1024 : Shape := ⟨2, ![768, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S1x1024x768, .f32⟩
  | .hbm, ⟨6, _⟩ => ⟨S1024x768, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x768, .f32⟩
  | .hbm, ⟨17, _⟩ => ⟨S1x8x768, .f32⟩
  | .hbm, ⟨18, _⟩ => ⟨S8x768, .f32⟩
  | .hbm, ⟨19, _⟩ => ⟨S768x1024, .f32⟩
  | .hbm, ⟨20, _⟩ => ⟨S1024x768, .f32⟩
  | .hbm, ⟨21, _⟩ => ⟨S1x1024x768, .f32⟩
  | .hbm, ⟨22, _⟩ => ⟨S1024x768, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S8x768, .f32⟩
  | .hbm, ⟨33, _⟩ => ⟨S1x8x768, .f32⟩
  | .hbm, ⟨34, _⟩ => ⟨S8x768, .f32⟩
  | .hbm, ⟨35, _⟩ => ⟨S768x1024, .f32⟩
  | .hbm, ⟨36, _⟩ => ⟨S1024x768, .f32⟩
  | .hbm, ⟨37, _⟩ => ⟨S1x1024x768, .f32⟩
  | .hbm, ⟨38, _⟩ => ⟨S1x1024x768, .f32⟩
  | .hbm, ⟨39, _⟩ => ⟨S2x1024x768, .f32⟩
  | .hbm, ⟨40, _⟩ => ⟨S_, .f32⟩
  | .hbm, ⟨41, _⟩ => ⟨S2x1024x768, .f32⟩
  | .hbm, ⟨42, _⟩ => ⟨S2x1024x768, .f32⟩
  | .hbm, ⟨43, _⟩ => ⟨S_, .f32⟩
  | .hbm, ⟨44, _⟩ => ⟨S2x1024x768, .f32⟩
  | .hbm, ⟨45, _⟩ => ⟨S2x1024x768, .f32⟩
  | .hbm, ⟨46, _⟩ => ⟨S2x1024x768, .f32⟩
  | .hbm, ⟨47, _⟩ => ⟨S_, .f32⟩
  | .hbm, ⟨48, _⟩ => ⟨S2x1024x768, .f32⟩
  | .hbm, ⟨49, _⟩ => ⟨S2x1024x768, .f32⟩
  | .hbm, ⟨50, _⟩ => ⟨S2x1024x768, .f32⟩
  | .hbm, ⟨51, _⟩ => ⟨S_, .f32⟩
  | .hbm, ⟨52, _⟩ => ⟨S2x1024x768, .f32⟩
  | .hbm, ⟨53, _⟩ => ⟨S2x1024x768, .f32⟩
  | .hbm, ⟨54, _⟩ => ⟨S2x1024x768, .f32⟩
  | .hbm, ⟨55, _⟩ => ⟨S_, .f32⟩
  | .hbm, ⟨56, _⟩ => ⟨S2x1024x768, .f32⟩
  | .hbm, ⟨57, _⟩ => ⟨S2x1024x768, .f32⟩
  | .hbm, ⟨58, _⟩ => ⟨S_, .f32⟩
  | .hbm, ⟨59, _⟩ => ⟨S2x1024x768, .f32⟩
  | .hbm, ⟨60, _⟩ => ⟨S2x1024x768, .f32⟩
  | .hbm, ⟨61, _⟩ => ⟨S2x1024x768, .f32⟩
  | .hbm, ⟨62, _⟩ => ⟨S_, .f32⟩
  | .hbm, ⟨63, _⟩ => ⟨S2x1024x768, .f32⟩
  | .hbm, ⟨64, _⟩ => ⟨S2x1024x768, .f32⟩
  | .hbm, ⟨65, _⟩ => ⟨S2x1024x768, .f32⟩
  | .hbm, ⟨66, _⟩ => ⟨S_, .f32⟩
  | .hbm, ⟨67, _⟩ => ⟨S2x1024x768, .f32⟩
  | .hbm, ⟨68, _⟩ => ⟨S2x1024x768, .f32⟩
  | .hbm, ⟨69, _⟩ => ⟨S2x1024x768, .f32⟩
  | .hbm, ⟨70, _⟩ => ⟨S_, .f32⟩
  | .hbm, ⟨71, _⟩ => ⟨S2x1024x768, .f32⟩
  | .hbm, ⟨72, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩

abbrev nD : Nat := 1
abbrev τ : Topo := Topo.v7x

variable {F : FTy → Type} [FloatOps F]
-- ==== AdamA.lean ====
abbrev S2x256x1024 : Shape := ⟨3, ![2, 256, 1024]⟩
abbrev S256x1024 : Shape := ⟨2, ![256, 1024]⟩
abbrev S1 : Shape := ⟨1, ![1]⟩
abbrev S1x256x1024 : Shape := ⟨3, ![1, 256, 1024]⟩

abbrev nBuf : Space → Nat
  | .hbm => 9
  | .vmem => 16
  | .smem => 1
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 1, 1], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v0 : BitVec 32) : BitVec 1 :=
  let arg0 : BitVec 32 := BitVec.ofNat 32 (i 0).val
  let v1 : BitVec 1 := Scalar.cmpi .eq arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .eq arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamAIdeal.lean ====
abbrev S2x256x1024 : Shape := ⟨3, ![2, 256, 1024]⟩
abbrev S256x1024 : Shape := ⟨2, ![256, 1024]⟩
abbrev S1 : Shape := ⟨1, ![1]⟩
abbrev S1x256x1024 : Shape := ⟨3, ![1, 256, 1024]⟩

abbrev nBuf : Space → Nat
  | .hbm => 9
  | .vmem => 16
  | .smem => 1
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 1, 1], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v0 : BitVec 32) : BitVec 1 :=
  let arg0 : BitVec 32 := BitVec.ofNat 32 (i 0).val
  let v1 : BitVec 1 := Scalar.cmpi .eq arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .eq arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamARefIdeal.lean ====
abbrev S2x256x1024 : Shape := ⟨3, ![2, 256, 1024]⟩
abbrev S256x1024 : Shape := ⟨2, ![256, 1024]⟩
abbrev S1 : Shape := ⟨1, ![1]⟩
abbrev S2 : Shape := ⟨1, ![2]⟩
abbrev S2x1x1 : Shape := ⟨3, ![2, 1, 1]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S1, .i32⟩
  | .hbm, ⟨6, _⟩ => ⟨S2, .i32⟩
  | .hbm, ⟨7, _⟩ => ⟨S2, .i32⟩
  | .hbm, ⟨8, _⟩ => ⟨S2, .i1⟩
  | .hbm, ⟨9, _⟩ => ⟨S2x1x1, .i1⟩
  | .hbm, ⟨10, _⟩ => ⟨S2x256x1024, .i1⟩
  | .hbm, ⟨11, _⟩ => ⟨S2x256x1024, .f32⟩
  | .hbm, ⟨12, _⟩ => ⟨S2x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== AdamB.lean ====
abbrev S2x512x1024 : Shape := ⟨3, ![2, 512, 1024]⟩
abbrev S512x1024 : Shape := ⟨2, ![512, 1024]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x512x1024, .f32⟩
  | .hbm, ⟨1, _⟩ => ⟨S512x1024, .f32⟩
  | .hbm, ⟨2, _⟩ => ⟨S512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v0 : BitVec 32) : BitVec 1 :=
  let arg0 : BitVec 32 := BitVec.ofNat 32 (i 0).val
  let v1 : BitVec 1 := Scalar.cmpi .eq arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .eq arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamBIdeal.lean ====
abbrev S2x512x1024 : Shape := ⟨3, ![2, 512, 1024]⟩
abbrev S512x1024 : Shape := ⟨2, ![512, 1024]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x512x1024, .f32⟩
  | .hbm, ⟨1, _⟩ => ⟨S512x1024, .f32⟩
  | .hbm, ⟨2, _⟩ => ⟨S512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v0 : BitVec 32) : BitVec 1 :=
  let arg0 : BitVec 32 := BitVec.ofNat 32 (i 0).val
  let v1 : BitVec 1 := Scalar.cmpi .eq arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .eq arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamBRefIdeal.lean ====
abbrev S2x512x1024 : Shape := ⟨3, ![2, 512, 1024]⟩
abbrev S512x1024 : Shape := ⟨2, ![512, 1024]⟩
abbrev S1 : Shape := ⟨1, ![1]⟩
abbrev S2 : Shape := ⟨1, ![2]⟩
abbrev S2x1x1 : Shape := ⟨3, ![2, 1, 1]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S512x1024, .f32⟩
  | .hbm, ⟨2, _⟩ => ⟨S512x1024, .f32⟩
  | .hbm, ⟨3, _⟩ => ⟨S2x512x1024, .f32⟩
  | .hbm, ⟨4, _⟩ => ⟨S2x512x1024, .f32⟩
  | .hbm, ⟨5, _⟩ => ⟨S1, .i32⟩
  | .hbm, ⟨6, _⟩ => ⟨S2, .i32⟩
  | .hbm, ⟨7, _⟩ => ⟨S2, .i32⟩
  | .hbm, ⟨8, _⟩ => ⟨S2, .i1⟩
  | .hbm, ⟨9, _⟩ => ⟨S2x1x1, .i1⟩
  | .hbm, ⟨10, _⟩ => ⟨S2x512x1024, .i1⟩
  | .hbm, ⟨11, _⟩ => ⟨S2x512x1024, .f32⟩
  | .hbm, ⟨12, _⟩ => ⟨S2x512x1024, .f32⟩
  | .hbm, ⟨13, _⟩ => ⟨S2x512x1024, .f32⟩
  | .hbm, ⟨14, _⟩ => ⟨S_, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | .hbm, ⟨43, _⟩ => ⟨S2x512x1024, .f32⟩
  | .hbm, ⟨44, _⟩ => ⟨S_, .f32⟩
  | .hbm, ⟨45, _⟩ => ⟨S2x512x1024, .f32⟩
  | .hbm, ⟨46, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== AdamIn.lean ====
abbrev S2x2824x1024 : Shape := ⟨3, ![2, 2824, 1024]⟩
abbrev S2824x1024 : Shape := ⟨2, ![2824, 1024]⟩
abbrev S1 : Shape := ⟨1, ![1]⟩
abbrev S1x2824x128 : Shape := ⟨3, ![1, 2824, 128]⟩
abbrev S2824x128 : Shape := ⟨2, ![2824, 128]⟩

abbrev nBuf : Space → Nat
  | .hbm => 9
  | .vmem => 18
  | .smem => 1
  | _ => 0

abbrev bufTy : (tb : Table) → Fin (tcTables nBuf tb) → BufTy
  | .hbm, ⟨0, _⟩ => ⟨S2x2824x1024, .f32⟩
  | .hbm, ⟨1, _⟩ => ⟨S2824x1024, .f32⟩
  | .hbm, ⟨2, _⟩ => ⟨S2824x1024, .f32⟩
  | .hbm, ⟨3, _⟩ => ⟨S2x2824x1024, .f32⟩
  | .hbm, ⟨4, _⟩ => ⟨S2x2824x1024, .f32⟩
  | .hbm, ⟨5, _⟩ => ⟨S2x2824x1024, .f32⟩
  | .hbm, ⟨6, _⟩ => ⟨S2x2824x1024, .f32⟩
  | .hbm, ⟨7, _⟩ => ⟨S2x2824x1024, .f32⟩
  | .hbm, ⟨8, _⟩ => ⟨S2x2824x1024, .f32⟩
  | .local _ .vmem, ⟨0, _⟩ => ⟨S1x2824x128, .f32⟩
  | .local _ .vmem, ⟨1, _⟩ => ⟨S1x2824x128, .f32⟩
  | .local _ .vmem, ⟨2, _⟩ => ⟨S2824x128, .f32⟩
  | .local _ .vmem, ⟨3, _⟩ => ⟨S2824x128, .f32⟩
  | .local _ .vmem, ⟨4, _⟩ => ⟨S2824x128, .f32⟩
  | .local _ .vmem, ⟨5, _⟩ => ⟨S2824x128, .f32⟩
  | .local _ .vmem, ⟨6, _⟩ => ⟨S1x2824x128, .f32⟩
  | .local _ .vmem, ⟨7, _⟩ => ⟨S1x2824x128, .f32⟩
  | .local _ .vmem, ⟨8, _⟩ => ⟨S1x2824x128, .f32⟩
  | .local _ .vmem, ⟨9, _⟩ => ⟨S1x2824x128, .f32⟩
  | .local _ .vmem, ⟨10, _⟩ => ⟨S1x2824x128, .f32⟩
  | .local _ .vmem, ⟨11, _⟩ => ⟨S1x2824x128, .f32⟩
  | .local _ .vmem, ⟨12, _⟩ => ⟨S1x2824x128, .f32⟩
  | .local _ .vmem, ⟨13, _⟩ => ⟨S1x2824x128, .f32⟩
  | .local _ .vmem, ⟨14, _⟩ => ⟨S1x2824x128, .f32⟩
  | .local _ .vmem, ⟨15, _⟩ => ⟨S1x2824x128, .f32⟩
  | .local _ .vmem, ⟨16, _⟩ => ⟨S1x2824x128, .f32⟩
  | .local _ .vmem, ⟨17, _⟩ => ⟨S1x2824x128, .f32⟩
  | .local _ .smem, ⟨0, _⟩ => ⟨S1, .i32⟩
  | _, _ => ⟨S2x2824x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 8], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v0 : BitVec 32) : BitVec 1 :=
  let arg0 : BitVec 32 := BitVec.ofNat 32 (i 0).val
  let v1 : BitVec 1 := Scalar.cmpi .eq arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .eq arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2824x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2824x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2824x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2824x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2824x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2824x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2824x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2824x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2824x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamInRefIdeal.lean ====
abbrev S2x2824x1024 : Shape := ⟨3, ![2, 2824, 1024]⟩
abbrev S2824x1024 : Shape := ⟨2, ![2824, 1024]⟩
abbrev S1 : Shape := ⟨1, ![1]⟩
abbrev S2 : Shape := ⟨1, ![2]⟩
abbrev S2x1x1 : Shape := ⟨3, ![2, 1, 1]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2x2824x1024, .f32⟩
  | .hbm, ⟨1, _⟩ => ⟨S2824x1024, .f32⟩
  | .hbm, ⟨2, _⟩ => ⟨S2824x1024, .f32⟩
  | .hbm, ⟨3, _⟩ => ⟨S2x2824x1024, .f32⟩
  | .hbm, ⟨4, _⟩ => ⟨S2x2824x1024, .f32⟩
  | .hbm, ⟨5, _⟩ => ⟨S1, .i32⟩
  | .hbm, ⟨6, _⟩ => ⟨S2, .i32⟩
  | .hbm, ⟨7, _⟩ => ⟨S2, .i32⟩
  | .hbm, ⟨8, _⟩ => ⟨S2, .i1⟩
  | .hbm, ⟨9, _⟩ => ⟨S2x1x1, .i1⟩
  | .hbm, ⟨10, _⟩ => ⟨S2x2824x1024, .i1⟩
  | .hbm, ⟨11, _⟩ => ⟨S2x2824x1024, .f32⟩
  | .hbm, ⟨12, _⟩ => ⟨S2x2824x1024, .f32⟩
  | .hbm, ⟨13, _⟩ => ⟨S2x2824x1024, .f32⟩
  | .hbm, ⟨14, _⟩ => ⟨S_, .f32⟩
  | .hbm, ⟨15, _⟩ => ⟨S2x2824x1024, .f32⟩
  | .hbm, ⟨16, _⟩ => ⟨S2x2824x1024, .f32⟩
  | .hbm, ⟨17, _⟩ => ⟨S_, .f32⟩
  | .hbm, ⟨18, _⟩ => ⟨S2x2824x1024, .f32⟩
  | .hbm, ⟨19, _⟩ => ⟨S2x2824x1024, .f32⟩
  | .hbm, ⟨20, _⟩ => ⟨S2x2824x1024, .f32⟩
  | .hbm, ⟨21, _⟩ => ⟨S_, .f32⟩
  | .hbm, ⟨22, _⟩ => ⟨S2x2824x1024, .f32⟩
  | .hbm, ⟨23, _⟩ => ⟨S2x2824x1024, .f32⟩
  | .hbm, ⟨24, _⟩ => ⟨S2x2824x1024, .f32⟩
  | .hbm, ⟨25, _⟩ => ⟨S_, .f32⟩
  | .hbm, ⟨26, _⟩ => ⟨S2x2824x1024, .f32⟩
  | .hbm, ⟨27, _⟩ => ⟨S2x2824x1024, .f32⟩
  | .hbm, ⟨28, _⟩ => ⟨S2x2824x1024, .f32⟩
  | .hbm, ⟨29, _⟩ => ⟨S_, .f32⟩
  | .hbm, ⟨30, _⟩ => ⟨S2x2824x1024, .f32⟩
  | .hbm, ⟨31, _⟩ => ⟨S2x2824x1024, .f32⟩
  | .hbm, ⟨32, _⟩ => ⟨S_, .f32⟩
  | .hbm, ⟨33, _⟩ => ⟨S2x2824x1024, .f32⟩
  | .hbm, ⟨34, _⟩ => ⟨S2x2824x1024, .f32⟩
  | .hbm, ⟨35, _⟩ => ⟨S2x2824x1024, .f32⟩
  | .hbm, ⟨36, _⟩ => ⟨S_, .f32⟩
  | .hbm, ⟨37, _⟩ => ⟨S2x2824x1024, .f32⟩
  | .hbm, ⟨38, _⟩ => ⟨S2x2824x1024, .f32⟩
  | .hbm, ⟨39, _⟩ => ⟨S2x2824x1024, .f32⟩
  | .hbm, ⟨40, _⟩ => ⟨S_, .f32⟩
  | .hbm, ⟨41, _⟩ => ⟨S2x2824x1024, .f32⟩
  | .hbm, ⟨42, _⟩ => ⟨S2x2824x1024, .f32⟩
  | .hbm, ⟨43, _⟩ => ⟨S2x2824x1024, .f32⟩
  | .hbm, ⟨44, _⟩ => ⟨S_, .f32⟩
  | .hbm, ⟨45, _⟩ => ⟨S2x2824x1024, .f32⟩
  | .hbm, ⟨46, _⟩ => ⟨S2x2824x1024, .f32⟩
  | _, _ => ⟨S2x2824x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Proof.Chunk.lean ====
/-
  What the kernel computes from one chunk of 128 rows, as functions of what it loads for the chunk.

  The kernel's body works through a block of 512 rows in four chunks of 128 rows and writes the same chain of
  operations for each of them. This module writes that chain once, over what a chunk loads (`Ch`), for any reading of
  the floating point operations: the activations and their derivatives, the layer norm, the two products with the
  masked mixing matrices, and what is stored for the chunk.
-/
module

public import proofs.«01_k».proof.Proof.Gen.KernelIdeal.Skeleton

@[expose] public section

noncomputable section

namespace Cert.BranchA

open Idealize.ShloMosaic Cert.KernelIdeal Cert.KernelIdeal.Facts₀ Cert.KernelIdeal.Facts

variable {F : FTy → Type} [FloatOps F] [Named F]

/-- What one chunk of 128 rows loads: the three parts of the projection, the gradient of the branch's output, the
    layer norm's weight and bias, the eight mixing matrices (and the transposed ones) and the repeated mixing bias. -/
structure Ch (F : FTy → Type) where
  u : Vec F S128x1024 .f32
  v : Vec F S128x1024 .f32
  z : Vec F S128x1024 .f32
  dy : Vec F S128x1024 .bf16
  lw : Vec F S1x1024 .f32
  lb : Vec F S1x1024 .f32
  W : Fin 8 → Vec F S1x128x128 .bf16
  Wt : Fin 8 → Vec F S1x128x128 .bf16
  bs : Vec F S128x1024 .f32

/-- The hyperbolic tangent inside the GELU. -/
def gth (x : FVec F S128x1024 .f32) : FVec F S128x1024 .f32 :=
  tanh (mulf (broadcast S128x1024 (Scalar.ofBits .f32 0x3F4C422A#32))
    (addf x (mulf (mulf (broadcast S128x1024 (Named.named κ "gelu_c" 0x3D372713#32)) x) (mulf x x))))

/-- The GELU. -/
def gelu (x : FVec F S128x1024 .f32) : FVec F S128x1024 .f32 :=
  mulf (mulf (broadcast S128x1024 (Scalar.ofBits .f32 0x3F000000#32)) x)
    (addf (broadcast S128x1024 (Scalar.ofBits .f32 0x3F800000#32)) (gth x))

/-- The GELU's derivative. -/
def dgelu (x : FVec F S128x1024 .f32) : FVec F S128x1024 .f32 :=
  addf (mulf (broadcast S128x1024 (Scalar.ofBits .f32 0x3F000000#32))
      (addf (broadcast S128x1024 (Scalar.ofBits .f32 0x3F800000#32)) (gth x)))
    (mulf (mulf (mulf (mulf (broadcast S128x1024 (Scalar.ofBits .f32 0x3F000000#32)) x)
        (subf (broadcast S128x1024 (Scalar.ofBits .f32 0x3F800000#32)) (mulf (gth x) (gth x))))
        (broadcast S128x1024 (Scalar.ofBits .f32 0x3F4C422A#32)))
      (addf (broadcast S128x1024 (Scalar.ofBits .f32 0x3F800000#32))
        (mulf (broadcast S128x1024 (Named.named κ "gelu_3c" 0x3E095D4F#32)) (mulf x x))))

/-- The logistic function, through the hyperbolic tangent. -/
def sg (x : FVec F S128x1024 .f32) : FVec F S128x1024 .f32 :=
  addf (mulf (broadcast S128x1024 (Scalar.ofBits .f32 0x3F000000#32))
    (tanh (mulf (broadcast S128x1024 (Scalar.ofBits .f32 0x3F000000#32)) x)))
    (broadcast S128x1024 (Scalar.ofBits .f32 0x3F000000#32))

/-- The SiLU. -/
def silu (x : FVec F S128x1024 .f32) : FVec F S128x1024 .f32 := mulf x (sg x)

/-- The SiLU's derivative. -/
def dsilu (x : FVec F S128x1024 .f32) : FVec F S128x1024 .f32 :=
  mulf (sg x) (addf (broadcast S128x1024 (Scalar.ofBits .f32 0x3F800000#32))
    (mulf x (subf (broadcast S128x1024 (Scalar.ofBits .f32 0x3F800000#32)) (sg x))))

/-- A row's mean, in a column of 128 means. -/
def mean (x : FVec F S128x1024 .f32) : FVec F S128x1 .f32 :=
  divf (shapeCast S128x1 (multiReduction .add [1] S128 x 0x00000000#32 reduces_S128x1024_S128 (.inl rfl) rfl)
    shapeCasts_S128_S128x1) (broadcast S128x1 (Scalar.ofBits .f32 0x44800000#32))

/-- A column of 128 numbers spread over the rows. -/
def spread (x : FVec F S128x1 .f32) : FVec F S128x1024 .f32 := broadcastTo S128x1024 x broadcasts_S128x1_S128x1024

/-- A row spread over the 128 rows. -/
def over (x : Vec F S1x1024 .f32) : FVec F S128x1024 .f32 :=
  broadcastTo S128x1024 (shapeCast S1x1024 x shapeCasts_S1x1024_S1x1024) broadcasts_S1x1024_S128x1024

/-- The rows less their means. -/
def centred (x : FVec F S128x1024 .f32) : FVec F S128x1024 .f32 := subf x (spread (mean x))

/-- The reciprocal of the rows' standard deviation. -/
def rstd (x : FVec F S128x1024 .f32) : FVec F S128x1 .f32 :=
  rsqrt (addf (mean (mulf (centred x) (centred x))) (broadcast S128x1 (Scalar.ofBits .f32 0x358637BD#32)))

/-- The normalised rows. -/
def vhat (x : FVec F S128x1024 .f32) : FVec F S128x1024 .f32 := mulf (centred x) (spread (rstd x))

/-- One mixing matrix times 128 columns of `a`, those from `o` on. -/
def prod (o : ℕ) (h : S128x1024.Slices ![0, o] S128x128) (w : Vec F S1x128x128 .bf16) (a : FVec F S128x1024 .bf16) :
    FVec F S128x128 .f32 :=
  matmul dot_S128x128_S128x128_S128x128_1_0_0_1_n_n none (shapeCast S128x128 w shapeCasts_S1x128x128_S128x128)
    (extractStridedSlice S128x128 ![0, o] a h) (constant S128x128 .f32 0x00000000#32)

/-- The eight mixing matrices times their groups of columns. -/
def mixed (W : Fin 8 → Vec F S1x128x128 .bf16) (a : FVec F S128x1024 .bf16) : FVec F S128x1024 .f32 :=
  concatenate S128x1024 1
    [⟨S128x128, prod 0 slices_S128x1024_o0_0_S128x128 (W 0) a⟩,
     ⟨S128x128, prod 128 slices_S128x1024_o0_128_S128x128 (W 1) a⟩,
     ⟨S128x128, prod 256 slices_S128x1024_o0_256_S128x128 (W 2) a⟩,
     ⟨S128x128, prod 384 slices_S128x1024_o0_384_S128x128 (W 3) a⟩,
     ⟨S128x128, prod 512 slices_S128x1024_o0_512_S128x128 (W 4) a⟩,
     ⟨S128x128, prod 640 slices_S128x1024_o0_640_S128x128 (W 5) a⟩,
     ⟨S128x128, prod 768 slices_S128x1024_o0_768_S128x128 (W 6) a⟩,
     ⟨S128x128, prod 896 slices_S128x1024_o0_896_S128x128 (W 7) a⟩]
    concatenates_S128x128_S128x128_S128x128_S128x128_S128x128_S128x128_S128x128_S128x128_S128x1024_d1

/-- The layer norm's output, as the mixing reads it. -/
def vl (q : Ch F) : FVec F S128x1024 .bf16 :=
  truncf .bf16 (addf (mulf (vhat (gelu q.v)) (over q.lw)) (over q.lb)) bitsLt_bf16_f32

/-- The mixed rows. -/
def mix (q : Ch F) : FVec F S128x1024 .f32 :=
  addf (mixed q.W (vl q)) (shapeCast S128x1024 q.bs shapeCasts_S128x1024_S128x1024)

/-- The gradient of the branch's output, widened. -/
def dyf (q : Ch F) : FVec F S128x1024 .f32 := extf .f32 q.dy bitsLt_bf16_f32

/-- The gradient of the mixed rows. -/
def dmix (q : Ch F) : FVec F S128x1024 .f32 := mulf (mulf (dyf q) (gelu q.u)) (silu q.z)

/-- The same, as the products read it. -/
def dmixb (q : Ch F) : FVec F S128x1024 .bf16 := truncf .bf16 (dmix q) bitsLt_bf16_f32

/-- The gradient of the layer norm's output. -/
def dvl (q : Ch F) : FVec F S128x1024 .f32 := mixed q.Wt (dmixb q)

/-- The projection's gradient, first part. -/
def dpu (q : Ch F) : FVec F S128x1024 .bf16 :=
  truncf .bf16 (mulf (mulf (mulf (dyf q) (mix q)) (silu q.z)) (dgelu q.u)) bitsLt_bf16_f32

/-- The projection's gradient, third part. -/
def dpz (q : Ch F) : FVec F S128x1024 .bf16 :=
  truncf .bf16 (mulf (mulf (mulf (dyf q) (gelu q.u)) (mix q)) (dsilu q.z)) bitsLt_bf16_f32

/-- The gradient of the normalised rows. -/
def dvh (q : Ch F) : FVec F S128x1024 .f32 := mulf (dvl q) (over q.lw)

/-- The projection's gradient, second part. -/
def dpv (q : Ch F) : FVec F S128x1024 .bf16 :=
  truncf .bf16 (mulf (mulf (spread (rstd (gelu q.v)))
    (subf (subf (dvh q) (spread (mean (dvh q))))
      (mulf (vhat (gelu q.v)) (spread (mean (mulf (dvh q) (vhat (gelu q.v)))))))) (dgelu q.v)) bitsLt_bf16_f32

/-- The mixing bias's gradient so far, the chunk added. -/
def addDbs (q : Ch F) (a : Vec F S128x1024 .f32) : FVec F S128x1024 .f32 :=
  addf (shapeCast S128x1024 a shapeCasts_S128x1024_S128x1024) (dmix q)

/-- The sum of a chunk's rows. -/
def colSum (x : FVec F S128x1024 .f32) : FVec F S1x1024 .f32 :=
  shapeCast S1x1024 (multiReduction .add [0] S1024 x 0x00000000#32 reduces_S128x1024_S1024 (.inl rfl) rfl)
    shapeCasts_S1024_S1x1024

/-- The layer norm weight's gradient so far, the chunk added. -/
def addDlw (q : Ch F) (a : Vec F S1x1024 .f32) : FVec F S1x1024 .f32 :=
  addf (shapeCast S1x1024 a shapeCasts_S1x1024_S1x1024) (colSum (mulf (dvl q) (vhat (gelu q.v))))

/-- The layer norm bias's gradient so far, the chunk added. -/
def addDlb (q : Ch F) (a : Vec F S1x1024 .f32) : FVec F S1x1024 .f32 :=
  addf (shapeCast S1x1024 a shapeCasts_S1x1024_S1x1024) (colSum (dvl q))

/-- One mixing matrix's gradient so far, the chunk added. -/
def addDw (o : ℕ) (h : S128x1024.Slices ![0, o] S128x128) (q : Ch F) (a : Vec F S1x128x128 .f32) :
    FVec F S1x128x128 .f32 :=
  shapeCast S1x128x128 (addf (shapeCast S128x128 a shapeCasts_S1x128x128_S128x128)
    (matmul dot_S128x128_S128x128_S128x128_1_1_0_0_n_n none (extractStridedSlice S128x128 ![0, o] (dmixb q) h)
      (extractStridedSlice S128x128 ![0, o] (vl q) h) (constant S128x128 .f32 0x00000000#32)))
    shapeCasts_S128x128_S1x128x128

/-- One mixing matrix's gradient so far, the chunk added: the group's own columns. -/
def addDwG (g : Fin 8) (q : Ch F) (a : Vec F S1x128x128 .f32) : Vec F S1x128x128 .f32 :=
  match g with
  | 0 => addDw 0 slices_S128x1024_o0_0_S128x128 q a
  | 1 => addDw 128 slices_S128x1024_o0_128_S128x128 q a
  | 2 => addDw 256 slices_S128x1024_o0_256_S128x128 q a
  | 3 => addDw 384 slices_S128x1024_o0_384_S128x128 q a
  | 4 => addDw 512 slices_S128x1024_o0_512_S128x128 q a
  | 5 => addDw 640 slices_S128x1024_o0_640_S128x128 q a
  | 6 => addDw 768 slices_S128x1024_o0_768_S128x128 q a
  | 7 => addDw 896 slices_S128x1024_o0_896_S128x128 q a

end Cert.BranchA
-- ==== Proof.Spec.lean ====
/-
  The gradients of the branch as functions of real numbers.

  The forward branch is `gelu u · mix · silu z` of the three parts `u`, `v`, `z` of a projection, where `mix` is a
  causal mixing of every 128 rows of the layer norm of `gelu v`, one matrix for each of eight groups of 128 columns.
  This module states its gradients for given real arguments (`Args`): the mathematics both programs compute. Rows
  and columns are natural numbers.
-/
module

public import Idealize.ShloMosaic.Lib.ValueIdx

@[expose] public section

noncomputable section

namespace Cert.BranchA

open Finset

/-- The square root of 2/π, as both programs write it. -/
def gk : ℝ := 6693141 / 8388608

/-- The layer norm's regulariser, as both programs write it. -/
def eps : ℝ := 8796093 / 8796093022208

/-- The hyperbolic tangent inside the GELU. -/
def gT (x : ℝ) : ℝ := Real.tanh (gk * (x + 8943 / 200000 * x * (x * x)))

/-- The GELU. -/
def gl (x : ℝ) : ℝ := x * (1 + gT x) / 2

/-- The GELU's derivative. -/
def dgl (x : ℝ) : ℝ := (1 + gT x) / 2 + x / 2 * (1 - gT x * gT x) * (gk * (1 + 3 * (8943 / 200000) * (x * x)))

/-- The logistic function. -/
def lg (x : ℝ) : ℝ := (1 + Real.exp (-x))⁻¹

/-- The SiLU. -/
def sl (x : ℝ) : ℝ := x * lg x

/-- The SiLU's derivative. -/
def dsl (x : ℝ) : ℝ := lg x * (1 + x * (1 - lg x))

/-- The arguments: the projection, the gradient of the branch's output, the layer norm's weight and bias, the mixing
    matrices and the mixing bias. -/
structure Args where
  p : ℕ → ℕ → ℝ
  y : ℕ → ℕ → ℝ
  w : ℕ → ℝ
  b : ℕ → ℝ
  ws : ℕ → ℕ → ℕ → ℝ
  bs : ℕ → ℕ → ℝ

namespace Args

variable (A : Args)

/-- The rows the layer norm reads. -/
def a (r j : ℕ) : ℝ := gl (A.p r (1024 + j))

/-- A row's mean. -/
def mu (r : ℕ) : ℝ := (∑ k ∈ range 1024, A.a r k) / 1024

/-- A row less its mean. -/
def xc (r j : ℕ) : ℝ := A.a r j - A.mu r

/-- A row's variance. -/
def var (r : ℕ) : ℝ := (∑ k ∈ range 1024, A.xc r k * A.xc r k) / 1024

/-- The reciprocal of a row's standard deviation. -/
def rs (r : ℕ) : ℝ := (√(A.var r + eps))⁻¹

/-- The normalised rows. -/
def vh (r j : ℕ) : ℝ := A.xc r j * A.rs r

/-- The layer norm's output. -/
def vl (r j : ℕ) : ℝ := A.vh r j * A.w j + A.b j

/-- The mixing matrices, causal. -/
def W (g t s : ℕ) : ℝ := if s ≤ t then A.ws g t s else 0

/-- The mixed rows. -/
def mix (r j : ℕ) : ℝ :=
  (∑ s ∈ range 128, A.W (j / 128) (r % 128) s * A.vl (128 * (r / 128) + s) j) + A.bs (j / 128) (r % 128)

/-- The first factor. -/
def u (r j : ℕ) : ℝ := gl (A.p r j)

/-- The argument of the third factor. -/
def z (r j : ℕ) : ℝ := A.p r (2048 + j)

/-- The gradient of the mixed rows. -/
def dm (r j : ℕ) : ℝ := A.y r j * A.u r j * sl (A.z r j)

/-- The gradient of the layer norm's output. -/
def dvl (r j : ℕ) : ℝ := ∑ t ∈ range 128, A.W (j / 128) t (r % 128) * A.dm (128 * (r / 128) + t) j

/-- The gradient of the projection's first part. -/
def dpu (r j : ℕ) : ℝ := A.y r j * A.mix r j * sl (A.z r j) * dgl (A.p r j)

/-- The gradient of the projection's third part. -/
def dpz (r j : ℕ) : ℝ := A.y r j * A.u r j * A.mix r j * dsl (A.z r j)

/-- The gradient of the normalised rows. -/
def dvh (r j : ℕ) : ℝ := A.dvl r j * A.w j

/-- The gradient of the projection's second part. -/
def dpv (r j : ℕ) : ℝ :=
  A.rs r * (A.dvh r j - (∑ k ∈ range 1024, A.dvh r k) / 1024
    - A.vh r j * ((∑ k ∈ range 1024, A.dvh r k * A.vh r k) / 1024)) * dgl (A.p r (1024 + j))

/-- The projection's gradient. -/
def dp (r j : ℕ) : ℝ := if j < 1024 then A.dpu r j else if j < 2048 then A.dpv r (j - 1024) else A.dpz r (j - 2048)

/-- The gradient of the layer norm's weight. -/
def dlw (j : ℕ) : ℝ := ∑ r ∈ range 8192, A.dvl r j * A.vh r j

/-- The gradient of the layer norm's bias. -/
def dlb (j : ℕ) : ℝ := ∑ r ∈ range 8192, A.dvl r j

/-- The gradient of the mixing matrices, before the causal mask. -/
def dwf (g t s : ℕ) : ℝ :=
  ∑ n ∈ range 64, ∑ d ∈ range 128, A.dm (128 * n + t) (128 * g + d) * A.vl (128 * n + s) (128 * g + d)

/-- The gradient of the mixing matrices. -/
def dw (g t s : ℕ) : ℝ := if s ≤ t then A.dwf g t s else 0

/-- The gradient of the mixing bias. -/
def db (g t : ℕ) : ℝ := ∑ n ∈ range 64, ∑ d ∈ range 128, A.dm (128 * n + t) (128 * g + d)

theorem var_nonneg (r : ℕ) : 0 ≤ A.var r := by
  unfold var
  exact div_nonneg (Finset.sum_nonneg fun k _ => mul_self_nonneg _) (by norm_num)

theorem var_eps_pos (r : ℕ) : 0 < A.var r + eps := by
  have := A.var_nonneg r
  have h : 0 < eps := by unfold eps; norm_num
  linarith

end Args

/-- The logistic function through the hyperbolic tangent of half the argument. -/
theorem lg_eq_tanh (x : ℝ) : lg x = 1 / 2 * Real.tanh (1 / 2 * x) + 1 / 2 := by
  unfold lg
  rw [Real.tanh_eq_sinh_div_cosh, Real.sinh_eq, Real.cosh_eq]
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  have p1 := Real.exp_pos (1 / 2 * x)
  have p2 := Real.exp_pos (-(1 / 2 * x))
  rw [h1]
  generalize Real.exp (1 / 2 * x) = s at *
  generalize Real.exp (-(1 / 2 * x)) = t at *
  have hs : s = t⁻¹ := by field_simp; linarith
  subst hs
  have : (0:ℝ) < 1 + t * t := by positivity
  field_simp
  ring

end Cert.BranchA
-- ==== Proof.Consts.lean ====
/-
  The constants of the two programs, as real numbers.
-/
module

public import Idealize.ShloMosaic.Lib.ValueIdx
public import Idealize.ShloMosaic.PureOps.Ideal.Laws
public import proofs.«01_k».proof.Proof.Spec

@[expose] public section

noncomputable section

namespace Cert.BranchA

open Idealize.ShloMosaic

theorem bits_gk : Ideal.ofBits .f32 0x3F4C422A#32 = ((gk : ℝ) : EReal) := by
  unfold gk; simp [Ideal.ofBits, Ideal.ieee, -EReal.coe_mul]; norm_num
theorem bits_eps : Ideal.ofBits .f32 0x358637BD#32 = ((eps : ℝ) : EReal) := by
  unfold eps; simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_mhalf : Ideal.ofBits .f32 0xBF000000#32 = ((-1 / 2 : ℝ) : EReal) := by
  simp [Ideal.ofBits, Ideal.ieee, -EReal.coe_mul]; norm_num

/-- A finite sum of real numbers, taken over the extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The same over `Fin n`, as a sum over the numbers below `n`. -/
theorem coe_sum_fin (n : ℕ) (f : ℕ → ℝ) :
    ∑ k : Fin n, ((f k.val : ℝ) : EReal) = ((∑ k ∈ Finset.range n, f k : ℝ) : EReal) := by
  rw [coe_sum, Finset.sum_range]

end Cert.BranchA
-- ==== Proof.Lift.lean ====
/-
  A chunk's values at real inputs: each step of the chain in Chunk.lean, read over the extended reals, takes real
  numbers to real numbers, and to which.
-/
module

public import proofs.«01_k».proof.Proof.Chunk
public import proofs.«01_k».proof.Proof.Consts
public import Idealize.ShloMosaic.Lib.Pipeline.Value
public import Idealize.ShloMosaic.Lib.MatmulPlain

@[expose] public section

noncomputable section

namespace Cert.BranchA

open Idealize.ShloMosaic Idealize.ShloMosaic.ValueIdx Cert.KernelIdeal Cert.KernelIdeal.Facts₀ Cert.KernelIdeal.Facts
open Finset (range)

/-- The array's entries are the real numbers `f` of their row and column. -/
def Is {n0 n1 : ℕ} (x : (⟨2, ![n0, n1]⟩ : Shape).Idx → EReal) (f : ℕ → ℕ → ℝ) : Prop :=
  ∀ i, x i = ((f (i 0).val (i 1).val : ℝ) : EReal)

theorem Is.congr {n0 n1 : ℕ} {x : (⟨2, ![n0, n1]⟩ : Shape).Idx → EReal} {f g : ℕ → ℕ → ℝ} (h : Is x f)
    (hfg : ∀ i < n0, ∀ j < n1, f i j = g i j) : Is x g := fun i => by
  rw [h i, hfg _ (idx2_lt0 i) _ (idx2_lt1 i)]

theorem Is.at {n0 n1 : ℕ} {x : (⟨2, ![n0, n1]⟩ : Shape).Idx → EReal} {f : ℕ → ℕ → ℝ} (h : Is x f)
    (i : (⟨2, ![n0, n1]⟩ : Shape).Idx) {a b : ℕ} (ha : (i 0).val = a) (hb : (i 1).val = b) :
    x i = ((f a b : ℝ) : EReal) := by rw [h i, ha, hb]

section Elementwise
variable {n0 n1 : ℕ}
variable {φ ψ : FTy} {x y : FVec Ideal (⟨2, ![n0, n1]⟩ : Shape) φ} {f g : ℕ → ℕ → ℝ}

theorem Is.mul (hx : Is x f) (hy : Is y g) : Is (mulf x y : FVec Ideal (⟨2, ![n0, n1]⟩ : Shape) φ) (fun i j => f i j * g i j) := fun i => by
  rw [mulf_apply, hx i, hy i, ← EReal.coe_mul]

theorem Is.add (hx : Is x f) (hy : Is y g) : Is (addf x y : FVec Ideal (⟨2, ![n0, n1]⟩ : Shape) φ) (fun i j => f i j + g i j) := fun i => by
  rw [addf_apply, hx i, hy i, ← EReal.coe_add]

theorem Is.sub (hx : Is x f) (hy : Is y g) : Is (subf x y : FVec Ideal (⟨2, ![n0, n1]⟩ : Shape) φ) (fun i j => f i j - g i j) := fun i => by
  rw [subf_apply, hx i, hy i, ← EReal.coe_sub]

theorem Is.const {b : Ideal φ} {r : ℝ} (h : b = ((r : ℝ) : EReal)) : Is (broadcast (⟨2, ![n0, n1]⟩ : Shape) b) (fun _ _ => r) := fun _ => h

theorem Is.tanh (hx : Is x f) : Is (Idealize.ShloMosaic.tanh x : FVec Ideal (⟨2, ![n0, n1]⟩ : Shape) φ) (fun i j => Real.tanh (f i j)) := fun i => by
  show Ideal.tanh (x i) = _
  rw [hx i, Ideal.tanh_coe]

theorem Is.trunc (h : ψ.bits < φ.bits) (hx : Is x f) : Is (truncf ψ x h : FVec Ideal (⟨2, ![n0, n1]⟩ : Shape) ψ) f := hx
theorem Is.ext (h : φ.bits < ψ.bits) (hx : Is x f) : Is (extf ψ x h : FVec Ideal (⟨2, ![n0, n1]⟩ : Shape) ψ) f := hx

theorem Is.divc {b : Ideal φ} {r : ℝ} (h : b = ((r : ℝ) : EReal)) (hr : r ≠ 0) (hx : Is x f) :
    Is (divf x (broadcast (⟨2, ![n0, n1]⟩ : Shape) b) : FVec Ideal (⟨2, ![n0, n1]⟩ : Shape) φ) (fun i j => f i j / r) := fun i => by
  rw [divf_apply, hx i, broadcast_apply, h, Ideal.div_coe hr, ← EReal.coe_mul, mul_one_div]

theorem Is.rsqrt (hx : Is x f) (hp : ∀ i < n0, ∀ j < n1, 0 < f i j) :
    Is (Idealize.ShloMosaic.rsqrt x : FVec Ideal (⟨2, ![n0, n1]⟩ : Shape) φ) (fun i j => (√(f i j))⁻¹) := fun i => by
  have h := hp _ (idx2_lt0 i) _ (idx2_lt1 i)
  show Ideal.rsqrt (x i) = _
  rw [hx i, Ideal.rsqrt_coe, if_neg (not_lt.2 h.le), if_neg h.ne']

end Elementwise

variable {x y : FVec Ideal S128x1024 .f32} {f g : ℕ → ℕ → ℝ}

theorem named_c : (Named.named (F := Ideal) κ "gelu_c" (φ := .f32) 0x3D372713#32) = ((8943 / 200000 : ℝ) : EReal) := by
  exact IdealRules.named_const.ideal_named_scalar _ _ _ _ rfl

theorem named_3c : (Named.named (F := Ideal) κ "gelu_3c" (φ := .f32) 0x3E095D4F#32) = ((26829 / 200000 : ℝ) : EReal) := by
  exact IdealRules.named_const.ideal_named_scalar _ _ _ _ rfl

theorem is_gth (hx : Is x f) : Is (gth x) (fun i j => gT (f i j)) :=
  ((Is.const bits_gk).mul (hx.add (((Is.const named_c).mul hx).mul (hx.mul hx)))).tanh

theorem is_gelu (hx : Is x f) : Is (gelu x) (fun i j => gl (f i j)) :=
  (((Is.const bits_half).mul hx).mul ((Is.const bits_one).add (is_gth hx))).congr fun i _ j _ => by
    simp only [gl]; ring

theorem is_dgelu (hx : Is x f) : Is (dgelu x) (fun i j => dgl (f i j)) :=
  (((Is.const bits_half).mul ((Is.const bits_one).add (is_gth hx))).add
    (((((Is.const bits_half).mul hx).mul ((Is.const bits_one).sub ((is_gth hx).mul (is_gth hx)))).mul (Is.const bits_gk)).mul
      ((Is.const bits_one).add ((Is.const named_3c).mul (hx.mul hx))))).congr fun i _ j _ => by
    simp only [dgl]; ring

theorem is_sg (hx : Is x f) : Is (sg x) (fun i j => lg (f i j)) :=
  (((Is.const bits_half).mul ((Is.const bits_half).mul hx).tanh).add (Is.const bits_half)).congr fun i _ j _ => by
    simp only [lg_eq_tanh]

theorem is_silu (hx : Is x f) : Is (silu x) (fun i j => sl (f i j)) := hx.mul (is_sg hx)

theorem is_dsilu (hx : Is x f) : Is (dsilu x) (fun i j => dsl (f i j)) :=
  (is_sg hx).mul ((Is.const bits_one).add (hx.mul ((Is.const bits_one).sub (is_sg hx))))

theorem is_mean (hx : Is x f) : Is (mean x) (fun i _ => (∑ k ∈ range 1024, f i k) / 1024) := by
  refine Is.divc (f := fun i _ => ∑ k ∈ range 1024, f i k) bits_1024 (by norm_num) fun i => ?_
  refine (shapeCast_apply (t := S128x1) _ _ i (ix1 (i 0)) (by
    rw [Shape.rowMajor_val_one, Shape.rowMajor_val_two]; have := idx2_lt1 i; simp; omega)).trans ?_
  refine (Ideal.multiReduction_add_single (a := 1) x _ _ _ _ _).trans ?_
  rw [← coe_sum_fin]
  exact Finset.sum_congr rfl fun k _ => (hx _).trans rfl

theorem is_spread {x : FVec Ideal S128x1 .f32} (hx : Is x f) : Is (spread x) (fun i _ => f i 0) := fun i => by
  unfold spread
  refine (broadcastTo_apply (t := S128x1024) _ _ i (ix2 (i 0) 0) (by intro a; match a with | ⟨0, _⟩ => rfl | ⟨1, _⟩ => rfl)).trans ?_
  exact hx _

theorem is_over {x : Vec Ideal S1x1024 .f32} {w : ℕ → ℝ} (hx : Is x (fun _ j => w j)) : Is (over x) (fun _ j => w j) := fun i => by
  unfold over
  refine (broadcastTo_apply (t := S128x1024) _ _ i (ix2 0 (i 1)) (by intro a; match a with | ⟨0, _⟩ => rfl | ⟨1, _⟩ => rfl)).trans ?_
  rw [shapeCast_self]
  exact hx _

theorem is_centred (hx : Is x f) : Is (centred x) (fun i j => f i j - (∑ k ∈ range 1024, f i k) / 1024) :=
  hx.sub (is_spread (is_mean hx))

theorem is_colSum (hx : Is x f) : Is (colSum x) (fun _ j => ∑ i ∈ range 128, f i j) := fun i => by
  refine (shapeCast_apply (t := S1x1024) _ _ i (ix1 (i 1)) (by
    rw [Shape.rowMajor_val_one, Shape.rowMajor_val_two]; have := idx2_lt0 i; simp; omega)).trans ?_
  refine (Ideal.multiReduction_add_single (a := 0) x _ _ _ _ _).trans ?_
  rw [← coe_sum_fin]
  exact Finset.sum_congr rfl fun k _ => (hx _).trans rfl

/-- One mixing matrix's entries are the real numbers `f` of their row and column. -/
def Is3 (x : Vec Ideal S1x128x128 .bf16) (f : ℕ → ℕ → ℝ) : Prop := ∀ t s : Fin 128, x (ix3 0 t s) = ((f t.val s.val : ℝ) : EReal)

theorem is_sq {x : Vec Ideal S1x128x128 .bf16} (hx : Is3 x f) : Is (shapeCast S128x128 x shapeCasts_S1x128x128_S128x128) f := fun i => by
  refine (shapeCast_apply (t := S128x128) _ _ i (ix3 0 (i 0) (i 1)) (by
    rw [Shape.rowMajor_val_three, Shape.rowMajor_val_two]; simp)).trans ?_
  exact hx _ _

theorem is_cols {o : ℕ} {x : FVec Ideal S128x1024 .bf16} (h : S128x1024.Slices ![0, o] S128x128) (hx : Is x f) :
    Is (extractStridedSlice S128x128 ![0, o] x h) (fun i j => f i (o + j)) := fun i => by
  exact (hx _).trans (by simp)

theorem is_prod {o : ℕ} {w : Vec Ideal S1x128x128 .bf16} {x : FVec Ideal S128x1024 .bf16} (h : S128x1024.Slices ![0, o] S128x128)
    (hw : Is3 w g) (hx : Is x f) : Is (prod o h w x) (fun t j => ∑ s ∈ range 128, g t s * f s (o + j)) := fun i => by
  unfold prod
  rw [eq_ix2 i]
  refine (Ideal.matmul_plain_apply (M := 128) (K := 128) (N := 128) none _ _ _ (i 0) (i 1)).trans ?_
  rw [constant_apply, Ideal.ofBits_zero_f32, zero_add, ← coe_sum_fin]
  refine Finset.sum_congr rfl fun k _ => ?_
  rw [is_sq hw, is_cols h hx, EReal.coe_mul]

theorem slices : ∀ n : Fin 8, S128x1024.Slices ![0, 128 * n.val] S128x128
  | 0 => slices_S128x1024_o0_0_S128x128
  | 1 => slices_S128x1024_o0_128_S128x128
  | 2 => slices_S128x1024_o0_256_S128x128
  | 3 => slices_S128x1024_o0_384_S128x128
  | 4 => slices_S128x1024_o0_512_S128x128
  | 5 => slices_S128x1024_o0_640_S128x128
  | 6 => slices_S128x1024_o0_768_S128x128
  | 7 => slices_S128x1024_o0_896_S128x128

theorem is_mixed {W : Fin 8 → Vec Ideal S1x128x128 .bf16} {x : FVec Ideal S128x1024 .bf16} {G : ℕ → ℕ → ℕ → ℝ}
    (hW : ∀ k : Fin 8, Is3 (W k) (G k.val)) (hx : Is x f) :
    Is (mixed W x) (fun t j => ∑ s ∈ range 128, G (j / 128) t s * f s j) := fun i => by
  have hj := idx2_lt1 i
  let k : Fin 8 := ⟨(i 1).val / 128, by omega⟩
  refine (concatenate_ofFn_apply (t := S128x1024) (s₁ := S128x128) 1 (fun n : Fin 8 => prod (128 * n.val) (slices n) (W n) x) _ rfl 128 rfl i k rfl
    (ix2 (i 0) ⟨(i 1).val % 128, by omega⟩) rfl (by intro b hb; match b with | ⟨0, _⟩ => rfl | ⟨1, _⟩ => exact absurd rfl hb)).trans ?_
  rw [is_prod (slices k) (hW k) hx]
  congr 1
  refine Finset.sum_congr rfl fun s _ => ?_
  show G ((i 1).val / 128) (i 0).val s * f s (128 * ((i 1).val / 128) + (i 1).val % 128) = _
  rw [Nat.div_add_mod]

theorem is_nt {o : ℕ} {a b : FVec Ideal S128x1024 .bf16} (h : S128x1024.Slices ![0, o] S128x128) (ha : Is a f) (hb : Is b g) :
    Is (matmul dot_S128x128_S128x128_S128x128_1_1_0_0_n_n none (extractStridedSlice S128x128 ![0, o] a h)
      (extractStridedSlice S128x128 ![0, o] b h) (constant S128x128 .f32 0x00000000#32))
      (fun t s => ∑ d ∈ range 128, f t (o + d) * g s (o + d)) := fun i => by
  rw [eq_ix2 i]
  refine (Ideal.matmul_transposedRhs_apply (M := 128) (K := 128) (N := 128) none _ _ _ (i 0) (i 1)).trans ?_
  rw [constant_apply, Ideal.ofBits_zero_f32, zero_add, ← coe_sum_fin]
  refine Finset.sum_congr rfl fun k _ => ?_
  rw [is_cols h ha, is_cols h hb, EReal.coe_mul]

end Cert.BranchA
-- ==== Proof.ChunkLift.lean ====
/-
  A chunk at real arguments: what each step of the chunk's chain is when the chunk loads its rows of the arguments.
-/
module

public import proofs.«01_k».proof.Proof.Lift
public import proofs.«01_k».proof.Proof.Spec

@[expose] public section

noncomputable section

namespace Cert.BranchA

open Idealize.ShloMosaic Idealize.ShloMosaic.ValueIdx Cert.KernelIdeal Cert.KernelIdeal.Facts₀ Cert.KernelIdeal.Facts
open Finset (range)

/-- What the chunk loads is chunk `n`'s rows of the arguments. -/
structure Ch.Of (A : Args) (n : ℕ) (q : Ch Ideal) : Prop where
  u : Is q.u (fun i j => A.p (128 * n + i) j)
  v : Is q.v (fun i j => A.p (128 * n + i) (1024 + j))
  z : Is q.z (fun i j => A.p (128 * n + i) (2048 + j))
  dy : Is q.dy (fun i j => A.y (128 * n + i) j)
  lw : Is q.lw (fun _ j => A.w j)
  lb : Is q.lb (fun _ j => A.b j)
  W : ∀ g : Fin 8, Is3 (q.W g) (fun t s => A.W g.val t s)
  Wt : ∀ g : Fin 8, Is3 (q.Wt g) (fun s t => A.W g.val t s)
  bs : Is q.bs (fun t j => A.bs (j / 128) t)

namespace Ch.Of

variable {A : Args} {n : ℕ} {q : Ch Ideal} (h : Ch.Of A n q)
include h

theorem a : Is (gelu (F := Ideal) q.v) (fun i j => A.a (128 * n + i) j) := is_gelu h.v
theorem gu : Is (gelu (F := Ideal) q.u) (fun i j => A.u (128 * n + i) j) := is_gelu h.u
theorem xc : Is (centred (F := Ideal) (gelu (F := Ideal) q.v)) (fun i j => A.xc (128 * n + i) j) := is_centred h.a

theorem rs : Is (rstd (F := Ideal) (gelu (F := Ideal) q.v)) (fun i _ => A.rs (128 * n + i)) :=
  ((is_mean (h.xc.mul h.xc)).add (Is.const bits_eps)).rsqrt fun i _ j _ => A.var_eps_pos (128 * n + i)

theorem vh : Is (vhat (F := Ideal) (gelu (F := Ideal) q.v)) (fun i j => A.vh (128 * n + i) j) := h.xc.mul (is_spread h.rs)

theorem vl : Is (BranchA.vl q) (fun i j => A.vl (128 * n + i) j) :=
  Is.trunc _ ((h.vh.mul (is_over h.lw)).add (is_over h.lb))

theorem mix : Is (BranchA.mix q) (fun i j => A.mix (128 * n + i) j) := by
  unfold BranchA.mix
  rw [shapeCast_self]
  refine ((is_mixed h.W h.vl).add h.bs).congr fun i hi j hj => ?_
  unfold Args.mix
  rw [show (128 * n + i) / 128 = n by omega, show (128 * n + i) % 128 = i by omega]

theorem dmix : Is (BranchA.dmix q) (fun i j => A.dm (128 * n + i) j) :=
  ((Is.ext _ h.dy).mul h.gu).mul (is_silu h.z)

theorem dmixb : Is (BranchA.dmixb q) (fun i j => A.dm (128 * n + i) j) := Is.trunc _ h.dmix

theorem dvl : Is (BranchA.dvl q) (fun i j => A.dvl (128 * n + i) j) := by
  refine (is_mixed (G := fun g s t => A.W g t s) h.Wt h.dmixb).congr fun i hi j hj => ?_
  unfold Args.dvl
  rw [show (128 * n + i) / 128 = n by omega, show (128 * n + i) % 128 = i by omega]

theorem dvh : Is (BranchA.dvh q) (fun i j => A.dvh (128 * n + i) j) := h.dvl.mul (is_over h.lw)

theorem dpu : Is (BranchA.dpu q) (fun i j => A.dpu (128 * n + i) j) :=
  Is.trunc _ ((((Is.ext _ h.dy).mul h.mix).mul (is_silu h.z)).mul (is_dgelu h.u))

theorem dpz : Is (BranchA.dpz q) (fun i j => A.dpz (128 * n + i) j) :=
  Is.trunc _ ((((Is.ext _ h.dy).mul h.gu).mul h.mix).mul (is_dsilu h.z))

theorem dpv : Is (BranchA.dpv q) (fun i j => A.dpv (128 * n + i) j) :=
  Is.trunc _ (((is_spread h.rs).mul ((h.dvh.sub (is_spread (is_mean h.dvh))).sub
    (h.vh.mul (is_spread (is_mean (h.dvh.mul h.vh)))))).mul (is_dgelu h.v))

theorem dbs {a : Vec Ideal S128x1024 .f32} {f : ℕ → ℕ → ℝ} (ha : Is a f) :
    Is (addDbs q a) (fun i j => f i j + A.dm (128 * n + i) j) := by
  unfold addDbs
  rw [shapeCast_self]
  exact Is.add ha h.dmix

theorem dlw {a : Vec Ideal S1x1024 .f32} {f : ℕ → ℕ → ℝ} (ha : Is a f) :
    Is (addDlw q a) (fun i j => f i j + ∑ r ∈ range 128, A.dvl (128 * n + r) j * A.vh (128 * n + r) j) := by
  unfold addDlw
  rw [shapeCast_self]
  exact Is.add ha (is_colSum (h.dvl.mul h.vh))

theorem dlb {a : Vec Ideal S1x1024 .f32} {f : ℕ → ℕ → ℝ} (ha : Is a f) :
    Is (addDlb q a) (fun i j => f i j + ∑ r ∈ range 128, A.dvl (128 * n + r) j) := by
  unfold addDlb
  rw [shapeCast_self]
  exact Is.add ha (is_colSum h.dvl)

theorem dw {o : ℕ} {a : Vec Ideal S1x128x128 .f32} {f : ℕ → ℕ → ℝ} (hs : S128x1024.Slices ![0, o] S128x128)
    (ha : ∀ t s : Fin 128, a (ix3 0 t s) = ((f t.val s.val : ℝ) : EReal)) (t s : Fin 128) :
    addDw o hs q a (ix3 0 t s) = ((f t.val s.val
      + ∑ d ∈ range 128, A.dm (128 * n + t.val) (o + d) * A.vl (128 * n + s.val) (o + d) : ℝ) : EReal) := by
  unfold addDw
  refine (shapeCast_apply (t := S1x128x128) _ _ (ix3 0 t s) (ix2 t s) (by
    rw [Shape.rowMajor_val_three, Shape.rowMajor_val_two]; simp)).trans ?_
  rw [addf_apply, EReal.coe_add]
  refine congrArg₂ (· + ·) ?_ ?_
  · refine (shapeCast_apply (t := S128x128) _ _ (ix2 t s) (ix3 0 t s) (by
      rw [Shape.rowMajor_val_three, Shape.rowMajor_val_two]; simp)).trans (ha t s)
  · exact is_nt hs h.dmixb h.vl (ix2 t s)

theorem dwG (g : Fin 8) {a : Vec Ideal S1x128x128 .f32} {f : ℕ → ℕ → ℝ}
    (ha : ∀ t s : Fin 128, a (ix3 0 t s) = ((f t.val s.val : ℝ) : EReal)) (t s : Fin 128) :
    addDwG g q a (ix3 0 t s) = ((f t.val s.val
      + ∑ d ∈ range 128, A.dm (128 * n + t.val) (128 * g.val + d) * A.vl (128 * n + s.val) (128 * g.val + d) : ℝ) : EReal) := by
  match g with
  | 0 => exact h.dw slices_S128x1024_o0_0_S128x128 ha t s
  | 1 => exact h.dw slices_S128x1024_o0_128_S128x128 ha t s
  | 2 => exact h.dw slices_S128x1024_o0_256_S128x128 ha t s
  | 3 => exact h.dw slices_S128x1024_o0_384_S128x128 ha t s
  | 4 => exact h.dw slices_S128x1024_o0_512_S128x128 ha t s
  | 5 => exact h.dw slices_S128x1024_o0_640_S128x128 ha t s
  | 6 => exact h.dw slices_S128x1024_o0_768_S128x128 ha t s
  | 7 => exact h.dw slices_S128x1024_o0_896_S128x128 ha t s

end Ch.Of

end Cert.BranchA
-- ==== Proof.Entry.lean ====
/-
  The kernel's arrays as its launch finds them: each is an argument, or an argument masked, reshaped, transposed or
  repeated.
-/
module

public import proofs.«01_k».proof.Proof.Gen.KernelIdeal.Frame.Runs
public import proofs.«01_k».proof.Proof.ChunkLift
public import Idealize.ShloMosaic.Lib.StableHlo.ReadAt
public import Idealize.ShloMosaic.Lib.StableHlo.RunRead

@[expose] public section

set_option maxRecDepth 16384

noncomputable section

namespace Cert.BranchA

open Idealize.ShloMosaic hiding ix1 ix2 ix3
open Idealize.ShloMosaic.ValueIdx Idealize.ShloMosaic.TcCoe Idealize.SL.Sem

/-- The arguments are real numbers, and which. -/
structure Args.Of (A : Args) (x0 : FVec Ideal ⟨2, ![8192, 3072]⟩ .f32) (x1 : FVec Ideal ⟨2, ![8192, 1024]⟩ .bf16)
    (x2 x3 : FVec Ideal ⟨1, ![1024]⟩ .f32) (x4 : FVec Ideal ⟨3, ![8, 128, 128]⟩ .f32) (x5 : FVec Ideal ⟨2, ![8, 128]⟩ .f32) : Prop where
  p : Is x0 A.p
  y : Is x1 A.y
  w : ∀ j : Fin 1024, x2 (ix1 j) = ((A.w j.val : ℝ) : EReal)
  b : ∀ j : Fin 1024, x3 (ix1 j) = ((A.b j.val : ℝ) : EReal)
  ws : ∀ (g : Fin 8) (t s : Fin 128), x4 (ix3 g t s) = ((A.ws g.val t.val s.val : ℝ) : EReal)
  bs : Is x5 A.bs

namespace HostRead
open Cert.KernelIdeal Cert.KernelIdeal.Facts₀ Cert.KernelIdeal.Facts Cert.KernelIdeal.Gen

/-- The host's causal mask, as a term. -/
def tril : Vec Ideal S128x128 .i1 :=
  select (cmpi .sge (addi (iotaInDim S128x128 32 0) (broadcastInDim S128x128 ![] Gen.bcast_S_S128x128 (constantI S_ 32 0#32))) (iotaInDim S128x128 32 1))
    (broadcastInDim S128x128 ![] Gen.bcast_S_S128x128 (constantI S_ 1 1#1)) (broadcastInDim S128x128 ![] Gen.bcast_S_S128x128 (constantI S_ 1 0#1))

/-- An array of eight matrices with the mask applied, as a term. -/
def masked (k : Vec Ideal S128x128 .i1) (x : FVec Ideal S8x128x128 .f32) : FVec Ideal S8x128x128 .f32 :=
  select (broadcastInDim S8x128x128 ![0, 1, 2] Gen.bcast_S1x128x128_S8x128x128_0_1_2 (broadcastInDim S1x128x128 ![1, 2] Gen.bcast_S128x128_S1x128x128_1_2 k))
    x (broadcastInDim S8x128x128 ![] Gen.bcast_S_S8x128x128 (id (constant S_ .f32 0x00000000#32)))

theorem sge_words : ∀ a b : Fin 128, Scalar.select (IntOp.cmpi .sge (IntOp.addi (BitVec.ofNat 32 a.val) 0#32) (BitVec.ofNat 32 b.val)) 1#1 0#1
    = if b.val ≤ a.val then 1#1 else 0#1 := by decide +kernel

theorem tril_apply (i : S128x128.Idx) : tril i = if (i 1).val ≤ (i 0).val then 1#1 else 0#1 := by
  unfold tril
  pointwise
  exact sge_words (i 0) (i 1)

theorem masked_apply (x : FVec Ideal S8x128x128 .f32) (g : Fin 8) (t s : Fin 128) :
    masked tril x (ix3 g t s) = if s.val ≤ t.val then x (ix3 g t s) else 0 := by
  have e : masked tril x (ix3 g t s) = Scalar.select (tril (ix2 t s)) (x (ix3 g t s)) (Ideal.ofBits .f32 0x00000000#32) := by
    unfold masked
    pointwise
    rfl
  rw [e, tril_apply, Ideal.ofBits_zero_f32]
  show Scalar.select (if s.val ≤ t.val then 1#1 else 0#1) _ _ = _
  by_cases h : s.val ≤ t.val
  · rw [if_pos h, if_pos h]; rfl
  · rw [if_neg h, if_neg h]; rfl

variable (m : (ℓ : Loc nD τ sig) → Buf (Elt Ideal) ℓ) (c : Dev nD)

theorem V_v1 : (V m c main_v1 : Vec Ideal S128x128 .i1) = tril := by
  unfold V V0
  simp only [hostOps0, hostOps0_1, hostOps0_2, hostOps0_3, hostOps0_4, List.flatten_cons, List.flatten_nil, List.append_nil, List.cons_append, List.nil_append]
  after_reads_simp
  rfl

theorem V_v4 : (V m c main_v4 : FVec Ideal S8x128x128 .bf16)
    = truncf .bf16 (masked tril (m ((c : Thread nD τ).loc main_arg4))) Gen.bitsLt_bf16_f32 := by
  unfold V V0
  simp only [hostOps0, hostOps0_1, hostOps0_2, hostOps0_3, hostOps0_4, List.flatten_cons, List.flatten_nil, List.append_nil, List.cons_append, List.nil_append]
  after_reads_simp
  rfl

theorem V_v7 : (V m c main_v7 : FVec Ideal S8x128x128 .bf16)
    = transpose S8x128x128 [0, 2, 1] (truncf .bf16 (masked tril (m ((c : Thread nD τ).loc main_arg4))) Gen.bitsLt_bf16_f32 : FVec Ideal S8x128x128 .bf16)
        Gen.transposes_S8x128x128_S8x128x128_0_2_1 := by
  unfold V V0
  simp only [hostOps0, hostOps0_1, hostOps0_2, hostOps0_3, hostOps0_4, List.flatten_cons, List.flatten_nil, List.append_nil, List.cons_append, List.nil_append]
  after_reads_simp
  rfl

theorem V_v5 (j : Fin 1024) : (V m c main_v5 : FVec Ideal S1x1024 .f32) (ix2 0 j) = (m ((c : Thread nD τ).loc main_arg2) : FVec Ideal S1024 .f32) (ix1 j) := by
  unfold V V0
  simp only [hostOps0, hostOps0_1, hostOps0_2, hostOps0_3, hostOps0_4, List.flatten_cons, List.flatten_nil, List.append_nil, List.cons_append, List.nil_append]
  after_reads_simp
  exact shapeCast_apply (t := S1x1024) _ _ (ix2 0 j) (ix1 j) (by rw [Shape.rowMajor_val_one, Shape.rowMajor_val_two]; simp)

theorem V_v6 (j : Fin 1024) : (V m c main_v6 : FVec Ideal S1x1024 .f32) (ix2 0 j) = (m ((c : Thread nD τ).loc main_arg3) : FVec Ideal S1024 .f32) (ix1 j) := by
  unfold V V0
  simp only [hostOps0, hostOps0_1, hostOps0_2, hostOps0_3, hostOps0_4, List.flatten_cons, List.flatten_nil, List.append_nil, List.cons_append, List.nil_append]
  after_reads_simp
  exact shapeCast_apply (t := S1x1024) _ _ (ix2 0 j) (ix1 j) (by rw [Shape.rowMajor_val_one, Shape.rowMajor_val_two]; simp)

theorem V_v10 (t : Fin 128) (g : Fin 8) (d : Fin 128) : (V m c main_v10 : FVec Ideal S128x1024 .f32) (ix2 t ⟨128 * g.val + d.val, by omega⟩)
    = (m ((c : Thread nD τ).loc main_arg5) : FVec Ideal S8x128 .f32) (ix2 g t) := by
  unfold V V0
  simp only [hostOps0, hostOps0_1, hostOps0_2, hostOps0_3, hostOps0_4, List.flatten_cons, List.flatten_nil, List.append_nil, List.cons_append, List.nil_append]
  after_reads_simp
  refine (shapeCast_apply (t := S128x1024) _ _ (ix2 t ⟨128 * g.val + d.val, by omega⟩) (ix3 t g d) (by
    rw [Shape.rowMajor_val_three, Shape.rowMajor_val_two]
    show (t.val * 8 + g.val) * 128 + d.val = t.val * 1024 + (128 * g.val + d.val); omega)).trans ?_
  pointwise
  rfl

/-! The same at real arguments. -/

variable {m c} {A : Args} (h : Args.Of A (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5)))
include h

theorem masked_real (g : Fin 8) (t s : Fin 128) :
    masked tril (m ((c : Thread nD τ).loc main_arg4)) (ix3 g t s) = ((A.W g.val t.val s.val : ℝ) : EReal) := by
  rw [masked_apply]
  unfold Args.W
  split_ifs
  · exact h.ws g t s
  · rfl

theorem real_v4 (g : Fin 8) (t s : Fin 128) : (V m c main_v4 : FVec Ideal S8x128x128 .bf16) (ix3 g t s) = ((A.W g.val t.val s.val : ℝ) : EReal) := by
  rw [V_v4]
  exact masked_real h g t s

theorem real_v7 (g : Fin 8) (t s : Fin 128) : (V m c main_v7 : FVec Ideal S8x128x128 .bf16) (ix3 g s t) = ((A.W g.val t.val s.val : ℝ) : EReal) := by
  rw [V_v7]
  refine (transpose_apply (t := S8x128x128) [0, 2, 1] _ _ (ix3 g s t) (ix3 g t s) ?_).trans (masked_real h g t s)
  intro a
  match a with
  | ⟨0, _⟩ => rfl
  | ⟨1, _⟩ => rfl
  | ⟨2, _⟩ => rfl

theorem real_v5 (j : Fin 1024) : (V m c main_v5 : FVec Ideal S1x1024 .f32) (ix2 0 j) = ((A.w j.val : ℝ) : EReal) := (V_v5 m c j).trans (h.w j)
theorem real_v6 (j : Fin 1024) : (V m c main_v6 : FVec Ideal S1x1024 .f32) (ix2 0 j) = ((A.b j.val : ℝ) : EReal) := (V_v6 m c j).trans (h.b j)

theorem real_v10 : Is (V m c main_v10 : FVec Ideal S128x1024 .f32) (fun t j => A.bs (j / 128) t) := fun i => by
  have hj := idx2_lt1 i
  have e : i = ix2 (i 0) ⟨128 * ((i 1).val / 128) + (i 1).val % 128, by omega⟩ :=
    (ValueIdx.eq_ix2 i).trans (congrArg (ix2 (i 0)) (Fin.ext (Nat.div_add_mod _ _).symm))
  have k := V_v10 m c (i 0) ⟨(i 1).val / 128, by omega⟩ ⟨(i 1).val % 128, by omega⟩
  rw [show (V m c main_v10 : FVec Ideal S128x1024 .f32) i = _ from (congrArg (V m c main_v10 : FVec Ideal S128x1024 .f32) e).trans k]
  exact h.bs _

theorem real_arg0 : Is (V m c main_arg0 : FVec Ideal S8192x3072 .f32) A.p := by
  rw [V_main_arg0]
  exact h.p

theorem real_arg1 : Is (V m c main_arg1 : FVec Ideal S8192x1024 .bf16) A.y := by
  rw [V_main_arg1]
  exact h.y

end HostRead

end Cert.BranchA
-- ==== Proof.Finite.lean ====
/-
  Finite arguments are real numbers.
-/
module

public import proofs.«01_k».proof.Proof.Entry
public import proofs.«01_k».proof.Proof.Gen.Pre_finite
public import Idealize.ShloMosaic.Lib.ReduceAll
public import Idealize.ShloMosaic.Lib.WordCmp

@[expose] public section

set_option maxRecDepth 16384

noncomputable section

namespace Cert.BranchA

open Idealize.ShloMosaic hiding ix0 ix1 ix2 ix3 ix4 eq_ix1 eq_ix2 eq_ix3 eq_ix4
open Idealize.ShloMosaic.ValueIdx

namespace Finite

open Cert.Pre_finite Cert.Pre_finite.Gen

theorem bits_inf : Ideal.ofBits .f32 0x7F800000#32 = (⊤ : EReal) := by
  simp [Ideal.ofBits, Ideal.ieee]

/-- A number whose absolute value is below infinity is real. -/
theorem real_of_lt (x : EReal) (h : Ideal.cmp .olt (max x (-x)) (Ideal.ofBits .f32 0x7F800000#32) = 1#1) : x = ((x.toReal : ℝ) : EReal) := by
  rw [bits_inf] at h
  have hlt : max x (-x) < ⊤ := by
    by_contra hn
    simp [Ideal.cmp, hn] at h
  refine (EReal.coe_toReal (fun e => ?_) (fun e => ?_)).symm
  · subst e; simp at hlt
  · subst e; simp at hlt

theorem all_real {s : Shape} {axes : List (Fin s.rank)} (x : FVec Ideal s .f32) (h : s.ReducesTo axes S_) (b : S_.BroadcastsInDim s (![] : Fin 0 → Fin s.rank)) (init : IVec S_ 1)
    (j : S_.Idx) (e : Host.reduce IntOp.andi (cmpf .olt (Host.absf x) (broadcastInDim s ![] b (constant S_ .f32 0x7F800000#32 : FVec Ideal S_ .f32)) : IVec s 1) init h h_S_ j = 1#1)
    (i : s.Idx) : x i = (((x i).toReal : ℝ) : EReal) := by
  haveI : Subsingleton S_.Idx := ⟨fun a b => funext fun k => k.elim0⟩
  exact real_of_lt _ (Host.reduce_andi_all _ _ _ _ _ e i)

/-- One piece of six one-element pieces laid end to end, all of them ones. -/
theorem pieces (a0 a1 a2 a3 a4 a5 : IVec S1 1) (h : Shape.Concatenates [S1, S1, S1, S1, S1, S1] S6 0)
    (e : concatenate S6 0 [⟨S1, a0⟩, ⟨S1, a1⟩, ⟨S1, a2⟩, ⟨S1, a3⟩, ⟨S1, a4⟩, ⟨S1, a5⟩] h = fun _ => 1#1) :
    a0 (ix1 0) = 1#1 ∧ a1 (ix1 0) = 1#1 ∧ a2 (ix1 0) = 1#1 ∧ a3 (ix1 0) = 1#1 ∧ a4 (ix1 0) = 1#1 ∧ a5 (ix1 0) = 1#1 := by
  refine ⟨?_, ?_, ?_, ?_, ?_, ?_⟩
  · refine ((concatenate_apply_piece (t := S6) 0 [⟨S1, a0⟩, ⟨S1, a1⟩, ⟨S1, a2⟩, ⟨S1, a3⟩, ⟨S1, a4⟩, ⟨S1, a5⟩] h (ix1 0) 0 (by simp) S1 _ rfl rfl 0 rfl (ix1 0) (fun b hb => ?_) rfl).symm).trans (congrFun e _)
    exact absurd (Subsingleton.elim (α := Fin 1) _ _) hb
  · refine ((concatenate_apply_piece (t := S6) 0 [⟨S1, a0⟩, ⟨S1, a1⟩, ⟨S1, a2⟩, ⟨S1, a3⟩, ⟨S1, a4⟩, ⟨S1, a5⟩] h (ix1 1) 1 (by simp) S1 _ rfl rfl 1 rfl (ix1 0) (fun b hb => ?_) rfl).symm).trans (congrFun e _)
    exact absurd (Subsingleton.elim (α := Fin 1) _ _) hb
  · refine ((concatenate_apply_piece (t := S6) 0 [⟨S1, a0⟩, ⟨S1, a1⟩, ⟨S1, a2⟩, ⟨S1, a3⟩, ⟨S1, a4⟩, ⟨S1, a5⟩] h (ix1 2) 2 (by simp) S1 _ rfl rfl 2 rfl (ix1 0) (fun b hb => ?_) rfl).symm).trans (congrFun e _)
    exact absurd (Subsingleton.elim (α := Fin 1) _ _) hb
  · refine ((concatenate_apply_piece (t := S6) 0 [⟨S1, a0⟩, ⟨S1, a1⟩, ⟨S1, a2⟩, ⟨S1, a3⟩, ⟨S1, a4⟩, ⟨S1, a5⟩] h (ix1 3) 3 (by simp) S1 _ rfl rfl 3 rfl (ix1 0) (fun b hb => ?_) rfl).symm).trans (congrFun e _)
    exact absurd (Subsingleton.elim (α := Fin 1) _ _) hb
  · refine ((concatenate_apply_piece (t := S6) 0 [⟨S1, a0⟩, ⟨S1, a1⟩, ⟨S1, a2⟩, ⟨S1, a3⟩, ⟨S1, a4⟩, ⟨S1, a5⟩] h (ix1 4) 4 (by simp) S1 _ rfl rfl 4 rfl (ix1 0) (fun b hb => ?_) rfl).symm).trans (congrFun e _)
    exact absurd (Subsingleton.elim (α := Fin 1) _ _) hb
  · refine ((concatenate_apply_piece (t := S6) 0 [⟨S1, a0⟩, ⟨S1, a1⟩, ⟨S1, a2⟩, ⟨S1, a3⟩, ⟨S1, a4⟩, ⟨S1, a5⟩] h (ix1 5) 5 (by simp) S1 _ rfl rfl 5 rfl (ix1 0) (fun b hb => ?_) rfl).symm).trans (congrFun e _)
    exact absurd (Subsingleton.elim (α := Fin 1) _ _) hb

/-- Six single conditions laid end to end, all of them true. -/
theorem conditions (v0 v1 v2 v3 v4 v5 : IVec S_ 1) (b : S_.BroadcastsInDim S1 (![] : Fin 0 → Fin S1.rank)) (h : Shape.Concatenates [S1, S1, S1, S1, S1, S1] S6 0)
    (e : concatenate S6 0 [⟨S1, broadcastInDim S1 ![] b v0⟩, ⟨S1, broadcastInDim S1 ![] b v1⟩, ⟨S1, broadcastInDim S1 ![] b v2⟩, ⟨S1, broadcastInDim S1 ![] b v3⟩,
      ⟨S1, broadcastInDim S1 ![] b v4⟩, ⟨S1, broadcastInDim S1 ![] b v5⟩] h = fun _ => 1#1) :
    (∀ j, v0 j = 1#1) ∧ (∀ j, v1 j = 1#1) ∧ (∀ j, v2 j = 1#1) ∧ (∀ j, v3 j = 1#1) ∧ (∀ j, v4 j = 1#1) ∧ (∀ j, v5 j = 1#1) := by
  haveI : Subsingleton S_.Idx := ⟨fun a b => funext fun k => k.elim0⟩
  obtain ⟨h0, h1, h2, h3, h4, h5⟩ := pieces _ _ _ _ _ _ h e
  exact ⟨fun j => (congrArg v0 (Subsingleton.elim _ _)).trans h0, fun j => (congrArg v1 (Subsingleton.elim _ _)).trans h1,
    fun j => (congrArg v2 (Subsingleton.elim _ _)).trans h2, fun j => (congrArg v3 (Subsingleton.elim _ _)).trans h3,
    fun j => (congrArg v4 (Subsingleton.elim _ _)).trans h4, fun j => (congrArg v5 (Subsingleton.elim _ _)).trans h5⟩

/-- The real arguments. -/
def args (x0 : FVec Ideal ⟨2, ![8192, 3072]⟩ .f32) (x1 : FVec Ideal ⟨2, ![8192, 1024]⟩ .bf16)
    (x2 x3 : FVec Ideal ⟨1, ![1024]⟩ .f32) (x4 : FVec Ideal ⟨3, ![8, 128, 128]⟩ .f32) (x5 : FVec Ideal ⟨2, ![8, 128]⟩ .f32) : Args where
  p i j := if hi : i < 8192 then if hj : j < 3072 then EReal.toReal (x0 (ix2 ⟨i, hi⟩ ⟨j, hj⟩)) else 0 else 0
  y i j := if hi : i < 8192 then if hj : j < 1024 then EReal.toReal (x1 (ix2 ⟨i, hi⟩ ⟨j, hj⟩)) else 0 else 0
  w j := if hj : j < 1024 then EReal.toReal (x2 (ix1 ⟨j, hj⟩)) else 0
  b j := if hj : j < 1024 then EReal.toReal (x3 (ix1 ⟨j, hj⟩)) else 0
  ws g t s := if hg : g < 8 then if ht : t < 128 then if hs : s < 128 then EReal.toReal (x4 (ix3 ⟨g, hg⟩ ⟨t, ht⟩ ⟨s, hs⟩)) else 0 else 0 else 0
  bs g t := if hg : g < 8 then if ht : t < 128 then EReal.toReal (x5 (ix2 ⟨g, hg⟩ ⟨t, ht⟩)) else 0 else 0

theorem args_of (x0 : FVec Ideal ⟨2, ![8192, 3072]⟩ .f32) (x1 : FVec Ideal ⟨2, ![8192, 1024]⟩ .bf16)
    (x2 x3 : FVec Ideal ⟨1, ![1024]⟩ .f32) (x4 : FVec Ideal ⟨3, ![8, 128, 128]⟩ .f32) (x5 : FVec Ideal ⟨2, ![8, 128]⟩ .f32)
    (h : Cert.Pre_finite.fn (F := Ideal) x0 x1 x2 x3 x4 x5 = fun _ => 1#1) : Args.Of (args x0 x1 x2 x3 x4 x5) x0 x1 x2 x3 x4 x5 := by
  obtain ⟨e0, e1, e2, e3, e4, e5⟩ := conditions _ _ _ _ _ _ bcast_S_S1 concatenates_S1_S1_S1_S1_S1_S1_S6_d0 h
  have r0 : ∀ i, x0 i = (((x0 i).toReal : ℝ) : EReal) := all_real (s := S8192x3072) x0 reducesTo_S8192x3072_S_d0_1 bcast_S_S8192x3072 (constantI S_ 1 1#1) ix0 (e0 ix0)
  have r1 : ∀ i, x1 i = (((x1 i).toReal : ℝ) : EReal) := all_real (s := S8192x1024) (extf .f32 x1 bitsLt_bf16_f32) reducesTo_S8192x1024_S_d0_1 bcast_S_S8192x1024 (constantI S_ 1 1#1) ix0 (e1 ix0)
  have r2 : ∀ i, x2 i = (((x2 i).toReal : ℝ) : EReal) := all_real (s := S1024) x2 reducesTo_S1024_S_d0 bcast_S_S1024 (constantI S_ 1 1#1) ix0 (e2 ix0)
  have r3 : ∀ i, x3 i = (((x3 i).toReal : ℝ) : EReal) := all_real (s := S1024) x3 reducesTo_S1024_S_d0 bcast_S_S1024 (constantI S_ 1 1#1) ix0 (e3 ix0)
  have r4 : ∀ i, x4 i = (((x4 i).toReal : ℝ) : EReal) := all_real (s := S8x128x128) x4 reducesTo_S8x128x128_S_d0_1_2 bcast_S_S8x128x128 (constantI S_ 1 1#1) ix0 (e4 ix0)
  have r5 : ∀ i, x5 i = (((x5 i).toReal : ℝ) : EReal) := all_real (s := S8x128) x5 reducesTo_S8x128_S_d0_1 bcast_S_S8x128 (constantI S_ 1 1#1) ix0 (e5 ix0)
  refine ⟨fun i => ?_, fun i => ?_, fun j => ?_, fun j => ?_, fun g t s => ?_, fun i => ?_⟩
  · have h0 := idx2_lt0 i; have h1 := idx2_lt1 i
    simp only [args, dif_pos h0, dif_pos h1]
    exact (congrArg x0 (eq_ix2 i)).trans (r0 _)
  · have h0 := idx2_lt0 i; have h1 := idx2_lt1 i
    simp only [args, dif_pos h0, dif_pos h1]
    exact (congrArg x1 (eq_ix2 i)).trans (r1 _)
  · simp only [args, dif_pos j.isLt]; exact r2 _
  · simp only [args, dif_pos j.isLt]; exact r3 _
  · simp only [args, dif_pos g.isLt, dif_pos t.isLt, dif_pos s.isLt]; exact r4 _
  · have h0 := idx2_lt0 i; have h1 := idx2_lt1 i
    simp only [args, dif_pos h0, dif_pos h1]
    exact (congrArg x5 (eq_ix2 i)).trans (r5 _)

end Finite

end Cert.BranchA
-- ==== Proof.Block.lean ====
/-
  The kernel's body over one block of 512 rows: what it loads for each of its four chunks, and the shapes of what it
  stores.
-/
module

public import proofs.«01_k».proof.Proof.Gen.KernelIdeal.Frame
public import proofs.«01_k».proof.Proof.Chunk
public import Idealize.ShloMosaic.Lib.Pipeline.ValueKit.Tiles
public import Idealize.ShloMosaic.Lib.Pipeline.ReadBack
public import Idealize.ShloMosaic.Lib.ValueIdxCore

@[expose] public section

set_option maxRecDepth 16384

noncomputable section

namespace Cert.BranchA

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F]

/-- The rows from `o` on of a block of 512. -/
abbrev rows {e : EltTy} (o : ℕ) (h : ∀ a : Fin S512x1024.rank, (![o, 0] : Fin 2 → ℕ) a + S128x1024.size a ≤ S512x1024.size a)
    (x : Vec F S512x1024 e) : Vec F S128x1024 e := View.ld x (Rect.unit ![o, 0] S128x1024.size h)

/-- The eight matrices of a stack. -/
def mats {e : EltTy} (x : Vec F S8x128x128 e) : Fin 8 → Vec F S1x128x128 e
  | 0 => View.ld x (Rect.unit ![0, 0, 0] S1x128x128.size Facts₀.inb_S8x128x128_S1x128x128_0_0_0)
  | 1 => View.ld x (Rect.unit ![1, 0, 0] S1x128x128.size Facts₀.inb_S8x128x128_S1x128x128_1_0_0)
  | 2 => View.ld x (Rect.unit ![2, 0, 0] S1x128x128.size Facts₀.inb_S8x128x128_S1x128x128_2_0_0)
  | 3 => View.ld x (Rect.unit ![3, 0, 0] S1x128x128.size Facts₀.inb_S8x128x128_S1x128x128_3_0_0)
  | 4 => View.ld x (Rect.unit ![4, 0, 0] S1x128x128.size Facts₀.inb_S8x128x128_S1x128x128_4_0_0)
  | 5 => View.ld x (Rect.unit ![5, 0, 0] S1x128x128.size Facts₀.inb_S8x128x128_S1x128x128_5_0_0)
  | 6 => View.ld x (Rect.unit ![6, 0, 0] S1x128x128.size Facts₀.inb_S8x128x128_S1x128x128_6_0_0)
  | 7 => View.ld x (Rect.unit ![7, 0, 0] S1x128x128.size Facts₀.inb_S8x128x128_S1x128x128_7_0_0)

/-- What a chunk of rows from `o` on loads. -/
abbrev ch (o : ℕ) (h : ∀ a : Fin S512x1024.rank, (![o, 0] : Fin 2 → ℕ) a + S128x1024.size a ≤ S512x1024.size a)
    (x0 x1 x2 : Vec F S512x1024 .f32) (x3 : Vec F S512x1024 .bf16) (x4 x5 : Vec F S1x1024 .f32)
    (x6 x7 : Vec F S8x128x128 .bf16) (x8 : Vec F S128x1024 .f32) : Ch F where
  u := rows o h x0
  v := rows o h x1
  z := rows o h x2
  dy := rows o h x3
  lw := x4
  lb := x5
  W := mats x6
  Wt := mats x7
  bs := x8

/-- Eight matrices as one stack. -/
def stack {e : EltTy} (D : Fin 8 → Vec F S1x128x128 e) : Vec F S8x128x128 e :=
  fun y => D (y 0) (ValueIdx.ix3 0 (y 1) (y 2))

theorem stack_at {e : EltTy} (D : Fin 8 → Vec F S1x128x128 e) (g : Fin 8)
    (h : ∀ a : Fin S8x128x128.rank, (![g.val, 0, 0] : Fin 3 → ℕ) a + S1x128x128.size a ≤ S8x128x128.size a) (x : S1x128x128.Idx) :
    stack D ((Rect.unit (s := S8x128x128) ![g.val, 0, 0] S1x128x128.size h).emb x) = D g x := by
  have h0 : (x 0).val = 0 := by have := (x 0).isLt; simp at this; omega
  have hx : ((Rect.unit (s := S8x128x128) ![g.val, 0, 0] S1x128x128.size h).emb x) = ValueIdx.ix3 (n0 := 8) (n1 := 128) (n2 := 128) g (x 1) (x 2) := by
    funext a
    apply Fin.ext
    refine (Rect.idx_unit_val (s := S8x128x128) _ _ h x a).trans ?_
    match a with
    | ⟨0, _⟩ => show g.val + (x 0).val = g.val; omega
    | ⟨1, _⟩ => show 0 + (x 1).val = (x 1).val; omega
    | ⟨2, _⟩ => show 0 + (x 2).val = (x 2).val; omega
  rw [hx]
  refine congrArg (D g) (funext fun a => Fin.ext ?_)
  match a with
  | ⟨0, _⟩ => exact h0.symm
  | ⟨1, _⟩ => rfl
  | ⟨2, _⟩ => rfl

/-- The four chunks of a block. -/
def chs (x0 x1 x2 : Vec F S512x1024 .f32) (x3 : Vec F S512x1024 .bf16) (x4 x5 : Vec F S1x1024 .f32)
    (x6 x7 : Vec F S8x128x128 .bf16) (x8 : Vec F S128x1024 .f32) : Fin 4 → Ch F
  | 0 => ch 0 Facts₀.inb_S512x1024_S128x1024_0_0 x0 x1 x2 x3 x4 x5 x6 x7 x8
  | 1 => ch 128 Facts₀.inb_S512x1024_S128x1024_128_0 x0 x1 x2 x3 x4 x5 x6 x7 x8
  | 2 => ch 256 Facts₀.inb_S512x1024_S128x1024_256_0 x0 x1 x2 x3 x4 x5 x6 x7 x8
  | 3 => ch 384 Facts₀.inb_S512x1024_S128x1024_384_0 x0 x1 x2 x3 x4 x5 x6 x7 x8

/-- What is added over a block's four chunks, the first first. -/
def over4 {α : Type} (C : Fin 4 → Ch F) (step : Ch F → α → α) (a : α) : α := step (C 3) (step (C 2) (step (C 1) (step (C 0) a)))

/-- A block of the projection's gradient: four chunks of rows by three parts of columns. -/
def tiles (T : Fin 4 → Fin 3 → Vec F S128x1024 .bf16) : Vec F S512x3072 .bf16 := fun y =>
  T ⟨(y 0).val / 128, by have := ValueIdx.idx2_lt0 y; omega⟩ ⟨(y 1).val / 1024, by have := ValueIdx.idx2_lt1 y; omega⟩
    (ValueIdx.ix2 ⟨(y 0).val % 128, by omega⟩ ⟨(y 1).val % 1024, by omega⟩)

theorem tiles_at (T : Fin 4 → Fin 3 → Vec F S128x1024 .bf16) (c : Fin 4) (k : Fin 3) (a b : ℕ) (ha : a = 128 * c.val) (hb : b = 1024 * k.val)
    (h : ∀ d : Fin S512x3072.rank, (![a, b] : Fin 2 → ℕ) d + S128x1024.size d ≤ S512x3072.size d) (x : S128x1024.Idx) :
    tiles T ((Rect.unit (s := S512x3072) ![a, b] S128x1024.size h).emb x) = T c k x := by
  subst ha hb
  have l0 := ValueIdx.idx2_lt0 x
  have l1 := ValueIdx.idx2_lt1 x
  have e0 : (((Rect.unit (s := S512x3072) ![128 * c.val, 1024 * k.val] S128x1024.size h).emb x) 0).val = 128 * c.val + (x 0).val :=
    Rect.idx_unit_val (s := S512x3072) _ _ h x 0
  have e1 : (((Rect.unit (s := S512x3072) ![128 * c.val, 1024 * k.val] S128x1024.size h).emb x) 1).val = 1024 * k.val + (x 1).val :=
    Rect.idx_unit_val (s := S512x3072) _ _ h x 1
  unfold tiles
  have q0 : (⟨(((Rect.unit (s := S512x3072) ![128 * c.val, 1024 * k.val] S128x1024.size h).emb x) 0).val / 128, by
      rw [e0]; have := c.isLt; omega⟩ : Fin 4) = c := Fin.ext (by show _ / 128 = c.val; rw [e0]; omega)
  have q1 : (⟨(((Rect.unit (s := S512x3072) ![128 * c.val, 1024 * k.val] S128x1024.size h).emb x) 1).val / 1024, by
      rw [e1]; have := k.isLt; omega⟩ : Fin 3) = k := Fin.ext (by show _ / 1024 = k.val; rw [e1]; omega)
  rw [q0, q1]
  refine congrArg (T c k) (funext fun d => Fin.ext ?_)
  match d with
  | ⟨0, _⟩ => show _ % 128 = (x 0).val; rw [e0]; omega
  | ⟨1, _⟩ => show _ % 1024 = (x 1).val; rw [e1]; omega

/-- The three parts of a chunk of the projection's gradient. -/
def parts (q : Ch F) : Fin 3 → Vec F S128x1024 .bf16
  | 0 => dpu q
  | 1 => dpv q
  | 2 => dpz q

end Cert.BranchA
-- ==== Proof.Blocks.lean ====
/-
  The blocks the kernel's body loads at each point, at real arguments, and the four chunks of a block.
-/
module

public import proofs.«01_k».proof.Proof.Block
public import proofs.«01_k».proof.Proof.Entry
public import Idealize.ShloMosaic.Lib.Pipeline.ValueKit

@[expose] public section

set_option maxRecDepth 16384

noncomputable section

namespace Cert.BranchA

open Idealize.ShloMosaic hiding ix1 ix2 ix3 eq_ix2
open Idealize.ShloMosaic.ValueIdx Idealize.ShloMosaic.TcCoe Idealize.SL.Sem
open Cert.KernelIdeal Cert.KernelIdeal.Facts₀ Cert.KernelIdeal.Facts Cert.KernelIdeal.Gen

theorem is_rows {e : EltTy} {x : S512x1024.Idx → EReal} {f : ℕ → ℕ → ℝ} (o : ℕ)
    (h : ∀ a : Fin S512x1024.rank, (![o, 0] : Fin 2 → ℕ) a + S128x1024.size a ≤ S512x1024.size a) (hx : Is x f) :
    Is (fun i : S128x1024.Idx => x ((Rect.unit (s := S512x1024) ![o, 0] S128x1024.size h).emb i)) (fun i j => f (o + i) j) := fun i =>
  hx.at _ (Rect.idx_unit_val (s := S512x1024) _ _ h i 0) ((Rect.idx_unit_val (s := S512x1024) _ _ h i 1).trans (Nat.zero_add _))

/-- An entry of one matrix of a stack. -/
theorem mats_apply {e : EltTy} (x : Vec Ideal S8x128x128 e) (g : Fin 8) (t s : Fin 128) : mats x g (ix3 0 t s) = x (ix3 g t s) := by
  have key : ∀ (o : ℕ) (h : ∀ a : Fin S8x128x128.rank, (![o, 0, 0] : Fin 3 → ℕ) a + S1x128x128.size a ≤ S8x128x128.size a), o = g.val →
      x ((Rect.unit (s := S8x128x128) ![o, 0, 0] S1x128x128.size h).emb (ix3 (n0 := 1) (n1 := 128) (n2 := 128) 0 t s)) = x (ix3 g t s) := by
    intro o h ho
    subst ho
    refine congrArg x (funext fun a => Fin.ext ?_)
    refine (Rect.idx_unit_val (s := S8x128x128) _ _ h (ix3 (n0 := 1) (n1 := 128) (n2 := 128) 0 t s) a).trans ?_
    match a with
    | ⟨0, _⟩ => show g.val + 0 = g.val; omega
    | ⟨1, _⟩ => show 0 + t.val = t.val; omega
    | ⟨2, _⟩ => show 0 + s.val = s.val; omega
  match g, key with
  | 0, key => exact key 0 Facts₀.inb_S8x128x128_S1x128x128_0_0_0 rfl
  | 1, key => exact key 1 Facts₀.inb_S8x128x128_S1x128x128_1_0_0 rfl
  | 2, key => exact key 2 Facts₀.inb_S8x128x128_S1x128x128_2_0_0 rfl
  | 3, key => exact key 3 Facts₀.inb_S8x128x128_S1x128x128_3_0_0 rfl
  | 4, key => exact key 4 Facts₀.inb_S8x128x128_S1x128x128_4_0_0 rfl
  | 5, key => exact key 5 Facts₀.inb_S8x128x128_S1x128x128_5_0_0 rfl
  | 6, key => exact key 6 Facts₀.inb_S8x128x128_S1x128x128_6_0_0 rfl
  | 7, key => exact key 7 Facts₀.inb_S8x128x128_S1x128x128_7_0_0 rfl

theorem ix0 : ∀ t : Fin cfg0.N, win0_0.index t = ![t.val, 0] := by decide
theorem ix1' : ∀ t : Fin cfg0.N, win0_1.index t = ![t.val, 1] := by decide
theorem ix2' : ∀ t : Fin cfg0.N, win0_2.index t = ![t.val, 2] := by decide
theorem ix3' : ∀ t : Fin cfg0.N, win0_3.index t = ![t.val, 0] := by decide
theorem ix4 : ∀ t : Fin cfg0.N, win0_4.index t = ![0, 0] := by decide
theorem ix5 : ∀ t : Fin cfg0.N, win0_5.index t = ![0, 0] := by decide
theorem ix6 : ∀ t : Fin cfg0.N, win0_6.index t = ![0, 0, 0] := by decide
theorem ix7 : ∀ t : Fin cfg0.N, win0_7.index t = ![0, 0, 0] := by decide
theorem ix8 : ∀ t : Fin cfg0.N, win0_8.index t = ![0, 0] := by decide

variable {m : (ℓ : Loc nD τ sig) → Buf (Elt Ideal) ℓ} {c : Dev nD} {A : Args} (h : Args.Of A (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5)))
include h

theorem blk0 (t : Fin cfg0.N) : Is (iblk m c 0 t : FVec Ideal S512x1024 .f32) (fun i j => A.p (512 * t.val + i) j) := fun i => by
  unfold iblk
  blk_simp
  refine (HostRead.real_arg0 h).at _ ?_ ?_
  · blk_simp [ix0]; omega
  · blk_simp [ix0]

theorem blk1 (t : Fin cfg0.N) : Is (iblk m c 1 t : FVec Ideal S512x1024 .f32) (fun i j => A.p (512 * t.val + i) (1024 + j)) := fun i => by
  unfold iblk
  blk_simp
  refine (HostRead.real_arg0 h).at _ ?_ ?_
  · blk_simp [ix1']; omega
  · blk_simp [ix1']

theorem blk2 (t : Fin cfg0.N) : Is (iblk m c 2 t : FVec Ideal S512x1024 .f32) (fun i j => A.p (512 * t.val + i) (2048 + j)) := fun i => by
  unfold iblk
  blk_simp
  refine (HostRead.real_arg0 h).at _ ?_ ?_
  · blk_simp [ix2']; omega
  · blk_simp [ix2']

theorem blk3 (t : Fin cfg0.N) : Is (iblk m c 3 t : FVec Ideal S512x1024 .bf16) (fun i j => A.y (512 * t.val + i) j) := fun i => by
  unfold iblk
  blk_simp
  refine (HostRead.real_arg1 h).at _ ?_ ?_
  · blk_simp [ix3']; omega
  · blk_simp [ix3']

theorem whole4 (t : Fin cfg0.N) : (iblk m c 4 t : FVec Ideal S1x1024 .f32) = V m c main_v5 := by
  funext i
  unfold iblk
  blk_simp
  congr 1
  blk_ext [ix4]

theorem whole5 (t : Fin cfg0.N) : (iblk m c 5 t : FVec Ideal S1x1024 .f32) = V m c main_v6 := by
  funext i
  unfold iblk
  blk_simp
  congr 1
  blk_ext [ix5]

theorem whole6 (t : Fin cfg0.N) : (iblk m c 6 t : FVec Ideal S8x128x128 .bf16) = V m c main_v4 := by
  funext i
  unfold iblk
  blk_simp
  congr 1
  blk_ext [ix6]

theorem whole7 (t : Fin cfg0.N) : (iblk m c 7 t : FVec Ideal S8x128x128 .bf16) = V m c main_v7 := by
  funext i
  unfold iblk
  blk_simp
  congr 1
  blk_ext [ix7]

theorem whole8 (t : Fin cfg0.N) : (iblk m c 8 t : FVec Ideal S128x1024 .f32) = V m c main_v10 := by
  funext i
  unfold iblk
  blk_simp
  congr 1
  blk_ext [ix8]

/-- A chunk of a block at real arguments. -/
theorem ch_of (t : Fin cfg0.N) (k o n : ℕ) (ho : o = 128 * k) (hn : n = 4 * t.val + k) (hh) :
    Ch.Of A n (ch o hh (iblk m c 0 t) (iblk m c 1 t) (iblk m c 2 t) (iblk m c 3 t) (iblk m c 4 t) (iblk m c 5 t) (iblk m c 6 t) (iblk m c 7 t) (iblk m c 8 t)) := by
  subst ho hn
  have e : ∀ i, 512 * t.val + (128 * k + i) = 128 * (4 * t.val + k) + i := fun i => by omega
  refine ⟨?_, ?_, ?_, ?_, ?_, ?_, ?_, ?_, ?_⟩
  · exact (is_rows (e := .f32) _ hh (blk0 h t)).congr fun i _ j _ => by rw [e]
  · exact (is_rows (e := .f32) _ hh (blk1 h t)).congr fun i _ j _ => by rw [e]
  · exact (is_rows (e := .f32) _ hh (blk2 h t)).congr fun i _ j _ => by rw [e]
  · exact (is_rows (e := .bf16) _ hh (blk3 h t)).congr fun i _ j _ => by rw [e]
  · intro i
    have i0 : i 0 = (0 : Fin 1) := Subsingleton.elim (α := Fin 1) _ _
    have hi : i = ix2 (n0 := 1) (n1 := 1024) 0 (i 1) := (ValueIdx.eq_ix2 i).trans (congrArg (fun z => ix2 (n0 := 1) (n1 := 1024) z (i 1)) i0)
    refine (congrArg (iblk m c 4 t : FVec Ideal S1x1024 .f32) hi).trans ?_
    rw [whole4 h t]
    exact HostRead.real_v5 h (i 1)
  · intro i
    have i0 : i 0 = (0 : Fin 1) := Subsingleton.elim (α := Fin 1) _ _
    have hi : i = ix2 (n0 := 1) (n1 := 1024) 0 (i 1) := (ValueIdx.eq_ix2 i).trans (congrArg (fun z => ix2 (n0 := 1) (n1 := 1024) z (i 1)) i0)
    refine (congrArg (iblk m c 5 t : FVec Ideal S1x1024 .f32) hi).trans ?_
    rw [whole5 h t]
    exact HostRead.real_v6 h (i 1)
  · intro g a b
    refine (mats_apply _ g a b).trans ?_
    rw [whole6 h t]
    exact HostRead.real_v4 h g a b
  · intro g a b
    refine (mats_apply _ g a b).trans ?_
    rw [whole7 h t]
    exact HostRead.real_v7 h g b a
  · rw [show Ch.bs _ = (iblk m c 8 t : FVec Ideal S128x1024 .f32) from rfl, whole8 h t]
    exact HostRead.real_v10 h

/-- The chunks of point `t`'s block. -/
abbrev chT (m : (ℓ : Loc nD τ sig) → Buf (Elt Ideal) ℓ) (c : Dev nD) (t : Fin cfg0.N) : Fin 4 → Ch Ideal :=
  chs (iblk m c 0 t) (iblk m c 1 t) (iblk m c 2 t) (iblk m c 3 t) (iblk m c 4 t) (iblk m c 5 t) (iblk m c 6 t) (iblk m c 7 t) (iblk m c 8 t)

theorem chT_of (t : Fin cfg0.N) (k : Fin 4) : Ch.Of A (4 * t.val + k.val) (chT m c t k) := by
  match k with
  | 0 => exact ch_of h t 0 0 _ rfl rfl _
  | 1 => exact ch_of h t 1 128 _ rfl rfl _
  | 2 => exact ch_of h t 2 256 _ rfl rfl _
  | 3 => exact ch_of h t 3 384 _ rfl rfl _

end Cert.BranchA
-- ==== Proof.OutA9.lean ====
/-
  What the body stores over one block of 512 rows, at the first point of the reduction: the projection's gradient.
-/
module

public import proofs.«01_k».proof.Proof.Block

@[expose] public section

set_option maxRecDepth 16384

noncomputable section

namespace Cert.BranchA

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F]

set_option maxHeartbeats 4000000 in
/-- The projection's gradient, as the body leaves it. -/
theorem out_A_9 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128x128 .bf16) (harg7 : arg7.IsWhole) (arg8 : Memref sig .tc .vmem S8x128x128 .bf16) (harg8 : arg8.IsWhole) (arg9 : Memref sig .tc .vmem S128x1024 .f32) (harg9 : arg9.IsWhole) (arg10 : Memref sig .tc .vmem S512x3072 .bf16) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S1x1024 .f32) (harg13 : arg13.IsWhole) (arg14 : Memref sig .tc .vmem S1x1024 .f32) (harg14 : arg14.IsWhole) (hc0 : cond0_0 i)
    (x0 : Vec F S512x1024 .f32) (x1 : Vec F S512x1024 .f32) (x2 : Vec F S512x1024 .f32) (x3 : Vec F S512x1024 .bf16) (x4 : Vec F S1x1024 .f32) (x5 : Vec F S1x1024 .f32) (x6 : Vec F S8x128x128 .bf16) (x7 : Vec F S8x128x128 .bf16) (x8 : Vec F S128x1024 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = tiles fun c => parts (chs x0 x1 x2 x3 x4 x5 x6 x7 x8 c) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have f4 : View.ld (arg5.view.read (Elt F) (harg5.unread x4)) (Rect.unit ![0, 0] S1x1024.size Facts₀.inb_S1x1024_S1x1024_0_0) = x4 := by
    rw [e4]; exact View.ld_unit_lit' _ _ (by decide)
  have f5 : View.ld (arg6.view.read (Elt F) (harg6.unread x5)) (Rect.unit ![0, 0] S1x1024.size Facts₀.inb_S1x1024_S1x1024_0_0) = x5 := by
    rw [e5]; exact View.ld_unit_lit' _ _ (by decide)
  have f8 : View.ld (arg9.view.read (Elt F) (harg9.unread x8)) (Rect.unit ![0, 0] S128x1024.size Facts₀.inb_S128x1024_S128x1024_0_0) = x8 := by
    rw [e8]; exact View.ld_unit_lit' _ _ (by decide)
  conv_rhs => rw [← e0, ← e1, ← e2, ← e3, ← f4, ← f5, ← e6, ← e7, ← f8]
  frame_open
  rw [View.read_writes_junk_eq_canon]
  funext y
  refine View.canon_apply_of_pieces _ _ (View.PiecesOf.mem ?_) y ?_
  · refine ⟨fun x => ?_, fun x => ?_, fun x => ?_, fun x => ?_, fun x => ?_, fun x => ?_, fun x => ?_, fun x => ?_, fun x => ?_, fun x => ?_, fun x => ?_, fun x => ?_, trivial⟩
    · refine Eq.trans ?_ (tiles_at _ 3 1 384 1024 rfl rfl Facts₀.inb_S512x3072_S128x1024_384_1024 x).symm; exact congrFun rfl x
    · refine Eq.trans ?_ (tiles_at _ 3 2 384 2048 rfl rfl Facts₀.inb_S512x3072_S128x1024_384_2048 x).symm; exact congrFun rfl x
    · refine Eq.trans ?_ (tiles_at _ 3 0 384 0 rfl rfl Facts₀.inb_S512x3072_S128x1024_384_0 x).symm; exact congrFun rfl x
    · refine Eq.trans ?_ (tiles_at _ 2 1 256 1024 rfl rfl Facts₀.inb_S512x3072_S128x1024_256_1024 x).symm; exact congrFun rfl x
    · refine Eq.trans ?_ (tiles_at _ 2 2 256 2048 rfl rfl Facts₀.inb_S512x3072_S128x1024_256_2048 x).symm; exact congrFun rfl x
    · refine Eq.trans ?_ (tiles_at _ 2 0 256 0 rfl rfl Facts₀.inb_S512x3072_S128x1024_256_0 x).symm; exact congrFun rfl x
    · refine Eq.trans ?_ (tiles_at _ 1 1 128 1024 rfl rfl Facts₀.inb_S512x3072_S128x1024_128_1024 x).symm; exact congrFun rfl x
    · refine Eq.trans ?_ (tiles_at _ 1 2 128 2048 rfl rfl Facts₀.inb_S512x3072_S128x1024_128_2048 x).symm; exact congrFun rfl x
    · refine Eq.trans ?_ (tiles_at _ 1 0 128 0 rfl rfl Facts₀.inb_S512x3072_S128x1024_128_0 x).symm; exact congrFun rfl x
    · refine Eq.trans ?_ (tiles_at _ 0 1 0 1024 rfl rfl Facts₀.inb_S512x3072_S128x1024_0_1024 x).symm; exact congrFun rfl x
    · refine Eq.trans ?_ (tiles_at _ 0 2 0 2048 rfl rfl Facts₀.inb_S512x3072_S128x1024_0_2048 x).symm; exact congrFun rfl x
    · refine Eq.trans ?_ (tiles_at _ 0 0 0 0 rfl rfl Facts₀.inb_S512x3072_S128x1024_0_0 x).symm; exact congrFun rfl x
  · exact View.cover_of_tiled (s := S512x3072) _ S128x1024.size (by rfl) y

end Cert.BranchA
-- ==== Proof.OutA10.lean ====
/-
  What the body stores over one block of 512 rows, at the first point of the reduction: the mixing matrices' gradient.
-/
module

public import proofs.«01_k».proof.Proof.Block

@[expose] public section

set_option maxRecDepth 16384

noncomputable section

namespace Cert.BranchA

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F]

set_option maxHeartbeats 4000000 in
/-- The mixing matrices' gradient, as the body leaves it. -/
theorem out_A_10 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128x128 .bf16) (harg7 : arg7.IsWhole) (arg8 : Memref sig .tc .vmem S8x128x128 .bf16) (harg8 : arg8.IsWhole) (arg9 : Memref sig .tc .vmem S128x1024 .f32) (harg9 : arg9.IsWhole) (arg10 : Memref sig .tc .vmem S512x3072 .bf16) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S1x1024 .f32) (harg13 : arg13.IsWhole) (arg14 : Memref sig .tc .vmem S1x1024 .f32) (harg14 : arg14.IsWhole) (hc0 : cond0_0 i)
    (x0 : Vec F S512x1024 .f32) (x1 : Vec F S512x1024 .f32) (x2 : Vec F S512x1024 .f32) (x3 : Vec F S512x1024 .bf16) (x4 : Vec F S1x1024 .f32) (x5 : Vec F S1x1024 .f32) (x6 : Vec F S8x128x128 .bf16) (x7 : Vec F S8x128x128 .bf16) (x8 : Vec F S128x1024 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = stack fun g => over4 (chs x0 x1 x2 x3 x4 x5 x6 x7 x8) (addDwG g) (mats (k0_pay2 (F := F)) g) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have f4 : View.ld (arg5.view.read (Elt F) (harg5.unread x4)) (Rect.unit ![0, 0] S1x1024.size Facts₀.inb_S1x1024_S1x1024_0_0) = x4 := by
    rw [e4]; exact View.ld_unit_lit' _ _ (by decide)
  have f5 : View.ld (arg6.view.read (Elt F) (harg6.unread x5)) (Rect.unit ![0, 0] S1x1024.size Facts₀.inb_S1x1024_S1x1024_0_0) = x5 := by
    rw [e5]; exact View.ld_unit_lit' _ _ (by decide)
  have f8 : View.ld (arg9.view.read (Elt F) (harg9.unread x8)) (Rect.unit ![0, 0] S128x1024.size Facts₀.inb_S128x1024_S128x1024_0_0) = x8 := by
    rw [e8]; exact View.ld_unit_lit' _ _ (by decide)
  conv_rhs => rw [← e0, ← e1, ← e2, ← e3, ← f4, ← f5, ← e6, ← e7, ← f8]
  frame_open
  rw [View.read_writes_junk_eq_canon]
  simp (disch := decide) only [View.readCov_cons_toLoadRect, View.readCov_skip, View.readCov_fill]
  funext y
  refine (congrArg (fun L => View.canon L y) (List.take_append_drop 8 _).symm).trans ?_
  refine View.canon_append_of_piecesOf _ _ _ ?_ y ?_
  · refine ⟨fun x => ?_, fun x => ?_, fun x => ?_, fun x => ?_, fun x => ?_, fun x => ?_, fun x => ?_, fun x => ?_, trivial⟩
    · refine Eq.trans ?_ (stack_at _ 7 Facts₀.inb_S8x128x128_S1x128x128_7_0_0 x).symm; exact congrFun rfl x
    · refine Eq.trans ?_ (stack_at _ 6 Facts₀.inb_S8x128x128_S1x128x128_6_0_0 x).symm; exact congrFun rfl x
    · refine Eq.trans ?_ (stack_at _ 5 Facts₀.inb_S8x128x128_S1x128x128_5_0_0 x).symm; exact congrFun rfl x
    · refine Eq.trans ?_ (stack_at _ 4 Facts₀.inb_S8x128x128_S1x128x128_4_0_0 x).symm; exact congrFun rfl x
    · refine Eq.trans ?_ (stack_at _ 3 Facts₀.inb_S8x128x128_S1x128x128_3_0_0 x).symm; exact congrFun rfl x
    · refine Eq.trans ?_ (stack_at _ 2 Facts₀.inb_S8x128x128_S1x128x128_2_0_0 x).symm; exact congrFun rfl x
    · refine Eq.trans ?_ (stack_at _ 1 Facts₀.inb_S8x128x128_S1x128x128_1_0_0 x).symm; exact congrFun rfl x
    · refine Eq.trans ?_ (stack_at _ 0 Facts₀.inb_S8x128x128_S1x128x128_0_0_0 x).symm; exact congrFun rfl x
  · exact View.cover_of_tiled (s := S8x128x128) _ S1x128x128.size (by rfl) y

end Cert.BranchA
-- ==== Proof.OutA11.lean ====
/-
  What the body stores over one block of 512 rows, at the first point of the reduction: the mixing bias's gradient.
-/
module

public import proofs.«01_k».proof.Proof.Block

@[expose] public section

set_option maxRecDepth 16384

noncomputable section

namespace Cert.BranchA

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F]

set_option maxHeartbeats 4000000 in
/-- The mixing bias's gradient, as the body leaves it. -/
theorem out_A_11 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128x128 .bf16) (harg7 : arg7.IsWhole) (arg8 : Memref sig .tc .vmem S8x128x128 .bf16) (harg8 : arg8.IsWhole) (arg9 : Memref sig .tc .vmem S128x1024 .f32) (harg9 : arg9.IsWhole) (arg10 : Memref sig .tc .vmem S512x3072 .bf16) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S1x1024 .f32) (harg13 : arg13.IsWhole) (arg14 : Memref sig .tc .vmem S1x1024 .f32) (harg14 : arg14.IsWhole) (hc0 : cond0_0 i)
    (x0 : Vec F S512x1024 .f32) (x1 : Vec F S512x1024 .f32) (x2 : Vec F S512x1024 .f32) (x3 : Vec F S512x1024 .bf16) (x4 : Vec F S1x1024 .f32) (x5 : Vec F S1x1024 .f32) (x6 : Vec F S8x128x128 .bf16) (x7 : Vec F S8x128x128 .bf16) (x8 : Vec F S128x1024 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = over4 (chs x0 x1 x2 x3 x4 x5 x6 x7 x8) addDbs (k0_pay3 (F := F)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have f4 : View.ld (arg5.view.read (Elt F) (harg5.unread x4)) (Rect.unit ![0, 0] S1x1024.size Facts₀.inb_S1x1024_S1x1024_0_0) = x4 := by
    rw [e4]; exact View.ld_unit_lit' _ _ (by decide)
  have f5 : View.ld (arg6.view.read (Elt F) (harg6.unread x5)) (Rect.unit ![0, 0] S1x1024.size Facts₀.inb_S1x1024_S1x1024_0_0) = x5 := by
    rw [e5]; exact View.ld_unit_lit' _ _ (by decide)
  have f8 : View.ld (arg9.view.read (Elt F) (harg9.unread x8)) (Rect.unit ![0, 0] S128x1024.size Facts₀.inb_S128x1024_S128x1024_0_0) = x8 := by
    rw [e8]; exact View.ld_unit_lit' _ _ (by decide)
  conv_rhs => rw [← e0, ← e1, ← e2, ← e3, ← f4, ← f5, ← e6, ← e7, ← f8]
  frame_open
  simp (disch := decide) only [View.read_writes_junk_eq_canon, View.canon_cons_unit_lit', View.readCov_cons_unit_lit', View.readCov_unit_lit']
  rfl

end Cert.BranchA
-- ==== Proof.OutA12.lean ====
/-
  What the body stores over one block of 512 rows, at the first point of the reduction: the layer norm weight's gradient.
-/
module

public import proofs.«01_k».proof.Proof.Block

@[expose] public section

set_option maxRecDepth 16384

noncomputable section

namespace Cert.BranchA

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F]

set_option maxHeartbeats 4000000 in
/-- The layer norm weight's gradient, as the body leaves it. -/
theorem out_A_12 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128x128 .bf16) (harg7 : arg7.IsWhole) (arg8 : Memref sig .tc .vmem S8x128x128 .bf16) (harg8 : arg8.IsWhole) (arg9 : Memref sig .tc .vmem S128x1024 .f32) (harg9 : arg9.IsWhole) (arg10 : Memref sig .tc .vmem S512x3072 .bf16) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S1x1024 .f32) (harg13 : arg13.IsWhole) (arg14 : Memref sig .tc .vmem S1x1024 .f32) (harg14 : arg14.IsWhole) (hc0 : cond0_0 i)
    (x0 : Vec F S512x1024 .f32) (x1 : Vec F S512x1024 .f32) (x2 : Vec F S512x1024 .f32) (x3 : Vec F S512x1024 .bf16) (x4 : Vec F S1x1024 .f32) (x5 : Vec F S1x1024 .f32) (x6 : Vec F S8x128x128 .bf16) (x7 : Vec F S8x128x128 .bf16) (x8 : Vec F S128x1024 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = over4 (chs x0 x1 x2 x3 x4 x5 x6 x7 x8) addDlw (k0_pay4 (F := F)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have f4 : View.ld (arg5.view.read (Elt F) (harg5.unread x4)) (Rect.unit ![0, 0] S1x1024.size Facts₀.inb_S1x1024_S1x1024_0_0) = x4 := by
    rw [e4]; exact View.ld_unit_lit' _ _ (by decide)
  have f5 : View.ld (arg6.view.read (Elt F) (harg6.unread x5)) (Rect.unit ![0, 0] S1x1024.size Facts₀.inb_S1x1024_S1x1024_0_0) = x5 := by
    rw [e5]; exact View.ld_unit_lit' _ _ (by decide)
  have f8 : View.ld (arg9.view.read (Elt F) (harg9.unread x8)) (Rect.unit ![0, 0] S128x1024.size Facts₀.inb_S128x1024_S128x1024_0_0) = x8 := by
    rw [e8]; exact View.ld_unit_lit' _ _ (by decide)
  conv_rhs => rw [← e0, ← e1, ← e2, ← e3, ← f4, ← f5, ← e6, ← e7, ← f8]
  frame_open
  simp (disch := decide) only [View.read_writes_junk_eq_canon, View.canon_cons_unit_lit', View.readCov_cons_unit_lit', View.readCov_unit_lit']
  rfl

end Cert.BranchA
-- ==== Proof.OutA13.lean ====
/-
  What the body stores over one block of 512 rows, at the first point of the reduction: the layer norm bias's gradient.
-/
module

public import proofs.«01_k».proof.Proof.Block

@[expose] public section

set_option maxRecDepth 16384

noncomputable section

namespace Cert.BranchA

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F]

set_option maxHeartbeats 4000000 in
/-- The layer norm bias's gradient, as the body leaves it. -/
theorem out_A_13 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128x128 .bf16) (harg7 : arg7.IsWhole) (arg8 : Memref sig .tc .vmem S8x128x128 .bf16) (harg8 : arg8.IsWhole) (arg9 : Memref sig .tc .vmem S128x1024 .f32) (harg9 : arg9.IsWhole) (arg10 : Memref sig .tc .vmem S512x3072 .bf16) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S1x1024 .f32) (harg13 : arg13.IsWhole) (arg14 : Memref sig .tc .vmem S1x1024 .f32) (harg14 : arg14.IsWhole) (hc0 : cond0_0 i)
    (x0 : Vec F S512x1024 .f32) (x1 : Vec F S512x1024 .f32) (x2 : Vec F S512x1024 .f32) (x3 : Vec F S512x1024 .bf16) (x4 : Vec F S1x1024 .f32) (x5 : Vec F S1x1024 .f32) (x6 : Vec F S8x128x128 .bf16) (x7 : Vec F S8x128x128 .bf16) (x8 : Vec F S128x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = over4 (chs x0 x1 x2 x3 x4 x5 x6 x7 x8) addDlb (k0_pay5 (F := F)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have f4 : View.ld (arg5.view.read (Elt F) (harg5.unread x4)) (Rect.unit ![0, 0] S1x1024.size Facts₀.inb_S1x1024_S1x1024_0_0) = x4 := by
    rw [e4]; exact View.ld_unit_lit' _ _ (by decide)
  have f5 : View.ld (arg6.view.read (Elt F) (harg6.unread x5)) (Rect.unit ![0, 0] S1x1024.size Facts₀.inb_S1x1024_S1x1024_0_0) = x5 := by
    rw [e5]; exact View.ld_unit_lit' _ _ (by decide)
  have f8 : View.ld (arg9.view.read (Elt F) (harg9.unread x8)) (Rect.unit ![0, 0] S128x1024.size Facts₀.inb_S128x1024_S128x1024_0_0) = x8 := by
    rw [e8]; exact View.ld_unit_lit' _ _ (by decide)
  conv_rhs => rw [← e0, ← e1, ← e2, ← e3, ← f4, ← f5, ← e6, ← e7, ← f8]
  frame_open
  simp (disch := decide) only [View.read_writes_junk_eq_canon, View.canon_cons_unit_lit', View.readCov_cons_unit_lit', View.readCov_unit_lit']
  rfl

end Cert.BranchA
-- ==== Proof.OutB9.lean ====
/-
  What the body stores over one block of 512 rows, after the first point of the reduction: the projection's gradient.
-/
module

public import proofs.«01_k».proof.Proof.Block

@[expose] public section

set_option maxRecDepth 16384

noncomputable section

namespace Cert.BranchA

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F]

set_option maxHeartbeats 4000000 in
/-- The projection's gradient, as the body leaves it. -/
theorem out_B_9 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128x128 .bf16) (harg7 : arg7.IsWhole) (arg8 : Memref sig .tc .vmem S8x128x128 .bf16) (harg8 : arg8.IsWhole) (arg9 : Memref sig .tc .vmem S128x1024 .f32) (harg9 : arg9.IsWhole) (arg10 : Memref sig .tc .vmem S512x3072 .bf16) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S1x1024 .f32) (harg13 : arg13.IsWhole) (arg14 : Memref sig .tc .vmem S1x1024 .f32) (harg14 : arg14.IsWhole) (hc0 : ¬cond0_0 i)
    (x0 : Vec F S512x1024 .f32) (x1 : Vec F S512x1024 .f32) (x2 : Vec F S512x1024 .f32) (x3 : Vec F S512x1024 .bf16) (x4 : Vec F S1x1024 .f32) (x5 : Vec F S1x1024 .f32) (x6 : Vec F S8x128x128 .bf16) (x7 : Vec F S8x128x128 .bf16) (x8 : Vec F S128x1024 .f32) (xo10 : Vec F S8x128x128 .f32) (xo11 : Vec F S128x1024 .f32) (xo12 : Vec F S1x1024 .f32) (xo13 : Vec F S1x1024 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 xo13
      = tiles fun c => parts (chs x0 x1 x2 x3 x4 x5 x6 x7 x8 c) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have f4 : View.ld (arg5.view.read (Elt F) (harg5.unread x4)) (Rect.unit ![0, 0] S1x1024.size Facts₀.inb_S1x1024_S1x1024_0_0) = x4 := by
    rw [e4]; exact View.ld_unit_lit' _ _ (by decide)
  have f5 : View.ld (arg6.view.read (Elt F) (harg6.unread x5)) (Rect.unit ![0, 0] S1x1024.size Facts₀.inb_S1x1024_S1x1024_0_0) = x5 := by
    rw [e5]; exact View.ld_unit_lit' _ _ (by decide)
  have f8 : View.ld (arg9.view.read (Elt F) (harg9.unread x8)) (Rect.unit ![0, 0] S128x1024.size Facts₀.inb_S128x1024_S128x1024_0_0) = x8 := by
    rw [e8]; exact View.ld_unit_lit' _ _ (by decide)
  conv_rhs => rw [← e0, ← e1, ← e2, ← e3, ← f4, ← f5, ← e6, ← e7, ← f8]
  frame_open
  rw [View.read_writes_junk_eq_canon]
  funext y
  refine View.canon_apply_of_pieces _ _ (View.PiecesOf.mem ?_) y ?_
  · refine ⟨fun x => ?_, fun x => ?_, fun x => ?_, fun x => ?_, fun x => ?_, fun x => ?_, fun x => ?_, fun x => ?_, fun x => ?_, fun x => ?_, fun x => ?_, fun x => ?_, trivial⟩
    · refine Eq.trans ?_ (tiles_at _ 3 1 384 1024 rfl rfl Facts₀.inb_S512x3072_S128x1024_384_1024 x).symm; exact congrFun rfl x
    · refine Eq.trans ?_ (tiles_at _ 3 2 384 2048 rfl rfl Facts₀.inb_S512x3072_S128x1024_384_2048 x).symm; exact congrFun rfl x
    · refine Eq.trans ?_ (tiles_at _ 3 0 384 0 rfl rfl Facts₀.inb_S512x3072_S128x1024_384_0 x).symm; exact congrFun rfl x
    · refine Eq.trans ?_ (tiles_at _ 2 1 256 1024 rfl rfl Facts₀.inb_S512x3072_S128x1024_256_1024 x).symm; exact congrFun rfl x
    · refine Eq.trans ?_ (tiles_at _ 2 2 256 2048 rfl rfl Facts₀.inb_S512x3072_S128x1024_256_2048 x).symm; exact congrFun rfl x
    · refine Eq.trans ?_ (tiles_at _ 2 0 256 0 rfl rfl Facts₀.inb_S512x3072_S128x1024_256_0 x).symm; exact congrFun rfl x
    · refine Eq.trans ?_ (tiles_at _ 1 1 128 1024 rfl rfl Facts₀.inb_S512x3072_S128x1024_128_1024 x).symm; exact congrFun rfl x
    · refine Eq.trans ?_ (tiles_at _ 1 2 128 2048 rfl rfl Facts₀.inb_S512x3072_S128x1024_128_2048 x).symm; exact congrFun rfl x
    · refine Eq.trans ?_ (tiles_at _ 1 0 128 0 rfl rfl Facts₀.inb_S512x3072_S128x1024_128_0 x).symm; exact congrFun rfl x
    · refine Eq.trans ?_ (tiles_at _ 0 1 0 1024 rfl rfl Facts₀.inb_S512x3072_S128x1024_0_1024 x).symm; exact congrFun rfl x
    · refine Eq.trans ?_ (tiles_at _ 0 2 0 2048 rfl rfl Facts₀.inb_S512x3072_S128x1024_0_2048 x).symm; exact congrFun rfl x
    · refine Eq.trans ?_ (tiles_at _ 0 0 0 0 rfl rfl Facts₀.inb_S512x3072_S128x1024_0_0 x).symm; exact congrFun rfl x
  · exact View.cover_of_tiled (s := S512x3072) _ S128x1024.size (by rfl) y

end Cert.BranchA
-- ==== Proof.OutB10.lean ====
/-
  What the body stores over one block of 512 rows, after the first point of the reduction: the mixing matrices' gradient.
-/
module

public import proofs.«01_k».proof.Proof.Block

@[expose] public section

set_option maxRecDepth 16384

noncomputable section

namespace Cert.BranchA

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F]

set_option maxHeartbeats 4000000 in
/-- The mixing matrices' gradient, as the body leaves it. -/
theorem out_B_10 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128x128 .bf16) (harg7 : arg7.IsWhole) (arg8 : Memref sig .tc .vmem S8x128x128 .bf16) (harg8 : arg8.IsWhole) (arg9 : Memref sig .tc .vmem S128x1024 .f32) (harg9 : arg9.IsWhole) (arg10 : Memref sig .tc .vmem S512x3072 .bf16) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S1x1024 .f32) (harg13 : arg13.IsWhole) (arg14 : Memref sig .tc .vmem S1x1024 .f32) (harg14 : arg14.IsWhole) (hc0 : ¬cond0_0 i)
    (x0 : Vec F S512x1024 .f32) (x1 : Vec F S512x1024 .f32) (x2 : Vec F S512x1024 .f32) (x3 : Vec F S512x1024 .bf16) (x4 : Vec F S1x1024 .f32) (x5 : Vec F S1x1024 .f32) (x6 : Vec F S8x128x128 .bf16) (x7 : Vec F S8x128x128 .bf16) (x8 : Vec F S128x1024 .f32) (xo10 : Vec F S8x128x128 .f32) (xo11 : Vec F S128x1024 .f32) (xo12 : Vec F S1x1024 .f32) (xo13 : Vec F S1x1024 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 xo13
      = stack fun g => over4 (chs x0 x1 x2 x3 x4 x5 x6 x7 x8) (addDwG g) (mats xo10 g) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have f4 : View.ld (arg5.view.read (Elt F) (harg5.unread x4)) (Rect.unit ![0, 0] S1x1024.size Facts₀.inb_S1x1024_S1x1024_0_0) = x4 := by
    rw [e4]; exact View.ld_unit_lit' _ _ (by decide)
  have f5 : View.ld (arg6.view.read (Elt F) (harg6.unread x5)) (Rect.unit ![0, 0] S1x1024.size Facts₀.inb_S1x1024_S1x1024_0_0) = x5 := by
    rw [e5]; exact View.ld_unit_lit' _ _ (by decide)
  have f8 : View.ld (arg9.view.read (Elt F) (harg9.unread x8)) (Rect.unit ![0, 0] S128x1024.size Facts₀.inb_S128x1024_S128x1024_0_0) = x8 := by
    rw [e8]; exact View.ld_unit_lit' _ _ (by decide)
  conv_rhs => rw [← e0, ← e1, ← e2, ← e3, ← f4, ← f5, ← e6, ← e7, ← f8]
  have g10 := harg11.read_unread xo10
  conv_rhs => rw [← g10]
  frame_open
  rw [View.read_writes_junk_eq_canon]
  simp (disch := decide) only [View.readCov_cons_toLoadRect, View.readCov_skip, View.readCov_fill]
  funext y
  refine (congrArg (fun L => View.canon L y) (List.take_append_drop 8 _).symm).trans ?_
  refine View.canon_append_of_piecesOf _ _ _ ?_ y ?_
  · refine ⟨fun x => ?_, fun x => ?_, fun x => ?_, fun x => ?_, fun x => ?_, fun x => ?_, fun x => ?_, fun x => ?_, trivial⟩
    · refine Eq.trans ?_ (stack_at _ 7 Facts₀.inb_S8x128x128_S1x128x128_7_0_0 x).symm; exact congrFun rfl x
    · refine Eq.trans ?_ (stack_at _ 6 Facts₀.inb_S8x128x128_S1x128x128_6_0_0 x).symm; exact congrFun rfl x
    · refine Eq.trans ?_ (stack_at _ 5 Facts₀.inb_S8x128x128_S1x128x128_5_0_0 x).symm; exact congrFun rfl x
    · refine Eq.trans ?_ (stack_at _ 4 Facts₀.inb_S8x128x128_S1x128x128_4_0_0 x).symm; exact congrFun rfl x
    · refine Eq.trans ?_ (stack_at _ 3 Facts₀.inb_S8x128x128_S1x128x128_3_0_0 x).symm; exact congrFun rfl x
    · refine Eq.trans ?_ (stack_at _ 2 Facts₀.inb_S8x128x128_S1x128x128_2_0_0 x).symm; exact congrFun rfl x
    · refine Eq.trans ?_ (stack_at _ 1 Facts₀.inb_S8x128x128_S1x128x128_1_0_0 x).symm; exact congrFun rfl x
    · refine Eq.trans ?_ (stack_at _ 0 Facts₀.inb_S8x128x128_S1x128x128_0_0_0 x).symm; exact congrFun rfl x
  · exact View.cover_of_tiled (s := S8x128x128) _ S1x128x128.size (by rfl) y

end Cert.BranchA
-- ==== Proof.OutB11.lean ====
/-
  What the body stores over one block of 512 rows, after the first point of the reduction: the mixing bias's gradient.
-/
module

public import proofs.«01_k».proof.Proof.Block

@[expose] public section

set_option maxRecDepth 16384

noncomputable section

namespace Cert.BranchA

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F]

set_option maxHeartbeats 4000000 in
/-- The mixing bias's gradient, as the body leaves it. -/
theorem out_B_11 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128x128 .bf16) (harg7 : arg7.IsWhole) (arg8 : Memref sig .tc .vmem S8x128x128 .bf16) (harg8 : arg8.IsWhole) (arg9 : Memref sig .tc .vmem S128x1024 .f32) (harg9 : arg9.IsWhole) (arg10 : Memref sig .tc .vmem S512x3072 .bf16) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S1x1024 .f32) (harg13 : arg13.IsWhole) (arg14 : Memref sig .tc .vmem S1x1024 .f32) (harg14 : arg14.IsWhole) (hc0 : ¬cond0_0 i)
    (x0 : Vec F S512x1024 .f32) (x1 : Vec F S512x1024 .f32) (x2 : Vec F S512x1024 .f32) (x3 : Vec F S512x1024 .bf16) (x4 : Vec F S1x1024 .f32) (x5 : Vec F S1x1024 .f32) (x6 : Vec F S8x128x128 .bf16) (x7 : Vec F S8x128x128 .bf16) (x8 : Vec F S128x1024 .f32) (xo10 : Vec F S8x128x128 .f32) (xo11 : Vec F S128x1024 .f32) (xo12 : Vec F S1x1024 .f32) (xo13 : Vec F S1x1024 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 xo13
      = over4 (chs x0 x1 x2 x3 x4 x5 x6 x7 x8) addDbs xo11 := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have f4 : View.ld (arg5.view.read (Elt F) (harg5.unread x4)) (Rect.unit ![0, 0] S1x1024.size Facts₀.inb_S1x1024_S1x1024_0_0) = x4 := by
    rw [e4]; exact View.ld_unit_lit' _ _ (by decide)
  have f5 : View.ld (arg6.view.read (Elt F) (harg6.unread x5)) (Rect.unit ![0, 0] S1x1024.size Facts₀.inb_S1x1024_S1x1024_0_0) = x5 := by
    rw [e5]; exact View.ld_unit_lit' _ _ (by decide)
  have f8 : View.ld (arg9.view.read (Elt F) (harg9.unread x8)) (Rect.unit ![0, 0] S128x1024.size Facts₀.inb_S128x1024_S128x1024_0_0) = x8 := by
    rw [e8]; exact View.ld_unit_lit' _ _ (by decide)
  conv_rhs => rw [← e0, ← e1, ← e2, ← e3, ← f4, ← f5, ← e6, ← e7, ← f8]
  have g : View.ld (arg12.view.read (Elt F) (harg12.unread xo11)) (Rect.unit ![0, 0] S128x1024.size Facts₀.inb_S128x1024_S128x1024_0_0) = xo11 := by
    rw [harg12.read_unread]; exact View.ld_unit_lit' _ _ (by decide)
  conv_rhs => rw [← g]
  frame_open
  simp (disch := decide) only [View.read_writes_junk_eq_canon, View.canon_cons_unit_lit', View.readCov_cons_unit_lit', View.readCov_unit_lit']
  rfl

end Cert.BranchA
-- ==== Proof.OutB12.lean ====
/-
  What the body stores over one block of 512 rows, after the first point of the reduction: the layer norm weight's gradient.
-/
module

public import proofs.«01_k».proof.Proof.Block

@[expose] public section

set_option maxRecDepth 16384

noncomputable section

namespace Cert.BranchA

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F]

set_option maxHeartbeats 4000000 in
/-- The layer norm weight's gradient, as the body leaves it. -/
theorem out_B_12 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128x128 .bf16) (harg7 : arg7.IsWhole) (arg8 : Memref sig .tc .vmem S8x128x128 .bf16) (harg8 : arg8.IsWhole) (arg9 : Memref sig .tc .vmem S128x1024 .f32) (harg9 : arg9.IsWhole) (arg10 : Memref sig .tc .vmem S512x3072 .bf16) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S1x1024 .f32) (harg13 : arg13.IsWhole) (arg14 : Memref sig .tc .vmem S1x1024 .f32) (harg14 : arg14.IsWhole) (hc0 : ¬cond0_0 i)
    (x0 : Vec F S512x1024 .f32) (x1 : Vec F S512x1024 .f32) (x2 : Vec F S512x1024 .f32) (x3 : Vec F S512x1024 .bf16) (x4 : Vec F S1x1024 .f32) (x5 : Vec F S1x1024 .f32) (x6 : Vec F S8x128x128 .bf16) (x7 : Vec F S8x128x128 .bf16) (x8 : Vec F S128x1024 .f32) (xo10 : Vec F S8x128x128 .f32) (xo11 : Vec F S128x1024 .f32) (xo12 : Vec F S1x1024 .f32) (xo13 : Vec F S1x1024 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 xo13
      = over4 (chs x0 x1 x2 x3 x4 x5 x6 x7 x8) addDlw xo12 := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have f4 : View.ld (arg5.view.read (Elt F) (harg5.unread x4)) (Rect.unit ![0, 0] S1x1024.size Facts₀.inb_S1x1024_S1x1024_0_0) = x4 := by
    rw [e4]; exact View.ld_unit_lit' _ _ (by decide)
  have f5 : View.ld (arg6.view.read (Elt F) (harg6.unread x5)) (Rect.unit ![0, 0] S1x1024.size Facts₀.inb_S1x1024_S1x1024_0_0) = x5 := by
    rw [e5]; exact View.ld_unit_lit' _ _ (by decide)
  have f8 : View.ld (arg9.view.read (Elt F) (harg9.unread x8)) (Rect.unit ![0, 0] S128x1024.size Facts₀.inb_S128x1024_S128x1024_0_0) = x8 := by
    rw [e8]; exact View.ld_unit_lit' _ _ (by decide)
  conv_rhs => rw [← e0, ← e1, ← e2, ← e3, ← f4, ← f5, ← e6, ← e7, ← f8]
  have g : View.ld (arg13.view.read (Elt F) (harg13.unread xo12)) (Rect.unit ![0, 0] S1x1024.size Facts₀.inb_S1x1024_S1x1024_0_0) = xo12 := by
    rw [harg13.read_unread]; exact View.ld_unit_lit' _ _ (by decide)
  conv_rhs => rw [← g]
  frame_open
  simp (disch := decide) only [View.read_writes_junk_eq_canon, View.canon_cons_unit_lit', View.readCov_cons_unit_lit', View.readCov_unit_lit']
  rfl

end Cert.BranchA
-- ==== Proof.OutB13.lean ====
/-
  What the body stores over one block of 512 rows, after the first point of the reduction: the layer norm bias's gradient.
-/
module

public import proofs.«01_k».proof.Proof.Block

@[expose] public section

set_option maxRecDepth 16384

noncomputable section

namespace Cert.BranchA

open Idealize.ShloMosaic Idealize.ShloMosaic.TcCoe Idealize.SL.Sem Cert.KernelIdeal Cert.KernelIdeal.Facts₀ Cert.KernelIdeal.Facts Cert.KernelIdeal.Gen

variable {F : FTy → Type} [FloatOps F] [Named F]

set_option maxHeartbeats 4000000 in
/-- The layer norm bias's gradient, as the body leaves it. -/
theorem out_B_13 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128x128 .bf16) (harg7 : arg7.IsWhole) (arg8 : Memref sig .tc .vmem S8x128x128 .bf16) (harg8 : arg8.IsWhole) (arg9 : Memref sig .tc .vmem S128x1024 .f32) (harg9 : arg9.IsWhole) (arg10 : Memref sig .tc .vmem S512x3072 .bf16) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S1x1024 .f32) (harg13 : arg13.IsWhole) (arg14 : Memref sig .tc .vmem S1x1024 .f32) (harg14 : arg14.IsWhole) (hc0 : ¬cond0_0 i)
    (x0 : Vec F S512x1024 .f32) (x1 : Vec F S512x1024 .f32) (x2 : Vec F S512x1024 .f32) (x3 : Vec F S512x1024 .bf16) (x4 : Vec F S1x1024 .f32) (x5 : Vec F S1x1024 .f32) (x6 : Vec F S8x128x128 .bf16) (x7 : Vec F S8x128x128 .bf16) (x8 : Vec F S128x1024 .f32) (xo10 : Vec F S8x128x128 .f32) (xo11 : Vec F S128x1024 .f32) (xo12 : Vec F S1x1024 .f32) (xo13 : Vec F S1x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 xo13
      = over4 (chs x0 x1 x2 x3 x4 x5 x6 x7 x8) addDlb xo13 := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have f4 : View.ld (arg5.view.read (Elt F) (harg5.unread x4)) (Rect.unit ![0, 0] S1x1024.size Facts₀.inb_S1x1024_S1x1024_0_0) = x4 := by
    rw [e4]; exact View.ld_unit_lit' _ _ (by decide)
  have f5 : View.ld (arg6.view.read (Elt F) (harg6.unread x5)) (Rect.unit ![0, 0] S1x1024.size Facts₀.inb_S1x1024_S1x1024_0_0) = x5 := by
    rw [e5]; exact View.ld_unit_lit' _ _ (by decide)
  have f8 : View.ld (arg9.view.read (Elt F) (harg9.unread x8)) (Rect.unit ![0, 0] S128x1024.size Facts₀.inb_S128x1024_S128x1024_0_0) = x8 := by
    rw [e8]; exact View.ld_unit_lit' _ _ (by decide)
  conv_rhs => rw [← e0, ← e1, ← e2, ← e3, ← f4, ← f5, ← e6, ← e7, ← f8]
  have g : View.ld (arg14.view.read (Elt F) (harg14.unread xo13)) (Rect.unit ![0, 0] S1x1024.size Facts₀.inb_S1x1024_S1x1024_0_0) = xo13 := by
    rw [harg14.read_unread]; exact View.ld_unit_lit' _ _ (by decide)
  conv_rhs => rw [← g]
  frame_open
  simp (disch := decide) only [View.read_writes_junk_eq_canon, View.canon_cons_unit_lit', View.readCov_cons_unit_lit', View.readCov_unit_lit']
  rfl

end Cert.BranchA
-- ==== Proof.Walk.lean ====
/-
  The kernel's run over the 16 points: what each point leaves in the outputs' buffers, and what the arrays hold at the
  end.
-/
module

public import proofs.«01_k».proof.Proof.Blocks
public import proofs.«01_k».proof.Proof.OutA9
public import proofs.«01_k».proof.Proof.OutA10
public import proofs.«01_k».proof.Proof.OutA11
public import proofs.«01_k».proof.Proof.OutA12
public import proofs.«01_k».proof.Proof.OutA13
public import proofs.«01_k».proof.Proof.OutB9
public import proofs.«01_k».proof.Proof.OutB10
public import proofs.«01_k».proof.Proof.OutB11
public import proofs.«01_k».proof.Proof.OutB12
public import proofs.«01_k».proof.Proof.OutB13
public import Idealize.ShloMosaic.Lib.Pipeline.ValueKit.Acc

@[expose] public section

set_option maxRecDepth 16384

noncomputable section

namespace Cert.BranchA

open Idealize.ShloMosaic hiding ix1 ix2 ix3 eq_ix2
open Idealize.ShloMosaic.ValueIdx Idealize.ShloMosaic.TcCoe Idealize.SL.Sem
open Cert.KernelIdeal Cert.KernelIdeal.Facts₀ Cert.KernelIdeal.Facts Cert.KernelIdeal.Gen
open Finset (range)

/-- Sums over the chunks up to a point, one point more. -/
theorem sum_four (f : ℕ → ℝ) (n : ℕ) :
    (((∑ k ∈ range (4 * n), f k) + f (4 * n + 0) + f (4 * n + 1) + f (4 * n + 2) + f (4 * n + 3)) = ∑ k ∈ range (4 * (n + 1)), f k) := by
  rw [show 4 * (n + 1) = 4 * n + 1 + 1 + 1 + 1 by ring, Finset.sum_range_succ, Finset.sum_range_succ, Finset.sum_range_succ, Finset.sum_range_succ, Nat.add_zero]

variable (m : (ℓ : Loc nD τ sig) → Buf (Elt Ideal) ℓ) (c : Dev nD)

theorem at_A_9 (t : Fin cfg0.N) (h0 : t.val % 16 = 0) : (outsAt0 m c t.val t.isLt).1
    = tiles fun k => parts (chT m c t k) := by
  rw [outsAt0_A m c t h0]
  dsimp only
  rw [out_A_9]

theorem at_B_9 (t : Fin cfg0.N) (h0 : ¬t.val % 16 = 0) : (outsAt0 m c t.val t.isLt).1
    = tiles fun k => parts (chT m c t k) := by
  rw [outsAt0_B m c t h0]
  dsimp only
  rw [out_B_9]

theorem at_A_10 (t : Fin cfg0.N) (h0 : t.val % 16 = 0) : (outsAt0 m c t.val t.isLt).2.1
    = stack fun g => over4 (chT m c t) (addDwG g) (mats (k0_pay2 (F := Ideal)) g) := by
  rw [outsAt0_A m c t h0]
  dsimp only
  rw [out_A_10]

theorem at_B_10 (t : Fin cfg0.N) (h0 : ¬t.val % 16 = 0) : (outsAt0 m c t.val t.isLt).2.1
    = stack fun g => over4 (chT m c t) (addDwG g) (mats ((outsAt0 m c (t.val - 1) (Nat.lt_of_le_of_lt (Nat.sub_le _ _) t.isLt)).2.1) g) := by
  rw [outsAt0_B m c t h0]
  dsimp only
  rw [out_B_10]

theorem at_A_11 (t : Fin cfg0.N) (h0 : t.val % 16 = 0) : (outsAt0 m c t.val t.isLt).2.2.1
    = over4 (chT m c t) addDbs (k0_pay3 (F := Ideal)) := by
  rw [outsAt0_A m c t h0]
  dsimp only
  rw [out_A_11]

theorem at_B_11 (t : Fin cfg0.N) (h0 : ¬t.val % 16 = 0) : (outsAt0 m c t.val t.isLt).2.2.1
    = over4 (chT m c t) addDbs (outsAt0 m c (t.val - 1) (Nat.lt_of_le_of_lt (Nat.sub_le _ _) t.isLt)).2.2.1 := by
  rw [outsAt0_B m c t h0]
  dsimp only
  rw [out_B_11]

theorem at_A_12 (t : Fin cfg0.N) (h0 : t.val % 16 = 0) : (outsAt0 m c t.val t.isLt).2.2.2.1
    = over4 (chT m c t) addDlw (k0_pay4 (F := Ideal)) := by
  rw [outsAt0_A m c t h0]
  dsimp only
  rw [out_A_12]

theorem at_B_12 (t : Fin cfg0.N) (h0 : ¬t.val % 16 = 0) : (outsAt0 m c t.val t.isLt).2.2.2.1
    = over4 (chT m c t) addDlw (outsAt0 m c (t.val - 1) (Nat.lt_of_le_of_lt (Nat.sub_le _ _) t.isLt)).2.2.2.1 := by
  rw [outsAt0_B m c t h0]
  dsimp only
  rw [out_B_12]

theorem at_A_13 (t : Fin cfg0.N) (h0 : t.val % 16 = 0) : (outsAt0 m c t.val t.isLt).2.2.2.2
    = over4 (chT m c t) addDlb (k0_pay5 (F := Ideal)) := by
  rw [outsAt0_A m c t h0]
  dsimp only
  rw [out_A_13]

theorem at_B_13 (t : Fin cfg0.N) (h0 : ¬t.val % 16 = 0) : (outsAt0 m c t.val t.isLt).2.2.2.2
    = over4 (chT m c t) addDlb (outsAt0 m c (t.val - 1) (Nat.lt_of_le_of_lt (Nat.sub_le _ _) t.isLt)).2.2.2.2 := by
  rw [outsAt0_B m c t h0]
  dsimp only
  rw [out_B_13]

variable {m c} {A : Args} (h : Args.Of A (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5)))
include h

/-- The projection's gradient over a point's rows. -/
theorem dp_block (t : Fin cfg0.N) : Is (tiles fun k => parts (chT m c t k)) (fun i j => A.dp (512 * t.val + i) j) := fun y => by
  have l0 := idx2_lt0 y
  have l1 := idx2_lt1 y
  have key : ∀ (k : Fin 4) (p : Fin 3) (i : Fin 128) (j : Fin 1024),
      parts (chT m c t k) p (ix2 i j) = ((A.dp (512 * t.val + (128 * k.val + i.val)) (1024 * p.val + j.val) : ℝ) : EReal) := by
    intro k p i j
    have hk := chT_of h t k
    have er : 128 * (4 * t.val + k.val) + i.val = 512 * t.val + (128 * k.val + i.val) := by omega
    have hj := j.isLt
    unfold Args.dp
    match p with
    | 0 =>
      refine (hk.dpu (ix2 i j)).trans ?_
      rw [if_pos (show 1024 * (0 : Fin 3).val + j.val < 1024 by show 1024 * 0 + j.val < 1024; omega)]
      show ((A.dpu (128 * (4 * t.val + k.val) + i.val) j.val : ℝ) : EReal) = _
      rw [er, show 1024 * (0 : Fin 3).val + j.val = j.val by show 1024 * 0 + j.val = j.val; omega]
    | 1 =>
      refine (hk.dpv (ix2 i j)).trans ?_
      rw [if_neg (show ¬ 1024 * (1 : Fin 3).val + j.val < 1024 by show ¬ 1024 * 1 + j.val < 1024; omega),
        if_pos (show 1024 * (1 : Fin 3).val + j.val < 2048 by show 1024 * 1 + j.val < 2048; omega)]
      show ((A.dpv (128 * (4 * t.val + k.val) + i.val) j.val : ℝ) : EReal) = _
      rw [er, show 1024 * (1 : Fin 3).val + j.val - 1024 = j.val by show 1024 * 1 + j.val - 1024 = j.val; omega]
    | 2 =>
      refine (hk.dpz (ix2 i j)).trans ?_
      rw [if_neg (show ¬ 1024 * (2 : Fin 3).val + j.val < 1024 by show ¬ 1024 * 2 + j.val < 1024; omega),
        if_neg (show ¬ 1024 * (2 : Fin 3).val + j.val < 2048 by show ¬ 1024 * 2 + j.val < 2048; omega)]
      show ((A.dpz (128 * (4 * t.val + k.val) + i.val) j.val : ℝ) : EReal) = _
      rw [er, show 1024 * (2 : Fin 3).val + j.val - 2048 = j.val by show 1024 * 2 + j.val - 2048 = j.val; omega]
  refine (key ⟨(y 0).val / 128, by omega⟩ ⟨(y 1).val / 1024, by omega⟩ ⟨(y 0).val % 128, by omega⟩ ⟨(y 1).val % 1024, by omega⟩).trans ?_
  show ((A.dp (512 * t.val + (128 * ((y 0).val / 128) + (y 0).val % 128)) (1024 * ((y 1).val / 1024) + (y 1).val % 1024) : ℝ) : EReal) = _
  rw [Nat.div_add_mod, Nat.div_add_mod]

theorem dp_at (t : Fin cfg0.N) : Is (outsAt0 m c t.val t.isLt).1 (fun i j => A.dp (512 * t.val + i) j) := by
  by_cases h0 : t.val % 16 = 0
  · rw [at_A_9 m c t h0]; exact dp_block h t
  · rw [at_B_9 m c t h0]; exact dp_block h t

/-- The mixing bias's gradient over a point's chunks. -/
theorem dbs_step (t : Fin cfg0.N) {a : Vec Ideal S128x1024 .f32} (ha : Is a (fun i j => ∑ n ∈ range (4 * t.val), A.dm (128 * n + i) j)) :
    Is (over4 (chT m c t) addDbs a) (fun i j => ∑ n ∈ range (4 * (t.val + 1)), A.dm (128 * n + i) j) :=
  ((chT_of h t 3).dbs ((chT_of h t 2).dbs ((chT_of h t 1).dbs ((chT_of h t 0).dbs ha)))).congr fun i _ j _ =>
    sum_four (fun n => A.dm (128 * n + i) j) t.val

theorem dlw_step (t : Fin cfg0.N) {a : Vec Ideal S1x1024 .f32}
    (ha : Is a (fun _ j => ∑ n ∈ range (4 * t.val), ∑ r ∈ range 128, A.dvl (128 * n + r) j * A.vh (128 * n + r) j)) :
    Is (over4 (chT m c t) addDlw a) (fun _ j => ∑ n ∈ range (4 * (t.val + 1)), ∑ r ∈ range 128, A.dvl (128 * n + r) j * A.vh (128 * n + r) j) :=
  ((chT_of h t 3).dlw ((chT_of h t 2).dlw ((chT_of h t 1).dlw ((chT_of h t 0).dlw ha)))).congr fun i _ j _ =>
    sum_four (fun n => ∑ r ∈ range 128, A.dvl (128 * n + r) j * A.vh (128 * n + r) j) t.val

theorem dlb_step (t : Fin cfg0.N) {a : Vec Ideal S1x1024 .f32}
    (ha : Is a (fun _ j => ∑ n ∈ range (4 * t.val), ∑ r ∈ range 128, A.dvl (128 * n + r) j)) :
    Is (over4 (chT m c t) addDlb a) (fun _ j => ∑ n ∈ range (4 * (t.val + 1)), ∑ r ∈ range 128, A.dvl (128 * n + r) j) :=
  ((chT_of h t 3).dlb ((chT_of h t 2).dlb ((chT_of h t 1).dlb ((chT_of h t 0).dlb ha)))).congr fun i _ j _ =>
    sum_four (fun n => ∑ r ∈ range 128, A.dvl (128 * n + r) j) t.val

/-- One chunk's share of the mixing matrices' gradient. -/
def dwc (A : Args) (g t s n : ℕ) : ℝ := ∑ d ∈ range 128, A.dm (128 * n + t) (128 * g + d) * A.vl (128 * n + s) (128 * g + d)

theorem dw_step (t : Fin cfg0.N) (g : Fin 8) {a : Vec Ideal S1x128x128 .f32}
    (ha : ∀ i j : Fin 128, a (ix3 0 i j) = ((∑ n ∈ range (4 * t.val), dwc A g.val i.val j.val n : ℝ) : EReal)) (i j : Fin 128) :
    over4 (chT m c t) (addDwG g) a (ix3 0 i j) = ((∑ n ∈ range (4 * (t.val + 1)), dwc A g.val i.val j.val n : ℝ) : EReal) := by
  have e0 := (chT_of h t 0).dwG g (f := fun i j => ∑ n ∈ range (4 * t.val), dwc A g.val i j n) ha
  have e1 := (chT_of h t 1).dwG g (f := fun i j => (∑ n ∈ range (4 * t.val), dwc A g.val i j n) + dwc A g.val i j (4 * t.val + 0)) e0
  have e2 := (chT_of h t 2).dwG g (f := fun i j => (∑ n ∈ range (4 * t.val), dwc A g.val i j n) + dwc A g.val i j (4 * t.val + 0) + dwc A g.val i j (4 * t.val + 1)) e1
  have e3 := (chT_of h t 3).dwG g (f := fun i j => (∑ n ∈ range (4 * t.val), dwc A g.val i j n) + dwc A g.val i j (4 * t.val + 0) + dwc A g.val i j (4 * t.val + 1)
    + dwc A g.val i j (4 * t.val + 2)) e2 i j
  refine e3.trans ?_
  rw [← sum_four]
  rfl

/-- What the accumulators hold after a point. -/
theorem acc : ∀ (n : ℕ) (hn : n < cfg0.N),
    (∀ (g : Fin 8) (i j : Fin 128), (outsAt0 m c n hn).2.1 (ix3 g i j) = ((∑ n ∈ range (4 * (n + 1)), dwc A g.val i.val j.val n : ℝ) : EReal))
    ∧ Is (outsAt0 m c n hn).2.2.1 (fun i j => ∑ n ∈ range (4 * (n + 1)), A.dm (128 * n + i) j)
    ∧ Is (outsAt0 m c n hn).2.2.2.1 (fun _ j => ∑ n ∈ range (4 * (n + 1)), ∑ r ∈ range 128, A.dvl (128 * n + r) j * A.vh (128 * n + r) j)
    ∧ Is (outsAt0 m c n hn).2.2.2.2 (fun _ j => ∑ n ∈ range (4 * (n + 1)), ∑ r ∈ range 128, A.dvl (128 * n + r) j) := by
  intro n
  induction n with
  | zero =>
    intro hn
    have h0 : (⟨0, hn⟩ : Fin cfg0.N).val % 16 = 0 := rfl
    have z : Ideal.ofBits .f32 0x00000000#32 = (((0:ℝ)) : EReal) := Ideal.ofBits_zero_f32
    refine ⟨fun g i j => ?_, ?_, ?_, ?_⟩
    · refine (congrFun (at_A_10 m c ⟨0, hn⟩ h0) (ix3 g i j)).trans ?_
      refine dw_step h ⟨0, hn⟩ g (fun a b => ?_) i j
      exact (mats_apply _ g a b).trans z
    · rw [show (outsAt0 m c 0 hn).2.2.1 = _ from at_A_11 m c ⟨0, hn⟩ h0]
      exact dbs_step h ⟨0, hn⟩ fun i => z
    · rw [show (outsAt0 m c 0 hn).2.2.2.1 = _ from at_A_12 m c ⟨0, hn⟩ h0]
      exact dlw_step h ⟨0, hn⟩ fun i => z
    · rw [show (outsAt0 m c 0 hn).2.2.2.2 = _ from at_A_13 m c ⟨0, hn⟩ h0]
      exact dlb_step h ⟨0, hn⟩ fun i => z
  | succ n ih =>
    intro hn
    have hN : n + 1 < 16 := lt_of_lt_of_eq hn N_0
    have h0 : ¬ (⟨n + 1, hn⟩ : Fin cfg0.N).val % 16 = 0 := by show ¬ (n + 1) % 16 = 0; omega
    obtain ⟨i1, i2, i3, i4⟩ := ih (Nat.lt_of_succ_lt hn)
    refine ⟨fun g i j => ?_, ?_, ?_, ?_⟩
    · refine (congrFun (at_B_10 m c ⟨n + 1, hn⟩ h0) (ix3 g i j)).trans ?_
      refine dw_step h ⟨n + 1, hn⟩ g (fun a b => ?_) i j
      exact (mats_apply _ g a b).trans (i1 g a b)
    · rw [show (outsAt0 m c (n + 1) hn).2.2.1 = _ from at_B_11 m c ⟨n + 1, hn⟩ h0]
      exact dbs_step h ⟨n + 1, hn⟩ i2
    · rw [show (outsAt0 m c (n + 1) hn).2.2.2.1 = _ from at_B_12 m c ⟨n + 1, hn⟩ h0]
      exact dlw_step h ⟨n + 1, hn⟩ i3
    · rw [show (outsAt0 m c (n + 1) hn).2.2.2.2 = _ from at_B_13 m c ⟨n + 1, hn⟩ h0]
      exact dlb_step h ⟨n + 1, hn⟩ i4

omit h in
theorem ox9 : ∀ t : Fin cfg0.N, win0_9.index t = ![t.val, 0] := by decide
omit h in
theorem ox10 : ∀ t : Fin cfg0.N, win0_10.index t = ![0, 0, 0] := by decide
omit h in
theorem ox11 : ∀ t : Fin cfg0.N, win0_11.index t = ![0, 0] := by decide
omit h in
theorem ox12 : ∀ t : Fin cfg0.N, win0_12.index t = ![0, 0] := by decide
omit h in
theorem ox13 : ∀ t : Fin cfg0.N, win0_13.index t = ![0, 0] := by decide

theorem last (t : Fin cfg0.N) (ht : t.val % 16 = 15) : t.val = 15 := by
  have := lt_of_lt_of_eq t.isLt N_0
  omega

/-- The projection's gradient, the whole array. -/
theorem arr9 : Is ((dats m 0 c).arrAt 9 cfg0.N : FVec Ideal S8192x3072 .bf16) A.dp := fun i => by
  refine (dats m 0 c).arrAt_forall_of_covers 9 (fun i v => v = ((A.dp (i 0).val (i 1).val : ℝ) : EReal)) (by decide +kernel) (fun t hf y => ?_) i
  blk_simp [ox9]
  rw [after0_9]
  refine (dp_at h t y).trans ?_
  blk_simp
  rw [Nat.mul_comm]

/-- The mixing matrices' gradient, before the mask. -/
theorem arr10 (g : Fin 8) (i j : Fin 128) : ((dats m 0 c).arrAt 10 cfg0.N : FVec Ideal S8x128x128 .f32) (ix3 g i j) = ((A.dwf g.val i.val j.val : ℝ) : EReal) := by
  refine (dats m 0 c).arrAt_forall_of_covers 10 (fun i v => v = ((A.dwf (i 0).val (i 1).val (i 2).val : ℝ) : EReal)) (by decide +kernel) (fun t hf y => ?_) (ix3 g i j)
  blk_simp [ox10]
  rw [after0_10]
  have ht := last h t ((flush0_10 t).mp hf)
  have e := (acc h t.val t.isLt).1 (y 0) (y 1) (y 2)
  have e2 : ∀ g i j : ℕ, ∑ n ∈ range (4 * (t.val + 1)), dwc A g i j n = A.dwf g i j := fun g i j => by
    rw [ht]
    rfl
  exact (congrArg _ (ValueIdx.eq_ix3 y)).trans (e.trans (congrArg _ (e2 _ _ _)))

theorem arr11 : Is ((dats m 0 c).arrAt 11 cfg0.N : FVec Ideal S128x1024 .f32) (fun i j => ∑ n ∈ range 64, A.dm (128 * n + i) j) := fun i => by
  refine (dats m 0 c).arrAt_forall_of_covers 11 (fun i v => v = ((∑ n ∈ range 64, A.dm (128 * n + (i 0).val) (i 1).val : ℝ) : EReal)) (by decide +kernel) (fun t hf y => ?_) i
  blk_simp [ox11]
  rw [after0_11]
  have ht := last h t ((flush0_11 t).mp hf)
  have e := (acc h t.val t.isLt).2.1 y
  refine e.trans ?_
  rw [ht]

theorem arr12 : Is ((dats m 0 c).arrAt 12 cfg0.N : FVec Ideal S1x1024 .f32) (fun _ j => A.dlw j) := fun i => by
  refine (dats m 0 c).arrAt_forall_of_covers 12 (fun i v => v = ((A.dlw (i 1).val : ℝ) : EReal)) (by decide +kernel) (fun t hf y => ?_) i
  blk_simp [ox12]
  rw [after0_12]
  have ht := last h t ((flush0_12 t).mp hf)
  have e := (acc h t.val t.isLt).2.2.1 y
  refine e.trans ?_
  rw [ht]
  simp only [Nat.zero_mul, Nat.zero_add, Nat.reduceAdd, Nat.reduceMul]
  congr 1
  unfold Args.dlw
  rw [show (8192 : ℕ) = 64 * 128 from rfl, Finset.sum_range_mul_split]
  exact Finset.sum_congr rfl fun a _ => Finset.sum_congr rfl fun b _ => by rw [Nat.mul_comm 128 a]

theorem arr13 : Is ((dats m 0 c).arrAt 13 cfg0.N : FVec Ideal S1x1024 .f32) (fun _ j => A.dlb j) := fun i => by
  refine (dats m 0 c).arrAt_forall_of_covers 13 (fun i v => v = ((A.dlb (i 1).val : ℝ) : EReal)) (by decide +kernel) (fun t hf y => ?_) i
  blk_simp [ox13]
  rw [after0_13]
  have ht := last h t ((flush0_13 t).mp hf)
  have e := (acc h t.val t.isLt).2.2.2 y
  refine e.trans ?_
  rw [ht]
  simp only [Nat.zero_mul, Nat.zero_add, Nat.reduceAdd, Nat.reduceMul]
  congr 1
  unfold Args.dlb
  rw [show (8192 : ℕ) = 64 * 128 from rfl, Finset.sum_range_mul_split]
  exact Finset.sum_congr rfl fun a _ => Finset.sum_congr rfl fun b _ => by rw [Nat.mul_comm 128 a]

end Cert.BranchA
-- ==== Proof.RefBase.lean ====
/-
  The reference's operations at real numbers: what each kind of operation makes of real entries.
-/
module

public import proofs.«01_k».proof.Proof.Entry
public import proofs.«01_k».proof.Proof.Gen.ReferenceIdeal.Read
public import Idealize.ShloMosaic.Lib.TwoAxisContraction

@[expose] public section

noncomputable section

namespace Cert.BranchA

open Idealize.ShloMosaic hiding ix1 ix2 ix3 ix4 eq_ix1 eq_ix2 eq_ix3 eq_ix4
open Idealize.ShloMosaic.ValueIdx
open Finset (range)

/-- The vector's entries are the real numbers `f` of their place. -/
def Is1 {n0 : ℕ} (x : (⟨1, ![n0]⟩ : Shape).Idx → EReal) (f : ℕ → ℝ) : Prop := ∀ i, x i = ((f (i 0).val : ℝ) : EReal)

theorem Is1.at {n0 : ℕ} {x : (⟨1, ![n0]⟩ : Shape).Idx → EReal} {f : ℕ → ℝ} (h : Is1 x f) (i : (⟨1, ![n0]⟩ : Shape).Idx) {a : ℕ}
    (ha : (i 0).val = a) : x i = ((f a : ℝ) : EReal) := by rw [h i, ha]

/-- The array's entries are the real numbers `f` of their four coordinates. -/
def Is4 {n0 n1 n2 n3 : ℕ} (x : (⟨4, ![n0, n1, n2, n3]⟩ : Shape).Idx → EReal) (f : ℕ → ℕ → ℕ → ℕ → ℝ) : Prop :=
  ∀ i, x i = ((f (i 0).val (i 1).val (i 2).val (i 3).val : ℝ) : EReal)

theorem Is4.at {n0 n1 n2 n3 : ℕ} {x : (⟨4, ![n0, n1, n2, n3]⟩ : Shape).Idx → EReal} {f : ℕ → ℕ → ℕ → ℕ → ℝ} (h : Is4 x f)
    (i : (⟨4, ![n0, n1, n2, n3]⟩ : Shape).Idx) {a b c d : ℕ} (ha : (i 0).val = a) (hb : (i 1).val = b) (hc : (i 2).val = c) (hd : (i 3).val = d) :
    x i = ((f a b c d : ℝ) : EReal) := by rw [h i, ha, hb, hc, hd]

theorem Is4.add {n0 n1 n2 n3 : ℕ} {φ : FTy} {x y : FVec Ideal (⟨4, ![n0, n1, n2, n3]⟩ : Shape) φ} {f g : ℕ → ℕ → ℕ → ℕ → ℝ} (hx : Is4 x f)
    (hy : Is4 y g) : Is4 (addf x y : FVec Ideal (⟨4, ![n0, n1, n2, n3]⟩ : Shape) φ) (fun a b c d => f a b c d + g a b c d) := fun i => by
  rw [addf_apply, hx i, hy i, ← EReal.coe_add]

section Elementwise
variable {n0 n1 : ℕ} {φ : FTy} {x y : FVec Ideal (⟨2, ![n0, n1]⟩ : Shape) φ} {f g : ℕ → ℕ → ℝ}

theorem Is.htanh (hx : Is x f) : Is (Host.tanh x : FVec Ideal (⟨2, ![n0, n1]⟩ : Shape) φ) (fun i j => Real.tanh (f i j)) := fun i => by
  show Ideal.tanh (x i) = _
  rw [hx i, Ideal.tanh_coe]

theorem Is.hexp (hx : Is x f) : Is (Host.exp x : FVec Ideal (⟨2, ![n0, n1]⟩ : Shape) φ) (fun i j => Real.exp (f i j)) := fun i => by
  show Ideal.exp (x i) = _
  rw [hx i, Ideal.exp_coe]

theorem Is.hneg (hx : Is x f) : Is (Host.negf x : FVec Ideal (⟨2, ![n0, n1]⟩ : Shape) φ) (fun i j => -(f i j)) := fun i => by
  show -(x i) = _
  rw [hx i, EReal.coe_neg]

theorem Is.hdiv (hx : Is x f) (hy : Is y g) (h0 : ∀ i < n0, ∀ j < n1, g i j ≠ 0) :
    Is (Host.divf x y : FVec Ideal (⟨2, ![n0, n1]⟩ : Shape) φ) (fun i j => f i j / g i j) := fun i => by
  show Ideal.div (x i) (y i) = _
  rw [hx i, hy i, Ideal.div_coe (h0 _ (idx2_lt0 i) _ (idx2_lt1 i)), ← EReal.coe_mul, mul_one_div]

theorem Is.hrsqrt (hx : Is x f) (hp : ∀ i < n0, ∀ j < n1, 0 < f i j) :
    Is (Host.rsqrt x : FVec Ideal (⟨2, ![n0, n1]⟩ : Shape) φ) (fun i j => (√(f i j))⁻¹) := fun i => by
  have h := hp _ (idx2_lt0 i) _ (idx2_lt1 i)
  show Ideal.rsqrt (x i) = _
  rw [hx i, Ideal.rsqrt_coe, if_neg (not_lt.2 h.le), if_neg h.ne']

end Elementwise

/-- A sum from zero, of real terms. -/
theorem sum_init {n : ℕ} {z : EReal} (hz : z = 0) {g : Fin n → EReal} {f : ℕ → ℝ} (h : ∀ k, g k = ((f k.val : ℝ) : EReal)) :
    z + ∑ k, g k = ((∑ k ∈ range n, f k : ℝ) : EReal) := by
  rw [hz, zero_add, ← coe_sum_fin]
  exact Finset.sum_congr rfl fun k _ => h k

/-- A sum from zero of one real term. -/
theorem sum_one {z : EReal} (hz : z = 0) {g : Fin 1 → EReal} {r : ℝ} (h : g 0 = ((r : ℝ) : EReal)) : z + ∑ k, g k = ((r : ℝ) : EReal) := by
  rw [hz, zero_add, Fin.sum_univ_one, h]

theorem sum_coe {n : ℕ} {g : Fin n → EReal} {f : ℕ → ℝ} (h : ∀ k, g k = ((f k.val : ℝ) : EReal)) :
    ∑ k, g k = ((∑ k ∈ range n, f k : ℝ) : EReal) := by
  rw [← coe_sum_fin]
  exact Finset.sum_congr rfl fun k _ => h k

theorem sum_coe2 {n m : ℕ} {g : Fin n → Fin m → EReal} {f : ℕ → ℕ → ℝ} (h : ∀ k l, g k l = ((f k.val l.val : ℝ) : EReal)) :
    ∑ k, ∑ l, g k l = ((∑ k ∈ range n, ∑ l ∈ range m, f k l : ℝ) : EReal) :=
  sum_coe (f := fun k => ∑ l ∈ range m, f k l) fun k => sum_coe (f := fun l => f k.val l) fun l => h k l

theorem sum_init2 {n m : ℕ} {z : EReal} (hz : z = 0) {g : Fin n → Fin m → EReal} {f : ℕ → ℕ → ℝ} (h : ∀ k l, g k l = ((f k.val l.val : ℝ) : EReal)) :
    z + ∑ k, ∑ l, g k l = ((∑ k ∈ range n, ∑ l ∈ range m, f k l : ℝ) : EReal) := by
  rw [hz, zero_add]
  exact sum_coe2 h

theorem mul_coe {x y : EReal} {a b : ℝ} (hx : x = ((a : ℝ) : EReal)) (hy : y = ((b : ℝ) : EReal)) : x * y = ((a * b : ℝ) : EReal) := by
  rw [hx, hy, ← EReal.coe_mul]

theorem bits_num : Ideal.ofBits .f32 0x472EAB00#32 = ((44715 : ℝ) : EReal) := by
  simp [Ideal.ofBits, Ideal.ieee, -EReal.coe_mul]; norm_num
theorem bits_den : Ideal.ofBits .f32 0x49742400#32 = ((1000000 : ℝ) : EReal) := by
  simp [Ideal.ofBits, Ideal.ieee, -EReal.coe_mul]; norm_num

theorem quot_c : Ideal.div (Ideal.ofBits .f32 0x472EAB00#32) (Ideal.ofBits .f32 0x49742400#32) = ((8943 / 200000 : ℝ) : EReal) := by
  rw [bits_num, bits_den, Ideal.div_coe (by norm_num), ← EReal.coe_mul]
  norm_num

/-- A sum over an array's first and last axes, read at an index. -/
theorem sum_ends {n0 n1 n2 n3 : ℕ} (x : (⟨4, ![n0, n1, n2, n3]⟩ : Shape).Idx → EReal) (z : EReal)
    (h : (⟨4, ![n0, n1, n2, n3]⟩ : Shape).ReducesTo [0, 3] (⟨2, ![n1, n2]⟩ : Shape)) (i : (⟨2, ![n1, n2]⟩ : Shape).Idx) :
    Ideal.hostReduceAdd h x z i = z + ∑ a : Fin n0, ∑ d : Fin n3, x (ix4 a (i 0) (i 1) d) := by
  unfold Ideal.hostReduceAdd
  rw [← Fintype.sum_prod_type' (f := fun (a : Fin n0) (d : Fin n3) => x (ix4 a (i 0) (i 1) d))]
  congr 1
  refine Finset.sum_bij' (fun j _ => ((j 0 : Fin n0), (j 3 : Fin n3))) (fun p _ => ix4 p.1 (i 0) (i 1) p.2) (fun _ _ => Finset.mem_univ _) ?_ ?_
    (fun _ _ => rfl) ?_
  · intro p _
    refine Finset.mem_filter.2 ⟨Finset.mem_univ _, ?_⟩
    funext b
    match b with
    | ⟨0, _⟩ => rfl
    | ⟨1, _⟩ => rfl
  · intro j hj
    have e := (Finset.mem_filter.1 hj).2
    subst e
    exact (eq_ix4 j).symm
  · intro j hj
    have e := (Finset.mem_filter.1 hj).2
    subst e
    exact congrArg x (eq_ix4 j)

section Dot
open Cert.ReferenceIdeal Cert.ReferenceIdeal.Gen

/-- The product that sums over chunks and columns, read at an index. -/
theorem dot_two (l : FVec Ideal S8x64x128x128 .f32) (r : FVec Ideal S64x128x8x128 .f32) (g : Fin 8) (t s : Fin 128) :
    (Host.dotGeneral dot_S8x64x128x128_S64x128x8x128_S8x128x128_12_03_3_1_0_2 none l r : FVec Ideal S8x128x128 .f32) (ix3 g t s)
      = ∑ n : Fin 64, ∑ d : Fin 128, l (ix4 g n d t) * r (ix4 n s g d) := by
  simp only [Host.dotGeneral]
  rw [Ideal.dotGeneral_apply, sum_contr2 dot_S8x64x128x128_S64x128x8x128_S8x128x128_12_03_3_1_0_2 64 128 rfl rfl rfl]
  refine Finset.sum_congr rfl fun n _ => Finset.sum_congr rfl fun d _ => ?_
  have h0 := contrEquiv2_symm_val0 dot_S8x64x128x128_S64x128x8x128_S8x128x128_12_03_3_1_0_2 64 128 rfl rfl rfl (n, d)
  have h1 := contrEquiv2_symm_val1 dot_S8x64x128x128_S64x128x8x128_S8x128x128_12_03_3_1_0_2 64 128 rfl rfl rfl (n, d)
  generalize (contrEquiv2 dot_S8x64x128x128_S64x128x8x128_S8x128x128_12_03_3_1_0_2 64 128 rfl rfl rfl).symm (n, d) = q at h0 h1 ⊢
  have el : dot_S8x64x128x128_S64x128x8x128_S8x128x128_12_03_3_1_0_2.lhsIdx (ix3 g t s) q = ix4 g n d t := funext fun a => Fin.ext (by
    unfold DotDims.lhsIdx
    match a with
    | ⟨0, _⟩ => rfl
    | ⟨1, _⟩ => exact h0
    | ⟨2, _⟩ => exact h1
    | ⟨3, _⟩ => rfl)
  have er : dot_S8x64x128x128_S64x128x8x128_S8x128x128_12_03_3_1_0_2.rhsIdx (ix3 g t s) q = ix4 n s g d := funext fun a => Fin.ext (by
    unfold DotDims.rhsIdx
    match a with
    | ⟨0, _⟩ => exact h0
    | ⟨1, _⟩ => rfl
    | ⟨2, _⟩ => rfl
    | ⟨3, _⟩ => exact h1)
  rw [el, er]

end Dot

namespace Args
variable (A : Args)

/-- The gradient of the rows the layer norm reads. -/
def dv (r j : ℕ) : ℝ :=
  A.rs r * (A.dvh r j - (∑ k ∈ range 1024, A.dvh r k) / 1024 - A.vh r j * ((∑ k ∈ range 1024, A.dvh r k * A.vh r k) / 1024))

theorem dpv_eq (r j : ℕ) : A.dpv r j = A.dv r j * dgl (A.p r (1024 + j)) := rfl

theorem sum_xc (r : ℕ) : ∑ k ∈ range 1024, A.xc r k = 0 := by
  simp only [xc, Finset.sum_sub_distrib, Finset.sum_const, Finset.card_range, mu, nsmul_eq_mul]
  push_cast
  ring

theorem rs_div (r : ℕ) : A.rs r / (A.var r + eps) = A.rs r * A.rs r * A.rs r := by
  have h := A.var_eps_pos r
  unfold rs
  rw [div_eq_mul_inv, mul_assoc]
  congr 1
  rw [← mul_inv, Real.mul_self_sqrt h.le]

/-- The layer norm's gradient written through the variance and the mean is the same written through the normalised
    rows. -/
theorem dv_eq (i j : ℕ) :
    A.dvh i j * A.rs i + (∑ k ∈ range 1024, A.xc i k * A.dvh i k) * (-1 / 2 * (A.rs i / (A.var i + eps))) / 1024 * (2 * A.xc i j)
      + (∑ k ∈ range 1024, -(A.dvh i k * A.rs i)
          + ∑ k ∈ range 1024, -((∑ k ∈ range 1024, A.xc i k * A.dvh i k) * (-1 / 2 * (A.rs i / (A.var i + eps))) / 1024 * (2 * A.xc i k))) / 1024
      = A.dv i j := by
  have e2 : ∑ k ∈ range 1024, -(A.dvh i k * A.rs i) = -((∑ k ∈ range 1024, A.dvh i k) * A.rs i) := by
    rw [Finset.sum_neg_distrib, Finset.sum_mul]
  have e3 : ∀ c : ℝ, ∑ k ∈ range 1024, -(c * (2 * A.xc i k)) = 0 := fun c => by
    rw [Finset.sum_neg_distrib, ← Finset.mul_sum, ← Finset.mul_sum, A.sum_xc]; simp
  have e4 : ∑ k ∈ range 1024, A.dvh i k * A.vh i k = (∑ k ∈ range 1024, A.xc i k * A.dvh i k) * A.rs i := by
    rw [Finset.sum_mul]
    refine Finset.sum_congr rfl fun k _ => ?_
    unfold vh; ring
  rw [e2, e3, A.rs_div, dv, e4]
  unfold vh
  ring

end Args

end Cert.BranchA
-- ==== Proof.Tail.lean ====
/-
  What the kernel's last host lines make of its arrays: the five results at real arguments.
-/
module

public import proofs.«01_k».proof.Proof.Walk
public import proofs.«01_k».proof.Proof.RefBase

@[expose] public section

set_option maxRecDepth 16384

noncomputable section

namespace Cert.BranchA

open Idealize.ShloMosaic hiding ix1 ix2 ix3 eq_ix2
open Idealize.ShloMosaic.ValueIdx Idealize.ShloMosaic.TcCoe Idealize.SL.Sem
open Cert.KernelIdeal Cert.KernelIdeal.Facts₀ Cert.KernelIdeal.Facts Cert.KernelIdeal.Gen
open Finset (range)

namespace Tail

variable (m : (ℓ : Loc nD τ sig) → Buf (Elt Ideal) ℓ) (c : Dev nD)

theorem shared_in : ∀ w w', w ≠ w' → Pipeline.arrRef spec0 w = Pipeline.arrRef spec0 w' → (cfg0.win w).isOut = false := by decide

/-- The buffers where the launch left them. -/
abbrev left : Valuation τ sig (Elt Ideal) := Pipeline.withArrays spec0 c (V0 m c) fun w => (dats m 0 c).arrAt w cfg0.N

theorem left_arr (w : Fin cfg0.W) : left m c (Proc.devRef .tc (Pipeline.arrRef spec0 w)) = (dats m 0 c).arrAt w cfg0.N :=
  Pipeline.withArrays_arr_shared spec0 c (V0 m c) _ (fun w w' hne he =>
    ((dats m 0 c).arrAt_in w (shared_in w w' hne he) _).trans (A_eq m c w)) w

theorem left_v1 : (left m c (Proc.devRef .tc main_v1) : Vec Ideal S128x128 .i1) = HostRead.tril :=
  (Pipeline.withArrays_of_ne _ c (V0 m c) _ main_v1 (by exact (by decide : ∀ w, Pipeline.arrRef spec0 w ≠ main_v1))).trans (HostRead.V_v1 m c)

/-- A buffer after the last host lines. -/
abbrev fin (b : Ref sig .tc) : Buf (Elt Ideal) ((c : Thread nD τ).loc b) :=
  Pipeline.afterTail₀ cfgs (dats m) 0 (V0 m) [hostOps1, hostOps1_1, hostOps1_2] c b

theorem fin_v12 : (fin m c main_v12 : FVec Ideal S1024 .f32) = shapeCast S1024 ((dats m 0 c).arrAt 12 cfg0.N : FVec Ideal S1x1024 .f32) Gen.shapeCasts_S1x1024_S1024 := by
  rw [← left_arr m c 12]
  show StableHlo.after _ (left m c) _ = _
  generalize left m c = L
  simp only [hostOps1, hostOps1_1, hostOps1_2, List.flatten_cons, List.flatten_nil, List.append_nil, List.cons_append, List.nil_append]
  after_reads_simp
  rfl

theorem fin_v13 : (fin m c main_v13 : FVec Ideal S1024 .f32) = shapeCast S1024 ((dats m 0 c).arrAt 13 cfg0.N : FVec Ideal S1x1024 .f32) Gen.shapeCasts_S1x1024_S1024 := by
  rw [← left_arr m c 13]
  show StableHlo.after _ (left m c) _ = _
  generalize left m c = L
  simp only [hostOps1, hostOps1_1, hostOps1_2, List.flatten_cons, List.flatten_nil, List.append_nil, List.cons_append, List.nil_append]
  after_reads_simp
  rfl

theorem fin_v15 : (fin m c main_v15 : FVec Ideal S8x128x128 .f32) = HostRead.masked HostRead.tril ((dats m 0 c).arrAt 10 cfg0.N : FVec Ideal S8x128x128 .f32) := by
  rw [← left_arr m c 10, ← left_v1 m c]
  show StableHlo.after _ (left m c) _ = _
  generalize left m c = L
  simp only [hostOps1, hostOps1_1, hostOps1_2, List.flatten_cons, List.flatten_nil, List.append_nil, List.cons_append, List.nil_append]
  after_reads_simp
  rfl

theorem fin_v18 : (fin m c main_v18 : FVec Ideal S8x128 .f32) = transpose S8x128 [1, 0]
    (Host.reduceAdd (shapeCast S128x8x128 ((dats m 0 c).arrAt 11 cfg0.N : FVec Ideal S128x1024 .f32) Gen.shapeCasts_S128x1024_S128x8x128)
      (constant S_ .f32 0x00000000#32) Gen.reducesTo_S128x8x128_S128x8_d2 Gen.h_S_ : FVec Ideal S128x8 .f32) Gen.transposes_S128x8_S8x128_1_0 := by
  rw [← left_arr m c 11]
  show StableHlo.after _ (left m c) _ = _
  generalize left m c = L
  simp only [hostOps1, hostOps1_1, hostOps1_2, List.flatten_cons, List.flatten_nil, List.append_nil, List.cons_append, List.nil_append]
  after_reads_simp
  rfl

/-! The results at real arguments. -/

variable {m c} {A : Args} (h : Args.Of A (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5)))
include h

theorem is_v12 : Is1 (fin m c main_v12 : FVec Ideal S1024 .f32) A.dlw := fun i => by
  rw [show (fin m c main_v12 : FVec Ideal S1024 .f32) i = _ from congrFun (fin_v12 m c) i]
  exact (shapeCast_apply (t := S1024) _ _ i (ix2 0 (i 0)) (by rw [Shape.rowMajor_val_one, Shape.rowMajor_val_two]; simp)).trans ((arr12 h) _)

theorem is_v13 : Is1 (fin m c main_v13 : FVec Ideal S1024 .f32) A.dlb := fun i => by
  rw [show (fin m c main_v13 : FVec Ideal S1024 .f32) i = _ from congrFun (fin_v13 m c) i]
  exact (shapeCast_apply (t := S1024) _ _ i (ix2 0 (i 0)) (by rw [Shape.rowMajor_val_one, Shape.rowMajor_val_two]; simp)).trans ((arr13 h) _)

theorem is_v15 (g : Fin 8) (t s : Fin 128) : (fin m c main_v15 : FVec Ideal S8x128x128 .f32) (ix3 g t s) = ((A.dw g.val t.val s.val : ℝ) : EReal) := by
  rw [show (fin m c main_v15 : FVec Ideal S8x128x128 .f32) (ix3 g t s) = _ from congrFun (fin_v15 m c) (ix3 g t s), HostRead.masked_apply]
  unfold Args.dw
  split_ifs
  · exact arr10 h g t s
  · rfl

theorem is_v18 : Is (fin m c main_v18 : FVec Ideal S8x128 .f32) A.db := fun i => by
  rw [show (fin m c main_v18 : FVec Ideal S8x128 .f32) i = _ from congrFun (fin_v18 m c) i]
  refine (transpose_apply (t := S8x128) [1, 0] _ _ i (ix2 (i 1) (i 0)) (by intro a; match a with | ⟨0, _⟩ => rfl | ⟨1, _⟩ => rfl)).trans ?_
  simp only [Host.reduceAdd, Ideal.hostReduceAdd_def]
  refine (Ideal.hostReduceAdd_single _ (by decide) _ _ _).trans ?_
  refine (sum_init (n := 128) Ideal.ofBits_zero_f32 (f := fun d => ∑ n ∈ range 64, A.dm (128 * n + (i 1).val) (128 * (i 0).val + d)) fun d => ?_).trans ?_
  · refine (shapeCast_apply (t := S128x8x128) _ _ _ (ix2 (i 1) ⟨128 * (i 0).val + d.val, by
      have h0 : (i 0).val < 8 := (i 0).isLt; have := d.isLt; omega⟩) ?_).trans (arr11 h _)
    rw [Shape.rowMajor_val_three, Shape.rowMajor_val_two]
    show (i 1).val * 1024 + (128 * (i 0).val + d.val) = ((i 1).val * 8 + (i 0).val) * 128 + d.val
    omega
  · congr 1
    exact Finset.sum_comm

end Tail

end Cert.BranchA
-- ==== Proof.Ref.lean ====
/-
  The reference's values at real arguments, one operation after another, down to its five results.
-/
module

public import proofs.«01_k».proof.Proof.RefBase

@[expose] public section

set_option maxRecDepth 16384

noncomputable section

namespace Cert.BranchA

open Idealize.ShloMosaic hiding ix1 ix2 ix3 ix4 eq_ix1 eq_ix2 eq_ix3 eq_ix4
open Idealize.ShloMosaic.ValueIdx
open Finset (range)

namespace Ref

open Cert.ReferenceIdeal Cert.ReferenceIdeal.Gen Cert.ReferenceIdeal.Read

variable {x0 : FVec Ideal S8192x3072 .f32} {x1 : FVec Ideal S8192x1024 .bf16} {x2 x3 : FVec Ideal S1024 .f32}
  {x4 : FVec Ideal S8x128x128 .f32} {x5 : FVec Ideal S8x128 .f32}

theorem mask_eq (x4 : FVec Ideal S8x128x128 .f32) : val_main_v81_0 (F := Ideal) x4 = HostRead.masked HostRead.tril x4 := rfl

theorem mask_eq2 (x0 : FVec Ideal S8192x3072 .f32) (x1 : FVec Ideal S8192x1024 .bf16) (x2 x3 : FVec Ideal S1024 .f32) :
    val_main_v107 (F := Ideal) x0 x1 x2 x3 = HostRead.masked HostRead.tril (val_main_v104 (F := Ideal) x0 x1 x2 x3) := rfl

variable {A : Args} (h : Args.Of A x0 x1 x2 x3 x4 x5)
include h

theorem r_v0 : Is (val_main_v0 (F := Ideal) x0) (fun i j => A.p i j) := fun i => (val_main_v0_apply (F := Ideal) x0 i).trans (h.p.at _ rfl rfl)

theorem r_v1 : Is (val_main_v1 (F := Ideal) x0) (fun i j => A.p i (1024 + j)) := fun i => (val_main_v1_apply (F := Ideal) x0 i).trans (h.p.at _ rfl rfl)

theorem r_v2 : Is (val_main_v2 (F := Ideal) x0) (fun i j => A.p i (2048 + j)) := fun i => (val_main_v2_apply (F := Ideal) x0 i).trans (h.p.at _ rfl rfl)

omit h in
theorem r_v3 (i : S_.Idx) : val_main_v3 (F := Ideal) i = ((8943 / 200000 : ℝ) : EReal) := quot_c

theorem r_v4 : Is (val_main_v4 (F := Ideal) x0) (fun i j => (A.p i j * A.p i j)) := Is.mul (r_v0 h) (r_v0 h)

theorem r_v5 : Is (val_main_v5 (F := Ideal) x0) (fun i j => ((A.p i j * A.p i j) * A.p i j)) := Is.mul (r_v4 h) (r_v0 h)

theorem r_v6 : Is (val_main_v6 (F := Ideal) x0) (fun i j => (A.p i j * A.p i j)) := Is.mul (r_v0 h) (r_v0 h)

omit h in
theorem r_v7 : Is (val_main_v7 (F := Ideal)) (fun i j => (3)) := fun i => (val_main_v7_apply (F := Ideal) i).trans bits_three

theorem r_v8 : Is (val_main_v8 (F := Ideal) x0) (fun i j => ((3) * (A.p i j * A.p i j))) := Is.mul r_v7 (r_v6 h)

omit h in
theorem r_v9 : Is (val_main_v9 (F := Ideal)) (fun i j => (8943 / 200000)) := fun i => (val_main_v9_apply (F := Ideal) i).trans (r_v3 _)

theorem r_v10 : Is (val_main_v10 (F := Ideal) x0) (fun i j => ((8943 / 200000) * ((A.p i j * A.p i j) * A.p i j))) := Is.mul r_v9 (r_v5 h)

theorem r_v11 : Is (val_main_v11 (F := Ideal) x0) (fun i j => (A.p i j + ((8943 / 200000) * ((A.p i j * A.p i j) * A.p i j)))) := Is.add (r_v0 h) (r_v10 h)

omit h in
theorem r_v12 : Is (val_main_v12 (F := Ideal)) (fun i j => (gk)) := fun i => (val_main_v12_apply (F := Ideal) i).trans bits_gk

theorem r_v13 : Is (val_main_v13 (F := Ideal) x0) (fun i j => ((gk) * (A.p i j + ((8943 / 200000) * ((A.p i j * A.p i j) * A.p i j))))) := Is.mul r_v12 (r_v11 h)

theorem r_v14 : Is (val_main_v14 (F := Ideal) x0) (fun i j => gT (A.p i j)) :=
  Is.congr (f := fun i j => Real.tanh ((gk) * (A.p i j + ((8943 / 200000) * ((A.p i j * A.p i j) * A.p i j))))) (Is.htanh (r_v13 h)) (fun i _ j _ => by simp only [gT]; ring_nf)

omit h in
theorem r_v15 : Is (val_main_v15 (F := Ideal)) (fun i j => (1)) := fun i => (val_main_v15_apply (F := Ideal) i).trans bits_one

theorem r_v16 : Is (val_main_v16 (F := Ideal) x0) (fun i j => ((1) + gT (A.p i j))) := Is.add r_v15 (r_v14 h)

omit h in
theorem r_v17 : Is (val_main_v17 (F := Ideal)) (fun i j => (1)) := fun i => (val_main_v17_apply (F := Ideal) i).trans bits_one

theorem r_v18 : Is (val_main_v18 (F := Ideal) x0) (fun i j => ((1) - gT (A.p i j))) := Is.sub r_v17 (r_v14 h)

theorem r_v19 : Is (val_main_v19 (F := Ideal) x0) (fun i j => (((1) + gT (A.p i j)) * ((1) - gT (A.p i j)))) := Is.mul (r_v16 h) (r_v18 h)

omit h in
theorem r_v20 : Is (val_main_v20 (F := Ideal)) (fun i j => (1)) := fun i => (val_main_v20_apply (F := Ideal) i).trans bits_one

theorem r_v21 : Is (val_main_v21 (F := Ideal) x0) (fun i j => ((1) + gT (A.p i j))) := Is.add r_v20 (r_v14 h)

omit h in
theorem r_v22 : Is (val_main_v22 (F := Ideal)) (fun i j => (1 / 2)) := fun i => (val_main_v22_apply (F := Ideal) i).trans bits_half

theorem r_v23 : Is (val_main_v23 (F := Ideal) x0) (fun i j => ((1 / 2) * ((1) + gT (A.p i j)))) := Is.mul r_v22 (r_v21 h)

theorem r_v24 : Is (val_main_v24 (F := Ideal) x0) (fun i j => A.u i j) :=
  Is.congr (f := fun i j => (A.p i j * ((1 / 2) * ((1) + gT (A.p i j))))) (Is.mul (r_v0 h) (r_v23 h)) (fun i _ j _ => by simp only [Args.u, gl]; ring)

omit h in
theorem r_v25 (i : S_.Idx) : val_main_v25 (F := Ideal) i = ((8943 / 200000 : ℝ) : EReal) := quot_c

theorem r_v26 : Is (val_main_v26 (F := Ideal) x0) (fun i j => (A.p i (1024 + j) * A.p i (1024 + j))) := Is.mul (r_v1 h) (r_v1 h)

theorem r_v27 : Is (val_main_v27 (F := Ideal) x0) (fun i j => ((A.p i (1024 + j) * A.p i (1024 + j)) * A.p i (1024 + j))) := Is.mul (r_v26 h) (r_v1 h)

theorem r_v28 : Is (val_main_v28 (F := Ideal) x0) (fun i j => (A.p i (1024 + j) * A.p i (1024 + j))) := Is.mul (r_v1 h) (r_v1 h)

omit h in
theorem r_v29 : Is (val_main_v29 (F := Ideal)) (fun i j => (3)) := fun i => (val_main_v29_apply (F := Ideal) i).trans bits_three

theorem r_v30 : Is (val_main_v30 (F := Ideal) x0) (fun i j => ((3) * (A.p i (1024 + j) * A.p i (1024 + j)))) := Is.mul r_v29 (r_v28 h)

omit h in
theorem r_v31 : Is (val_main_v31 (F := Ideal)) (fun i j => (8943 / 200000)) := fun i => (val_main_v31_apply (F := Ideal) i).trans (r_v25 _)

theorem r_v32 : Is (val_main_v32 (F := Ideal) x0) (fun i j => ((8943 / 200000) * ((A.p i (1024 + j) * A.p i (1024 + j)) * A.p i (1024 + j)))) := Is.mul r_v31 (r_v27 h)

theorem r_v33 : Is (val_main_v33 (F := Ideal) x0) (fun i j => (A.p i (1024 + j) + ((8943 / 200000) * ((A.p i (1024 + j) * A.p i (1024 + j)) * A.p i (1024 + j))))) := Is.add (r_v1 h) (r_v32 h)

omit h in
theorem r_v34 : Is (val_main_v34 (F := Ideal)) (fun i j => (gk)) := fun i => (val_main_v34_apply (F := Ideal) i).trans bits_gk

theorem r_v35 : Is (val_main_v35 (F := Ideal) x0) (fun i j => ((gk) * (A.p i (1024 + j) + ((8943 / 200000) * ((A.p i (1024 + j) * A.p i (1024 + j)) * A.p i (1024 + j)))))) := Is.mul r_v34 (r_v33 h)

theorem r_v36 : Is (val_main_v36 (F := Ideal) x0) (fun i j => gT (A.p i (1024 + j))) :=
  Is.congr (f := fun i j => Real.tanh ((gk) * (A.p i (1024 + j) + ((8943 / 200000) * ((A.p i (1024 + j) * A.p i (1024 + j)) * A.p i (1024 + j)))))) (Is.htanh (r_v35 h)) (fun i _ j _ => by simp only [gT]; ring_nf)

omit h in
theorem r_v37 : Is (val_main_v37 (F := Ideal)) (fun i j => (1)) := fun i => (val_main_v37_apply (F := Ideal) i).trans bits_one

theorem r_v38 : Is (val_main_v38 (F := Ideal) x0) (fun i j => ((1) + gT (A.p i (1024 + j)))) := Is.add r_v37 (r_v36 h)

omit h in
theorem r_v39 : Is (val_main_v39 (F := Ideal)) (fun i j => (1)) := fun i => (val_main_v39_apply (F := Ideal) i).trans bits_one

theorem r_v40 : Is (val_main_v40 (F := Ideal) x0) (fun i j => ((1) - gT (A.p i (1024 + j)))) := Is.sub r_v39 (r_v36 h)

theorem r_v41 : Is (val_main_v41 (F := Ideal) x0) (fun i j => (((1) + gT (A.p i (1024 + j))) * ((1) - gT (A.p i (1024 + j))))) := Is.mul (r_v38 h) (r_v40 h)

omit h in
theorem r_v42 : Is (val_main_v42 (F := Ideal)) (fun i j => (1)) := fun i => (val_main_v42_apply (F := Ideal) i).trans bits_one

theorem r_v43 : Is (val_main_v43 (F := Ideal) x0) (fun i j => ((1) + gT (A.p i (1024 + j)))) := Is.add r_v42 (r_v36 h)

omit h in
theorem r_v44 : Is (val_main_v44 (F := Ideal)) (fun i j => (1 / 2)) := fun i => (val_main_v44_apply (F := Ideal) i).trans bits_half

theorem r_v45 : Is (val_main_v45 (F := Ideal) x0) (fun i j => ((1 / 2) * ((1) + gT (A.p i (1024 + j))))) := Is.mul r_v44 (r_v43 h)

theorem r_v46 : Is (val_main_v46 (F := Ideal) x0) (fun i j => A.a i j) :=
  Is.congr (f := fun i j => (A.p i (1024 + j) * ((1 / 2) * ((1) + gT (A.p i (1024 + j)))))) (Is.mul (r_v1 h) (r_v45 h)) (fun i _ j _ => by simp only [Args.a, gl]; ring)

theorem r_v47 : Is1 (val_main_v47 (F := Ideal) x0) (fun j => (∑ k ∈ range 1024, A.a j k)) := fun i => (val_main_v47_apply x0 i).trans (sum_init Ideal.ofBits_zero_f32 (f := fun k => A.a (i 0).val k) fun k => (r_v46 h).at _ rfl rfl)

theorem r_v48 : Is (val_main_v48 (F := Ideal) x0) (fun i j => (∑ k ∈ range 1024, A.a i k)) := fun i => (val_main_v48_apply (F := Ideal) x0 i).trans ((r_v47 h).at _ rfl)

omit h in
theorem r_v49 : Is (val_main_v49 (F := Ideal)) (fun i j => (1024)) := fun i => (val_main_v49_apply (F := Ideal) i).trans bits_1024

theorem r_v50 : Is (val_main_v50 (F := Ideal) x0) (fun i j => A.mu i) :=
  Is.congr (f := fun i j => ((∑ k ∈ range 1024, A.a i k) / (1024))) (Is.hdiv (r_v48 h) r_v49 fun i _ j _ => by norm_num) (fun i _ j _ => rfl)

theorem r_v51 : Is (val_main_v51 (F := Ideal) x0) (fun i j => A.mu i) := fun i => (val_main_v51_apply (F := Ideal) x0 i).trans ((r_v50 h).at _ rfl rfl)

theorem r_v52 : Is (val_main_v52 (F := Ideal) x0) (fun i j => A.xc i j) :=
  Is.congr (f := fun i j => (A.a i j - A.mu i)) (Is.sub (r_v46 h) (r_v51 h)) (fun i _ j _ => rfl)

theorem r_v53 : Is (val_main_v53 (F := Ideal) x0) (fun i j => (A.xc i j * A.xc i j)) := Is.mul (r_v52 h) (r_v52 h)

omit h in
theorem r_v54 : Is (val_main_v54 (F := Ideal)) (fun i j => (2)) := fun i => (val_main_v54_apply (F := Ideal) i).trans bits_two

theorem r_v55 : Is (val_main_v55 (F := Ideal) x0) (fun i j => ((2) * A.xc i j)) := Is.mul r_v54 (r_v52 h)

theorem r_v56 : Is1 (val_main_v56 (F := Ideal) x0) (fun j => (∑ k ∈ range 1024, (A.xc j k * A.xc j k))) := fun i => (val_main_v56_apply x0 i).trans (sum_init Ideal.ofBits_zero_f32 (f := fun k => (A.xc (i 0).val k * A.xc (i 0).val k)) fun k => (r_v53 h).at _ rfl rfl)

theorem r_v57 : Is (val_main_v57 (F := Ideal) x0) (fun i j => (∑ k ∈ range 1024, (A.xc i k * A.xc i k))) := fun i => (val_main_v57_apply (F := Ideal) x0 i).trans ((r_v56 h).at _ rfl)

omit h in
theorem r_v58 : Is (val_main_v58 (F := Ideal)) (fun i j => (1024)) := fun i => (val_main_v58_apply (F := Ideal) i).trans bits_1024

theorem r_v59 : Is (val_main_v59 (F := Ideal) x0) (fun i j => A.var i) :=
  Is.congr (f := fun i j => ((∑ k ∈ range 1024, (A.xc i k * A.xc i k)) / (1024))) (Is.hdiv (r_v57 h) r_v58 fun i _ j _ => by norm_num) (fun i _ j _ => rfl)

theorem r_v60 : Is (val_main_v60 (F := Ideal) x0) (fun i j => A.mu i) := fun i => (val_main_v60_apply (F := Ideal) x0 i).trans ((r_v50 h).at _ rfl rfl)

theorem r_v61 : Is (val_main_v61 (F := Ideal) x0) (fun i j => A.xc i j) :=
  Is.congr (f := fun i j => (A.a i j - A.mu i)) (Is.sub (r_v46 h) (r_v60 h)) (fun i _ j _ => rfl)

omit h in
theorem r_v62 : Is (val_main_v62 (F := Ideal)) (fun i j => (eps)) := fun i => (val_main_v62_apply (F := Ideal) i).trans bits_eps

theorem r_v63 : Is (val_main_v63 (F := Ideal) x0) (fun i j => (A.var i + (eps))) := Is.add (r_v59 h) r_v62

theorem r_v64 : Is (val_main_v64 (F := Ideal) x0) (fun i j => A.rs i) :=
  Is.congr (f := fun i j => (√(A.var i + (eps)))⁻¹) (Is.hrsqrt (r_v63 h) fun i _ j _ => A.var_eps_pos i) (fun i _ j _ => rfl)

theorem r_v65 : Is (val_main_v65 (F := Ideal) x0) (fun i j => (A.rs i / (A.var i + (eps)))) := Is.hdiv (r_v64 h) (r_v63 h) fun i _ j _ => (A.var_eps_pos i).ne'

omit h in
theorem r_v66 : Is (val_main_v66 (F := Ideal)) (fun i j => (-1 / 2)) := fun i => (val_main_v66_apply (F := Ideal) i).trans bits_mhalf

theorem r_v67 : Is (val_main_v67 (F := Ideal) x0) (fun i j => ((-1 / 2) * (A.rs i / (A.var i + (eps))))) := Is.mul r_v66 (r_v65 h)

theorem r_v68 : Is (val_main_v68 (F := Ideal) x0) (fun i j => A.rs i) := fun i => (val_main_v68_apply (F := Ideal) x0 i).trans ((r_v64 h).at _ rfl rfl)

theorem r_v69 : Is (val_main_v69 (F := Ideal) x0) (fun i j => A.vh i j) :=
  Is.congr (f := fun i j => (A.xc i j * A.rs i)) (Is.mul (r_v61 h) (r_v68 h)) (fun i _ j _ => rfl)

theorem r_v70 : Is (val_main_v70 (F := Ideal) x2) (fun i j => A.w j) := fun i => (val_main_v70_apply (F := Ideal) x2 i).trans ((congrArg x2 (eq_ix1 (idx_main_v70 i))).trans (h.w (i 1)))

theorem r_v71 : Is (val_main_v71 (F := Ideal) x2) (fun i j => A.w j) := fun i => (val_main_v71_apply (F := Ideal) x2 i).trans ((r_v70 h).at _ rfl rfl)

theorem r_v72 : Is (val_main_v72 (F := Ideal) x0 x2) (fun i j => (A.vh i j * A.w j)) := Is.mul (r_v69 h) (r_v71 h)

theorem r_v73 : Is (val_main_v73 (F := Ideal) x3) (fun i j => A.b j) := fun i => (val_main_v73_apply (F := Ideal) x3 i).trans ((congrArg x3 (eq_ix1 (idx_main_v73 i))).trans (h.b (i 1)))

theorem r_v74 : Is (val_main_v74 (F := Ideal) x3) (fun i j => A.b j) := fun i => (val_main_v74_apply (F := Ideal) x3 i).trans ((r_v73 h).at _ rfl rfl)

theorem r_v75 : Is (val_main_v75 (F := Ideal) x0 x2 x3) (fun i j => A.vl i j) :=
  Is.congr (f := fun i j => ((A.vh i j * A.w j) + A.b j)) (Is.add (r_v72 h) (r_v74 h)) (fun i _ j _ => rfl)

theorem r_v76 : Is4 (val_main_v76 (F := Ideal) x0 x2 x3) (fun n t g d => A.vl (128 * n + t) (128 * g + d)) := fun i => (val_main_v76_apply (F := Ideal) x0 x2 x3 i).trans ((r_v75 h).at _
  (by have h0 : (i 0).val < 64 := (i 0).isLt; have h1 : (i 1).val < 128 := (i 1).isLt; have h2 : (i 2).val < 8 := (i 2).isLt; have h3 : (i 3).val < 128 := (i 3).isLt; show ((((i 0).val * 128 + (i 1).val) * 8 + (i 2).val) * 128 + (i 3).val) / 1024 = 128 * (i 0).val + (i 1).val; omega)
  (by have h0 : (i 0).val < 64 := (i 0).isLt; have h1 : (i 1).val < 128 := (i 1).isLt; have h2 : (i 2).val < 8 := (i 2).isLt; have h3 : (i 3).val < 128 := (i 3).isLt; show ((((i 0).val * 128 + (i 1).val) * 8 + (i 2).val) * 128 + (i 3).val) % 1024 = 128 * (i 2).val + (i 3).val; omega))

theorem r_v81_0 (g : Fin 8) (t s : Fin 128) : (val_main_v81_0 (F := Ideal) x4) (ix3 g t s) = ((A.W g.val t.val s.val : ℝ) : EReal) :=
  (congrFun (mask_eq x4) (ix3 g t s)).trans (by
  rw [HostRead.masked_apply]
  unfold Args.W
  split_ifs
  · exact h.ws g t s
  · rfl)

theorem r_v82 : Is4 (val_main_v82 (F := Ideal) x0 x2 x3 x4) (fun g n d t => ∑ s ∈ range 128, A.vl (128 * n + s) (128 * g + d) * A.W g t s) := fun i => (val_main_v82_apply x0 x2 x3 x4 i).trans
  (sum_coe (f := fun s => A.vl (128 * (i 1).val + s) (128 * (i 0).val + (i 2).val) * A.W (i 0).val (i 3).val s) fun k =>
    mul_coe ((r_v76 h) _) ((congrArg _ (eq_ix3 (ridx_main_v82 i k))).trans ((r_v81_0 h) (i 0) (i 3) k)))

theorem r_v83 : Is4 (val_main_v83 (F := Ideal) x0 x2 x3 x4) (fun n t g d => ∑ s ∈ range 128, A.vl (128 * n + s) (128 * g + d) * A.W g t s) := fun i => (val_main_v83_apply (F := Ideal) x0 x2 x3 x4 i).trans ((r_v82 h) _)

theorem r_v84 : Is (val_main_v84 (F := Ideal) x5) (fun i j => A.bs j i) := fun i => (val_main_v84_apply (F := Ideal) x5 i).trans (h.bs.at _ rfl rfl)

theorem r_v85 : Is4 (val_main_v85 (F := Ideal) x5) (fun _ t g _ => A.bs g t) := fun i => (val_main_v85_apply (F := Ideal) x5 i).trans ((r_v84 h).at _ rfl rfl)

theorem r_v86 : Is4 (val_main_v86 (F := Ideal) x5) (fun _ t g _ => A.bs g t) := fun i => (val_main_v86_apply (F := Ideal) x5 i).trans ((r_v85 h) _)

theorem r_v87 : Is4 (val_main_v87 (F := Ideal) x0 x2 x3 x4 x5) (fun n t g d => (∑ s ∈ range 128, A.vl (128 * n + s) (128 * g + d) * A.W g t s) + A.bs g t) := Is4.add (r_v83 h) (r_v86 h)

theorem r_v88 : Is (val_main_v88 (F := Ideal) x0 x2 x3 x4 x5) (fun i j => A.mix i j) := fun i => (val_main_v88_apply (F := Ideal) x0 x2 x3 x4 x5 i).trans ((r_v87 h).at _ (by have h0 : (i 0).val < 8192 := (i 0).isLt; have h1 : (i 1).val < 1024 := (i 1).isLt; show ((i 0).val * 1024 + (i 1).val) / 131072 = (i 0).val / 128; omega) (by have h0 : (i 0).val < 8192 := (i 0).isLt; have h1 : (i 1).val < 1024 := (i 1).isLt; show ((i 0).val * 1024 + (i 1).val) / 1024 % 128 = (i 0).val % 128; omega)
  (by have h0 : (i 0).val < 8192 := (i 0).isLt; have h1 : (i 1).val < 1024 := (i 1).isLt; show ((i 0).val * 1024 + (i 1).val) / 128 % 8 = (i 1).val / 128; omega) (by have h0 : (i 0).val < 8192 := (i 0).isLt; have h1 : (i 1).val < 1024 := (i 1).isLt; show ((i 0).val * 1024 + (i 1).val) % 128 = (i 1).val % 128; omega) |>.trans (by
  congr 1; simp only [Args.mix, Nat.div_add_mod]; congr 1; exact Finset.sum_congr rfl fun s _ => mul_comm _ _))

theorem r_v89 : Is (val_main_v89 (F := Ideal) x0 x2 x3 x4 x5) (fun i j => (A.u i j * A.mix i j)) := Is.mul (r_v24 h) (r_v88 h)

theorem r_call2_v0 : Is (val_main_call2_v0 (F := Ideal) x0) (fun i j => (-(A.p i (2048 + j)))) := Is.hneg (r_v2 h)

theorem r_call2_v1 : Is (val_main_call2_v1 (F := Ideal) x0) (fun i j => Real.exp (-(A.p i (2048 + j)))) := Is.hexp (r_call2_v0 h)

omit h in
theorem r_call2_v2 : Is (val_main_call2_v2 (F := Ideal)) (fun i j => (1)) := fun i => (val_main_call2_v2_apply (F := Ideal) i).trans bits_one

theorem r_call2_v3 : Is (val_main_call2_v3 (F := Ideal) x0) (fun i j => ((1) + Real.exp (-(A.p i (2048 + j))))) := Is.add r_call2_v2 (r_call2_v1 h)

omit h in
theorem r_call2_v4 : Is (val_main_call2_v4 (F := Ideal)) (fun i j => (1)) := fun i => (val_main_call2_v4_apply (F := Ideal) i).trans bits_one

theorem r_v90_2 : Is (val_main_v90_2 (F := Ideal) x0) (fun i j => lg (A.p i (2048 + j))) :=
  Is.congr (f := fun i j => ((1) / ((1) + Real.exp (-(A.p i (2048 + j)))))) (Is.hdiv r_call2_v4 (r_call2_v3 h) fun i _ j _ => (by have := Real.exp_pos (-(A.p i (2048 + j))); positivity)) (fun i _ j _ => by simp only [lg, one_div])

omit h in
theorem r_call2_v6 : Is (val_main_call2_v6 (F := Ideal)) (fun i j => (1)) := fun i => (val_main_call2_v6_apply (F := Ideal) i).trans bits_one

theorem r_call2_v7 : Is (val_main_call2_v7 (F := Ideal) x0) (fun i j => ((1) - lg (A.p i (2048 + j)))) := Is.sub r_call2_v6 (r_v90_2 h)

theorem r_v90_1 : Is (val_main_v90_1 (F := Ideal) x0) (fun i j => (lg (A.p i (2048 + j)) * ((1) - lg (A.p i (2048 + j))))) := Is.mul (r_v90_2 h) (r_call2_v7 h)

theorem r_v90_0 : Is (val_main_v90_0 (F := Ideal) x0) (fun i j => sl (A.p i (2048 + j))) :=
  Is.congr (f := fun i j => (A.p i (2048 + j) * lg (A.p i (2048 + j)))) (Is.mul (r_v2 h) (r_v90_2 h)) (fun i _ j _ => by simp only [sl])

theorem r_v91 : Is (val_main_v91 (F := Ideal) x0 x2 x3 x4 x5) (fun i j => ((A.u i j * A.mix i j) * sl (A.p i (2048 + j)))) := Is.mul (r_v89 h) (r_v90_0 h)

theorem r_v92 : Is (val_main_v92 (F := Ideal) x1) (fun i j => A.y i j) := fun i => h.y i

theorem r_v93 : Is (val_main_v93 (F := Ideal) x0 x1 x2 x3 x4 x5) (fun i j => ((A.u i j * A.mix i j) * A.y i j)) := Is.mul (r_v89 h) (r_v92 h)

theorem r_v94 : Is (val_main_v94 (F := Ideal) x0 x1) (fun i j => (A.y i j * sl (A.p i (2048 + j)))) := Is.mul (r_v92 h) (r_v90_0 h)

theorem r_call3_v0 : Is (val_main_call3_v0 (F := Ideal) x0 x1 x2 x3 x4 x5) (fun i j => (A.p i (2048 + j) * ((A.u i j * A.mix i j) * A.y i j))) := Is.mul (r_v2 h) (r_v93 h)

theorem r_call3_v1 : Is (val_main_call3_v1 (F := Ideal) x0 x1 x2 x3 x4 x5) (fun i j => (((A.u i j * A.mix i j) * A.y i j) * lg (A.p i (2048 + j)))) := Is.mul (r_v93 h) (r_v90_2 h)

theorem r_call3_v2 : Is (val_main_call3_v2 (F := Ideal) x0 x1 x2 x3 x4 x5) (fun i j => ((A.p i (2048 + j) * ((A.u i j * A.mix i j) * A.y i j)) * (lg (A.p i (2048 + j)) * ((1) - lg (A.p i (2048 + j)))))) := Is.mul (r_call3_v0 h) (r_v90_1 h)

theorem r_v95 : Is (val_main_v95 (F := Ideal) x0 x1 x2 x3 x4 x5) (fun i j => A.dpz i j) :=
  Is.congr (f := fun i j => ((((A.u i j * A.mix i j) * A.y i j) * lg (A.p i (2048 + j))) + ((A.p i (2048 + j) * ((A.u i j * A.mix i j) * A.y i j)) * (lg (A.p i (2048 + j)) * ((1) - lg (A.p i (2048 + j))))))) (Is.add (r_call3_v1 h) (r_call3_v2 h)) (fun i _ j _ => by simp only [Args.dpz, dsl, Args.z]; ring)

theorem r_v96 : Is (val_main_v96 (F := Ideal) x0 x1) (fun i j => A.dm i j) :=
  Is.congr (f := fun i j => (A.u i j * (A.y i j * sl (A.p i (2048 + j))))) (Is.mul (r_v24 h) (r_v94 h)) (fun i _ j _ => by simp only [Args.dm, Args.z]; ring)

theorem r_v97 : Is (val_main_v97 (F := Ideal) x0 x1 x2 x3 x4 x5) (fun i j => (A.y i j * A.mix i j * sl (A.p i (2048 + j)))) :=
  Is.congr (f := fun i j => ((A.y i j * sl (A.p i (2048 + j))) * A.mix i j)) (Is.mul (r_v94 h) (r_v88 h)) (fun i _ j _ => by ring)

theorem r_v98 : Is4 (val_main_v98 (F := Ideal) x0 x1) (fun n t g d => A.dm (128 * n + t) (128 * g + d)) := fun i => (val_main_v98_apply (F := Ideal) x0 x1 i).trans ((r_v96 h).at _
  (by have h0 : (i 0).val < 64 := (i 0).isLt; have h1 : (i 1).val < 128 := (i 1).isLt; have h2 : (i 2).val < 8 := (i 2).isLt; have h3 : (i 3).val < 128 := (i 3).isLt; show ((((i 0).val * 128 + (i 1).val) * 8 + (i 2).val) * 128 + (i 3).val) / 1024 = 128 * (i 0).val + (i 1).val; omega)
  (by have h0 : (i 0).val < 64 := (i 0).isLt; have h1 : (i 1).val < 128 := (i 1).isLt; have h2 : (i 2).val < 8 := (i 2).isLt; have h3 : (i 3).val < 128 := (i 3).isLt; show ((((i 0).val * 128 + (i 1).val) * 8 + (i 2).val) * 128 + (i 3).val) % 1024 = 128 * (i 2).val + (i 3).val; omega))

theorem r_v99 : Is (val_main_v99 (F := Ideal) x0 x1) (fun t g => A.db g t) := fun i => (sum_ends _ _ _ i).trans (sum_init2 Ideal.ofBits_zero_f32
  (f := fun n d => A.dm (128 * n + (i 0).val) (128 * (i 1).val + d)) fun n d => (r_v98 h) _)

theorem r_v100 : Is4 (val_main_v100 (F := Ideal) x0 x1) (fun _ t g _ => A.db g t) := fun i => (val_main_v100_apply (F := Ideal) x0 x1 i).trans ((r_v99 h).at _
  (by have h0 : (i 0).val < 1 := (i 0).isLt; have h1 : (i 1).val < 128 := (i 1).isLt; have h2 : (i 2).val < 8 := (i 2).isLt; have h3 : (i 3).val < 1 := (i 3).isLt; show ((((i 0).val * 128 + (i 1).val) * 8 + (i 2).val) * 1 + (i 3).val) / 8 = (i 1).val; omega)
  (by have h0 : (i 0).val < 1 := (i 0).isLt; have h1 : (i 1).val < 128 := (i 1).isLt; have h2 : (i 2).val < 8 := (i 2).isLt; have h3 : (i 3).val < 1 := (i 3).isLt; show ((((i 0).val * 128 + (i 1).val) * 8 + (i 2).val) * 1 + (i 3).val) % 8 = (i 2).val; omega))

theorem r_v101 : Is (val_main_v101 (F := Ideal) x0 x1) (fun t g => A.db g t) := fun i => (sum_ends _ _ _ i).trans (by rw [Fin.sum_univ_one]; exact sum_one Ideal.ofBits_zero_f32 ((r_v100 h) _))

theorem r_v102 : Is (val_main_v102 (F := Ideal) x0 x1) (fun i j => A.db i j) := fun i => (val_main_v102_apply (F := Ideal) x0 x1 i).trans ((r_v101 h).at _ rfl rfl)

theorem r_v103 : Is4 (val_main_v103 (F := Ideal) x0 x1) (fun g n d t => A.dm (128 * n + t) (128 * g + d)) := fun i => (val_main_v103_apply (F := Ideal) x0 x1 i).trans ((r_v98 h) _)

theorem r_v104 (g : Fin 8) (t s : Fin 128) : (val_main_v104 (F := Ideal) x0 x1 x2 x3) (ix3 g t s) = ((A.dwf g.val t.val s.val : ℝ) : EReal) := (dot_two _ _ g t s).trans
  (sum_coe2 (f := fun n d => A.dm (128 * n + t.val) (128 * g.val + d) * A.vl (128 * n + s.val) (128 * g.val + d)) fun n d => mul_coe ((r_v103 h) _) ((r_v76 h) _))

theorem r_v105 : Is4 (val_main_v105 (F := Ideal) x0 x1 x4) (fun g n d s => ∑ t ∈ range 128, A.dm (128 * n + t) (128 * g + d) * A.W g t s) := fun i => (val_main_v105_apply x0 x1 x4 i).trans
  (sum_coe (f := fun t => A.dm (128 * (i 1).val + t) (128 * (i 0).val + (i 2).val) * A.W (i 0).val t (i 3).val) fun k =>
    mul_coe ((r_v103 h) _) ((congrArg _ (eq_ix3 (ridx_main_v105 i k))).trans ((r_v81_0 h) (i 0) k (i 3))))

theorem r_v106 : Is4 (val_main_v106 (F := Ideal) x0 x1 x4) (fun n s g d => ∑ t ∈ range 128, A.dm (128 * n + t) (128 * g + d) * A.W g t s) := fun i => (val_main_v106_apply (F := Ideal) x0 x1 x4 i).trans ((r_v105 h) _)

theorem r_v107 (g : Fin 8) (t s : Fin 128) : (val_main_v107 (F := Ideal) x0 x1 x2 x3) (ix3 g t s) = ((A.dw g.val t.val s.val : ℝ) : EReal) := by
  refine (congrFun (mask_eq2 _ _ _ _) (ix3 g t s)).trans ?_
  rw [HostRead.masked_apply]
  unfold Args.dw
  split_ifs
  · exact (r_v104 h) g t s
  · rfl

theorem r_v108 : Is (val_main_v108 (F := Ideal) x0 x1 x4) (fun i j => A.dvl i j) := fun i => (val_main_v108_apply (F := Ideal) x0 x1 x4 i).trans ((r_v106 h).at _ (by have h0 : (i 0).val < 8192 := (i 0).isLt; have h1 : (i 1).val < 1024 := (i 1).isLt; show ((i 0).val * 1024 + (i 1).val) / 131072 = (i 0).val / 128; omega) (by have h0 : (i 0).val < 8192 := (i 0).isLt; have h1 : (i 1).val < 1024 := (i 1).isLt; show ((i 0).val * 1024 + (i 1).val) / 1024 % 128 = (i 0).val % 128; omega)
  (by have h0 : (i 0).val < 8192 := (i 0).isLt; have h1 : (i 1).val < 1024 := (i 1).isLt; show ((i 0).val * 1024 + (i 1).val) / 128 % 8 = (i 1).val / 128; omega) (by have h0 : (i 0).val < 8192 := (i 0).isLt; have h1 : (i 1).val < 1024 := (i 1).isLt; show ((i 0).val * 1024 + (i 1).val) % 128 = (i 1).val % 128; omega) |>.trans (by
  congr 1; simp only [Args.dvl, Nat.div_add_mod]; exact Finset.sum_congr rfl fun s _ => mul_comm _ _))

theorem r_v109 : Is1 (val_main_v109 (F := Ideal) x0 x1 x4) (fun j => (∑ r ∈ range 8192, A.dvl r j)) := fun i => (val_main_v109_apply x0 x1 x4 i).trans (sum_init Ideal.ofBits_zero_f32 (f := fun r => A.dvl r (i 0).val) fun k => (r_v108 h).at _ rfl rfl)

theorem r_v110 : Is (val_main_v110 (F := Ideal) x0 x1 x4) (fun i j => (∑ r ∈ range 8192, A.dvl r j)) := fun i => (val_main_v110_apply (F := Ideal) x0 x1 x4 i).trans ((r_v109 h).at _ (by have := idx2_lt0 i; show (i 0).val * 1024 + (i 1).val = (i 1).val; omega))

theorem r_v111 : Is1 (val_main_v111 (F := Ideal) x0 x1 x4) (fun j => (∑ r ∈ range 8192, A.dvl r j)) := fun i => (val_main_v111_apply x0 x1 x4 i).trans (sum_one Ideal.ofBits_zero_f32 ((r_v110 h).at _ rfl rfl))

theorem r_v112 : Is (val_main_v112 (F := Ideal) x0 x1 x4) (fun i j => (A.vh i j * A.dvl i j)) := Is.mul (r_v69 h) (r_v108 h)

theorem r_v113 : Is1 (val_main_v113 (F := Ideal) x0 x1 x4) (fun j => (∑ r ∈ range 8192, (A.vh r j * A.dvl r j))) := fun i => (val_main_v113_apply x0 x1 x4 i).trans (sum_init Ideal.ofBits_zero_f32 (f := fun r => (A.vh r (i 0).val * A.dvl r (i 0).val)) fun k => (r_v112 h).at _ rfl rfl)

theorem r_v114 : Is (val_main_v114 (F := Ideal) x0 x1 x4) (fun i j => (∑ r ∈ range 8192, (A.vh r j * A.dvl r j))) := fun i => (val_main_v114_apply (F := Ideal) x0 x1 x4 i).trans ((r_v113 h).at _ (by have := idx2_lt0 i; show (i 0).val * 1024 + (i 1).val = (i 1).val; omega))

theorem r_v115 : Is (val_main_v115 (F := Ideal) x2) (fun i j => A.w j) := fun i => (val_main_v115_apply (F := Ideal) x2 i).trans ((r_v70 h).at _ rfl rfl)

theorem r_v116 : Is (val_main_v116 (F := Ideal) x0 x1 x2 x4) (fun i j => A.dvh i j) :=
  Is.congr (f := fun i j => (A.dvl i j * A.w j)) (Is.mul (r_v108 h) (r_v115 h)) (fun i _ j _ => rfl)

theorem r_v117 : Is1 (val_main_v117 (F := Ideal) x0 x1 x4) (fun j => (∑ r ∈ range 8192, (A.vh r j * A.dvl r j))) := fun i => (val_main_v117_apply x0 x1 x4 i).trans (sum_one Ideal.ofBits_zero_f32 ((r_v114 h).at _ rfl rfl))

theorem r_v118 : Is (val_main_v118 (F := Ideal) x0 x1 x2 x4) (fun i j => (A.xc i j * A.dvh i j)) := Is.mul (r_v61 h) (r_v116 h)

theorem r_v119 : Is1 (val_main_v119 (F := Ideal) x0 x1 x2 x4) (fun j => (∑ k ∈ range 1024, (A.xc j k * A.dvh j k))) := fun i => (val_main_v119_apply x0 x1 x2 x4 i).trans (sum_init Ideal.ofBits_zero_f32 (f := fun k => (A.xc (i 0).val k * A.dvh (i 0).val k)) fun k => (r_v118 h).at _ rfl rfl)

theorem r_v120 : Is (val_main_v120 (F := Ideal) x0 x1 x2 x4) (fun i j => (∑ k ∈ range 1024, (A.xc i k * A.dvh i k))) := fun i => (val_main_v120_apply (F := Ideal) x0 x1 x2 x4 i).trans ((r_v119 h).at _ (by have := idx2_lt1 i; show (i 0).val * 1 + (i 1).val = (i 0).val; omega))

theorem r_v121 : Is (val_main_v121 (F := Ideal) x0) (fun i j => A.rs i) := fun i => (val_main_v121_apply (F := Ideal) x0 i).trans ((r_v64 h).at _ rfl rfl)

theorem r_v122 : Is (val_main_v122 (F := Ideal) x0 x1 x2 x4) (fun i j => (A.dvh i j * A.rs i)) := Is.mul (r_v116 h) (r_v121 h)

theorem r_v123 : Is (val_main_v123 (F := Ideal) x0 x1 x2 x4) (fun i j => ((∑ k ∈ range 1024, (A.xc i k * A.dvh i k)) * ((-1 / 2) * (A.rs i / (A.var i + (eps)))))) := Is.mul (r_v120 h) (r_v67 h)

theorem r_v124 : Is (val_main_v124 (F := Ideal) x0 x1 x2 x4) (fun i j => (-((A.dvh i j * A.rs i)))) := Is.hneg (r_v122 h)

theorem r_v125 : Is1 (val_main_v125 (F := Ideal) x0 x1 x2 x4) (fun j => (∑ k ∈ range 1024, (-((A.dvh j k * A.rs j))))) := fun i => (val_main_v125_apply x0 x1 x2 x4 i).trans (sum_init Ideal.ofBits_zero_f32 (f := fun k => (-((A.dvh (i 0).val k * A.rs (i 0).val)))) fun k => (r_v124 h).at _ rfl rfl)

theorem r_v126 : Is (val_main_v126 (F := Ideal) x0 x1 x2 x4) (fun i j => (∑ k ∈ range 1024, (-((A.dvh i k * A.rs i))))) := fun i => (val_main_v126_apply (F := Ideal) x0 x1 x2 x4 i).trans ((r_v125 h).at _ (by have := idx2_lt1 i; show (i 0).val * 1 + (i 1).val = (i 0).val; omega))

omit h in
theorem r_v127 : Is (val_main_v127 (F := Ideal)) (fun i j => (1024)) := fun i => (val_main_v127_apply (F := Ideal) i).trans bits_1024

theorem r_v128 : Is (val_main_v128 (F := Ideal) x0 x1 x2 x4) (fun i j => (((∑ k ∈ range 1024, (A.xc i k * A.dvh i k)) * ((-1 / 2) * (A.rs i / (A.var i + (eps))))) / (1024))) := Is.hdiv (r_v123 h) r_v127 fun i _ j _ => by norm_num

theorem r_v129 : Is1 (val_main_v129 (F := Ideal) x0 x1 x2 x4) (fun j => (((∑ k ∈ range 1024, (A.xc j k * A.dvh j k)) * ((-1 / 2) * (A.rs j / (A.var j + (eps))))) / (1024))) := fun i => (val_main_v129_apply x0 x1 x2 x4 i).trans (sum_one Ideal.ofBits_zero_f32 ((r_v128 h).at _ rfl rfl))

theorem r_v130 : Is (val_main_v130 (F := Ideal) x0 x1 x2 x4) (fun i j => (((∑ k ∈ range 1024, (A.xc i k * A.dvh i k)) * ((-1 / 2) * (A.rs i / (A.var i + (eps))))) / (1024))) := fun i => (val_main_v130_apply (F := Ideal) x0 x1 x2 x4 i).trans ((r_v129 h).at _ rfl)

theorem r_v131 : Is (val_main_v131 (F := Ideal) x0 x1 x2 x4) (fun i j => ((((∑ k ∈ range 1024, (A.xc i k * A.dvh i k)) * ((-1 / 2) * (A.rs i / (A.var i + (eps))))) / (1024)) * ((2) * A.xc i j))) := Is.mul (r_v130 h) (r_v55 h)

theorem r_v132 : Is (val_main_v132 (F := Ideal) x0 x1 x2 x4) (fun i j => (-(((((∑ k ∈ range 1024, (A.xc i k * A.dvh i k)) * ((-1 / 2) * (A.rs i / (A.var i + (eps))))) / (1024)) * ((2) * A.xc i j))))) := Is.hneg (r_v131 h)

theorem r_v133 : Is1 (val_main_v133 (F := Ideal) x0 x1 x2 x4) (fun j => (∑ k ∈ range 1024, (-(((((∑ k ∈ range 1024, (A.xc j k * A.dvh j k)) * ((-1 / 2) * (A.rs j / (A.var j + (eps))))) / (1024)) * ((2) * A.xc j k)))))) := fun i => (val_main_v133_apply x0 x1 x2 x4 i).trans (sum_init Ideal.ofBits_zero_f32 (f := fun k => (-(((((∑ k ∈ range 1024, (A.xc (i 0).val k * A.dvh (i 0).val k)) * ((-1 / 2) * (A.rs (i 0).val / (A.var (i 0).val + (eps))))) / (1024)) * ((2) * A.xc (i 0).val k))))) fun k => (r_v132 h).at _ rfl rfl)

theorem r_v134 : Is (val_main_v134 (F := Ideal) x0 x1 x2 x4) (fun i j => (∑ k ∈ range 1024, (-(((((∑ k ∈ range 1024, (A.xc i k * A.dvh i k)) * ((-1 / 2) * (A.rs i / (A.var i + (eps))))) / (1024)) * ((2) * A.xc i k)))))) := fun i => (val_main_v134_apply (F := Ideal) x0 x1 x2 x4 i).trans ((r_v133 h).at _ (by have := idx2_lt1 i; show (i 0).val * 1 + (i 1).val = (i 0).val; omega))

theorem r_v135 : Is (val_main_v135 (F := Ideal) x0 x1 x2 x4) (fun i j => ((A.dvh i j * A.rs i) + ((((∑ k ∈ range 1024, (A.xc i k * A.dvh i k)) * ((-1 / 2) * (A.rs i / (A.var i + (eps))))) / (1024)) * ((2) * A.xc i j)))) := Is.add (r_v122 h) (r_v131 h)

theorem r_v136 : Is (val_main_v136 (F := Ideal) x0 x1 x2 x4) (fun i j => ((∑ k ∈ range 1024, (-((A.dvh i k * A.rs i)))) + (∑ k ∈ range 1024, (-(((((∑ k ∈ range 1024, (A.xc i k * A.dvh i k)) * ((-1 / 2) * (A.rs i / (A.var i + (eps))))) / (1024)) * ((2) * A.xc i k))))))) := Is.add (r_v126 h) (r_v134 h)

omit h in
theorem r_v137 : Is (val_main_v137 (F := Ideal)) (fun i j => (1024)) := fun i => (val_main_v137_apply (F := Ideal) i).trans bits_1024

theorem r_v138 : Is (val_main_v138 (F := Ideal) x0 x1 x2 x4) (fun i j => (((∑ k ∈ range 1024, (-((A.dvh i k * A.rs i)))) + (∑ k ∈ range 1024, (-(((((∑ k ∈ range 1024, (A.xc i k * A.dvh i k)) * ((-1 / 2) * (A.rs i / (A.var i + (eps))))) / (1024)) * ((2) * A.xc i k)))))) / (1024))) := Is.hdiv (r_v136 h) r_v137 fun i _ j _ => by norm_num

theorem r_v139 : Is1 (val_main_v139 (F := Ideal) x0 x1 x2 x4) (fun j => (((∑ k ∈ range 1024, (-((A.dvh j k * A.rs j)))) + (∑ k ∈ range 1024, (-(((((∑ k ∈ range 1024, (A.xc j k * A.dvh j k)) * ((-1 / 2) * (A.rs j / (A.var j + (eps))))) / (1024)) * ((2) * A.xc j k)))))) / (1024))) := fun i => (val_main_v139_apply x0 x1 x2 x4 i).trans (sum_one Ideal.ofBits_zero_f32 ((r_v138 h).at _ rfl rfl))

theorem r_v140 : Is (val_main_v140 (F := Ideal) x0 x1 x2 x4) (fun i j => (((∑ k ∈ range 1024, (-((A.dvh i k * A.rs i)))) + (∑ k ∈ range 1024, (-(((((∑ k ∈ range 1024, (A.xc i k * A.dvh i k)) * ((-1 / 2) * (A.rs i / (A.var i + (eps))))) / (1024)) * ((2) * A.xc i k)))))) / (1024))) := fun i => (val_main_v140_apply (F := Ideal) x0 x1 x2 x4 i).trans ((r_v139 h).at _ rfl)

theorem r_v141 : Is (val_main_v141 (F := Ideal) x0 x1 x2 x4) (fun i j => A.dv i j) :=
  Is.congr (f := fun i j => (((A.dvh i j * A.rs i) + ((((∑ k ∈ range 1024, (A.xc i k * A.dvh i k)) * ((-1 / 2) * (A.rs i / (A.var i + (eps))))) / (1024)) * ((2) * A.xc i j))) + (((∑ k ∈ range 1024, (-((A.dvh i k * A.rs i)))) + (∑ k ∈ range 1024, (-(((((∑ k ∈ range 1024, (A.xc i k * A.dvh i k)) * ((-1 / 2) * (A.rs i / (A.var i + (eps))))) / (1024)) * ((2) * A.xc i k)))))) / (1024)))) (Is.add (r_v135 h) (r_v140 h)) (fun i _ j _ => A.dv_eq i j)

theorem r_v142 : Is (val_main_v142 (F := Ideal) x0 x1 x2 x4) (fun i j => (A.p i (1024 + j) * A.dv i j)) := Is.mul (r_v1 h) (r_v141 h)

theorem r_v143 : Is (val_main_v143 (F := Ideal) x0 x1 x2 x4) (fun i j => (A.dv i j * ((1 / 2) * ((1) + gT (A.p i (1024 + j)))))) := Is.mul (r_v141 h) (r_v45 h)

omit h in
theorem r_v144 : Is (val_main_v144 (F := Ideal)) (fun i j => (1 / 2)) := fun i => (val_main_v144_apply (F := Ideal) i).trans bits_half

theorem r_v145 : Is (val_main_v145 (F := Ideal) x0 x1 x2 x4) (fun i j => ((1 / 2) * (A.p i (1024 + j) * A.dv i j))) := Is.mul r_v144 (r_v142 h)

theorem r_v146 : Is (val_main_v146 (F := Ideal) x0 x1 x2 x4) (fun i j => (((1 / 2) * (A.p i (1024 + j) * A.dv i j)) * (((1) + gT (A.p i (1024 + j))) * ((1) - gT (A.p i (1024 + j)))))) := Is.mul (r_v145 h) (r_v41 h)

omit h in
theorem r_v147 : Is (val_main_v147 (F := Ideal)) (fun i j => (gk)) := fun i => (val_main_v147_apply (F := Ideal) i).trans bits_gk

theorem r_v148 : Is (val_main_v148 (F := Ideal) x0 x1 x2 x4) (fun i j => ((gk) * (((1 / 2) * (A.p i (1024 + j) * A.dv i j)) * (((1) + gT (A.p i (1024 + j))) * ((1) - gT (A.p i (1024 + j))))))) := Is.mul r_v147 (r_v146 h)

theorem r_v149 : Is (val_main_v149 (F := Ideal) x0 x1 x2 x4) (fun i j => ((A.dv i j * ((1 / 2) * ((1) + gT (A.p i (1024 + j))))) + ((gk) * (((1 / 2) * (A.p i (1024 + j) * A.dv i j)) * (((1) + gT (A.p i (1024 + j))) * ((1) - gT (A.p i (1024 + j)))))))) := Is.add (r_v143 h) (r_v148 h)

omit h in
theorem r_v150 : Is (val_main_v150 (F := Ideal)) (fun i j => (8943 / 200000)) := fun i => (val_main_v150_apply (F := Ideal) i).trans (r_v25 _)

theorem r_v151 : Is (val_main_v151 (F := Ideal) x0 x1 x2 x4) (fun i j => ((8943 / 200000) * ((gk) * (((1 / 2) * (A.p i (1024 + j) * A.dv i j)) * (((1) + gT (A.p i (1024 + j))) * ((1) - gT (A.p i (1024 + j)))))))) := Is.mul r_v150 (r_v148 h)

theorem r_v152 : Is (val_main_v152 (F := Ideal) x0 x1 x2 x4) (fun i j => (((8943 / 200000) * ((gk) * (((1 / 2) * (A.p i (1024 + j) * A.dv i j)) * (((1) + gT (A.p i (1024 + j))) * ((1) - gT (A.p i (1024 + j))))))) * ((3) * (A.p i (1024 + j) * A.p i (1024 + j))))) := Is.mul (r_v151 h) (r_v30 h)

theorem r_v153 : Is (val_main_v153 (F := Ideal) x0 x1 x2 x4) (fun i j => A.dpv i j) :=
  Is.congr (f := fun i j => (((A.dv i j * ((1 / 2) * ((1) + gT (A.p i (1024 + j))))) + ((gk) * (((1 / 2) * (A.p i (1024 + j) * A.dv i j)) * (((1) + gT (A.p i (1024 + j))) * ((1) - gT (A.p i (1024 + j))))))) + (((8943 / 200000) * ((gk) * (((1 / 2) * (A.p i (1024 + j) * A.dv i j)) * (((1) + gT (A.p i (1024 + j))) * ((1) - gT (A.p i (1024 + j))))))) * ((3) * (A.p i (1024 + j) * A.p i (1024 + j)))))) (Is.add (r_v149 h) (r_v152 h)) (fun i _ j _ => by simp only [A.dpv_eq, dgl]; ring)

theorem r_v154 : Is (val_main_v154 (F := Ideal) x0 x1 x2 x3 x4 x5) (fun i j => (A.p i j * (A.y i j * A.mix i j * sl (A.p i (2048 + j))))) := Is.mul (r_v0 h) (r_v97 h)

theorem r_v155 : Is (val_main_v155 (F := Ideal) x0 x1 x2 x3 x4 x5) (fun i j => ((A.y i j * A.mix i j * sl (A.p i (2048 + j))) * ((1 / 2) * ((1) + gT (A.p i j))))) := Is.mul (r_v97 h) (r_v23 h)

omit h in
theorem r_v156 : Is (val_main_v156 (F := Ideal)) (fun i j => (1 / 2)) := fun i => (val_main_v156_apply (F := Ideal) i).trans bits_half

theorem r_v157 : Is (val_main_v157 (F := Ideal) x0 x1 x2 x3 x4 x5) (fun i j => ((1 / 2) * (A.p i j * (A.y i j * A.mix i j * sl (A.p i (2048 + j)))))) := Is.mul r_v156 (r_v154 h)

theorem r_v158 : Is (val_main_v158 (F := Ideal) x0 x1 x2 x3 x4 x5) (fun i j => (((1 / 2) * (A.p i j * (A.y i j * A.mix i j * sl (A.p i (2048 + j))))) * (((1) + gT (A.p i j)) * ((1) - gT (A.p i j))))) := Is.mul (r_v157 h) (r_v19 h)

omit h in
theorem r_v159 : Is (val_main_v159 (F := Ideal)) (fun i j => (gk)) := fun i => (val_main_v159_apply (F := Ideal) i).trans bits_gk

theorem r_v160 : Is (val_main_v160 (F := Ideal) x0 x1 x2 x3 x4 x5) (fun i j => ((gk) * (((1 / 2) * (A.p i j * (A.y i j * A.mix i j * sl (A.p i (2048 + j))))) * (((1) + gT (A.p i j)) * ((1) - gT (A.p i j)))))) := Is.mul r_v159 (r_v158 h)

theorem r_v161 : Is (val_main_v161 (F := Ideal) x0 x1 x2 x3 x4 x5) (fun i j => (((A.y i j * A.mix i j * sl (A.p i (2048 + j))) * ((1 / 2) * ((1) + gT (A.p i j)))) + ((gk) * (((1 / 2) * (A.p i j * (A.y i j * A.mix i j * sl (A.p i (2048 + j))))) * (((1) + gT (A.p i j)) * ((1) - gT (A.p i j))))))) := Is.add (r_v155 h) (r_v160 h)

omit h in
theorem r_v162 : Is (val_main_v162 (F := Ideal)) (fun i j => (8943 / 200000)) := fun i => (val_main_v162_apply (F := Ideal) i).trans (r_v3 _)

theorem r_v163 : Is (val_main_v163 (F := Ideal) x0 x1 x2 x3 x4 x5) (fun i j => ((8943 / 200000) * ((gk) * (((1 / 2) * (A.p i j * (A.y i j * A.mix i j * sl (A.p i (2048 + j))))) * (((1) + gT (A.p i j)) * ((1) - gT (A.p i j))))))) := Is.mul r_v162 (r_v160 h)

theorem r_v164 : Is (val_main_v164 (F := Ideal) x0 x1 x2 x3 x4 x5) (fun i j => (((8943 / 200000) * ((gk) * (((1 / 2) * (A.p i j * (A.y i j * A.mix i j * sl (A.p i (2048 + j))))) * (((1) + gT (A.p i j)) * ((1) - gT (A.p i j)))))) * ((3) * (A.p i j * A.p i j)))) := Is.mul (r_v163 h) (r_v8 h)

theorem r_v165 : Is (val_main_v165 (F := Ideal) x0 x1 x2 x3 x4 x5) (fun i j => A.dpu i j) :=
  Is.congr (f := fun i j => ((((A.y i j * A.mix i j * sl (A.p i (2048 + j))) * ((1 / 2) * ((1) + gT (A.p i j)))) + ((gk) * (((1 / 2) * (A.p i j * (A.y i j * A.mix i j * sl (A.p i (2048 + j))))) * (((1) + gT (A.p i j)) * ((1) - gT (A.p i j)))))) + (((8943 / 200000) * ((gk) * (((1 / 2) * (A.p i j * (A.y i j * A.mix i j * sl (A.p i (2048 + j))))) * (((1) + gT (A.p i j)) * ((1) - gT (A.p i j)))))) * ((3) * (A.p i j * A.p i j))))) (Is.add (r_v161 h) (r_v164 h)) (fun i _ j _ => by simp only [Args.dpu, dgl, Args.z]; ring)

theorem r_v166 : Is (val_main_v166 (F := Ideal) x0 x1 x2 x3 x4 x5) (fun i j => A.dp i j) := fun i => by
  have l1 := idx2_lt1 i
  by_cases c0 : (i 1).val < 1024
  · refine (concatenate_apply_piece (t := S8192x3072) 1 _ _ i 0 (by simp) S8192x1024 _ rfl rfl 0 rfl (ix2 (i 0) ⟨(i 1).val, c0⟩)
      (by intro b hb; match b with | ⟨0, _⟩ => rfl | ⟨1, _⟩ => exact absurd rfl hb) (by show 0 + (i 1).val = (i 1).val; omega)).trans ?_
    refine ((r_v165 h) _).trans ?_
    simp only [Args.dp, if_pos c0]
  · by_cases c1 : (i 1).val < 2048
    · refine (concatenate_apply_piece (t := S8192x3072) 1 _ _ i 1 (by simp) S8192x1024 _ rfl rfl 1024 rfl (ix2 (i 0) ⟨(i 1).val - 1024, by omega⟩)
        (by intro b hb; match b with | ⟨0, _⟩ => rfl | ⟨1, _⟩ => exact absurd rfl hb) (by show 1024 + ((i 1).val - 1024) = (i 1).val; omega)).trans ?_
      refine ((r_v153 h) _).trans ?_
      simp only [Args.dp, if_neg c0, if_pos c1]
    · refine (concatenate_apply_piece (t := S8192x3072) 1 _ _ i 2 (by simp) S8192x1024 _ rfl rfl 2048 rfl (ix2 (i 0) ⟨(i 1).val - 2048, by omega⟩)
        (by intro b hb; match b with | ⟨0, _⟩ => rfl | ⟨1, _⟩ => exact absurd rfl hb) (by show 2048 + ((i 1).val - 2048) = (i 1).val; omega)).trans ?_
      refine ((r_v95 h) _).trans ?_
      simp only [Args.dp, if_neg c0, if_neg c1]

theorem r_v167 : Is (val_main_v167 (F := Ideal) x0 x1 x2 x3 x4 x5) (fun i j => A.dp i j) := fun i => (r_v166 h) i

theorem r_dlw : Is1 (val_main_v117 (F := Ideal) x0 x1 x4) A.dlw := fun i => (r_v117 h i).trans (by
  congr 1; exact Finset.sum_congr rfl fun r _ => mul_comm _ _)

end Ref

end Cert.BranchA
-- ==== Proof.Claims.lean ====
/-
  The claims: the frames, the named constants, and the equality of the two programs at finite arguments.
-/
module

public import proofs.«01_k».proof.Defs
public import proofs.«01_k».proof.Proof.Finite
public import proofs.«01_k».proof.Proof.Tail
public import proofs.«01_k».proof.Proof.Ref
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

open Idealize.ShloMosaic hiding ix0 ix1 ix2 ix3 ix4 eq_ix1 eq_ix2 eq_ix3 eq_ix4
open Idealize.ShloMosaic.ValueIdx Idealize.ShloMosaic.TcCoe Idealize.SL.Sem

namespace Cert.Proof.Claims

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2.2.2.2.2, Idealize.ShloMosaic.sem_eq_zero_of_no_sems (by decide) r.2⟩)
    (Cert.ReferenceIdeal.Value.run (F := Ideal) m ρ)

theorem frame_ri_finite : Cert.quiescent_ReferenceIdeal_pre_finite := fun m ρ _ =>
  (θ_run Cert.ReferenceIdeal.defs _ _).mono (fun r h => ⟨fun c => (h c).2.2.2.2.2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "gelu_c" .f32 0x3D372713#32 _ rfl,
    IdealRules.named_const.statement Cert.KernelIdeal.κ "gelu_3c" .f32 0x3E095D4F#32 _ rfl⟩

/-! ## The reference's results are the kernel's -/

section Results

open Cert.BranchA Cert.KernelIdeal.Gen

variable (m : (ℓ : Loc Cert.KernelIdeal.nD Cert.KernelIdeal.τ Cert.KernelIdeal.sig) → Buf (Elt Ideal) ℓ) (c : Dev Cert.KernelIdeal.nD)
variable {A : Args} {x0 : FVec Ideal ⟨2, ![8192, 3072]⟩ .f32} {x1 : FVec Ideal ⟨2, ![8192, 1024]⟩ .bf16}
    {x2 x3 : FVec Ideal ⟨1, ![1024]⟩ .f32} {x4 : FVec Ideal ⟨3, ![8, 128, 128]⟩ .f32} {x5 : FVec Ideal ⟨2, ![8, 128]⟩ .f32}
variable (hr : Args.Of A x0 x1 x2 x3 x4 x5)
  (hk : Args.Of A (m ((c : Thread Cert.KernelIdeal.nD Cert.KernelIdeal.τ).loc Cert.KernelIdeal.main_arg0)) (m ((c : Thread Cert.KernelIdeal.nD Cert.KernelIdeal.τ).loc Cert.KernelIdeal.main_arg1))
    (m ((c : Thread Cert.KernelIdeal.nD Cert.KernelIdeal.τ).loc Cert.KernelIdeal.main_arg2)) (m ((c : Thread Cert.KernelIdeal.nD Cert.KernelIdeal.τ).loc Cert.KernelIdeal.main_arg3))
    (m ((c : Thread Cert.KernelIdeal.nD Cert.KernelIdeal.τ).loc Cert.KernelIdeal.main_arg4)) (m ((c : Thread Cert.KernelIdeal.nD Cert.KernelIdeal.τ).loc Cert.KernelIdeal.main_arg5)))

include hr hk

theorem same_dproj : Cert.ReferenceIdeal.Read.val_main_v167 (F := Ideal) x0 x1 x2 x3 x4 x5 = ((dats m 0 c).arrAt 9 Cert.KernelIdeal.cfg0.N : FVec Ideal ⟨2, ![8192, 3072]⟩ .bf16) :=
  funext fun i => (Ref.r_v167 hr i).trans ((arr9 hk i).symm)

theorem same_dlw : Cert.ReferenceIdeal.Read.val_main_v117 (F := Ideal) x0 x1 x4 = (Tail.fin m c Cert.KernelIdeal.main_v12 : FVec Ideal ⟨1, ![1024]⟩ .f32) :=
  funext fun i => (Ref.r_dlw hr i).trans ((Tail.is_v12 hk i).symm)

theorem same_dlb : Cert.ReferenceIdeal.Read.val_main_v111 (F := Ideal) x0 x1 x4 = (Tail.fin m c Cert.KernelIdeal.main_v13 : FVec Ideal ⟨1, ![1024]⟩ .f32) :=
  funext fun i => (Ref.r_v111 hr i).trans ((Tail.is_v13 hk i).symm)

theorem same_dw : Cert.ReferenceIdeal.Read.val_main_v107 (F := Ideal) x0 x1 x2 x3 = (Tail.fin m c Cert.KernelIdeal.main_v15 : FVec Ideal ⟨3, ![8, 128, 128]⟩ .f32) :=
  funext fun i => by
    rw [eq_ix3 i]
    exact (Ref.r_v107 hr _ _ _).trans ((Tail.is_v15 hk _ _ _).symm)

theorem same_db : Cert.ReferenceIdeal.Read.val_main_v102 (F := Ideal) x0 x1 = (Tail.fin m c Cert.KernelIdeal.main_v18 : FVec Ideal ⟨2, ![8, 128]⟩ .f32) :=
  funext fun i => (Ref.r_v102 hr i).trans ((Tail.is_v18 hk i).symm)

end Results

/-! ## The kernel's run, with its results and its arguments -/

section KernelRun

open Cert.KernelIdeal Cert.KernelIdeal.Gen Cert.BranchA

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11_0) = (dats m 0 c).arrAt 9 cfg0.N
      ∧ r.2.mem ((c.tc : Thread nD τ).loc main_v12) = Tail.fin m c main_v12
      ∧ r.2.mem ((c.tc : Thread nD τ).loc main_v13) = Tail.fin m c main_v13
      ∧ r.2.mem ((c.tc : Thread nD τ).loc main_v15) = Tail.fin m c main_v15
      ∧ r.2.mem ((c.tc : Thread nD τ).loc main_v18) = Tail.fin m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨Pipeline.FramePost.out_eq h.1 c 9,
      h.1.rest_eq c main_v12 (Pipeline.mem_restRefs_of main_v12 (by decide) (by decide)),
      h.1.rest_eq c main_v13 (Pipeline.mem_restRefs_of main_v13 (by decide) (by decide)),
      h.1.rest_eq c main_v15 (Pipeline.mem_restRefs_of main_v15 (by decide) (by decide)),
      h.1.rest_eq c main_v18 (Pipeline.mem_restRefs_of main_v18 (by decide) (by decide)), h.2 c⟩)
    (θ_run_and (run_main m ρ) (unchanged m ρ))

end KernelRun

open Cert.BranchA in
/-- At finite arguments that agree, the kernel and the reference end at the same five results. -/
theorem algebraic : Cert.algebraic_KernelIdeal_ReferenceIdeal_pre_finite := by
  intro m ρ m' ρ' hpre hagree
  refine ⟨_, _, _, _, _, kernel_run m ρ, ?_⟩
  refine (θ_run Cert.ReferenceIdeal.defs _ _).mono (fun _ h c => ?_) (Cert.ReferenceIdeal.Value.run (F := Ideal) m' ρ')
  obtain ⟨A, hk⟩ : ∃ A, Args.Of A _ _ _ _ _ _ := ⟨_, Finite.args_of _ _ _ _ _ _ (hpre c)⟩
  have hr := hk
  obtain ⟨g0, g1, g2, g3, g4, g5⟩ := hagree c
  rw [← g0, ← g1, ← g2, ← g3, ← g4, ← g5] at hr
  refine ⟨(h c).1.trans ?_, (h c).2.1.trans ?_, (h c).2.2.1.trans ?_, (h c).2.2.2.1.trans ?_, (h c).2.2.2.2.1.trans ?_, (h c).2.2.2.2.2⟩
  · exact (Cert.ReferenceIdeal.Read.val_main_v167_eq (StableHlo.launchContents m' c)).trans (same_dproj m c hr hk)
  · exact (Cert.ReferenceIdeal.Read.val_main_v117_eq (StableHlo.launchContents m' c)).trans (same_dlw m c hr hk)
  · exact (Cert.ReferenceIdeal.Read.val_main_v111_eq (StableHlo.launchContents m' c)).trans (same_dlb m c hr hk)
  · exact (Cert.ReferenceIdeal.Read.val_main_v107_eq (StableHlo.launchContents m' c)).trans (same_dw m c hr hk)
  · exact (Cert.ReferenceIdeal.Read.val_main_v102_eq (StableHlo.launchContents m' c)).trans (same_db m c hr hk)

end Cert.Proof.Claims

end
-- ==== Proof.Products.lean ====
/-
  Matrix products at the ideal values, as sums over a range of naturals: a matrix is read as a table over all pairs of
  naturals, so that blocks of rows or columns are shifts of the table, and the products of blocks, added up block by
  block, are the product of the whole matrices.
-/
module

public import Idealize.ShloMosaic.Lib.Pipeline.Value
public import Idealize.ShloMosaic.Lib.Pipeline.ValueKit.Acc
public import Idealize.ShloMosaic.Lib.ValueIdx
public import Idealize.ShloMosaic.PureOps.Ideal.Laws

@[expose] public section

noncomputable section

open Idealize.ShloMosaic Idealize.ShloMosaic.ValueIdx
open Finset

namespace Cert.Proof.Products

/-- A matrix as a table over all pairs of naturals, zero outside the matrix. -/
def tab {M N : ℕ} (x : (⟨2, ![M, N]⟩ : Shape).Idx → EReal) (i j : ℕ) : EReal :=
  if h : i < M ∧ j < N then x (ix2 ⟨i, h.1⟩ ⟨j, h.2⟩) else 0

theorem tab_of_lt {M N : ℕ} (x : (⟨2, ![M, N]⟩ : Shape).Idx → EReal) {i j : ℕ} (hi : i < M) (hj : j < N) :
    tab x i j = x (ix2 ⟨i, hi⟩ ⟨j, hj⟩) := dif_pos ⟨hi, hj⟩

theorem tab_ix2 {M N : ℕ} (x : (⟨2, ![M, N]⟩ : Shape).Idx → EReal) (a : Fin M) (b : Fin N) :
    x (ix2 a b) = tab x a.val b.val := (tab_of_lt x a.isLt b.isLt).symm

theorem eq_tab {M N : ℕ} (x : (⟨2, ![M, N]⟩ : Shape).Idx → EReal) (i : (⟨2, ![M, N]⟩ : Shape).Idx) :
    x i = tab x (i 0).val (i 1).val := by
  conv_lhs => rw [eq_ix2 i]
  exact tab_ix2 x (i 0) (i 1)

section Dots

variable {M K N : ℕ} {φ₁ φ₂ : FTy}

/-- The sum a product of the first matrix's columns with the second's columns makes at an index. -/
theorem sum_tn (w : DotDims.WF ⟨2, ![K, M]⟩ ⟨2, ![K, N]⟩ ⟨2, ![M, N]⟩ [0] [0] [1] [1] [] [])
    (A : FVec Ideal ⟨2, ![K, M]⟩ φ₁) (B : FVec Ideal ⟨2, ![K, N]⟩ φ₂) (j : (⟨2, ![M, N]⟩ : Shape).Idx) :
    ∑ k : (⟨[0], [0], [1], [1], [], [], w⟩ : DotDims _ _ _).contr.Idx,
        A ((⟨[0], [0], [1], [1], [], [], w⟩ : DotDims _ _ _).lhsIdx j k) * B ((⟨[0], [0], [1], [1], [], [], w⟩ : DotDims _ _ _).rhsIdx j k)
      = ∑ r ∈ range K, tab A r (j 0).val * tab B r (j 1).val := by
  rw [← Equiv.sum_comp (contrEquiv1 (⟨[0], [0], [1], [1], [], [], w⟩ : DotDims _ _ _) K rfl rfl).symm, sum_range]
  refine sum_congr rfl fun c _ => ?_
  have hc := contrEquiv1_symm_val (⟨[0], [0], [1], [1], [], [], w⟩ : DotDims _ _ _) K rfl rfl c
  have hl : (⟨[0], [0], [1], [1], [], [], w⟩ : DotDims _ _ _).lhsIdx j ((contrEquiv1 _ K rfl rfl).symm c) = ix2 c (j 0) := by
    funext ax; apply Fin.ext
    match ax with
    | ⟨0, _⟩ => simp [DotDims.lhsIdx]; exact hc
    | ⟨1, _⟩ => simp [DotDims.lhsIdx]; rfl
  have hr : (⟨[0], [0], [1], [1], [], [], w⟩ : DotDims _ _ _).rhsIdx j ((contrEquiv1 _ K rfl rfl).symm c) = ix2 c (j 1) := by
    funext ax; apply Fin.ext
    match ax with
    | ⟨0, _⟩ => simp [DotDims.rhsIdx]; exact hc
    | ⟨1, _⟩ => simp [DotDims.rhsIdx]; rfl
  rw [hl, hr]
  exact congrArg₂ (· * ·) (tab_ix2 A c (j 0)) (tab_ix2 B c (j 1))

/-- The sum a product of the first matrix's rows with the second's columns makes at an index. -/
theorem sum_nn (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (j : (⟨2, ![M, N]⟩ : Shape).Idx) :
    ∑ k : (⟨[1], [0], [0], [1], [], [], w⟩ : DotDims _ _ _).contr.Idx,
        A ((⟨[1], [0], [0], [1], [], [], w⟩ : DotDims _ _ _).lhsIdx j k) * B ((⟨[1], [0], [0], [1], [], [], w⟩ : DotDims _ _ _).rhsIdx j k)
      = ∑ r ∈ range K, tab A (j 0).val r * tab B r (j 1).val := by
  rw [← Equiv.sum_comp (contrEquiv1 (⟨[1], [0], [0], [1], [], [], w⟩ : DotDims _ _ _) K rfl rfl).symm, sum_range]
  refine sum_congr rfl fun c _ => ?_
  have hc := contrEquiv1_symm_val (⟨[1], [0], [0], [1], [], [], w⟩ : DotDims _ _ _) K rfl rfl c
  have hl : (⟨[1], [0], [0], [1], [], [], w⟩ : DotDims _ _ _).lhsIdx j ((contrEquiv1 _ K rfl rfl).symm c) = ix2 (j 0) c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims _ _ _).rhsIdx j ((contrEquiv1 _ K rfl rfl).symm c) = ix2 c (j 1) := by
    funext ax; apply Fin.ext
    match ax with
    | ⟨0, _⟩ => simp [DotDims.rhsIdx]; exact hc
    | ⟨1, _⟩ => simp [DotDims.rhsIdx]; rfl
  rw [hl, hr]
  exact congrArg₂ (· * ·) (tab_ix2 A (j 0) c) (tab_ix2 B c (j 1))

/-- The sum a product of the first matrix's rows with the second's rows makes at an index. -/
theorem sum_nt (w : DotDims.WF ⟨2, ![M, K]⟩ ⟨2, ![N, K]⟩ ⟨2, ![M, N]⟩ [1] [1] [0] [0] [] [])
    (A : FVec Ideal ⟨2, ![M, K]⟩ φ₁) (B : FVec Ideal ⟨2, ![N, K]⟩ φ₂) (j : (⟨2, ![M, N]⟩ : Shape).Idx) :
    ∑ k : (⟨[1], [1], [0], [0], [], [], w⟩ : DotDims _ _ _).contr.Idx,
        A ((⟨[1], [1], [0], [0], [], [], w⟩ : DotDims _ _ _).lhsIdx j k) * B ((⟨[1], [1], [0], [0], [], [], w⟩ : DotDims _ _ _).rhsIdx j k)
      = ∑ r ∈ range K, tab A (j 0).val r * tab B (j 1).val r := by
  rw [← Equiv.sum_comp (contrEquiv1 (⟨[1], [1], [0], [0], [], [], w⟩ : DotDims _ _ _) K rfl rfl).symm, sum_range]
  refine sum_congr rfl fun c _ => ?_
  have hc := contrEquiv1_symm_val (⟨[1], [1], [0], [0], [], [], w⟩ : DotDims _ _ _) K rfl rfl c
  have hl : (⟨[1], [1], [0], [0], [], [], w⟩ : DotDims _ _ _).lhsIdx j ((contrEquiv1 _ K rfl rfl).symm c) = ix2 (j 0) c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims _ _ _).rhsIdx j ((contrEquiv1 _ K rfl rfl).symm c) = ix2 (j 1) c := by
    funext ax; apply Fin.ext
    match ax with
    | ⟨0, _⟩ => simp [DotDims.rhsIdx]; rfl
    | ⟨1, _⟩ => simp [DotDims.rhsIdx]; exact hc
  rw [hl, hr]
  exact congrArg₂ (· * ·) (tab_ix2 A (j 0) c) (tab_ix2 B (j 1) c)

theorem matmul_tn (w : DotDims.WF ⟨2, ![K, M]⟩ ⟨2, ![K, N]⟩ ⟨2, ![M, N]⟩ [0] [0] [1] [1] [] []) (prec : Option ContractPrecision)
    (A : FVec Ideal ⟨2, ![K, M]⟩ φ₁) (B : FVec Ideal ⟨2, ![K, N]⟩ φ₂) (j : (⟨2, ![M, N]⟩ : Shape).Idx) :
    FloatOps.matmul (⟨[0], [0], [1], [1], [], [], w⟩ : DotDims _ _ _) prec A B (constant ⟨2, ![M, N]⟩ .f32 0x00000000#32) j
      = ∑ r ∈ range K, tab A r (j 0).val * tab B r (j 1).val :=
  (Ideal.matmul_constant_zero_apply _ prec A B j).trans (sum_tn w A B j)

theorem matmul_nn (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (j : (⟨2, ![M, N]⟩ : Shape).Idx) :
    FloatOps.matmul (⟨[1], [0], [0], [1], [], [], w⟩ : DotDims _ _ _) prec A B (constant ⟨2, ![M, N]⟩ .f32 0x00000000#32) j
      = ∑ r ∈ range K, tab A (j 0).val r * tab B r (j 1).val :=
  (Ideal.matmul_constant_zero_apply _ prec A B j).trans (sum_nn w A B j)

theorem matmul_nt (w : DotDims.WF ⟨2, ![M, K]⟩ ⟨2, ![N, K]⟩ ⟨2, ![M, N]⟩ [1] [1] [0] [0] [] []) (prec : Option ContractPrecision)
    (A : FVec Ideal ⟨2, ![M, K]⟩ φ₁) (B : FVec Ideal ⟨2, ![N, K]⟩ φ₂) (j : (⟨2, ![M, N]⟩ : Shape).Idx) :
    FloatOps.matmul (⟨[1], [1], [0], [0], [], [], w⟩ : DotDims _ _ _) prec A B (constant ⟨2, ![M, N]⟩ .f32 0x00000000#32) j
      = ∑ r ∈ range K, tab A (j 0).val r * tab B (j 1).val r :=
  (Ideal.matmul_constant_zero_apply _ prec A B j).trans (sum_nt w A B j)

theorem dot_tn (w : DotDims.WF ⟨2, ![K, M]⟩ ⟨2, ![K, N]⟩ ⟨2, ![M, N]⟩ [0] [0] [1] [1] [] []) (prec : Option ContractPrecision)
    (A : FVec Ideal ⟨2, ![K, M]⟩ φ₁) (B : FVec Ideal ⟨2, ![K, N]⟩ φ₂) (j : (⟨2, ![M, N]⟩ : Shape).Idx) :
    Host.dotGeneral (⟨[0], [0], [1], [1], [], [], w⟩ : DotDims _ _ _) prec A B j
      = ∑ r ∈ range K, tab A r (j 0).val * tab B r (j 1).val :=
  (Ideal.dotGeneral_apply _ prec _ A B j).trans (sum_tn w A B j)

theorem dot_nn (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (j : (⟨2, ![M, N]⟩ : Shape).Idx) :
    Host.dotGeneral (⟨[1], [0], [0], [1], [], [], w⟩ : DotDims _ _ _) prec A B j
      = ∑ r ∈ range K, tab A (j 0).val r * tab B r (j 1).val :=
  (Ideal.dotGeneral_apply _ prec _ A B j).trans (sum_nn w A B j)

theorem dot_nt (w : DotDims.WF ⟨2, ![M, K]⟩ ⟨2, ![N, K]⟩ ⟨2, ![M, N]⟩ [1] [1] [0] [0] [] []) (prec : Option ContractPrecision)
    (A : FVec Ideal ⟨2, ![M, K]⟩ φ₁) (B : FVec Ideal ⟨2, ![N, K]⟩ φ₂) (j : (⟨2, ![M, N]⟩ : Shape).Idx) :
    Host.dotGeneral (⟨[1], [1], [0], [0], [], [], w⟩ : DotDims _ _ _) prec A B j
      = ∑ r ∈ range K, tab A (j 0).val r * tab B (j 1).val r :=
  (Ideal.dotGeneral_apply _ prec _ A B j).trans (sum_nt w A B j)

end Dots

/-- Blocks added up: when the run's first point adds to `Z` the first `B` terms of a sum and each later point adds the
    next `B`, the run's `e + 1` points leave `Z` plus the first `(e + 1) * B` terms. -/
theorem fold_sum {P : ℕ} {ι : Type*} (a : (n : ℕ) → n < P → ι → EReal) (g : (n : ℕ) → n < P → (ι → EReal) → ι → EReal)
    (B b e : ℕ) (Z : ι → EReal) (T : ℕ → ι → EReal) (h : b + e < P)
    (ha : ∀ (h : b < P) (i : ι), a b h i = Z i + ∑ r ∈ range B, T r i)
    (hg : ∀ (s : ℕ) (h : b + s < P) (acc : ι → EReal) (i : ι), 0 < s → s ≤ e → g (b + s) h acc i = acc i + ∑ r ∈ range B, T (s * B + r) i)
    (i : ι) : Pipeline.accAt a g b e h i = Z i + ∑ r ∈ range ((e + 1) * B), T r i := by
  rw [Pipeline.accAt_add_apply a g Z (fun n i => ∑ r ∈ range B, T ((n - b) * B + r) i) b e
    (fun h i => by rw [ha h i]; simp only [Nat.sub_self, Nat.zero_mul, Nat.zero_add])
    (fun n h acc i h1 h2 => by
      obtain ⟨s, rfl⟩ : ∃ s, n = b + s := ⟨n - b, by omega⟩
      rw [hg s h acc i (by omega) (by omega), Nat.add_sub_cancel_left]) e le_rfl h i,
    ← sum_range_range_mul_add (e + 1) B (fun r => T r i)]
  exact congrArg (Z i + ·) (sum_congr rfl fun s _ => by rw [Nat.add_sub_cancel_left])

/-- A run of four points, each multiplying 2048 rows of the first matrix's block of columns with the second's and adding:
    the product over all 8192 rows. -/
theorem run_tn {P C : ℕ} {φ₁ φ₂ : FTy} (w : DotDims.WF ⟨2, ![2048, C]⟩ ⟨2, ![2048, 1024]⟩ ⟨2, ![C, 1024]⟩ [0] [0] [1] [1] [] [])
    (x0 : (n : ℕ) → n < P → FVec Ideal ⟨2, ![2048, C]⟩ φ₁) (x1 : (n : ℕ) → n < P → FVec Ideal ⟨2, ![2048, 1024]⟩ φ₂)
    (A B : ℕ → ℕ → EReal)
    (h0 : ∀ (n : ℕ) (h : n < P) (r j : ℕ), r < 2048 → j < C → tab (x0 n h) r j = A (n % 4 * 2048 + r) (n / 4 * C + j))
    (h1 : ∀ (n : ℕ) (h : n < P) (r j : ℕ), r < 2048 → j < 1024 → tab (x1 n h) r j = B (n % 4 * 2048 + r) j)
    (a : (n : ℕ) → n < P → ((⟨2, ![C, 1024]⟩ : Shape).Idx → EReal))
    (g : (n : ℕ) → n < P → ((⟨2, ![C, 1024]⟩ : Shape).Idx → EReal) → (⟨2, ![C, 1024]⟩ : Shape).Idx → EReal)
    (ha : ∀ (n : ℕ) (h : n < P) (i), a n h i = 0 + FloatOps.matmul (⟨[0], [0], [1], [1], [], [], w⟩ : DotDims _ _ _) none (x0 n h) (x1 n h) (constant ⟨2, ![C, 1024]⟩ .f32 0x00000000#32) i)
    (hg : ∀ (n : ℕ) (h : n < P) (acc) (i), g n h acc i = acc i + FloatOps.matmul (⟨[0], [0], [1], [1], [], [], w⟩ : DotDims _ _ _) none (x0 n h) (x1 n h) (constant ⟨2, ![C, 1024]⟩ .f32 0x00000000#32) i)
    (q : ℕ) (h : 4 * q + 3 < P) (i : (⟨2, ![C, 1024]⟩ : Shape).Idx) :
    Pipeline.accAt a g (4 * q) 3 h i = ∑ r ∈ range 8192, A r (q * C + (i 0).val) * B r (i 1).val := by
  have hp : ∀ (s : ℕ) (h : 4 * q + s < P) (i : (⟨2, ![C, 1024]⟩ : Shape).Idx), s < 4 →
      FloatOps.matmul (⟨[0], [0], [1], [1], [], [], w⟩ : DotDims _ _ _) none (x0 _ h) (x1 _ h) (constant ⟨2, ![C, 1024]⟩ .f32 0x00000000#32) i
        = ∑ r ∈ range 2048, A (s * 2048 + r) (q * C + (i 0).val) * B (s * 2048 + r) (i 1).val := by
    intro s h i hs
    rw [matmul_tn]
    refine sum_congr rfl fun r hr => ?_
    have hr : r < 2048 := mem_range.mp hr
    rw [h0 _ h r _ hr (i 0).isLt, h1 _ h r _ hr (i 1).isLt, show (4 * q + s) % 4 = s by omega, show (4 * q + s) / 4 = q by omega]
  rw [fold_sum a g 2048 (4 * q) 3 (fun _ => 0) (fun r i => A r (q * C + (i 0).val) * B r (i 1).val) h
    (fun h i => (ha _ h i).trans (congrArg (HAdd.hAdd (α := EReal) 0) ((hp 0 h i (by omega)).trans (by simp only [Nat.zero_mul, Nat.zero_add]))))
    (fun s h acc i _ h2 => by rw [hg _ h acc i, hp s h i (by omega)]) i, zero_add]

/-- A run of `E + 1` points, each multiplying the next `T` columns of the first matrix's block of rows with the second's
    and adding, from what the run starts with: that and the product over all columns. -/
theorem run_nt {P E T : ℕ} {φ₁ φ₂ : FTy} (w : DotDims.WF ⟨2, ![1024, T]⟩ ⟨2, ![1024, T]⟩ ⟨2, ![1024, 1024]⟩ [1] [1] [0] [0] [] [])
    (x0 : (n : ℕ) → n < P → FVec Ideal ⟨2, ![1024, T]⟩ φ₁) (x1 : (n : ℕ) → n < P → FVec Ideal ⟨2, ![1024, T]⟩ φ₂)
    (A B : ℕ → ℕ → EReal)
    (h0 : ∀ (n : ℕ) (h : n < P) (j r : ℕ), j < 1024 → r < T → tab (x0 n h) j r = A (n / (E + 1) * 1024 + j) (n % (E + 1) * T + r))
    (h1 : ∀ (n : ℕ) (h : n < P) (j r : ℕ), j < 1024 → r < T → tab (x1 n h) j r = B j (n % (E + 1) * T + r))
    (a : (n : ℕ) → n < P → ((⟨2, ![1024, 1024]⟩ : Shape).Idx → EReal))
    (g : (n : ℕ) → n < P → ((⟨2, ![1024, 1024]⟩ : Shape).Idx → EReal) → (⟨2, ![1024, 1024]⟩ : Shape).Idx → EReal)
    (Z : (⟨2, ![1024, 1024]⟩ : Shape).Idx → EReal) (q : ℕ) (h : (E + 1) * q + E < P)
    (ha : ∀ (h : (E + 1) * q < P) (i), a _ h i = Z i + FloatOps.matmul (⟨[1], [1], [0], [0], [], [], w⟩ : DotDims _ _ _) none (x0 _ h) (x1 _ h) (constant ⟨2, ![1024, 1024]⟩ .f32 0x00000000#32) i)
    (hg : ∀ (n : ℕ) (h : n < P) (acc) (i), g n h acc i = acc i + FloatOps.matmul (⟨[1], [1], [0], [0], [], [], w⟩ : DotDims _ _ _) none (x0 n h) (x1 n h) (constant ⟨2, ![1024, 1024]⟩ .f32 0x00000000#32) i)
    (i : (⟨2, ![1024, 1024]⟩ : Shape).Idx) :
    Pipeline.accAt a g ((E + 1) * q) E h i = Z i + ∑ r ∈ range ((E + 1) * T), A (q * 1024 + (i 0).val) r * B (i 1).val r := by
  have hp : ∀ (s : ℕ) (h : (E + 1) * q + s < P) (i : (⟨2, ![1024, 1024]⟩ : Shape).Idx), s < E + 1 →
      FloatOps.matmul (⟨[1], [1], [0], [0], [], [], w⟩ : DotDims _ _ _) none (x0 _ h) (x1 _ h) (constant ⟨2, ![1024, 1024]⟩ .f32 0x00000000#32) i
        = ∑ r ∈ range T, A (q * 1024 + (i 0).val) (s * T + r) * B (i 1).val (s * T + r) := by
    intro s h i hs
    rw [matmul_nt]
    refine sum_congr rfl fun r hr => ?_
    have hr : r < T := mem_range.mp hr
    have e1 : ((E + 1) * q + s) % (E + 1) = s := by rw [Nat.mul_add_mod, Nat.mod_eq_of_lt hs]
    have e2 : ((E + 1) * q + s) / (E + 1) = q := by rw [Nat.mul_add_div (Nat.succ_pos E), Nat.div_eq_of_lt hs, Nat.add_zero]
    rw [h0 _ h _ r (i 0).isLt hr, h1 _ h _ r (i 1).isLt hr, e1, e2]
  exact fold_sum a g T ((E + 1) * q) E Z (fun r i => A (q * 1024 + (i 0).val) r * B (i 1).val r) h
    (fun h i => (ha h i).trans (congrArg (HAdd.hAdd (α := EReal) (Z i)) ((hp 0 h i (by omega)).trans (by simp only [Nat.zero_mul, Nat.zero_add]))))
    (fun s h acc i _ h2 => by rw [hg _ h acc i, hp s h i (by omega)]) i

end Cert.Proof.Products

end
-- ==== Proof.WgradB.lean ====
/-
  The gradient of branch B's input projection: blocks of rows of the two matrices multiplied and added up over the four steps of a run
  are the whole product, which is the reference's.
-/
module

public import proofs.«01_k».proof.Defs
public import proofs.«01_k».proof.Proof.Products
public import proofs.«01_k».proof.Proof.Gen.WgradB.Frame
public import proofs.«01_k».proof.Proof.Gen.WgradBIdeal.Value
public import proofs.«01_k».proof.Proof.Gen.WgradBRefIdeal.Run
public import Idealize.ShloMosaic.Lib.Quiescent
public import Idealize.ShloMosaic.Lib.Pointwise.ShapeOpsCore

@[expose] public section

noncomputable section

open Idealize.ShloMosaic Idealize.ShloMosaic.ValueIdx Idealize.ShloMosaic.TcCoe Idealize.SL.Sem
open Finset (range)

namespace Cert.Proof.WgradB

open Cert.WgradBIdeal Cert.WgradBIdeal.Gen Cert.WgradBIdeal.Value Cert.Proof.Products

variable (m : (ℓ : Loc nD τ sig) → Buf (Elt Ideal) ℓ) (c : Dev nD)

/-- The gradient coming back, as a table. -/
def A : ℕ → ℕ → EReal := tab (M := 8192) (N := 6400) (m ((c : Thread nD τ).loc main_arg0))

/-- The product's other operand, as a table. -/
def B : ℕ → ℕ → EReal := tab (M := 8192) (N := 1024) (m ((c : Thread nD τ).loc main_arg1))

theorem place : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

theorem block_0 (t : Fin cfg0.N) (r j : ℕ) (hr : r < 2048) (hj : j < 1280) :
    tab (M := 2048) (N := 1280) (iblk m c 0 t) r j = A m c (t.val % 4 * 2048 + r) (t.val / 4 * 1280 + j) := by
  have ht : t.val < 20 := lt_of_lt_of_eq t.isLt N_0
  obtain ⟨e0, e1, -, -⟩ := place t
  rw [tab_of_lt _ hr hj, A, tab_of_lt _ (show t.val % 4 * 2048 + r < 8192 by omega) (show t.val / 4 * 1280 + j < 6400 by omega), ← V_main_arg0 m c]
  unfold iblk
  rw [View.read_apply]
  refine congrArg (V m c main_arg0) ?_
  funext a; apply Fin.ext
  match a with
  | ⟨0, _⟩ => show win0_0.index t (0 : Fin 2) * 2048 + 1 * r = _; rw [e0, Nat.one_mul]
  | ⟨1, _⟩ => show win0_0.index t (1 : Fin 2) * 1280 + 1 * j = _; rw [e1, Nat.one_mul]

theorem block_1 (t : Fin cfg0.N) (r j : ℕ) (hr : r < 2048) (hj : j < 1024) :
    tab (M := 2048) (N := 1024) (iblk m c 1 t) r j = B m c (t.val % 4 * 2048 + r) j := by
  obtain ⟨-, -, e0, e1⟩ := place t
  rw [tab_of_lt _ hr hj, B, tab_of_lt _ (show t.val % 4 * 2048 + r < 8192 by omega) hj, ← V_main_arg1 m c]
  unfold iblk
  rw [View.read_apply]
  refine congrArg (V m c main_arg1) ?_
  funext a; apply Fin.ext
  match a with
  | ⟨0, _⟩ => show win0_1.index t (0 : Fin 2) * 2048 + 1 * r = _; rw [e0, Nat.one_mul]
  | ⟨1, _⟩ => show win0_1.index t (1 : Fin 2) * 1024 + 1 * j = j; rw [e1]; omega

/-- What the array ends holding: the product of the two whole matrices. -/
theorem value (i : S6400x1024.Idx) : (G2 m c i : EReal) = ∑ r ∈ range 8192, A m c r (i 0).val * B m c r (i 1).val := by
  have h0 : (i 0).val < 6400 := (i 0).isLt
  have h1 : (i 1).val < 1024 := (i 1).isLt
  have hrun : run2Of i = (i 0).val / 1280 := by
    show 1 * ((i 0).val / 1280 - 0) + 1 * ((i 1).val / 1024 - 0) = _
    omega
  have hb : 4 * run2Of i + 3 < cfg0.N := by rw [hrun, show cfg0.N = 20 from N_0]; omega
  unfold G2
  rw [dif_pos hb]
  refine (run_tn (P := cfg0.N) (C := 1280) _ (fun n h => iblk m c 0 ⟨n, h⟩) (fun n h => iblk m c 1 ⟨n, h⟩) (A m c) (B m c)
    (fun n h r j hr hj => block_0 m c ⟨n, h⟩ r j hr hj) (fun n h r j hr hj => block_1 m c ⟨n, h⟩ r j hr hj)
    (reset2 m c) (step2 m c)
    (fun n h y => by
      unfold reset2 k0_pay2
      rw [shapeCast_self]
      exact congrArg (· + _) Ideal.ofBits_zero_f32)
    (fun n h acc y => by
      unfold step2 k0_pay2
      rw [shapeCast_self]
      rfl)
    (run2Of i) hb (loc2Of i)).trans (Finset.sum_congr rfl fun r _ => ?_)
  show A m c r (run2Of i * 1280 + (i 0).val % 1280) * B m c r ((i 1).val % 1024) = _
  rw [hrun, show (i 0).val / 1280 * 1280 + (i 0).val % 1280 = (i 0).val by omega, Nat.mod_eq_of_lt h1]

theorem frame_p : Cert.quiescent_WgradB := fun m ρ _ => Cert.WgradB.Gen.frame m ρ

theorem frame_pi : Cert.quiescent_WgradBIdeal := fun m ρ _ => Cert.WgradBIdeal.Gen.frame m ρ

theorem frame_ri : Cert.quiescent_WgradBRefIdeal := fun m ρ _ =>
  (θ_run Cert.WgradBRefIdeal.defs _ _).mono (fun r h => ⟨fun c => (h c).2, Idealize.ShloMosaic.sem_eq_zero_of_no_sems (by decide) r.2⟩)
    (Cert.WgradBRefIdeal.Value.run (F := Ideal) m ρ)

theorem preserves : Cert.preserves_WgradB_WgradBIdeal := trivial

theorem algebraic : Cert.algebraic_WgradBIdeal_WgradBRefIdeal := by
  intro m ρ m' ρ' _ hagree
  refine ⟨_, Cert.WgradBIdeal.Value.run (F := Ideal) m ρ, ?_⟩
  refine (θ_run Cert.WgradBRefIdeal.defs _ _).mono (fun _ h c => ⟨(h c).1.trans ?_, (h c).2⟩) (Cert.WgradBRefIdeal.Value.run (F := Ideal) m' ρ')
  rw [(hagree c).1, (hagree c).2]
  funext i
  rw [value m c i]
  refine (transpose_apply _ _ _ _ (ValueIdx.ix2 (i 1) (i 0)) (fun b => match b with | ⟨0, _⟩ => rfl | ⟨1, _⟩ => rfl)).trans ?_
  refine (transpose_apply _ _ _ _ (ValueIdx.ix2 (i 0) (i 1)) (fun b => match b with | ⟨0, _⟩ => rfl | ⟨1, _⟩ => rfl)).trans ?_
  exact dot_tn _ _ _ _ _

end Cert.Proof.WgradB

end
-- ==== Proof.WgradA.lean ====
/-
  The gradient of branch A's input projection: blocks of rows of the two matrices multiplied and added up over the four steps of a run
  are the whole product, which is the reference's.
-/
module

public import proofs.«01_k».proof.Defs
public import proofs.«01_k».proof.Proof.Products
public import proofs.«01_k».proof.Proof.Gen.WgradA.Frame
public import proofs.«01_k».proof.Proof.Gen.WgradAIdeal.Value
public import proofs.«01_k».proof.Proof.Gen.WgradARefIdeal.Run
public import Idealize.ShloMosaic.Lib.Quiescent
public import Idealize.ShloMosaic.Lib.Pointwise.ShapeOpsCore

@[expose] public section

noncomputable section

open Idealize.ShloMosaic Idealize.ShloMosaic.ValueIdx Idealize.ShloMosaic.TcCoe Idealize.SL.Sem
open Finset (range)

namespace Cert.Proof.WgradA

open Cert.WgradAIdeal Cert.WgradAIdeal.Gen Cert.WgradAIdeal.Value Cert.Proof.Products

variable (m : (ℓ : Loc nD τ sig) → Buf (Elt Ideal) ℓ) (c : Dev nD)

/-- The gradient coming back, as a table. -/
def A : ℕ → ℕ → EReal := tab (M := 8192) (N := 3072) (m ((c : Thread nD τ).loc main_arg0))

/-- The product's other operand, as a table. -/
def B : ℕ → ℕ → EReal := tab (M := 8192) (N := 1024) (m ((c : Thread nD τ).loc main_arg1))

theorem place : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

theorem block_0 (t : Fin cfg0.N) (r j : ℕ) (hr : r < 2048) (hj : j < 1024) :
    tab (M := 2048) (N := 1024) (iblk m c 0 t) r j = A m c (t.val % 4 * 2048 + r) (t.val / 4 * 1024 + j) := by
  have ht : t.val < 12 := lt_of_lt_of_eq t.isLt N_0
  obtain ⟨e0, e1, -, -⟩ := place t
  rw [tab_of_lt _ hr hj, A, tab_of_lt _ (show t.val % 4 * 2048 + r < 8192 by omega) (show t.val / 4 * 1024 + j < 3072 by omega), ← V_main_arg0 m c]
  unfold iblk
  rw [View.read_apply]
  refine congrArg (V m c main_arg0) ?_
  funext a; apply Fin.ext
  match a with
  | ⟨0, _⟩ => show win0_0.index t (0 : Fin 2) * 2048 + 1 * r = _; rw [e0, Nat.one_mul]
  | ⟨1, _⟩ => show win0_0.index t (1 : Fin 2) * 1024 + 1 * j = _; rw [e1, Nat.one_mul]

theorem block_1 (t : Fin cfg0.N) (r j : ℕ) (hr : r < 2048) (hj : j < 1024) :
    tab (M := 2048) (N := 1024) (iblk m c 1 t) r j = B m c (t.val % 4 * 2048 + r) j := by
  obtain ⟨-, -, e0, e1⟩ := place t
  rw [tab_of_lt _ hr hj, B, tab_of_lt _ (show t.val % 4 * 2048 + r < 8192 by omega) hj, ← V_main_arg1 m c]
  unfold iblk
  rw [View.read_apply]
  refine congrArg (V m c main_arg1) ?_
  funext a; apply Fin.ext
  match a with
  | ⟨0, _⟩ => show win0_1.index t (0 : Fin 2) * 2048 + 1 * r = _; rw [e0, Nat.one_mul]
  | ⟨1, _⟩ => show win0_1.index t (1 : Fin 2) * 1024 + 1 * j = j; rw [e1]; omega

/-- What the array ends holding: the product of the two whole matrices. -/
theorem value (i : S3072x1024.Idx) : (G2 m c i : EReal) = ∑ r ∈ range 8192, A m c r (i 0).val * B m c r (i 1).val := by
  have h0 : (i 0).val < 3072 := (i 0).isLt
  have h1 : (i 1).val < 1024 := (i 1).isLt
  have hrun : run2Of i = (i 0).val / 1024 := by
    show 1 * ((i 0).val / 1024 - 0) + 1 * ((i 1).val / 1024 - 0) = _
    omega
  have hb : 4 * run2Of i + 3 < cfg0.N := by rw [hrun, show cfg0.N = 12 from N_0]; omega
  unfold G2
  rw [dif_pos hb]
  refine (run_tn (P := cfg0.N) (C := 1024) _ (fun n h => iblk m c 0 ⟨n, h⟩) (fun n h => iblk m c 1 ⟨n, h⟩) (A m c) (B m c)
    (fun n h r j hr hj => block_0 m c ⟨n, h⟩ r j hr hj) (fun n h r j hr hj => block_1 m c ⟨n, h⟩ r j hr hj)
    (reset2 m c) (step2 m c)
    (fun n h y => by
      unfold reset2 k0_pay2
      rw [shapeCast_self]
      exact congrArg (· + _) Ideal.ofBits_zero_f32)
    (fun n h acc y => by
      unfold step2 k0_pay2
      rw [shapeCast_self]
      rfl)
    (run2Of i) hb (loc2Of i)).trans (Finset.sum_congr rfl fun r _ => ?_)
  show A m c r (run2Of i * 1024 + (i 0).val % 1024) * B m c r ((i 1).val % 1024) = _
  rw [hrun, show (i 0).val / 1024 * 1024 + (i 0).val % 1024 = (i 0).val by omega, Nat.mod_eq_of_lt h1]

theorem frame_p : Cert.quiescent_WgradA := fun m ρ _ => Cert.WgradA.Gen.frame m ρ

theorem frame_pi : Cert.quiescent_WgradAIdeal := fun m ρ _ => Cert.WgradAIdeal.Gen.frame m ρ

theorem frame_ri : Cert.quiescent_WgradARefIdeal := fun m ρ _ =>
  (θ_run Cert.WgradARefIdeal.defs _ _).mono (fun r h => ⟨fun c => (h c).2, Idealize.ShloMosaic.sem_eq_zero_of_no_sems (by decide) r.2⟩)
    (Cert.WgradARefIdeal.Value.run (F := Ideal) m ρ)

theorem preserves : Cert.preserves_WgradA_WgradAIdeal := trivial

theorem algebraic : Cert.algebraic_WgradAIdeal_WgradARefIdeal := by
  intro m ρ m' ρ' _ hagree
  refine ⟨_, Cert.WgradAIdeal.Value.run (F := Ideal) m ρ, ?_⟩
  refine (θ_run Cert.WgradARefIdeal.defs _ _).mono (fun _ h c => ⟨(h c).1.trans ?_, (h c).2⟩) (Cert.WgradARefIdeal.Value.run (F := Ideal) m' ρ')
  rw [(hagree c).1, (hagree c).2]
  funext i
  rw [value m c i]
  refine (transpose_apply _ _ _ _ (ValueIdx.ix2 (i 1) (i 0)) (fun b => match b with | ⟨0, _⟩ => rfl | ⟨1, _⟩ => rfl)).trans ?_
  refine (transpose_apply _ _ _ _ (ValueIdx.ix2 (i 0) (i 1)) (fun b => match b with | ⟨0, _⟩ => rfl | ⟨1, _⟩ => rfl)).trans ?_
  exact dot_tn _ _ _ _ _

end Cert.Proof.WgradA

end
-- ==== Proof.WgradG.lean ====
/-
  The gradient of the gates' input projection and of branch B's output weights: blocks of rows of the two matrices multiplied and added up over the four steps of a run
  are the whole product, which is the reference's.
-/
module

public import proofs.«01_k».proof.Defs
public import proofs.«01_k».proof.Proof.Products
public import proofs.«01_k».proof.Proof.Gen.WgradG.Frame
public import proofs.«01_k».proof.Proof.Gen.WgradGIdeal.Value
public import proofs.«01_k».proof.Proof.Gen.WgradGRefIdeal.Run
public import Idealize.ShloMosaic.Lib.Quiescent
public import Idealize.ShloMosaic.Lib.Pointwise.ShapeOpsCore

@[expose] public section

noncomputable section

open Idealize.ShloMosaic Idealize.ShloMosaic.ValueIdx Idealize.ShloMosaic.TcCoe Idealize.SL.Sem
open Finset (range)

namespace Cert.Proof.WgradG

open Cert.WgradGIdeal Cert.WgradGIdeal.Gen Cert.WgradGIdeal.Value Cert.Proof.Products

variable (m : (ℓ : Loc nD τ sig) → Buf (Elt Ideal) ℓ) (c : Dev nD)

/-- The gradient coming back, as a table. -/
def A : ℕ → ℕ → EReal := tab (M := 8192) (N := 2048) (m ((c : Thread nD τ).loc main_arg0))

/-- The product's other operand, as a table. -/
def B : ℕ → ℕ → EReal := tab (M := 8192) (N := 1024) (m ((c : Thread nD τ).loc main_arg1))

theorem place : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

theorem block_0 (t : Fin cfg0.N) (r j : ℕ) (hr : r < 2048) (hj : j < 1024) :
    tab (M := 2048) (N := 1024) (iblk m c 0 t) r j = A m c (t.val % 4 * 2048 + r) (t.val / 4 * 1024 + j) := by
  have ht : t.val < 8 := lt_of_lt_of_eq t.isLt N_0
  obtain ⟨e0, e1, -, -⟩ := place t
  rw [tab_of_lt _ hr hj, A, tab_of_lt _ (show t.val % 4 * 2048 + r < 8192 by omega) (show t.val / 4 * 1024 + j < 2048 by omega), ← V_main_arg0 m c]
  unfold iblk
  rw [View.read_apply]
  refine congrArg (V m c main_arg0) ?_
  funext a; apply Fin.ext
  match a with
  | ⟨0, _⟩ => show win0_0.index t (0 : Fin 2) * 2048 + 1 * r = _; rw [e0, Nat.one_mul]
  | ⟨1, _⟩ => show win0_0.index t (1 : Fin 2) * 1024 + 1 * j = _; rw [e1, Nat.one_mul]

theorem block_1 (t : Fin cfg0.N) (r j : ℕ) (hr : r < 2048) (hj : j < 1024) :
    tab (M := 2048) (N := 1024) (iblk m c 1 t) r j = B m c (t.val % 4 * 2048 + r) j := by
  obtain ⟨-, -, e0, e1⟩ := place t
  rw [tab_of_lt _ hr hj, B, tab_of_lt _ (show t.val % 4 * 2048 + r < 8192 by omega) hj, ← V_main_arg1 m c]
  unfold iblk
  rw [View.read_apply]
  refine congrArg (V m c main_arg1) ?_
  funext a; apply Fin.ext
  match a with
  | ⟨0, _⟩ => show win0_1.index t (0 : Fin 2) * 2048 + 1 * r = _; rw [e0, Nat.one_mul]
  | ⟨1, _⟩ => show win0_1.index t (1 : Fin 2) * 1024 + 1 * j = j; rw [e1]; omega

/-- What the array ends holding: the product of the two whole matrices. -/
theorem value (i : S2048x1024.Idx) : (G2 m c i : EReal) = ∑ r ∈ range 8192, A m c r (i 0).val * B m c r (i 1).val := by
  have h0 : (i 0).val < 2048 := (i 0).isLt
  have h1 : (i 1).val < 1024 := (i 1).isLt
  have hrun : run2Of i = (i 0).val / 1024 := by
    show 1 * ((i 0).val / 1024 - 0) + 1 * ((i 1).val / 1024 - 0) = _
    omega
  have hb : 4 * run2Of i + 3 < cfg0.N := by rw [hrun, show cfg0.N = 8 from N_0]; omega
  unfold G2
  rw [dif_pos hb]
  refine (run_tn (P := cfg0.N) (C := 1024) _ (fun n h => iblk m c 0 ⟨n, h⟩) (fun n h => iblk m c 1 ⟨n, h⟩) (A m c) (B m c)
    (fun n h r j hr hj => block_0 m c ⟨n, h⟩ r j hr hj) (fun n h r j hr hj => block_1 m c ⟨n, h⟩ r j hr hj)
    (reset2 m c) (step2 m c)
    (fun n h y => by
      unfold reset2 k0_pay2
      rw [shapeCast_self]
      exact congrArg (· + _) Ideal.ofBits_zero_f32)
    (fun n h acc y => by
      unfold step2 k0_pay2
      rw [shapeCast_self]
      rfl)
    (run2Of i) hb (loc2Of i)).trans (Finset.sum_congr rfl fun r _ => ?_)
  show A m c r (run2Of i * 1024 + (i 0).val % 1024) * B m c r ((i 1).val % 1024) = _
  rw [hrun, show (i 0).val / 1024 * 1024 + (i 0).val % 1024 = (i 0).val by omega, Nat.mod_eq_of_lt h1]

theorem frame_p : Cert.quiescent_WgradG := fun m ρ _ => Cert.WgradG.Gen.frame m ρ

theorem frame_pi : Cert.quiescent_WgradGIdeal := fun m ρ _ => Cert.WgradGIdeal.Gen.frame m ρ

theorem frame_ri : Cert.quiescent_WgradGRefIdeal := fun m ρ _ =>
  (θ_run Cert.WgradGRefIdeal.defs _ _).mono (fun r h => ⟨fun c => (h c).2, Idealize.ShloMosaic.sem_eq_zero_of_no_sems (by decide) r.2⟩)
    (Cert.WgradGRefIdeal.Value.run (F := Ideal) m ρ)

theorem preserves : Cert.preserves_WgradG_WgradGIdeal := trivial

theorem algebraic : Cert.algebraic_WgradGIdeal_WgradGRefIdeal := by
  intro m ρ m' ρ' _ hagree
  refine ⟨_, Cert.WgradGIdeal.Value.run (F := Ideal) m ρ, ?_⟩
  refine (θ_run Cert.WgradGRefIdeal.defs _ _).mono (fun _ h c => ⟨(h c).1.trans ?_, (h c).2⟩) (Cert.WgradGRefIdeal.Value.run (F := Ideal) m' ρ')
  rw [(hagree c).1, (hagree c).2]
  funext i
  rw [value m c i]
  refine (transpose_apply _ _ _ _ (ValueIdx.ix2 (i 1) (i 0)) (fun b => match b with | ⟨0, _⟩ => rfl | ⟨1, _⟩ => rfl)).trans ?_
  refine (transpose_apply _ _ _ _ (ValueIdx.ix2 (i 0) (i 1)) (fun b => match b with | ⟨0, _⟩ => rfl | ⟨1, _⟩ => rfl)).trans ?_
  exact dot_tn _ _ _ _ _

end Cert.Proof.WgradG

end
-- ==== Proof.WgradO.lean ====
/-
  The gradient of the output weights and of branch A's output weights: blocks of rows of the two matrices multiplied and added up over the four steps of a run
  are the whole product, which is the reference's.
-/
module

public import proofs.«01_k».proof.Defs
public import proofs.«01_k».proof.Proof.Products
public import proofs.«01_k».proof.Proof.Gen.WgradO.Frame
public import proofs.«01_k».proof.Proof.Gen.WgradOIdeal.Value
public import proofs.«01_k».proof.Proof.Gen.WgradORefIdeal.Run
public import Idealize.ShloMosaic.Lib.Quiescent
public import Idealize.ShloMosaic.Lib.Pointwise.ShapeOpsCore

@[expose] public section

noncomputable section

open Idealize.ShloMosaic Idealize.ShloMosaic.ValueIdx Idealize.ShloMosaic.TcCoe Idealize.SL.Sem
open Finset (range)

namespace Cert.Proof.WgradO

open Cert.WgradOIdeal Cert.WgradOIdeal.Gen Cert.WgradOIdeal.Value Cert.Proof.Products

variable (m : (ℓ : Loc nD τ sig) → Buf (Elt Ideal) ℓ) (c : Dev nD)

/-- The gradient coming back, as a table. -/
def A : ℕ → ℕ → EReal := tab (M := 8192) (N := 1024) (m ((c : Thread nD τ).loc main_arg0))

/-- The product's other operand, as a table. -/
def B : ℕ → ℕ → EReal := tab (M := 8192) (N := 1024) (m ((c : Thread nD τ).loc main_arg1))

theorem place : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

theorem block_0 (t : Fin cfg0.N) (r j : ℕ) (hr : r < 2048) (hj : j < 1024) :
    tab (M := 2048) (N := 1024) (iblk m c 0 t) r j = A m c (t.val % 4 * 2048 + r) (t.val / 4 * 1024 + j) := by
  have ht : t.val < 4 := lt_of_lt_of_eq t.isLt N_0
  obtain ⟨e0, e1, -, -⟩ := place t
  rw [tab_of_lt _ hr hj, A, tab_of_lt _ (show t.val % 4 * 2048 + r < 8192 by omega) (show t.val / 4 * 1024 + j < 1024 by omega), ← V_main_arg0 m c]
  unfold iblk
  rw [View.read_apply]
  refine congrArg (V m c main_arg0) ?_
  funext a; apply Fin.ext
  match a with
  | ⟨0, _⟩ => show win0_0.index t (0 : Fin 2) * 2048 + 1 * r = _; rw [e0, Nat.one_mul]
  | ⟨1, _⟩ => show win0_0.index t (1 : Fin 2) * 1024 + 1 * j = _; rw [e1, Nat.one_mul]

theorem block_1 (t : Fin cfg0.N) (r j : ℕ) (hr : r < 2048) (hj : j < 1024) :
    tab (M := 2048) (N := 1024) (iblk m c 1 t) r j = B m c (t.val % 4 * 2048 + r) j := by
  obtain ⟨-, -, e0, e1⟩ := place t
  rw [tab_of_lt _ hr hj, B, tab_of_lt _ (show t.val % 4 * 2048 + r < 8192 by omega) hj, ← V_main_arg1 m c]
  unfold iblk
  rw [View.read_apply]
  refine congrArg (V m c main_arg1) ?_
  funext a; apply Fin.ext
  match a with
  | ⟨0, _⟩ => show win0_1.index t (0 : Fin 2) * 2048 + 1 * r = _; rw [e0, Nat.one_mul]
  | ⟨1, _⟩ => show win0_1.index t (1 : Fin 2) * 1024 + 1 * j = j; rw [e1]; omega

/-- What the array ends holding: the product of the two whole matrices. -/
theorem value (i : S1024x1024.Idx) : (G2 m c i : EReal) = ∑ r ∈ range 8192, A m c r (i 0).val * B m c r (i 1).val := by
  have h0 : (i 0).val < 1024 := (i 0).isLt
  have h1 : (i 1).val < 1024 := (i 1).isLt
  have hrun : run2Of i = (i 0).val / 1024 := by
    show 1 * ((i 0).val / 1024 - 0) + 1 * ((i 1).val / 1024 - 0) = _
    omega
  have hb : 4 * run2Of i + 3 < cfg0.N := by rw [hrun, show cfg0.N = 4 from N_0]; omega
  unfold G2
  rw [dif_pos hb]
  refine (run_tn (P := cfg0.N) (C := 1024) _ (fun n h => iblk m c 0 ⟨n, h⟩) (fun n h => iblk m c 1 ⟨n, h⟩) (A m c) (B m c)
    (fun n h r j hr hj => block_0 m c ⟨n, h⟩ r j hr hj) (fun n h r j hr hj => block_1 m c ⟨n, h⟩ r j hr hj)
    (reset2 m c) (step2 m c)
    (fun n h y => by
      unfold reset2 k0_pay2
      rw [shapeCast_self]
      exact congrArg (· + _) Ideal.ofBits_zero_f32)
    (fun n h acc y => by
      unfold step2 k0_pay2
      rw [shapeCast_self]
      rfl)
    (run2Of i) hb (loc2Of i)).trans (Finset.sum_congr rfl fun r _ => ?_)
  show A m c r (run2Of i * 1024 + (i 0).val % 1024) * B m c r ((i 1).val % 1024) = _
  rw [hrun, show (i 0).val / 1024 * 1024 + (i 0).val % 1024 = (i 0).val by omega, Nat.mod_eq_of_lt h1]

theorem frame_p : Cert.quiescent_WgradO := fun m ρ _ => Cert.WgradO.Gen.frame m ρ

theorem frame_pi : Cert.quiescent_WgradOIdeal := fun m ρ _ => Cert.WgradOIdeal.Gen.frame m ρ

theorem frame_ri : Cert.quiescent_WgradORefIdeal := fun m ρ _ =>
  (θ_run Cert.WgradORefIdeal.defs _ _).mono (fun r h => ⟨fun c => (h c).2, Idealize.ShloMosaic.sem_eq_zero_of_no_sems (by decide) r.2⟩)
    (Cert.WgradORefIdeal.Value.run (F := Ideal) m ρ)

theorem preserves : Cert.preserves_WgradO_WgradOIdeal := trivial

theorem algebraic : Cert.algebraic_WgradOIdeal_WgradORefIdeal := by
  intro m ρ m' ρ' _ hagree
  refine ⟨_, Cert.WgradOIdeal.Value.run (F := Ideal) m ρ, ?_⟩
  refine (θ_run Cert.WgradORefIdeal.defs _ _).mono (fun _ h c => ⟨(h c).1.trans ?_, (h c).2⟩) (Cert.WgradORefIdeal.Value.run (F := Ideal) m' ρ')
  rw [(hagree c).1, (hagree c).2]
  funext i
  rw [value m c i]
  refine (transpose_apply _ _ _ _ (ValueIdx.ix2 (i 1) (i 0)) (fun b => match b with | ⟨0, _⟩ => rfl | ⟨1, _⟩ => rfl)).trans ?_
  refine (transpose_apply _ _ _ _ (ValueIdx.ix2 (i 0) (i 1)) (fun b => match b with | ⟨0, _⟩ => rfl | ⟨1, _⟩ => rfl)).trans ?_
  exact dot_tn _ _ _ _ _

end Cert.Proof.WgradO

end
-- ==== Proof.HgradB.lean ====
/-
  The gradient of the layer's input through branch B's projection: blocks of columns of the two
  matrices multiplied and added up over the steps of a run are the whole product, which is the reference's.
-/
module

public import proofs.«01_k».proof.Defs
public import proofs.«01_k».proof.Proof.Products
public import proofs.«01_k».proof.Proof.Gen.HgradB.Frame
public import proofs.«01_k».proof.Proof.Gen.HgradBIdeal.Value
public import proofs.«01_k».proof.Proof.Gen.HgradBRefIdeal.Run
public import Idealize.ShloMosaic.Lib.Quiescent
public import Idealize.ShloMosaic.Lib.Pointwise.ShapeOpsCore

@[expose] public section

noncomputable section

open Idealize.ShloMosaic Idealize.ShloMosaic.ValueIdx Idealize.ShloMosaic.TcCoe Idealize.SL.Sem
open Finset (range)

namespace Cert.Proof.HgradB

open Cert.HgradBIdeal Cert.HgradBIdeal.Gen Cert.HgradBIdeal.Value Cert.Proof.Products

variable (m : (ℓ : Loc nD τ sig) → Buf (Elt Ideal) ℓ) (c : Dev nD)

/-- The gradient coming back, as a table. -/
def A : ℕ → ℕ → EReal := tab (M := 8192) (N := 6400) (m ((c : Thread nD τ).loc main_arg0))

/-- The projection's weights, as a table. -/
def B : ℕ → ℕ → EReal := tab (M := 1024) (N := 6400) (m ((c : Thread nD τ).loc main_arg1))

theorem place : ∀ t : Fin cfg0.N, win0_0.index t (0 : Fin 2) = t.val / 5 ∧ win0_0.index t (1 : Fin 2) = t.val % 5
    ∧ win0_1.index t (0 : Fin 2) = 0 ∧ win0_1.index t (1 : Fin 2) = t.val % 5 :=
  (by decide +kernel : ∀ t : Fin grid0.N, _)

theorem block_0 (t : Fin cfg0.N) (j r : ℕ) (hj : j < 1024) (hr : r < 1280) :
    tab (M := 1024) (N := 1280) (iblk m c 0 t) j r = A m c (t.val / 5 * 1024 + j) (t.val % 5 * 1280 + r) := by
  have ht : t.val < 40 := lt_of_lt_of_eq t.isLt N_0
  obtain ⟨e0, e1, -, -⟩ := place t
  rw [tab_of_lt _ hj hr, A, tab_of_lt _ (show t.val / 5 * 1024 + j < 8192 by omega) (show t.val % 5 * 1280 + r < 6400 by omega), ← V_main_arg0 m c]
  unfold iblk
  rw [View.read_apply]
  refine congrArg (V m c main_arg0) ?_
  funext a; apply Fin.ext
  match a with
  | ⟨0, _⟩ => show win0_0.index t (0 : Fin 2) * 1024 + 1 * j = _; rw [e0, Nat.one_mul]
  | ⟨1, _⟩ => show win0_0.index t (1 : Fin 2) * 1280 + 1 * r = _; rw [e1, Nat.one_mul]

theorem block_1 (t : Fin cfg0.N) (j r : ℕ) (hj : j < 1024) (hr : r < 1280) :
    tab (M := 1024) (N := 1280) (iblk m c 1 t) j r = B m c j (t.val % 5 * 1280 + r) := by
  obtain ⟨-, -, e0, e1⟩ := place t
  rw [tab_of_lt _ hj hr, B, tab_of_lt _ hj (show t.val % 5 * 1280 + r < 6400 by omega), ← V_main_arg1 m c]
  unfold iblk
  rw [View.read_apply]
  refine congrArg (V m c main_arg1) ?_
  funext a; apply Fin.ext
  match a with
  | ⟨0, _⟩ => show win0_1.index t (0 : Fin 2) * 1024 + 1 * j = j; rw [e0]; omega
  | ⟨1, _⟩ => show win0_1.index t (1 : Fin 2) * 1280 + 1 * r = _; rw [e1, Nat.one_mul]

theorem hz : (![0, 0] : Fin 2 → Nat) = fun _ => 0 := funext fun a => by fin_cases a <;> rfl

/-- What a run's first point leaves in the accumulator. -/
def start (n : ℕ) (h : n < cfg0.N) : Vec Ideal S1024x1024 .f32 := k0_pay2 (k0_pay1 (F := Ideal)) (iblk m c 0 ⟨n, h⟩) (iblk m c 1 ⟨n, h⟩)

/-- What each later point leaves in it. -/
def next (n : ℕ) (h : n < cfg0.N) (acc : Vec Ideal S1024x1024 .f32) : Vec Ideal S1024x1024 .f32 :=
  k0_pay2 acc (iblk m c 0 ⟨n, h⟩) (iblk m c 1 ⟨n, h⟩)

theorem scratch_first (t : Fin cfg0.N) (h0 : t.val % 5 = 0) : (outsAt0 m c t.val t.isLt).2 = start m c t.val t.isLt := by
  have h1 : ¬t.val % 5 = 4 := by omega
  rw [outsAt0_A (F := Ideal) m c t h0 h1]
  dsimp only
  unfold sout0_A_0 start
  rw [View.read_writes_eq_canon _ _ _ (fun _ => scover0_A_0 (F := Ideal) ..)]
  unfold kernelRun0_A
  dsimp only
  try sl_unfold_words
  rw [View.canon_cons_unit_zero (S := S1024x1024) hz, View.readCov_unit_zero (S := S1024x1024) _ hz]
  skip
  simp only [View.readAt_eq_ld, (hs0_0 t).read_unread, (hs0_1 t).read_unread, (Memref.isWhole_whole _).read_unread, View.ld_unit_zero (S := S1024x1024) hz, View.ld_unit_zero (S := S1024x1280) hz, shapeCast_self]

theorem scratch_middle (t : Fin cfg0.N) (h0 : ¬t.val % 5 = 0) (h1 : ¬t.val % 5 = 4) :
    (outsAt0 m c t.val t.isLt).2 = next m c t.val t.isLt (outsAt0 m c (t.val - 1) (Nat.lt_of_le_of_lt (Nat.sub_le _ _) t.isLt)).2 := by
  rw [outsAt0_B (F := Ideal) m c t h0 h1]
  dsimp only
  unfold sout0_B_0 next
  rw [View.read_writes_eq_canon _ _ _ (fun _ => scover0_B_0 (F := Ideal) ..)]
  unfold kernelRun0_B
  dsimp only
  try sl_unfold_words
  rw [View.canon_unit_zero hz]
  simp only [View.readAt_eq_ld, (hs0_0 t).read_unread, (hs0_1 t).read_unread, (Memref.isWhole_whole _).read_unread, View.ld_unit_zero (S := S1024x1024) hz, View.ld_unit_zero (S := S1024x1280) hz, shapeCast_self]

theorem scratch_last (t : Fin cfg0.N) (h1 : t.val % 5 = 4) :
    (outsAt0 m c t.val t.isLt).2 = next m c t.val t.isLt (outsAt0 m c (t.val - 1) (Nat.lt_of_le_of_lt (Nat.sub_le _ _) t.isLt)).2 := by
  have h0 : ¬t.val % 5 = 0 := by omega
  rw [outsAt0_C (F := Ideal) m c t h0 h1]
  dsimp only
  unfold sout0_C_0 next
  rw [View.read_writes_eq_canon _ _ _ (fun _ => scover0_C_0 (F := Ideal) ..)]
  unfold kernelRun0_C
  dsimp only
  try sl_unfold_words
  rw [View.canon_unit_zero hz]
  simp only [View.readAt_eq_ld, (hs0_0 t).read_unread, (hs0_1 t).read_unread, (Memref.isWhole_whole _).read_unread, View.ld_unit_zero (S := S1024x1024) hz, View.ld_unit_zero (S := S1024x1280) hz, shapeCast_self]

/-- A run's last point stores the accumulator. -/
theorem stored (t : Fin cfg0.N) (h1 : t.val % 5 = 4) : (outsAt0 m c t.val t.isLt).1 = (outsAt0 m c t.val t.isLt).2 := by
  rw [scratch_last m c t h1]
  have h0 : ¬t.val % 5 = 0 := by omega
  rw [outsAt0_C (F := Ideal) m c t h0 h1]
  dsimp only
  unfold out0_C_2 next
  rw [View.read_writes_eq_canon _ _ _ (fun _ => cover0_C_2 (F := Ideal) ..)]
  unfold kernelRun0_C
  dsimp only
  try sl_unfold_words
  rw [View.canon_unit_zero hz, View.readCov_unit_zero (S := S1024x1024) _ hz]
  simp only [View.readAt_eq_ld, (hs0_0 t).read_unread, (hs0_1 t).read_unread, (Memref.isWhole_whole _).read_unread, View.ld_unit_zero (S := S1024x1024) hz, View.ld_unit_zero (S := S1024x1280) hz, shapeCast_self]

theorem scratch (t : Fin cfg0.N) : (outsAt0 m c t.val t.isLt).2 = Pipeline.accAt (start m c) (next m c) (5 * (t.val / 5)) (t.val % 5)
    (by have h1 := t.isLt; have h2 := Nat.div_add_mod t.val 5; omega) :=
  Pipeline.eq_accAt_of_mod (fun n h => (outsAt0 m c n h).2) 5 (start m c) (next m c)
    (fun n h hn => scratch_first m c ⟨n, h⟩ hn)
    (fun n h hn => by
      rcases eq_or_ne ((n + 1) % 5) 4 with h1 | h1
      · exact scratch_last m c ⟨n + 1, h⟩ h1
      · exact scratch_middle m c ⟨n + 1, h⟩ hn h1)
    (by decide) t.val t.isLt _

/-- What the array ends holding: the product of the two whole matrices. -/
theorem value (i : S8192x1024.Idx) : (G2 m c i : EReal) = ∑ r ∈ range 6400, A m c (i 0).val r * B m c (i 1).val r := by
  have h0 : (i 0).val < 8192 := (i 0).isLt
  have h1 : (i 1).val < 1024 := (i 1).isLt
  have hrun : run2Of i = (i 0).val / 1024 := by
    show 1 * ((i 0).val / 1024 - 0) + 1 * ((i 1).val / 1024 - 0) = _
    omega
  have hb : 5 * run2Of i + 4 < cfg0.N := by rw [hrun, show cfg0.N = 40 from N_0]; omega
  have e : ∀ (b j : ℕ) (h : b + j < cfg0.N), b = 5 * run2Of i → j = 4 →
      Pipeline.accAt (start m c) (next m c) b j h = Pipeline.accAt (start m c) (next m c) (5 * run2Of i) 4 hb := by
    intro b j h hb hj; subst hb; subst hj; rfl
  unfold G2
  rw [dif_pos hb, ← outsAt0_sweep m c _ hb, stored m c ⟨_, hb⟩ (by show (5 * run2Of i + 4) % 5 = 4; omega), scratch m c ⟨_, hb⟩,
    e _ _ _ (by show 5 * ((5 * run2Of i + 4) / 5) = _; omega) (by show (5 * run2Of i + 4) % 5 = 4; omega)]
  refine (run_nt (P := cfg0.N) (E := 4) (T := 1280) _ (fun n h => iblk m c 0 ⟨n, h⟩) (fun n h => iblk m c 1 ⟨n, h⟩) (A m c) (B m c)
    (fun n h j r hj hr => block_0 m c ⟨n, h⟩ j r hj hr) (fun n h j r hj hr => block_1 m c ⟨n, h⟩ j r hj hr)
    (start m c) (next m c) (fun _ => 0) (run2Of i) hb
    (fun h y => by
      unfold start k0_pay2 k0_pay1
      simp only [shapeCast_self]
      exact congrArg (fun z : EReal => z + _) Ideal.ofBits_zero_f32)
    (fun n h acc y => by
      unfold next k0_pay2
      rw [shapeCast_self]
      rfl)
    (loc2Of i)).trans ?_
  show (0 : EReal) + ∑ r ∈ range 6400, A m c (run2Of i * 1024 + (i 0).val % 1024) r * B m c ((i 1).val % 1024) r = _
  rw [hrun, show (i 0).val / 1024 * 1024 + (i 0).val % 1024 = (i 0).val by omega, Nat.mod_eq_of_lt h1, zero_add]

theorem frame_p : Cert.quiescent_HgradB := fun m ρ _ => Cert.HgradB.Gen.frame m ρ

theorem frame_pi : Cert.quiescent_HgradBIdeal := fun m ρ _ => Cert.HgradBIdeal.Gen.frame m ρ

theorem frame_ri : Cert.quiescent_HgradBRefIdeal := fun m ρ _ =>
  (θ_run Cert.HgradBRefIdeal.defs _ _).mono (fun r h => ⟨fun c => (h c).2, Idealize.ShloMosaic.sem_eq_zero_of_no_sems (by decide) r.2⟩)
    (Cert.HgradBRefIdeal.Value.run (F := Ideal) m ρ)

theorem preserves : Cert.preserves_HgradB_HgradBIdeal := trivial

theorem algebraic : Cert.algebraic_HgradBIdeal_HgradBRefIdeal := by
  intro m ρ m' ρ' _ hagree
  refine ⟨_, Cert.HgradBIdeal.Value.run (F := Ideal) m ρ, ?_⟩
  refine (θ_run Cert.HgradBRefIdeal.defs _ _).mono (fun _ h c => ⟨(h c).1.trans ?_, (h c).2⟩) (Cert.HgradBRefIdeal.Value.run (F := Ideal) m' ρ')
  rw [(hagree c).1, (hagree c).2]
  funext i
  rw [value m c i]
  exact dot_nt _ _ _ _ i

end Cert.Proof.HgradB

end
-- ==== Proof.HgradA.lean ====
/-
  The gradient of the layer's input through branch A's projection, added to the gradient so far: blocks of columns of the two
  matrices multiplied and added up over the steps of a run are the whole product, which is the reference's.
-/
module

public import proofs.«01_k».proof.Defs
public import proofs.«01_k».proof.Proof.Products
public import proofs.«01_k».proof.Proof.Gen.HgradA.Frame
public import proofs.«01_k».proof.Proof.Gen.HgradAIdeal.Value
public import proofs.«01_k».proof.Proof.Gen.HgradARefIdeal.Run
public import Idealize.ShloMosaic.Lib.Quiescent
public import Idealize.ShloMosaic.Lib.Pointwise.ShapeOpsCore

@[expose] public section

noncomputable section

open Idealize.ShloMosaic Idealize.ShloMosaic.ValueIdx Idealize.ShloMosaic.TcCoe Idealize.SL.Sem
open Finset (range)

namespace Cert.Proof.HgradA

open Cert.HgradAIdeal Cert.HgradAIdeal.Gen Cert.HgradAIdeal.Value Cert.Proof.Products

variable (m : (ℓ : Loc nD τ sig) → Buf (Elt Ideal) ℓ) (c : Dev nD)

/-- The gradient coming back, as a table. -/
def A : ℕ → ℕ → EReal := tab (M := 8192) (N := 3072) (m ((c : Thread nD τ).loc main_arg1))

/-- The projection's weights, as a table. -/
def B : ℕ → ℕ → EReal := tab (M := 1024) (N := 3072) (m ((c : Thread nD τ).loc main_arg2))

/-- The gradient so far, as a table. -/
def C : ℕ → ℕ → EReal := tab (M := 8192) (N := 1024) (m ((c : Thread nD τ).loc main_arg0))

theorem place : ∀ t : Fin cfg0.N, win0_0.index t (0 : Fin 2) = t.val / 3 ∧ win0_0.index t (1 : Fin 2) = t.val % 3
    ∧ win0_1.index t (0 : Fin 2) = 0 ∧ win0_1.index t (1 : Fin 2) = t.val % 3
    ∧ win0_2.index t (0 : Fin 2) = t.val / 3 ∧ win0_2.index t (1 : Fin 2) = 0 :=
  (by decide +kernel : ∀ t : Fin grid0.N, _)

theorem block_0 (t : Fin cfg0.N) (j r : ℕ) (hj : j < 1024) (hr : r < 1024) :
    tab (M := 1024) (N := 1024) (iblk m c 0 t) j r = A m c (t.val / 3 * 1024 + j) (t.val % 3 * 1024 + r) := by
  have ht : t.val < 24 := lt_of_lt_of_eq t.isLt N_0
  obtain ⟨e0, e1, -, -, -, -⟩ := place t
  rw [tab_of_lt _ hj hr, A, tab_of_lt _ (show t.val / 3 * 1024 + j < 8192 by omega) (show t.val % 3 * 1024 + r < 3072 by omega), ← V_main_arg1 m c]
  unfold iblk
  rw [View.read_apply]
  refine congrArg (V m c main_arg1) ?_
  funext a; apply Fin.ext
  match a with
  | ⟨0, _⟩ => show win0_0.index t (0 : Fin 2) * 1024 + 1 * j = _; rw [e0, Nat.one_mul]
  | ⟨1, _⟩ => show win0_0.index t (1 : Fin 2) * 1024 + 1 * r = _; rw [e1, Nat.one_mul]

theorem block_1 (t : Fin cfg0.N) (j r : ℕ) (hj : j < 1024) (hr : r < 1024) :
    tab (M := 1024) (N := 1024) (iblk m c 1 t) j r = B m c j (t.val % 3 * 1024 + r) := by
  obtain ⟨-, -, e0, e1, -, -⟩ := place t
  rw [tab_of_lt _ hj hr, B, tab_of_lt _ hj (show t.val % 3 * 1024 + r < 3072 by omega), ← V_main_arg2 m c]
  unfold iblk
  rw [View.read_apply]
  refine congrArg (V m c main_arg2) ?_
  funext a; apply Fin.ext
  match a with
  | ⟨0, _⟩ => show win0_1.index t (0 : Fin 2) * 1024 + 1 * j = j; rw [e0]; omega
  | ⟨1, _⟩ => show win0_1.index t (1 : Fin 2) * 1024 + 1 * r = _; rw [e1, Nat.one_mul]

theorem block_2 (t : Fin cfg0.N) (j l : ℕ) (hj : j < 1024) (hl : l < 1024) :
    tab (M := 1024) (N := 1024) (iblk m c 2 t) j l = C m c (t.val / 3 * 1024 + j) l := by
  have ht : t.val < 24 := lt_of_lt_of_eq t.isLt N_0
  obtain ⟨-, -, -, -, e0, e1⟩ := place t
  rw [tab_of_lt _ hj hl, C, tab_of_lt _ (show t.val / 3 * 1024 + j < 8192 by omega) hl, ← V_main_arg0 m c]
  unfold iblk
  rw [View.read_apply]
  refine congrArg (V m c main_arg0) ?_
  funext a; apply Fin.ext
  match a with
  | ⟨0, _⟩ => show win0_2.index t (0 : Fin 2) * 1024 + 1 * j = _; rw [e0, Nat.one_mul]
  | ⟨1, _⟩ => show win0_2.index t (1 : Fin 2) * 1024 + 1 * l = l; rw [e1]; omega

theorem hz : (![0, 0] : Fin 2 → Nat) = fun _ => 0 := funext fun a => by fin_cases a <;> rfl

/-- What a run's first point leaves in the accumulator. -/
def start (n : ℕ) (h : n < cfg0.N) : Vec Ideal S1024x1024 .f32 := k0_pay2 (iblk m c 2 ⟨n, h⟩) (iblk m c 0 ⟨n, h⟩) (iblk m c 1 ⟨n, h⟩)

/-- What each later point leaves in it. -/
def next (n : ℕ) (h : n < cfg0.N) (acc : Vec Ideal S1024x1024 .f32) : Vec Ideal S1024x1024 .f32 :=
  k0_pay2 acc (iblk m c 0 ⟨n, h⟩) (iblk m c 1 ⟨n, h⟩)

theorem scratch_first (t : Fin cfg0.N) (h0 : t.val % 3 = 0) : (outsAt0 m c t.val t.isLt).2 = start m c t.val t.isLt := by
  have h1 : ¬t.val % 3 = 2 := by omega
  rw [outsAt0_A (F := Ideal) m c t h0 h1]
  dsimp only
  unfold sout0_A_0 start
  rw [View.read_writes_eq_canon _ _ _ (fun _ => scover0_A_0 (F := Ideal) ..)]
  unfold kernelRun0_A
  dsimp only
  try sl_unfold_words
  rw [View.canon_cons_unit_zero (S := S1024x1024) hz, View.readCov_unit_zero (S := S1024x1024) _ hz]
  unfold k0_pay1
  simp only [View.readAt_eq_ld, (hs0_0 t).read_unread, (hs0_1 t).read_unread, (hs0_2 t).read_unread, (Memref.isWhole_whole _).read_unread, View.ld_unit_zero (S := S1024x1024) hz, shapeCast_self]

theorem scratch_middle (t : Fin cfg0.N) (h0 : ¬t.val % 3 = 0) (h1 : ¬t.val % 3 = 2) :
    (outsAt0 m c t.val t.isLt).2 = next m c t.val t.isLt (outsAt0 m c (t.val - 1) (Nat.lt_of_le_of_lt (Nat.sub_le _ _) t.isLt)).2 := by
  rw [outsAt0_B (F := Ideal) m c t h0 h1]
  dsimp only
  unfold sout0_B_0 next
  rw [View.read_writes_eq_canon _ _ _ (fun _ => scover0_B_0 (F := Ideal) ..)]
  unfold kernelRun0_B
  dsimp only
  try sl_unfold_words
  rw [View.canon_unit_zero hz]
  simp only [View.readAt_eq_ld, (hs0_0 t).read_unread, (hs0_1 t).read_unread, (hs0_2 t).read_unread, (Memref.isWhole_whole _).read_unread, View.ld_unit_zero (S := S1024x1024) hz, shapeCast_self]

theorem scratch_last (t : Fin cfg0.N) (h1 : t.val % 3 = 2) :
    (outsAt0 m c t.val t.isLt).2 = next m c t.val t.isLt (outsAt0 m c (t.val - 1) (Nat.lt_of_le_of_lt (Nat.sub_le _ _) t.isLt)).2 := by
  have h0 : ¬t.val % 3 = 0 := by omega
  rw [outsAt0_C (F := Ideal) m c t h0 h1]
  dsimp only
  unfold sout0_C_0 next
  rw [View.read_writes_eq_canon _ _ _ (fun _ => scover0_C_0 (F := Ideal) ..)]
  unfold kernelRun0_C
  dsimp only
  try sl_unfold_words
  rw [View.canon_unit_zero hz]
  simp only [View.readAt_eq_ld, (hs0_0 t).read_unread, (hs0_1 t).read_unread, (hs0_2 t).read_unread, (Memref.isWhole_whole _).read_unread, View.ld_unit_zero (S := S1024x1024) hz, shapeCast_self]

/-- A run's last point stores the accumulator. -/
theorem stored (t : Fin cfg0.N) (h1 : t.val % 3 = 2) : (outsAt0 m c t.val t.isLt).1 = (outsAt0 m c t.val t.isLt).2 := by
  rw [scratch_last m c t h1]
  have h0 : ¬t.val % 3 = 0 := by omega
  rw [outsAt0_C (F := Ideal) m c t h0 h1]
  dsimp only
  unfold out0_C_3 next
  rw [View.read_writes_eq_canon _ _ _ (fun _ => cover0_C_3 (F := Ideal) ..)]
  unfold kernelRun0_C
  dsimp only
  try sl_unfold_words
  rw [View.canon_unit_zero hz, View.readCov_unit_zero (S := S1024x1024) _ hz]
  simp only [View.readAt_eq_ld, (hs0_0 t).read_unread, (hs0_1 t).read_unread, (hs0_2 t).read_unread, (Memref.isWhole_whole _).read_unread, View.ld_unit_zero (S := S1024x1024) hz, shapeCast_self]

theorem scratch (t : Fin cfg0.N) : (outsAt0 m c t.val t.isLt).2 = Pipeline.accAt (start m c) (next m c) (3 * (t.val / 3)) (t.val % 3)
    (by have h1 := t.isLt; have h2 := Nat.div_add_mod t.val 3; omega) :=
  Pipeline.eq_accAt_of_mod (fun n h => (outsAt0 m c n h).2) 3 (start m c) (next m c)
    (fun n h hn => scratch_first m c ⟨n, h⟩ hn)
    (fun n h hn => by
      rcases eq_or_ne ((n + 1) % 3) 2 with h1 | h1
      · exact scratch_last m c ⟨n + 1, h⟩ h1
      · exact scratch_middle m c ⟨n + 1, h⟩ hn h1)
    (by decide) t.val t.isLt _

/-- What the array ends holding: the product of the two whole matrices, added to the gradient so far. -/
theorem value (i : S8192x1024.Idx) : (G3 m c i : EReal) = C m c (i 0).val (i 1).val + ∑ r ∈ range 3072, A m c (i 0).val r * B m c (i 1).val r := by
  have h0 : (i 0).val < 8192 := (i 0).isLt
  have h1 : (i 1).val < 1024 := (i 1).isLt
  have hrun : run3Of i = (i 0).val / 1024 := by
    show 1 * ((i 0).val / 1024 - 0) + 1 * ((i 1).val / 1024 - 0) = _
    omega
  have hb : 3 * run3Of i + 2 < cfg0.N := by rw [hrun, show cfg0.N = 24 from N_0]; omega
  have e : ∀ (b j : ℕ) (h : b + j < cfg0.N), b = 3 * run3Of i → j = 2 →
      Pipeline.accAt (start m c) (next m c) b j h = Pipeline.accAt (start m c) (next m c) (3 * run3Of i) 2 hb := by
    intro b j h hb hj; subst hb; subst hj; rfl
  unfold G3
  rw [dif_pos hb, ← outsAt0_sweep m c _ hb, stored m c ⟨_, hb⟩ (by show (3 * run3Of i + 2) % 3 = 2; omega), scratch m c ⟨_, hb⟩,
    e _ _ _ (by show 3 * ((3 * run3Of i + 2) / 3) = _; omega) (by show (3 * run3Of i + 2) % 3 = 2; omega)]
  refine (run_nt (P := cfg0.N) (E := 2) (T := 1024) _ (fun n h => iblk m c 0 ⟨n, h⟩) (fun n h => iblk m c 1 ⟨n, h⟩) (A m c) (B m c)
    (fun n h j r hj hr => block_0 m c ⟨n, h⟩ j r hj hr) (fun n h j r hj hr => block_1 m c ⟨n, h⟩ j r hj hr)
    (start m c) (next m c) (fun y => C m c (run3Of i * 1024 + (y 0).val) (y 1).val) (run3Of i) hb
    (fun h y => by
      unfold start k0_pay2
      rw [shapeCast_self]
      refine congrArg (fun z : EReal => z + _) ?_
      refine (eq_tab (M := 1024) (N := 1024) _ y).trans ((block_2 m c ⟨_, h⟩ _ _ (y 0).isLt (y 1).isLt).trans ?_)
      rw [show 3 * run3Of i / 3 = run3Of i by omega])
    (fun n h acc y => by
      unfold next k0_pay2
      rw [shapeCast_self]
      rfl)
    (loc3Of i)).trans ?_
  show C m c (run3Of i * 1024 + (i 0).val % 1024) ((i 1).val % 1024) + ∑ r ∈ range 3072, A m c (run3Of i * 1024 + (i 0).val % 1024) r * B m c ((i 1).val % 1024) r = _
  rw [hrun, show (i 0).val / 1024 * 1024 + (i 0).val % 1024 = (i 0).val by omega, Nat.mod_eq_of_lt h1]

theorem frame_p : Cert.quiescent_HgradA := fun m ρ _ => Cert.HgradA.Gen.frame m ρ

theorem frame_pi : Cert.quiescent_HgradAIdeal := fun m ρ _ => Cert.HgradAIdeal.Gen.frame m ρ

theorem frame_ri : Cert.quiescent_HgradARefIdeal := fun m ρ _ =>
  (θ_run Cert.HgradARefIdeal.defs _ _).mono (fun r h => ⟨fun c => (h c).2, Idealize.ShloMosaic.sem_eq_zero_of_no_sems (by decide) r.2⟩)
    (Cert.HgradARefIdeal.Value.run (F := Ideal) m ρ)

theorem preserves : Cert.preserves_HgradA_HgradAIdeal := trivial

theorem algebraic : Cert.algebraic_HgradAIdeal_HgradARefIdeal := by
  intro m ρ m' ρ' _ hagree
  refine ⟨_, Cert.HgradAIdeal.Value.run (F := Ideal) m ρ, ?_⟩
  refine (θ_run Cert.HgradARefIdeal.defs _ _).mono (fun _ h c => ⟨(h c).1.trans ?_, (h c).2⟩) (Cert.HgradARefIdeal.Value.run (F := Ideal) m' ρ')
  rw [(hagree c).1, (hagree c).2.1, (hagree c).2.2]
  funext i
  rw [value m c i]
  exact congrArg₂ (HAdd.hAdd (α := EReal)) (eq_tab (M := 8192) (N := 1024) _ i) (dot_nt _ _ _ _ i)

end Cert.Proof.HgradA

end
-- ==== Proof.HgradG.lean ====
/-
  The gradient of the layer's input through the gates' projection, added to the gradient so far: blocks of columns of the two
  matrices multiplied and added up over the steps of a run are the whole product, which is the reference's.
-/
module

public import proofs.«01_k».proof.Defs
public import proofs.«01_k».proof.Proof.Products
public import proofs.«01_k».proof.Proof.Gen.HgradG.Frame
public import proofs.«01_k».proof.Proof.Gen.HgradGIdeal.Value
public import proofs.«01_k».proof.Proof.Gen.HgradGRefIdeal.Run
public import Idealize.ShloMosaic.Lib.Quiescent
public import Idealize.ShloMosaic.Lib.Pointwise.ShapeOpsCore

@[expose] public section

noncomputable section

open Idealize.ShloMosaic Idealize.ShloMosaic.ValueIdx Idealize.ShloMosaic.TcCoe Idealize.SL.Sem
open Finset (range)

namespace Cert.Proof.HgradG

open Cert.HgradGIdeal Cert.HgradGIdeal.Gen Cert.HgradGIdeal.Value Cert.Proof.Products

variable (m : (ℓ : Loc nD τ sig) → Buf (Elt Ideal) ℓ) (c : Dev nD)

/-- The gradient coming back, as a table. -/
def A : ℕ → ℕ → EReal := tab (M := 8192) (N := 2048) (m ((c : Thread nD τ).loc main_arg1))

/-- The projection's weights, as a table. -/
def B : ℕ → ℕ → EReal := tab (M := 1024) (N := 2048) (m ((c : Thread nD τ).loc main_arg2))

/-- The gradient so far, as a table. -/
def C : ℕ → ℕ → EReal := tab (M := 8192) (N := 1024) (m ((c : Thread nD τ).loc main_arg0))

theorem place : ∀ t : Fin cfg0.N, win0_0.index t (0 : Fin 2) = t.val / 2 ∧ win0_0.index t (1 : Fin 2) = t.val % 2
    ∧ win0_1.index t (0 : Fin 2) = 0 ∧ win0_1.index t (1 : Fin 2) = t.val % 2
    ∧ win0_2.index t (0 : Fin 2) = t.val / 2 ∧ win0_2.index t (1 : Fin 2) = 0 :=
  (by decide +kernel : ∀ t : Fin grid0.N, _)

theorem block_0 (t : Fin cfg0.N) (j r : ℕ) (hj : j < 1024) (hr : r < 1024) :
    tab (M := 1024) (N := 1024) (iblk m c 0 t) j r = A m c (t.val / 2 * 1024 + j) (t.val % 2 * 1024 + r) := by
  have ht : t.val < 16 := lt_of_lt_of_eq t.isLt N_0
  obtain ⟨e0, e1, -, -, -, -⟩ := place t
  rw [tab_of_lt _ hj hr, A, tab_of_lt _ (show t.val / 2 * 1024 + j < 8192 by omega) (show t.val % 2 * 1024 + r < 2048 by omega), ← V_main_arg1 m c]
  unfold iblk
  rw [View.read_apply]
  refine congrArg (V m c main_arg1) ?_
  funext a; apply Fin.ext
  match a with
  | ⟨0, _⟩ => show win0_0.index t (0 : Fin 2) * 1024 + 1 * j = _; rw [e0, Nat.one_mul]
  | ⟨1, _⟩ => show win0_0.index t (1 : Fin 2) * 1024 + 1 * r = _; rw [e1, Nat.one_mul]

theorem block_1 (t : Fin cfg0.N) (j r : ℕ) (hj : j < 1024) (hr : r < 1024) :
    tab (M := 1024) (N := 1024) (iblk m c 1 t) j r = B m c j (t.val % 2 * 1024 + r) := by
  obtain ⟨-, -, e0, e1, -, -⟩ := place t
  rw [tab_of_lt _ hj hr, B, tab_of_lt _ hj (show t.val % 2 * 1024 + r < 2048 by omega), ← V_main_arg2 m c]
  unfold iblk
  rw [View.read_apply]
  refine congrArg (V m c main_arg2) ?_
  funext a; apply Fin.ext
  match a with
  | ⟨0, _⟩ => show win0_1.index t (0 : Fin 2) * 1024 + 1 * j = j; rw [e0]; omega
  | ⟨1, _⟩ => show win0_1.index t (1 : Fin 2) * 1024 + 1 * r = _; rw [e1, Nat.one_mul]

theorem block_2 (t : Fin cfg0.N) (j l : ℕ) (hj : j < 1024) (hl : l < 1024) :
    tab (M := 1024) (N := 1024) (iblk m c 2 t) j l = C m c (t.val / 2 * 1024 + j) l := by
  have ht : t.val < 16 := lt_of_lt_of_eq t.isLt N_0
  obtain ⟨-, -, -, -, e0, e1⟩ := place t
  rw [tab_of_lt _ hj hl, C, tab_of_lt _ (show t.val / 2 * 1024 + j < 8192 by omega) hl, ← V_main_arg0 m c]
  unfold iblk
  rw [View.read_apply]
  refine congrArg (V m c main_arg0) ?_
  funext a; apply Fin.ext
  match a with
  | ⟨0, _⟩ => show win0_2.index t (0 : Fin 2) * 1024 + 1 * j = _; rw [e0, Nat.one_mul]
  | ⟨1, _⟩ => show win0_2.index t (1 : Fin 2) * 1024 + 1 * l = l; rw [e1]; omega

theorem hz : (![0, 0] : Fin 2 → Nat) = fun _ => 0 := funext fun a => by fin_cases a <;> rfl

/-- What a run's first point leaves in the accumulator. -/
def start (n : ℕ) (h : n < cfg0.N) : Vec Ideal S1024x1024 .f32 := k0_pay2 (iblk m c 2 ⟨n, h⟩) (iblk m c 0 ⟨n, h⟩) (iblk m c 1 ⟨n, h⟩)

/-- What each later point leaves in it. -/
def next (n : ℕ) (h : n < cfg0.N) (acc : Vec Ideal S1024x1024 .f32) : Vec Ideal S1024x1024 .f32 :=
  k0_pay2 acc (iblk m c 0 ⟨n, h⟩) (iblk m c 1 ⟨n, h⟩)

theorem scratch_first (t : Fin cfg0.N) (h0 : t.val % 2 = 0) : (outsAt0 m c t.val t.isLt).2 = start m c t.val t.isLt := by
  have h1 : ¬t.val % 2 = 1 := by omega
  rw [outsAt0_A (F := Ideal) m c t h0 h1]
  dsimp only
  unfold sout0_A_0 start
  rw [View.read_writes_eq_canon _ _ _ (fun _ => scover0_A_0 (F := Ideal) ..)]
  unfold kernelRun0_A
  dsimp only
  try sl_unfold_words
  rw [View.canon_cons_unit_zero (S := S1024x1024) hz, View.readCov_unit_zero (S := S1024x1024) _ hz]
  unfold k0_pay1
  simp only [View.readAt_eq_ld, (hs0_0 t).read_unread, (hs0_1 t).read_unread, (hs0_2 t).read_unread, (Memref.isWhole_whole _).read_unread, View.ld_unit_zero (S := S1024x1024) hz, shapeCast_self]

theorem scratch_last (t : Fin cfg0.N) (h1 : t.val % 2 = 1) :
    (outsAt0 m c t.val t.isLt).2 = next m c t.val t.isLt (outsAt0 m c (t.val - 1) (Nat.lt_of_le_of_lt (Nat.sub_le _ _) t.isLt)).2 := by
  have h0 : ¬t.val % 2 = 0 := by omega
  rw [outsAt0_B (F := Ideal) m c t h0 h1]
  dsimp only
  unfold sout0_B_0 next
  rw [View.read_writes_eq_canon _ _ _ (fun _ => scover0_B_0 (F := Ideal) ..)]
  unfold kernelRun0_B
  dsimp only
  try sl_unfold_words
  rw [View.canon_unit_zero hz]
  simp only [View.readAt_eq_ld, (hs0_0 t).read_unread, (hs0_1 t).read_unread, (hs0_2 t).read_unread, (Memref.isWhole_whole _).read_unread, View.ld_unit_zero (S := S1024x1024) hz, shapeCast_self]

/-- A run's last point stores the accumulator. -/
theorem stored (t : Fin cfg0.N) (h1 : t.val % 2 = 1) : (outsAt0 m c t.val t.isLt).1 = (outsAt0 m c t.val t.isLt).2 := by
  rw [scratch_last m c t h1]
  have h0 : ¬t.val % 2 = 0 := by omega
  rw [outsAt0_B (F := Ideal) m c t h0 h1]
  dsimp only
  unfold out0_B_3 next
  rw [View.read_writes_eq_canon _ _ _ (fun _ => cover0_B_3 (F := Ideal) ..)]
  unfold kernelRun0_B
  dsimp only
  try sl_unfold_words
  rw [View.canon_unit_zero hz, View.readCov_unit_zero (S := S1024x1024) _ hz]
  simp only [View.readAt_eq_ld, (hs0_0 t).read_unread, (hs0_1 t).read_unread, (hs0_2 t).read_unread, (Memref.isWhole_whole _).read_unread, View.ld_unit_zero (S := S1024x1024) hz, shapeCast_self]

theorem scratch (t : Fin cfg0.N) : (outsAt0 m c t.val t.isLt).2 = Pipeline.accAt (start m c) (next m c) (2 * (t.val / 2)) (t.val % 2)
    (by have h1 := t.isLt; have h2 := Nat.div_add_mod t.val 2; omega) :=
  Pipeline.eq_accAt_of_mod (fun n h => (outsAt0 m c n h).2) 2 (start m c) (next m c)
    (fun n h hn => scratch_first m c ⟨n, h⟩ hn)
    (fun n h hn => by
      exact scratch_last m c ⟨n + 1, h⟩ (by show (n + 1) % 2 = 1; omega))
    (by decide) t.val t.isLt _

/-- What the array ends holding: the product of the two whole matrices, added to the gradient so far. -/
theorem value (i : S8192x1024.Idx) : (G3 m c i : EReal) = C m c (i 0).val (i 1).val + ∑ r ∈ range 2048, A m c (i 0).val r * B m c (i 1).val r := by
  have h0 : (i 0).val < 8192 := (i 0).isLt
  have h1 : (i 1).val < 1024 := (i 1).isLt
  have hrun : run3Of i = (i 0).val / 1024 := by
    show 1 * ((i 0).val / 1024 - 0) + 1 * ((i 1).val / 1024 - 0) = _
    omega
  have hb : 2 * run3Of i + 1 < cfg0.N := by rw [hrun, show cfg0.N = 16 from N_0]; omega
  have e : ∀ (b j : ℕ) (h : b + j < cfg0.N), b = 2 * run3Of i → j = 1 →
      Pipeline.accAt (start m c) (next m c) b j h = Pipeline.accAt (start m c) (next m c) (2 * run3Of i) 1 hb := by
    intro b j h hb hj; subst hb; subst hj; rfl
  unfold G3
  rw [dif_pos hb, ← outsAt0_sweep m c _ hb, stored m c ⟨_, hb⟩ (by show (2 * run3Of i + 1) % 2 = 1; omega), scratch m c ⟨_, hb⟩,
    e _ _ _ (by show 2 * ((2 * run3Of i + 1) / 2) = _; omega) (by show (2 * run3Of i + 1) % 2 = 1; omega)]
  refine (run_nt (P := cfg0.N) (E := 1) (T := 1024) _ (fun n h => iblk m c 0 ⟨n, h⟩) (fun n h => iblk m c 1 ⟨n, h⟩) (A m c) (B m c)
    (fun n h j r hj hr => block_0 m c ⟨n, h⟩ j r hj hr) (fun n h j r hj hr => block_1 m c ⟨n, h⟩ j r hj hr)
    (start m c) (next m c) (fun y => C m c (run3Of i * 1024 + (y 0).val) (y 1).val) (run3Of i) hb
    (fun h y => by
      unfold start k0_pay2
      rw [shapeCast_self]
      refine congrArg (fun z : EReal => z + _) ?_
      refine (eq_tab (M := 1024) (N := 1024) _ y).trans ((block_2 m c ⟨_, h⟩ _ _ (y 0).isLt (y 1).isLt).trans ?_)
      rw [show 2 * run3Of i / 2 = run3Of i by omega])
    (fun n h acc y => by
      unfold next k0_pay2
      rw [shapeCast_self]
      rfl)
    (loc3Of i)).trans ?_
  show C m c (run3Of i * 1024 + (i 0).val % 1024) ((i 1).val % 1024) + ∑ r ∈ range 2048, A m c (run3Of i * 1024 + (i 0).val % 1024) r * B m c ((i 1).val % 1024) r = _
  rw [hrun, show (i 0).val / 1024 * 1024 + (i 0).val % 1024 = (i 0).val by omega, Nat.mod_eq_of_lt h1]

theorem frame_p : Cert.quiescent_HgradG := fun m ρ _ => Cert.HgradG.Gen.frame m ρ

theorem frame_pi : Cert.quiescent_HgradGIdeal := fun m ρ _ => Cert.HgradGIdeal.Gen.frame m ρ

theorem frame_ri : Cert.quiescent_HgradGRefIdeal := fun m ρ _ =>
  (θ_run Cert.HgradGRefIdeal.defs _ _).mono (fun r h => ⟨fun c => (h c).2, Idealize.ShloMosaic.sem_eq_zero_of_no_sems (by decide) r.2⟩)
    (Cert.HgradGRefIdeal.Value.run (F := Ideal) m ρ)

theorem preserves : Cert.preserves_HgradG_HgradGIdeal := trivial

theorem algebraic : Cert.algebraic_HgradGIdeal_HgradGRefIdeal := by
  intro m ρ m' ρ' _ hagree
  refine ⟨_, Cert.HgradGIdeal.Value.run (F := Ideal) m ρ, ?_⟩
  refine (θ_run Cert.HgradGRefIdeal.defs _ _).mono (fun _ h c => ⟨(h c).1.trans ?_, (h c).2⟩) (Cert.HgradGRefIdeal.Value.run (F := Ideal) m' ρ')
  rw [(hagree c).1, (hagree c).2.1, (hagree c).2.2]
  funext i
  rw [value m c i]
  exact congrArg₂ (HAdd.hAdd (α := EReal)) (eq_tab (M := 8192) (N := 1024) _ i) (dot_nt _ _ _ _ i)

end Cert.Proof.HgradG

end
-- ==== Proof.ProjB.lean ====
/-
  The layer's branch B projection: every block of the result is a block of rows times a block of columns, so the
  whole is the product of the whole matrices, which is the reference's.
-/
module

public import proofs.«01_k».proof.Defs
public import proofs.«01_k».proof.Proof.Products
public import proofs.«01_k».proof.Proof.Gen.ProjB.Frame
public import proofs.«01_k».proof.Proof.Gen.ProjBIdeal.Value
public import proofs.«01_k».proof.Proof.Gen.ProjBRefIdeal.Run
public import Idealize.ShloMosaic.Lib.Quiescent
public import Idealize.ShloMosaic.Lib.Pointwise.ShapeOpsCore

@[expose] public section

noncomputable section

open Idealize.ShloMosaic Idealize.ShloMosaic.ValueIdx Idealize.ShloMosaic.TcCoe Idealize.SL.Sem
open Finset (range)

namespace Cert.Proof.ProjB

open Cert.ProjBIdeal Cert.ProjBIdeal.Gen Cert.ProjBIdeal.Value Cert.Proof.Products

variable (m : (ℓ : Loc nD τ sig) → Buf (Elt Ideal) ℓ) (c : Dev nD)

/-- The projection's input, as a table. -/
def A : ℕ → ℕ → EReal := tab (M := 8192) (N := 1024) (m ((c : Thread nD τ).loc main_arg0))

/-- The projection's weights, as a table. -/
def B : ℕ → ℕ → EReal := tab (M := 1024) (N := 6400) (m ((c : Thread nD τ).loc main_arg1))

/-- Their product. -/
def product (i : S8192x6400.Idx) : EReal := ∑ r ∈ range 1024, A m c (i 0).val r * B m c r (i 1).val

theorem place : ∀ t : Fin cfg0.N, win0_0.index t (0 : Fin 2) = t.val % 4 ∧ win0_0.index t (1 : Fin 2) = 0
    ∧ win0_1.index t (0 : Fin 2) = 0 ∧ win0_1.index t (1 : Fin 2) = t.val / 4
    ∧ win0_2.index t (0 : Fin 2) = t.val % 4 ∧ win0_2.index t (1 : Fin 2) = t.val / 4 :=
  (by decide +kernel : ∀ t : Fin grid0.N, _)

theorem block_0 (t : Fin cfg0.N) (j r : ℕ) (hj : j < 2048) (hr : r < 1024) :
    tab (M := 2048) (N := 1024) (iblk m c 0 t) j r = A m c (t.val % 4 * 2048 + j) r := by
  obtain ⟨e0, e1, -, -, -, -⟩ := place t
  rw [tab_of_lt _ hj hr, A, tab_of_lt _ (show t.val % 4 * 2048 + j < 8192 by omega) hr, ← V_main_arg0 m c]
  unfold iblk
  rw [View.read_apply]
  refine congrArg (V m c main_arg0) ?_
  funext a; apply Fin.ext
  match a with
  | ⟨0, _⟩ => show win0_0.index t (0 : Fin 2) * 2048 + 1 * j = _; rw [e0, Nat.one_mul]
  | ⟨1, _⟩ => show win0_0.index t (1 : Fin 2) * 1024 + 1 * r = r; rw [e1]; omega

theorem block_1 (t : Fin cfg0.N) (r j : ℕ) (hr : r < 1024) (hj : j < 1280) :
    tab (M := 1024) (N := 1280) (iblk m c 1 t) r j = B m c r (t.val / 4 * 1280 + j) := by
  have ht : t.val < 20 := lt_of_lt_of_eq t.isLt N_0
  obtain ⟨-, -, e0, e1, -, -⟩ := place t
  rw [tab_of_lt _ hr hj, B, tab_of_lt _ hr (show t.val / 4 * 1280 + j < 6400 by omega), ← V_main_arg1 m c]
  unfold iblk
  rw [View.read_apply]
  refine congrArg (V m c main_arg1) ?_
  funext a; apply Fin.ext
  match a with
  | ⟨0, _⟩ => show win0_1.index t (0 : Fin 2) * 1024 + 1 * r = r; rw [e0]; omega
  | ⟨1, _⟩ => show win0_1.index t (1 : Fin 2) * 1280 + 1 * j = _; rw [e1, Nat.one_mul]

theorem hz : (![0, 0] : Fin 2 → Nat) = fun _ => 0 := funext fun a => by fin_cases a <;> rfl

theorem out_eq (x0 : Vec Ideal S2048x1024 .bf16) (x1 : Vec Ideal S1024x1280 .bf16) : out0_2 x0 x1 = k0_pay1 x0 x1 := by
  unfold out0_2
  rw [View.canon_unit_zero hz]
  simp only [View.ld_unit_zero (S := S2048x1024) hz, View.ld_unit_zero (S := S1024x1280) hz]

/-- Each point writes its block of the product. -/
theorem flushed (t : Fin cfg0.N) : (dats m 0 c).flushed 2 t = ((cfg0.win 2).blk t).view.read (Elt Ideal) (product m c) := by
  obtain ⟨-, -, -, -, e0, e1⟩ := place t
  rw [flushed2, out_eq]
  funext y
  have hy0 : (y 0).val < 2048 := (y 0).isLt
  have hy1 : (y 1).val < 1280 := (y 1).isLt
  have hb0 : (((cfg0.win 2).blk t).view.emb y 0).val = t.val % 4 * 2048 + (y 0).val := by
    show win0_2.index t (0 : Fin 2) * 2048 + 1 * (y 0).val = _
    rw [e0, Nat.one_mul]
  have hb1 : (((cfg0.win 2).blk t).view.emb y 1).val = t.val / 4 * 1280 + (y 1).val := by
    show win0_2.index t (1 : Fin 2) * 1280 + 1 * (y 1).val = _
    rw [e1, Nat.one_mul]
  refine (matmul_nn (M := 2048) (K := 1024) (N := 1280) _ none (iblk m c 0 t) (iblk m c 1 t) ((cfg0.win 2).xinj (grid0.coords t) y)).trans ?_
  show _ = product m c (((cfg0.win 2).blk t).view.emb y)
  unfold product
  rw [hb0, hb1]
  refine Finset.sum_congr rfl fun r hr => ?_
  exact congrArg₂ (HMul.hMul (α := EReal)) (block_0 m c t _ r hy0 (Finset.mem_range.mp hr)) (block_1 m c t r _ (Finset.mem_range.mp hr) hy1)

theorem points : ∀ (q0 : Fin 4) (q1 : Fin 5), ∃ t : Fin cfg0.N, (cfg0.win 2).flush t = true ∧ win0_2.index t = ![q0.val, q1.val] :=
  (by decide +kernel : ∀ (q0 : Fin 4) (q1 : Fin 5), ∃ t : Fin grid0.N, win0_2.flush t = true ∧ win0_2.index t = ![q0.val, q1.val])

theorem covered (i : S8192x6400.Idx) : ∃ t : Fin cfg0.N, (cfg0.win 2).flush t = true ∧ i ∈ ((cfg0.win 2).blk t).view.set := by
  have hi0 : (i 0).val < 8192 := (i 0).isLt
  have hi1 : (i 1).val < 6400 := (i 1).isLt
  obtain ⟨t, hft, ht⟩ := points ⟨(i 0).val / 2048, by omega⟩ ⟨(i 1).val / 1280, by omega⟩
  have q0 : win0_2.index t (0 : Fin 2) = (i 0).val / 2048 := congrFun ht 0
  have q1 : win0_2.index t (1 : Fin 2) = (i 1).val / 1280 := congrFun ht 1
  refine ⟨t, hft, ?_⟩
  show i ∈ ((View.whole main_v0).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1280 ≤ (i 1).val ∧ (i 1).val < win0_2.index t (1 : Fin 2) * 1280 + 1280; omega

/-- What the array ends holding: the product of the two whole matrices. -/
theorem value : (dats m 0 c).arrAt 2 cfg0.N = product m c :=
  (dats m 0 c).arrAt_eq_of_cover 2 _ (fun t _ => flushed m c t) covered

theorem frame_p : Cert.quiescent_ProjB := fun m ρ _ => Cert.ProjB.Gen.frame m ρ

theorem frame_pi : Cert.quiescent_ProjBIdeal := fun m ρ _ => Cert.ProjBIdeal.Gen.frame m ρ

theorem frame_ri : Cert.quiescent_ProjBRefIdeal := fun m ρ _ =>
  (θ_run Cert.ProjBRefIdeal.defs _ _).mono (fun r h => ⟨fun c => (h c).2, Idealize.ShloMosaic.sem_eq_zero_of_no_sems (by decide) r.2⟩)
    (Cert.ProjBRefIdeal.Value.run (F := Ideal) m ρ)

theorem preserves : Cert.preserves_ProjB_ProjBIdeal := trivial

theorem algebraic : Cert.algebraic_ProjBIdeal_ProjBRefIdeal := by
  intro m ρ m' ρ' _ hagree
  refine ⟨_, Cert.ProjBIdeal.Value.run_blocks (F := Ideal) m ρ, ?_⟩
  refine (θ_run Cert.ProjBRefIdeal.defs _ _).mono (fun _ h c => ⟨(h c).1.trans ?_, (h c).2⟩) (Cert.ProjBRefIdeal.Value.run (F := Ideal) m' ρ')
  rw [(hagree c).1, (hagree c).2, value m c]
  funext i
  exact dot_nn _ _ _ _ i

end Cert.Proof.ProjB

end
-- ==== Proof.ProjA.lean ====
/-
  The layer's branch A projection: every block of the result is a block of rows times a block of columns, so the
  whole is the product of the whole matrices, which is the reference's.
-/
module

public import proofs.«01_k».proof.Defs
public import proofs.«01_k».proof.Proof.Products
public import proofs.«01_k».proof.Proof.Gen.ProjA.Frame
public import proofs.«01_k».proof.Proof.Gen.ProjAIdeal.Value
public import proofs.«01_k».proof.Proof.Gen.ProjARefIdeal.Run
public import Idealize.ShloMosaic.Lib.Quiescent
public import Idealize.ShloMosaic.Lib.Pointwise.ShapeOpsCore

@[expose] public section

noncomputable section

open Idealize.ShloMosaic Idealize.ShloMosaic.ValueIdx Idealize.ShloMosaic.TcCoe Idealize.SL.Sem
open Finset (range)

namespace Cert.Proof.ProjA

open Cert.ProjAIdeal Cert.ProjAIdeal.Gen Cert.ProjAIdeal.Value Cert.Proof.Products

variable (m : (ℓ : Loc nD τ sig) → Buf (Elt Ideal) ℓ) (c : Dev nD)

/-- The projection's input, as a table. -/
def A : ℕ → ℕ → EReal := tab (M := 8192) (N := 1024) (m ((c : Thread nD τ).loc main_arg0))

/-- The projection's weights, as a table. -/
def B : ℕ → ℕ → EReal := tab (M := 1024) (N := 3072) (m ((c : Thread nD τ).loc main_arg1))

/-- Their product. -/
def product (i : S8192x3072.Idx) : EReal := ∑ r ∈ range 1024, A m c (i 0).val r * B m c r (i 1).val

theorem place : ∀ t : Fin cfg0.N, win0_0.index t (0 : Fin 2) = t.val % 4 ∧ win0_0.index t (1 : Fin 2) = 0
    ∧ win0_1.index t (0 : Fin 2) = 0 ∧ win0_1.index t (1 : Fin 2) = t.val / 4
    ∧ win0_2.index t (0 : Fin 2) = t.val % 4 ∧ win0_2.index t (1 : Fin 2) = t.val / 4 :=
  (by decide +kernel : ∀ t : Fin grid0.N, _)

theorem block_0 (t : Fin cfg0.N) (j r : ℕ) (hj : j < 2048) (hr : r < 1024) :
    tab (M := 2048) (N := 1024) (iblk m c 0 t) j r = A m c (t.val % 4 * 2048 + j) r := by
  obtain ⟨e0, e1, -, -, -, -⟩ := place t
  rw [tab_of_lt _ hj hr, A, tab_of_lt _ (show t.val % 4 * 2048 + j < 8192 by omega) hr, ← V_main_arg0 m c]
  unfold iblk
  rw [View.read_apply]
  refine congrArg (V m c main_arg0) ?_
  funext a; apply Fin.ext
  match a with
  | ⟨0, _⟩ => show win0_0.index t (0 : Fin 2) * 2048 + 1 * j = _; rw [e0, Nat.one_mul]
  | ⟨1, _⟩ => show win0_0.index t (1 : Fin 2) * 1024 + 1 * r = r; rw [e1]; omega

theorem block_1 (t : Fin cfg0.N) (r j : ℕ) (hr : r < 1024) (hj : j < 1024) :
    tab (M := 1024) (N := 1024) (iblk m c 1 t) r j = B m c r (t.val / 4 * 1024 + j) := by
  have ht : t.val < 12 := lt_of_lt_of_eq t.isLt N_0
  obtain ⟨-, -, e0, e1, -, -⟩ := place t
  rw [tab_of_lt _ hr hj, B, tab_of_lt _ hr (show t.val / 4 * 1024 + j < 3072 by omega), ← V_main_arg1 m c]
  unfold iblk
  rw [View.read_apply]
  refine congrArg (V m c main_arg1) ?_
  funext a; apply Fin.ext
  match a with
  | ⟨0, _⟩ => show win0_1.index t (0 : Fin 2) * 1024 + 1 * r = r; rw [e0]; omega
  | ⟨1, _⟩ => show win0_1.index t (1 : Fin 2) * 1024 + 1 * j = _; rw [e1, Nat.one_mul]

theorem hz : (![0, 0] : Fin 2 → Nat) = fun _ => 0 := funext fun a => by fin_cases a <;> rfl

theorem out_eq (x0 : Vec Ideal S2048x1024 .bf16) (x1 : Vec Ideal S1024x1024 .bf16) : out0_2 x0 x1 = k0_pay1 x0 x1 := by
  unfold out0_2
  rw [View.canon_unit_zero hz]
  simp only [View.ld_unit_zero (S := S2048x1024) hz, View.ld_unit_zero (S := S1024x1024) hz]

/-- Each point writes its block of the product. -/
theorem flushed (t : Fin cfg0.N) : (dats m 0 c).flushed 2 t = ((cfg0.win 2).blk t).view.read (Elt Ideal) (product m c) := by
  obtain ⟨-, -, -, -, e0, e1⟩ := place t
  rw [flushed2, out_eq]
  funext y
  have hy0 : (y 0).val < 2048 := (y 0).isLt
  have hy1 : (y 1).val < 1024 := (y 1).isLt
  have hb0 : (((cfg0.win 2).blk t).view.emb y 0).val = t.val % 4 * 2048 + (y 0).val := by
    show win0_2.index t (0 : Fin 2) * 2048 + 1 * (y 0).val = _
    rw [e0, Nat.one_mul]
  have hb1 : (((cfg0.win 2).blk t).view.emb y 1).val = t.val / 4 * 1024 + (y 1).val := by
    show win0_2.index t (1 : Fin 2) * 1024 + 1 * (y 1).val = _
    rw [e1, Nat.one_mul]
  refine (matmul_nn (M := 2048) (K := 1024) (N := 1024) _ none (iblk m c 0 t) (iblk m c 1 t) ((cfg0.win 2).xinj (grid0.coords t) y)).trans ?_
  show _ = product m c (((cfg0.win 2).blk t).view.emb y)
  unfold product
  rw [hb0, hb1]
  refine Finset.sum_congr rfl fun r hr => ?_
  exact congrArg₂ (HMul.hMul (α := EReal)) (block_0 m c t _ r hy0 (Finset.mem_range.mp hr)) (block_1 m c t r _ (Finset.mem_range.mp hr) hy1)

theorem points : ∀ (q0 : Fin 4) (q1 : Fin 3), ∃ t : Fin cfg0.N, (cfg0.win 2).flush t = true ∧ win0_2.index t = ![q0.val, q1.val] :=
  (by decide +kernel : ∀ (q0 : Fin 4) (q1 : Fin 3), ∃ t : Fin grid0.N, win0_2.flush t = true ∧ win0_2.index t = ![q0.val, q1.val])

theorem covered (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  obtain ⟨t, hft, ht⟩ := points ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, hft, ?_⟩
  show i ∈ ((View.whole main_v0).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- What the array ends holding: the product of the two whole matrices. -/
theorem value : (dats m 0 c).arrAt 2 cfg0.N = product m c :=
  (dats m 0 c).arrAt_eq_of_cover 2 _ (fun t _ => flushed m c t) covered

theorem frame_p : Cert.quiescent_ProjA := fun m ρ _ => Cert.ProjA.Gen.frame m ρ

theorem frame_pi : Cert.quiescent_ProjAIdeal := fun m ρ _ => Cert.ProjAIdeal.Gen.frame m ρ

theorem frame_ri : Cert.quiescent_ProjARefIdeal := fun m ρ _ =>
  (θ_run Cert.ProjARefIdeal.defs _ _).mono (fun r h => ⟨fun c => (h c).2, Idealize.ShloMosaic.sem_eq_zero_of_no_sems (by decide) r.2⟩)
    (Cert.ProjARefIdeal.Value.run (F := Ideal) m ρ)

theorem preserves : Cert.preserves_ProjA_ProjAIdeal := trivial

theorem algebraic : Cert.algebraic_ProjAIdeal_ProjARefIdeal := by
  intro m ρ m' ρ' _ hagree
  refine ⟨_, Cert.ProjAIdeal.Value.run_blocks (F := Ideal) m ρ, ?_⟩
  refine (θ_run Cert.ProjARefIdeal.defs _ _).mono (fun _ h c => ⟨(h c).1.trans ?_, (h c).2⟩) (Cert.ProjARefIdeal.Value.run (F := Ideal) m' ρ')
  rw [(hagree c).1, (hagree c).2, value m c]
  funext i
  exact dot_nn _ _ _ _ i

end Cert.Proof.ProjA

end
-- ==== Proof.ProjG.lean ====
/-
  The layer's gates projection: every block of the result is a block of rows times a block of columns, so the
  whole is the product of the whole matrices, which is the reference's.
-/
module

public import proofs.«01_k».proof.Defs
public import proofs.«01_k».proof.Proof.Products
public import proofs.«01_k».proof.Proof.Gen.ProjG.Frame
public import proofs.«01_k».proof.Proof.Gen.ProjGIdeal.Value
public import proofs.«01_k».proof.Proof.Gen.ProjGRefIdeal.Run
public import Idealize.ShloMosaic.Lib.Quiescent
public import Idealize.ShloMosaic.Lib.Pointwise.ShapeOpsCore

@[expose] public section

noncomputable section

open Idealize.ShloMosaic Idealize.ShloMosaic.ValueIdx Idealize.ShloMosaic.TcCoe Idealize.SL.Sem
open Finset (range)

namespace Cert.Proof.ProjG

open Cert.ProjGIdeal Cert.ProjGIdeal.Gen Cert.ProjGIdeal.Value Cert.Proof.Products

variable (m : (ℓ : Loc nD τ sig) → Buf (Elt Ideal) ℓ) (c : Dev nD)

/-- The projection's input, as a table. -/
def A : ℕ → ℕ → EReal := tab (M := 8192) (N := 1024) (m ((c : Thread nD τ).loc main_arg0))

/-- The projection's weights, as a table. -/
def B : ℕ → ℕ → EReal := tab (M := 1024) (N := 2048) (m ((c : Thread nD τ).loc main_arg1))

/-- Their product. -/
def product (i : S8192x2048.Idx) : EReal := ∑ r ∈ range 1024, A m c (i 0).val r * B m c r (i 1).val

theorem place : ∀ t : Fin cfg0.N, win0_0.index t (0 : Fin 2) = t.val % 4 ∧ win0_0.index t (1 : Fin 2) = 0
    ∧ win0_1.index t (0 : Fin 2) = 0 ∧ win0_1.index t (1 : Fin 2) = t.val / 4
    ∧ win0_2.index t (0 : Fin 2) = t.val % 4 ∧ win0_2.index t (1 : Fin 2) = t.val / 4 :=
  (by decide +kernel : ∀ t : Fin grid0.N, _)

theorem block_0 (t : Fin cfg0.N) (j r : ℕ) (hj : j < 2048) (hr : r < 1024) :
    tab (M := 2048) (N := 1024) (iblk m c 0 t) j r = A m c (t.val % 4 * 2048 + j) r := by
  obtain ⟨e0, e1, -, -, -, -⟩ := place t
  rw [tab_of_lt _ hj hr, A, tab_of_lt _ (show t.val % 4 * 2048 + j < 8192 by omega) hr, ← V_main_arg0 m c]
  unfold iblk
  rw [View.read_apply]
  refine congrArg (V m c main_arg0) ?_
  funext a; apply Fin.ext
  match a with
  | ⟨0, _⟩ => show win0_0.index t (0 : Fin 2) * 2048 + 1 * j = _; rw [e0, Nat.one_mul]
  | ⟨1, _⟩ => show win0_0.index t (1 : Fin 2) * 1024 + 1 * r = r; rw [e1]; omega

theorem block_1 (t : Fin cfg0.N) (r j : ℕ) (hr : r < 1024) (hj : j < 1024) :
    tab (M := 1024) (N := 1024) (iblk m c 1 t) r j = B m c r (t.val / 4 * 1024 + j) := by
  have ht : t.val < 8 := lt_of_lt_of_eq t.isLt N_0
  obtain ⟨-, -, e0, e1, -, -⟩ := place t
  rw [tab_of_lt _ hr hj, B, tab_of_lt _ hr (show t.val / 4 * 1024 + j < 2048 by omega), ← V_main_arg1 m c]
  unfold iblk
  rw [View.read_apply]
  refine congrArg (V m c main_arg1) ?_
  funext a; apply Fin.ext
  match a with
  | ⟨0, _⟩ => show win0_1.index t (0 : Fin 2) * 1024 + 1 * r = r; rw [e0]; omega
  | ⟨1, _⟩ => show win0_1.index t (1 : Fin 2) * 1024 + 1 * j = _; rw [e1, Nat.one_mul]

theorem hz : (![0, 0] : Fin 2 → Nat) = fun _ => 0 := funext fun a => by fin_cases a <;> rfl

theorem out_eq (x0 : Vec Ideal S2048x1024 .bf16) (x1 : Vec Ideal S1024x1024 .bf16) : out0_2 x0 x1 = k0_pay1 x0 x1 := by
  unfold out0_2
  rw [View.canon_unit_zero hz]
  simp only [View.ld_unit_zero (S := S2048x1024) hz, View.ld_unit_zero (S := S1024x1024) hz]

/-- Each point writes its block of the product. -/
theorem flushed (t : Fin cfg0.N) : (dats m 0 c).flushed 2 t = ((cfg0.win 2).blk t).view.read (Elt Ideal) (product m c) := by
  obtain ⟨-, -, -, -, e0, e1⟩ := place t
  rw [flushed2, out_eq]
  funext y
  have hy0 : (y 0).val < 2048 := (y 0).isLt
  have hy1 : (y 1).val < 1024 := (y 1).isLt
  have hb0 : (((cfg0.win 2).blk t).view.emb y 0).val = t.val % 4 * 2048 + (y 0).val := by
    show win0_2.index t (0 : Fin 2) * 2048 + 1 * (y 0).val = _
    rw [e0, Nat.one_mul]
  have hb1 : (((cfg0.win 2).blk t).view.emb y 1).val = t.val / 4 * 1024 + (y 1).val := by
    show win0_2.index t (1 : Fin 2) * 1024 + 1 * (y 1).val = _
    rw [e1, Nat.one_mul]
  refine (matmul_nn (M := 2048) (K := 1024) (N := 1024) _ none (iblk m c 0 t) (iblk m c 1 t) ((cfg0.win 2).xinj (grid0.coords t) y)).trans ?_
  show _ = product m c (((cfg0.win 2).blk t).view.emb y)
  unfold product
  rw [hb0, hb1]
  refine Finset.sum_congr rfl fun r hr => ?_
  exact congrArg₂ (HMul.hMul (α := EReal)) (block_0 m c t _ r hy0 (Finset.mem_range.mp hr)) (block_1 m c t r _ (Finset.mem_range.mp hr) hy1)

theorem points : ∀ (q0 : Fin 4) (q1 : Fin 2), ∃ t : Fin cfg0.N, (cfg0.win 2).flush t = true ∧ win0_2.index t = ![q0.val, q1.val] :=
  (by decide +kernel : ∀ (q0 : Fin 4) (q1 : Fin 2), ∃ t : Fin grid0.N, win0_2.flush t = true ∧ win0_2.index t = ![q0.val, q1.val])

theorem covered (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, hft, ht⟩ := points ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, hft, ?_⟩
  show i ∈ ((View.whole main_v0).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- What the array ends holding: the product of the two whole matrices. -/
theorem value : (dats m 0 c).arrAt 2 cfg0.N = product m c :=
  (dats m 0 c).arrAt_eq_of_cover 2 _ (fun t _ => flushed m c t) covered

theorem frame_p : Cert.quiescent_ProjG := fun m ρ _ => Cert.ProjG.Gen.frame m ρ

theorem frame_pi : Cert.quiescent_ProjGIdeal := fun m ρ _ => Cert.ProjGIdeal.Gen.frame m ρ

theorem frame_ri : Cert.quiescent_ProjGRefIdeal := fun m ρ _ =>
  (θ_run Cert.ProjGRefIdeal.defs _ _).mono (fun r h => ⟨fun c => (h c).2, Idealize.ShloMosaic.sem_eq_zero_of_no_sems (by decide) r.2⟩)
    (Cert.ProjGRefIdeal.Value.run (F := Ideal) m ρ)

theorem preserves : Cert.preserves_ProjG_ProjGIdeal := trivial

theorem algebraic : Cert.algebraic_ProjGIdeal_ProjGRefIdeal := by
  intro m ρ m' ρ' _ hagree
  refine ⟨_, Cert.ProjGIdeal.Value.run_blocks (F := Ideal) m ρ, ?_⟩
  refine (θ_run Cert.ProjGRefIdeal.defs _ _).mono (fun _ h c => ⟨(h c).1.trans ?_, (h c).2⟩) (Cert.ProjGRefIdeal.Value.run (F := Ideal) m' ρ')
  rw [(hagree c).1, (hagree c).2, value m c]
  funext i
  exact dot_nn _ _ _ _ i

end Cert.Proof.ProjG

end
-- ==== Proof.Sigmoid.lean ====
/-
  The sigmoid at the extended reals: one half of the hyperbolic tangent of half the argument, plus one half, is
  1 / (1 + exp (-x)), at the infinities too.
-/
module

public import Idealize.ShloMosaic.Lib.IdealHost
public import Idealize.ShloMosaic.PureOps.Ideal.Laws

@[expose] public section

noncomputable section

open Idealize.ShloMosaic

namespace Cert.Proof.Sigmoid

theorem half : Ideal.ofBits .f32 0x3F000000#32 = ((2⁻¹ : ℝ) : EReal) := by
  simp [Ideal.ofBits, Ideal.ieee, -EReal.coe_mul]; norm_num

theorem real (r : ℝ) : 2⁻¹ * Real.tanh (2⁻¹ * r) + 2⁻¹ = (1 + Real.exp (-r))⁻¹ := by
  have hp : Real.exp (-r) = Real.exp (-(2⁻¹ * r)) * Real.exp (-(2⁻¹ * r)) := by rw [← Real.exp_add]; congr 1; ring
  have h1 : Real.exp (2⁻¹ * r) * Real.exp (-(2⁻¹ * r)) = 1 := by rw [← Real.exp_add, add_neg_cancel, Real.exp_zero]
  have ha := Real.exp_pos (2⁻¹ * r)
  have hb := Real.exp_pos (-(2⁻¹ * r))
  rw [Real.tanh_eq_sinh_div_cosh, Real.sinh_eq, Real.cosh_eq, hp]
  generalize Real.exp (2⁻¹ * r) = a at *
  generalize Real.exp (-(2⁻¹ * r)) = b at *
  have : a + b ≠ 0 := by positivity
  have : 1 + b * b ≠ 0 := by positivity
  field_simp
  linear_combination (2 * b) * h1

/-- The two ways to write the sigmoid agree. -/
theorem tanh_eq (x : EReal) :
    Ideal.ofBits .f32 0x3F000000#32 * Ideal.tanh (Ideal.ofBits .f32 0x3F000000#32 * x) + Ideal.ofBits .f32 0x3F000000#32 = Ideal.logistic x := by
  rw [half]
  have hpos : (0 : EReal) < ((2⁻¹ : ℝ) : EReal) := by exact_mod_cast (by norm_num : (0 : ℝ) < 2⁻¹)
  induction x with
  | bot =>
    rw [EReal.mul_bot_of_pos hpos, Ideal.tanh_bot, Ideal.logistic_bot, mul_neg, mul_one, ← EReal.coe_neg, ← EReal.coe_add]
    norm_num
  | top =>
    rw [EReal.mul_top_of_pos hpos, Ideal.tanh_top, Ideal.logistic_top, mul_one, ← EReal.coe_add]
    norm_num
  | coe r => rw [← EReal.coe_mul, Ideal.tanh_coe, ← EReal.coe_mul, ← EReal.coe_add, real, Ideal.logistic_coe]

/-- The same, written with a division. -/
theorem div_eq (x : EReal) :
    Ideal.div (Ideal.ofBits .f32 0x3F800000#32) (Ideal.ofBits .f32 0x3F800000#32 + Ideal.exp (-x)) = Ideal.logistic x := by
  rw [Ideal.ofBits_one_f32]
  rfl

end Cert.Proof.Sigmoid

end
-- ==== Proof.Merge.lean ====
/-
  The gradient of the merge: from the gradient of the gated output, the gradients of the output, of the two branches'
  projections, of the two gates, of the two branches and of the gate on the output. Each block of rows is computed from the
  rows' blocks, the gate's gradient is added up over the blocks, and the whole is the reference's, for all arguments.
-/
module

public import proofs.«01_k».proof.Defs
public import proofs.«01_k».proof.Proof.Products
public import proofs.«01_k».proof.Proof.Sigmoid
public import proofs.«01_k».proof.Proof.Gen.Merge.Frame
public import proofs.«01_k».proof.Proof.Gen.MergeIdeal.Value
public import proofs.«01_k».proof.Proof.Gen.MergeRefIdeal.Run
public import Idealize.ShloMosaic.Lib.Quiescent
public import Idealize.ShloMosaic.Lib.StableHlo.ReadAt
public import Idealize.ShloMosaic.Lib.StableHlo.RunRead
public import Idealize.ShloMosaic.Lib.Pipeline.ReadBack
public import Idealize.ShloMosaic.Lib.Pointwise.ShapeOpsCore
public import Idealize.ShloMosaic.Lib.ValueLayout

@[expose] public section

set_option maxRecDepth 16384

noncomputable section

open Idealize.ShloMosaic hiding ix1 ix2 ix3 eq_ix2
open Idealize.ShloMosaic.ValueIdx Idealize.ShloMosaic.TcCoe Idealize.SL.Sem
open Finset (range)

namespace Cert.Proof.Merge

/-- The arguments and the saved forward values, as tables: the gradient of the gated output, the gate, the three weights,
    the two branches' gates side by side, the two branches' projections and the output. -/
structure Tabs where
  (X g Wo Wa Wb P A B O : ℕ → ℕ → EReal)

namespace Tabs

/-- One, as the sigmoid's gradient takes it. -/
abbrev one : EReal := Ideal.ofBits .f32 0x3F800000#32

variable (T : Tabs) (i j : ℕ)

/-- The gradient of the output. -/
def up : EReal := T.X i j * T.g 0 j

/-- The gradient of the merged branches. -/
def mid : EReal := ∑ r ∈ range 1024, T.up i r * T.Wo j r

/-- The gates. -/
def sa : EReal := Ideal.logistic (T.P i j)
def sb : EReal := Ideal.logistic (T.P i (1024 + j))

/-- The gradients of the branches' projections. -/
def pa : EReal := T.mid i j * T.sa i j
def pb : EReal := T.mid i j * T.sb i j

/-- The gradients of the gates before the sigmoid. -/
def ga : EReal := T.mid i j * T.A i j * T.sa i j * (one - T.sa i j)
def gb : EReal := T.mid i j * T.B i j * T.sb i j * (one - T.sb i j)
def gates : EReal := if j < 1024 then T.ga i j else T.gb i (j - 1024)

/-- The gradients of the branches. -/
def ya : EReal := ∑ r ∈ range 1024, T.pa i r * T.Wa j r
def yb : EReal := ∑ r ∈ range 1024, T.pb i r * T.Wb j r

/-- The gradient of the gate on the output. -/
def gate : EReal := ∑ r ∈ range 8192, T.X r j * T.O r j

end Tabs

section Kernel

open Cert.MergeIdeal Cert.MergeIdeal.Gen Cert.MergeIdeal.Value Cert.Proof.Products

/-! ## What the body leaves -/

section Body

variable (m : (ℓ : Loc nD τ sig) → Buf (Elt Ideal) ℓ) (c : Dev nD)

theorem hz : (![0, 0] : Fin 2 → Nat) = fun _ => 0 := funext fun a => by fin_cases a <;> rfl

/-- Two blocks side by side. -/
def beside (a b : S512x1024.Idx → EReal) (y : S512x2048.Idx) : EReal :=
  if h : (y 1).val < 1024 then a (ix2 (y 0) ⟨(y 1).val, h⟩)
  else b (ix2 (y 0) ⟨(y 1).val - 1024, by have : (y 1).val < 2048 := (y 1).isLt; omega⟩)

theorem beside_left (a b : S512x1024.Idx → EReal) (x : S512x1024.Idx) :
    a x = beside a b ((Rect.unit (s := S512x2048) ![0, 0] S512x1024.size inb_S512x2048_S512x1024_0_0).emb x) := by
  have h1 : (x 1).val < 1024 := (x 1).isLt
  have e0 : ((Rect.unit (s := S512x2048) ![0, 0] S512x1024.size inb_S512x2048_S512x1024_0_0).emb x 0).val = (x 0).val := by
    show 0 + 1 * (x 0).val = _; omega
  have e1 : ((Rect.unit (s := S512x2048) ![0, 0] S512x1024.size inb_S512x2048_S512x1024_0_0).emb x 1).val = (x 1).val := by
    show 0 + 1 * (x 1).val = _; omega
  unfold beside
  rw [dif_pos (by rw [e1]; exact h1)]
  refine congrArg a ?_
  funext k; apply Fin.ext
  match k with
  | ⟨0, _⟩ => exact e0.symm
  | ⟨1, _⟩ => exact e1.symm

theorem beside_right (a b : S512x1024.Idx → EReal) (x : S512x1024.Idx) :
    b x = beside a b ((Rect.unit (s := S512x2048) ![0, 1024] S512x1024.size inb_S512x2048_S512x1024_0_1024).emb x) := by
  have e0 : ((Rect.unit (s := S512x2048) ![0, 1024] S512x1024.size inb_S512x2048_S512x1024_0_1024).emb x 0).val = (x 0).val := by
    show 0 + 1 * (x 0).val = _; omega
  have e1 : ((Rect.unit (s := S512x2048) ![0, 1024] S512x1024.size inb_S512x2048_S512x1024_0_1024).emb x 1).val = 1024 + (x 1).val := by
    show 1024 + 1 * (x 1).val = _; omega
  unfold beside
  rw [dif_neg (by rw [e1]; omega)]
  refine congrArg b ?_
  funext k; apply Fin.ext
  match k with
  | ⟨0, _⟩ => exact e0.symm
  | ⟨1, _⟩ => exact (by omega : (x 1).val = 1024 + (x 1).val - 1024).trans (congrArg (· - 1024) e1.symm)

/-- One half, the sigmoid's constant. -/
abbrev half : EReal := Scalar.ofBits (F := Ideal) .f32 0x3F000000#32

/-- The gradient of the merged branches, of a block. -/
def dm (t : Fin cfg0.N) : FVec Ideal S512x1024 .f32 := k0_pay5 (iblk m c 0 t) (iblk m c 1 t) (iblk m c 7 t)

/-- What the first point leaves of the gate's gradient, and what each later point makes of it. -/
def start (n : ℕ) (h : n < cfg0.N) : Vec Ideal S1x1024 .f32 := k0_pay3 (iblk m c 0 ⟨n, h⟩) (k0_pay2 (F := Ideal)) (iblk m c 2 ⟨n, h⟩)

def next (n : ℕ) (h : n < cfg0.N) (acc : Vec Ideal S1x1024 .f32) : Vec Ideal S1x1024 .f32 := k0_pay3 (iblk m c 0 ⟨n, h⟩) acc (iblk m c 2 ⟨n, h⟩)

/-- The gates' gradients, of a block. -/
def dg (t : Fin cfg0.N) : S512x2048.Idx → EReal :=
  beside (k0_pay10 (dm m c t) (k0_pay6 (iblk m c 5 t)) (iblk m c 3 t)) (k0_pay11 (dm m c t) (iblk m c 6 t) half (iblk m c 4 t))

/-- What a point leaves in the seven outputs' buffers, the last one's contents given. -/
def leaves (t : Fin cfg0.N) (acc : Vec Ideal S1x1024 .f32) : Vec Ideal S512x1024 .bf16 × Vec Ideal S512x1024 .bf16 × Vec Ideal S512x1024 .bf16
    × Vec Ideal S512x2048 .bf16 × Vec Ideal S512x1024 .bf16 × Vec Ideal S512x2048 .bf16 × Vec Ideal S1x1024 .f32 :=
  (k0_pay4 (iblk m c 0 t) (iblk m c 1 t), k0_pay8 (dm m c t) (k0_pay6 (iblk m c 5 t)), k0_pay9 (dm m c t) (iblk m c 6 t) half, dg m c t,
    k0_pay12 (dm m c t) (k0_pay6 (iblk m c 5 t)) (iblk m c 8 t), k0_pay1 (k0_pay9 (dm m c t) (iblk m c 6 t) half) (iblk m c 9 t), acc)

theorem left_first (t : Fin cfg0.N) (h0 : t.val % 16 = 0) :
    outsAt0 m c t.val t.isLt = leaves m c t (start m c t.val t.isLt) := by
  rw [outsAt0_A (F := Ideal) m c t h0]
  unfold out0_A_10 out0_A_11 out0_A_12 out0_A_13 out0_A_14 out0_A_15 out0_A_16 leaves dg dm start
  simp only [View.read_writes_junk_eq_canon]
  unfold kernelRun0_A
  dsimp only
  try sl_unfold_words
  simp only [View.canon_unit_zero (S := S512x1024) hz, View.canon_unit_zero (S := S512x2048) hz, View.canon_unit_zero (S := S1x1024) hz, View.canon_cons_unit_zero (S := S1x1024) hz, View.readCov_unit_zero (S := S1x1024) _ hz,
    View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, View.ld_unit_zero (S := S512x1024) hz, View.ld_unit_zero (S := S1x1024) hz,
    View.ld_unit_zero (S := S1024x1024) hz, View.ld_unit_zero (S := S2048x1024) hz, shapeCast_self]
  refine congrArg₂ Prod.mk rfl (congrArg₂ Prod.mk rfl (congrArg₂ Prod.mk rfl (congrArg₂ Prod.mk (funext fun y => ?_) rfl)))
  refine View.canon_apply_of_pieces _ _ (View.PiecesOf.mem ?_) y (View.cover_of_tiled (s := S512x2048) _ S512x1024.size (by rfl) y)
  exact ⟨beside_right _ _, beside_left _ _, trivial⟩

theorem left_later (t : Fin cfg0.N) (h0 : ¬t.val % 16 = 0) :
    outsAt0 m c t.val t.isLt = leaves m c t (next m c t.val t.isLt (outsAt0 m c (t.val - 1) (Nat.lt_of_le_of_lt (Nat.sub_le _ _) t.isLt)).2.2.2.2.2.2) := by
  rw [outsAt0_B (F := Ideal) m c t h0]
  unfold out0_B_10 out0_B_11 out0_B_12 out0_B_13 out0_B_14 out0_B_15 out0_B_16 leaves dg dm next
  simp only [View.read_writes_junk_eq_canon]
  unfold kernelRun0_B
  dsimp only
  try sl_unfold_words
  simp only [View.canon_unit_zero (S := S512x1024) hz, View.canon_unit_zero (S := S512x2048) hz, View.canon_unit_zero (S := S1x1024) hz, (hs0_16 t).read_unread,
    View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, View.ld_unit_zero (S := S512x1024) hz, View.ld_unit_zero (S := S1x1024) hz,
    View.ld_unit_zero (S := S1024x1024) hz, View.ld_unit_zero (S := S2048x1024) hz, shapeCast_self]
  refine congrArg₂ Prod.mk rfl (congrArg₂ Prod.mk rfl (congrArg₂ Prod.mk rfl (congrArg₂ Prod.mk (funext fun y => ?_) rfl)))
  refine View.canon_apply_of_pieces _ _ (View.PiecesOf.mem ?_) y (View.cover_of_tiled (s := S512x2048) _ S512x1024.size (by rfl) y)
  exact ⟨beside_right _ _, beside_left _ _, trivial⟩

theorem left (t : Fin cfg0.N) : ∃ z, outsAt0 m c t.val t.isLt = leaves m c t z := by
  by_cases h0 : t.val % 16 = 0
  · exact ⟨_, left_first m c t h0⟩
  · exact ⟨_, left_later m c t h0⟩

theorem left_16 (t : Fin cfg0.N) : (outsAt0 m c t.val t.isLt).2.2.2.2.2.2 = Pipeline.accAt (start m c) (next m c) (16 * (t.val / 16)) (t.val % 16)
    (by have h1 := t.isLt; have h2 := Nat.div_add_mod t.val 16; omega) :=
  Pipeline.eq_accAt_of_mod (fun n h => (outsAt0 m c n h).2.2.2.2.2.2) 16 (start m c) (next m c)
    (fun n h hn => by rw [left_first m c ⟨n, h⟩ hn]; rfl) (fun n h hn => by rw [left_later m c ⟨n + 1, h⟩ hn]; rfl) (by decide) t.val t.isLt _

/-! ## Where the blocks lie -/

/-- The kernel's arguments and saved values. -/
def tabs : Tabs where
  X := tab (M := 8192) (N := 1024) (V m c main_arg0)
  g := tab (M := 1) (N := 1024) (V m c main_arg1)
  Wo := tab (M := 1024) (N := 1024) (V m c main_arg7)
  Wa := tab (M := 1024) (N := 1024) (V m c main_arg5)
  Wb := tab (M := 2048) (N := 1024) (V m c main_arg6)
  P := tab (M := 8192) (N := 2048) (V m c main_arg4)
  A := tab (M := 8192) (N := 1024) (V m c main_v22)
  B := tab (M := 8192) (N := 1024) (V m c main_v23)
  O := tab (M := 8192) (N := 1024) (V m c main_v21)

theorem size : cfg0.N = 16 := by decide

theorem tab_at {M N a b : ℕ} (f : (⟨2, ![M, N]⟩ : Shape).Idx → EReal) (k : (⟨2, ![M, N]⟩ : Shape).Idx) (h0 : (k 0).val = a) (h1 : (k 1).val = b) :
    f k = tab f a b := by subst h0; subst h1; exact eq_tab f k

theorem row {a b n : ℕ} (h : a = b) (k : ℕ) : a * n + 1 * k = b * n + k := by rw [h, Nat.one_mul]

theorem whole {a n : ℕ} (h : a = 0) (k : ℕ) : a * n + 1 * k = k := by rw [h, Nat.zero_mul, Nat.zero_add, Nat.one_mul]

theorem right {a n : ℕ} (h : a = 1) (k : ℕ) : a * n + 1 * k = n + k := by rw [h, Nat.one_mul, Nat.one_mul]

theorem covers {C : ℕ} (off : Fin 2 → ℕ) (inb : ∀ a, off a + (![512, C] : Fin 2 → ℕ) a ≤ (⟨2, ![8192, C]⟩ : Shape).size a)
    (i : (⟨2, ![8192, C]⟩ : Shape).Idx) (h0 : off 0 = (i 0).val / 512 * 512) (h1 : off 1 = 0) :
    i ∈ (Rect.unit (s := ⟨2, ![8192, C]⟩) off ![512, C] inb).set := by
  have hi : (i 1).val < C := (i 1).isLt
  refine Rect.mem_set_unit.mpr fun a => ?_
  match a with
  | ⟨0, _⟩ => show off 0 ≤ (i 0).val ∧ (i 0).val < off 0 + 512; omega
  | ⟨1, _⟩ => show off 1 ≤ (i 1).val ∧ (i 1).val < off 1 + C; omega

theorem place_0 : ∀ t : Fin cfg0.N, win0_0.index t = ![t.val, 0] := (by decide +kernel : ∀ t : Fin grid0.N, _)

theorem block_0 (t : Fin cfg0.N) (y : S512x1024.Idx) : iblk m c 0 t y = (tabs m c).X (t.val * 512 + (y 0).val) (y 1).val :=
  tab_at (M := 8192) (N := 1024) (V m c main_arg0) (((cfg0.win 0).blk t).view.emb y) (row (congrFun (place_0 t) 0) _) (whole (congrFun (place_0 t) 1) _)

theorem place_1 : ∀ t : Fin cfg0.N, win0_1.index t = ![0, 0] := (by decide +kernel : ∀ t : Fin grid0.N, _)

theorem block_1 (t : Fin cfg0.N) (y : S1x1024.Idx) : iblk m c 1 t y = (tabs m c).g (y 0).val (y 1).val :=
  tab_at (M := 1) (N := 1024) (V m c main_arg1) (((cfg0.win 1).blk t).view.emb y) (whole (congrFun (place_1 t) 0) _) (whole (congrFun (place_1 t) 1) _)

theorem place_2 : ∀ t : Fin cfg0.N, win0_2.index t = ![t.val, 0] := (by decide +kernel : ∀ t : Fin grid0.N, _)

theorem block_2 (t : Fin cfg0.N) (y : S512x1024.Idx) : iblk m c 2 t y = (tabs m c).O (t.val * 512 + (y 0).val) (y 1).val :=
  tab_at (M := 8192) (N := 1024) (V m c main_v21) (((cfg0.win 2).blk t).view.emb y) (row (congrFun (place_2 t) 0) _) (whole (congrFun (place_2 t) 1) _)

theorem place_3 : ∀ t : Fin cfg0.N, win0_3.index t = ![t.val, 0] := (by decide +kernel : ∀ t : Fin grid0.N, _)

theorem block_3 (t : Fin cfg0.N) (y : S512x1024.Idx) : iblk m c 3 t y = (tabs m c).A (t.val * 512 + (y 0).val) (y 1).val :=
  tab_at (M := 8192) (N := 1024) (V m c main_v22) (((cfg0.win 3).blk t).view.emb y) (row (congrFun (place_3 t) 0) _) (whole (congrFun (place_3 t) 1) _)

theorem place_4 : ∀ t : Fin cfg0.N, win0_4.index t = ![t.val, 0] := (by decide +kernel : ∀ t : Fin grid0.N, _)

theorem block_4 (t : Fin cfg0.N) (y : S512x1024.Idx) : iblk m c 4 t y = (tabs m c).B (t.val * 512 + (y 0).val) (y 1).val :=
  tab_at (M := 8192) (N := 1024) (V m c main_v23) (((cfg0.win 4).blk t).view.emb y) (row (congrFun (place_4 t) 0) _) (whole (congrFun (place_4 t) 1) _)

theorem place_5 : ∀ t : Fin cfg0.N, win0_5.index t = ![t.val, 0] := (by decide +kernel : ∀ t : Fin grid0.N, _)

theorem block_5 (t : Fin cfg0.N) (y : S512x1024.Idx) : iblk m c 5 t y = (tabs m c).P (t.val * 512 + (y 0).val) (y 1).val :=
  tab_at (M := 8192) (N := 2048) (V m c main_arg4) (((cfg0.win 5).blk t).view.emb y) (row (congrFun (place_5 t) 0) _) (whole (congrFun (place_5 t) 1) _)

theorem place_6 : ∀ t : Fin cfg0.N, win0_6.index t = ![t.val, 1] := (by decide +kernel : ∀ t : Fin grid0.N, _)

theorem block_6 (t : Fin cfg0.N) (y : S512x1024.Idx) : iblk m c 6 t y = (tabs m c).P (t.val * 512 + (y 0).val) (1024 + (y 1).val) :=
  tab_at (M := 8192) (N := 2048) (V m c main_arg4) (((cfg0.win 6).blk t).view.emb y) (row (congrFun (place_6 t) 0) _) (right (congrFun (place_6 t) 1) _)

theorem place_7 : ∀ t : Fin cfg0.N, win0_7.index t = ![0, 0] := (by decide +kernel : ∀ t : Fin grid0.N, _)

theorem block_7 (t : Fin cfg0.N) (y : S1024x1024.Idx) : iblk m c 7 t y = (tabs m c).Wo (y 0).val (y 1).val :=
  tab_at (M := 1024) (N := 1024) (V m c main_arg7) (((cfg0.win 7).blk t).view.emb y) (whole (congrFun (place_7 t) 0) _) (whole (congrFun (place_7 t) 1) _)

theorem place_8 : ∀ t : Fin cfg0.N, win0_8.index t = ![0, 0] := (by decide +kernel : ∀ t : Fin grid0.N, _)

theorem block_8 (t : Fin cfg0.N) (y : S1024x1024.Idx) : iblk m c 8 t y = (tabs m c).Wa (y 0).val (y 1).val :=
  tab_at (M := 1024) (N := 1024) (V m c main_arg5) (((cfg0.win 8).blk t).view.emb y) (whole (congrFun (place_8 t) 0) _) (whole (congrFun (place_8 t) 1) _)

theorem place_9 : ∀ t : Fin cfg0.N, win0_9.index t = ![0, 0] := (by decide +kernel : ∀ t : Fin grid0.N, _)

theorem block_9 (t : Fin cfg0.N) (y : S2048x1024.Idx) : iblk m c 9 t y = (tabs m c).Wb (y 0).val (y 1).val :=
  tab_at (M := 2048) (N := 1024) (V m c main_arg6) (((cfg0.win 9).blk t).view.emb y) (whole (congrFun (place_9 t) 0) _) (whole (congrFun (place_9 t) 1) _)

/-! ## A block's results -/

theorem up_block (t : Fin cfg0.N) (y : S512x1024.Idx) :
    k0_pay4 (F := Ideal) (iblk m c 0 t) (iblk m c 1 t) y = (tabs m c).up (t.val * 512 + (y 0).val) (y 1).val := by
  refine (congrArg₂ (HMul.hMul (α := EReal)) (block_0 m c t y) ((congrArg _ (eq_ix2 y)).trans (broadcastTo_1b_ab_apply (a := 512) (b := 1024) _ _ (y 0) (y 1)))).trans ?_
  exact congrArg (HMul.hMul (α := EReal) _) (block_1 m c t _)

theorem mid_block (t : Fin cfg0.N) (y : S512x1024.Idx) : dm m c t y = (tabs m c).mid (t.val * 512 + (y 0).val) (y 1).val := by
  refine (matmul_nt (M := 512) (K := 1024) (N := 1024) (φ₁ := .bf16) (φ₂ := .bf16) _ none _ _ y).trans (Finset.sum_congr rfl fun r hr => ?_)
  have hr := Finset.mem_range.mp hr
  exact congrArg₂ (HMul.hMul (α := EReal)) ((tab_of_lt _ (y 0).isLt hr).trans (up_block m c t _)) ((tab_of_lt _ (y 1).isLt hr).trans (block_7 m c t _))

theorem sa_block (t : Fin cfg0.N) (y : S512x1024.Idx) :
    k0_pay6 (F := Ideal) (iblk m c 5 t) y = (tabs m c).sa (t.val * 512 + (y 0).val) (y 1).val :=
  (Sigmoid.tanh_eq _).trans (congrArg Ideal.logistic (block_5 m c t y))

theorem sb_block (t : Fin cfg0.N) (y : S512x1024.Idx) :
    k0_pay7 (F := Ideal) (iblk m c 6 t) half y = (tabs m c).sb (t.val * 512 + (y 0).val) (y 1).val :=
  (Sigmoid.tanh_eq _).trans (congrArg Ideal.logistic (block_6 m c t y))

theorem pa_block (t : Fin cfg0.N) (y : S512x1024.Idx) :
    k0_pay8 (F := Ideal) (dm m c t) (k0_pay6 (iblk m c 5 t)) y = (tabs m c).pa (t.val * 512 + (y 0).val) (y 1).val :=
  congrArg₂ (HMul.hMul (α := EReal)) (mid_block m c t y) (sa_block m c t y)

theorem pb_block (t : Fin cfg0.N) (y : S512x1024.Idx) :
    k0_pay9 (F := Ideal) (dm m c t) (iblk m c 6 t) half y = (tabs m c).pb (t.val * 512 + (y 0).val) (y 1).val :=
  congrArg₂ (HMul.hMul (α := EReal)) (mid_block m c t y) (sb_block m c t y)

theorem ga_block (t : Fin cfg0.N) (y : S512x1024.Idx) :
    k0_pay10 (F := Ideal) (dm m c t) (k0_pay6 (iblk m c 5 t)) (iblk m c 3 t) y = (tabs m c).ga (t.val * 512 + (y 0).val) (y 1).val := by
  unfold k0_pay10
  rw [shapeCast_self]
  exact congrArg₂ (HMul.hMul (α := EReal)) (congrArg₂ (HMul.hMul (α := EReal)) (congrArg₂ (HMul.hMul (α := EReal)) (mid_block m c t y) (block_3 m c t y))
    (sa_block m c t y)) (congrArg (HSub.hSub (α := EReal) Tabs.one) (sa_block m c t y))

theorem gb_block (t : Fin cfg0.N) (y : S512x1024.Idx) :
    k0_pay11 (F := Ideal) (dm m c t) (iblk m c 6 t) half (iblk m c 4 t) y = (tabs m c).gb (t.val * 512 + (y 0).val) (y 1).val := by
  unfold k0_pay11
  rw [shapeCast_self]
  exact congrArg₂ (HMul.hMul (α := EReal)) (congrArg₂ (HMul.hMul (α := EReal)) (congrArg₂ (HMul.hMul (α := EReal)) (mid_block m c t y) (block_4 m c t y))
    (sb_block m c t y)) (congrArg (HSub.hSub (α := EReal) Tabs.one) (sb_block m c t y))

theorem gates_block (t : Fin cfg0.N) (y : S512x2048.Idx) :
    dg m c t y = (tabs m c).gates (t.val * 512 + (y 0).val) (y 1).val := by
  unfold dg beside Tabs.gates
  by_cases h : (y 1).val < 1024
  · rw [dif_pos h, if_pos h]; exact ga_block m c t _
  · rw [dif_neg h, if_neg h]; exact gb_block m c t _

theorem ya_block (t : Fin cfg0.N) (y : S512x1024.Idx) :
    k0_pay12 (F := Ideal) (dm m c t) (k0_pay6 (iblk m c 5 t)) (iblk m c 8 t) y = (tabs m c).ya (t.val * 512 + (y 0).val) (y 1).val := by
  refine (matmul_nt (M := 512) (K := 1024) (N := 1024) (φ₁ := .bf16) (φ₂ := .bf16) _ none _ _ y).trans (Finset.sum_congr rfl fun r hr => ?_)
  have hr := Finset.mem_range.mp hr
  exact congrArg₂ (HMul.hMul (α := EReal)) ((tab_of_lt _ (y 0).isLt hr).trans (pa_block m c t _)) ((tab_of_lt _ (y 1).isLt hr).trans (block_8 m c t _))

theorem yb_block (t : Fin cfg0.N) (y : S512x2048.Idx) :
    k0_pay1 (F := Ideal) (k0_pay9 (dm m c t) (iblk m c 6 t) half) (iblk m c 9 t) y = (tabs m c).yb (t.val * 512 + (y 0).val) (y 1).val := by
  refine (matmul_nt (M := 512) (K := 1024) (N := 2048) (φ₁ := .bf16) (φ₂ := .bf16) _ none _ _ y).trans (Finset.sum_congr rfl fun r hr => ?_)
  have hr := Finset.mem_range.mp hr
  exact congrArg₂ (HMul.hMul (α := EReal)) ((tab_of_lt _ (y 0).isLt hr).trans (pb_block m c t _)) ((tab_of_lt _ (y 1).isLt hr).trans (block_9 m c t _))

theorem gate_block (t : Fin cfg0.N) (acc : Vec Ideal S1x1024 .f32) (y : S1x1024.Idx) :
    k0_pay3 (F := Ideal) (iblk m c 0 t) acc (iblk m c 2 t) y
      = acc y + ∑ r ∈ range 512, (tabs m c).X (t.val * 512 + r) (y 1).val * (tabs m c).O (t.val * 512 + r) (y 1).val := by
  unfold k0_pay3
  rw [shapeCast_self, shapeCast_self]
  refine congrArg (HAdd.hAdd (α := EReal) (acc y)) ?_
  refine (shapeCast_apply (t := S1x1024) _ _ y (ix1 (y 1)) (by
    rw [Shape.rowMajor_val_one, Shape.rowMajor_val_two]; have : (y 0).val < 1 := (y 0).isLt; simp; omega)).trans ?_
  refine (Ideal.multiReduction_add_single (a := 0) _ _ _ _ _ _).trans ?_
  rw [Finset.sum_range]
  exact Finset.sum_congr rfl fun k _ => congrArg₂ (HMul.hMul (α := EReal)) (block_0 m c t _) (block_2 m c t _)

/-! ## The arrays -/

/-- The point that computes a row. -/
def point (r : Fin 8192) : Fin cfg0.N := ⟨r.val / 512, by rw [size]; omega⟩

theorem place_10 : ∀ t : Fin cfg0.N, win0_10.index t = ![t.val, 0] ∧ (cfg0.win 10).flush t = true := (by decide +kernel : ∀ t : Fin grid0.N, _)

theorem value_10 : (dats m 0 c).arrAt 10 cfg0.N = fun i : S8192x1024.Idx => (tabs m c).up (i 0).val (i 1).val := by
  refine (dats m 0 c).arrAt_eq_of_cover 10 _ (fun t _ => ?_) (fun i : S8192x1024.Idx => ⟨point (i 0), (place_10 _).2, ?_⟩)
  · obtain ⟨z, hz⟩ := left m c t
    rw [flushed10, hz]
    exact funext fun y => (up_block m c t y).trans (congrArg₂ (tabs m c).up (row (congrFun (place_10 t).1 0) _).symm (whole (congrFun (place_10 t).1 1) _).symm)
  · exact (congrArg (Membership.mem · i) (View.set_slice_whole _ _)).mpr
      (covers (C := 1024) _ _ i (congrArg (· * 512) (congrFun (place_10 _).1 0)) ((congrArg (· * 1024) (congrFun (place_10 _).1 1)).trans (Nat.zero_mul _)))

theorem place_11 : ∀ t : Fin cfg0.N, win0_11.index t = ![t.val, 0] ∧ (cfg0.win 11).flush t = true := (by decide +kernel : ∀ t : Fin grid0.N, _)

theorem value_11 : (dats m 0 c).arrAt 11 cfg0.N = fun i : S8192x1024.Idx => (tabs m c).pa (i 0).val (i 1).val := by
  refine (dats m 0 c).arrAt_eq_of_cover 11 _ (fun t _ => ?_) (fun i : S8192x1024.Idx => ⟨point (i 0), (place_11 _).2, ?_⟩)
  · obtain ⟨z, hz⟩ := left m c t
    rw [flushed11, hz]
    exact funext fun y => (pa_block m c t y).trans (congrArg₂ (tabs m c).pa (row (congrFun (place_11 t).1 0) _).symm (whole (congrFun (place_11 t).1 1) _).symm)
  · exact (congrArg (Membership.mem · i) (View.set_slice_whole _ _)).mpr
      (covers (C := 1024) _ _ i (congrArg (· * 512) (congrFun (place_11 _).1 0)) ((congrArg (· * 1024) (congrFun (place_11 _).1 1)).trans (Nat.zero_mul _)))

theorem place_12 : ∀ t : Fin cfg0.N, win0_12.index t = ![t.val, 0] ∧ (cfg0.win 12).flush t = true := (by decide +kernel : ∀ t : Fin grid0.N, _)

theorem value_12 : (dats m 0 c).arrAt 12 cfg0.N = fun i : S8192x1024.Idx => (tabs m c).pb (i 0).val (i 1).val := by
  refine (dats m 0 c).arrAt_eq_of_cover 12 _ (fun t _ => ?_) (fun i : S8192x1024.Idx => ⟨point (i 0), (place_12 _).2, ?_⟩)
  · obtain ⟨z, hz⟩ := left m c t
    rw [flushed12, hz]
    exact funext fun y => (pb_block m c t y).trans (congrArg₂ (tabs m c).pb (row (congrFun (place_12 t).1 0) _).symm (whole (congrFun (place_12 t).1 1) _).symm)
  · exact (congrArg (Membership.mem · i) (View.set_slice_whole _ _)).mpr
      (covers (C := 1024) _ _ i (congrArg (· * 512) (congrFun (place_12 _).1 0)) ((congrArg (· * 1024) (congrFun (place_12 _).1 1)).trans (Nat.zero_mul _)))

theorem place_13 : ∀ t : Fin cfg0.N, win0_13.index t = ![t.val, 0] ∧ (cfg0.win 13).flush t = true := (by decide +kernel : ∀ t : Fin grid0.N, _)

theorem value_13 : (dats m 0 c).arrAt 13 cfg0.N = fun i : S8192x2048.Idx => (tabs m c).gates (i 0).val (i 1).val := by
  refine (dats m 0 c).arrAt_eq_of_cover 13 _ (fun t _ => ?_) (fun i : S8192x2048.Idx => ⟨point (i 0), (place_13 _).2, ?_⟩)
  · obtain ⟨z, hz⟩ := left m c t
    rw [flushed13, hz]
    exact funext fun y => (gates_block m c t y).trans (congrArg₂ (tabs m c).gates (row (congrFun (place_13 t).1 0) _).symm (whole (congrFun (place_13 t).1 1) _).symm)
  · exact (congrArg (Membership.mem · i) (View.set_slice_whole _ _)).mpr
      (covers (C := 2048) _ _ i (congrArg (· * 512) (congrFun (place_13 _).1 0)) ((congrArg (· * 2048) (congrFun (place_13 _).1 1)).trans (Nat.zero_mul _)))

theorem place_14 : ∀ t : Fin cfg0.N, win0_14.index t = ![t.val, 0] ∧ (cfg0.win 14).flush t = true := (by decide +kernel : ∀ t : Fin grid0.N, _)

theorem value_14 : (dats m 0 c).arrAt 14 cfg0.N = fun i : S8192x1024.Idx => (tabs m c).ya (i 0).val (i 1).val := by
  refine (dats m 0 c).arrAt_eq_of_cover 14 _ (fun t _ => ?_) (fun i : S8192x1024.Idx => ⟨point (i 0), (place_14 _).2, ?_⟩)
  · obtain ⟨z, hz⟩ := left m c t
    rw [flushed14, hz]
    exact funext fun y => (ya_block m c t y).trans (congrArg₂ (tabs m c).ya (row (congrFun (place_14 t).1 0) _).symm (whole (congrFun (place_14 t).1 1) _).symm)
  · exact (congrArg (Membership.mem · i) (View.set_slice_whole _ _)).mpr
      (covers (C := 1024) _ _ i (congrArg (· * 512) (congrFun (place_14 _).1 0)) ((congrArg (· * 1024) (congrFun (place_14 _).1 1)).trans (Nat.zero_mul _)))

theorem place_15 : ∀ t : Fin cfg0.N, win0_15.index t = ![t.val, 0] ∧ (cfg0.win 15).flush t = true := (by decide +kernel : ∀ t : Fin grid0.N, _)

theorem value_15 : (dats m 0 c).arrAt 15 cfg0.N = fun i : S8192x2048.Idx => (tabs m c).yb (i 0).val (i 1).val := by
  refine (dats m 0 c).arrAt_eq_of_cover 15 _ (fun t _ => ?_) (fun i : S8192x2048.Idx => ⟨point (i 0), (place_15 _).2, ?_⟩)
  · obtain ⟨z, hz⟩ := left m c t
    rw [flushed15, hz]
    exact funext fun y => (yb_block m c t y).trans (congrArg₂ (tabs m c).yb (row (congrFun (place_15 t).1 0) _).symm (whole (congrFun (place_15 t).1 1) _).symm)
  · exact (congrArg (Membership.mem · i) (View.set_slice_whole _ _)).mpr
      (covers (C := 2048) _ _ i (congrArg (· * 512) (congrFun (place_15 _).1 0)) ((congrArg (· * 2048) (congrFun (place_15 _).1 1)).trans (Nat.zero_mul _)))

theorem place_16 : ∀ t : Fin cfg0.N, win0_16.index t (0 : Fin 2) = 0 ∧ win0_16.index t (1 : Fin 2) = 0 ∧ ((cfg0.win 16).flush t = true ↔ t.val = 15) :=
  (by decide +kernel : ∀ t : Fin grid0.N, _)

theorem total (h : 0 + 15 < cfg0.N) (y : S1x1024.Idx) : Pipeline.accAt (start m c) (next m c) 0 15 h y = (tabs m c).gate (y 1).val := by
  refine (fold_sum (start m c) (next m c) 512 0 15 (fun _ => 0) (fun r y => (tabs m c).X r (y 1).val * (tabs m c).O r (y 1).val) h
    (fun h y => ?_) (fun s h acc y _ _ => ?_) y).trans (zero_add _)
  · refine (gate_block m c ⟨0, h⟩ _ y).trans (congrArg₂ (HAdd.hAdd (α := EReal)) Ideal.ofBits_zero_f32 (Finset.sum_congr rfl fun r _ => ?_))
    show (tabs m c).X (0 * 512 + r) _ * (tabs m c).O (0 * 512 + r) _ = _
    rw [Nat.zero_mul, Nat.zero_add]
  · refine (gate_block m c ⟨0 + s, h⟩ acc y).trans (congrArg (HAdd.hAdd (α := EReal) _) (Finset.sum_congr rfl fun r _ => ?_))
    show (tabs m c).X ((0 + s) * 512 + r) _ * (tabs m c).O ((0 + s) * 512 + r) _ = _
    rw [Nat.zero_add]

theorem value_16 : (dats m 0 c).arrAt 16 cfg0.N = fun i : S1x1024.Idx => (tabs m c).gate (i 1).val := by
  refine (dats m 0 c).arrAt_eq_of_cover 16 _ (fun t hf => ?_) (fun i : S1x1024.Idx => ?_)
  · obtain ⟨e0, e1, e2⟩ := place_16 t
    have ht : t.val = 15 := e2.mp hf
    have hb : 0 + 15 < cfg0.N := by rw [size]; omega
    have e : ∀ (b j : ℕ) (h : b + j < cfg0.N), b = 0 → j = 15 →
        Pipeline.accAt (start m c) (next m c) b j h = Pipeline.accAt (start m c) (next m c) 0 15 hb := by
      intro b j h hb hj; subst hb; subst hj; rfl
    rw [flushed16, left_16, e _ _ _ (by omega) (by omega)]
    exact funext fun y => (total m c hb y).trans (congrArg (tabs m c).gate (whole e1 _).symm)
  · have h0 : (i 0).val < 1 := (i 0).isLt
    have h1 : (i 1).val < 1024 := (i 1).isLt
    have ht : 15 < cfg0.N := by rw [size]; omega
    obtain ⟨e0, e1, e2⟩ := place_16 ⟨15, ht⟩
    refine ⟨⟨15, ht⟩, e2.mpr rfl, (congrArg (Membership.mem · i) (View.set_slice_whole _ _)).mpr (Rect.mem_set_unit.mpr fun a => ?_)⟩
    match a with
    | ⟨0, _⟩ => show win0_16.index ⟨15, ht⟩ (0 : Fin 2) * 1 ≤ (i 0).val ∧ (i 0).val < win0_16.index ⟨15, ht⟩ (0 : Fin 2) * 1 + 1; omega
    | ⟨1, _⟩ => show win0_16.index ⟨15, ht⟩ (1 : Fin 2) * 1024 ≤ (i 1).val ∧ (i 1).val < win0_16.index ⟨15, ht⟩ (1 : Fin 2) * 1024 + 1024; omega

end Body

end Kernel

section Reference

open Cert.MergeRefIdeal Cert.MergeRefIdeal.Facts₀ Cert.MergeRefIdeal.Facts Cert.Proof.Products

variable (x0 : FVec Ideal S8192x1024 .f32) (x1 : FVec Ideal S1x1024 .f32) (x2 : FVec Ideal S8192x1024 .bf16) (x3 : FVec Ideal S8192x2048 .bf16)
  (x4 : FVec Ideal S8192x2048 .f32) (x5 : FVec Ideal S1024x1024 .bf16) (x6 : FVec Ideal S2048x1024 .bf16) (x7 : FVec Ideal S1024x1024 .bf16)

/-- The reference's forward values: the gates, the projections, the output. -/
def rone : FVec Ideal S8192x1024 .f32 := broadcastInDim S8192x1024 ![] bcast_S_S8192x1024 (constant S_ .f32 0x3F800000#32)

def rsa : FVec Ideal S8192x1024 .f32 := Host.divf rone (addf rone (Host.exp (Host.negf (extractStridedSlice S8192x1024 ![0, 0] x4 slices_S8192x2048_S8192x1024_0_0))))

def rsb : FVec Ideal S8192x1024 .f32 := Host.divf rone (addf rone (Host.exp (Host.negf (extractStridedSlice S8192x1024 ![0, 1024] x4 slices_S8192x2048_S8192x1024_0_1024))))

def rA : FVec Ideal S8192x1024 .f32 :=
  Host.dotGeneral dot_S8192x1024_S1024x1024_S8192x1024_1_0_0_1_n_n none (extf .f32 x2 bitsLt_bf16_f32) (extf .f32 x5 bitsLt_bf16_f32)

def rB : FVec Ideal S8192x1024 .f32 :=
  Host.dotGeneral dot_S8192x2048_S2048x1024_S8192x1024_1_0_0_1_n_n none (extf .f32 x3 bitsLt_bf16_f32) (extf .f32 x6 bitsLt_bf16_f32)

def rO : FVec Ideal S8192x1024 .f32 :=
  Host.dotGeneral dot_S8192x1024_S1024x1024_S8192x1024_1_0_0_1_n_n none (addf (mulf (rsa x4) (rA x2 x5)) (mulf (rsb x4) (rB x3 x6))) (extf .f32 x7 bitsLt_bf16_f32)

/-- Its gradients of the output, of the merged branches, of the projections and of the gates. -/
def rup : FVec Ideal S8192x1024 .f32 :=
  mulf (broadcastInDim S8192x1024 ![0, 1] bcast_S1x1024_S8192x1024_0_1 x1) (shapeCast _ x0 shapeCasts_S8192x1024_S8192x1024)

def rmid : FVec Ideal S8192x1024 .f32 := Host.dotGeneral dot_S8192x1024_S1024x1024_S8192x1024_1_1_0_0_n_n none (rup x0 x1) (extf .f32 x7 bitsLt_bf16_f32)

def rga (s a : FVec Ideal S8192x1024 .f32) : FVec Ideal S8192x1024 .f32 := mulf (mulf (rmid x0 x1 x7) a) (mulf s (subf rone s))

/-- The reference's arguments and forward values. -/
def rtabs : Tabs where
  X := tab (M := 8192) (N := 1024) x0
  g := tab (M := 1) (N := 1024) x1
  Wo := tab (M := 1024) (N := 1024) x7
  Wa := tab (M := 1024) (N := 1024) x5
  Wb := tab (M := 2048) (N := 1024) x6
  P := tab (M := 8192) (N := 2048) x4
  A := tab (M := 8192) (N := 1024) (rA x2 x5)
  B := tab (M := 8192) (N := 1024) (rB x3 x6)
  O := tab (M := 8192) (N := 1024) (rO x2 x3 x4 x5 x6 x7)

theorem rup_eq (i : S8192x1024.Idx) : rup x0 x1 i = (rtabs x0 x1 x2 x3 x4 x5 x6 x7).up (i 0).val (i 1).val := by
  unfold rup
  rw [shapeCast_self]
  refine (mul_comm (_ : EReal) _).trans (congrArg₂ (HMul.hMul (α := EReal)) (eq_tab (M := 8192) (N := 1024) x0 i) ?_)
  exact (broadcastInDim_apply _ _ _ i (ix2 (0 : Fin 1) (i 1) : S1x1024.Idx)
    (fun a => by match a with | ⟨0, _⟩ => rfl | ⟨1, _⟩ => exact (if_neg (show ¬ (1024 : ℕ) = 1 by omega)).symm)).trans (eq_tab (M := 1) (N := 1024) x1 _)

theorem rmid_eq (i : S8192x1024.Idx) : rmid x0 x1 x7 i = (rtabs x0 x1 x2 x3 x4 x5 x6 x7).mid (i 0).val (i 1).val := by
  refine (dot_nt (M := 8192) (K := 1024) (N := 1024) (φ₁ := .f32) (φ₂ := .f32) _ none _ _ i).trans (Finset.sum_congr rfl fun r hr => ?_)
  exact congrArg (HMul.hMul (α := EReal) · _) ((tab_of_lt _ (i 0).isLt (Finset.mem_range.mp hr)).trans (rup_eq x0 x1 x2 x3 x4 x5 x6 x7 _))

theorem rsa_eq (i : S8192x1024.Idx) : rsa x4 i = (rtabs x0 x1 x2 x3 x4 x5 x6 x7).sa (i 0).val (i 1).val := by
  have h1 : (i 1).val < 1024 := (i 1).isLt
  refine (Sigmoid.div_eq _).trans (congrArg Ideal.logistic ?_)
  exact (extractStridedSlice_apply _ _ _ i (ix2 (i 0) ⟨(i 1).val, by omega⟩ : S8192x2048.Idx)
    (fun a => by match a with | ⟨0, _⟩ => exact (Nat.zero_add _).symm | ⟨1, _⟩ => exact (Nat.zero_add _).symm)).trans (eq_tab (M := 8192) (N := 2048) x4 _)

theorem rsb_eq (i : S8192x1024.Idx) : rsb x4 i = (rtabs x0 x1 x2 x3 x4 x5 x6 x7).sb (i 0).val (i 1).val := by
  have h1 : (i 1).val < 1024 := (i 1).isLt
  refine (Sigmoid.div_eq _).trans (congrArg Ideal.logistic ?_)
  exact (extractStridedSlice_apply _ _ _ i (ix2 (i 0) ⟨1024 + (i 1).val, by omega⟩ : S8192x2048.Idx)
    (fun a => by match a with | ⟨0, _⟩ => exact (Nat.zero_add _).symm | ⟨1, _⟩ => rfl)).trans (eq_tab (M := 8192) (N := 2048) x4 _)

theorem rpa_eq (i : S8192x1024.Idx) : mulf (rsa x4) (rmid x0 x1 x7) i = (rtabs x0 x1 x2 x3 x4 x5 x6 x7).pa (i 0).val (i 1).val :=
  (mul_comm (_ : EReal) _).trans (congrArg₂ (HMul.hMul (α := EReal)) (rmid_eq x0 x1 x2 x3 x4 x5 x6 x7 i) (rsa_eq x0 x1 x2 x3 x4 x5 x6 x7 i))

theorem rpb_eq (i : S8192x1024.Idx) : mulf (rsb x4) (rmid x0 x1 x7) i = (rtabs x0 x1 x2 x3 x4 x5 x6 x7).pb (i 0).val (i 1).val :=
  (mul_comm (_ : EReal) _).trans (congrArg₂ (HMul.hMul (α := EReal)) (rmid_eq x0 x1 x2 x3 x4 x5 x6 x7 i) (rsb_eq x0 x1 x2 x3 x4 x5 x6 x7 i))

theorem rgates_eq (i : S8192x2048.Idx) : concatenate S8192x2048 1 [⟨S8192x1024, rga x0 x1 x7 (rsa x4) (rA x2 x5)⟩, ⟨S8192x1024, rga x0 x1 x7 (rsb x4) (rB x3 x6)⟩]
      concatenates_S8192x1024_S8192x1024_S8192x2048_d1 i = (rtabs x0 x1 x2 x3 x4 x5 x6 x7).gates (i 0).val (i 1).val := by
  have h1 : (i 1).val < 2048 := (i 1).isLt
  unfold Tabs.gates
  by_cases h : (i 1).val < 1024
  · rw [if_pos h]
    refine (concatenate_pair_apply_left (t := S8192x2048) (s₁ := S8192x1024) (s₂ := S8192x1024) 1 _ _ _ i rfl (ix2 (i 0) ⟨(i 1).val, h⟩ : S8192x1024.Idx)
      (fun b => by match b with | ⟨0, _⟩ => rfl | ⟨1, _⟩ => rfl)).trans ((mul_assoc (_ : EReal) _ _).symm.trans ?_)
    exact congrArg₂ (HMul.hMul (α := EReal)) (congrArg₂ (HMul.hMul (α := EReal)) (congrArg₂ (HMul.hMul (α := EReal)) (rmid_eq x0 x1 x2 x3 x4 x5 x6 x7 _)
      (eq_tab (M := 8192) (N := 1024) _ _)) (rsa_eq x0 x1 x2 x3 x4 x5 x6 x7 _)) (congrArg (HSub.hSub (α := EReal) Tabs.one) (rsa_eq x0 x1 x2 x3 x4 x5 x6 x7 _))
  · rw [if_neg h]
    refine (concatenate_pair_apply_right (t := S8192x2048) (s₁ := S8192x1024) (s₂ := S8192x1024) 1 _ _ _ i rfl rfl (ix2 (i 0) ⟨(i 1).val - 1024, by omega⟩ : S8192x1024.Idx)
      (fun b hb => by match b with | ⟨0, _⟩ => rfl | ⟨1, _⟩ => exact absurd rfl hb) (show (i 1).val - 1024 + 1024 = (i 1).val by omega)).trans ((mul_assoc (_ : EReal) _ _).symm.trans ?_)
    exact congrArg₂ (HMul.hMul (α := EReal)) (congrArg₂ (HMul.hMul (α := EReal)) (congrArg₂ (HMul.hMul (α := EReal)) (rmid_eq x0 x1 x2 x3 x4 x5 x6 x7 _)
      (eq_tab (M := 8192) (N := 1024) _ _)) (rsb_eq x0 x1 x2 x3 x4 x5 x6 x7 _)) (congrArg (HSub.hSub (α := EReal) Tabs.one) (rsb_eq x0 x1 x2 x3 x4 x5 x6 x7 _))

theorem rya_eq (i : S8192x1024.Idx) : Host.dotGeneral dot_S8192x1024_S1024x1024_S8192x1024_1_1_0_0_n_n none (mulf (rsa x4) (rmid x0 x1 x7)) (extf .f32 x5 bitsLt_bf16_f32) i
    = (rtabs x0 x1 x2 x3 x4 x5 x6 x7).ya (i 0).val (i 1).val := by
  refine (dot_nt (M := 8192) (K := 1024) (N := 1024) (φ₁ := .f32) (φ₂ := .f32) _ none _ _ i).trans (Finset.sum_congr rfl fun r hr => ?_)
  exact congrArg (HMul.hMul (α := EReal) · _) ((tab_of_lt _ (i 0).isLt (Finset.mem_range.mp hr)).trans (rpa_eq x0 x1 x2 x3 x4 x5 x6 x7 _))

theorem ryb_eq (i : S8192x2048.Idx) : Host.dotGeneral dot_S8192x1024_S2048x1024_S8192x2048_1_1_0_0_n_n none (mulf (rsb x4) (rmid x0 x1 x7)) (extf .f32 x6 bitsLt_bf16_f32) i
    = (rtabs x0 x1 x2 x3 x4 x5 x6 x7).yb (i 0).val (i 1).val := by
  refine (dot_nt (M := 8192) (K := 1024) (N := 2048) (φ₁ := .f32) (φ₂ := .f32) _ none _ _ i).trans (Finset.sum_congr rfl fun r hr => ?_)
  exact congrArg (HMul.hMul (α := EReal) · _) ((tab_of_lt _ (i 0).isLt (Finset.mem_range.mp hr)).trans (rpb_eq x0 x1 x2 x3 x4 x5 x6 x7 _))

theorem rgate_eq (i : S1x1024.Idx) : shapeCast S1x1024 (Host.reduceAdd (mulf (shapeCast _ x0 shapeCasts_S8192x1024_S8192x1024) (rO x2 x3 x4 x5 x6 x7))
      (constant S_ .f32 0x00000000#32) reducesTo_S8192x1024_S1024_d0 h_S_ : FVec Ideal S1024 .f32) shapeCasts_S1024_S1x1024 i = (rtabs x0 x1 x2 x3 x4 x5 x6 x7).gate (i 1).val := by
  rw [shapeCast_self]
  refine (shapeCast_apply (t := S1x1024) _ _ i (ix1 (i 1)) (by
    rw [Shape.rowMajor_val_one, Shape.rowMajor_val_two]; have : (i 0).val < 1 := (i 0).isLt; simp; omega)).trans ?_
  simp only [Host.reduceAdd, Ideal.hostReduceAdd_def]
  refine (Ideal.hostReduceAdd_single _ (by decide) _ _ _).trans ((congrArg₂ (HAdd.hAdd (α := EReal)) Ideal.ofBits_zero_f32 ?_).trans (zero_add _))
  unfold Tabs.gate
  rw [Finset.sum_range]
  exact Finset.sum_congr rfl fun k _ => congrArg₂ (HMul.hMul (α := EReal)) (eq_tab (M := 8192) (N := 1024) x0 _) (eq_tab (M := 8192) (N := 1024) _ _)

end Reference

section Arguments

open Cert.MergeIdeal Cert.MergeIdeal.Gen

variable (m : (ℓ : Loc nD τ sig) → Buf (Elt Ideal) ℓ) (c : Dev nD)

/-- The kernel's forward values are the reference's. -/
theorem V_A : (V m c main_v22 : FVec Ideal S8192x1024 .bf16) = rA (m ((c : Thread nD τ).loc main_arg2)) (m ((c : Thread nD τ).loc main_arg5)) := by
  unfold V
  simp only [hostOps0]
  after_reads_simp
  rfl

theorem V_B : (V m c main_v23 : FVec Ideal S8192x1024 .bf16) = rB (m ((c : Thread nD τ).loc main_arg3)) (m ((c : Thread nD τ).loc main_arg6)) := by
  unfold V
  simp only [hostOps0]
  after_reads_simp
  rfl

theorem V_O : (V m c main_v21 : FVec Ideal S8192x1024 .bf16) = rO (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  unfold V
  simp only [hostOps0]
  after_reads_simp
  rfl

theorem tabs_eq : tabs m c = rtabs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) := by
  unfold tabs rtabs
  rw [V_A, V_B, V_O, V_main_arg0, V_main_arg1, V_main_arg4, V_main_arg5, V_main_arg6, V_main_arg7]

end Arguments

theorem frame_p : Cert.quiescent_Merge := fun m ρ _ => Cert.Merge.Gen.frame m ρ

theorem frame_pi : Cert.quiescent_MergeIdeal := fun m ρ _ => Cert.MergeIdeal.Gen.frame m ρ

theorem frame_ri : Cert.quiescent_MergeRefIdeal := fun m ρ _ =>
  (θ_run Cert.MergeRefIdeal.defs _ _).mono (fun r h => ⟨fun c => (h c).2.2.2.2.2.2.2, Idealize.ShloMosaic.sem_eq_zero_of_no_sems (by decide) r.2⟩)
    (Cert.MergeRefIdeal.Value.run (F := Ideal) m ρ)

theorem preserves : Cert.preserves_Merge_MergeIdeal := trivial

set_option maxHeartbeats 1600000 in
theorem algebraic : Cert.algebraic_MergeIdeal_MergeRefIdeal := by
  intro m ρ m' ρ' _ hagree
  refine ⟨_, _, _, _, _, _, _, Cert.MergeIdeal.Value.run_blocks (F := Ideal) m ρ, ?_⟩
  refine (θ_run Cert.MergeRefIdeal.defs _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2.1.trans ?_, (h c).2.2.2.2.2.2.2⟩)
    (Cert.MergeRefIdeal.Value.run (F := Ideal) m' ρ')
  all_goals obtain ⟨e0, e1, e2, e3, e4, e5, e6, e7⟩ := hagree c
  · rw [e0, e1, value_10, tabs_eq]
    refine Eq.trans ?_ (funext fun i => rup_eq _ _ _ _ _ _ _ _ i)
    unfold rup
    rfl
  · rw [e0, e1, e4, e7, value_11, tabs_eq]
    refine Eq.trans ?_ (funext fun i => rpa_eq _ _ _ _ _ _ _ _ i)
    unfold rmid rup rsa rone
    rfl
  · rw [e0, e1, e4, e7, value_12, tabs_eq]
    refine Eq.trans ?_ (funext fun i => rpb_eq _ _ _ _ _ _ _ _ i)
    unfold rmid rup rsb rone
    rfl
  · rw [e0, e1, e2, e3, e4, e5, e6, e7, value_13, tabs_eq]
    refine Eq.trans ?_ (funext fun i => rgates_eq _ _ _ _ _ _ _ _ i)
    unfold rga rmid rup rsa rsb rA rB rone
    rfl
  · rw [e0, e1, e4, e5, e7, value_14, tabs_eq]
    refine Eq.trans ?_ (funext fun i => rya_eq _ _ _ _ _ _ _ _ i)
    unfold rmid rup rsa rone
    rfl
  · rw [e0, e1, e4, e6, e7, value_15, tabs_eq]
    refine Eq.trans ?_ (funext fun i => ryb_eq _ _ _ _ _ _ _ _ i)
    unfold rmid rup rsb rone
    rfl
  · rw [e0, e2, e3, e4, e5, e6, e7, value_16, tabs_eq]
    refine Eq.trans ?_ (funext fun i => rgate_eq _ _ _ _ _ _ _ _ i)
    unfold rO rA rB rsa rsb rone
    rfl

end Cert.Proof.Merge

end
-- ==== Proof.MergeFwd.lean ====
/-
  The merge, forward: the branches' projections, their sum under the two gates, the output product and the residual. Each
  block of rows is computed from the rows' blocks, and the whole is the reference's, for all arguments.
-/
module

public import proofs.«01_k».proof.Proof.Merge
public import proofs.«01_k».proof.Proof.Gen.MergeFwd.Frame
public import proofs.«01_k».proof.Proof.Gen.MergeFwdIdeal.Value
public import proofs.«01_k».proof.Proof.Gen.MergeFwdRefIdeal.Run

@[expose] public section

set_option maxRecDepth 16384

noncomputable section

open Idealize.ShloMosaic hiding ix1 ix2 ix3 eq_ix2
open Idealize.ShloMosaic.ValueIdx Idealize.ShloMosaic.TcCoe Idealize.SL.Sem
open Finset (range)

namespace Cert.Proof.MergeFwd

open Cert.Proof.Products

/-- The arguments as tables: the residual stream, the gate, the branches, the two gates side by side, the three weights. -/
structure Tabs where
  (X g Ya Yb P Wa Wb Wo : ℕ → ℕ → EReal)

namespace Tabs

variable (T : Tabs) (i j : ℕ)

/-- The branches' projections. -/
def pa : EReal := ∑ r ∈ range 1024, T.Ya i r * T.Wa r j
def pb : EReal := ∑ r ∈ range 2048, T.Yb i r * T.Wb r j

/-- Their sum under the gates, its product with the output weights, and the residual. -/
def sum : EReal := Ideal.logistic (T.P i j) * T.pa i j + Ideal.logistic (T.P i (1024 + j)) * T.pb i j
def out : EReal := ∑ r ∈ range 1024, T.sum i r * T.Wo r j
def res : EReal := T.X i j + T.g 0 j * T.out i j

end Tabs

section Kernel

open Cert.MergeFwdIdeal Cert.MergeFwdIdeal.Gen Cert.MergeFwdIdeal.Value

variable (m : (ℓ : Loc nD τ sig) → Buf (Elt Ideal) ℓ) (c : Dev nD)

/-- The kernel's arguments. -/
def tabs : Tabs where
  X := tab (M := 8192) (N := 1024) (V m c main_arg3)
  g := tab (M := 1) (N := 1024) (V m c main_arg4)
  Ya := tab (M := 8192) (N := 1024) (V m c main_arg0)
  Yb := tab (M := 8192) (N := 2048) (V m c main_arg1)
  P := tab (M := 8192) (N := 2048) (V m c main_arg2)
  Wa := tab (M := 1024) (N := 1024) (V m c main_arg5)
  Wb := tab (M := 2048) (N := 1024) (V m c main_arg6)
  Wo := tab (M := 1024) (N := 1024) (V m c main_arg7)

theorem size : cfg0.N = 16 := by decide

theorem hz : (![0, 0] : Fin 2 → Nat) = fun _ => 0 := funext fun a => by fin_cases a <;> rfl

/-! ## Where the blocks lie -/

theorem places : ∀ t : Fin cfg0.N, (win0_0.index t = ![t.val, 0] ∧ win0_1.index t = ![t.val, 0] ∧ win0_2.index t = ![t.val, 0] ∧ win0_4.index t = ![t.val, 0]) ∧ win0_3.index t = ![t.val, 1] ∧ win0_5.index t = ![0, 0] ∧ win0_6.index t = ![0, 0] ∧ win0_7.index t = ![0, 0] ∧ win0_8.index t = ![0, 0] :=
  (by decide +kernel : ∀ t : Fin grid0.N, _)

variable (t : Fin cfg0.N)

theorem block_0 (y : S512x1024.Idx) : iblk m c 0 t y = (tabs m c).Ya (t.val * 512 + (y 0).val) (y 1).val :=
  Merge.tab_at (M := 8192) (N := 1024) (V m c main_arg0) (((cfg0.win 0).blk t).view.emb y) (Merge.row (congrFun (places t).1.1 0) _) (Merge.whole (congrFun (places t).1.1 1) _)

theorem block_1 (y : S512x2048.Idx) : iblk m c 1 t y = (tabs m c).Yb (t.val * 512 + (y 0).val) (y 1).val :=
  Merge.tab_at (M := 8192) (N := 2048) (V m c main_arg1) (((cfg0.win 1).blk t).view.emb y) (Merge.row (congrFun (places t).1.2.1 0) _) (Merge.whole (congrFun (places t).1.2.1 1) _)

theorem block_2 (y : S512x1024.Idx) : iblk m c 2 t y = (tabs m c).P (t.val * 512 + (y 0).val) (y 1).val :=
  Merge.tab_at (M := 8192) (N := 2048) (V m c main_arg2) (((cfg0.win 2).blk t).view.emb y) (Merge.row (congrFun (places t).1.2.2.1 0) _) (Merge.whole (congrFun (places t).1.2.2.1 1) _)

theorem block_3 (y : S512x1024.Idx) : iblk m c 3 t y = (tabs m c).P (t.val * 512 + (y 0).val) (1024 + (y 1).val) :=
  Merge.tab_at (M := 8192) (N := 2048) (V m c main_arg2) (((cfg0.win 3).blk t).view.emb y) (Merge.row (congrFun (places t).2.1 0) _) (Merge.right (congrFun (places t).2.1 1) _)

theorem block_4 (y : S512x1024.Idx) : iblk m c 4 t y = (tabs m c).X (t.val * 512 + (y 0).val) (y 1).val :=
  Merge.tab_at (M := 8192) (N := 1024) (V m c main_arg3) (((cfg0.win 4).blk t).view.emb y) (Merge.row (congrFun (places t).1.2.2.2 0) _) (Merge.whole (congrFun (places t).1.2.2.2 1) _)

theorem block_5 (y : S1x1024.Idx) : iblk m c 5 t y = (tabs m c).g (y 0).val (y 1).val :=
  Merge.tab_at (M := 1) (N := 1024) (V m c main_arg4) (((cfg0.win 5).blk t).view.emb y) (Merge.whole (congrFun (places t).2.2.1 0) _) (Merge.whole (congrFun (places t).2.2.1 1) _)

theorem block_6 (y : S1024x1024.Idx) : iblk m c 6 t y = (tabs m c).Wa (y 0).val (y 1).val :=
  Merge.tab_at (M := 1024) (N := 1024) (V m c main_arg5) (((cfg0.win 6).blk t).view.emb y) (Merge.whole (congrFun (places t).2.2.2.1 0) _) (Merge.whole (congrFun (places t).2.2.2.1 1) _)

theorem block_7 (y : S2048x1024.Idx) : iblk m c 7 t y = (tabs m c).Wb (y 0).val (y 1).val :=
  Merge.tab_at (M := 2048) (N := 1024) (V m c main_arg6) (((cfg0.win 7).blk t).view.emb y) (Merge.whole (congrFun (places t).2.2.2.2.1 0) _) (Merge.whole (congrFun (places t).2.2.2.2.1 1) _)

theorem block_8 (y : S1024x1024.Idx) : iblk m c 8 t y = (tabs m c).Wo (y 0).val (y 1).val :=
  Merge.tab_at (M := 1024) (N := 1024) (V m c main_arg7) (((cfg0.win 8).blk t).view.emb y) (Merge.whole (congrFun (places t).2.2.2.2.2 0) _) (Merge.whole (congrFun (places t).2.2.2.2.2 1) _)

/-! ## A block's results -/

theorem pa_block (y : S512x1024.Idx) : k0_pay5 (F := Ideal) (iblk m c 0 t) (iblk m c 6 t) y = (tabs m c).pa (t.val * 512 + (y 0).val) (y 1).val := by
  refine (matmul_nn (M := 512) (K := 1024) (N := 1024) (φ₁ := .bf16) (φ₂ := .bf16) _ none _ _ y).trans (Finset.sum_congr rfl fun r hr => ?_)
  have hr := Finset.mem_range.mp hr
  exact congrArg₂ (HMul.hMul (α := EReal)) ((tab_of_lt _ (y 0).isLt hr).trans (block_0 m c t _)) ((tab_of_lt _ hr (y 1).isLt).trans (block_6 m c t _))

theorem pb_block (y : S512x1024.Idx) : k0_pay6 (F := Ideal) (iblk m c 1 t) (iblk m c 7 t) y = (tabs m c).pb (t.val * 512 + (y 0).val) (y 1).val := by
  refine (matmul_nn (M := 512) (K := 2048) (N := 1024) (φ₁ := .bf16) (φ₂ := .bf16) _ none _ _ y).trans (Finset.sum_congr rfl fun r hr => ?_)
  have hr := Finset.mem_range.mp hr
  exact congrArg₂ (HMul.hMul (α := EReal)) ((tab_of_lt _ (y 0).isLt hr).trans (block_1 m c t _)) ((tab_of_lt _ hr (y 1).isLt).trans (block_7 m c t _))

theorem sum_block (y : S512x1024.Idx) : k0_pay7 (F := Ideal) (iblk m c 0 t) (iblk m c 6 t) (iblk m c 1 t) (iblk m c 7 t) (iblk m c 2 t) (iblk m c 3 t) y = (tabs m c).sum (t.val * 512 + (y 0).val) (y 1).val :=
  congrArg₂ (HAdd.hAdd (α := EReal))
    (congrArg₂ (HMul.hMul (α := EReal)) ((Sigmoid.tanh_eq _).trans (congrArg Ideal.logistic (block_2 m c t y))) (pa_block m c t y))
    (congrArg₂ (HMul.hMul (α := EReal)) ((Sigmoid.tanh_eq _).trans (congrArg Ideal.logistic (block_3 m c t y))) (pb_block m c t y))

theorem out_block (y : S512x1024.Idx) : k0_pay8 (F := Ideal) (iblk m c 0 t) (iblk m c 6 t) (iblk m c 1 t) (iblk m c 7 t) (iblk m c 2 t) (iblk m c 3 t) (iblk m c 8 t) y = (tabs m c).out (t.val * 512 + (y 0).val) (y 1).val := by
  refine (matmul_nn (M := 512) (K := 1024) (N := 1024) (φ₁ := .bf16) (φ₂ := .bf16) _ none _ _ y).trans (Finset.sum_congr rfl fun r hr => ?_)
  have hr := Finset.mem_range.mp hr
  exact congrArg₂ (HMul.hMul (α := EReal)) ((tab_of_lt _ (y 0).isLt hr).trans (sum_block m c t _)) ((tab_of_lt _ hr (y 1).isLt).trans (block_8 m c t _))

theorem res_block (y : S512x1024.Idx) : k0_pay1 (F := Ideal) (iblk m c 4 t) (k0_pay9 (iblk m c 0 t) (iblk m c 6 t) (iblk m c 1 t) (iblk m c 7 t) (iblk m c 2 t) (iblk m c 3 t) (iblk m c 8 t) (iblk m c 5 t)) y = (tabs m c).res (t.val * 512 + (y 0).val) (y 1).val := by
  refine congrArg₂ (HAdd.hAdd (α := EReal)) (block_4 m c t y) (congrArg₂ (HMul.hMul (α := EReal)) ?_ (out_block m c t y))
  exact ((congrArg _ (eq_ix2 y)).trans (broadcastTo_1b_ab_apply (a := 512) (b := 1024) _ _ (y 0) (y 1))).trans (block_5 m c t _)

/-! ## The arrays -/

/-- The point that computes a row. -/
def point (r : Fin 8192) : Fin cfg0.N := ⟨r.val / 512, by rw [size]; omega⟩

theorem place_9 : ∀ t : Fin cfg0.N, win0_9.index t = ![t.val, 0] ∧ (cfg0.win 9).flush t = true := (by decide +kernel : ∀ t : Fin grid0.N, _)

theorem value_9 : (dats m 0 c).arrAt 9 cfg0.N = fun i : S8192x1024.Idx => (tabs m c).res (i 0).val (i 1).val := by
  refine (dats m 0 c).arrAt_eq_of_cover 9 _ (fun t _ => ?_) (fun i : S8192x1024.Idx => ⟨point (i 0), (place_9 _).2, ?_⟩)
  · rw [flushed9]
    unfold out0_9
    rw [View.canon_unit_zero (S := S512x1024) hz]
    simp only [View.ld_unit_zero (S := S512x1024) hz, View.ld_unit_zero (S := S512x2048) hz, View.ld_unit_zero (S := S1024x1024) hz, View.ld_unit_zero (S := S2048x1024) hz,
      View.ld_unit_zero (S := S1x1024) hz]
    exact funext fun y => (res_block m c t y).trans (congrArg₂ (tabs m c).res (Merge.row (congrFun (place_9 t).1 0) _).symm (Merge.whole (congrFun (place_9 t).1 1) _).symm)
  · exact (congrArg (Membership.mem · i) (View.set_slice_whole _ _)).mpr
      (Merge.covers (C := 1024) _ _ i (congrArg (· * 512) (congrFun (place_9 _).1 0)) ((congrArg (· * 1024) (congrFun (place_9 _).1 1)).trans (Nat.zero_mul _)))

theorem place_10 : ∀ t : Fin cfg0.N, win0_10.index t = ![t.val, 0] ∧ (cfg0.win 10).flush t = true := (by decide +kernel : ∀ t : Fin grid0.N, _)

theorem value_10 : (dats m 0 c).arrAt 10 cfg0.N = fun i : S8192x1024.Idx => (tabs m c).pa (i 0).val (i 1).val := by
  refine (dats m 0 c).arrAt_eq_of_cover 10 _ (fun t _ => ?_) (fun i : S8192x1024.Idx => ⟨point (i 0), (place_10 _).2, ?_⟩)
  · rw [flushed10]
    unfold out0_10
    rw [View.canon_unit_zero (S := S512x1024) hz]
    simp only [View.ld_unit_zero (S := S512x1024) hz, View.ld_unit_zero (S := S512x2048) hz, View.ld_unit_zero (S := S1024x1024) hz, View.ld_unit_zero (S := S2048x1024) hz,
      View.ld_unit_zero (S := S1x1024) hz]
    exact funext fun y => (pa_block m c t y).trans (congrArg₂ (tabs m c).pa (Merge.row (congrFun (place_10 t).1 0) _).symm (Merge.whole (congrFun (place_10 t).1 1) _).symm)
  · exact (congrArg (Membership.mem · i) (View.set_slice_whole _ _)).mpr
      (Merge.covers (C := 1024) _ _ i (congrArg (· * 512) (congrFun (place_10 _).1 0)) ((congrArg (· * 1024) (congrFun (place_10 _).1 1)).trans (Nat.zero_mul _)))

theorem place_11 : ∀ t : Fin cfg0.N, win0_11.index t = ![t.val, 0] ∧ (cfg0.win 11).flush t = true := (by decide +kernel : ∀ t : Fin grid0.N, _)

theorem value_11 : (dats m 0 c).arrAt 11 cfg0.N = fun i : S8192x1024.Idx => (tabs m c).pb (i 0).val (i 1).val := by
  refine (dats m 0 c).arrAt_eq_of_cover 11 _ (fun t _ => ?_) (fun i : S8192x1024.Idx => ⟨point (i 0), (place_11 _).2, ?_⟩)
  · rw [flushed11]
    unfold out0_11
    rw [View.canon_unit_zero (S := S512x1024) hz]
    simp only [View.ld_unit_zero (S := S512x1024) hz, View.ld_unit_zero (S := S512x2048) hz, View.ld_unit_zero (S := S1024x1024) hz, View.ld_unit_zero (S := S2048x1024) hz,
      View.ld_unit_zero (S := S1x1024) hz]
    exact funext fun y => (pb_block m c t y).trans (congrArg₂ (tabs m c).pb (Merge.row (congrFun (place_11 t).1 0) _).symm (Merge.whole (congrFun (place_11 t).1 1) _).symm)
  · exact (congrArg (Membership.mem · i) (View.set_slice_whole _ _)).mpr
      (Merge.covers (C := 1024) _ _ i (congrArg (· * 512) (congrFun (place_11 _).1 0)) ((congrArg (· * 1024) (congrFun (place_11 _).1 1)).trans (Nat.zero_mul _)))

theorem place_12 : ∀ t : Fin cfg0.N, win0_12.index t = ![t.val, 0] ∧ (cfg0.win 12).flush t = true := (by decide +kernel : ∀ t : Fin grid0.N, _)

theorem value_12 : (dats m 0 c).arrAt 12 cfg0.N = fun i : S8192x1024.Idx => (tabs m c).sum (i 0).val (i 1).val := by
  refine (dats m 0 c).arrAt_eq_of_cover 12 _ (fun t _ => ?_) (fun i : S8192x1024.Idx => ⟨point (i 0), (place_12 _).2, ?_⟩)
  · rw [flushed12]
    unfold out0_12
    rw [View.canon_unit_zero (S := S512x1024) hz]
    simp only [View.ld_unit_zero (S := S512x1024) hz, View.ld_unit_zero (S := S512x2048) hz, View.ld_unit_zero (S := S1024x1024) hz, View.ld_unit_zero (S := S2048x1024) hz,
      View.ld_unit_zero (S := S1x1024) hz]
    exact funext fun y => (sum_block m c t y).trans (congrArg₂ (tabs m c).sum (Merge.row (congrFun (place_12 t).1 0) _).symm (Merge.whole (congrFun (place_12 t).1 1) _).symm)
  · exact (congrArg (Membership.mem · i) (View.set_slice_whole _ _)).mpr
      (Merge.covers (C := 1024) _ _ i (congrArg (· * 512) (congrFun (place_12 _).1 0)) ((congrArg (· * 1024) (congrFun (place_12 _).1 1)).trans (Nat.zero_mul _)))

theorem place_13 : ∀ t : Fin cfg0.N, win0_13.index t = ![t.val, 0] ∧ (cfg0.win 13).flush t = true := (by decide +kernel : ∀ t : Fin grid0.N, _)

theorem value_13 : (dats m 0 c).arrAt 13 cfg0.N = fun i : S8192x1024.Idx => (tabs m c).out (i 0).val (i 1).val := by
  refine (dats m 0 c).arrAt_eq_of_cover 13 _ (fun t _ => ?_) (fun i : S8192x1024.Idx => ⟨point (i 0), (place_13 _).2, ?_⟩)
  · rw [flushed13]
    unfold out0_13
    rw [View.canon_unit_zero (S := S512x1024) hz]
    simp only [View.ld_unit_zero (S := S512x1024) hz, View.ld_unit_zero (S := S512x2048) hz, View.ld_unit_zero (S := S1024x1024) hz, View.ld_unit_zero (S := S2048x1024) hz,
      View.ld_unit_zero (S := S1x1024) hz]
    exact funext fun y => (out_block m c t y).trans (congrArg₂ (tabs m c).out (Merge.row (congrFun (place_13 t).1 0) _).symm (Merge.whole (congrFun (place_13 t).1 1) _).symm)
  · exact (congrArg (Membership.mem · i) (View.set_slice_whole _ _)).mpr
      (Merge.covers (C := 1024) _ _ i (congrArg (· * 512) (congrFun (place_13 _).1 0)) ((congrArg (· * 1024) (congrFun (place_13 _).1 1)).trans (Nat.zero_mul _)))

end Kernel

section Reference

open Cert.MergeRefIdeal Cert.MergeRefIdeal.Facts₀ Cert.MergeRefIdeal.Facts

variable (x0 : FVec Ideal S8192x1024 .f32) (x1 : FVec Ideal S1x1024 .f32) (x2 : FVec Ideal S8192x1024 .bf16) (x3 : FVec Ideal S8192x2048 .bf16)
  (x4 : FVec Ideal S8192x2048 .f32) (x5 : FVec Ideal S1024x1024 .bf16) (x6 : FVec Ideal S2048x1024 .bf16) (x7 : FVec Ideal S1024x1024 .bf16)

/-- The reference's arguments. -/
def rtabs : Tabs where
  X := tab (M := 8192) (N := 1024) x0
  g := tab (M := 1) (N := 1024) x1
  Ya := tab (M := 8192) (N := 1024) x2
  Yb := tab (M := 8192) (N := 2048) x3
  P := tab (M := 8192) (N := 2048) x4
  Wa := tab (M := 1024) (N := 1024) x5
  Wb := tab (M := 2048) (N := 1024) x6
  Wo := tab (M := 1024) (N := 1024) x7

theorem rpa_eq (i : S8192x1024.Idx) : Merge.rA x2 x5 i = (rtabs x0 x1 x2 x3 x4 x5 x6 x7).pa (i 0).val (i 1).val :=
  dot_nn (M := 8192) (K := 1024) (N := 1024) (φ₁ := .f32) (φ₂ := .f32) _ none _ _ i

theorem rpb_eq (i : S8192x1024.Idx) : Merge.rB x3 x6 i = (rtabs x0 x1 x2 x3 x4 x5 x6 x7).pb (i 0).val (i 1).val :=
  dot_nn (M := 8192) (K := 2048) (N := 1024) (φ₁ := .f32) (φ₂ := .f32) _ none _ _ i

theorem rsum_eq (i : S8192x1024.Idx) :
    addf (mulf (Merge.rsa x4) (Merge.rA x2 x5)) (mulf (Merge.rsb x4) (Merge.rB x3 x6)) i = (rtabs x0 x1 x2 x3 x4 x5 x6 x7).sum (i 0).val (i 1).val :=
  congrArg₂ (HAdd.hAdd (α := EReal)) (congrArg₂ (HMul.hMul (α := EReal)) (Merge.rsa_eq x0 x1 x2 x3 x4 x5 x6 x7 i) (rpa_eq x0 x1 x2 x3 x4 x5 x6 x7 i))
    (congrArg₂ (HMul.hMul (α := EReal)) (Merge.rsb_eq x0 x1 x2 x3 x4 x5 x6 x7 i) (rpb_eq x0 x1 x2 x3 x4 x5 x6 x7 i))

theorem rout_eq (i : S8192x1024.Idx) : Merge.rO x2 x3 x4 x5 x6 x7 i = (rtabs x0 x1 x2 x3 x4 x5 x6 x7).out (i 0).val (i 1).val := by
  refine (dot_nn (M := 8192) (K := 1024) (N := 1024) (φ₁ := .f32) (φ₂ := .f32) _ none _ _ i).trans (Finset.sum_congr rfl fun r hr => ?_)
  exact congrArg (HMul.hMul (α := EReal) · _) ((tab_of_lt _ (i 0).isLt (Finset.mem_range.mp hr)).trans (rsum_eq x0 x1 x2 x3 x4 x5 x6 x7 _))

theorem rres_eq (i : S8192x1024.Idx) : addf x0 (mulf (broadcastInDim S8192x1024 ![0, 1] bcast_S1x1024_S8192x1024_0_1 x1) (Merge.rO x2 x3 x4 x5 x6 x7)) i
    = (rtabs x0 x1 x2 x3 x4 x5 x6 x7).res (i 0).val (i 1).val := by
  refine congrArg₂ (HAdd.hAdd (α := EReal)) (eq_tab (M := 8192) (N := 1024) x0 i) (congrArg₂ (HMul.hMul (α := EReal)) ?_ (rout_eq x0 x1 x2 x3 x4 x5 x6 x7 i))
  exact (broadcastInDim_apply _ _ _ i (ix2 (0 : Fin 1) (i 1) : S1x1024.Idx)
    (fun a => by match a with | ⟨0, _⟩ => rfl | ⟨1, _⟩ => exact (if_neg (show ¬ (1024 : ℕ) = 1 by omega)).symm)).trans (eq_tab (M := 1) (N := 1024) x1 _)

end Reference

section Arguments

open Cert.MergeFwdIdeal Cert.MergeFwdIdeal.Gen

theorem tabs_eq (m : (ℓ : Loc nD τ sig) → Buf (Elt Ideal) ℓ) (c : Dev nD) : tabs m c = rtabs (m ((c : Thread nD τ).loc main_arg3)) (m ((c : Thread nD τ).loc main_arg4)) (m ((c : Thread nD τ).loc main_arg0)) (m ((c : Thread nD τ).loc main_arg1))
    (m ((c : Thread nD τ).loc main_arg2)) (m ((c : Thread nD τ).loc main_arg5)) (m ((c : Thread nD τ).loc main_arg6)) (m ((c : Thread nD τ).loc main_arg7)) := by
  unfold tabs rtabs
  rw [V_main_arg0, V_main_arg1, V_main_arg2, V_main_arg3, V_main_arg4, V_main_arg5, V_main_arg6, V_main_arg7]

end Arguments

theorem frame_p : Cert.quiescent_MergeFwd := fun m ρ _ => Cert.MergeFwd.Gen.frame m ρ

theorem frame_pi : Cert.quiescent_MergeFwdIdeal := fun m ρ _ => Cert.MergeFwdIdeal.Gen.frame m ρ

theorem frame_ri : Cert.quiescent_MergeFwdRefIdeal := fun m ρ _ =>
  (θ_run Cert.MergeFwdRefIdeal.defs _ _).mono (fun r h => ⟨fun c => (h c).2.2.2.2.2, Idealize.ShloMosaic.sem_eq_zero_of_no_sems (by decide) r.2⟩)
    (Cert.MergeFwdRefIdeal.Value.run (F := Ideal) m ρ)

theorem preserves : Cert.preserves_MergeFwd_MergeFwdIdeal := trivial

set_option maxHeartbeats 1600000 in
theorem algebraic : Cert.algebraic_MergeFwdIdeal_MergeFwdRefIdeal := by
  intro m ρ m' ρ' _ hagree
  refine ⟨_, _, _, _, _, Cert.MergeFwdIdeal.Value.run_blocks (F := Ideal) m ρ, ?_⟩
  refine (θ_run Cert.MergeFwdRefIdeal.defs _ _).mono (fun _ h c => ⟨(h c).1.trans ?_, (h c).2.1.trans ?_, (h c).2.2.1.trans ?_, (h c).2.2.2.1.trans ?_,
    (h c).2.2.2.2.1.trans ?_, (h c).2.2.2.2.2⟩) (Cert.MergeFwdRefIdeal.Value.run (F := Ideal) m' ρ')
  all_goals obtain ⟨e0, e1, e2, e3, e4, e5, e6, e7⟩ := hagree c
  · rw [e0, e1, e2, e3, e4, e5, e6, e7, value_9, tabs_eq]
    refine Eq.trans ?_ (funext fun i => rres_eq _ _ _ _ _ _ _ _ i)
    unfold Merge.rO Merge.rA Merge.rB Merge.rsa Merge.rsb Merge.rone
    rfl
  · rw [e0, e5, value_10, tabs_eq]
    refine Eq.trans ?_ (funext fun i => rpa_eq _ _ _ _ _ _ _ _ i)
    unfold Merge.rA
    rfl
  · rw [e1, e6, value_11, tabs_eq]
    refine Eq.trans ?_ (funext fun i => rpb_eq _ _ _ _ _ _ _ _ i)
    unfold Merge.rB
    rfl
  · rw [e0, e1, e2, e5, e6, value_12, tabs_eq]
    refine Eq.trans ?_ (funext fun i => rsum_eq _ _ _ _ _ _ _ _ i)
    unfold Merge.rA Merge.rB Merge.rsa Merge.rsb Merge.rone
    rfl
  · rw [e0, e1, e2, e5, e6, e7, value_13, tabs_eq]
    refine Eq.trans ?_ (funext fun i => rout_eq _ _ _ _ _ _ _ _ i)
    unfold Merge.rO Merge.rA Merge.rB Merge.rsa Merge.rsb Merge.rone
    rfl

end Cert.Proof.MergeFwd

end
-- ==== Proof.Adam.lean ====
/-
  The optimiser's step on the packed small parameters: the kernel's three arrays are the reference's formulas, entry by
  entry, at all arguments.
-/
module

public import proofs.«01_k».proof.Defs
public import proofs.«01_k».proof.Proof.Gen.Adam.Frame
public import proofs.«01_k».proof.Proof.Gen.AdamIdeal.Value
public import proofs.«01_k».proof.Proof.Gen.AdamRefIdeal.Run
public import Idealize.ShloMosaic.Lib.Quiescent

@[expose] public section

noncomputable section

open Idealize.ShloMosaic Idealize.ShloMosaic.TcCoe Idealize.SL.Sem

namespace Cert.Proof.Adam

theorem frame_p : Cert.quiescent_Adam := fun m ρ _ => Cert.Adam.Gen.frame m ρ

theorem frame_pi : Cert.quiescent_AdamIdeal := fun m ρ _ => Cert.AdamIdeal.Gen.frame m ρ

theorem frame_ri : Cert.quiescent_AdamRefIdeal := fun m ρ _ =>
  (θ_run Cert.AdamRefIdeal.defs _ _).mono (fun r h => ⟨fun c => (h c).2.2.2, Idealize.ShloMosaic.sem_eq_zero_of_no_sems (by decide) r.2⟩)
    (Cert.AdamRefIdeal.Value.run (F := Ideal) m ρ)

theorem preserves : Cert.preserves_Adam_AdamIdeal := trivial

theorem algebraic : Cert.algebraic_AdamIdeal_AdamRefIdeal := by
  intro m ρ m' ρ' _ hagree
  refine ⟨_, _, _, Cert.AdamIdeal.Value.run (F := Ideal) m ρ, ?_⟩
  refine (θ_run Cert.AdamRefIdeal.defs _ _).mono (fun _ h c => ⟨(h c).1.trans ?_, (h c).2.1.trans ?_, (h c).2.2.1.trans ?_, (h c).2.2.2⟩)
    (Cert.AdamRefIdeal.Value.run (F := Ideal) m' ρ')
  · rw [(hagree c).1, (hagree c).2.1, (hagree c).2.2.1, (hagree c).2.2.2]
    rfl
  · rw [(hagree c).2.1, (hagree c).2.2.1]
    rfl
  · rw [(hagree c).2.1, (hagree c).2.2.2]
    rfl

end Cert.Proof.Adam

end
-- ==== Proof.Ada.lean ====
/-
  The modulation's weights: the gradient, the product of the activated embeddings with the modulation's gradient layer by
  layer, and the optimiser's step on it, for all arguments.
-/
module

public import proofs.«01_k».proof.Defs
public import proofs.«01_k».proof.Proof.Products
public import proofs.«01_k».proof.Proof.Sigmoid
public import proofs.«01_k».proof.Proof.Gen.Ada.Frame
public import proofs.«01_k».proof.Proof.Gen.AdaIdeal.Value
public import proofs.«01_k».proof.Proof.Gen.AdaRefIdeal.Run
public import Idealize.ShloMosaic.Lib.Quiescent

@[expose] public section

noncomputable section

open Idealize.ShloMosaic Idealize.ShloMosaic.ValueIdx Idealize.ShloMosaic.TcCoe Idealize.SL.Sem
open Finset (range)

namespace Cert.Proof.Ada

open Cert.Proof.Products

/-- The gradient, from the embeddings and the modulation's gradient. -/
def grad (x : (⟨2, ![8, 1024]⟩ : Shape).Idx → EReal) (d : (⟨3, ![2, 8, 768]⟩ : Shape).Idx → EReal) (i : (⟨3, ![2, 1024, 768]⟩ : Shape).Idx) : EReal :=
  ∑ r ∈ range 8, (tab (M := 8) (N := 1024) x r (i 1).val * Ideal.logistic (tab (M := 8) (N := 1024) x r (i 1).val))
    * tab (M := 8) (N := 768) (fun j => d (ix3 (i 0) (j 0) (j 1))) r (i 2).val

/-- The new first moment. -/
def first (g m : EReal) : EReal :=
  FloatOps.addf (F := Ideal) (φ := .f32) (FloatOps.mulf (Scalar.ofBits .f32 0x3F666666#32) m) (FloatOps.mulf (Scalar.ofBits .f32 0x3DCCCCCD#32) g)

/-- The new second moment. -/
def second (g v : EReal) : EReal :=
  FloatOps.addf (F := Ideal) (φ := .f32) (FloatOps.mulf (Scalar.ofBits .f32 0x3F7FBE77#32) v)
    (FloatOps.mulf (Scalar.ofBits .f32 0x3A83126F#32) (FloatOps.mulf g g))

/-- The step. -/
def delta (w g m v : EReal) : EReal :=
  FloatOps.mulf (F := Ideal) (φ := .f32) (Scalar.ofBits .f32 0xBA83126F#32)
    (FloatOps.addf
      (FloatOps.divf (FloatOps.divf (first g m) (Scalar.ofBits .f32 0x3F26BD02#32))
        (FloatOps.addf (FloatOps.sqrt (FloatOps.divf (second g v) (Scalar.ofBits .f32 0x3C231ACC#32))) (Scalar.ofBits .f32 0x322BCC77#32)))
      (FloatOps.mulf (Scalar.ofBits .f32 0x3C23D70A#32) w))

section Kernel

open Cert.AdaIdeal Cert.AdaIdeal.Gen Cert.AdaIdeal.Value

variable (m : (ℓ : Loc nD τ sig) → Buf (Elt Ideal) ℓ) (c : Dev nD)

/-- The gradient at the program's arguments. -/
def G : S2x1024x768.Idx → EReal := grad (m ((c : Thread nD τ).loc main_arg0)) (m ((c : Thread nD τ).loc main_arg1))

theorem place : ∀ t : Fin cfg0.N, win0_0.index t (0 : Fin 2) = 0 ∧ win0_0.index t (1 : Fin 2) = t.val % 4
    ∧ win0_1.index t = ![t.val / 4, 0, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] :=
  (by decide +kernel : ∀ t : Fin grid0.N, _)

/-- Where point `t`'s block holds its index `y`. -/
def at' (t : Fin cfg0.N) (y : S1x256x768.Idx) : S2x1024x768.Idx :=
  ix3 ⟨t.val / 4, by have := lt_of_lt_of_eq t.isLt N_0; omega⟩ ⟨t.val % 4 * 256 + (y 1).val, by have : (y 1).val < 256 := (y 1).isLt; omega⟩ (y 2)

theorem block_0 (t : Fin cfg0.N) (r j : ℕ) (hr : r < 8) (hj : j < 256) :
    tab (M := 8) (N := 256) (iblk m c 0 t) r j = tab (M := 8) (N := 1024) (m ((c : Thread nD τ).loc main_arg0)) r (t.val % 4 * 256 + j) := by
  obtain ⟨e0, e1, -⟩ := place t
  rw [tab_of_lt _ hr hj, tab_of_lt _ hr (show t.val % 4 * 256 + j < 1024 by omega), ← V_main_arg0 m c]
  unfold iblk
  rw [View.read_apply]
  refine congrArg (V m c main_arg0) ?_
  funext a; apply Fin.ext
  match a with
  | ⟨0, _⟩ => show win0_0.index t (0 : Fin 2) * 8 + 1 * r = r; rw [e0]; omega
  | ⟨1, _⟩ => show win0_0.index t (1 : Fin 2) * 256 + 1 * j = t.val % 4 * 256 + j; rw [e1]; omega

theorem block_1 (t : Fin cfg0.N) (y : S1x8x768.Idx) :
    iblk m c 1 t y = m ((c : Thread nD τ).loc main_arg1) (ix3 ⟨t.val / 4, by have := lt_of_lt_of_eq t.isLt N_0; omega⟩ (y 1) (y 2)) := by
  obtain ⟨-, -, e, -⟩ := place t
  have h0 : (y 0).val < 1 := (y 0).isLt
  rw [← V_main_arg1 m c]
  unfold iblk
  rw [View.read_apply]
  refine congrArg (V m c main_arg1) ?_
  funext a; apply Fin.ext
  match a with
  | ⟨0, _⟩ => show win0_1.index t (0 : Fin 3) * 1 + 1 * (y 0).val = t.val / 4; rw [e]; show t.val / 4 * 1 + 1 * (y 0).val = _; omega
  | ⟨1, _⟩ => show win0_1.index t (1 : Fin 3) * 8 + 1 * (y 1).val = (y 1).val; rw [e]; show 0 * 8 + 1 * (y 1).val = _; omega
  | ⟨2, _⟩ => show win0_1.index t (2 : Fin 3) * 768 + 1 * (y 2).val = (y 2).val; rw [e]; show 0 * 768 + 1 * (y 2).val = _; omega

theorem block_2 (t : Fin cfg0.N) (y : S1x256x768.Idx) : iblk m c 2 t y = m ((c : Thread nD τ).loc main_arg2) (at' t y) := by
  obtain ⟨-, -, -, e, -⟩ := place t
  have h0 : (y 0).val < 1 := (y 0).isLt
  rw [← V_main_arg2 m c]
  unfold iblk
  rw [View.read_apply]
  refine congrArg (V m c main_arg2) ?_
  funext a; apply Fin.ext
  match a with
  | ⟨0, _⟩ => show win0_2.index t (0 : Fin 3) * 1 + 1 * (y 0).val = t.val / 4; rw [e]; show t.val / 4 * 1 + 1 * (y 0).val = _; omega
  | ⟨1, _⟩ => show win0_2.index t (1 : Fin 3) * 256 + 1 * (y 1).val = t.val % 4 * 256 + (y 1).val; rw [e]; show t.val % 4 * 256 + 1 * (y 1).val = _; omega
  | ⟨2, _⟩ => show win0_2.index t (2 : Fin 3) * 768 + 1 * (y 2).val = (y 2).val; rw [e]; show 0 * 768 + 1 * (y 2).val = _; omega

theorem block_3 (t : Fin cfg0.N) (y : S1x256x768.Idx) : iblk m c 3 t y = m ((c : Thread nD τ).loc main_arg3) (at' t y) := by
  obtain ⟨-, -, -, -, e, -⟩ := place t
  have h0 : (y 0).val < 1 := (y 0).isLt
  rw [← V_main_arg3 m c]
  unfold iblk
  rw [View.read_apply]
  refine congrArg (V m c main_arg3) ?_
  funext a; apply Fin.ext
  match a with
  | ⟨0, _⟩ => show win0_3.index t (0 : Fin 3) * 1 + 1 * (y 0).val = t.val / 4; rw [e]; show t.val / 4 * 1 + 1 * (y 0).val = _; omega
  | ⟨1, _⟩ => show win0_3.index t (1 : Fin 3) * 256 + 1 * (y 1).val = t.val % 4 * 256 + (y 1).val; rw [e]; show t.val % 4 * 256 + 1 * (y 1).val = _; omega
  | ⟨2, _⟩ => show win0_3.index t (2 : Fin 3) * 768 + 1 * (y 2).val = (y 2).val; rw [e]; show 0 * 768 + 1 * (y 2).val = _; omega

theorem block_4 (t : Fin cfg0.N) (y : S1x256x768.Idx) : iblk m c 4 t y = m ((c : Thread nD τ).loc main_arg4) (at' t y) := by
  obtain ⟨-, -, -, -, -, e, -⟩ := place t
  have h0 : (y 0).val < 1 := (y 0).isLt
  rw [← V_main_arg4 m c]
  unfold iblk
  rw [View.read_apply]
  refine congrArg (V m c main_arg4) ?_
  funext a; apply Fin.ext
  match a with
  | ⟨0, _⟩ => show win0_4.index t (0 : Fin 3) * 1 + 1 * (y 0).val = t.val / 4; rw [e]; show t.val / 4 * 1 + 1 * (y 0).val = _; omega
  | ⟨1, _⟩ => show win0_4.index t (1 : Fin 3) * 256 + 1 * (y 1).val = t.val % 4 * 256 + (y 1).val; rw [e]; show t.val % 4 * 256 + 1 * (y 1).val = _; omega
  | ⟨2, _⟩ => show win0_4.index t (2 : Fin 3) * 768 + 1 * (y 2).val = (y 2).val; rw [e]; show 0 * 768 + 1 * (y 2).val = _; omega

theorem hz : (![0, 0] : Fin 2 → Nat) = fun _ => 0 := funext fun a => by fin_cases a <;> rfl

theorem hz3 : (![0, 0, 0] : Fin 3 → Nat) = fun _ => 0 := funext fun a => by fin_cases a <;> rfl

/-- A point's product is its block of the gradient. -/
theorem pay (t : Fin cfg0.N) (y : S1x256x768.Idx) (j : S256x768.Idx) (h0 : (j 0).val = (y 1).val) (h1 : (j 1).val = (y 2).val) :
    k0_pay4 (F := Ideal) (iblk m c 0 t) (iblk m c 1 t) j = G m c (at' t y) := by
  refine (matmul_tn (K := 8) (M := 256) (N := 768) _ _ _ _ j).trans ?_
  unfold G grad
  refine Finset.sum_congr rfl fun r hr => ?_
  have hr : r < 8 := Finset.mem_range.mp hr
  have hj0 : (j 0).val < 256 := (j 0).isLt
  have hj1 : (j 1).val < 768 := (j 1).isLt
  refine congrArg₂ (HMul.hMul (α := EReal)) ?_ ?_
  · rw [tab_of_lt _ hr hj0]
    refine (congrArg (HMul.hMul (α := EReal) _) (Sigmoid.tanh_eq _)).trans ?_
    have e := (tab_of_lt (M := 8) (N := 256) (iblk m c 0 t) hr hj0).symm.trans (block_0 m c t r _ hr hj0)
    rw [show (at' t y 1).val = t.val % 4 * 256 + (j 0).val by rw [h0]; rfl]
    exact congrArg (fun z : EReal => z * Ideal.logistic z) e
  · rw [tab_of_lt _ hr hj1, tab_of_lt _ hr (show (at' t y 2).val < 768 from (at' t y 2).isLt)]
    refine (shapeCast_apply _ _ _ (ix3 (0 : Fin 1) (⟨r, hr⟩ : Fin 8) (⟨(j 1).val, hj1⟩ : Fin 768) : S1x8x768.Idx)
      (by rw [Shape.rowMajor_val_two, Shape.rowMajor_val_three]; show (0 * 8 + r) * 768 + (j 1).val = r * 768 + (j 1).val; omega)).trans ?_
    refine (block_1 m c t _).trans (congrArg (m ((c : Thread nD τ).loc main_arg1)) ?_)
    funext a; apply Fin.ext
    match a with
    | ⟨0, _⟩ => rfl
    | ⟨1, _⟩ => rfl
    | ⟨2, _⟩ => exact h1

theorem emb_5 (t : Fin cfg0.N) (y : S1x256x768.Idx) : ((cfg0.win 5).blk t).view.emb y = at' t y := by
  have e : win0_5.index t = ![t.val / 4, t.val % 4, 0] := by
    obtain ⟨-, -, -, -, -, -, e, -⟩ := place t
    exact e
  have h0 : (y 0).val < 1 := (y 0).isLt
  funext a; apply Fin.ext
  match a with
  | ⟨0, _⟩ => show win0_5.index t (0 : Fin 3) * 1 + 1 * (y 0).val = t.val / 4; rw [e]; show t.val / 4 * 1 + 1 * (y 0).val = _; omega
  | ⟨1, _⟩ => show win0_5.index t (1 : Fin 3) * 256 + 1 * (y 1).val = t.val % 4 * 256 + (y 1).val; rw [e]; show t.val % 4 * 256 + 1 * (y 1).val = _; omega
  | ⟨2, _⟩ => show win0_5.index t (2 : Fin 3) * 768 + 1 * (y 2).val = (y 2).val; rw [e]; show 0 * 768 + 1 * (y 2).val = _; omega

theorem points_5 : ∀ (q0 : Fin 2) (q1 : Fin 4), ∃ t : Fin cfg0.N, (cfg0.win 5).flush t = true ∧ win0_5.index t = ![q0.val, q1.val, 0] :=
  (by decide +kernel : ∀ (q0 : Fin 2) (q1 : Fin 4), ∃ t : Fin grid0.N, win0_5.flush t = true ∧ win0_5.index t = ![q0.val, q1.val, 0])

theorem covered_5 (i : S2x1024x768.Idx) : ∃ t : Fin cfg0.N, (cfg0.win 5).flush t = true ∧ i ∈ ((cfg0.win 5).blk t).view.set := by
  have hi0 : (i 0).val < 2 := (i 0).isLt
  have hi1 : (i 1).val < 1024 := (i 1).isLt
  have hi2 : (i 2).val < 768 := (i 2).isLt
  obtain ⟨t, hft, ht⟩ := points_5 ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, hft, ?_⟩
  show i ∈ ((View.whole main_v0_0).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 768 ≤ (i 2).val ∧ (i 2).val < win0_5.index t (2 : Fin 3) * 768 + 768; omega

theorem flushed_5 (t : Fin cfg0.N) : (dats m 0 c).flushed 5 t = ((cfg0.win 5).blk t).view.read (Elt Ideal) (G m c) := by
  rw [flushed5]
  unfold_out out0_5
  funext y
  rw [View.read_apply, emb_5]
  simp only [View.ld_unit_zero (S := S8x256) hz, View.ld_unit_zero (S := S1x8x768) hz3, View.ld_unit_zero (S := S1x256x768) hz3]
  refine (canon5_eq (iblk m c 0 t) (iblk m c 1 t) y).trans ?_
  exact pay m c t _ _ rfl rfl

theorem value_5 : (dats m 0 c).arrAt 5 cfg0.N = (G m c) :=
  (dats m 0 c).arrAt_eq_of_cover 5 _ (fun t _ => flushed_5 m c t) covered_5

theorem emb_6 (t : Fin cfg0.N) (y : S1x256x768.Idx) : ((cfg0.win 6).blk t).view.emb y = at' t y := by
  have e : win0_6.index t = ![t.val / 4, t.val % 4, 0] := by
    obtain ⟨-, -, -, -, -, -, -, e, -⟩ := place t
    exact e
  have h0 : (y 0).val < 1 := (y 0).isLt
  funext a; apply Fin.ext
  match a with
  | ⟨0, _⟩ => show win0_6.index t (0 : Fin 3) * 1 + 1 * (y 0).val = t.val / 4; rw [e]; show t.val / 4 * 1 + 1 * (y 0).val = _; omega
  | ⟨1, _⟩ => show win0_6.index t (1 : Fin 3) * 256 + 1 * (y 1).val = t.val % 4 * 256 + (y 1).val; rw [e]; show t.val % 4 * 256 + 1 * (y 1).val = _; omega
  | ⟨2, _⟩ => show win0_6.index t (2 : Fin 3) * 768 + 1 * (y 2).val = (y 2).val; rw [e]; show 0 * 768 + 1 * (y 2).val = _; omega

theorem points_6 : ∀ (q0 : Fin 2) (q1 : Fin 4), ∃ t : Fin cfg0.N, (cfg0.win 6).flush t = true ∧ win0_6.index t = ![q0.val, q1.val, 0] :=
  (by decide +kernel : ∀ (q0 : Fin 2) (q1 : Fin 4), ∃ t : Fin grid0.N, win0_6.flush t = true ∧ win0_6.index t = ![q0.val, q1.val, 0])

theorem covered_6 (i : S2x1024x768.Idx) : ∃ t : Fin cfg0.N, (cfg0.win 6).flush t = true ∧ i ∈ ((cfg0.win 6).blk t).view.set := by
  have hi0 : (i 0).val < 2 := (i 0).isLt
  have hi1 : (i 1).val < 1024 := (i 1).isLt
  have hi2 : (i 2).val < 768 := (i 2).isLt
  obtain ⟨t, hft, ht⟩ := points_6 ⟨(i 0).val, hi0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, hft, ?_⟩
  show i ∈ ((View.whole main_v0_1).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 768 ≤ (i 2).val ∧ (i 2).val < win0_6.index t (2 : Fin 3) * 768 + 768; omega

theorem flushed_6 (t : Fin cfg0.N) : (dats m 0 c).flushed 6 t = ((cfg0.win 6).blk t).view.read (Elt Ideal) (fun i => delta (m ((c : Thread nD τ).loc main_arg2) i) (G m c i) (m ((c : Thread nD τ).loc main_arg3) i) (m ((c : Thread nD τ).loc main_arg4) i)) := by
  rw [flushed6]
  unfold_out out0_6
  funext y
  rw [View.read_apply, emb_6]
  simp only [View.ld_unit_zero (S := S8x256) hz, View.ld_unit_zero (S := S1x8x768) hz3, View.ld_unit_zero (S := S1x256x768) hz3]
  refine (canon6_eq (iblk m c 3 t) (iblk m c 0 t) (iblk m c 1 t) (iblk m c 4 t) (iblk m c 2 t) y).trans ?_
  unfold E6
  simp only [pay m c t y (ix6_1 y) rfl rfl, pay m c t y (ix6_3 y) rfl rfl, pay m c t y (ix6_4 y) rfl rfl, block_2 m c t, block_3 m c t, block_4 m c t]
  rfl

theorem value_6 : (dats m 0 c).arrAt 6 cfg0.N = (fun i => delta (m ((c : Thread nD τ).loc main_arg2) i) (G m c i) (m ((c : Thread nD τ).loc main_arg3) i) (m ((c : Thread nD τ).loc main_arg4) i)) :=
  (dats m 0 c).arrAt_eq_of_cover 6 _ (fun t _ => flushed_6 m c t) covered_6

theorem emb_7 (t : Fin cfg0.N) (y : S1x256x768.Idx) : ((cfg0.win 7).blk t).view.emb y = at' t y := by
  have e : win0_7.index t = ![t.val / 4, t.val % 4, 0] := by
    obtain ⟨-, -, -, -, -, -, -, -, e, -⟩ := place t
    exact e
  have h0 : (y 0).val < 1 := (y 0).isLt
  funext a; apply Fin.ext
  match a with
  | ⟨0, _⟩ => show win0_7.index t (0 : Fin 3) * 1 + 1 * (y 0).val = t.val / 4; rw [e]; show t.val / 4 * 1 + 1 * (y 0).val = _; omega
  | ⟨1, _⟩ => show win0_7.index t (1 : Fin 3) * 256 + 1 * (y 1).val = t.val % 4 * 256 + (y 1).val; rw [e]; show t.val % 4 * 256 + 1 * (y 1).val = _; omega
  | ⟨2, _⟩ => show win0_7.index t (2 : Fin 3) * 768 + 1 * (y 2).val = (y 2).val; rw [e]; show 0 * 768 + 1 * (y 2).val = _; omega

theorem points_7 : ∀ (q0 : Fin 2) (q1 : Fin 4), ∃ t : Fin cfg0.N, (cfg0.win 7).flush t = true ∧ win0_7.index t = ![q0.val, q1.val, 0] :=
  (by decide +kernel : ∀ (q0 : Fin 2) (q1 : Fin 4), ∃ t : Fin grid0.N, win0_7.flush t = true ∧ win0_7.index t = ![q0.val, q1.val, 0])

theorem covered_7 (i : S2x1024x768.Idx) : ∃ t : Fin cfg0.N, (cfg0.win 7).flush t = true ∧ i ∈ ((cfg0.win 7).blk t).view.set := by
  have hi0 : (i 0).val < 2 := (i 0).isLt
  have hi1 : (i 1).val < 1024 := (i 1).isLt
  have hi2 : (i 2).val < 768 := (i 2).isLt
  obtain ⟨t, hft, ht⟩ := points_7 ⟨(i 0).val, hi0⟩ ⟨(i 1).val / 256, by omega⟩
  have q0 : win0_7.index t (0 : Fin 3) = (i 0).val := congrFun ht 0
  have q1 : win0_7.index t (1 : Fin 3) = (i 1).val / 256 := congrFun ht 1
  have q2 : win0_7.index t (2 : Fin 3) = 0 := congrFun ht 2
  refine ⟨t, hft, ?_⟩
  show i ∈ ((View.whole main_v0_2).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 768 ≤ (i 2).val ∧ (i 2).val < win0_7.index t (2 : Fin 3) * 768 + 768; omega

theorem flushed_7 (t : Fin cfg0.N) : (dats m 0 c).flushed 7 t = ((cfg0.win 7).blk t).view.read (Elt Ideal) (fun i => first (G m c i) (m ((c : Thread nD τ).loc main_arg3) i)) := by
  rw [flushed7]
  unfold_out out0_7
  funext y
  rw [View.read_apply, emb_7]
  simp only [View.ld_unit_zero (S := S8x256) hz, View.ld_unit_zero (S := S1x8x768) hz3, View.ld_unit_zero (S := S1x256x768) hz3]
  refine (canon7_eq (iblk m c 3 t) (iblk m c 0 t) (iblk m c 1 t) y).trans ?_
  unfold E7
  simp only [pay m c t y (ix7_1 y) rfl rfl, block_3 m c t]
  rfl

theorem value_7 : (dats m 0 c).arrAt 7 cfg0.N = (fun i => first (G m c i) (m ((c : Thread nD τ).loc main_arg3) i)) :=
  (dats m 0 c).arrAt_eq_of_cover 7 _ (fun t _ => flushed_7 m c t) covered_7

theorem emb_8 (t : Fin cfg0.N) (y : S1x256x768.Idx) : ((cfg0.win 8).blk t).view.emb y = at' t y := by
  have e : win0_8.index t = ![t.val / 4, t.val % 4, 0] := by
    obtain ⟨-, -, -, -, -, -, -, -, -, e⟩ := place t
    exact e
  have h0 : (y 0).val < 1 := (y 0).isLt
  funext a; apply Fin.ext
  match a with
  | ⟨0, _⟩ => show win0_8.index t (0 : Fin 3) * 1 + 1 * (y 0).val = t.val / 4; rw [e]; show t.val / 4 * 1 + 1 * (y 0).val = _; omega
  | ⟨1, _⟩ => show win0_8.index t (1 : Fin 3) * 256 + 1 * (y 1).val = t.val % 4 * 256 + (y 1).val; rw [e]; show t.val % 4 * 256 + 1 * (y 1).val = _; omega
  | ⟨2, _⟩ => show win0_8.index t (2 : Fin 3) * 768 + 1 * (y 2).val = (y 2).val; rw [e]; show 0 * 768 + 1 * (y 2).val = _; omega

theorem points_8 : ∀ (q0 : Fin 2) (q1 : Fin 4), ∃ t : Fin cfg0.N, (cfg0.win 8).flush t = true ∧ win0_8.index t = ![q0.val, q1.val, 0] :=
  (by decide +kernel : ∀ (q0 : Fin 2) (q1 : Fin 4), ∃ t : Fin grid0.N, win0_8.flush t = true ∧ win0_8.index t = ![q0.val, q1.val, 0])

theorem covered_8 (i : S2x1024x768.Idx) : ∃ t : Fin cfg0.N, (cfg0.win 8).flush t = true ∧ i ∈ ((cfg0.win 8).blk t).view.set := by
  have hi0 : (i 0).val < 2 := (i 0).isLt
  have hi1 : (i 1).val < 1024 := (i 1).isLt
  have hi2 : (i 2).val < 768 := (i 2).isLt
  obtain ⟨t, hft, ht⟩ := points_8 ⟨(i 0).val, hi0⟩ ⟨(i 1).val / 256, by omega⟩
  have q0 : win0_8.index t (0 : Fin 3) = (i 0).val := congrFun ht 0
  have q1 : win0_8.index t (1 : Fin 3) = (i 1).val / 256 := congrFun ht 1
  have q2 : win0_8.index t (2 : Fin 3) = 0 := congrFun ht 2
  refine ⟨t, hft, ?_⟩
  show i ∈ ((View.whole main_v0_3).slice (win0_8.rect t)).set
  rw [View.set_slice_whole, Rect.mem_set_unit]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 768 ≤ (i 2).val ∧ (i 2).val < win0_8.index t (2 : Fin 3) * 768 + 768; omega

theorem flushed_8 (t : Fin cfg0.N) : (dats m 0 c).flushed 8 t = ((cfg0.win 8).blk t).view.read (Elt Ideal) (fun i => second (G m c i) (m ((c : Thread nD τ).loc main_arg4) i)) := by
  rw [flushed8]
  unfold_out out0_8
  funext y
  rw [View.read_apply, emb_8]
  simp only [View.ld_unit_zero (S := S8x256) hz, View.ld_unit_zero (S := S1x8x768) hz3, View.ld_unit_zero (S := S1x256x768) hz3]
  refine (canon8_eq (iblk m c 4 t) (iblk m c 0 t) (iblk m c 1 t) y).trans ?_
  unfold E8
  simp only [pay m c t y (ix8_1 y) rfl rfl, pay m c t y (ix8_2 y) rfl rfl, block_4 m c t]
  rfl

theorem value_8 : (dats m 0 c).arrAt 8 cfg0.N = (fun i => second (G m c i) (m ((c : Thread nD τ).loc main_arg4) i)) :=
  (dats m 0 c).arrAt_eq_of_cover 8 _ (fun t _ => flushed_8 m c t) covered_8

end Kernel

section Reference

open Cert.AdaRefIdeal Cert.AdaRefIdeal.Gen

/-- One layer of the reference's gradient. -/
theorem layer (x : S8x1024.Idx → EReal) (e : S1x8x768.Idx → EReal) (i : S1x1024x768.Idx) :
    (broadcastInDim S1x1024x768 ![1, 2] bcast_S1024x768_S1x1024x768_1_2
      (transpose S1024x768 [1, 0] (Host.dotGeneral (F := Ideal) (φ₁ := .f32) (φ₂ := .f32) dot_S8x768_S8x1024_S768x1024_0_0_1_1_n_n none
        (shapeCast S8x768 e shapeCasts_S1x8x768_S8x768)
        (mulf (F := Ideal) (φ := .f32) x (Host.divf (broadcastInDim S8x1024 ![] bcast_S_S8x1024 (constant S_ .f32 0x3F800000#32))
          (addf (broadcastInDim S8x1024 ![] bcast_S_S8x1024 (constant S_ .f32 0x3F800000#32)) (Host.exp (Host.negf x))))))
        transposes_S768x1024_S1024x768_1_0) : S1x1024x768.Idx → EReal) i
      = ∑ r ∈ range 8, (tab (M := 8) (N := 1024) x r (i 1).val * Ideal.logistic (tab (M := 8) (N := 1024) x r (i 1).val))
          * tab (M := 8) (N := 768) (fun j => e (ix3 (0 : Fin 1) (j 0) (j 1))) r (i 2).val := by
  have h1 : (i 1).val < 1024 := (i 1).isLt
  have h2 : (i 2).val < 768 := (i 2).isLt
  refine (broadcastInDim_apply _ _ _ i (ix2 (⟨(i 1).val, h1⟩ : Fin 1024) (⟨(i 2).val, h2⟩ : Fin 768) : S1024x768.Idx)
    (fun a => by match a with | ⟨0, _⟩ => exact (if_neg (show ¬ (1024 : ℕ) = 1 by omega)).symm | ⟨1, _⟩ => exact (if_neg (show ¬ (768 : ℕ) = 1 by omega)).symm)).trans ?_
  refine (transpose_apply _ _ _ _ (ix2 (⟨(i 2).val, h2⟩ : Fin 768) (⟨(i 1).val, h1⟩ : Fin 1024) : S768x1024.Idx)
    (fun a => by match a with | ⟨0, _⟩ => rfl | ⟨1, _⟩ => rfl)).trans ?_
  refine (dot_tn (K := 8) (M := 768) (N := 1024) _ none _ _ _).trans ?_
  refine Finset.sum_congr rfl fun r hr => ?_
  have hr : r < 8 := Finset.mem_range.mp hr
  rw [mul_comm]
  refine congrArg₂ (HMul.hMul (α := EReal)) ?_ ?_
  · rw [tab_of_lt _ hr h1, tab_of_lt _ hr h1]
    exact congrArg (HMul.hMul (α := EReal) _) (Sigmoid.div_eq _)
  · rw [tab_of_lt _ hr h2, tab_of_lt _ hr h2]
    exact shapeCast_apply _ _ _ (ix3 (0 : Fin 1) (⟨r, hr⟩ : Fin 8) (⟨(i 2).val, h2⟩ : Fin 768) : S1x8x768.Idx)
      (by rw [Shape.rowMajor_val_two, Shape.rowMajor_val_three]; show (0 * 8 + r) * 768 + (i 2).val = r * 768 + (i 2).val; omega)

/-- The reference's gradient. -/
theorem gradient (x : S8x1024.Idx → EReal) (d : S2x8x768.Idx → EReal) :
    concatenate S2x1024x768 0 [⟨S1x1024x768, (broadcastInDim S1x1024x768 ![1, 2] bcast_S1024x768_S1x1024x768_1_2
      (transpose S1024x768 [1, 0] (Host.dotGeneral (F := Ideal) (φ₁ := .f32) (φ₂ := .f32) dot_S8x768_S8x1024_S768x1024_0_0_1_1_n_n none
        (shapeCast S8x768 (extractStridedSlice S1x8x768 ![0, 0, 0] d slices_S2x8x768_S1x8x768_0_0_0) shapeCasts_S1x8x768_S8x768)
        (mulf (F := Ideal) (φ := .f32) x (Host.divf (broadcastInDim S8x1024 ![] bcast_S_S8x1024 (constant S_ .f32 0x3F800000#32))
          (addf (broadcastInDim S8x1024 ![] bcast_S_S8x1024 (constant S_ .f32 0x3F800000#32)) (Host.exp (Host.negf x))))))
        transposes_S768x1024_S1024x768_1_0) : S1x1024x768.Idx → EReal)⟩,
      ⟨S1x1024x768, (broadcastInDim S1x1024x768 ![1, 2] bcast_S1024x768_S1x1024x768_1_2
      (transpose S1024x768 [1, 0] (Host.dotGeneral (F := Ideal) (φ₁ := .f32) (φ₂ := .f32) dot_S8x768_S8x1024_S768x1024_0_0_1_1_n_n none
        (shapeCast S8x768 (extractStridedSlice S1x8x768 ![1, 0, 0] d slices_S2x8x768_S1x8x768_1_0_0) shapeCasts_S1x8x768_S8x768)
        (mulf (F := Ideal) (φ := .f32) x (Host.divf (broadcastInDim S8x1024 ![] bcast_S_S8x1024 (constant S_ .f32 0x3F800000#32))
          (addf (broadcastInDim S8x1024 ![] bcast_S_S8x1024 (constant S_ .f32 0x3F800000#32)) (Host.exp (Host.negf x))))))
        transposes_S768x1024_S1024x768_1_0) : S1x1024x768.Idx → EReal)⟩]
      concatenates_S1x1024x768_S1x1024x768_S2x1024x768_d0 = grad x d := by
  funext i
  have h0 : (i 0).val < 2 := (i 0).isLt
  have h1 : (i 1).val < 1024 := (i 1).isLt
  have h2 : (i 2).val < 768 := (i 2).isLt
  rcases (by omega : (i 0).val = 0 ∨ (i 0).val = 1) with h | h
  · refine (concatenate_pair_apply_left (t := S2x1024x768) (s₁ := S1x1024x768) (s₂ := S1x1024x768) 0 _ _ _ i rfl (ix3 (0 : Fin 1) (i 1) (i 2) : S1x1024x768.Idx)
      (fun b => by match b with | ⟨0, _⟩ => exact h.symm | ⟨1, _⟩ => rfl | ⟨2, _⟩ => rfl)).trans ?_
    refine (layer x _ _).trans ?_
    unfold grad
    refine Finset.sum_congr rfl fun r hr => congrArg (HMul.hMul (α := EReal) _) ?_
    have hr : r < 8 := Finset.mem_range.mp hr
    refine congrArg (fun f => tab (M := 8) (N := 768) f r (i 2).val) (funext fun j => ?_)
    refine extractStridedSlice_apply _ _ _ _ _ fun a => ?_
    match a with
    | ⟨0, _⟩ => show (i 0).val = 0 + 0; omega
    | ⟨1, _⟩ => show (j 0).val = 0 + (j 0).val; omega
    | ⟨2, _⟩ => show (j 1).val = 0 + (j 1).val; omega
  · refine (concatenate_pair_apply_right (t := S2x1024x768) (s₁ := S1x1024x768) (s₂ := S1x1024x768) 0 _ _ _ i rfl rfl (ix3 (0 : Fin 1) (i 1) (i 2) : S1x1024x768.Idx)
      (fun b hb => by match b with | ⟨0, _⟩ => exact absurd rfl hb | ⟨1, _⟩ => rfl | ⟨2, _⟩ => rfl) (show 0 + 1 = (i 0).val by omega)).trans ?_
    refine (layer x _ _).trans ?_
    unfold grad
    refine Finset.sum_congr rfl fun r hr => congrArg (HMul.hMul (α := EReal) _) ?_
    have hr : r < 8 := Finset.mem_range.mp hr
    refine congrArg (fun f => tab (M := 8) (N := 768) f r (i 2).val) (funext fun j => ?_)
    refine extractStridedSlice_apply _ _ _ _ _ fun a => ?_
    match a with
    | ⟨0, _⟩ => show (i 0).val = 1 + 0; omega
    | ⟨1, _⟩ => show (j 0).val = 0 + (j 0).val; omega
    | ⟨2, _⟩ => show (j 1).val = 0 + (j 1).val; omega

end Reference

theorem frame_p : Cert.quiescent_Ada := fun m ρ _ => Cert.Ada.Gen.frame m ρ

theorem frame_pi : Cert.quiescent_AdaIdeal := fun m ρ _ => Cert.AdaIdeal.Gen.frame m ρ

theorem frame_ri : Cert.quiescent_AdaRefIdeal := fun m ρ _ =>
  (θ_run Cert.AdaRefIdeal.defs _ _).mono (fun r h => ⟨fun c => (h c).2.2.2.2, Idealize.ShloMosaic.sem_eq_zero_of_no_sems (by decide) r.2⟩)
    (Cert.AdaRefIdeal.Value.run (F := Ideal) m ρ)

theorem preserves : Cert.preserves_Ada_AdaIdeal := trivial

theorem algebraic : Cert.algebraic_AdaIdeal_AdaRefIdeal := by
  intro m ρ m' ρ' _ hagree
  refine ⟨_, _, _, _, Cert.AdaIdeal.Value.run_blocks (F := Ideal) m ρ, ?_⟩
  refine (θ_run Cert.AdaRefIdeal.defs _ _).mono (fun _ h c => ⟨(h c).1.trans ?_, (h c).2.1.trans ?_, (h c).2.2.1.trans ?_, (h c).2.2.2.1.trans ?_, (h c).2.2.2.2⟩)
    (Cert.AdaRefIdeal.Value.run (F := Ideal) m' ρ')
  · rw [(hagree c).1, (hagree c).2.1, value_5 m c]
    exact gradient _ _
  · unfold Cert.AdaRefIdeal.Value.res_main_v42
    rw [(hagree c).1, (hagree c).2.1, (hagree c).2.2.1, (hagree c).2.2.2.1, (hagree c).2.2.2.2, value_6 m c, gradient]
    rfl
  · rw [(hagree c).1, (hagree c).2.1, (hagree c).2.2.2.1, value_7 m c, gradient]
    rfl
  · rw [(hagree c).1, (hagree c).2.1, (hagree c).2.2.2.2, value_8 m c, gradient]
    rfl

end Cert.Proof.Ada

end
-- ==== Proof.LayersAIdeal.lean ====
/-
  The optimiser's step on a weight of all layers: what the program leaves behind, in any arithmetic. At each point the word read
  says whose gradient the layer takes; either way all four blocks are stored whole.
-/
module

public import proofs.«01_k».proof.Defs
public import proofs.«01_k».proof.Proof.Gen.AdamAIdeal.Launch
public import proofs.«01_k».proof.Proof.Gen.AdamAIdeal.Skeleton
public import Idealize.ShloMosaic.Lib.Pipeline.FrameBody
public import Idealize.ShloMosaic.Lib.Ring
public import Idealize.ShloMosaic.Lib.VecWindow
public import Idealize.ShloMosaic.Lib.Tactic
public import Idealize.ShloMosaic.Lib.Claim

@[expose] public section

set_option maxRecDepth 16384

noncomputable section

namespace Cert.AdamAIdeal.Layers

open Cert.AdamAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Whose gradient a layer takes -/

/-- Exactly one of the two conditions holds. -/
theorem either (i : grid0.Coords) (w : BitVec 32) :
    (k0_cond1 i w = 1#1 ∧ ¬ k0_cond2 i w = 1#1) ∨ (¬ k0_cond1 i w = 1#1 ∧ k0_cond2 i w = 1#1) := by
  have key : ∀ b : BitVec 1, (Scalar.cmpi .ne (Scalar.extui b) 0#32 = 1#1 ∧ ¬ Scalar.cmpi .ne (Scalar.extui (Scalar.xori b 1#1)) 0#32 = 1#1)
      ∨ (¬ Scalar.cmpi .ne (Scalar.extui b) 0#32 = 1#1 ∧ Scalar.cmpi .ne (Scalar.extui (Scalar.xori b 1#1)) 0#32 = 1#1) := by decide
  exact key _

theorem one (x y : S1.Idx) : x = y := funext fun a => by
  match a with
  | ⟨0, _⟩ =>
    have h1 : (x 0).val < 1 := (x 0).isLt
    have h2 : (y 0).val < 1 := (y 0).isLt
    exact Fin.ext (show (x 0).val = (y 0).val by omega)

/-! ## The body -/

/-- The table as the body is handed it. -/
abbrev tableM : Memref sig .tc .smem S1 .i32 := Memref.whole main_arg5
abbrev tableWhole : tableM.IsWhole := Memref.isWhole_whole _
abbrev TableBuf (c : Dev nD) {S : Shape} {e : EltTy} (M : Memref sig .tc .smem S e) : Type := Buf (Elt F) (M.view.loc (c : Thread nD τ))
abbrev tableHeld (c : Dev nD) {S : Shape} {e : EltTy} (M : Memref sig .tc .smem S e) (f : TableBuf (F := F) c M) : sProp 𝕄 :=
  M.view.loc (c : Thread nD τ) ↦{fullShare.right} f

/-- The word the table holds. -/
def word (c : Dev nD) (xt : TableBuf (F := F) c tableM) : BitVec 32 := tableM.view.read (Elt F) xt (Shape.Idx.first (by decide))

/-- What the body leaves in each output's block. -/
def out5 (i : grid0.Coords) (w : BitVec 32) (x1 x2 : Vec F S256x1024 .f32) : Vec F S1x256x1024 .f32 :=
  if k0_cond1 i w = 1#1 then k0_pay7 x1 else k0_pay11 x2
def out6 (i : grid0.Coords) (w : BitVec 32) (x0 : Vec F S1x256x1024 .f32) (x1 x2 : Vec F S256x1024 .f32) (x3 x4 : Vec F S1x256x1024 .f32) : Vec F S1x256x1024 .f32 :=
  if k0_cond1 i w = 1#1 then k0_pay1 (k0_pay10 x1 x0 x3 x4) else k0_pay4 (k0_pay14 x2 x0 x3 x4)
def out7 (i : grid0.Coords) (w : BitVec 32) (x1 x2 : Vec F S256x1024 .f32) (x3 : Vec F S1x256x1024 .f32) : Vec F S1x256x1024 .f32 :=
  if k0_cond1 i w = 1#1 then k0_pay2 (k0_pay8 x1 x3) else k0_pay5 (k0_pay12 x2 x3)
def out8 (i : grid0.Coords) (w : BitVec 32) (x1 x2 : Vec F S256x1024 .f32) (x4 : Vec F S1x256x1024 .f32) : Vec F S1x256x1024 .f32 :=
  if k0_cond1 i w = 1#1 then k0_pay3 (k0_pay9 x1 x4) else k0_pay6 (k0_pay13 x2 x4)

/-- A block stored under one of the two conditions holds the one or the other. -/
theorem pick (i : grid0.Coords) (w w' : BitVec 32) (hw : w = w') {S : Shape} (v : View sig .tc .vmem S .f32) (f : v.ty.Contents (Elt F))
    (p q : List (View.Piece (Elt F) S .f32)) (a b : Vec F S .f32) (hp : ∀ g, v.read (Elt F) (v.writes (Elt F) g p) = a)
    (hq : ∀ g, v.read (Elt F) (v.writes (Elt F) g q) = b) :
    v.read (Elt F) (if hc : k0_cond2 i w = 1#1 then v.writes (Elt F) (if hc : k0_cond1 i w = 1#1 then v.writes (Elt F) f p else f) q
      else if hc : k0_cond1 i w = 1#1 then v.writes (Elt F) f p else f) = if k0_cond1 i w' = 1#1 then a else b := by
  subst hw
  rcases either i w with ⟨h1, h2⟩ | ⟨h1, h2⟩
  · rw [dif_neg h2, dif_pos h1, if_pos h1, hp]
  · rw [dif_pos h2, dif_neg h1, if_neg h1, hq]

theorem ld {S : Shape} {a : Memref sig .tc .vmem S .f32} (ha : a.IsWhole) (x : Vec F S .f32) {off : Fin S.rank → ℕ}
    (inb : ∀ k, off k + S.size k ≤ S.size k) : View.readAt (Elt F) a.view (Rect.unit off S.size inb).toLoadRect (ha.unread x) = x := by
  rw [View.readAt_full, ha.read_unread]

theorem full {S : Shape} (v : View sig .tc .vmem S .f32) (a : Vec F S .f32) {off : Fin S.rank → ℕ} {inb : ∀ k, off k + S.size k ≤ S.size k} (g : v.ty.Contents (Elt F)) :
    v.read (Elt F) (v.writes (Elt F) g [⟨Rect.unit off S.size inb, a⟩]) = a := View.read_writes_full _ _ _ _ _

set_option maxHeartbeats 1600000 in
theorem run1 (c : Dev nD) (i : grid0.Coords) (arg4 : Memref sig .tc .vmem S1x256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1x256x1024 .f32) (harg11 : arg11.IsWhole) (arg12 : Memref sig .tc .vmem S1x256x1024 .f32) (harg12 : arg12.IsWhole)
    (x0 : Vec F S1x256x1024 .f32) (x1 : Vec F S256x1024 .f32) (x2 : Vec F S256x1024 .f32) (x3 : Vec F S1x256x1024 .f32) (x4 : Vec F S1x256x1024 .f32) (xt : TableBuf (F := F) c tableM) (E : Set ℕ) (K : PUnit → sProp 𝕄) :
    iprop(owns c arg4 fullShare x0 ∗ owns c arg5 fullShare x1 ∗ owns c arg6 fullShare x2 ∗ owns c arg7 fullShare x3 ∗ owns c arg8 fullShare x4 ∗ (∃ d, owns c arg9 fullShare d) ∗ (∃ d, owns c arg10 fullShare d)
        ∗ (∃ d, owns c arg11 fullShare d) ∗ (∃ d, owns c arg12 fullShare d) ∗ tableHeld c tableM xt
        ∗ (iprop(owns c arg4 fullShare x0 ∗ owns c arg5 fullShare x1 ∗ owns c arg6 fullShare x2 ∗ owns c arg7 fullShare x3 ∗ owns c arg8 fullShare x4 ∗ owns c arg9 fullShare (out5 i (word c xt) x1 x2) ∗ owns c arg10 fullShare (out6 i (word c xt) x0 x1 x2 x3 x4)
            ∗ owns c arg11 fullShare (out7 i (word c xt) x1 x2 x3) ∗ owns c arg12 fullShare (out8 i (word c xt) x1 x2 x4) ∗ tableHeld c tableM xt) -∗ K ⟨⟩))
      ⊢ wp frame (wpE (defs₀ (F := F)) Variants.none c none) E (cc0_adamw_layers i tableM tableWhole arg4 harg4 arg5 harg5 arg6 harg6 arg7 harg7 arg8 harg8 arg9 harg9 arg10 harg10 arg11 harg11 arg12 harg12) K := by
  simp only [cc0_adamw_layers_eq_skeleton]; unfold cc0_adamw_layers_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, HT0, Hk⟩
  obtain rfl := harg4.eq_unread hf0; obtain rfl := harg5.eq_unread hf1; obtain rfl := harg6.eq_unread hf2; obtain rfl := harg7.eq_unread hf3; obtain rfl := harg8.eq_unread hf4
  have l0 := ld harg4 x0 inb_S1x256x1024_S1x256x1024_0_0_0
  have l1 := ld harg5 x1 inb_S256x1024_S256x1024_0_0
  have l2 := ld harg6 x2 inb_S256x1024_S256x1024_0_0
  have l3 := ld harg7 x3 inb_S1x256x1024_S1x256x1024_0_0_0
  have l4 := ld harg8 x4 inb_S1x256x1024_S1x256x1024_0_0_0
  have hw := fun x y : S1.Idx => congrArg (tableM.view.read (Elt F) xt) (one x y)
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro; exact pick i _ _ (hw _ _) _ _ _ _ _ _ (full _ _) (full _ _)
  isplitl [H6]
  · iexists _; isplitr
    swap; · iexact H6
    ipureintro; exact pick i _ _ (hw _ _) _ _ _ _ _ _ (full _ _) (full _ _)
  isplitl [H7]
  · iexists _; isplitr
    swap; · iexact H7
    ipureintro; exact pick i _ _ (hw _ _) _ _ _ _ _ _ (full _ _) (full _ _)
  isplitl [H8]
  · iexists _; isplitr
    swap; · iexact H8
    ipureintro; exact pick i _ _ (hw _ _) _ _ _ _ _ _ (full _ _) (full _ _)
  iexact HT0

/-! ## The pipeline around it -/

variable (m : (ℓ : Loc nD τ sig) → Buf (Elt F) ℓ) (ρ : Dev nD → PrngReg)

/-- The buffers as the pipeline finds them: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents at launch; no index map reads them, so any are admissible. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

theorem held_eq (c : Dev nD) : (Pipeline.ΦT pre0 (tbl m) c : sProp 𝕄) = iprop(tableHeld c tableM (tbl m 0)) := by
  unfold Pipeline.ΦT Pipeline.prefHeld
  rw [show (Finset.univ : Finset (Fin 1)) = {(0 : Fin 1)} from by decide, bigSep_singleton]
  rfl

/-- The layer's word as the table's contents give it. -/
abbrev wordM : BitVec 32 := word (F := F) 0 (tbl m 0)

/-- A window's block at a point, off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev ms_0 (t : Fin (cfgM m).N) : Memref sig .tc .vmem S1x256x1024 .f32 := spec0_0.stage ((cfgM m).slots t 0)
abbrev ms_1 (t : Fin (cfgM m).N) : Memref sig .tc .vmem S256x1024 .f32 := spec0_1.stage ((cfgM m).slots t 1)
abbrev ms_2 (t : Fin (cfgM m).N) : Memref sig .tc .vmem S256x1024 .f32 := spec0_2.stage ((cfgM m).slots t 2)
abbrev ms_3 (t : Fin (cfgM m).N) : Memref sig .tc .vmem S1x256x1024 .f32 := spec0_3.stage ((cfgM m).slots t 3)
abbrev ms_4 (t : Fin (cfgM m).N) : Memref sig .tc .vmem S1x256x1024 .f32 := spec0_4.stage ((cfgM m).slots t 4)
abbrev ms_5 (t : Fin (cfgM m).N) : Memref sig .tc .vmem S1x256x1024 .f32 := spec0_5.stage ((cfgM m).slots t 5)
abbrev ms_6 (t : Fin (cfgM m).N) : Memref sig .tc .vmem S1x256x1024 .f32 := spec0_6.stage ((cfgM m).slots t 6)
abbrev ms_7 (t : Fin (cfgM m).N) : Memref sig .tc .vmem S1x256x1024 .f32 := spec0_7.stage ((cfgM m).slots t 7)
abbrev ms_8 (t : Fin (cfgM m).N) : Memref sig .tc .vmem S1x256x1024 .f32 := spec0_8.stage ((cfgM m).slots t 8)

/-- The arrays as launched, and what the body leaves at each point. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (grid0.coords t) (word c (tbl m 0)) (iblk m c 1 t) (iblk m c 2 t)
    | ⟨6, _⟩ => out6 (grid0.coords t) (word c (tbl m 0)) (iblk m c 0 t) (iblk m c 1 t) (iblk m c 2 t) (iblk m c 3 t) (iblk m c 4 t)
    | ⟨7, _⟩ => out7 (grid0.coords t) (word c (tbl m 0)) (iblk m c 1 t) (iblk m c 2 t) (iblk m c 3 t)
    | ⟨8, _⟩ => out8 (grid0.coords t) (word c (tbl m 0)) (iblk m c 1 t) (iblk m c 2 t) (iblk m c 4 t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := rfl
theorem after_1 (c : Dev nD) (t : Fin (cfgM m).N) : (dats m 0 c).after 1 t = iblk m c 1 t := rfl
theorem after_2 (c : Dev nD) (t : Fin (cfgM m).N) : (dats m 0 c).after 2 t = iblk m c 2 t := rfl
theorem after_3 (c : Dev nD) (t : Fin (cfgM m).N) : (dats m 0 c).after 3 t = iblk m c 3 t := rfl
theorem after_4 (c : Dev nD) (t : Fin (cfgM m).N) : (dats m 0 c).after 4 t = iblk m c 4 t := rfl
theorem after_5 (c : Dev nD) (t : Fin (cfgM m).N) : (dats m 0 c).after 5 t = out5 (grid0.coords t) (word c (tbl m 0)) (iblk m c 1 t) (iblk m c 2 t) := rfl
theorem after_6 (c : Dev nD) (t : Fin (cfgM m).N) : (dats m 0 c).after 6 t = out6 (grid0.coords t) (word c (tbl m 0)) (iblk m c 0 t) (iblk m c 1 t) (iblk m c 2 t) (iblk m c 3 t) (iblk m c 4 t) := rfl
theorem after_7 (c : Dev nD) (t : Fin (cfgM m).N) : (dats m 0 c).after 7 t = out7 (grid0.coords t) (word c (tbl m 0)) (iblk m c 1 t) (iblk m c 2 t) (iblk m c 3 t) := rfl
theorem after_8 (c : Dev nD) (t : Fin (cfgM m).N) : (dats m 0 c).after 8 t = out8 (grid0.coords t) (word c (tbl m 0)) (iblk m c 1 t) (iblk m c 2 t) (iblk m c 4 t) := rfl
theorem before_0 (c : Dev nD) (t : Fin (cfgM m).N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin (cfgM m).N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin (cfgM m).N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin (cfgM m).N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin (cfgM m).N) (d) : (dats m 0 c).before 4 t d = iblk m c 4 t :=
  ((dats m 0 c).before_in_eq_fetched 4 rfl (fun _ => rfl) (fun _ _ _ => rfl) (fun _ => rfl) t d).trans rfl

/-! ## The body obligation -/

abbrev bodyAt0 (a : (pcfg0 (F := F)).Adm) (t : Fin (cfg0 a).N) : Prog (TpuEff nD τ sig (Elt F) Λ₀ .tc) PUnit :=
  cc0_adamw_layers (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

def bodyPre (c : Dev nD) (t : Fin (cfgM m).N) : sProp 𝕄 :=
  iprop((dats m 0 c).Φ t.castSucc ∗ (dats m 0 c).owesAt () t.castSucc
    ∗ (∃ d, owns c (ms_0 m t) fullShare ((dats m 0 c).before 0 t d))
    ∗ (∃ d, owns c (ms_1 m t) fullShare ((dats m 0 c).before 1 t d))
    ∗ (∃ d, owns c (ms_2 m t) fullShare ((dats m 0 c).before 2 t d))
    ∗ (∃ d, owns c (ms_3 m t) fullShare ((dats m 0 c).before 3 t d))
    ∗ (∃ d, owns c (ms_4 m t) fullShare ((dats m 0 c).before 4 t d))
    ∗ (∃ d, owns c (ms_5 m t) fullShare ((dats m 0 c).before 5 t d))
    ∗ (∃ d, owns c (ms_6 m t) fullShare ((dats m 0 c).before 6 t d))
    ∗ (∃ d, owns c (ms_7 m t) fullShare ((dats m 0 c).before 7 t d))
    ∗ (∃ d, owns c (ms_8 m t) fullShare ((dats m 0 c).before 8 t d)))

def bodyPost (c : Dev nD) (t : Fin (cfgM m).N) : sProp 𝕄 :=
  iprop((dats m 0 c).Φ t.succ ∗ (dats m 0 c).owesAt () t.succ
    ∗ owns c (ms_0 m t) fullShare ((dats m 0 c).after 0 t)
    ∗ owns c (ms_1 m t) fullShare ((dats m 0 c).after 1 t)
    ∗ owns c (ms_2 m t) fullShare ((dats m 0 c).after 2 t)
    ∗ owns c (ms_3 m t) fullShare ((dats m 0 c).after 3 t)
    ∗ owns c (ms_4 m t) fullShare ((dats m 0 c).after 4 t)
    ∗ owns c (ms_5 m t) fullShare ((dats m 0 c).after 5 t)
    ∗ owns c (ms_6 m t) fullShare ((dats m 0 c).after 6 t)
    ∗ owns c (ms_7 m t) fullShare ((dats m 0 c).after 7 t)
    ∗ owns c (ms_8 m t) fullShare ((dats m 0 c).after 8 t))

set_option maxHeartbeats 800000 in
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = iprop(Pipeline.ΦA spec0 c ∗ Pipeline.ΦT pre0 (tbl m) c) from rfl, held_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run1 c (grid0.coords t) _ _ _ _ _ _ _ _ _ _ _ _ _ _ _ _ _ _ (iblk m c 0 t) (iblk m c 1 t) (iblk m c 2 t) (iblk m c 3 t) (iblk m c 4 t) (tbl m 0) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HT0]; · iexact HT0
  iintro ⟨H0, H1, H2, H3, H4, H5, H6, H7, H8, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin (cfgM m).N) :
    defs₀ (F := F) .tc (cfgM m).body ((cfgM m).bodyArgs t ((cfgM m).slots t)) = bodyAt0 (adm m) t := by
  unfold defs₀; rw [Defs.onTc_tc]

/-- Every output's block is stored at every point. -/
theorem stored (i : grid0.Coords) (w : BitVec 32) : (!(k0_cond1 i w == 1#1) && !(k0_cond2 i w == 1#1)) = false := by
  rcases either i w with ⟨h1, _⟩ | ⟨_, h2⟩
  · rw [h1]; rfl
  · rw [h2]; cases (k0_cond1 i w == 1#1) <;> rfl

theorem live (w : Fin (cfgM m).W) (t : Fin (cfgM m).N) : (cfgM m).idle w ((cfgM m).grid.coords t) = false := by
  match w with
  | ⟨0, _⟩ | ⟨1, _⟩ | ⟨2, _⟩ | ⟨3, _⟩ | ⟨4, _⟩ => rfl
  | ⟨5, _⟩ | ⟨6, _⟩ | ⟨7, _⟩ | ⟨8, _⟩ => exact stored _ _

theorem leaves_eq (c : Dev nD) (w : Fin (cfgM m).W) (t : Fin (cfgM m).N) :
    (dats (F := F) m 0 c).leavesExact w t = owns c (((cfgM m).win w).stage ((cfgM m).slots t w)) fullShare ((dats m 0 c).after w t) := by
  unfold Dat.leavesExact; rw [live]

theorem both {P P' Q Q' : sProp 𝕄} (h : P = P') (h' : Q = Q') : iprop(P ∗ Q) = iprop(P' ∗ Q') := by rw [h, h']

theorem post_eq (c : Dev nD) (t : Fin (cfgM m).N) : bodyPost m c t =
    iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t) := by
  exact both rfl <| both rfl <| both (leaves_eq m c 0 t).symm <| both (leaves_eq m c 1 t).symm <| both (leaves_eq m c 2 t).symm <| both (leaves_eq m c 3 t).symm <| both (leaves_eq m c 4 t).symm <| both (leaves_eq m c 5 t).symm <| both (leaves_eq m c 6 t).symm <| both (leaves_eq m c 7 t).symm (leaves_eq m c 8 t).symm

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => by rw [post_eq]; exact .rfl

/-! ## The run and the frame -/

set_option backward.isDefEq.respectTransparency.types false in
theorem run_main_quiescent : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- Every run ends, with the argument arrays as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      (h.1 c).2 main_arg5 (by decide : main_arg5 ∈ Pipeline.restRefs sig spec0)⟩, h.2⟩) (run_main_quiescent m ρ)

end Cert.AdamAIdeal.Layers

end
-- ==== Proof.AdamA.lean ====
/-
  The optimiser's step on the weights of mixer A's merge product and of the output product,
  both layers in one grid: a layer takes the first gradient if its number is the word, else the second, and the gradient
  taken and the step on it are the reference's, for all arguments.
-/
module

public import proofs.«01_k».proof.Defs
public import proofs.«01_k».proof.Proof.Ada
public import proofs.«01_k».proof.Proof.LayersA
public import proofs.«01_k».proof.Proof.LayersAIdeal
public import proofs.«01_k».proof.Proof.Gen.AdamARefIdeal.Run

@[expose] public section

set_option maxRecDepth 16384

noncomputable section

open Idealize.ShloMosaic Idealize.ShloMosaic.ValueIdx Idealize.ShloMosaic.TcCoe Idealize.SL.Sem

namespace Cert.Proof.AdamA

section Kernel

open Cert.AdamAIdeal Cert.AdamAIdeal.Gen Cert.AdamAIdeal.Layers

/-- The condition is that the layer's number is the word. -/
theorem cond_iff (i : grid0.Coords) (w : BitVec 32) : k0_cond1 i w = 1#1 ↔ BitVec.ofNat 32 (i 0).val = w := by
  have key : ∀ b : Bool, (Scalar.cmpi .ne (Scalar.extui (BitVec.ofBool b)) 0#32 = 1#1 ↔ b = true) := by decide
  exact (key _).trans beq_iff_eq

theorem out_cast (x : FVec Ideal S256x1024 .f32) (y : S1x256x1024.Idx) :
    shapeCast S1x256x1024 x shapeCasts_S256x1024_S1x256x1024 y = x (ix2 (y 1) (y 2) : S256x1024.Idx) := by
  have h0 : (y 0).val < 1 := (y 0).isLt
  refine shapeCast_apply _ _ _ _ ?_
  rw [Shape.rowMajor_val_two, Shape.rowMajor_val_three]
  show (y 1).val * 1024 + (y 2).val = ((y 0).val * 256 + (y 1).val) * 1024 + (y 2).val
  omega

theorem in_cast (x : FVec Ideal S1x256x1024 .f32) (y : S1x256x1024.Idx) :
    shapeCast S256x1024 x shapeCasts_S1x256x1024_S256x1024 (ix2 (y 1) (y 2) : S256x1024.Idx) = x y := by
  have h0 : (y 0).val < 1 := (y 0).isLt
  refine shapeCast_apply _ _ _ _ ?_
  rw [Shape.rowMajor_val_two, Shape.rowMajor_val_three]
  show ((y 0).val * 256 + (y 1).val) * 1024 + (y 2).val = (y 1).val * 1024 + (y 2).val
  omega

/-- The gradient a block takes. -/
def sel (i : grid0.Coords) (w : BitVec 32) (x1 x2 : Vec Ideal S256x1024 .f32) (y : S1x256x1024.Idx) : EReal :=
  if BitVec.ofNat 32 (i 0).val = w then x1 (ix2 (y 1) (y 2) : S256x1024.Idx) else x2 (ix2 (y 1) (y 2) : S256x1024.Idx)

theorem first_apply (x1 : Vec Ideal S256x1024 .f32) (x3 : Vec Ideal S1x256x1024 .f32) (y : S1x256x1024.Idx) :
    k0_pay8 (F := Ideal) x1 x3 (ix2 (y 1) (y 2) : S256x1024.Idx) = Ada.first (x1 (ix2 (y 1) (y 2) : S256x1024.Idx)) (x3 y) :=
  congrArg (Ada.first _) (in_cast x3 y)

theorem second_apply (x1 : Vec Ideal S256x1024 .f32) (x4 : Vec Ideal S1x256x1024 .f32) (y : S1x256x1024.Idx) :
    k0_pay9 (F := Ideal) x1 x4 (ix2 (y 1) (y 2) : S256x1024.Idx) = Ada.second (x1 (ix2 (y 1) (y 2) : S256x1024.Idx)) (x4 y) :=
  congrArg (Ada.second _) (in_cast x4 y)

theorem delta_apply (x0 : Vec Ideal S1x256x1024 .f32) (x1 : Vec Ideal S256x1024 .f32) (x3 x4 : Vec Ideal S1x256x1024 .f32) (y : S1x256x1024.Idx) :
    k0_pay10 (F := Ideal) x1 x0 x3 x4 (ix2 (y 1) (y 2) : S256x1024.Idx) = Ada.delta (x0 y) (x1 (ix2 (y 1) (y 2) : S256x1024.Idx)) (x3 y) (x4 y) := by
  rw [← in_cast x0 y, ← in_cast x3 y, ← in_cast x4 y]
  rfl

theorem out5_apply (i : grid0.Coords) (w : BitVec 32) (x1 x2 : Vec Ideal S256x1024 .f32) (y : S1x256x1024.Idx) :
    out5 (F := Ideal) i w x1 x2 y = sel i w x1 x2 y := by
  unfold out5 sel
  by_cases h : BitVec.ofNat 32 (i 0).val = w
  · rw [if_pos ((cond_iff i w).mpr h), if_pos h]; exact out_cast x1 y
  · rw [if_neg (fun k => h ((cond_iff i w).mp k)), if_neg h]; exact out_cast x2 y

theorem out6_apply (i : grid0.Coords) (w : BitVec 32) (x0 : Vec Ideal S1x256x1024 .f32) (x1 x2 : Vec Ideal S256x1024 .f32) (x3 x4 : Vec Ideal S1x256x1024 .f32) (y : S1x256x1024.Idx) :
    out6 (F := Ideal) i w x0 x1 x2 x3 x4 y = Ada.delta (x0 y) (sel i w x1 x2 y) (x3 y) (x4 y) := by
  unfold out6 sel
  by_cases h : BitVec.ofNat 32 (i 0).val = w
  · rw [if_pos ((cond_iff i w).mpr h), if_pos h]; exact (out_cast _ y).trans (delta_apply x0 x1 x3 x4 y)
  · rw [if_neg (fun k => h ((cond_iff i w).mp k)), if_neg h]; exact (out_cast _ y).trans (delta_apply x0 x2 x3 x4 y)

theorem out7_apply (i : grid0.Coords) (w : BitVec 32) (x1 x2 : Vec Ideal S256x1024 .f32) (x3 : Vec Ideal S1x256x1024 .f32) (y : S1x256x1024.Idx) :
    out7 (F := Ideal) i w x1 x2 x3 y = Ada.first (sel i w x1 x2 y) (x3 y) := by
  unfold out7 sel
  by_cases h : BitVec.ofNat 32 (i 0).val = w
  · rw [if_pos ((cond_iff i w).mpr h), if_pos h]; exact (out_cast _ y).trans (first_apply x1 x3 y)
  · rw [if_neg (fun k => h ((cond_iff i w).mp k)), if_neg h]; exact (out_cast _ y).trans (first_apply x2 x3 y)

theorem out8_apply (i : grid0.Coords) (w : BitVec 32) (x1 x2 : Vec Ideal S256x1024 .f32) (x4 : Vec Ideal S1x256x1024 .f32) (y : S1x256x1024.Idx) :
    out8 (F := Ideal) i w x1 x2 x4 y = Ada.second (sel i w x1 x2 y) (x4 y) := by
  unfold out8 sel
  by_cases h : BitVec.ofNat 32 (i 0).val = w
  · rw [if_pos ((cond_iff i w).mpr h), if_pos h]; exact (out_cast _ y).trans (second_apply x1 x4 y)
  · rw [if_neg (fun k => h ((cond_iff i w).mp k)), if_neg h]; exact (out_cast _ y).trans (second_apply x2 x4 y)

variable (m : (ℓ : Loc nD τ sig) → Buf (Elt Ideal) ℓ) (ρ : Dev nD → PrngReg) (c : Dev nD)

/-- The gradient the weight takes, layer by layer. -/
def G (i : S2x256x1024.Idx) : EReal :=
  if BitVec.ofNat 32 (i 0).val = (m ((c : Thread nD τ).loc main_arg5) : S1.Idx → BitVec 32) (ix1 (0 : Fin 1)) then
    m ((c : Thread nD τ).loc main_arg1) (ix2 (i 1) (i 2) : S256x1024.Idx)
  else m ((c : Thread nD τ).loc main_arg2) (ix2 (i 1) (i 2) : S256x1024.Idx)

theorem size : grid0.N = 2 := by decide

theorem place_0 : ∀ t : Fin grid0.N, cc0_transform_0 (grid0.coords t) = ![t.val / 1, t.val / 1 % 1, t.val % 1] := by decide +kernel
theorem place_3 : ∀ t : Fin grid0.N, cc0_transform_3 (grid0.coords t) = ![t.val / 1, t.val / 1 % 1, t.val % 1] := by decide +kernel
theorem place_4 : ∀ t : Fin grid0.N, cc0_transform_4 (grid0.coords t) = ![t.val / 1, t.val / 1 % 1, t.val % 1] := by decide +kernel
theorem place_5 : ∀ t : Fin grid0.N, cc0_transform_5 (grid0.coords t) = ![t.val / 1, t.val / 1 % 1, t.val % 1] := by decide +kernel
theorem place_6 : ∀ t : Fin grid0.N, cc0_transform_6 (grid0.coords t) = ![t.val / 1, t.val / 1 % 1, t.val % 1] := by decide +kernel
theorem place_7 : ∀ t : Fin grid0.N, cc0_transform_7 (grid0.coords t) = ![t.val / 1, t.val / 1 % 1, t.val % 1] := by decide +kernel
theorem place_8 : ∀ t : Fin grid0.N, cc0_transform_8 (grid0.coords t) = ![t.val / 1, t.val / 1 % 1, t.val % 1] := by decide +kernel
theorem place_1 : ∀ t : Fin grid0.N, cc0_transform_1 (grid0.coords t) = ![t.val / 1 % 1, t.val % 1] := by decide +kernel
theorem place_2 : ∀ t : Fin grid0.N, cc0_transform_2 (grid0.coords t) = ![t.val / 1 % 1, t.val % 1] := by decide +kernel

theorem layer : ∀ t : Fin grid0.N, (grid0.coords t 0).val = t.val / 1 := by decide +kernel

/-- Where point `t`'s block holds its index `y`. -/
def at' (t : Fin grid0.N) (y : S1x256x1024.Idx) : S2x256x1024.Idx :=
  ix3 ⟨t.val / 1, by have := lt_of_lt_of_eq t.isLt size; omega⟩
    ⟨t.val / 1 % 1 * 256 + (y 1).val, by have : (y 1).val < 256 := (y 1).isLt; have := lt_of_lt_of_eq t.isLt size; omega⟩
    ⟨t.val % 1 * 1024 + (y 2).val, by have : (y 2).val < 1024 := (y 2).isLt; have := lt_of_lt_of_eq t.isLt size; omega⟩

/-- An index that lies where point `t`'s block has its index `y`. -/
theorem emb_of {f : Fin 3 → ℕ} (t : Fin grid0.N) (e : f = ![t.val / 1, t.val / 1 % 1, t.val % 1]) (y : S1x256x1024.Idx) (k : S2x256x1024.Idx)
    (h0 : (k 0).val = f 0 * 1 + 1 * (y 0).val) (h1 : (k 1).val = f 1 * 256 + 1 * (y 1).val) (h2 : (k 2).val = f 2 * 1024 + 1 * (y 2).val) : k = at' t y := by
  have hy : (y 0).val < 1 := (y 0).isLt
  funext a; apply Fin.ext
  match a with
  | ⟨0, _⟩ => refine h0.trans ?_; rw [e]; show t.val / 1 * 1 + 1 * (y 0).val = t.val / 1; omega
  | ⟨1, _⟩ => refine h1.trans ?_; rw [e]; show (t.val / 1 % 1) * 256 + 1 * (y 1).val = t.val / 1 % 1 * 256 + (y 1).val; omega
  | ⟨2, _⟩ => refine h2.trans ?_; rw [e]; show (t.val % 1) * 1024 + 1 * (y 2).val = t.val % 1 * 1024 + (y 2).val; omega

theorem block_0 (t : Fin (cfgM m).N) (y : S1x256x1024.Idx) : iblk m c 0 t y = m ((c : Thread nD τ).loc main_arg0) (at' t y) :=
  congrArg (a₁ := (((cfgM m).win 0).blk t).view.emb y) (m ((c : Thread nD τ).loc main_arg0)) (emb_of t (place_0 t) y _ rfl rfl rfl)

theorem block_3 (t : Fin (cfgM m).N) (y : S1x256x1024.Idx) : iblk m c 3 t y = m ((c : Thread nD τ).loc main_arg3) (at' t y) :=
  congrArg (a₁ := (((cfgM m).win 3).blk t).view.emb y) (m ((c : Thread nD τ).loc main_arg3)) (emb_of t (place_3 t) y _ rfl rfl rfl)

theorem block_4 (t : Fin (cfgM m).N) (y : S1x256x1024.Idx) : iblk m c 4 t y = m ((c : Thread nD τ).loc main_arg4) (at' t y) :=
  congrArg (a₁ := (((cfgM m).win 4).blk t).view.emb y) (m ((c : Thread nD τ).loc main_arg4)) (emb_of t (place_4 t) y _ rfl rfl rfl)

theorem block_1 (t : Fin (cfgM m).N) (y : S1x256x1024.Idx) :
    iblk m c 1 t (ix2 (y 1) (y 2) : S256x1024.Idx) = m ((c : Thread nD τ).loc main_arg1) (ix2 (at' t y 1) (at' t y 2) : S256x1024.Idx) := by
  have e := place_1 t
  refine congrArg (a₁ := (((cfgM m).win 1).blk t).view.emb (ix2 (y 1) (y 2) : S256x1024.Idx)) (m ((c : Thread nD τ).loc main_arg1)) ?_
  funext a; apply Fin.ext
  match a with
  | ⟨0, _⟩ => show cc0_transform_1 (grid0.coords t) (0 : Fin 2) * 256 + 1 * (y 1).val = t.val / 1 % 1 * 256 + (y 1).val; rw [e]; show (t.val / 1 % 1) * 256 + 1 * (y 1).val = _; omega
  | ⟨1, _⟩ => show cc0_transform_1 (grid0.coords t) (1 : Fin 2) * 1024 + 1 * (y 2).val = t.val % 1 * 1024 + (y 2).val; rw [e]; show (t.val % 1) * 1024 + 1 * (y 2).val = _; omega

theorem block_2 (t : Fin (cfgM m).N) (y : S1x256x1024.Idx) :
    iblk m c 2 t (ix2 (y 1) (y 2) : S256x1024.Idx) = m ((c : Thread nD τ).loc main_arg2) (ix2 (at' t y 1) (at' t y 2) : S256x1024.Idx) := by
  have e := place_2 t
  refine congrArg (a₁ := (((cfgM m).win 2).blk t).view.emb (ix2 (y 1) (y 2) : S256x1024.Idx)) (m ((c : Thread nD τ).loc main_arg2)) ?_
  funext a; apply Fin.ext
  match a with
  | ⟨0, _⟩ => show cc0_transform_2 (grid0.coords t) (0 : Fin 2) * 256 + 1 * (y 1).val = t.val / 1 % 1 * 256 + (y 1).val; rw [e]; show (t.val / 1 % 1) * 256 + 1 * (y 1).val = _; omega
  | ⟨1, _⟩ => show cc0_transform_2 (grid0.coords t) (1 : Fin 2) * 1024 + 1 * (y 2).val = t.val % 1 * 1024 + (y 2).val; rw [e]; show (t.val % 1) * 1024 + 1 * (y 2).val = _; omega

theorem word_eq : word (F := Ideal) c (tbl m 0) = (m ((c : Thread nD τ).loc main_arg5) : S1.Idx → BitVec 32) (ix1 (0 : Fin 1)) := by
  rw [← V_pre m c 0]
  exact congrArg (m ((c : Thread nD τ).loc main_arg5) : S1.Idx → BitVec 32) (one _ _)

theorem pick_block (t : Fin (cfgM m).N) (y : S1x256x1024.Idx) :
    sel (grid0.coords t) (word c (tbl m 0)) (iblk m c 1 t) (iblk m c 2 t) y = G m c (at' t y) := by
  unfold sel G
  rw [block_1 m c t y, block_2 m c t y, word_eq m c]
  refine if_congr (Iff.of_eq (congrArg (fun n : ℕ => BitVec.ofNat 32 n = _) (layer t))) rfl rfl

theorem emb_5 (t : Fin (cfgM m).N) (y : S1x256x1024.Idx) : (((cfgM m).win 5).blk t).view.emb y = at' t y :=
  emb_of t (place_5 t) y _ rfl rfl rfl

theorem read_5 (t : Fin (cfgM m).N) (f : S2x256x1024.Idx → EReal) (y : S1x256x1024.Idx) :
    (((cfgM m).win 5).blk t).view.read (Elt Ideal) f y = f (at' t y) :=
  congrArg f (emb_5 m t y)

theorem flush_5 : ∀ t : Fin (cfgM m).N, ((cfgM m).win 5).flush t = true :=
  (by decide +kernel : ∀ t : Fin grid0.N, Pipeline.Window.flushOf grid0 true cc0_transform_5 t = true)

theorem points_5 : ∀ (q0 : Fin 2) (q1 : Fin 1) (q2 : Fin 1), ∃ t : Fin grid0.N, cc0_transform_5 (grid0.coords t) = ![q0.val, q1.val, q2.val] := by
  decide +kernel

theorem covered_5 (i : S2x256x1024.Idx) : ∃ t : Fin (cfgM m).N, ((cfgM m).win 5).flush t = true ∧ i ∈ (((cfgM m).win 5).blk t).view.set := by
  have hi0 : (i 0).val < 2 := (i 0).isLt
  have hi1 : (i 1).val < 256 := (i 1).isLt
  have hi2 : (i 2).val < 1024 := (i 2).isLt
  obtain ⟨t, ht⟩ := points_5 ⟨(i 0).val, hi0⟩ ⟨(i 1).val / 256, by omega⟩ ⟨(i 2).val / 1024, by omega⟩
  refine ⟨t, flush_5 m t, ?_⟩
  have q0 : cc0_transform_5 (grid0.coords t) (0 : Fin 3) = (i 0).val := congrFun ht 0
  have q1 : cc0_transform_5 (grid0.coords t) (1 : Fin 3) = (i 1).val / 256 := congrFun ht 1
  have q2 : cc0_transform_5 (grid0.coords t) (2 : Fin 3) = (i 2).val / 1024 := congrFun ht 2
  have e : (((cfgM m).win 5).blk t).view.set = (((cfgM m).win 5).rect t).set := View.set_slice_whole _ _
  rw [e]
  refine Rect.mem_set_unit.mpr ?_
  intro a
  match a with
  | ⟨0, _⟩ => show cc0_transform_5 (grid0.coords t) (0 : Fin 3) * 1 ≤ (i 0).val ∧ (i 0).val < cc0_transform_5 (grid0.coords t) (0 : Fin 3) * 1 + 1; omega
  | ⟨1, _⟩ => show cc0_transform_5 (grid0.coords t) (1 : Fin 3) * 256 ≤ (i 1).val ∧ (i 1).val < cc0_transform_5 (grid0.coords t) (1 : Fin 3) * 256 + 256; omega
  | ⟨2, _⟩ => show cc0_transform_5 (grid0.coords t) (2 : Fin 3) * 1024 ≤ (i 2).val ∧ (i 2).val < cc0_transform_5 (grid0.coords t) (2 : Fin 3) * 1024 + 1024; omega

theorem flushed_5 (t : Fin (cfgM m).N) :
    (dats m 0 c).flushed 5 t = (((cfgM m).win 5).blk t).view.read (Elt Ideal) (fun i => G m c i) := by
  show ((cfgM m).win 5).cut (grid0.coords t) ((dats m 0 c).after 5 t) = _
  rw [after_5]
  funext y
  refine (out5_apply (grid0.coords t) _ _ _ y).trans (Eq.trans ?_ (read_5 m t _ y).symm)
  exact (pick_block m c t y)

theorem value_5 : (dats m 0 c).arrAt 5 (cfgM m).N = fun i => G m c i :=
  (dats m 0 c).arrAt_eq_of_cover 5 _ (fun t _ => flushed_5 m c t) (covered_5 m)

theorem emb_6 (t : Fin (cfgM m).N) (y : S1x256x1024.Idx) : (((cfgM m).win 6).blk t).view.emb y = at' t y :=
  emb_of t (place_6 t) y _ rfl rfl rfl

theorem read_6 (t : Fin (cfgM m).N) (f : S2x256x1024.Idx → EReal) (y : S1x256x1024.Idx) :
    (((cfgM m).win 6).blk t).view.read (Elt Ideal) f y = f (at' t y) :=
  congrArg f (emb_6 m t y)

theorem flush_6 : ∀ t : Fin (cfgM m).N, ((cfgM m).win 6).flush t = true :=
  (by decide +kernel : ∀ t : Fin grid0.N, Pipeline.Window.flushOf grid0 true cc0_transform_6 t = true)

theorem points_6 : ∀ (q0 : Fin 2) (q1 : Fin 1) (q2 : Fin 1), ∃ t : Fin grid0.N, cc0_transform_6 (grid0.coords t) = ![q0.val, q1.val, q2.val] := by
  decide +kernel

theorem covered_6 (i : S2x256x1024.Idx) : ∃ t : Fin (cfgM m).N, ((cfgM m).win 6).flush t = true ∧ i ∈ (((cfgM m).win 6).blk t).view.set := by
  have hi0 : (i 0).val < 2 := (i 0).isLt
  have hi1 : (i 1).val < 256 := (i 1).isLt
  have hi2 : (i 2).val < 1024 := (i 2).isLt
  obtain ⟨t, ht⟩ := points_6 ⟨(i 0).val, hi0⟩ ⟨(i 1).val / 256, by omega⟩ ⟨(i 2).val / 1024, by omega⟩
  refine ⟨t, flush_6 m t, ?_⟩
  have q0 : cc0_transform_6 (grid0.coords t) (0 : Fin 3) = (i 0).val := congrFun ht 0
  have q1 : cc0_transform_6 (grid0.coords t) (1 : Fin 3) = (i 1).val / 256 := congrFun ht 1
  have q2 : cc0_transform_6 (grid0.coords t) (2 : Fin 3) = (i 2).val / 1024 := congrFun ht 2
  have e : (((cfgM m).win 6).blk t).view.set = (((cfgM m).win 6).rect t).set := View.set_slice_whole _ _
  rw [e]
  refine Rect.mem_set_unit.mpr ?_
  intro a
  match a with
  | ⟨0, _⟩ => show cc0_transform_6 (grid0.coords t) (0 : Fin 3) * 1 ≤ (i 0).val ∧ (i 0).val < cc0_transform_6 (grid0.coords t) (0 : Fin 3) * 1 + 1; omega
  | ⟨1, _⟩ => show cc0_transform_6 (grid0.coords t) (1 : Fin 3) * 256 ≤ (i 1).val ∧ (i 1).val < cc0_transform_6 (grid0.coords t) (1 : Fin 3) * 256 + 256; omega
  | ⟨2, _⟩ => show cc0_transform_6 (grid0.coords t) (2 : Fin 3) * 1024 ≤ (i 2).val ∧ (i 2).val < cc0_transform_6 (grid0.coords t) (2 : Fin 3) * 1024 + 1024; omega

theorem flushed_6 (t : Fin (cfgM m).N) :
    (dats m 0 c).flushed 6 t = (((cfgM m).win 6).blk t).view.read (Elt Ideal) (fun i => Ada.delta (m ((c : Thread nD τ).loc main_arg0) i) (G m c i) (m ((c : Thread nD τ).loc main_arg3) i) (m ((c : Thread nD τ).loc main_arg4) i)) := by
  show ((cfgM m).win 6).cut (grid0.coords t) ((dats m 0 c).after 6 t) = _
  rw [after_6]
  funext y
  refine (out6_apply (grid0.coords t) _ _ _ _ _ _ y).trans (Eq.trans ?_ (read_6 m t _ y).symm)
  exact congr (congr (congr (congrArg Ada.delta (block_0 m c t y)) (pick_block m c t y)) (block_3 m c t y)) (block_4 m c t y)

theorem value_6 : (dats m 0 c).arrAt 6 (cfgM m).N = fun i => Ada.delta (m ((c : Thread nD τ).loc main_arg0) i) (G m c i) (m ((c : Thread nD τ).loc main_arg3) i) (m ((c : Thread nD τ).loc main_arg4) i) :=
  (dats m 0 c).arrAt_eq_of_cover 6 _ (fun t _ => flushed_6 m c t) (covered_6 m)

theorem emb_7 (t : Fin (cfgM m).N) (y : S1x256x1024.Idx) : (((cfgM m).win 7).blk t).view.emb y = at' t y :=
  emb_of t (place_7 t) y _ rfl rfl rfl

theorem read_7 (t : Fin (cfgM m).N) (f : S2x256x1024.Idx → EReal) (y : S1x256x1024.Idx) :
    (((cfgM m).win 7).blk t).view.read (Elt Ideal) f y = f (at' t y) :=
  congrArg f (emb_7 m t y)

theorem flush_7 : ∀ t : Fin (cfgM m).N, ((cfgM m).win 7).flush t = true :=
  (by decide +kernel : ∀ t : Fin grid0.N, Pipeline.Window.flushOf grid0 true cc0_transform_7 t = true)

theorem points_7 : ∀ (q0 : Fin 2) (q1 : Fin 1) (q2 : Fin 1), ∃ t : Fin grid0.N, cc0_transform_7 (grid0.coords t) = ![q0.val, q1.val, q2.val] := by
  decide +kernel

theorem covered_7 (i : S2x256x1024.Idx) : ∃ t : Fin (cfgM m).N, ((cfgM m).win 7).flush t = true ∧ i ∈ (((cfgM m).win 7).blk t).view.set := by
  have hi0 : (i 0).val < 2 := (i 0).isLt
  have hi1 : (i 1).val < 256 := (i 1).isLt
  have hi2 : (i 2).val < 1024 := (i 2).isLt
  obtain ⟨t, ht⟩ := points_7 ⟨(i 0).val, hi0⟩ ⟨(i 1).val / 256, by omega⟩ ⟨(i 2).val / 1024, by omega⟩
  refine ⟨t, flush_7 m t, ?_⟩
  have q0 : cc0_transform_7 (grid0.coords t) (0 : Fin 3) = (i 0).val := congrFun ht 0
  have q1 : cc0_transform_7 (grid0.coords t) (1 : Fin 3) = (i 1).val / 256 := congrFun ht 1
  have q2 : cc0_transform_7 (grid0.coords t) (2 : Fin 3) = (i 2).val / 1024 := congrFun ht 2
  have e : (((cfgM m).win 7).blk t).view.set = (((cfgM m).win 7).rect t).set := View.set_slice_whole _ _
  rw [e]
  refine Rect.mem_set_unit.mpr ?_
  intro a
  match a with
  | ⟨0, _⟩ => show cc0_transform_7 (grid0.coords t) (0 : Fin 3) * 1 ≤ (i 0).val ∧ (i 0).val < cc0_transform_7 (grid0.coords t) (0 : Fin 3) * 1 + 1; omega
  | ⟨1, _⟩ => show cc0_transform_7 (grid0.coords t) (1 : Fin 3) * 256 ≤ (i 1).val ∧ (i 1).val < cc0_transform_7 (grid0.coords t) (1 : Fin 3) * 256 + 256; omega
  | ⟨2, _⟩ => show cc0_transform_7 (grid0.coords t) (2 : Fin 3) * 1024 ≤ (i 2).val ∧ (i 2).val < cc0_transform_7 (grid0.coords t) (2 : Fin 3) * 1024 + 1024; omega

theorem flushed_7 (t : Fin (cfgM m).N) :
    (dats m 0 c).flushed 7 t = (((cfgM m).win 7).blk t).view.read (Elt Ideal) (fun i => Ada.first (G m c i) (m ((c : Thread nD τ).loc main_arg3) i)) := by
  show ((cfgM m).win 7).cut (grid0.coords t) ((dats m 0 c).after 7 t) = _
  rw [after_7]
  funext y
  refine (out7_apply (grid0.coords t) _ _ _ _ y).trans (Eq.trans ?_ (read_7 m t _ y).symm)
  exact congr (congrArg Ada.first (pick_block m c t y)) (block_3 m c t y)

theorem value_7 : (dats m 0 c).arrAt 7 (cfgM m).N = fun i => Ada.first (G m c i) (m ((c : Thread nD τ).loc main_arg3) i) :=
  (dats m 0 c).arrAt_eq_of_cover 7 _ (fun t _ => flushed_7 m c t) (covered_7 m)

theorem emb_8 (t : Fin (cfgM m).N) (y : S1x256x1024.Idx) : (((cfgM m).win 8).blk t).view.emb y = at' t y :=
  emb_of t (place_8 t) y _ rfl rfl rfl

theorem read_8 (t : Fin (cfgM m).N) (f : S2x256x1024.Idx → EReal) (y : S1x256x1024.Idx) :
    (((cfgM m).win 8).blk t).view.read (Elt Ideal) f y = f (at' t y) :=
  congrArg f (emb_8 m t y)

theorem flush_8 : ∀ t : Fin (cfgM m).N, ((cfgM m).win 8).flush t = true :=
  (by decide +kernel : ∀ t : Fin grid0.N, Pipeline.Window.flushOf grid0 true cc0_transform_8 t = true)

theorem points_8 : ∀ (q0 : Fin 2) (q1 : Fin 1) (q2 : Fin 1), ∃ t : Fin grid0.N, cc0_transform_8 (grid0.coords t) = ![q0.val, q1.val, q2.val] := by
  decide +kernel

theorem covered_8 (i : S2x256x1024.Idx) : ∃ t : Fin (cfgM m).N, ((cfgM m).win 8).flush t = true ∧ i ∈ (((cfgM m).win 8).blk t).view.set := by
  have hi0 : (i 0).val < 2 := (i 0).isLt
  have hi1 : (i 1).val < 256 := (i 1).isLt
  have hi2 : (i 2).val < 1024 := (i 2).isLt
  obtain ⟨t, ht⟩ := points_8 ⟨(i 0).val, hi0⟩ ⟨(i 1).val / 256, by omega⟩ ⟨(i 2).val / 1024, by omega⟩
  refine ⟨t, flush_8 m t, ?_⟩
  have q0 : cc0_transform_8 (grid0.coords t) (0 : Fin 3) = (i 0).val := congrFun ht 0
  have q1 : cc0_transform_8 (grid0.coords t) (1 : Fin 3) = (i 1).val / 256 := congrFun ht 1
  have q2 : cc0_transform_8 (grid0.coords t) (2 : Fin 3) = (i 2).val / 1024 := congrFun ht 2
  have e : (((cfgM m).win 8).blk t).view.set = (((cfgM m).win 8).rect t).set := View.set_slice_whole _ _
  rw [e]
  refine Rect.mem_set_unit.mpr ?_
  intro a
  match a with
  | ⟨0, _⟩ => show cc0_transform_8 (grid0.coords t) (0 : Fin 3) * 1 ≤ (i 0).val ∧ (i 0).val < cc0_transform_8 (grid0.coords t) (0 : Fin 3) * 1 + 1; omega
  | ⟨1, _⟩ => show cc0_transform_8 (grid0.coords t) (1 : Fin 3) * 256 ≤ (i 1).val ∧ (i 1).val < cc0_transform_8 (grid0.coords t) (1 : Fin 3) * 256 + 256; omega
  | ⟨2, _⟩ => show cc0_transform_8 (grid0.coords t) (2 : Fin 3) * 1024 ≤ (i 2).val ∧ (i 2).val < cc0_transform_8 (grid0.coords t) (2 : Fin 3) * 1024 + 1024; omega

theorem flushed_8 (t : Fin (cfgM m).N) :
    (dats m 0 c).flushed 8 t = (((cfgM m).win 8).blk t).view.read (Elt Ideal) (fun i => Ada.second (G m c i) (m ((c : Thread nD τ).loc main_arg4) i)) := by
  show ((cfgM m).win 8).cut (grid0.coords t) ((dats m 0 c).after 8 t) = _
  rw [after_8]
  funext y
  refine (out8_apply (grid0.coords t) _ _ _ _ y).trans (Eq.trans ?_ (read_8 m t _ y).symm)
  exact congr (congrArg Ada.second (pick_block m c t y)) (block_4 m c t y)

theorem value_8 : (dats m 0 c).arrAt 8 (cfgM m).N = fun i => Ada.second (G m c i) (m ((c : Thread nD τ).loc main_arg4) i) :=
  (dats m 0 c).arrAt_eq_of_cover 8 _ (fun t _ => flushed_8 m c t) (covered_8 m)

theorem run_blocks : θ_run defs (onTc (τ := τ) (main (F := Ideal))) ⟨m, fun _ => 0, ρ⟩ (fun r => ∀ c : Dev nD,
      r.2.mem ((c.tc : Thread nD τ).loc main_v0_0) = (dats m 0 c).arrAt 5 (cfgM m).N
      ∧ r.2.mem ((c.tc : Thread nD τ).loc main_v0_1) = (dats m 0 c).arrAt 6 (cfgM m).N
      ∧ r.2.mem ((c.tc : Thread nD τ).loc main_v0_2) = (dats m 0 c).arrAt 7 (cfgM m).N
      ∧ r.2.mem ((c.tc : Thread nD τ).loc main_v0_3) = (dats m 0 c).arrAt 8 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 5, (h.1 c).1 6, (h.1 c).1 7, (h.1 c).1 8, ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      (h.1 c).2 main_arg5 (by decide : main_arg5 ∈ Pipeline.restRefs sig spec0)⟩) (run_main_quiescent m ρ)

end Kernel

section Reference

open Cert.AdamARefIdeal Cert.AdamARefIdeal.Gen

/-- The reference's choice of gradient. -/
theorem choice (w : S1.Idx → BitVec 32) (x1 x2 : S256x1024.Idx → EReal) :
    (select (broadcastInDim S2x256x1024 ![0, 1, 2] bcast_S2x1x1_S2x256x1024_0_1_2 (broadcastInDim S2x1x1 ![0] bcast_S2_S2x1x1_0
        (cmpi .eq (iotaInDim S2 32 0) (broadcastInDim S2 ![0] bcast_S1_S2_0 w))))
      (broadcastInDim S2x256x1024 ![1, 2] bcast_S256x1024_S2x256x1024_1_2 x1) (broadcastInDim S2x256x1024 ![1, 2] bcast_S256x1024_S2x256x1024_1_2 x2) : S2x256x1024.Idx → EReal)
      = fun i => if BitVec.ofNat 32 (i 0).val = w (ix1 (0 : Fin 1)) then x1 (ix2 (i 1) (i 2) : S256x1024.Idx) else x2 (ix2 (i 1) (i 2) : S256x1024.Idx) := by
  funext i
  have e : ∀ x : S256x1024.Idx → EReal, broadcastInDim S2x256x1024 ![1, 2] bcast_S256x1024_S2x256x1024_1_2 x i = x (ix2 (i 1) (i 2) : S256x1024.Idx) := fun x =>
    broadcastInDim_apply _ _ _ i _
      (fun a => by match a with | ⟨0, _⟩ => exact (if_neg (show ¬ (256 : ℕ) = 1 by omega)).symm | ⟨1, _⟩ => exact (if_neg (show ¬ (1024 : ℕ) = 1 by omega)).symm)
  have q : broadcastInDim S2x256x1024 ![0, 1, 2] bcast_S2x1x1_S2x256x1024_0_1_2 (broadcastInDim S2x1x1 ![0] bcast_S2_S2x1x1_0
        (cmpi .eq (iotaInDim S2 32 0) (broadcastInDim S2 ![0] bcast_S1_S2_0 w))) i = BitVec.ofBool (BitVec.ofNat 32 (i 0).val == w (ix1 (0 : Fin 1))) := by
    refine (broadcastInDim_apply _ _ _ i (ix3 (i 0) (0 : Fin 1) (0 : Fin 1) : S2x1x1.Idx)
      (fun a => by match a with | ⟨0, _⟩ => exact (if_neg (show ¬ (2 : ℕ) = 1 by omega)).symm | ⟨1, _⟩ => rfl | ⟨2, _⟩ => rfl)).trans ?_
    refine (broadcastInDim_apply _ _ _ _ (ix1 (i 0) : S2.Idx)
      (fun a => by match a with | ⟨0, _⟩ => exact (if_neg (show ¬ (2 : ℕ) = 1 by omega)).symm)).trans ?_
    refine congrArg (fun z => BitVec.ofBool (BitVec.ofNat 32 (i 0).val == z)) ?_
    exact broadcastInDim_apply _ _ _ _ _ (fun a => by match a with | ⟨0, _⟩ => rfl)
  show (if _ = 1#1 then _ else _) = _
  rw [q, e, e]
  by_cases h : BitVec.ofNat 32 (i 0).val = w (ix1 (0 : Fin 1))
  · rw [if_pos h, beq_iff_eq.mpr h]; rfl
  · rw [if_neg h, beq_eq_false_iff_ne.mpr h]; rfl

end Reference

theorem frame_p : Cert.quiescent_AdamA := fun m ρ _ => Cert.AdamA.Layers.frame m ρ

theorem frame_pi : Cert.quiescent_AdamAIdeal := fun m ρ _ => Cert.AdamAIdeal.Layers.frame m ρ

theorem frame_ri : Cert.quiescent_AdamARefIdeal := fun m ρ _ =>
  (θ_run Cert.AdamARefIdeal.defs _ _).mono (fun r h => ⟨fun c => (h c).2.2.2.2, Idealize.ShloMosaic.sem_eq_zero_of_no_sems (by decide) r.2⟩)
    (Cert.AdamARefIdeal.Value.run (F := Ideal) m ρ)

theorem preserves : Cert.preserves_AdamA_AdamAIdeal := trivial

theorem algebraic : Cert.algebraic_AdamAIdeal_AdamARefIdeal := by
  intro m ρ m' ρ' _ hagree
  refine ⟨_, _, _, _, run_blocks m ρ, ?_⟩
  refine (θ_run Cert.AdamARefIdeal.defs _ _).mono (fun _ h c => ⟨(h c).1.trans ?_, (h c).2.1.trans ?_, (h c).2.2.1.trans ?_, (h c).2.2.2.1.trans ?_, (h c).2.2.2.2⟩)
    (Cert.AdamARefIdeal.Value.run (F := Ideal) m' ρ')
  · rw [(hagree c).2.1, (hagree c).2.2.1, (hagree c).2.2.2.2.2, value_5 m c, choice]
    rfl
  · rw [(hagree c).1, (hagree c).2.1, (hagree c).2.2.1, (hagree c).2.2.2.1, (hagree c).2.2.2.2.1, (hagree c).2.2.2.2.2, value_6 m c, choice]
    rfl
  · rw [(hagree c).2.1, (hagree c).2.2.1, (hagree c).2.2.2.1, (hagree c).2.2.2.2.2, value_7 m c, choice]
    rfl
  · rw [(hagree c).2.1, (hagree c).2.2.1, (hagree c).2.2.2.2.1, (hagree c).2.2.2.2.2, value_8 m c, choice]
    rfl

end Cert.Proof.AdamA

end
-- ==== Proof.LayersBIdeal.lean ====
/-
  The optimiser's step on a weight of all layers: what the program leaves behind, in any arithmetic. At each point the word read
  says whose gradient the layer takes; either way all four blocks are stored whole.
-/
module

public import proofs.«01_k».proof.Defs
public import proofs.«01_k».proof.Proof.Gen.AdamBIdeal.Launch
public import proofs.«01_k».proof.Proof.Gen.AdamBIdeal.Skeleton
public import Idealize.ShloMosaic.Lib.Pipeline.FrameBody
public import Idealize.ShloMosaic.Lib.Ring
public import Idealize.ShloMosaic.Lib.VecWindow
public import Idealize.ShloMosaic.Lib.Tactic
public import Idealize.ShloMosaic.Lib.Claim

@[expose] public section

set_option maxRecDepth 16384

noncomputable section

namespace Cert.AdamBIdeal.Layers

open Cert.AdamBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Whose gradient a layer takes -/

/-- Exactly one of the two conditions holds. -/
theorem either (i : grid0.Coords) (w : BitVec 32) :
    (k0_cond1 i w = 1#1 ∧ ¬ k0_cond2 i w = 1#1) ∨ (¬ k0_cond1 i w = 1#1 ∧ k0_cond2 i w = 1#1) := by
  have key : ∀ b : BitVec 1, (Scalar.cmpi .ne (Scalar.extui b) 0#32 = 1#1 ∧ ¬ Scalar.cmpi .ne (Scalar.extui (Scalar.xori b 1#1)) 0#32 = 1#1)
      ∨ (¬ Scalar.cmpi .ne (Scalar.extui b) 0#32 = 1#1 ∧ Scalar.cmpi .ne (Scalar.extui (Scalar.xori b 1#1)) 0#32 = 1#1) := by decide
  exact key _

theorem one (x y : S1.Idx) : x = y := funext fun a => by
  match a with
  | ⟨0, _⟩ =>
    have h1 : (x 0).val < 1 := (x 0).isLt
    have h2 : (y 0).val < 1 := (y 0).isLt
    exact Fin.ext (show (x 0).val = (y 0).val by omega)

/-! ## The body -/

/-- The table as the body is handed it. -/
abbrev tableM : Memref sig .tc .smem S1 .i32 := Memref.whole main_arg5
abbrev tableWhole : tableM.IsWhole := Memref.isWhole_whole _
abbrev TableBuf (c : Dev nD) {S : Shape} {e : EltTy} (M : Memref sig .tc .smem S e) : Type := Buf (Elt F) (M.view.loc (c : Thread nD τ))
abbrev tableHeld (c : Dev nD) {S : Shape} {e : EltTy} (M : Memref sig .tc .smem S e) (f : TableBuf (F := F) c M) : sProp 𝕄 :=
  M.view.loc (c : Thread nD τ) ↦{fullShare.right} f

/-- The word the table holds. -/
def word (c : Dev nD) (xt : TableBuf (F := F) c tableM) : BitVec 32 := tableM.view.read (Elt F) xt (Shape.Idx.first (by decide))

/-- What the body leaves in each output's block. -/
def out5 (i : grid0.Coords) (w : BitVec 32) (x1 x2 : Vec F S256x1024 .f32) : Vec F S1x256x1024 .f32 :=
  if k0_cond1 i w = 1#1 then k0_pay7 x1 else k0_pay11 x2
def out6 (i : grid0.Coords) (w : BitVec 32) (x0 : Vec F S1x256x1024 .f32) (x1 x2 : Vec F S256x1024 .f32) (x3 x4 : Vec F S1x256x1024 .f32) : Vec F S1x256x1024 .f32 :=
  if k0_cond1 i w = 1#1 then k0_pay1 (k0_pay10 x1 x0 x3 x4) else k0_pay4 (k0_pay14 x2 x0 x3 x4)
def out7 (i : grid0.Coords) (w : BitVec 32) (x1 x2 : Vec F S256x1024 .f32) (x3 : Vec F S1x256x1024 .f32) : Vec F S1x256x1024 .f32 :=
  if k0_cond1 i w = 1#1 then k0_pay2 (k0_pay8 x1 x3) else k0_pay5 (k0_pay12 x2 x3)
def out8 (i : grid0.Coords) (w : BitVec 32) (x1 x2 : Vec F S256x1024 .f32) (x4 : Vec F S1x256x1024 .f32) : Vec F S1x256x1024 .f32 :=
  if k0_cond1 i w = 1#1 then k0_pay3 (k0_pay9 x1 x4) else k0_pay6 (k0_pay13 x2 x4)

/-- A block stored under one of the two conditions holds the one or the other. -/
theorem pick (i : grid0.Coords) (w w' : BitVec 32) (hw : w = w') {S : Shape} (v : View sig .tc .vmem S .f32) (f : v.ty.Contents (Elt F))
    (p q : List (View.Piece (Elt F) S .f32)) (a b : Vec F S .f32) (hp : ∀ g, v.read (Elt F) (v.writes (Elt F) g p) = a)
    (hq : ∀ g, v.read (Elt F) (v.writes (Elt F) g q) = b) :
    v.read (Elt F) (if hc : k0_cond2 i w = 1#1 then v.writes (Elt F) (if hc : k0_cond1 i w = 1#1 then v.writes (Elt F) f p else f) q
      else if hc : k0_cond1 i w = 1#1 then v.writes (Elt F) f p else f) = if k0_cond1 i w' = 1#1 then a else b := by
  subst hw
  rcases either i w with ⟨h1, h2⟩ | ⟨h1, h2⟩
  · rw [dif_neg h2, dif_pos h1, if_pos h1, hp]
  · rw [dif_pos h2, dif_neg h1, if_neg h1, hq]

theorem ld {S : Shape} {a : Memref sig .tc .vmem S .f32} (ha : a.IsWhole) (x : Vec F S .f32) {off : Fin S.rank → ℕ}
    (inb : ∀ k, off k + S.size k ≤ S.size k) : View.readAt (Elt F) a.view (Rect.unit off S.size inb).toLoadRect (ha.unread x) = x := by
  rw [View.readAt_full, ha.read_unread]

theorem full {S : Shape} (v : View sig .tc .vmem S .f32) (a : Vec F S .f32) {off : Fin S.rank → ℕ} {inb : ∀ k, off k + S.size k ≤ S.size k} (g : v.ty.Contents (Elt F)) :
    v.read (Elt F) (v.writes (Elt F) g [⟨Rect.unit off S.size inb, a⟩]) = a := View.read_writes_full _ _ _ _ _

set_option maxHeartbeats 1600000 in
theorem run1 (c : Dev nD) (i : grid0.Coords) (arg4 : Memref sig .tc .vmem S1x256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1x256x1024 .f32) (harg11 : arg11.IsWhole) (arg12 : Memref sig .tc .vmem S1x256x1024 .f32) (harg12 : arg12.IsWhole)
    (x0 : Vec F S1x256x1024 .f32) (x1 : Vec F S256x1024 .f32) (x2 : Vec F S256x1024 .f32) (x3 : Vec F S1x256x1024 .f32) (x4 : Vec F S1x256x1024 .f32) (xt : TableBuf (F := F) c tableM) (E : Set ℕ) (K : PUnit → sProp 𝕄) :
    iprop(owns c arg4 fullShare x0 ∗ owns c arg5 fullShare x1 ∗ owns c arg6 fullShare x2 ∗ owns c arg7 fullShare x3 ∗ owns c arg8 fullShare x4 ∗ (∃ d, owns c arg9 fullShare d) ∗ (∃ d, owns c arg10 fullShare d)
        ∗ (∃ d, owns c arg11 fullShare d) ∗ (∃ d, owns c arg12 fullShare d) ∗ tableHeld c tableM xt
        ∗ (iprop(owns c arg4 fullShare x0 ∗ owns c arg5 fullShare x1 ∗ owns c arg6 fullShare x2 ∗ owns c arg7 fullShare x3 ∗ owns c arg8 fullShare x4 ∗ owns c arg9 fullShare (out5 i (word c xt) x1 x2) ∗ owns c arg10 fullShare (out6 i (word c xt) x0 x1 x2 x3 x4)
            ∗ owns c arg11 fullShare (out7 i (word c xt) x1 x2 x3) ∗ owns c arg12 fullShare (out8 i (word c xt) x1 x2 x4) ∗ tableHeld c tableM xt) -∗ K ⟨⟩))
      ⊢ wp frame (wpE (defs₀ (F := F)) Variants.none c none) E (cc0_adamw_layers i tableM tableWhole arg4 harg4 arg5 harg5 arg6 harg6 arg7 harg7 arg8 harg8 arg9 harg9 arg10 harg10 arg11 harg11 arg12 harg12) K := by
  simp only [cc0_adamw_layers_eq_skeleton]; unfold cc0_adamw_layers_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, HT0, Hk⟩
  obtain rfl := harg4.eq_unread hf0; obtain rfl := harg5.eq_unread hf1; obtain rfl := harg6.eq_unread hf2; obtain rfl := harg7.eq_unread hf3; obtain rfl := harg8.eq_unread hf4
  have l0 := ld harg4 x0 inb_S1x256x1024_S1x256x1024_0_0_0
  have l1 := ld harg5 x1 inb_S256x1024_S256x1024_0_0
  have l2 := ld harg6 x2 inb_S256x1024_S256x1024_0_0
  have l3 := ld harg7 x3 inb_S1x256x1024_S1x256x1024_0_0_0
  have l4 := ld harg8 x4 inb_S1x256x1024_S1x256x1024_0_0_0
  have hw := fun x y : S1.Idx => congrArg (tableM.view.read (Elt F) xt) (one x y)
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro; exact pick i _ _ (hw _ _) _ _ _ _ _ _ (full _ _) (full _ _)
  isplitl [H6]
  · iexists _; isplitr
    swap; · iexact H6
    ipureintro; exact pick i _ _ (hw _ _) _ _ _ _ _ _ (full _ _) (full _ _)
  isplitl [H7]
  · iexists _; isplitr
    swap; · iexact H7
    ipureintro; exact pick i _ _ (hw _ _) _ _ _ _ _ _ (full _ _) (full _ _)
  isplitl [H8]
  · iexists _; isplitr
    swap; · iexact H8
    ipureintro; exact pick i _ _ (hw _ _) _ _ _ _ _ _ (full _ _) (full _ _)
  iexact HT0

/-! ## The pipeline around it -/

variable (m : (ℓ : Loc nD τ sig) → Buf (Elt F) ℓ) (ρ : Dev nD → PrngReg)

/-- The buffers as the pipeline finds them: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents at launch; no index map reads them, so any are admissible. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

theorem held_eq (c : Dev nD) : (Pipeline.ΦT pre0 (tbl m) c : sProp 𝕄) = iprop(tableHeld c tableM (tbl m 0)) := by
  unfold Pipeline.ΦT Pipeline.prefHeld
  rw [show (Finset.univ : Finset (Fin 1)) = {(0 : Fin 1)} from by decide, bigSep_singleton]
  rfl

/-- The layer's word as the table's contents give it. -/
abbrev wordM : BitVec 32 := word (F := F) 0 (tbl m 0)

/-- A window's block at a point, off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev ms_0 (t : Fin (cfgM m).N) : Memref sig .tc .vmem S1x256x1024 .f32 := spec0_0.stage ((cfgM m).slots t 0)
abbrev ms_1 (t : Fin (cfgM m).N) : Memref sig .tc .vmem S256x1024 .f32 := spec0_1.stage ((cfgM m).slots t 1)
abbrev ms_2 (t : Fin (cfgM m).N) : Memref sig .tc .vmem S256x1024 .f32 := spec0_2.stage ((cfgM m).slots t 2)
abbrev ms_3 (t : Fin (cfgM m).N) : Memref sig .tc .vmem S1x256x1024 .f32 := spec0_3.stage ((cfgM m).slots t 3)
abbrev ms_4 (t : Fin (cfgM m).N) : Memref sig .tc .vmem S1x256x1024 .f32 := spec0_4.stage ((cfgM m).slots t 4)
abbrev ms_5 (t : Fin (cfgM m).N) : Memref sig .tc .vmem S1x256x1024 .f32 := spec0_5.stage ((cfgM m).slots t 5)
abbrev ms_6 (t : Fin (cfgM m).N) : Memref sig .tc .vmem S1x256x1024 .f32 := spec0_6.stage ((cfgM m).slots t 6)
abbrev ms_7 (t : Fin (cfgM m).N) : Memref sig .tc .vmem S1x256x1024 .f32 := spec0_7.stage ((cfgM m).slots t 7)
abbrev ms_8 (t : Fin (cfgM m).N) : Memref sig .tc .vmem S1x256x1024 .f32 := spec0_8.stage ((cfgM m).slots t 8)

/-- The arrays as launched, and what the body leaves at each point. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (grid0.coords t) (word c (tbl m 0)) (iblk m c 1 t) (iblk m c 2 t)
    | ⟨6, _⟩ => out6 (grid0.coords t) (word c (tbl m 0)) (iblk m c 0 t) (iblk m c 1 t) (iblk m c 2 t) (iblk m c 3 t) (iblk m c 4 t)
    | ⟨7, _⟩ => out7 (grid0.coords t) (word c (tbl m 0)) (iblk m c 1 t) (iblk m c 2 t) (iblk m c 3 t)
    | ⟨8, _⟩ => out8 (grid0.coords t) (word c (tbl m 0)) (iblk m c 1 t) (iblk m c 2 t) (iblk m c 4 t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := rfl
theorem after_1 (c : Dev nD) (t : Fin (cfgM m).N) : (dats m 0 c).after 1 t = iblk m c 1 t := rfl
theorem after_2 (c : Dev nD) (t : Fin (cfgM m).N) : (dats m 0 c).after 2 t = iblk m c 2 t := rfl
theorem after_3 (c : Dev nD) (t : Fin (cfgM m).N) : (dats m 0 c).after 3 t = iblk m c 3 t := rfl
theorem after_4 (c : Dev nD) (t : Fin (cfgM m).N) : (dats m 0 c).after 4 t = iblk m c 4 t := rfl
theorem after_5 (c : Dev nD) (t : Fin (cfgM m).N) : (dats m 0 c).after 5 t = out5 (grid0.coords t) (word c (tbl m 0)) (iblk m c 1 t) (iblk m c 2 t) := rfl
theorem after_6 (c : Dev nD) (t : Fin (cfgM m).N) : (dats m 0 c).after 6 t = out6 (grid0.coords t) (word c (tbl m 0)) (iblk m c 0 t) (iblk m c 1 t) (iblk m c 2 t) (iblk m c 3 t) (iblk m c 4 t) := rfl
theorem after_7 (c : Dev nD) (t : Fin (cfgM m).N) : (dats m 0 c).after 7 t = out7 (grid0.coords t) (word c (tbl m 0)) (iblk m c 1 t) (iblk m c 2 t) (iblk m c 3 t) := rfl
theorem after_8 (c : Dev nD) (t : Fin (cfgM m).N) : (dats m 0 c).after 8 t = out8 (grid0.coords t) (word c (tbl m 0)) (iblk m c 1 t) (iblk m c 2 t) (iblk m c 4 t) := rfl
theorem before_0 (c : Dev nD) (t : Fin (cfgM m).N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin (cfgM m).N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin (cfgM m).N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin (cfgM m).N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin (cfgM m).N) (d) : (dats m 0 c).before 4 t d = iblk m c 4 t :=
  ((dats m 0 c).before_in_eq_fetched 4 rfl (fun _ => rfl) (fun _ _ _ => rfl) (fun _ => rfl) t d).trans rfl

/-! ## The body obligation -/

abbrev bodyAt0 (a : (pcfg0 (F := F)).Adm) (t : Fin (cfg0 a).N) : Prog (TpuEff nD τ sig (Elt F) Λ₀ .tc) PUnit :=
  cc0_adamw_layers (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

def bodyPre (c : Dev nD) (t : Fin (cfgM m).N) : sProp 𝕄 :=
  iprop((dats m 0 c).Φ t.castSucc ∗ (dats m 0 c).owesAt () t.castSucc
    ∗ (∃ d, owns c (ms_0 m t) fullShare ((dats m 0 c).before 0 t d))
    ∗ (∃ d, owns c (ms_1 m t) fullShare ((dats m 0 c).before 1 t d))
    ∗ (∃ d, owns c (ms_2 m t) fullShare ((dats m 0 c).before 2 t d))
    ∗ (∃ d, owns c (ms_3 m t) fullShare ((dats m 0 c).before 3 t d))
    ∗ (∃ d, owns c (ms_4 m t) fullShare ((dats m 0 c).before 4 t d))
    ∗ (∃ d, owns c (ms_5 m t) fullShare ((dats m 0 c).before 5 t d))
    ∗ (∃ d, owns c (ms_6 m t) fullShare ((dats m 0 c).before 6 t d))
    ∗ (∃ d, owns c (ms_7 m t) fullShare ((dats m 0 c).before 7 t d))
    ∗ (∃ d, owns c (ms_8 m t) fullShare ((dats m 0 c).before 8 t d)))

def bodyPost (c : Dev nD) (t : Fin (cfgM m).N) : sProp 𝕄 :=
  iprop((dats m 0 c).Φ t.succ ∗ (dats m 0 c).owesAt () t.succ
    ∗ owns c (ms_0 m t) fullShare ((dats m 0 c).after 0 t)
    ∗ owns c (ms_1 m t) fullShare ((dats m 0 c).after 1 t)
    ∗ owns c (ms_2 m t) fullShare ((dats m 0 c).after 2 t)
    ∗ owns c (ms_3 m t) fullShare ((dats m 0 c).after 3 t)
    ∗ owns c (ms_4 m t) fullShare ((dats m 0 c).after 4 t)
    ∗ owns c (ms_5 m t) fullShare ((dats m 0 c).after 5 t)
    ∗ owns c (ms_6 m t) fullShare ((dats m 0 c).after 6 t)
    ∗ owns c (ms_7 m t) fullShare ((dats m 0 c).after 7 t)
    ∗ owns c (ms_8 m t) fullShare ((dats m 0 c).after 8 t))

set_option maxHeartbeats 800000 in
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = iprop(Pipeline.ΦA spec0 c ∗ Pipeline.ΦT pre0 (tbl m) c) from rfl, held_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run1 c (grid0.coords t) _ _ _ _ _ _ _ _ _ _ _ _ _ _ _ _ _ _ (iblk m c 0 t) (iblk m c 1 t) (iblk m c 2 t) (iblk m c 3 t) (iblk m c 4 t) (tbl m 0) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HT0]; · iexact HT0
  iintro ⟨H0, H1, H2, H3, H4, H5, H6, H7, H8, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin (cfgM m).N) :
    defs₀ (F := F) .tc (cfgM m).body ((cfgM m).bodyArgs t ((cfgM m).slots t)) = bodyAt0 (adm m) t := by
  unfold defs₀; rw [Defs.onTc_tc]

/-- Every output's block is stored at every point. -/
theorem stored (i : grid0.Coords) (w : BitVec 32) : (!(k0_cond1 i w == 1#1) && !(k0_cond2 i w == 1#1)) = false := by
  rcases either i w with ⟨h1, _⟩ | ⟨_, h2⟩
  · rw [h1]; rfl
  · rw [h2]; cases (k0_cond1 i w == 1#1) <;> rfl

theorem live (w : Fin (cfgM m).W) (t : Fin (cfgM m).N) : (cfgM m).idle w ((cfgM m).grid.coords t) = false := by
  match w with
  | ⟨0, _⟩ | ⟨1, _⟩ | ⟨2, _⟩ | ⟨3, _⟩ | ⟨4, _⟩ => rfl
  | ⟨5, _⟩ | ⟨6, _⟩ | ⟨7, _⟩ | ⟨8, _⟩ => exact stored _ _

theorem leaves_eq (c : Dev nD) (w : Fin (cfgM m).W) (t : Fin (cfgM m).N) :
    (dats (F := F) m 0 c).leavesExact w t = owns c (((cfgM m).win w).stage ((cfgM m).slots t w)) fullShare ((dats m 0 c).after w t) := by
  unfold Dat.leavesExact; rw [live]

theorem both {P P' Q Q' : sProp 𝕄} (h : P = P') (h' : Q = Q') : iprop(P ∗ Q) = iprop(P' ∗ Q') := by rw [h, h']

theorem post_eq (c : Dev nD) (t : Fin (cfgM m).N) : bodyPost m c t =
    iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t) := by
  exact both rfl <| both rfl <| both (leaves_eq m c 0 t).symm <| both (leaves_eq m c 1 t).symm <| both (leaves_eq m c 2 t).symm <| both (leaves_eq m c 3 t).symm <| both (leaves_eq m c 4 t).symm <| both (leaves_eq m c 5 t).symm <| both (leaves_eq m c 6 t).symm <| both (leaves_eq m c 7 t).symm (leaves_eq m c 8 t).symm

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => by rw [post_eq]; exact .rfl

/-! ## The run and the frame -/

set_option backward.isDefEq.respectTransparency.types false in
theorem run_main_quiescent : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- Every run ends, with the argument arrays as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      (h.1 c).2 main_arg5 (by decide : main_arg5 ∈ Pipeline.restRefs sig spec0)⟩, h.2⟩) (run_main_quiescent m ρ)

end Cert.AdamBIdeal.Layers

end
-- ==== Proof.AdamB.lean ====
/-
  The optimiser's step on the weights of mixer B's merge product,
  both layers in one grid: a layer takes the first gradient if its number is the word, else the second, and the gradient
  taken and the step on it are the reference's, for all arguments.
-/
module

public import proofs.«01_k».proof.Defs
public import proofs.«01_k».proof.Proof.Ada
public import proofs.«01_k».proof.Proof.LayersB
public import proofs.«01_k».proof.Proof.LayersBIdeal
public import proofs.«01_k».proof.Proof.Gen.AdamBRefIdeal.Run

@[expose] public section

set_option maxRecDepth 16384

noncomputable section

open Idealize.ShloMosaic Idealize.ShloMosaic.ValueIdx Idealize.ShloMosaic.TcCoe Idealize.SL.Sem

namespace Cert.Proof.AdamB

section Kernel

open Cert.AdamBIdeal Cert.AdamBIdeal.Gen Cert.AdamBIdeal.Layers

/-- The condition is that the layer's number is the word. -/
theorem cond_iff (i : grid0.Coords) (w : BitVec 32) : k0_cond1 i w = 1#1 ↔ BitVec.ofNat 32 (i 0).val = w := by
  have key : ∀ b : Bool, (Scalar.cmpi .ne (Scalar.extui (BitVec.ofBool b)) 0#32 = 1#1 ↔ b = true) := by decide
  exact (key _).trans beq_iff_eq

theorem out_cast (x : FVec Ideal S256x1024 .f32) (y : S1x256x1024.Idx) :
    shapeCast S1x256x1024 x shapeCasts_S256x1024_S1x256x1024 y = x (ix2 (y 1) (y 2) : S256x1024.Idx) := by
  have h0 : (y 0).val < 1 := (y 0).isLt
  refine shapeCast_apply _ _ _ _ ?_
  rw [Shape.rowMajor_val_two, Shape.rowMajor_val_three]
  show (y 1).val * 1024 + (y 2).val = ((y 0).val * 256 + (y 1).val) * 1024 + (y 2).val
  omega

theorem in_cast (x : FVec Ideal S1x256x1024 .f32) (y : S1x256x1024.Idx) :
    shapeCast S256x1024 x shapeCasts_S1x256x1024_S256x1024 (ix2 (y 1) (y 2) : S256x1024.Idx) = x y := by
  have h0 : (y 0).val < 1 := (y 0).isLt
  refine shapeCast_apply _ _ _ _ ?_
  rw [Shape.rowMajor_val_two, Shape.rowMajor_val_three]
  show ((y 0).val * 256 + (y 1).val) * 1024 + (y 2).val = (y 1).val * 1024 + (y 2).val
  omega

/-- The gradient a block takes. -/
def sel (i : grid0.Coords) (w : BitVec 32) (x1 x2 : Vec Ideal S256x1024 .f32) (y : S1x256x1024.Idx) : EReal :=
  if BitVec.ofNat 32 (i 0).val = w then x1 (ix2 (y 1) (y 2) : S256x1024.Idx) else x2 (ix2 (y 1) (y 2) : S256x1024.Idx)

theorem first_apply (x1 : Vec Ideal S256x1024 .f32) (x3 : Vec Ideal S1x256x1024 .f32) (y : S1x256x1024.Idx) :
    k0_pay8 (F := Ideal) x1 x3 (ix2 (y 1) (y 2) : S256x1024.Idx) = Ada.first (x1 (ix2 (y 1) (y 2) : S256x1024.Idx)) (x3 y) :=
  congrArg (Ada.first _) (in_cast x3 y)

theorem second_apply (x1 : Vec Ideal S256x1024 .f32) (x4 : Vec Ideal S1x256x1024 .f32) (y : S1x256x1024.Idx) :
    k0_pay9 (F := Ideal) x1 x4 (ix2 (y 1) (y 2) : S256x1024.Idx) = Ada.second (x1 (ix2 (y 1) (y 2) : S256x1024.Idx)) (x4 y) :=
  congrArg (Ada.second _) (in_cast x4 y)

theorem delta_apply (x0 : Vec Ideal S1x256x1024 .f32) (x1 : Vec Ideal S256x1024 .f32) (x3 x4 : Vec Ideal S1x256x1024 .f32) (y : S1x256x1024.Idx) :
    k0_pay10 (F := Ideal) x1 x0 x3 x4 (ix2 (y 1) (y 2) : S256x1024.Idx) = Ada.delta (x0 y) (x1 (ix2 (y 1) (y 2) : S256x1024.Idx)) (x3 y) (x4 y) := by
  rw [← in_cast x0 y, ← in_cast x3 y, ← in_cast x4 y]
  rfl

theorem out5_apply (i : grid0.Coords) (w : BitVec 32) (x1 x2 : Vec Ideal S256x1024 .f32) (y : S1x256x1024.Idx) :
    out5 (F := Ideal) i w x1 x2 y = sel i w x1 x2 y := by
  unfold out5 sel
  by_cases h : BitVec.ofNat 32 (i 0).val = w
  · rw [if_pos ((cond_iff i w).mpr h), if_pos h]; exact out_cast x1 y
  · rw [if_neg (fun k => h ((cond_iff i w).mp k)), if_neg h]; exact out_cast x2 y

theorem out6_apply (i : grid0.Coords) (w : BitVec 32) (x0 : Vec Ideal S1x256x1024 .f32) (x1 x2 : Vec Ideal S256x1024 .f32) (x3 x4 : Vec Ideal S1x256x1024 .f32) (y : S1x256x1024.Idx) :
    out6 (F := Ideal) i w x0 x1 x2 x3 x4 y = Ada.delta (x0 y) (sel i w x1 x2 y) (x3 y) (x4 y) := by
  unfold out6 sel
  by_cases h : BitVec.ofNat 32 (i 0).val = w
  · rw [if_pos ((cond_iff i w).mpr h), if_pos h]; exact (out_cast _ y).trans (delta_apply x0 x1 x3 x4 y)
  · rw [if_neg (fun k => h ((cond_iff i w).mp k)), if_neg h]; exact (out_cast _ y).trans (delta_apply x0 x2 x3 x4 y)

theorem out7_apply (i : grid0.Coords) (w : BitVec 32) (x1 x2 : Vec Ideal S256x1024 .f32) (x3 : Vec Ideal S1x256x1024 .f32) (y : S1x256x1024.Idx) :
    out7 (F := Ideal) i w x1 x2 x3 y = Ada.first (sel i w x1 x2 y) (x3 y) := by
  unfold out7 sel
  by_cases h : BitVec.ofNat 32 (i 0).val = w
  · rw [if_pos ((cond_iff i w).mpr h), if_pos h]; exact (out_cast _ y).trans (first_apply x1 x3 y)
  · rw [if_neg (fun k => h ((cond_iff i w).mp k)), if_neg h]; exact (out_cast _ y).trans (first_apply x2 x3 y)

theorem out8_apply (i : grid0.Coords) (w : BitVec 32) (x1 x2 : Vec Ideal S256x1024 .f32) (x4 : Vec Ideal S1x256x1024 .f32) (y : S1x256x1024.Idx) :
    out8 (F := Ideal) i w x1 x2 x4 y = Ada.second (sel i w x1 x2 y) (x4 y) := by
  unfold out8 sel
  by_cases h : BitVec.ofNat 32 (i 0).val = w
  · rw [if_pos ((cond_iff i w).mpr h), if_pos h]; exact (out_cast _ y).trans (second_apply x1 x4 y)
  · rw [if_neg (fun k => h ((cond_iff i w).mp k)), if_neg h]; exact (out_cast _ y).trans (second_apply x2 x4 y)

variable (m : (ℓ : Loc nD τ sig) → Buf (Elt Ideal) ℓ) (ρ : Dev nD → PrngReg) (c : Dev nD)

/-- The gradient the weight takes, layer by layer. -/
def G (i : S2x512x1024.Idx) : EReal :=
  if BitVec.ofNat 32 (i 0).val = (m ((c : Thread nD τ).loc main_arg5) : S1.Idx → BitVec 32) (ix1 (0 : Fin 1)) then
    m ((c : Thread nD τ).loc main_arg1) (ix2 (i 1) (i 2) : S512x1024.Idx)
  else m ((c : Thread nD τ).loc main_arg2) (ix2 (i 1) (i 2) : S512x1024.Idx)

theorem size : grid0.N = 4 := by decide

theorem place_0 : ∀ t : Fin grid0.N, cc0_transform_0 (grid0.coords t) = ![t.val / 2, t.val / 1 % 2, t.val % 1] := by decide +kernel
theorem place_3 : ∀ t : Fin grid0.N, cc0_transform_3 (grid0.coords t) = ![t.val / 2, t.val / 1 % 2, t.val % 1] := by decide +kernel
theorem place_4 : ∀ t : Fin grid0.N, cc0_transform_4 (grid0.coords t) = ![t.val / 2, t.val / 1 % 2, t.val % 1] := by decide +kernel
theorem place_5 : ∀ t : Fin grid0.N, cc0_transform_5 (grid0.coords t) = ![t.val / 2, t.val / 1 % 2, t.val % 1] := by decide +kernel
theorem place_6 : ∀ t : Fin grid0.N, cc0_transform_6 (grid0.coords t) = ![t.val / 2, t.val / 1 % 2, t.val % 1] := by decide +kernel
theorem place_7 : ∀ t : Fin grid0.N, cc0_transform_7 (grid0.coords t) = ![t.val / 2, t.val / 1 % 2, t.val % 1] := by decide +kernel
theorem place_8 : ∀ t : Fin grid0.N, cc0_transform_8 (grid0.coords t) = ![t.val / 2, t.val / 1 % 2, t.val % 1] := by decide +kernel
theorem place_1 : ∀ t : Fin grid0.N, cc0_transform_1 (grid0.coords t) = ![t.val / 1 % 2, t.val % 1] := by decide +kernel
theorem place_2 : ∀ t : Fin grid0.N, cc0_transform_2 (grid0.coords t) = ![t.val / 1 % 2, t.val % 1] := by decide +kernel

theorem layer : ∀ t : Fin grid0.N, (grid0.coords t 0).val = t.val / 2 := by decide +kernel

/-- Where point `t`'s block holds its index `y`. -/
def at' (t : Fin grid0.N) (y : S1x256x1024.Idx) : S2x512x1024.Idx :=
  ix3 ⟨t.val / 2, by have := lt_of_lt_of_eq t.isLt size; omega⟩
    ⟨t.val / 1 % 2 * 256 + (y 1).val, by have : (y 1).val < 256 := (y 1).isLt; have := lt_of_lt_of_eq t.isLt size; omega⟩
    ⟨t.val % 1 * 1024 + (y 2).val, by have : (y 2).val < 1024 := (y 2).isLt; have := lt_of_lt_of_eq t.isLt size; omega⟩

/-- An index that lies where point `t`'s block has its index `y`. -/
theorem emb_of {f : Fin 3 → ℕ} (t : Fin grid0.N) (e : f = ![t.val / 2, t.val / 1 % 2, t.val % 1]) (y : S1x256x1024.Idx) (k : S2x512x1024.Idx)
    (h0 : (k 0).val = f 0 * 1 + 1 * (y 0).val) (h1 : (k 1).val = f 1 * 256 + 1 * (y 1).val) (h2 : (k 2).val = f 2 * 1024 + 1 * (y 2).val) : k = at' t y := by
  have hy : (y 0).val < 1 := (y 0).isLt
  funext a; apply Fin.ext
  match a with
  | ⟨0, _⟩ => refine h0.trans ?_; rw [e]; show t.val / 2 * 1 + 1 * (y 0).val = t.val / 2; omega
  | ⟨1, _⟩ => refine h1.trans ?_; rw [e]; show (t.val / 1 % 2) * 256 + 1 * (y 1).val = t.val / 1 % 2 * 256 + (y 1).val; omega
  | ⟨2, _⟩ => refine h2.trans ?_; rw [e]; show (t.val % 1) * 1024 + 1 * (y 2).val = t.val % 1 * 1024 + (y 2).val; omega

theorem block_0 (t : Fin (cfgM m).N) (y : S1x256x1024.Idx) : iblk m c 0 t y = m ((c : Thread nD τ).loc main_arg0) (at' t y) :=
  congrArg (a₁ := (((cfgM m).win 0).blk t).view.emb y) (m ((c : Thread nD τ).loc main_arg0)) (emb_of t (place_0 t) y _ rfl rfl rfl)

theorem block_3 (t : Fin (cfgM m).N) (y : S1x256x1024.Idx) : iblk m c 3 t y = m ((c : Thread nD τ).loc main_arg3) (at' t y) :=
  congrArg (a₁ := (((cfgM m).win 3).blk t).view.emb y) (m ((c : Thread nD τ).loc main_arg3)) (emb_of t (place_3 t) y _ rfl rfl rfl)

theorem block_4 (t : Fin (cfgM m).N) (y : S1x256x1024.Idx) : iblk m c 4 t y = m ((c : Thread nD τ).loc main_arg4) (at' t y) :=
  congrArg (a₁ := (((cfgM m).win 4).blk t).view.emb y) (m ((c : Thread nD τ).loc main_arg4)) (emb_of t (place_4 t) y _ rfl rfl rfl)

theorem block_1 (t : Fin (cfgM m).N) (y : S1x256x1024.Idx) :
    iblk m c 1 t (ix2 (y 1) (y 2) : S256x1024.Idx) = m ((c : Thread nD τ).loc main_arg1) (ix2 (at' t y 1) (at' t y 2) : S512x1024.Idx) := by
  have e := place_1 t
  refine congrArg (a₁ := (((cfgM m).win 1).blk t).view.emb (ix2 (y 1) (y 2) : S256x1024.Idx)) (m ((c : Thread nD τ).loc main_arg1)) ?_
  funext a; apply Fin.ext
  match a with
  | ⟨0, _⟩ => show cc0_transform_1 (grid0.coords t) (0 : Fin 2) * 256 + 1 * (y 1).val = t.val / 1 % 2 * 256 + (y 1).val; rw [e]; show (t.val / 1 % 2) * 256 + 1 * (y 1).val = _; omega
  | ⟨1, _⟩ => show cc0_transform_1 (grid0.coords t) (1 : Fin 2) * 1024 + 1 * (y 2).val = t.val % 1 * 1024 + (y 2).val; rw [e]; show (t.val % 1) * 1024 + 1 * (y 2).val = _; omega

theorem block_2 (t : Fin (cfgM m).N) (y : S1x256x1024.Idx) :
    iblk m c 2 t (ix2 (y 1) (y 2) : S256x1024.Idx) = m ((c : Thread nD τ).loc main_arg2) (ix2 (at' t y 1) (at' t y 2) : S512x1024.Idx) := by
  have e := place_2 t
  refine congrArg (a₁ := (((cfgM m).win 2).blk t).view.emb (ix2 (y 1) (y 2) : S256x1024.Idx)) (m ((c : Thread nD τ).loc main_arg2)) ?_
  funext a; apply Fin.ext
  match a with
  | ⟨0, _⟩ => show cc0_transform_2 (grid0.coords t) (0 : Fin 2) * 256 + 1 * (y 1).val = t.val / 1 % 2 * 256 + (y 1).val; rw [e]; show (t.val / 1 % 2) * 256 + 1 * (y 1).val = _; omega
  | ⟨1, _⟩ => show cc0_transform_2 (grid0.coords t) (1 : Fin 2) * 1024 + 1 * (y 2).val = t.val % 1 * 1024 + (y 2).val; rw [e]; show (t.val % 1) * 1024 + 1 * (y 2).val = _; omega

theorem word_eq : word (F := Ideal) c (tbl m 0) = (m ((c : Thread nD τ).loc main_arg5) : S1.Idx → BitVec 32) (ix1 (0 : Fin 1)) := by
  rw [← V_pre m c 0]
  exact congrArg (m ((c : Thread nD τ).loc main_arg5) : S1.Idx → BitVec 32) (one _ _)

theorem pick_block (t : Fin (cfgM m).N) (y : S1x256x1024.Idx) :
    sel (grid0.coords t) (word c (tbl m 0)) (iblk m c 1 t) (iblk m c 2 t) y = G m c (at' t y) := by
  unfold sel G
  rw [block_1 m c t y, block_2 m c t y, word_eq m c]
  refine if_congr (Iff.of_eq (congrArg (fun n : ℕ => BitVec.ofNat 32 n = _) (layer t))) rfl rfl

theorem emb_5 (t : Fin (cfgM m).N) (y : S1x256x1024.Idx) : (((cfgM m).win 5).blk t).view.emb y = at' t y :=
  emb_of t (place_5 t) y _ rfl rfl rfl

theorem read_5 (t : Fin (cfgM m).N) (f : S2x512x1024.Idx → EReal) (y : S1x256x1024.Idx) :
    (((cfgM m).win 5).blk t).view.read (Elt Ideal) f y = f (at' t y) :=
  congrArg f (emb_5 m t y)

theorem flush_5 : ∀ t : Fin (cfgM m).N, ((cfgM m).win 5).flush t = true :=
  (by decide +kernel : ∀ t : Fin grid0.N, Pipeline.Window.flushOf grid0 true cc0_transform_5 t = true)

theorem points_5 : ∀ (q0 : Fin 2) (q1 : Fin 2) (q2 : Fin 1), ∃ t : Fin grid0.N, cc0_transform_5 (grid0.coords t) = ![q0.val, q1.val, q2.val] := by
  decide +kernel

theorem covered_5 (i : S2x512x1024.Idx) : ∃ t : Fin (cfgM m).N, ((cfgM m).win 5).flush t = true ∧ i ∈ (((cfgM m).win 5).blk t).view.set := by
  have hi0 : (i 0).val < 2 := (i 0).isLt
  have hi1 : (i 1).val < 512 := (i 1).isLt
  have hi2 : (i 2).val < 1024 := (i 2).isLt
  obtain ⟨t, ht⟩ := points_5 ⟨(i 0).val, hi0⟩ ⟨(i 1).val / 256, by omega⟩ ⟨(i 2).val / 1024, by omega⟩
  refine ⟨t, flush_5 m t, ?_⟩
  have q0 : cc0_transform_5 (grid0.coords t) (0 : Fin 3) = (i 0).val := congrFun ht 0
  have q1 : cc0_transform_5 (grid0.coords t) (1 : Fin 3) = (i 1).val / 256 := congrFun ht 1
  have q2 : cc0_transform_5 (grid0.coords t) (2 : Fin 3) = (i 2).val / 1024 := congrFun ht 2
  have e : (((cfgM m).win 5).blk t).view.set = (((cfgM m).win 5).rect t).set := View.set_slice_whole _ _
  rw [e]
  refine Rect.mem_set_unit.mpr ?_
  intro a
  match a with
  | ⟨0, _⟩ => show cc0_transform_5 (grid0.coords t) (0 : Fin 3) * 1 ≤ (i 0).val ∧ (i 0).val < cc0_transform_5 (grid0.coords t) (0 : Fin 3) * 1 + 1; omega
  | ⟨1, _⟩ => show cc0_transform_5 (grid0.coords t) (1 : Fin 3) * 256 ≤ (i 1).val ∧ (i 1).val < cc0_transform_5 (grid0.coords t) (1 : Fin 3) * 256 + 256; omega
  | ⟨2, _⟩ => show cc0_transform_5 (grid0.coords t) (2 : Fin 3) * 1024 ≤ (i 2).val ∧ (i 2).val < cc0_transform_5 (grid0.coords t) (2 : Fin 3) * 1024 + 1024; omega

theorem flushed_5 (t : Fin (cfgM m).N) :
    (dats m 0 c).flushed 5 t = (((cfgM m).win 5).blk t).view.read (Elt Ideal) (fun i => G m c i) := by
  show ((cfgM m).win 5).cut (grid0.coords t) ((dats m 0 c).after 5 t) = _
  rw [after_5]
  funext y
  refine (out5_apply (grid0.coords t) _ _ _ y).trans (Eq.trans ?_ (read_5 m t _ y).symm)
  exact (pick_block m c t y)

theorem value_5 : (dats m 0 c).arrAt 5 (cfgM m).N = fun i => G m c i :=
  (dats m 0 c).arrAt_eq_of_cover 5 _ (fun t _ => flushed_5 m c t) (covered_5 m)

theorem emb_6 (t : Fin (cfgM m).N) (y : S1x256x1024.Idx) : (((cfgM m).win 6).blk t).view.emb y = at' t y :=
  emb_of t (place_6 t) y _ rfl rfl rfl

theorem read_6 (t : Fin (cfgM m).N) (f : S2x512x1024.Idx → EReal) (y : S1x256x1024.Idx) :
    (((cfgM m).win 6).blk t).view.read (Elt Ideal) f y = f (at' t y) :=
  congrArg f (emb_6 m t y)

theorem flush_6 : ∀ t : Fin (cfgM m).N, ((cfgM m).win 6).flush t = true :=
  (by decide +kernel : ∀ t : Fin grid0.N, Pipeline.Window.flushOf grid0 true cc0_transform_6 t = true)

theorem points_6 : ∀ (q0 : Fin 2) (q1 : Fin 2) (q2 : Fin 1), ∃ t : Fin grid0.N, cc0_transform_6 (grid0.coords t) = ![q0.val, q1.val, q2.val] := by
  decide +kernel

theorem covered_6 (i : S2x512x1024.Idx) : ∃ t : Fin (cfgM m).N, ((cfgM m).win 6).flush t = true ∧ i ∈ (((cfgM m).win 6).blk t).view.set := by
  have hi0 : (i 0).val < 2 := (i 0).isLt
  have hi1 : (i 1).val < 512 := (i 1).isLt
  have hi2 : (i 2).val < 1024 := (i 2).isLt
  obtain ⟨t, ht⟩ := points_6 ⟨(i 0).val, hi0⟩ ⟨(i 1).val / 256, by omega⟩ ⟨(i 2).val / 1024, by omega⟩
  refine ⟨t, flush_6 m t, ?_⟩
  have q0 : cc0_transform_6 (grid0.coords t) (0 : Fin 3) = (i 0).val := congrFun ht 0
  have q1 : cc0_transform_6 (grid0.coords t) (1 : Fin 3) = (i 1).val / 256 := congrFun ht 1
  have q2 : cc0_transform_6 (grid0.coords t) (2 : Fin 3) = (i 2).val / 1024 := congrFun ht 2
  have e : (((cfgM m).win 6).blk t).view.set = (((cfgM m).win 6).rect t).set := View.set_slice_whole _ _
  rw [e]
  refine Rect.mem_set_unit.mpr ?_
  intro a
  match a with
  | ⟨0, _⟩ => show cc0_transform_6 (grid0.coords t) (0 : Fin 3) * 1 ≤ (i 0).val ∧ (i 0).val < cc0_transform_6 (grid0.coords t) (0 : Fin 3) * 1 + 1; omega
  | ⟨1, _⟩ => show cc0_transform_6 (grid0.coords t) (1 : Fin 3) * 256 ≤ (i 1).val ∧ (i 1).val < cc0_transform_6 (grid0.coords t) (1 : Fin 3) * 256 + 256; omega
  | ⟨2, _⟩ => show cc0_transform_6 (grid0.coords t) (2 : Fin 3) * 1024 ≤ (i 2).val ∧ (i 2).val < cc0_transform_6 (grid0.coords t) (2 : Fin 3) * 1024 + 1024; omega

theorem flushed_6 (t : Fin (cfgM m).N) :
    (dats m 0 c).flushed 6 t = (((cfgM m).win 6).blk t).view.read (Elt Ideal) (fun i => Ada.delta (m ((c : Thread nD τ).loc main_arg0) i) (G m c i) (m ((c : Thread nD τ).loc main_arg3) i) (m ((c : Thread nD τ).loc main_arg4) i)) := by
  show ((cfgM m).win 6).cut (grid0.coords t) ((dats m 0 c).after 6 t) = _
  rw [after_6]
  funext y
  refine (out6_apply (grid0.coords t) _ _ _ _ _ _ y).trans (Eq.trans ?_ (read_6 m t _ y).symm)
  exact congr (congr (congr (congrArg Ada.delta (block_0 m c t y)) (pick_block m c t y)) (block_3 m c t y)) (block_4 m c t y)

theorem value_6 : (dats m 0 c).arrAt 6 (cfgM m).N = fun i => Ada.delta (m ((c : Thread nD τ).loc main_arg0) i) (G m c i) (m ((c : Thread nD τ).loc main_arg3) i) (m ((c : Thread nD τ).loc main_arg4) i) :=
  (dats m 0 c).arrAt_eq_of_cover 6 _ (fun t _ => flushed_6 m c t) (covered_6 m)

theorem emb_7 (t : Fin (cfgM m).N) (y : S1x256x1024.Idx) : (((cfgM m).win 7).blk t).view.emb y = at' t y :=
  emb_of t (place_7 t) y _ rfl rfl rfl

theorem read_7 (t : Fin (cfgM m).N) (f : S2x512x1024.Idx → EReal) (y : S1x256x1024.Idx) :
    (((cfgM m).win 7).blk t).view.read (Elt Ideal) f y = f (at' t y) :=
  congrArg f (emb_7 m t y)

theorem flush_7 : ∀ t : Fin (cfgM m).N, ((cfgM m).win 7).flush t = true :=
  (by decide +kernel : ∀ t : Fin grid0.N, Pipeline.Window.flushOf grid0 true cc0_transform_7 t = true)

theorem points_7 : ∀ (q0 : Fin 2) (q1 : Fin 2) (q2 : Fin 1), ∃ t : Fin grid0.N, cc0_transform_7 (grid0.coords t) = ![q0.val, q1.val, q2.val] := by
  decide +kernel

theorem covered_7 (i : S2x512x1024.Idx) : ∃ t : Fin (cfgM m).N, ((cfgM m).win 7).flush t = true ∧ i ∈ (((cfgM m).win 7).blk t).view.set := by
  have hi0 : (i 0).val < 2 := (i 0).isLt
  have hi1 : (i 1).val < 512 := (i 1).isLt
  have hi2 : (i 2).val < 1024 := (i 2).isLt
  obtain ⟨t, ht⟩ := points_7 ⟨(i 0).val, hi0⟩ ⟨(i 1).val / 256, by omega⟩ ⟨(i 2).val / 1024, by omega⟩
  refine ⟨t, flush_7 m t, ?_⟩
  have q0 : cc0_transform_7 (grid0.coords t) (0 : Fin 3) = (i 0).val := congrFun ht 0
  have q1 : cc0_transform_7 (grid0.coords t) (1 : Fin 3) = (i 1).val / 256 := congrFun ht 1
  have q2 : cc0_transform_7 (grid0.coords t) (2 : Fin 3) = (i 2).val / 1024 := congrFun ht 2
  have e : (((cfgM m).win 7).blk t).view.set = (((cfgM m).win 7).rect t).set := View.set_slice_whole _ _
  rw [e]
  refine Rect.mem_set_unit.mpr ?_
  intro a
  match a with
  | ⟨0, _⟩ => show cc0_transform_7 (grid0.coords t) (0 : Fin 3) * 1 ≤ (i 0).val ∧ (i 0).val < cc0_transform_7 (grid0.coords t) (0 : Fin 3) * 1 + 1; omega
  | ⟨1, _⟩ => show cc0_transform_7 (grid0.coords t) (1 : Fin 3) * 256 ≤ (i 1).val ∧ (i 1).val < cc0_transform_7 (grid0.coords t) (1 : Fin 3) * 256 + 256; omega
  | ⟨2, _⟩ => show cc0_transform_7 (grid0.coords t) (2 : Fin 3) * 1024 ≤ (i 2).val ∧ (i 2).val < cc0_transform_7 (grid0.coords t) (2 : Fin 3) * 1024 + 1024; omega

theorem flushed_7 (t : Fin (cfgM m).N) :
    (dats m 0 c).flushed 7 t = (((cfgM m).win 7).blk t).view.read (Elt Ideal) (fun i => Ada.first (G m c i) (m ((c : Thread nD τ).loc main_arg3) i)) := by
  show ((cfgM m).win 7).cut (grid0.coords t) ((dats m 0 c).after 7 t) = _
  rw [after_7]
  funext y
  refine (out7_apply (grid0.coords t) _ _ _ _ y).trans (Eq.trans ?_ (read_7 m t _ y).symm)
  exact congr (congrArg Ada.first (pick_block m c t y)) (block_3 m c t y)

theorem value_7 : (dats m 0 c).arrAt 7 (cfgM m).N = fun i => Ada.first (G m c i) (m ((c : Thread nD τ).loc main_arg3) i) :=
  (dats m 0 c).arrAt_eq_of_cover 7 _ (fun t _ => flushed_7 m c t) (covered_7 m)

theorem emb_8 (t : Fin (cfgM m).N) (y : S1x256x1024.Idx) : (((cfgM m).win 8).blk t).view.emb y = at' t y :=
  emb_of t (place_8 t) y _ rfl rfl rfl

theorem read_8 (t : Fin (cfgM m).N) (f : S2x512x1024.Idx → EReal) (y : S1x256x1024.Idx) :
    (((cfgM m).win 8).blk t).view.read (Elt Ideal) f y = f (at' t y) :=
  congrArg f (emb_8 m t y)

theorem flush_8 : ∀ t : Fin (cfgM m).N, ((cfgM m).win 8).flush t = true :=
  (by decide +kernel : ∀ t : Fin grid0.N, Pipeline.Window.flushOf grid0 true cc0_transform_8 t = true)

theorem points_8 : ∀ (q0 : Fin 2) (q1 : Fin 2) (q2 : Fin 1), ∃ t : Fin grid0.N, cc0_transform_8 (grid0.coords t) = ![q0.val, q1.val, q2.val] := by
  decide +kernel

theorem covered_8 (i : S2x512x1024.Idx) : ∃ t : Fin (cfgM m).N, ((cfgM m).win 8).flush t = true ∧ i ∈ (((cfgM m).win 8).blk t).view.set := by
  have hi0 : (i 0).val < 2 := (i 0).isLt
  have hi1 : (i 1).val < 512 := (i 1).isLt
  have hi2 : (i 2).val < 1024 := (i 2).isLt
  obtain ⟨t, ht⟩ := points_8 ⟨(i 0).val, hi0⟩ ⟨(i 1).val / 256, by omega⟩ ⟨(i 2).val / 1024, by omega⟩
  refine ⟨t, flush_8 m t, ?_⟩
  have q0 : cc0_transform_8 (grid0.coords t) (0 : Fin 3) = (i 0).val := congrFun ht 0
  have q1 : cc0_transform_8 (grid0.coords t) (1 : Fin 3) = (i 1).val / 256 := congrFun ht 1
  have q2 : cc0_transform_8 (grid0.coords t) (2 : Fin 3) = (i 2).val / 1024 := congrFun ht 2
  have e : (((cfgM m).win 8).blk t).view.set = (((cfgM m).win 8).rect t).set := View.set_slice_whole _ _
  rw [e]
  refine Rect.mem_set_unit.mpr ?_
  intro a
  match a with
  | ⟨0, _⟩ => show cc0_transform_8 (grid0.coords t) (0 : Fin 3) * 1 ≤ (i 0).val ∧ (i 0).val < cc0_transform_8 (grid0.coords t) (0 : Fin 3) * 1 + 1; omega
  | ⟨1, _⟩ => show cc0_transform_8 (grid0.coords t) (1 : Fin 3) * 256 ≤ (i 1).val ∧ (i 1).val < cc0_transform_8 (grid0.coords t) (1 : Fin 3) * 256 + 256; omega
  | ⟨2, _⟩ => show cc0_transform_8 (grid0.coords t) (2 : Fin 3) * 1024 ≤ (i 2).val ∧ (i 2).val < cc0_transform_8 (grid0.coords t) (2 : Fin 3) * 1024 + 1024; omega

theorem flushed_8 (t : Fin (cfgM m).N) :
    (dats m 0 c).flushed 8 t = (((cfgM m).win 8).blk t).view.read (Elt Ideal) (fun i => Ada.second (G m c i) (m ((c : Thread nD τ).loc main_arg4) i)) := by
  show ((cfgM m).win 8).cut (grid0.coords t) ((dats m 0 c).after 8 t) = _
  rw [after_8]
  funext y
  refine (out8_apply (grid0.coords t) _ _ _ _ y).trans (Eq.trans ?_ (read_8 m t _ y).symm)
  exact congr (congrArg Ada.second (pick_block m c t y)) (block_4 m c t y)

theorem value_8 : (dats m 0 c).arrAt 8 (cfgM m).N = fun i => Ada.second (G m c i) (m ((c : Thread nD τ).loc main_arg4) i) :=
  (dats m 0 c).arrAt_eq_of_cover 8 _ (fun t _ => flushed_8 m c t) (covered_8 m)

theorem run_blocks : θ_run defs (onTc (τ := τ) (main (F := Ideal))) ⟨m, fun _ => 0, ρ⟩ (fun r => ∀ c : Dev nD,
      r.2.mem ((c.tc : Thread nD τ).loc main_v0_0) = (dats m 0 c).arrAt 5 (cfgM m).N
      ∧ r.2.mem ((c.tc : Thread nD τ).loc main_v0_1) = (dats m 0 c).arrAt 6 (cfgM m).N
      ∧ r.2.mem ((c.tc : Thread nD τ).loc main_v0_2) = (dats m 0 c).arrAt 7 (cfgM m).N
      ∧ r.2.mem ((c.tc : Thread nD τ).loc main_v0_3) = (dats m 0 c).arrAt 8 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 5, (h.1 c).1 6, (h.1 c).1 7, (h.1 c).1 8, ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      (h.1 c).2 main_arg5 (by decide : main_arg5 ∈ Pipeline.restRefs sig spec0)⟩) (run_main_quiescent m ρ)

end Kernel

section Reference

open Cert.AdamBRefIdeal Cert.AdamBRefIdeal.Gen

/-- The reference's choice of gradient. -/
theorem choice (w : S1.Idx → BitVec 32) (x1 x2 : S512x1024.Idx → EReal) :
    (select (broadcastInDim S2x512x1024 ![0, 1, 2] bcast_S2x1x1_S2x512x1024_0_1_2 (broadcastInDim S2x1x1 ![0] bcast_S2_S2x1x1_0
        (cmpi .eq (iotaInDim S2 32 0) (broadcastInDim S2 ![0] bcast_S1_S2_0 w))))
      (broadcastInDim S2x512x1024 ![1, 2] bcast_S512x1024_S2x512x1024_1_2 x1) (broadcastInDim S2x512x1024 ![1, 2] bcast_S512x1024_S2x512x1024_1_2 x2) : S2x512x1024.Idx → EReal)
      = fun i => if BitVec.ofNat 32 (i 0).val = w (ix1 (0 : Fin 1)) then x1 (ix2 (i 1) (i 2) : S512x1024.Idx) else x2 (ix2 (i 1) (i 2) : S512x1024.Idx) := by
  funext i
  have e : ∀ x : S512x1024.Idx → EReal, broadcastInDim S2x512x1024 ![1, 2] bcast_S512x1024_S2x512x1024_1_2 x i = x (ix2 (i 1) (i 2) : S512x1024.Idx) := fun x =>
    broadcastInDim_apply _ _ _ i _
      (fun a => by match a with | ⟨0, _⟩ => exact (if_neg (show ¬ (512 : ℕ) = 1 by omega)).symm | ⟨1, _⟩ => exact (if_neg (show ¬ (1024 : ℕ) = 1 by omega)).symm)
  have q : broadcastInDim S2x512x1024 ![0, 1, 2] bcast_S2x1x1_S2x512x1024_0_1_2 (broadcastInDim S2x1x1 ![0] bcast_S2_S2x1x1_0
        (cmpi .eq (iotaInDim S2 32 0) (broadcastInDim S2 ![0] bcast_S1_S2_0 w))) i = BitVec.ofBool (BitVec.ofNat 32 (i 0).val == w (ix1 (0 : Fin 1))) := by
    refine (broadcastInDim_apply _ _ _ i (ix3 (i 0) (0 : Fin 1) (0 : Fin 1) : S2x1x1.Idx)
      (fun a => by match a with | ⟨0, _⟩ => exact (if_neg (show ¬ (2 : ℕ) = 1 by omega)).symm | ⟨1, _⟩ => rfl | ⟨2, _⟩ => rfl)).trans ?_
    refine (broadcastInDim_apply _ _ _ _ (ix1 (i 0) : S2.Idx)
      (fun a => by match a with | ⟨0, _⟩ => exact (if_neg (show ¬ (2 : ℕ) = 1 by omega)).symm)).trans ?_
    refine congrArg (fun z => BitVec.ofBool (BitVec.ofNat 32 (i 0).val == z)) ?_
    exact broadcastInDim_apply _ _ _ _ _ (fun a => by match a with | ⟨0, _⟩ => rfl)
  show (if _ = 1#1 then _ else _) = _
  rw [q, e, e]
  by_cases h : BitVec.ofNat 32 (i 0).val = w (ix1 (0 : Fin 1))
  · rw [if_pos h, beq_iff_eq.mpr h]; rfl
  · rw [if_neg h, beq_eq_false_iff_ne.mpr h]; rfl

end Reference

theorem frame_p : Cert.quiescent_AdamB := fun m ρ _ => Cert.AdamB.Layers.frame m ρ

theorem frame_pi : Cert.quiescent_AdamBIdeal := fun m ρ _ => Cert.AdamBIdeal.Layers.frame m ρ

theorem frame_ri : Cert.quiescent_AdamBRefIdeal := fun m ρ _ =>
  (θ_run Cert.AdamBRefIdeal.defs _ _).mono (fun r h => ⟨fun c => (h c).2.2.2.2, Idealize.ShloMosaic.sem_eq_zero_of_no_sems (by decide) r.2⟩)
    (Cert.AdamBRefIdeal.Value.run (F := Ideal) m ρ)

theorem preserves : Cert.preserves_AdamB_AdamBIdeal := trivial

theorem algebraic : Cert.algebraic_AdamBIdeal_AdamBRefIdeal := by
  intro m ρ m' ρ' _ hagree
  refine ⟨_, _, _, _, run_blocks m ρ, ?_⟩
  refine (θ_run Cert.AdamBRefIdeal.defs _ _).mono (fun _ h c => ⟨(h c).1.trans ?_, (h c).2.1.trans ?_, (h c).2.2.1.trans ?_, (h c).2.2.2.1.trans ?_, (h c).2.2.2.2⟩)
    (Cert.AdamBRefIdeal.Value.run (F := Ideal) m' ρ')
  · rw [(hagree c).2.1, (hagree c).2.2.1, (hagree c).2.2.2.2.2, value_5 m c, choice]
    rfl
  · rw [(hagree c).1, (hagree c).2.1, (hagree c).2.2.1, (hagree c).2.2.2.1, (hagree c).2.2.2.2.1, (hagree c).2.2.2.2.2, value_6 m c, choice]
    rfl
  · rw [(hagree c).2.1, (hagree c).2.2.1, (hagree c).2.2.2.1, (hagree c).2.2.2.2.2, value_7 m c, choice]
    rfl
  · rw [(hagree c).2.1, (hagree c).2.2.1, (hagree c).2.2.2.2.1, (hagree c).2.2.2.2.2, value_8 m c, choice]
    rfl

end Cert.Proof.AdamB

end
-- ==== Proof.LayersInIdeal.lean ====
/-
  The optimiser's step on a weight of all layers: what the program leaves behind, in any arithmetic. At each point the word read
  says whose gradient the layer takes; either way all four blocks are stored whole.
-/
module

public import proofs.«01_k».proof.Defs
public import proofs.«01_k».proof.Proof.Gen.AdamInIdeal.Launch
public import proofs.«01_k».proof.Proof.Gen.AdamInIdeal.Skeleton
public import Idealize.ShloMosaic.Lib.Pipeline.FrameBody
public import Idealize.ShloMosaic.Lib.Ring
public import Idealize.ShloMosaic.Lib.VecWindow
public import Idealize.ShloMosaic.Lib.Tactic
public import Idealize.ShloMosaic.Lib.Claim

@[expose] public section

set_option maxRecDepth 16384

noncomputable section

namespace Cert.AdamInIdeal.Layers

open Cert.AdamInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Whose gradient a layer takes -/

/-- Exactly one of the two conditions holds. -/
theorem either (i : grid0.Coords) (w : BitVec 32) :
    (k0_cond1 i w = 1#1 ∧ ¬ k0_cond2 i w = 1#1) ∨ (¬ k0_cond1 i w = 1#1 ∧ k0_cond2 i w = 1#1) := by
  have key : ∀ b : BitVec 1, (Scalar.cmpi .ne (Scalar.extui b) 0#32 = 1#1 ∧ ¬ Scalar.cmpi .ne (Scalar.extui (Scalar.xori b 1#1)) 0#32 = 1#1)
      ∨ (¬ Scalar.cmpi .ne (Scalar.extui b) 0#32 = 1#1 ∧ Scalar.cmpi .ne (Scalar.extui (Scalar.xori b 1#1)) 0#32 = 1#1) := by decide
  exact key _

theorem one (x y : S1.Idx) : x = y := funext fun a => by
  match a with
  | ⟨0, _⟩ =>
    have h1 : (x 0).val < 1 := (x 0).isLt
    have h2 : (y 0).val < 1 := (y 0).isLt
    exact Fin.ext (show (x 0).val = (y 0).val by omega)

/-! ## The body -/

/-- The table as the body is handed it. -/
abbrev tableM : Memref sig .tc .smem S1 .i32 := Memref.whole main_arg5
abbrev tableWhole : tableM.IsWhole := Memref.isWhole_whole _
abbrev TableBuf (c : Dev nD) {S : Shape} {e : EltTy} (M : Memref sig .tc .smem S e) : Type := Buf (Elt F) (M.view.loc (c : Thread nD τ))
abbrev tableHeld (c : Dev nD) {S : Shape} {e : EltTy} (M : Memref sig .tc .smem S e) (f : TableBuf (F := F) c M) : sProp 𝕄 :=
  M.view.loc (c : Thread nD τ) ↦{fullShare.right} f

/-- The word the table holds. -/
def word (c : Dev nD) (xt : TableBuf (F := F) c tableM) : BitVec 32 := tableM.view.read (Elt F) xt (Shape.Idx.first (by decide))

/-- What the body leaves in each output's block. -/
def out5 (i : grid0.Coords) (w : BitVec 32) (x1 x2 : Vec F S2824x128 .f32) : Vec F S1x2824x128 .f32 :=
  if k0_cond1 i w = 1#1 then k0_pay7 x1 else k0_pay11 x2
def out6 (i : grid0.Coords) (w : BitVec 32) (x0 : Vec F S1x2824x128 .f32) (x1 x2 : Vec F S2824x128 .f32) (x3 x4 : Vec F S1x2824x128 .f32) : Vec F S1x2824x128 .f32 :=
  if k0_cond1 i w = 1#1 then k0_pay1 (k0_pay10 x1 x0 x3 x4) else k0_pay4 (k0_pay14 x2 x0 x3 x4)
def out7 (i : grid0.Coords) (w : BitVec 32) (x1 x2 : Vec F S2824x128 .f32) (x3 : Vec F S1x2824x128 .f32) : Vec F S1x2824x128 .f32 :=
  if k0_cond1 i w = 1#1 then k0_pay2 (k0_pay8 x1 x3) else k0_pay5 (k0_pay12 x2 x3)
def out8 (i : grid0.Coords) (w : BitVec 32) (x1 x2 : Vec F S2824x128 .f32) (x4 : Vec F S1x2824x128 .f32) : Vec F S1x2824x128 .f32 :=
  if k0_cond1 i w = 1#1 then k0_pay3 (k0_pay9 x1 x4) else k0_pay6 (k0_pay13 x2 x4)

/-- A block stored under one of the two conditions holds the one or the other. -/
theorem pick (i : grid0.Coords) (w w' : BitVec 32) (hw : w = w') {S : Shape} (v : View sig .tc .vmem S .f32) (f : v.ty.Contents (Elt F))
    (p q : List (View.Piece (Elt F) S .f32)) (a b : Vec F S .f32) (hp : ∀ g, v.read (Elt F) (v.writes (Elt F) g p) = a)
    (hq : ∀ g, v.read (Elt F) (v.writes (Elt F) g q) = b) :
    v.read (Elt F) (if hc : k0_cond2 i w = 1#1 then v.writes (Elt F) (if hc : k0_cond1 i w = 1#1 then v.writes (Elt F) f p else f) q
      else if hc : k0_cond1 i w = 1#1 then v.writes (Elt F) f p else f) = if k0_cond1 i w' = 1#1 then a else b := by
  subst hw
  rcases either i w with ⟨h1, h2⟩ | ⟨h1, h2⟩
  · rw [dif_neg h2, dif_pos h1, if_pos h1, hp]
  · rw [dif_pos h2, dif_neg h1, if_neg h1, hq]

theorem ld {S : Shape} {a : Memref sig .tc .vmem S .f32} (ha : a.IsWhole) (x : Vec F S .f32) {off : Fin S.rank → ℕ}
    (inb : ∀ k, off k + S.size k ≤ S.size k) : View.readAt (Elt F) a.view (Rect.unit off S.size inb).toLoadRect (ha.unread x) = x := by
  rw [View.readAt_full, ha.read_unread]

theorem full {S : Shape} (v : View sig .tc .vmem S .f32) (a : Vec F S .f32) {off : Fin S.rank → ℕ} {inb : ∀ k, off k + S.size k ≤ S.size k} (g : v.ty.Contents (Elt F)) :
    v.read (Elt F) (v.writes (Elt F) g [⟨Rect.unit off S.size inb, a⟩]) = a := View.read_writes_full _ _ _ _ _

set_option maxHeartbeats 1600000 in
theorem run1 (c : Dev nD) (i : grid0.Coords) (arg4 : Memref sig .tc .vmem S1x2824x128 .f32) (harg4 : arg4.IsWhole) (arg5 : Memref sig .tc .vmem S2824x128 .f32) (harg5 : arg5.IsWhole) (arg6 : Memref sig .tc .vmem S2824x128 .f32) (harg6 : arg6.IsWhole) (arg7 : Memref sig .tc .vmem S1x2824x128 .f32) (harg7 : arg7.IsWhole) (arg8 : Memref sig .tc .vmem S1x2824x128 .f32) (harg8 : arg8.IsWhole) (arg9 : Memref sig .tc .vmem S1x2824x128 .f32) (harg9 : arg9.IsWhole) (arg10 : Memref sig .tc .vmem S1x2824x128 .f32) (harg10 : arg10.IsWhole) (arg11 : Memref sig .tc .vmem S1x2824x128 .f32) (harg11 : arg11.IsWhole) (arg12 : Memref sig .tc .vmem S1x2824x128 .f32) (harg12 : arg12.IsWhole)
    (x0 : Vec F S1x2824x128 .f32) (x1 : Vec F S2824x128 .f32) (x2 : Vec F S2824x128 .f32) (x3 : Vec F S1x2824x128 .f32) (x4 : Vec F S1x2824x128 .f32) (xt : TableBuf (F := F) c tableM) (E : Set ℕ) (K : PUnit → sProp 𝕄) :
    iprop(owns c arg4 fullShare x0 ∗ owns c arg5 fullShare x1 ∗ owns c arg6 fullShare x2 ∗ owns c arg7 fullShare x3 ∗ owns c arg8 fullShare x4 ∗ (∃ d, owns c arg9 fullShare d) ∗ (∃ d, owns c arg10 fullShare d)
        ∗ (∃ d, owns c arg11 fullShare d) ∗ (∃ d, owns c arg12 fullShare d) ∗ tableHeld c tableM xt
        ∗ (iprop(owns c arg4 fullShare x0 ∗ owns c arg5 fullShare x1 ∗ owns c arg6 fullShare x2 ∗ owns c arg7 fullShare x3 ∗ owns c arg8 fullShare x4 ∗ owns c arg9 fullShare (out5 i (word c xt) x1 x2) ∗ owns c arg10 fullShare (out6 i (word c xt) x0 x1 x2 x3 x4)
            ∗ owns c arg11 fullShare (out7 i (word c xt) x1 x2 x3) ∗ owns c arg12 fullShare (out8 i (word c xt) x1 x2 x4) ∗ tableHeld c tableM xt) -∗ K ⟨⟩))
      ⊢ wp frame (wpE (defs₀ (F := F)) Variants.none c none) E (cc0_adamw_layers i tableM tableWhole arg4 harg4 arg5 harg5 arg6 harg6 arg7 harg7 arg8 harg8 arg9 harg9 arg10 harg10 arg11 harg11 arg12 harg12) K := by
  simp only [cc0_adamw_layers_eq_skeleton]; unfold cc0_adamw_layers_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, HT0, Hk⟩
  obtain rfl := harg4.eq_unread hf0; obtain rfl := harg5.eq_unread hf1; obtain rfl := harg6.eq_unread hf2; obtain rfl := harg7.eq_unread hf3; obtain rfl := harg8.eq_unread hf4
  have l0 := ld harg4 x0 inb_S1x2824x128_S1x2824x128_0_0_0
  have l1 := ld harg5 x1 inb_S2824x128_S2824x128_0_0
  have l2 := ld harg6 x2 inb_S2824x128_S2824x128_0_0
  have l3 := ld harg7 x3 inb_S1x2824x128_S1x2824x128_0_0_0
  have l4 := ld harg8 x4 inb_S1x2824x128_S1x2824x128_0_0_0
  have hw := fun x y : S1.Idx => congrArg (tableM.view.read (Elt F) xt) (one x y)
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro; exact pick i _ _ (hw _ _) _ _ _ _ _ _ (full _ _) (full _ _)
  isplitl [H6]
  · iexists _; isplitr
    swap; · iexact H6
    ipureintro; exact pick i _ _ (hw _ _) _ _ _ _ _ _ (full _ _) (full _ _)
  isplitl [H7]
  · iexists _; isplitr
    swap; · iexact H7
    ipureintro; exact pick i _ _ (hw _ _) _ _ _ _ _ _ (full _ _) (full _ _)
  isplitl [H8]
  · iexists _; isplitr
    swap; · iexact H8
    ipureintro; exact pick i _ _ (hw _ _) _ _ _ _ _ _ (full _ _) (full _ _)
  iexact HT0

/-! ## The pipeline around it -/

variable (m : (ℓ : Loc nD τ sig) → Buf (Elt F) ℓ) (ρ : Dev nD → PrngReg)

/-- The buffers as the pipeline finds them: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents at launch; no index map reads them, so any are admissible. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

theorem held_eq (c : Dev nD) : (Pipeline.ΦT pre0 (tbl m) c : sProp 𝕄) = iprop(tableHeld c tableM (tbl m 0)) := by
  unfold Pipeline.ΦT Pipeline.prefHeld
  rw [show (Finset.univ : Finset (Fin 1)) = {(0 : Fin 1)} from by decide, bigSep_singleton]
  rfl

/-- The layer's word as the table's contents give it. -/
abbrev wordM : BitVec 32 := word (F := F) 0 (tbl m 0)

/-- A window's block at a point, off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev ms_0 (t : Fin (cfgM m).N) : Memref sig .tc .vmem S1x2824x128 .f32 := spec0_0.stage ((cfgM m).slots t 0)
abbrev ms_1 (t : Fin (cfgM m).N) : Memref sig .tc .vmem S2824x128 .f32 := spec0_1.stage ((cfgM m).slots t 1)
abbrev ms_2 (t : Fin (cfgM m).N) : Memref sig .tc .vmem S2824x128 .f32 := spec0_2.stage ((cfgM m).slots t 2)
abbrev ms_3 (t : Fin (cfgM m).N) : Memref sig .tc .vmem S1x2824x128 .f32 := spec0_3.stage ((cfgM m).slots t 3)
abbrev ms_4 (t : Fin (cfgM m).N) : Memref sig .tc .vmem S1x2824x128 .f32 := spec0_4.stage ((cfgM m).slots t 4)
abbrev ms_5 (t : Fin (cfgM m).N) : Memref sig .tc .vmem S1x2824x128 .f32 := spec0_5.stage ((cfgM m).slots t 5)
abbrev ms_6 (t : Fin (cfgM m).N) : Memref sig .tc .vmem S1x2824x128 .f32 := spec0_6.stage ((cfgM m).slots t 6)
abbrev ms_7 (t : Fin (cfgM m).N) : Memref sig .tc .vmem S1x2824x128 .f32 := spec0_7.stage ((cfgM m).slots t 7)
abbrev ms_8 (t : Fin (cfgM m).N) : Memref sig .tc .vmem S1x2824x128 .f32 := spec0_8.stage ((cfgM m).slots t 8)

/-- The arrays as launched, and what the body leaves at each point. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (grid0.coords t) (word c (tbl m 0)) (iblk m c 1 t) (iblk m c 2 t)
    | ⟨6, _⟩ => out6 (grid0.coords t) (word c (tbl m 0)) (iblk m c 0 t) (iblk m c 1 t) (iblk m c 2 t) (iblk m c 3 t) (iblk m c 4 t)
    | ⟨7, _⟩ => out7 (grid0.coords t) (word c (tbl m 0)) (iblk m c 1 t) (iblk m c 2 t) (iblk m c 3 t)
    | ⟨8, _⟩ => out8 (grid0.coords t) (word c (tbl m 0)) (iblk m c 1 t) (iblk m c 2 t) (iblk m c 4 t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := rfl
theorem after_1 (c : Dev nD) (t : Fin (cfgM m).N) : (dats m 0 c).after 1 t = iblk m c 1 t := rfl
theorem after_2 (c : Dev nD) (t : Fin (cfgM m).N) : (dats m 0 c).after 2 t = iblk m c 2 t := rfl
theorem after_3 (c : Dev nD) (t : Fin (cfgM m).N) : (dats m 0 c).after 3 t = iblk m c 3 t := rfl
theorem after_4 (c : Dev nD) (t : Fin (cfgM m).N) : (dats m 0 c).after 4 t = iblk m c 4 t := rfl
theorem after_5 (c : Dev nD) (t : Fin (cfgM m).N) : (dats m 0 c).after 5 t = out5 (grid0.coords t) (word c (tbl m 0)) (iblk m c 1 t) (iblk m c 2 t) := rfl
theorem after_6 (c : Dev nD) (t : Fin (cfgM m).N) : (dats m 0 c).after 6 t = out6 (grid0.coords t) (word c (tbl m 0)) (iblk m c 0 t) (iblk m c 1 t) (iblk m c 2 t) (iblk m c 3 t) (iblk m c 4 t) := rfl
theorem after_7 (c : Dev nD) (t : Fin (cfgM m).N) : (dats m 0 c).after 7 t = out7 (grid0.coords t) (word c (tbl m 0)) (iblk m c 1 t) (iblk m c 2 t) (iblk m c 3 t) := rfl
theorem after_8 (c : Dev nD) (t : Fin (cfgM m).N) : (dats m 0 c).after 8 t = out8 (grid0.coords t) (word c (tbl m 0)) (iblk m c 1 t) (iblk m c 2 t) (iblk m c 4 t) := rfl
theorem before_0 (c : Dev nD) (t : Fin (cfgM m).N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin (cfgM m).N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin (cfgM m).N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin (cfgM m).N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin (cfgM m).N) (d) : (dats m 0 c).before 4 t d = iblk m c 4 t :=
  ((dats m 0 c).before_in_eq_fetched 4 rfl (fun _ => rfl) (fun _ _ _ => rfl) (fun _ => rfl) t d).trans rfl

/-! ## The body obligation -/

abbrev bodyAt0 (a : (pcfg0 (F := F)).Adm) (t : Fin (cfg0 a).N) : Prog (TpuEff nD τ sig (Elt F) Λ₀ .tc) PUnit :=
  cc0_adamw_layers (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

def bodyPre (c : Dev nD) (t : Fin (cfgM m).N) : sProp 𝕄 :=
  iprop((dats m 0 c).Φ t.castSucc ∗ (dats m 0 c).owesAt () t.castSucc
    ∗ (∃ d, owns c (ms_0 m t) fullShare ((dats m 0 c).before 0 t d))
    ∗ (∃ d, owns c (ms_1 m t) fullShare ((dats m 0 c).before 1 t d))
    ∗ (∃ d, owns c (ms_2 m t) fullShare ((dats m 0 c).before 2 t d))
    ∗ (∃ d, owns c (ms_3 m t) fullShare ((dats m 0 c).before 3 t d))
    ∗ (∃ d, owns c (ms_4 m t) fullShare ((dats m 0 c).before 4 t d))
    ∗ (∃ d, owns c (ms_5 m t) fullShare ((dats m 0 c).before 5 t d))
    ∗ (∃ d, owns c (ms_6 m t) fullShare ((dats m 0 c).before 6 t d))
    ∗ (∃ d, owns c (ms_7 m t) fullShare ((dats m 0 c).before 7 t d))
    ∗ (∃ d, owns c (ms_8 m t) fullShare ((dats m 0 c).before 8 t d)))

def bodyPost (c : Dev nD) (t : Fin (cfgM m).N) : sProp 𝕄 :=
  iprop((dats m 0 c).Φ t.succ ∗ (dats m 0 c).owesAt () t.succ
    ∗ owns c (ms_0 m t) fullShare ((dats m 0 c).after 0 t)
    ∗ owns c (ms_1 m t) fullShare ((dats m 0 c).after 1 t)
    ∗ owns c (ms_2 m t) fullShare ((dats m 0 c).after 2 t)
    ∗ owns c (ms_3 m t) fullShare ((dats m 0 c).after 3 t)
    ∗ owns c (ms_4 m t) fullShare ((dats m 0 c).after 4 t)
    ∗ owns c (ms_5 m t) fullShare ((dats m 0 c).after 5 t)
    ∗ owns c (ms_6 m t) fullShare ((dats m 0 c).after 6 t)
    ∗ owns c (ms_7 m t) fullShare ((dats m 0 c).after 7 t)
    ∗ owns c (ms_8 m t) fullShare ((dats m 0 c).after 8 t))

set_option maxHeartbeats 800000 in
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = iprop(Pipeline.ΦA spec0 c ∗ Pipeline.ΦT pre0 (tbl m) c) from rfl, held_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run1 c (grid0.coords t) _ _ _ _ _ _ _ _ _ _ _ _ _ _ _ _ _ _ (iblk m c 0 t) (iblk m c 1 t) (iblk m c 2 t) (iblk m c 3 t) (iblk m c 4 t) (tbl m 0) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HT0]; · iexact HT0
  iintro ⟨H0, H1, H2, H3, H4, H5, H6, H7, H8, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin (cfgM m).N) :
    defs₀ (F := F) .tc (cfgM m).body ((cfgM m).bodyArgs t ((cfgM m).slots t)) = bodyAt0 (adm m) t := by
  unfold defs₀; rw [Defs.onTc_tc]

/-- Every output's block is stored at every point. -/
theorem stored (i : grid0.Coords) (w : BitVec 32) : (!(k0_cond1 i w == 1#1) && !(k0_cond2 i w == 1#1)) = false := by
  rcases either i w with ⟨h1, _⟩ | ⟨_, h2⟩
  · rw [h1]; rfl
  · rw [h2]; cases (k0_cond1 i w == 1#1) <;> rfl

theorem live (w : Fin (cfgM m).W) (t : Fin (cfgM m).N) : (cfgM m).idle w ((cfgM m).grid.coords t) = false := by
  match w with
  | ⟨0, _⟩ | ⟨1, _⟩ | ⟨2, _⟩ | ⟨3, _⟩ | ⟨4, _⟩ => rfl
  | ⟨5, _⟩ | ⟨6, _⟩ | ⟨7, _⟩ | ⟨8, _⟩ => exact stored _ _

theorem leaves_eq (c : Dev nD) (w : Fin (cfgM m).W) (t : Fin (cfgM m).N) :
    (dats (F := F) m 0 c).leavesExact w t = owns c (((cfgM m).win w).stage ((cfgM m).slots t w)) fullShare ((dats m 0 c).after w t) := by
  unfold Dat.leavesExact; rw [live]

theorem both {P P' Q Q' : sProp 𝕄} (h : P = P') (h' : Q = Q') : iprop(P ∗ Q) = iprop(P' ∗ Q') := by rw [h, h']

theorem post_eq (c : Dev nD) (t : Fin (cfgM m).N) : bodyPost m c t =
    iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t) := by
  exact both rfl <| both rfl <| both (leaves_eq m c 0 t).symm <| both (leaves_eq m c 1 t).symm <| both (leaves_eq m c 2 t).symm <| both (leaves_eq m c 3 t).symm <| both (leaves_eq m c 4 t).symm <| both (leaves_eq m c 5 t).symm <| both (leaves_eq m c 6 t).symm <| both (leaves_eq m c 7 t).symm (leaves_eq m c 8 t).symm

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => by rw [post_eq]; exact .rfl

/-! ## The run and the frame -/

set_option backward.isDefEq.respectTransparency.types false in
theorem run_main_quiescent : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- Every run ends, with the argument arrays as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      (h.1 c).2 main_arg5 (by decide : main_arg5 ∈ Pipeline.restRefs sig spec0)⟩, h.2⟩) (run_main_quiescent m ρ)

end Cert.AdamInIdeal.Layers

end
-- ==== Proof.AdamIn.lean ====
/-
  The optimiser's step on the input projection's weights, transposed,
  both layers in one grid: a layer takes the first gradient if its number is the word, else the second, and the gradient
  taken and the step on it are the reference's, for all arguments.
-/
module

public import proofs.«01_k».proof.Defs
public import proofs.«01_k».proof.Proof.Ada
public import proofs.«01_k».proof.Proof.LayersIn
public import proofs.«01_k».proof.Proof.LayersInIdeal
public import proofs.«01_k».proof.Proof.Gen.AdamInRefIdeal.Run

@[expose] public section

set_option maxRecDepth 16384

noncomputable section

open Idealize.ShloMosaic Idealize.ShloMosaic.ValueIdx Idealize.ShloMosaic.TcCoe Idealize.SL.Sem

namespace Cert.Proof.AdamIn

section Kernel

open Cert.AdamInIdeal Cert.AdamInIdeal.Gen Cert.AdamInIdeal.Layers

/-- The condition is that the layer's number is the word. -/
theorem cond_iff (i : grid0.Coords) (w : BitVec 32) : k0_cond1 i w = 1#1 ↔ BitVec.ofNat 32 (i 0).val = w := by
  have key : ∀ b : Bool, (Scalar.cmpi .ne (Scalar.extui (BitVec.ofBool b)) 0#32 = 1#1 ↔ b = true) := by decide
  exact (key _).trans beq_iff_eq

theorem out_cast (x : FVec Ideal S2824x128 .f32) (y : S1x2824x128.Idx) :
    shapeCast S1x2824x128 x shapeCasts_S2824x128_S1x2824x128 y = x (ix2 (y 1) (y 2) : S2824x128.Idx) := by
  have h0 : (y 0).val < 1 := (y 0).isLt
  refine shapeCast_apply _ _ _ _ ?_
  rw [Shape.rowMajor_val_two, Shape.rowMajor_val_three]
  show (y 1).val * 128 + (y 2).val = ((y 0).val * 2824 + (y 1).val) * 128 + (y 2).val
  omega

theorem in_cast (x : FVec Ideal S1x2824x128 .f32) (y : S1x2824x128.Idx) :
    shapeCast S2824x128 x shapeCasts_S1x2824x128_S2824x128 (ix2 (y 1) (y 2) : S2824x128.Idx) = x y := by
  have h0 : (y 0).val < 1 := (y 0).isLt
  refine shapeCast_apply _ _ _ _ ?_
  rw [Shape.rowMajor_val_two, Shape.rowMajor_val_three]
  show ((y 0).val * 2824 + (y 1).val) * 128 + (y 2).val = (y 1).val * 128 + (y 2).val
  omega

/-- The gradient a block takes. -/
def sel (i : grid0.Coords) (w : BitVec 32) (x1 x2 : Vec Ideal S2824x128 .f32) (y : S1x2824x128.Idx) : EReal :=
  if BitVec.ofNat 32 (i 0).val = w then x1 (ix2 (y 1) (y 2) : S2824x128.Idx) else x2 (ix2 (y 1) (y 2) : S2824x128.Idx)

theorem first_apply (x1 : Vec Ideal S2824x128 .f32) (x3 : Vec Ideal S1x2824x128 .f32) (y : S1x2824x128.Idx) :
    k0_pay8 (F := Ideal) x1 x3 (ix2 (y 1) (y 2) : S2824x128.Idx) = Ada.first (x1 (ix2 (y 1) (y 2) : S2824x128.Idx)) (x3 y) :=
  congrArg (Ada.first _) (in_cast x3 y)

theorem second_apply (x1 : Vec Ideal S2824x128 .f32) (x4 : Vec Ideal S1x2824x128 .f32) (y : S1x2824x128.Idx) :
    k0_pay9 (F := Ideal) x1 x4 (ix2 (y 1) (y 2) : S2824x128.Idx) = Ada.second (x1 (ix2 (y 1) (y 2) : S2824x128.Idx)) (x4 y) :=
  congrArg (Ada.second _) (in_cast x4 y)

theorem delta_apply (x0 : Vec Ideal S1x2824x128 .f32) (x1 : Vec Ideal S2824x128 .f32) (x3 x4 : Vec Ideal S1x2824x128 .f32) (y : S1x2824x128.Idx) :
    k0_pay10 (F := Ideal) x1 x0 x3 x4 (ix2 (y 1) (y 2) : S2824x128.Idx) = Ada.delta (x0 y) (x1 (ix2 (y 1) (y 2) : S2824x128.Idx)) (x3 y) (x4 y) := by
  rw [← in_cast x0 y, ← in_cast x3 y, ← in_cast x4 y]
  rfl

theorem out5_apply (i : grid0.Coords) (w : BitVec 32) (x1 x2 : Vec Ideal S2824x128 .f32) (y : S1x2824x128.Idx) :
    out5 (F := Ideal) i w x1 x2 y = sel i w x1 x2 y := by
  unfold out5 sel
  by_cases h : BitVec.ofNat 32 (i 0).val = w
  · rw [if_pos ((cond_iff i w).mpr h), if_pos h]; exact out_cast x1 y
  · rw [if_neg (fun k => h ((cond_iff i w).mp k)), if_neg h]; exact out_cast x2 y

theorem out6_apply (i : grid0.Coords) (w : BitVec 32) (x0 : Vec Ideal S1x2824x128 .f32) (x1 x2 : Vec Ideal S2824x128 .f32) (x3 x4 : Vec Ideal S1x2824x128 .f32) (y : S1x2824x128.Idx) :
    out6 (F := Ideal) i w x0 x1 x2 x3 x4 y = Ada.delta (x0 y) (sel i w x1 x2 y) (x3 y) (x4 y) := by
  unfold out6 sel
  by_cases h : BitVec.ofNat 32 (i 0).val = w
  · rw [if_pos ((cond_iff i w).mpr h), if_pos h]; exact (out_cast _ y).trans (delta_apply x0 x1 x3 x4 y)
  · rw [if_neg (fun k => h ((cond_iff i w).mp k)), if_neg h]; exact (out_cast _ y).trans (delta_apply x0 x2 x3 x4 y)

theorem out7_apply (i : grid0.Coords) (w : BitVec 32) (x1 x2 : Vec Ideal S2824x128 .f32) (x3 : Vec Ideal S1x2824x128 .f32) (y : S1x2824x128.Idx) :
    out7 (F := Ideal) i w x1 x2 x3 y = Ada.first (sel i w x1 x2 y) (x3 y) := by
  unfold out7 sel
  by_cases h : BitVec.ofNat 32 (i 0).val = w
  · rw [if_pos ((cond_iff i w).mpr h), if_pos h]; exact (out_cast _ y).trans (first_apply x1 x3 y)
  · rw [if_neg (fun k => h ((cond_iff i w).mp k)), if_neg h]; exact (out_cast _ y).trans (first_apply x2 x3 y)

theorem out8_apply (i : grid0.Coords) (w : BitVec 32) (x1 x2 : Vec Ideal S2824x128 .f32) (x4 : Vec Ideal S1x2824x128 .f32) (y : S1x2824x128.Idx) :
    out8 (F := Ideal) i w x1 x2 x4 y = Ada.second (sel i w x1 x2 y) (x4 y) := by
  unfold out8 sel
  by_cases h : BitVec.ofNat 32 (i 0).val = w
  · rw [if_pos ((cond_iff i w).mpr h), if_pos h]; exact (out_cast _ y).trans (second_apply x1 x4 y)
  · rw [if_neg (fun k => h ((cond_iff i w).mp k)), if_neg h]; exact (out_cast _ y).trans (second_apply x2 x4 y)

variable (m : (ℓ : Loc nD τ sig) → Buf (Elt Ideal) ℓ) (ρ : Dev nD → PrngReg) (c : Dev nD)

/-- The gradient the weight takes, layer by layer. -/
def G (i : S2x2824x1024.Idx) : EReal :=
  if BitVec.ofNat 32 (i 0).val = (m ((c : Thread nD τ).loc main_arg5) : S1.Idx → BitVec 32) (ix1 (0 : Fin 1)) then
    m ((c : Thread nD τ).loc main_arg1) (ix2 (i 1) (i 2) : S2824x1024.Idx)
  else m ((c : Thread nD τ).loc main_arg2) (ix2 (i 1) (i 2) : S2824x1024.Idx)

theorem size : grid0.N = 16 := by decide

theorem place_0 : ∀ t : Fin grid0.N, cc0_transform_0 (grid0.coords t) = ![t.val / 8, t.val / 8 % 1, t.val % 8] := by decide +kernel
theorem place_3 : ∀ t : Fin grid0.N, cc0_transform_3 (grid0.coords t) = ![t.val / 8, t.val / 8 % 1, t.val % 8] := by decide +kernel
theorem place_4 : ∀ t : Fin grid0.N, cc0_transform_4 (grid0.coords t) = ![t.val / 8, t.val / 8 % 1, t.val % 8] := by decide +kernel
theorem place_5 : ∀ t : Fin grid0.N, cc0_transform_5 (grid0.coords t) = ![t.val / 8, t.val / 8 % 1, t.val % 8] := by decide +kernel
theorem place_6 : ∀ t : Fin grid0.N, cc0_transform_6 (grid0.coords t) = ![t.val / 8, t.val / 8 % 1, t.val % 8] := by decide +kernel
theorem place_7 : ∀ t : Fin grid0.N, cc0_transform_7 (grid0.coords t) = ![t.val / 8, t.val / 8 % 1, t.val % 8] := by decide +kernel
theorem place_8 : ∀ t : Fin grid0.N, cc0_transform_8 (grid0.coords t) = ![t.val / 8, t.val / 8 % 1, t.val % 8] := by decide +kernel
theorem place_1 : ∀ t : Fin grid0.N, cc0_transform_1 (grid0.coords t) = ![t.val / 8 % 1, t.val % 8] := by decide +kernel
theorem place_2 : ∀ t : Fin grid0.N, cc0_transform_2 (grid0.coords t) = ![t.val / 8 % 1, t.val % 8] := by decide +kernel

theorem layer : ∀ t : Fin grid0.N, (grid0.coords t 0).val = t.val / 8 := by decide +kernel

/-- Where point `t`'s block holds its index `y`. -/
def at' (t : Fin grid0.N) (y : S1x2824x128.Idx) : S2x2824x1024.Idx :=
  ix3 ⟨t.val / 8, by have := lt_of_lt_of_eq t.isLt size; omega⟩
    ⟨t.val / 8 % 1 * 2824 + (y 1).val, by have : (y 1).val < 2824 := (y 1).isLt; have := lt_of_lt_of_eq t.isLt size; omega⟩
    ⟨t.val % 8 * 128 + (y 2).val, by have : (y 2).val < 128 := (y 2).isLt; have := lt_of_lt_of_eq t.isLt size; omega⟩

/-- An index that lies where point `t`'s block has its index `y`. -/
theorem emb_of {f : Fin 3 → ℕ} (t : Fin grid0.N) (e : f = ![t.val / 8, t.val / 8 % 1, t.val % 8]) (y : S1x2824x128.Idx) (k : S2x2824x1024.Idx)
    (h0 : (k 0).val = f 0 * 1 + 1 * (y 0).val) (h1 : (k 1).val = f 1 * 2824 + 1 * (y 1).val) (h2 : (k 2).val = f 2 * 128 + 1 * (y 2).val) : k = at' t y := by
  have hy : (y 0).val < 1 := (y 0).isLt
  funext a; apply Fin.ext
  match a with
  | ⟨0, _⟩ => refine h0.trans ?_; rw [e]; show t.val / 8 * 1 + 1 * (y 0).val = t.val / 8; omega
  | ⟨1, _⟩ => refine h1.trans ?_; rw [e]; show (t.val / 8 % 1) * 2824 + 1 * (y 1).val = t.val / 8 % 1 * 2824 + (y 1).val; omega
  | ⟨2, _⟩ => refine h2.trans ?_; rw [e]; show (t.val % 8) * 128 + 1 * (y 2).val = t.val % 8 * 128 + (y 2).val; omega

theorem block_0 (t : Fin (cfgM m).N) (y : S1x2824x128.Idx) : iblk m c 0 t y = m ((c : Thread nD τ).loc main_arg0) (at' t y) :=
  congrArg (a₁ := (((cfgM m).win 0).blk t).view.emb y) (m ((c : Thread nD τ).loc main_arg0)) (emb_of t (place_0 t) y _ rfl rfl rfl)

theorem block_3 (t : Fin (cfgM m).N) (y : S1x2824x128.Idx) : iblk m c 3 t y = m ((c : Thread nD τ).loc main_arg3) (at' t y) :=
  congrArg (a₁ := (((cfgM m).win 3).blk t).view.emb y) (m ((c : Thread nD τ).loc main_arg3)) (emb_of t (place_3 t) y _ rfl rfl rfl)

theorem block_4 (t : Fin (cfgM m).N) (y : S1x2824x128.Idx) : iblk m c 4 t y = m ((c : Thread nD τ).loc main_arg4) (at' t y) :=
  congrArg (a₁ := (((cfgM m).win 4).blk t).view.emb y) (m ((c : Thread nD τ).loc main_arg4)) (emb_of t (place_4 t) y _ rfl rfl rfl)

theorem block_1 (t : Fin (cfgM m).N) (y : S1x2824x128.Idx) :
    iblk m c 1 t (ix2 (y 1) (y 2) : S2824x128.Idx) = m ((c : Thread nD τ).loc main_arg1) (ix2 (at' t y 1) (at' t y 2) : S2824x1024.Idx) := by
  have e := place_1 t
  refine congrArg (a₁ := (((cfgM m).win 1).blk t).view.emb (ix2 (y 1) (y 2) : S2824x128.Idx)) (m ((c : Thread nD τ).loc main_arg1)) ?_
  funext a; apply Fin.ext
  match a with
  | ⟨0, _⟩ => show cc0_transform_1 (grid0.coords t) (0 : Fin 2) * 2824 + 1 * (y 1).val = t.val / 8 % 1 * 2824 + (y 1).val; rw [e]; show (t.val / 8 % 1) * 2824 + 1 * (y 1).val = _; omega
  | ⟨1, _⟩ => show cc0_transform_1 (grid0.coords t) (1 : Fin 2) * 128 + 1 * (y 2).val = t.val % 8 * 128 + (y 2).val; rw [e]; show (t.val % 8) * 128 + 1 * (y 2).val = _; omega

theorem block_2 (t : Fin (cfgM m).N) (y : S1x2824x128.Idx) :
    iblk m c 2 t (ix2 (y 1) (y 2) : S2824x128.Idx) = m ((c : Thread nD τ).loc main_arg2) (ix2 (at' t y 1) (at' t y 2) : S2824x1024.Idx) := by
  have e := place_2 t
  refine congrArg (a₁ := (((cfgM m).win 2).blk t).view.emb (ix2 (y 1) (y 2) : S2824x128.Idx)) (m ((c : Thread nD τ).loc main_arg2)) ?_
  funext a; apply Fin.ext
  match a with
  | ⟨0, _⟩ => show cc0_transform_2 (grid0.coords t) (0 : Fin 2) * 2824 + 1 * (y 1).val = t.val / 8 % 1 * 2824 + (y 1).val; rw [e]; show (t.val / 8 % 1) * 2824 + 1 * (y 1).val = _; omega
  | ⟨1, _⟩ => show cc0_transform_2 (grid0.coords t) (1 : Fin 2) * 128 + 1 * (y 2).val = t.val % 8 * 128 + (y 2).val; rw [e]; show (t.val % 8) * 128 + 1 * (y 2).val = _; omega

theorem word_eq : word (F := Ideal) c (tbl m 0) = (m ((c : Thread nD τ).loc main_arg5) : S1.Idx → BitVec 32) (ix1 (0 : Fin 1)) := by
  rw [← V_pre m c 0]
  exact congrArg (m ((c : Thread nD τ).loc main_arg5) : S1.Idx → BitVec 32) (one _ _)

theorem pick_block (t : Fin (cfgM m).N) (y : S1x2824x128.Idx) :
    sel (grid0.coords t) (word c (tbl m 0)) (iblk m c 1 t) (iblk m c 2 t) y = G m c (at' t y) := by
  unfold sel G
  rw [block_1 m c t y, block_2 m c t y, word_eq m c]
  refine if_congr (Iff.of_eq (congrArg (fun n : ℕ => BitVec.ofNat 32 n = _) (layer t))) rfl rfl

theorem emb_5 (t : Fin (cfgM m).N) (y : S1x2824x128.Idx) : (((cfgM m).win 5).blk t).view.emb y = at' t y :=
  emb_of t (place_5 t) y _ rfl rfl rfl

theorem read_5 (t : Fin (cfgM m).N) (f : S2x2824x1024.Idx → EReal) (y : S1x2824x128.Idx) :
    (((cfgM m).win 5).blk t).view.read (Elt Ideal) f y = f (at' t y) :=
  congrArg f (emb_5 m t y)

theorem flush_5 : ∀ t : Fin (cfgM m).N, ((cfgM m).win 5).flush t = true :=
  (by decide +kernel : ∀ t : Fin grid0.N, Pipeline.Window.flushOf grid0 true cc0_transform_5 t = true)

theorem points_5 : ∀ (q0 : Fin 2) (q1 : Fin 1) (q2 : Fin 8), ∃ t : Fin grid0.N, cc0_transform_5 (grid0.coords t) = ![q0.val, q1.val, q2.val] := by
  decide +kernel

theorem covered_5 (i : S2x2824x1024.Idx) : ∃ t : Fin (cfgM m).N, ((cfgM m).win 5).flush t = true ∧ i ∈ (((cfgM m).win 5).blk t).view.set := by
  have hi0 : (i 0).val < 2 := (i 0).isLt
  have hi1 : (i 1).val < 2824 := (i 1).isLt
  have hi2 : (i 2).val < 1024 := (i 2).isLt
  obtain ⟨t, ht⟩ := points_5 ⟨(i 0).val, hi0⟩ ⟨(i 1).val / 2824, by omega⟩ ⟨(i 2).val / 128, by omega⟩
  refine ⟨t, flush_5 m t, ?_⟩
  have q0 : cc0_transform_5 (grid0.coords t) (0 : Fin 3) = (i 0).val := congrFun ht 0
  have q1 : cc0_transform_5 (grid0.coords t) (1 : Fin 3) = (i 1).val / 2824 := congrFun ht 1
  have q2 : cc0_transform_5 (grid0.coords t) (2 : Fin 3) = (i 2).val / 128 := congrFun ht 2
  have e : (((cfgM m).win 5).blk t).view.set = (((cfgM m).win 5).rect t).set := View.set_slice_whole _ _
  rw [e]
  refine Rect.mem_set_unit.mpr ?_
  intro a
  match a with
  | ⟨0, _⟩ => show cc0_transform_5 (grid0.coords t) (0 : Fin 3) * 1 ≤ (i 0).val ∧ (i 0).val < cc0_transform_5 (grid0.coords t) (0 : Fin 3) * 1 + 1; omega
  | ⟨1, _⟩ => show cc0_transform_5 (grid0.coords t) (1 : Fin 3) * 2824 ≤ (i 1).val ∧ (i 1).val < cc0_transform_5 (grid0.coords t) (1 : Fin 3) * 2824 + 2824; omega
  | ⟨2, _⟩ => show cc0_transform_5 (grid0.coords t) (2 : Fin 3) * 128 ≤ (i 2).val ∧ (i 2).val < cc0_transform_5 (grid0.coords t) (2 : Fin 3) * 128 + 128; omega

theorem flushed_5 (t : Fin (cfgM m).N) :
    (dats m 0 c).flushed 5 t = (((cfgM m).win 5).blk t).view.read (Elt Ideal) (fun i => G m c i) := by
  show ((cfgM m).win 5).cut (grid0.coords t) ((dats m 0 c).after 5 t) = _
  rw [after_5]
  funext y
  refine (out5_apply (grid0.coords t) _ _ _ y).trans (Eq.trans ?_ (read_5 m t _ y).symm)
  exact (pick_block m c t y)

theorem value_5 : (dats m 0 c).arrAt 5 (cfgM m).N = fun i => G m c i :=
  (dats m 0 c).arrAt_eq_of_cover 5 _ (fun t _ => flushed_5 m c t) (covered_5 m)

theorem emb_6 (t : Fin (cfgM m).N) (y : S1x2824x128.Idx) : (((cfgM m).win 6).blk t).view.emb y = at' t y :=
  emb_of t (place_6 t) y _ rfl rfl rfl

theorem read_6 (t : Fin (cfgM m).N) (f : S2x2824x1024.Idx → EReal) (y : S1x2824x128.Idx) :
    (((cfgM m).win 6).blk t).view.read (Elt Ideal) f y = f (at' t y) :=
  congrArg f (emb_6 m t y)

theorem flush_6 : ∀ t : Fin (cfgM m).N, ((cfgM m).win 6).flush t = true :=
  (by decide +kernel : ∀ t : Fin grid0.N, Pipeline.Window.flushOf grid0 true cc0_transform_6 t = true)

theorem points_6 : ∀ (q0 : Fin 2) (q1 : Fin 1) (q2 : Fin 8), ∃ t : Fin grid0.N, cc0_transform_6 (grid0.coords t) = ![q0.val, q1.val, q2.val] := by
  decide +kernel

theorem covered_6 (i : S2x2824x1024.Idx) : ∃ t : Fin (cfgM m).N, ((cfgM m).win 6).flush t = true ∧ i ∈ (((cfgM m).win 6).blk t).view.set := by
  have hi0 : (i 0).val < 2 := (i 0).isLt
  have hi1 : (i 1).val < 2824 := (i 1).isLt
  have hi2 : (i 2).val < 1024 := (i 2).isLt
  obtain ⟨t, ht⟩ := points_6 ⟨(i 0).val, hi0⟩ ⟨(i 1).val / 2824, by omega⟩ ⟨(i 2).val / 128, by omega⟩
  refine ⟨t, flush_6 m t, ?_⟩
  have q0 : cc0_transform_6 (grid0.coords t) (0 : Fin 3) = (i 0).val := congrFun ht 0
  have q1 : cc0_transform_6 (grid0.coords t) (1 : Fin 3) = (i 1).val / 2824 := congrFun ht 1
  have q2 : cc0_transform_6 (grid0.coords t) (2 : Fin 3) = (i 2).val / 128 := congrFun ht 2
  have e : (((cfgM m).win 6).blk t).view.set = (((cfgM m).win 6).rect t).set := View.set_slice_whole _ _
  rw [e]
  refine Rect.mem_set_unit.mpr ?_
  intro a
  match a with
  | ⟨0, _⟩ => show cc0_transform_6 (grid0.coords t) (0 : Fin 3) * 1 ≤ (i 0).val ∧ (i 0).val < cc0_transform_6 (grid0.coords t) (0 : Fin 3) * 1 + 1; omega
  | ⟨1, _⟩ => show cc0_transform_6 (grid0.coords t) (1 : Fin 3) * 2824 ≤ (i 1).val ∧ (i 1).val < cc0_transform_6 (grid0.coords t) (1 : Fin 3) * 2824 + 2824; omega
  | ⟨2, _⟩ => show cc0_transform_6 (grid0.coords t) (2 : Fin 3) * 128 ≤ (i 2).val ∧ (i 2).val < cc0_transform_6 (grid0.coords t) (2 : Fin 3) * 128 + 128; omega

theorem flushed_6 (t : Fin (cfgM m).N) :
    (dats m 0 c).flushed 6 t = (((cfgM m).win 6).blk t).view.read (Elt Ideal) (fun i => Ada.delta (m ((c : Thread nD τ).loc main_arg0) i) (G m c i) (m ((c : Thread nD τ).loc main_arg3) i) (m ((c : Thread nD τ).loc main_arg4) i)) := by
  show ((cfgM m).win 6).cut (grid0.coords t) ((dats m 0 c).after 6 t) = _
  rw [after_6]
  funext y
  refine (out6_apply (grid0.coords t) _ _ _ _ _ _ y).trans (Eq.trans ?_ (read_6 m t _ y).symm)
  exact congr (congr (congr (congrArg Ada.delta (block_0 m c t y)) (pick_block m c t y)) (block_3 m c t y)) (block_4 m c t y)

theorem value_6 : (dats m 0 c).arrAt 6 (cfgM m).N = fun i => Ada.delta (m ((c : Thread nD τ).loc main_arg0) i) (G m c i) (m ((c : Thread nD τ).loc main_arg3) i) (m ((c : Thread nD τ).loc main_arg4) i) :=
  (dats m 0 c).arrAt_eq_of_cover 6 _ (fun t _ => flushed_6 m c t) (covered_6 m)

theorem emb_7 (t : Fin (cfgM m).N) (y : S1x2824x128.Idx) : (((cfgM m).win 7).blk t).view.emb y = at' t y :=
  emb_of t (place_7 t) y _ rfl rfl rfl

theorem read_7 (t : Fin (cfgM m).N) (f : S2x2824x1024.Idx → EReal) (y : S1x2824x128.Idx) :
    (((cfgM m).win 7).blk t).view.read (Elt Ideal) f y = f (at' t y) :=
  congrArg f (emb_7 m t y)

theorem flush_7 : ∀ t : Fin (cfgM m).N, ((cfgM m).win 7).flush t = true :=
  (by decide +kernel : ∀ t : Fin grid0.N, Pipeline.Window.flushOf grid0 true cc0_transform_7 t = true)

theorem points_7 : ∀ (q0 : Fin 2) (q1 : Fin 1) (q2 : Fin 8), ∃ t : Fin grid0.N, cc0_transform_7 (grid0.coords t) = ![q0.val, q1.val, q2.val] := by
  decide +kernel

theorem covered_7 (i : S2x2824x1024.Idx) : ∃ t : Fin (cfgM m).N, ((cfgM m).win 7).flush t = true ∧ i ∈ (((cfgM m).win 7).blk t).view.set := by
  have hi0 : (i 0).val < 2 := (i 0).isLt
  have hi1 : (i 1).val < 2824 := (i 1).isLt
  have hi2 : (i 2).val < 1024 := (i 2).isLt
  obtain ⟨t, ht⟩ := points_7 ⟨(i 0).val, hi0⟩ ⟨(i 1).val / 2824, by omega⟩ ⟨(i 2).val / 128, by omega⟩
  refine ⟨t, flush_7 m t, ?_⟩
  have q0 : cc0_transform_7 (grid0.coords t) (0 : Fin 3) = (i 0).val := congrFun ht 0
  have q1 : cc0_transform_7 (grid0.coords t) (1 : Fin 3) = (i 1).val / 2824 := congrFun ht 1
  have q2 : cc0_transform_7 (grid0.coords t) (2 : Fin 3) = (i 2).val / 128 := congrFun ht 2
  have e : (((cfgM m).win 7).blk t).view.set = (((cfgM m).win 7).rect t).set := View.set_slice_whole _ _
  rw [e]
  refine Rect.mem_set_unit.mpr ?_
  intro a
  match a with
  | ⟨0, _⟩ => show cc0_transform_7 (grid0.coords t) (0 : Fin 3) * 1 ≤ (i 0).val ∧ (i 0).val < cc0_transform_7 (grid0.coords t) (0 : Fin 3) * 1 + 1; omega
  | ⟨1, _⟩ => show cc0_transform_7 (grid0.coords t) (1 : Fin 3) * 2824 ≤ (i 1).val ∧ (i 1).val < cc0_transform_7 (grid0.coords t) (1 : Fin 3) * 2824 + 2824; omega
  | ⟨2, _⟩ => show cc0_transform_7 (grid0.coords t) (2 : Fin 3) * 128 ≤ (i 2).val ∧ (i 2).val < cc0_transform_7 (grid0.coords t) (2 : Fin 3) * 128 + 128; omega

theorem flushed_7 (t : Fin (cfgM m).N) :
    (dats m 0 c).flushed 7 t = (((cfgM m).win 7).blk t).view.read (Elt Ideal) (fun i => Ada.first (G m c i) (m ((c : Thread nD τ).loc main_arg3) i)) := by
  show ((cfgM m).win 7).cut (grid0.coords t) ((dats m 0 c).after 7 t) = _
  rw [after_7]
  funext y
  refine (out7_apply (grid0.coords t) _ _ _ _ y).trans (Eq.trans ?_ (read_7 m t _ y).symm)
  exact congr (congrArg Ada.first (pick_block m c t y)) (block_3 m c t y)

theorem value_7 : (dats m 0 c).arrAt 7 (cfgM m).N = fun i => Ada.first (G m c i) (m ((c : Thread nD τ).loc main_arg3) i) :=
  (dats m 0 c).arrAt_eq_of_cover 7 _ (fun t _ => flushed_7 m c t) (covered_7 m)

theorem emb_8 (t : Fin (cfgM m).N) (y : S1x2824x128.Idx) : (((cfgM m).win 8).blk t).view.emb y = at' t y :=
  emb_of t (place_8 t) y _ rfl rfl rfl

theorem read_8 (t : Fin (cfgM m).N) (f : S2x2824x1024.Idx → EReal) (y : S1x2824x128.Idx) :
    (((cfgM m).win 8).blk t).view.read (Elt Ideal) f y = f (at' t y) :=
  congrArg f (emb_8 m t y)

theorem flush_8 : ∀ t : Fin (cfgM m).N, ((cfgM m).win 8).flush t = true :=
  (by decide +kernel : ∀ t : Fin grid0.N, Pipeline.Window.flushOf grid0 true cc0_transform_8 t = true)

theorem points_8 : ∀ (q0 : Fin 2) (q1 : Fin 1) (q2 : Fin 8), ∃ t : Fin grid0.N, cc0_transform_8 (grid0.coords t) = ![q0.val, q1.val, q2.val] := by
  decide +kernel

theorem covered_8 (i : S2x2824x1024.Idx) : ∃ t : Fin (cfgM m).N, ((cfgM m).win 8).flush t = true ∧ i ∈ (((cfgM m).win 8).blk t).view.set := by
  have hi0 : (i 0).val < 2 := (i 0).isLt
  have hi1 : (i 1).val < 2824 := (i 1).isLt
  have hi2 : (i 2).val < 1024 := (i 2).isLt
  obtain ⟨t, ht⟩ := points_8 ⟨(i 0).val, hi0⟩ ⟨(i 1).val / 2824, by omega⟩ ⟨(i 2).val / 128, by omega⟩
  refine ⟨t, flush_8 m t, ?_⟩
  have q0 : cc0_transform_8 (grid0.coords t) (0 : Fin 3) = (i 0).val := congrFun ht 0
  have q1 : cc0_transform_8 (grid0.coords t) (1 : Fin 3) = (i 1).val / 2824 := congrFun ht 1
  have q2 : cc0_transform_8 (grid0.coords t) (2 : Fin 3) = (i 2).val / 128 := congrFun ht 2
  have e : (((cfgM m).win 8).blk t).view.set = (((cfgM m).win 8).rect t).set := View.set_slice_whole _ _
  rw [e]
  refine Rect.mem_set_unit.mpr ?_
  intro a
  match a with
  | ⟨0, _⟩ => show cc0_transform_8 (grid0.coords t) (0 : Fin 3) * 1 ≤ (i 0).val ∧ (i 0).val < cc0_transform_8 (grid0.coords t) (0 : Fin 3) * 1 + 1; omega
  | ⟨1, _⟩ => show cc0_transform_8 (grid0.coords t) (1 : Fin 3) * 2824 ≤ (i 1).val ∧ (i 1).val < cc0_transform_8 (grid0.coords t) (1 : Fin 3) * 2824 + 2824; omega
  | ⟨2, _⟩ => show cc0_transform_8 (grid0.coords t) (2 : Fin 3) * 128 ≤ (i 2).val ∧ (i 2).val < cc0_transform_8 (grid0.coords t) (2 : Fin 3) * 128 + 128; omega

theorem flushed_8 (t : Fin (cfgM m).N) :
    (dats m 0 c).flushed 8 t = (((cfgM m).win 8).blk t).view.read (Elt Ideal) (fun i => Ada.second (G m c i) (m ((c : Thread nD τ).loc main_arg4) i)) := by
  show ((cfgM m).win 8).cut (grid0.coords t) ((dats m 0 c).after 8 t) = _
  rw [after_8]
  funext y
  refine (out8_apply (grid0.coords t) _ _ _ _ y).trans (Eq.trans ?_ (read_8 m t _ y).symm)
  exact congr (congrArg Ada.second (pick_block m c t y)) (block_4 m c t y)

theorem value_8 : (dats m 0 c).arrAt 8 (cfgM m).N = fun i => Ada.second (G m c i) (m ((c : Thread nD τ).loc main_arg4) i) :=
  (dats m 0 c).arrAt_eq_of_cover 8 _ (fun t _ => flushed_8 m c t) (covered_8 m)

theorem run_blocks : θ_run defs (onTc (τ := τ) (main (F := Ideal))) ⟨m, fun _ => 0, ρ⟩ (fun r => ∀ c : Dev nD,
      r.2.mem ((c.tc : Thread nD τ).loc main_v0_0) = (dats m 0 c).arrAt 5 (cfgM m).N
      ∧ r.2.mem ((c.tc : Thread nD τ).loc main_v0_1) = (dats m 0 c).arrAt 6 (cfgM m).N
      ∧ r.2.mem ((c.tc : Thread nD τ).loc main_v0_2) = (dats m 0 c).arrAt 7 (cfgM m).N
      ∧ r.2.mem ((c.tc : Thread nD τ).loc main_v0_3) = (dats m 0 c).arrAt 8 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 5, (h.1 c).1 6, (h.1 c).1 7, (h.1 c).1 8, ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      (h.1 c).2 main_arg5 (by decide : main_arg5 ∈ Pipeline.restRefs sig spec0)⟩) (run_main_quiescent m ρ)

end Kernel

section Reference

open Cert.AdamInRefIdeal Cert.AdamInRefIdeal.Gen

/-- The reference's choice of gradient. -/
theorem choice (w : S1.Idx → BitVec 32) (x1 x2 : S2824x1024.Idx → EReal) :
    (select (broadcastInDim S2x2824x1024 ![0, 1, 2] bcast_S2x1x1_S2x2824x1024_0_1_2 (broadcastInDim S2x1x1 ![0] bcast_S2_S2x1x1_0
        (cmpi .eq (iotaInDim S2 32 0) (broadcastInDim S2 ![0] bcast_S1_S2_0 w))))
      (broadcastInDim S2x2824x1024 ![1, 2] bcast_S2824x1024_S2x2824x1024_1_2 x1) (broadcastInDim S2x2824x1024 ![1, 2] bcast_S2824x1024_S2x2824x1024_1_2 x2) : S2x2824x1024.Idx → EReal)
      = fun i => if BitVec.ofNat 32 (i 0).val = w (ix1 (0 : Fin 1)) then x1 (ix2 (i 1) (i 2) : S2824x1024.Idx) else x2 (ix2 (i 1) (i 2) : S2824x1024.Idx) := by
  funext i
  have e : ∀ x : S2824x1024.Idx → EReal, broadcastInDim S2x2824x1024 ![1, 2] bcast_S2824x1024_S2x2824x1024_1_2 x i = x (ix2 (i 1) (i 2) : S2824x1024.Idx) := fun x =>
    broadcastInDim_apply _ _ _ i _
      (fun a => by match a with | ⟨0, _⟩ => exact (if_neg (show ¬ (2824 : ℕ) = 1 by omega)).symm | ⟨1, _⟩ => exact (if_neg (show ¬ (1024 : ℕ) = 1 by omega)).symm)
  have q : broadcastInDim S2x2824x1024 ![0, 1, 2] bcast_S2x1x1_S2x2824x1024_0_1_2 (broadcastInDim S2x1x1 ![0] bcast_S2_S2x1x1_0
        (cmpi .eq (iotaInDim S2 32 0) (broadcastInDim S2 ![0] bcast_S1_S2_0 w))) i = BitVec.ofBool (BitVec.ofNat 32 (i 0).val == w (ix1 (0 : Fin 1))) := by
    refine (broadcastInDim_apply _ _ _ i (ix3 (i 0) (0 : Fin 1) (0 : Fin 1) : S2x1x1.Idx)
      (fun a => by match a with | ⟨0, _⟩ => exact (if_neg (show ¬ (2 : ℕ) = 1 by omega)).symm | ⟨1, _⟩ => rfl | ⟨2, _⟩ => rfl)).trans ?_
    refine (broadcastInDim_apply _ _ _ _ (ix1 (i 0) : S2.Idx)
      (fun a => by match a with | ⟨0, _⟩ => exact (if_neg (show ¬ (2 : ℕ) = 1 by omega)).symm)).trans ?_
    refine congrArg (fun z => BitVec.ofBool (BitVec.ofNat 32 (i 0).val == z)) ?_
    exact broadcastInDim_apply _ _ _ _ _ (fun a => by match a with | ⟨0, _⟩ => rfl)
  show (if _ = 1#1 then _ else _) = _
  rw [q, e, e]
  by_cases h : BitVec.ofNat 32 (i 0).val = w (ix1 (0 : Fin 1))
  · rw [if_pos h, beq_iff_eq.mpr h]; rfl
  · rw [if_neg h, beq_eq_false_iff_ne.mpr h]; rfl

end Reference

theorem frame_p : Cert.quiescent_AdamIn := fun m ρ _ => Cert.AdamIn.Layers.frame m ρ

theorem frame_pi : Cert.quiescent_AdamInIdeal := fun m ρ _ => Cert.AdamInIdeal.Layers.frame m ρ

theorem frame_ri : Cert.quiescent_AdamInRefIdeal := fun m ρ _ =>
  (θ_run Cert.AdamInRefIdeal.defs _ _).mono (fun r h => ⟨fun c => (h c).2.2.2.2, Idealize.ShloMosaic.sem_eq_zero_of_no_sems (by decide) r.2⟩)
    (Cert.AdamInRefIdeal.Value.run (F := Ideal) m ρ)

theorem preserves : Cert.preserves_AdamIn_AdamInIdeal := trivial

theorem algebraic : Cert.algebraic_AdamInIdeal_AdamInRefIdeal := by
  intro m ρ m' ρ' _ hagree
  refine ⟨_, _, _, _, run_blocks m ρ, ?_⟩
  refine (θ_run Cert.AdamInRefIdeal.defs _ _).mono (fun _ h c => ⟨(h c).1.trans ?_, (h c).2.1.trans ?_, (h c).2.2.1.trans ?_, (h c).2.2.2.1.trans ?_, (h c).2.2.2.2⟩)
    (Cert.AdamInRefIdeal.Value.run (F := Ideal) m' ρ')
  · rw [(hagree c).2.1, (hagree c).2.2.1, (hagree c).2.2.2.2.2, value_5 m c, choice]
    rfl
  · rw [(hagree c).1, (hagree c).2.1, (hagree c).2.2.1, (hagree c).2.2.2.1, (hagree c).2.2.2.2.1, (hagree c).2.2.2.2.2, value_6 m c, choice]
    rfl
  · rw [(hagree c).2.1, (hagree c).2.2.1, (hagree c).2.2.2.1, (hagree c).2.2.2.2.2, value_7 m c, choice]
    rfl
  · rw [(hagree c).2.1, (hagree c).2.2.1, (hagree c).2.2.2.2.1, (hagree c).2.2.2.2.2, value_8 m c, choice]
    rfl

end Cert.Proof.AdamIn

end
-- ==== Proof.lean ====
/- The gradient of mixer A and the step's products, each kernel with its reference: every execution of each ends with its
   arguments unchanged and every counter at zero; the two named constants are the numbers the table gives them; at finite
   arguments mixer A's five gradients are the reference's on the extended reals, and the weights' gradients, the input's
   gradients and the projections are the reference's at all arguments; so are the merge and its gradients, the optimiser's
   step of the packed small parameters, the modulation's weights' gradient and step, and the step of the weights of the
   input projection, the merge and the output product from the two layers' gradients. -/
module

public import proofs.«01_k».proof.Defs
public import proofs.«01_k».proof.Proof.Claims
public import proofs.«01_k».proof.Proof.WgradB
public import proofs.«01_k».proof.Proof.WgradA
public import proofs.«01_k».proof.Proof.WgradG
public import proofs.«01_k».proof.Proof.WgradO
public import proofs.«01_k».proof.Proof.HgradB
public import proofs.«01_k».proof.Proof.HgradA
public import proofs.«01_k».proof.Proof.HgradG
public import proofs.«01_k».proof.Proof.ProjB
public import proofs.«01_k».proof.Proof.ProjA
public import proofs.«01_k».proof.Proof.ProjG
public import proofs.«01_k».proof.Proof.Merge
public import proofs.«01_k».proof.Proof.MergeFwd
public import proofs.«01_k».proof.Proof.Adam
public import proofs.«01_k».proof.Proof.Ada
public import proofs.«01_k».proof.Proof.AdamA
public import proofs.«01_k».proof.Proof.AdamB
public import proofs.«01_k».proof.Proof.AdamIn
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.WgradB.Frame
public import proofs.«01_k».proof.Proof.Gen.WgradBIdeal.Value
public import proofs.«01_k».proof.Proof.Gen.WgradBRefIdeal.Run
public import proofs.«01_k».proof.Proof.Gen.WgradA.Frame
public import proofs.«01_k».proof.Proof.Gen.WgradAIdeal.Value
public import proofs.«01_k».proof.Proof.Gen.WgradARefIdeal.Run
public import proofs.«01_k».proof.Proof.Gen.WgradG.Frame
public import proofs.«01_k».proof.Proof.Gen.WgradGIdeal.Value
public import proofs.«01_k».proof.Proof.Gen.WgradGRefIdeal.Run
public import proofs.«01_k».proof.Proof.Gen.WgradO.Frame
public import proofs.«01_k».proof.Proof.Gen.WgradOIdeal.Value
public import proofs.«01_k».proof.Proof.Gen.WgradORefIdeal.Run
public import proofs.«01_k».proof.Proof.Gen.HgradB.Frame
public import proofs.«01_k».proof.Proof.Gen.HgradBIdeal.Value
public import proofs.«01_k».proof.Proof.Gen.HgradBRefIdeal.Run
public import proofs.«01_k».proof.Proof.Gen.HgradA.Frame
public import proofs.«01_k».proof.Proof.Gen.HgradAIdeal.Value
public import proofs.«01_k».proof.Proof.Gen.HgradARefIdeal.Run
public import proofs.«01_k».proof.Proof.Gen.HgradG.Frame
public import proofs.«01_k».proof.Proof.Gen.HgradGIdeal.Value
public import proofs.«01_k».proof.Proof.Gen.HgradGRefIdeal.Run
public import proofs.«01_k».proof.Proof.Gen.ProjB.Frame
public import proofs.«01_k».proof.Proof.Gen.ProjBIdeal.Value
public import proofs.«01_k».proof.Proof.Gen.ProjBRefIdeal.Run
public import proofs.«01_k».proof.Proof.Gen.ProjA.Frame
public import proofs.«01_k».proof.Proof.Gen.ProjAIdeal.Value
public import proofs.«01_k».proof.Proof.Gen.ProjARefIdeal.Run
public import proofs.«01_k».proof.Proof.Gen.ProjG.Frame
public import proofs.«01_k».proof.Proof.Gen.ProjGIdeal.Value
public import proofs.«01_k».proof.Proof.Gen.ProjGRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.Adam.Frame
public import proofs.«01_k».proof.Proof.Gen.AdamIdeal.Value
public import proofs.«01_k».proof.Proof.Gen.AdamRefIdeal.Run
public import proofs.«01_k».proof.Proof.Gen.Ada.Frame
public import proofs.«01_k».proof.Proof.Gen.AdaIdeal.Value
public import proofs.«01_k».proof.Proof.Gen.AdaRefIdeal.Run
public import proofs.«01_k».proof.Proof.Gen.AdamARefIdeal.Run
public import proofs.«01_k».proof.Proof.Gen.AdamBRefIdeal.Run
public import proofs.«01_k».proof.Proof.Gen.AdamInRefIdeal.Run
public import proofs.«01_k».proof.Proof.Gen.MergeRefIdeal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.WgradB.Gen.facts, Cert.WgradBIdeal.Gen.facts, Cert.WgradBRefIdeal.Gen.facts,
  Cert.WgradA.Gen.facts, Cert.WgradAIdeal.Gen.facts, Cert.WgradARefIdeal.Gen.facts,
  Cert.WgradG.Gen.facts, Cert.WgradGIdeal.Gen.facts, Cert.WgradGRefIdeal.Gen.facts,
  Cert.WgradO.Gen.facts, Cert.WgradOIdeal.Gen.facts, Cert.WgradORefIdeal.Gen.facts,
  Cert.HgradB.Gen.facts, Cert.HgradBIdeal.Gen.facts, Cert.HgradBRefIdeal.Gen.facts,
  Cert.HgradA.Gen.facts, Cert.HgradAIdeal.Gen.facts, Cert.HgradARefIdeal.Gen.facts,
  Cert.HgradG.Gen.facts, Cert.HgradGIdeal.Gen.facts, Cert.HgradGRefIdeal.Gen.facts,
  Cert.ProjB.Gen.facts, Cert.ProjBIdeal.Gen.facts, Cert.ProjBRefIdeal.Gen.facts,
  Cert.ProjA.Gen.facts, Cert.ProjAIdeal.Gen.facts, Cert.ProjARefIdeal.Gen.facts,
  Cert.ProjG.Gen.facts, Cert.ProjGIdeal.Gen.facts, Cert.ProjGRefIdeal.Gen.facts,
  Cert.Merge.Gen.facts, Cert.MergeIdeal.Gen.facts, Cert.MergeRefIdeal.Gen.facts,
  Cert.MergeFwd.Gen.facts, Cert.MergeFwdIdeal.Gen.facts, Cert.MergeFwdRefIdeal.Gen.facts,
  Cert.Adam.Gen.facts, Cert.AdamIdeal.Gen.facts, Cert.AdamRefIdeal.Gen.facts,
  Cert.Ada.Gen.facts, Cert.AdaIdeal.Gen.facts, Cert.AdaRefIdeal.Gen.facts,
  Cert.AdamA.Gen.facts, Cert.AdamAIdeal.Gen.facts, Cert.AdamARefIdeal.Gen.facts,
  Cert.AdamB.Gen.facts, Cert.AdamBIdeal.Gen.facts, Cert.AdamBRefIdeal.Gen.facts,
  Cert.AdamIn.Gen.facts, Cert.AdamInIdeal.Gen.facts, Cert.AdamInRefIdeal.Gen.facts,
  Cert.Pre_finite.Gen.facts,
  Claims.frame_p, Claims.frame_pi, Claims.frame_pi_finite, Claims.frame_ri, Claims.frame_ri_finite,
  WgradB.frame_p, WgradB.frame_pi, WgradB.frame_ri,
  WgradA.frame_p, WgradA.frame_pi, WgradA.frame_ri,
  WgradG.frame_p, WgradG.frame_pi, WgradG.frame_ri,
  WgradO.frame_p, WgradO.frame_pi, WgradO.frame_ri,
  HgradB.frame_p, HgradB.frame_pi, HgradB.frame_ri,
  HgradA.frame_p, HgradA.frame_pi, HgradA.frame_ri,
  HgradG.frame_p, HgradG.frame_pi, HgradG.frame_ri,
  ProjB.frame_p, ProjB.frame_pi, ProjB.frame_ri,
  ProjA.frame_p, ProjA.frame_pi, ProjA.frame_ri,
  ProjG.frame_p, ProjG.frame_pi, ProjG.frame_ri,
  Merge.frame_p, Merge.frame_pi, Merge.frame_ri,
  MergeFwd.frame_p, MergeFwd.frame_pi, MergeFwd.frame_ri,
  Adam.frame_p, Adam.frame_pi, Adam.frame_ri,
  Ada.frame_p, Ada.frame_pi, Ada.frame_ri,
  AdamA.frame_p, AdamA.frame_pi, AdamA.frame_ri,
  AdamB.frame_p, AdamB.frame_pi, AdamB.frame_ri,
  AdamIn.frame_p, AdamIn.frame_pi, AdamIn.frame_ri,
  Claims.preserves, Claims.algebraic,
  WgradB.preserves, WgradB.algebraic,
  WgradA.preserves, WgradA.algebraic,
  WgradG.preserves, WgradG.algebraic,
  WgradO.preserves, WgradO.algebraic,
  HgradB.preserves, HgradB.algebraic,
  HgradA.preserves, HgradA.algebraic,
  HgradG.preserves, HgradG.algebraic,
  ProjB.preserves, ProjB.algebraic,
  ProjA.preserves, ProjA.algebraic,
  ProjG.preserves, ProjG.algebraic,
  Merge.preserves, Merge.algebraic,
  MergeFwd.preserves, MergeFwd.algebraic,
  Adam.preserves, Adam.algebraic,
  Ada.preserves, Ada.algebraic,
  AdamA.preserves, AdamA.algebraic,
  AdamB.preserves, AdamB.algebraic,
  AdamIn.preserves, AdamIn.algebraic⟩

end Cert.Proof

end
